-- ==== Defs.lean ====
def Pre_KernelConvLn (m : (ℓ : Loc Cert.KernelConvLn.nD Cert.KernelConvLn.τ Cert.KernelConvLn.sig) → Buf (Elt Bits) ℓ) : Prop :=
  True

def Pre_KernelConvLnIdeal (m : (ℓ : Loc Cert.KernelConvLnIdeal.nD Cert.KernelConvLnIdeal.τ Cert.KernelConvLnIdeal.sig) → Buf (Elt Ideal) ℓ) : Prop :=
  True

def Pre_KernelConvLnIdeal_finite_conv_ln [hPre_finite_conv_ln : Cert.Pre_finite_conv_ln.Facts] (m : (ℓ : Loc Cert.KernelConvLnIdeal.nD Cert.KernelConvLnIdeal.τ Cert.KernelConvLnIdeal.sig) → Buf (Elt Ideal) ℓ) : Prop :=
  ∀ c : Dev Cert.KernelConvLnIdeal.nD,
    (Cert.Pre_finite_conv_ln.fn (F := Ideal) (m ((c.tc : Thread Cert.KernelConvLnIdeal.nD Cert.KernelConvLnIdeal.τ).loc Cert.KernelConvLnIdeal.main_arg0)) (m ((c.tc : Thread Cert.KernelConvLnIdeal.nD Cert.KernelConvLnIdeal.τ).loc Cert.KernelConvLnIdeal.main_arg1)) (m ((c.tc : Thread Cert.KernelConvLnIdeal.nD Cert.KernelConvLnIdeal.τ).loc Cert.KernelConvLnIdeal.main_arg2)) (m ((c.tc : Thread Cert.KernelConvLnIdeal.nD Cert.KernelConvLnIdeal.τ).loc Cert.KernelConvLnIdeal.main_arg3)) (m ((c.tc : Thread Cert.KernelConvLnIdeal.nD Cert.KernelConvLnIdeal.τ).loc Cert.KernelConvLnIdeal.main_arg4))).1 = (fun _ => 1#1)
    ∧ (Cert.Pre_finite_conv_ln.fn (F := Ideal) (m ((c.tc : Thread Cert.KernelConvLnIdeal.nD Cert.KernelConvLnIdeal.τ).loc Cert.KernelConvLnIdeal.main_arg0)) (m ((c.tc : Thread Cert.KernelConvLnIdeal.nD Cert.KernelConvLnIdeal.τ).loc Cert.KernelConvLnIdeal.main_arg1)) (m ((c.tc : Thread Cert.KernelConvLnIdeal.nD Cert.KernelConvLnIdeal.τ).loc Cert.KernelConvLnIdeal.main_arg2)) (m ((c.tc : Thread Cert.KernelConvLnIdeal.nD Cert.KernelConvLnIdeal.τ).loc Cert.KernelConvLnIdeal.main_arg3)) (m ((c.tc : Thread Cert.KernelConvLnIdeal.nD Cert.KernelConvLnIdeal.τ).loc Cert.KernelConvLnIdeal.main_arg4))).2.1 = (fun _ => 1#1)
    ∧ (Cert.Pre_finite_conv_ln.fn (F := Ideal) (m ((c.tc : Thread Cert.KernelConvLnIdeal.nD Cert.KernelConvLnIdeal.τ).loc Cert.KernelConvLnIdeal.main_arg0)) (m ((c.tc : Thread Cert.KernelConvLnIdeal.nD Cert.KernelConvLnIdeal.τ).loc Cert.KernelConvLnIdeal.main_arg1)) (m ((c.tc : Thread Cert.KernelConvLnIdeal.nD Cert.KernelConvLnIdeal.τ).loc Cert.KernelConvLnIdeal.main_arg2)) (m ((c.tc : Thread Cert.KernelConvLnIdeal.nD Cert.KernelConvLnIdeal.τ).loc Cert.KernelConvLnIdeal.main_arg3)) (m ((c.tc : Thread Cert.KernelConvLnIdeal.nD Cert.KernelConvLnIdeal.τ).loc Cert.KernelConvLnIdeal.main_arg4))).2.2.1 = (fun _ => 1#1)
    ∧ (Cert.Pre_finite_conv_ln.fn (F := Ideal) (m ((c.tc : Thread Cert.KernelConvLnIdeal.nD Cert.KernelConvLnIdeal.τ).loc Cert.KernelConvLnIdeal.main_arg0)) (m ((c.tc : Thread Cert.KernelConvLnIdeal.nD Cert.KernelConvLnIdeal.τ).loc Cert.KernelConvLnIdeal.main_arg1)) (m ((c.tc : Thread Cert.KernelConvLnIdeal.nD Cert.KernelConvLnIdeal.τ).loc Cert.KernelConvLnIdeal.main_arg2)) (m ((c.tc : Thread Cert.KernelConvLnIdeal.nD Cert.KernelConvLnIdeal.τ).loc Cert.KernelConvLnIdeal.main_arg3)) (m ((c.tc : Thread Cert.KernelConvLnIdeal.nD Cert.KernelConvLnIdeal.τ).loc Cert.KernelConvLnIdeal.main_arg4))).2.2.2.1 = (fun _ => 1#1)
    ∧ (Cert.Pre_finite_conv_ln.fn (F := Ideal) (m ((c.tc : Thread Cert.KernelConvLnIdeal.nD Cert.KernelConvLnIdeal.τ).loc Cert.KernelConvLnIdeal.main_arg0)) (m ((c.tc : Thread Cert.KernelConvLnIdeal.nD Cert.KernelConvLnIdeal.τ).loc Cert.KernelConvLnIdeal.main_arg1)) (m ((c.tc : Thread Cert.KernelConvLnIdeal.nD Cert.KernelConvLnIdeal.τ).loc Cert.KernelConvLnIdeal.main_arg2)) (m ((c.tc : Thread Cert.KernelConvLnIdeal.nD Cert.KernelConvLnIdeal.τ).loc Cert.KernelConvLnIdeal.main_arg3)) (m ((c.tc : Thread Cert.KernelConvLnIdeal.nD Cert.KernelConvLnIdeal.τ).loc Cert.KernelConvLnIdeal.main_arg4))).2.2.2.2 = (fun _ => 1#1)

def Pre_ReferenceConvLnIdeal (m : (ℓ : Loc Cert.ReferenceConvLnIdeal.nD Cert.ReferenceConvLnIdeal.τ Cert.ReferenceConvLnIdeal.sig) → Buf (Elt Ideal) ℓ) : Prop :=
  True

def Pre_ReferenceConvLnIdeal_finite_conv_ln [hPre_finite_conv_ln : Cert.Pre_finite_conv_ln.Facts] (m : (ℓ : Loc Cert.ReferenceConvLnIdeal.nD Cert.ReferenceConvLnIdeal.τ Cert.ReferenceConvLnIdeal.sig) → Buf (Elt Ideal) ℓ) : Prop :=
  ∀ c : Dev Cert.ReferenceConvLnIdeal.nD,
    (Cert.Pre_finite_conv_ln.fn (F := Ideal) (m ((c.tc : Thread Cert.ReferenceConvLnIdeal.nD Cert.ReferenceConvLnIdeal.τ).loc Cert.ReferenceConvLnIdeal.main_arg0)) (m ((c.tc : Thread Cert.ReferenceConvLnIdeal.nD Cert.ReferenceConvLnIdeal.τ).loc Cert.ReferenceConvLnIdeal.main_arg1)) (m ((c.tc : Thread Cert.ReferenceConvLnIdeal.nD Cert.ReferenceConvLnIdeal.τ).loc Cert.ReferenceConvLnIdeal.main_arg2)) (m ((c.tc : Thread Cert.ReferenceConvLnIdeal.nD Cert.ReferenceConvLnIdeal.τ).loc Cert.ReferenceConvLnIdeal.main_arg3)) (m ((c.tc : Thread Cert.ReferenceConvLnIdeal.nD Cert.ReferenceConvLnIdeal.τ).loc Cert.ReferenceConvLnIdeal.main_arg4))).1 = (fun _ => 1#1)
    ∧ (Cert.Pre_finite_conv_ln.fn (F := Ideal) (m ((c.tc : Thread Cert.ReferenceConvLnIdeal.nD Cert.ReferenceConvLnIdeal.τ).loc Cert.ReferenceConvLnIdeal.main_arg0)) (m ((c.tc : Thread Cert.ReferenceConvLnIdeal.nD Cert.ReferenceConvLnIdeal.τ).loc Cert.ReferenceConvLnIdeal.main_arg1)) (m ((c.tc : Thread Cert.ReferenceConvLnIdeal.nD Cert.ReferenceConvLnIdeal.τ).loc Cert.ReferenceConvLnIdeal.main_arg2)) (m ((c.tc : Thread Cert.ReferenceConvLnIdeal.nD Cert.ReferenceConvLnIdeal.τ).loc Cert.ReferenceConvLnIdeal.main_arg3)) (m ((c.tc : Thread Cert.ReferenceConvLnIdeal.nD Cert.ReferenceConvLnIdeal.τ).loc Cert.ReferenceConvLnIdeal.main_arg4))).2.1 = (fun _ => 1#1)
    ∧ (Cert.Pre_finite_conv_ln.fn (F := Ideal) (m ((c.tc : Thread Cert.ReferenceConvLnIdeal.nD Cert.ReferenceConvLnIdeal.τ).loc Cert.ReferenceConvLnIdeal.main_arg0)) (m ((c.tc : Thread Cert.ReferenceConvLnIdeal.nD Cert.ReferenceConvLnIdeal.τ).loc Cert.ReferenceConvLnIdeal.main_arg1)) (m ((c.tc : Thread Cert.ReferenceConvLnIdeal.nD Cert.ReferenceConvLnIdeal.τ).loc Cert.ReferenceConvLnIdeal.main_arg2)) (m ((c.tc : Thread Cert.ReferenceConvLnIdeal.nD Cert.ReferenceConvLnIdeal.τ).loc Cert.ReferenceConvLnIdeal.main_arg3)) (m ((c.tc : Thread Cert.ReferenceConvLnIdeal.nD Cert.ReferenceConvLnIdeal.τ).loc Cert.ReferenceConvLnIdeal.main_arg4))).2.2.1 = (fun _ => 1#1)
    ∧ (Cert.Pre_finite_conv_ln.fn (F := Ideal) (m ((c.tc : Thread Cert.ReferenceConvLnIdeal.nD Cert.ReferenceConvLnIdeal.τ).loc Cert.ReferenceConvLnIdeal.main_arg0)) (m ((c.tc : Thread Cert.ReferenceConvLnIdeal.nD Cert.ReferenceConvLnIdeal.τ).loc Cert.ReferenceConvLnIdeal.main_arg1)) (m ((c.tc : Thread Cert.ReferenceConvLnIdeal.nD Cert.ReferenceConvLnIdeal.τ).loc Cert.ReferenceConvLnIdeal.main_arg2)) (m ((c.tc : Thread Cert.ReferenceConvLnIdeal.nD Cert.ReferenceConvLnIdeal.τ).loc Cert.ReferenceConvLnIdeal.main_arg3)) (m ((c.tc : Thread Cert.ReferenceConvLnIdeal.nD Cert.ReferenceConvLnIdeal.τ).loc Cert.ReferenceConvLnIdeal.main_arg4))).2.2.2.1 = (fun _ => 1#1)
    ∧ (Cert.Pre_finite_conv_ln.fn (F := Ideal) (m ((c.tc : Thread Cert.ReferenceConvLnIdeal.nD Cert.ReferenceConvLnIdeal.τ).loc Cert.ReferenceConvLnIdeal.main_arg0)) (m ((c.tc : Thread Cert.ReferenceConvLnIdeal.nD Cert.ReferenceConvLnIdeal.τ).loc Cert.ReferenceConvLnIdeal.main_arg1)) (m ((c.tc : Thread Cert.ReferenceConvLnIdeal.nD Cert.ReferenceConvLnIdeal.τ).loc Cert.ReferenceConvLnIdeal.main_arg2)) (m ((c.tc : Thread Cert.ReferenceConvLnIdeal.nD Cert.ReferenceConvLnIdeal.τ).loc Cert.ReferenceConvLnIdeal.main_arg3)) (m ((c.tc : Thread Cert.ReferenceConvLnIdeal.nD Cert.ReferenceConvLnIdeal.τ).loc Cert.ReferenceConvLnIdeal.main_arg4))).2.2.2.2 = (fun _ => 1#1)

def Pre_KernelMemKv (m : (ℓ : Loc Cert.KernelMemKv.nD Cert.KernelMemKv.τ Cert.KernelMemKv.sig) → Buf (Elt Bits) ℓ) : Prop :=
  True

def Pre_KernelMemKvIdeal (m : (ℓ : Loc Cert.KernelMemKvIdeal.nD Cert.KernelMemKvIdeal.τ Cert.KernelMemKvIdeal.sig) → Buf (Elt Ideal) ℓ) : Prop :=
  True

def Pre_ReferenceMemKvIdeal (m : (ℓ : Loc Cert.ReferenceMemKvIdeal.nD Cert.ReferenceMemKvIdeal.τ Cert.ReferenceMemKvIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).2.2.2 = (fun _ => 1#1)

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_KernelFfnInIdeal_finite_ffn_in [hPre_finite_ffn_in : Cert.Pre_finite_ffn_in.Facts] (m : (ℓ : Loc Cert.KernelFfnInIdeal.nD Cert.KernelFfnInIdeal.τ Cert.KernelFfnInIdeal.sig) → Buf (Elt Ideal) ℓ) : Prop :=
  ∀ c : Dev Cert.KernelFfnInIdeal.nD,
    (Cert.Pre_finite_ffn_in.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4))).1 = (fun _ => 1#1)
    ∧ (Cert.Pre_finite_ffn_in.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4))).2.1 = (fun _ => 1#1)
    ∧ (Cert.Pre_finite_ffn_in.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4))).2.2.1 = (fun _ => 1#1)
    ∧ (Cert.Pre_finite_ffn_in.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2)) (m ((c.tc : Thread Cert.KernelFfnInIdeal.nD Cert.KernelFfnInIdeal.τ).loc Cert.KernelFfnInIdeal.main_arg3)) (m ((c.tc : Thread Cert.KernelFfnInIdeal.nD Cert.KernelFfnInIdeal.τ).loc Cert.KernelFfnInIdeal.main_arg4))).2.2.2 = (fun _ => 1#1)

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_ReferenceFfnInIdeal_finite_ffn_in [hPre_finite_ffn_in : Cert.Pre_finite_ffn_in.Facts] (m : (ℓ : Loc Cert.ReferenceFfnInIdeal.nD Cert.ReferenceFfnInIdeal.τ Cert.ReferenceFfnInIdeal.sig) → Buf (Elt Ideal) ℓ) : Prop :=
  ∀ c : Dev Cert.ReferenceFfnInIdeal.nD,
    (Cert.Pre_finite_ffn_in.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4))).1 = (fun _ => 1#1)
    ∧ (Cert.Pre_finite_ffn_in.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4))).2.1 = (fun _ => 1#1)
    ∧ (Cert.Pre_finite_ffn_in.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4))).2.2.1 = (fun _ => 1#1)
    ∧ (Cert.Pre_finite_ffn_in.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2)) (m ((c.tc : Thread Cert.ReferenceFfnInIdeal.nD Cert.ReferenceFfnInIdeal.τ).loc Cert.ReferenceFfnInIdeal.main_arg3)) (m ((c.tc : Thread Cert.ReferenceFfnInIdeal.nD Cert.ReferenceFfnInIdeal.τ).loc Cert.ReferenceFfnInIdeal.main_arg4))).2.2.2 = (fun _ => 1#1)

def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_KernelMixInIdeal_finite_mix_in [hPre_finite_mix_in : Cert.Pre_finite_mix_in.Facts] (m : (ℓ : Loc Cert.KernelMixInIdeal.nD Cert.KernelMixInIdeal.τ Cert.KernelMixInIdeal.sig) → Buf (Elt Ideal) ℓ) : Prop :=
  ∀ c : Dev Cert.KernelMixInIdeal.nD,
    (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).1 = (fun _ => 1#1)
    ∧ (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).2.1 = (fun _ => 1#1)
    ∧ (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).2.2.1 = (fun _ => 1#1)
    ∧ (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4))).2.2.2 = (fun _ => 1#1)

def Pre_ReferenceMixInIdeal (m : (ℓ : Loc Cert.ReferenceMixInIdeal.nD Cert.ReferenceMixInIdeal.τ Cert.ReferenceMixInIdeal.sig) → Buf (Elt Ideal) ℓ) : Prop :=
  True

def Pre_ReferenceMixInIdeal_finite_mix_in [hPre_finite_mix_in : Cert.Pre_finite_mix_in.Facts] (m : (ℓ : Loc Cert.ReferenceMixInIdeal.nD Cert.ReferenceMixInIdeal.τ Cert.ReferenceMixInIdeal.sig) → Buf (Elt Ideal) ℓ) : Prop :=
  ∀ c : Dev Cert.ReferenceMixInIdeal.nD,
    (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).1 = (fun _ => 1#1)
    ∧ (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).2.1 = (fun _ => 1#1)
    ∧ (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).2.2.1 = (fun _ => 1#1)
    ∧ (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4))).2.2.2 = (fun _ => 1#1)

def Pre_KernelMemAtt (m : (ℓ : Loc Cert.KernelMemAtt.nD Cert.KernelMemAtt.τ Cert.KernelMemAtt.sig) → Buf (Elt Bits) ℓ) : Prop :=
  True

def Pre_KernelMemAttIdeal (m : (ℓ : Loc Cert.KernelMemAttIdeal.nD Cert.KernelMemAttIdeal.τ Cert.KernelMemAttIdeal.sig) → Buf (Elt Ideal) ℓ) : Prop :=
  True

def Pre_KernelMemAttIdeal_finite_mem_att [hPre_finite_mem_att : Cert.Pre_finite_mem_att.Facts] (m : (ℓ : Loc Cert.KernelMemAttIdeal.nD Cert.KernelMemAttIdeal.τ Cert.KernelMemAttIdeal.sig) → Buf (Elt Ideal) ℓ) : Prop :=
  ∀ c : Dev Cert.KernelMemAttIdeal.nD,
    (Cert.Pre_finite_mem_att.fn (F := Ideal) (m ((c.tc : Thread Cert.KernelMemAttIdeal.nD Cert.KernelMemAttIdeal.τ).loc Cert.KernelMemAttIdeal.main_arg0)) (m ((c.tc : Thread Cert.KernelMemAttIdeal.nD Cert.KernelMemAttIdeal.τ).loc Cert.KernelMemAttIdeal.main_arg1)) (m ((c.tc : Thread Cert.KernelMemAttIdeal.nD Cert.KernelMemAttIdeal.τ).loc Cert.KernelMemAttIdeal.main_arg2)) (m ((c.tc : Thread Cert.KernelMemAttIdeal.nD Cert.KernelMemAttIdeal.τ).loc Cert.KernelMemAttIdeal.main_arg3))).1 = (fun _ => 1#1)
    ∧ (Cert.Pre_finite_mem_att.fn (F := Ideal) (m ((c.tc : Thread Cert.KernelMemAttIdeal.nD Cert.KernelMemAttIdeal.τ).loc Cert.KernelMemAttIdeal.main_arg0)) (m ((c.tc : Thread Cert.KernelMemAttIdeal.nD Cert.KernelMemAttIdeal.τ).loc Cert.KernelMemAttIdeal.main_arg1)) (m ((c.tc : Thread Cert.KernelMemAttIdeal.nD Cert.KernelMemAttIdeal.τ).loc Cert.KernelMemAttIdeal.main_arg2)) (m ((c.tc : Thread Cert.KernelMemAttIdeal.nD Cert.KernelMemAttIdeal.τ).loc Cert.KernelMemAttIdeal.main_arg3))).2.1 = (fun _ => 1#1)
    ∧ (Cert.Pre_finite_mem_att.fn (F := Ideal) (m ((c.tc : Thread Cert.KernelMemAttIdeal.nD Cert.KernelMemAttIdeal.τ).loc Cert.KernelMemAttIdeal.main_arg0)) (m ((c.tc : Thread Cert.KernelMemAttIdeal.nD Cert.KernelMemAttIdeal.τ).loc Cert.KernelMemAttIdeal.main_arg1)) (m ((c.tc : Thread Cert.KernelMemAttIdeal.nD Cert.KernelMemAttIdeal.τ).loc Cert.KernelMemAttIdeal.main_arg2)) (m ((c.tc : Thread Cert.KernelMemAttIdeal.nD Cert.KernelMemAttIdeal.τ).loc Cert.KernelMemAttIdeal.main_arg3))).2.2 = (fun _ => 1#1)

def Pre_ReferenceMemAttIdeal (m : (ℓ : Loc Cert.ReferenceMemAttIdeal.nD Cert.ReferenceMemAttIdeal.τ Cert.ReferenceMemAttIdeal.sig) → Buf (Elt Ideal) ℓ) : Prop :=
  True

def Pre_ReferenceMemAttIdeal_finite_mem_att [hPre_finite_mem_att : Cert.Pre_finite_mem_att.Facts] (m : (ℓ : Loc Cert.ReferenceMemAttIdeal.nD Cert.ReferenceMemAttIdeal.τ Cert.ReferenceMemAttIdeal.sig) → Buf (Elt Ideal) ℓ) : Prop :=
  ∀ c : Dev Cert.ReferenceMemAttIdeal.nD,
    (Cert.Pre_finite_mem_att.fn (F := Ideal) (m ((c.tc : Thread Cert.ReferenceMemAttIdeal.nD Cert.ReferenceMemAttIdeal.τ).loc Cert.ReferenceMemAttIdeal.main_arg0)) (m ((c.tc : Thread Cert.ReferenceMemAttIdeal.nD Cert.ReferenceMemAttIdeal.τ).loc Cert.ReferenceMemAttIdeal.main_arg1)) (m ((c.tc : Thread Cert.ReferenceMemAttIdeal.nD Cert.ReferenceMemAttIdeal.τ).loc Cert.ReferenceMemAttIdeal.main_arg2)) (m ((c.tc : Thread Cert.ReferenceMemAttIdeal.nD Cert.ReferenceMemAttIdeal.τ).loc Cert.ReferenceMemAttIdeal.main_arg3))).1 = (fun _ => 1#1)
    ∧ (Cert.Pre_finite_mem_att.fn (F := Ideal) (m ((c.tc : Thread Cert.ReferenceMemAttIdeal.nD Cert.ReferenceMemAttIdeal.τ).loc Cert.ReferenceMemAttIdeal.main_arg0)) (m ((c.tc : Thread Cert.ReferenceMemAttIdeal.nD Cert.ReferenceMemAttIdeal.τ).loc Cert.ReferenceMemAttIdeal.main_arg1)) (m ((c.tc : Thread Cert.ReferenceMemAttIdeal.nD Cert.ReferenceMemAttIdeal.τ).loc Cert.ReferenceMemAttIdeal.main_arg2)) (m ((c.tc : Thread Cert.ReferenceMemAttIdeal.nD Cert.ReferenceMemAttIdeal.τ).loc Cert.ReferenceMemAttIdeal.main_arg3))).2.1 = (fun _ => 1#1)
    ∧ (Cert.Pre_finite_mem_att.fn (F := Ideal) (m ((c.tc : Thread Cert.ReferenceMemAttIdeal.nD Cert.ReferenceMemAttIdeal.τ).loc Cert.ReferenceMemAttIdeal.main_arg0)) (m ((c.tc : Thread Cert.ReferenceMemAttIdeal.nD Cert.ReferenceMemAttIdeal.τ).loc Cert.ReferenceMemAttIdeal.main_arg1)) (m ((c.tc : Thread Cert.ReferenceMemAttIdeal.nD Cert.ReferenceMemAttIdeal.τ).loc Cert.ReferenceMemAttIdeal.main_arg2)) (m ((c.tc : Thread Cert.ReferenceMemAttIdeal.nD Cert.ReferenceMemAttIdeal.τ).loc Cert.ReferenceMemAttIdeal.main_arg3))).2.2 = (fun _ => 1#1)

def Pre_KernelMemKvFwd (m : (ℓ : Loc Cert.KernelMemKvFwd.nD Cert.KernelMemKvFwd.τ Cert.KernelMemKvFwd.sig) → Buf (Elt Bits) ℓ) : Prop :=
  True

def Pre_KernelMemKvFwdIdeal (m : (ℓ : Loc Cert.KernelMemKvFwdIdeal.nD Cert.KernelMemKvFwdIdeal.τ Cert.KernelMemKvFwdIdeal.sig) → Buf (Elt Ideal) ℓ) : Prop :=
  True

def Pre_ReferenceMemKvFwdIdeal (m : (ℓ : Loc Cert.ReferenceMemKvFwdIdeal.nD Cert.ReferenceMemKvFwdIdeal.τ Cert.ReferenceMemKvFwdIdeal.sig) → Buf (Elt Ideal) ℓ) : Prop :=
  True

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_ReferenceFfnFwdIdeal (m : (ℓ : Loc Cert.ReferenceFfnFwdIdeal.nD Cert.ReferenceFfnFwdIdeal.τ Cert.ReferenceFfnFwdIdeal.sig) → Buf (Elt Ideal) ℓ) : Prop :=
  True

def Pre_KernelMemAttFwd (m : (ℓ : Loc Cert.KernelMemAttFwd.nD Cert.KernelMemAttFwd.τ Cert.KernelMemAttFwd.sig) → Buf (Elt Bits) ℓ) : Prop :=
  True

def Pre_KernelMemAttFwdIdeal (m : (ℓ : Loc Cert.KernelMemAttFwdIdeal.nD Cert.KernelMemAttFwdIdeal.τ Cert.KernelMemAttFwdIdeal.sig) → Buf (Elt Ideal) ℓ) : Prop :=
  True

def Pre_ReferenceMemAttFwdIdeal (m : (ℓ : Loc Cert.ReferenceMemAttFwdIdeal.nD Cert.ReferenceMemAttFwdIdeal.τ Cert.ReferenceMemAttFwdIdeal.sig) → Buf (Elt Ideal) ℓ) : Prop :=
  True

def Pre_KernelMergeFwd (m : (ℓ : Loc Cert.KernelMergeFwd.nD Cert.KernelMergeFwd.τ Cert.KernelMergeFwd.sig) → Buf (Elt Bits) ℓ) : Prop :=
  True

def Pre_KernelMergeFwdIdeal (m : (ℓ : Loc Cert.KernelMergeFwdIdeal.nD Cert.KernelMergeFwdIdeal.τ Cert.KernelMergeFwdIdeal.sig) → Buf (Elt Ideal) ℓ) : Prop :=
  True

def Pre_ReferenceMergeFwdIdeal (m : (ℓ : Loc Cert.ReferenceMergeFwdIdeal.nD Cert.ReferenceMergeFwdIdeal.τ Cert.ReferenceMergeFwdIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelConvDw (m : (ℓ : Loc Cert.KernelConvDw.nD Cert.KernelConvDw.τ Cert.KernelConvDw.sig) → Buf (Elt Bits) ℓ) : Prop :=
  True

def Pre_KernelConvDwIdeal (m : (ℓ : Loc Cert.KernelConvDwIdeal.nD Cert.KernelConvDwIdeal.τ Cert.KernelConvDwIdeal.sig) → Buf (Elt Ideal) ℓ) : Prop :=
  True

def Pre_ReferenceConvDwIdeal (m : (ℓ : Loc Cert.ReferenceConvDwIdeal.nD Cert.ReferenceConvDwIdeal.τ Cert.ReferenceConvDwIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelAttPrep (m : (ℓ : Loc Cert.KernelAttPrep.nD Cert.KernelAttPrep.τ Cert.KernelAttPrep.sig) → Buf (Elt Bits) ℓ) : Prop :=
  True

def Pre_KernelAttPrepIdeal (m : (ℓ : Loc Cert.KernelAttPrepIdeal.nD Cert.KernelAttPrepIdeal.τ Cert.KernelAttPrepIdeal.sig) → Buf (Elt Ideal) ℓ) : Prop :=
  True

def Pre_ReferenceAttPrepIdeal (m : (ℓ : Loc Cert.ReferenceAttPrepIdeal.nD Cert.ReferenceAttPrepIdeal.τ Cert.ReferenceAttPrepIdeal.sig) → Buf (Elt Ideal) ℓ) : Prop :=
  True

def Pre_KernelAttCombine (m : (ℓ : Loc Cert.KernelAttCombine.nD Cert.KernelAttCombine.τ Cert.KernelAttCombine.sig) → Buf (Elt Bits) ℓ) : Prop :=
  True

def Pre_KernelAttCombineIdeal (m : (ℓ : Loc Cert.KernelAttCombineIdeal.nD Cert.KernelAttCombineIdeal.τ Cert.KernelAttCombineIdeal.sig) → Buf (Elt Ideal) ℓ) : Prop :=
  True

def Pre_ReferenceAttCombineIdeal (m : (ℓ : Loc Cert.ReferenceAttCombineIdeal.nD Cert.ReferenceAttCombineIdeal.τ Cert.ReferenceAttCombineIdeal.sig) → Buf (Elt Ideal) ℓ) : Prop :=
  True

def Pre_KernelMm (m : (ℓ : Loc Cert.KernelMm.nD Cert.KernelMm.τ Cert.KernelMm.sig) → Buf (Elt Bits) ℓ) : Prop :=
  True

def Pre_KernelMmIdeal (m : (ℓ : Loc Cert.KernelMmIdeal.nD Cert.KernelMmIdeal.τ Cert.KernelMmIdeal.sig) → Buf (Elt Ideal) ℓ) : Prop :=
  True

def Pre_ReferenceMmIdeal (m : (ℓ : Loc Cert.ReferenceMmIdeal.nD Cert.ReferenceMmIdeal.τ Cert.ReferenceMmIdeal.sig) → Buf (Elt Ideal) ℓ) : Prop :=
  True

def Pre_KernelMmGrad (m : (ℓ : Loc Cert.KernelMmGrad.nD Cert.KernelMmGrad.τ Cert.KernelMmGrad.sig) → Buf (Elt Bits) ℓ) : Prop :=
  True

def Pre_KernelMmGradIdeal (m : (ℓ : Loc Cert.KernelMmGradIdeal.nD Cert.KernelMmGradIdeal.τ Cert.KernelMmGradIdeal.sig) → Buf (Elt Ideal) ℓ) : Prop :=
  True

def Pre_ReferenceMmGradIdeal (m : (ℓ : Loc Cert.ReferenceMmGradIdeal.nD Cert.ReferenceMmGradIdeal.τ Cert.ReferenceMmGradIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def Pre_KernelRelTotal (m : (ℓ : Loc Cert.KernelRelTotal.nD Cert.KernelRelTotal.τ Cert.KernelRelTotal.sig) → Buf (Elt Bits) ℓ) : Prop :=
  True

def Pre_KernelRelTotalIdeal (m : (ℓ : Loc Cert.KernelRelTotalIdeal.nD Cert.KernelRelTotalIdeal.τ Cert.KernelRelTotalIdeal.sig) → Buf (Elt Ideal) ℓ) : Prop :=
  True

def Pre_ReferenceRelTotalIdeal (m : (ℓ : Loc Cert.ReferenceRelTotalIdeal.nD Cert.ReferenceRelTotalIdeal.τ Cert.ReferenceRelTotalIdeal.sig) → Buf (Elt Ideal) ℓ) : Prop :=
  True

def Pre_KernelAddHalf (m : (ℓ : Loc Cert.KernelAddHalf.nD Cert.KernelAddHalf.τ Cert.KernelAddHalf.sig) → Buf (Elt Bits) ℓ) : Prop :=
  True

def Pre_KernelAddHalfIdeal (m : (ℓ : Loc Cert.KernelAddHalfIdeal.nD Cert.KernelAddHalfIdeal.τ Cert.KernelAddHalfIdeal.sig) → Buf (Elt Ideal) ℓ) : Prop :=
  True

def Pre_ReferenceAddHalfIdeal (m : (ℓ : Loc Cert.ReferenceAddHalfIdeal.nD Cert.ReferenceAddHalfIdeal.τ Cert.ReferenceAddHalfIdeal.sig) → Buf (Elt Ideal) ℓ) : Prop :=
  True

def Pre_KernelSumChips (m : (ℓ : Loc Cert.KernelSumChips.nD Cert.KernelSumChips.τ Cert.KernelSumChips.sig) → Buf (Elt Bits) ℓ) : Prop :=
  True

def Pre_KernelSumChipsIdeal (m : (ℓ : Loc Cert.KernelSumChipsIdeal.nD Cert.KernelSumChipsIdeal.τ Cert.KernelSumChipsIdeal.sig) → Buf (Elt Ideal) ℓ) : Prop :=
  True

def Pre_ReferenceSumChipsIdeal (m : (ℓ : Loc Cert.ReferenceSumChipsIdeal.nD Cert.ReferenceSumChipsIdeal.τ Cert.ReferenceSumChipsIdeal.sig) → Buf (Elt Ideal) ℓ) : Prop :=
  True

def quiescent_KernelConvLn [hKernelConvLn : Cert.KernelConvLn.Facts] : Prop :=
  ∀ (m : (ℓ : Loc Cert.KernelConvLn.nD Cert.KernelConvLn.τ Cert.KernelConvLn.sig) → Buf (Elt Bits) ℓ) (g : Dev Cert.KernelConvLn.nD → PrngReg), Pre_KernelConvLn m →
    θ_run (Cert.KernelConvLn.defs (F := Bits)) (onTc (τ := Cert.KernelConvLn.τ) (Cert.KernelConvLn.main (F := Bits))) ⟨m, fun _ => 0, g⟩ (fun r => (∀ c : Dev Cert.KernelConvLn.nD,
      r.2.mem ((c.tc : Thread Cert.KernelConvLn.nD Cert.KernelConvLn.τ).loc Cert.KernelConvLn.main_arg0) = m ((c.tc : Thread Cert.KernelConvLn.nD Cert.KernelConvLn.τ).loc Cert.KernelConvLn.main_arg0)
      ∧ r.2.mem ((c.tc : Thread Cert.KernelConvLn.nD Cert.KernelConvLn.τ).loc Cert.KernelConvLn.main_arg1) = m ((c.tc : Thread Cert.KernelConvLn.nD Cert.KernelConvLn.τ).loc Cert.KernelConvLn.main_arg1)
      ∧ r.2.mem ((c.tc : Thread Cert.KernelConvLn.nD Cert.KernelConvLn.τ).loc Cert.KernelConvLn.main_arg2) = m ((c.tc : Thread Cert.KernelConvLn.nD Cert.KernelConvLn.τ).loc Cert.KernelConvLn.main_arg2)
      ∧ r.2.mem ((c.tc : Thread Cert.KernelConvLn.nD Cert.KernelConvLn.τ).loc Cert.KernelConvLn.main_arg3) = m ((c.tc : Thread Cert.KernelConvLn.nD Cert.KernelConvLn.τ).loc Cert.KernelConvLn.main_arg3)
      ∧ r.2.mem ((c.tc : Thread Cert.KernelConvLn.nD Cert.KernelConvLn.τ).loc Cert.KernelConvLn.main_arg4) = m ((c.tc : Thread Cert.KernelConvLn.nD Cert.KernelConvLn.τ).loc Cert.KernelConvLn.main_arg4))
      ∧ r.2.sem = fun _ => 0)

def quiescent_KernelConvLnIdeal [hKernelConvLnIdeal : Cert.KernelConvLnIdeal.Facts] : Prop :=
  ∀ (m : (ℓ : Loc Cert.KernelConvLnIdeal.nD Cert.KernelConvLnIdeal.τ Cert.KernelConvLnIdeal.sig) → Buf (Elt Ideal) ℓ) (g : Dev Cert.KernelConvLnIdeal.nD → PrngReg), Pre_KernelConvLnIdeal m →
    θ_run (Cert.KernelConvLnIdeal.defs (F := Ideal)) (onTc (τ := Cert.KernelConvLnIdeal.τ) (Cert.KernelConvLnIdeal.main (F := Ideal))) ⟨m, fun _ => 0, g⟩ (fun r => (∀ c : Dev Cert.KernelConvLnIdeal.nD,
      r.2.mem ((c.tc : Thread Cert.KernelConvLnIdeal.nD Cert.KernelConvLnIdeal.τ).loc Cert.KernelConvLnIdeal.main_arg0) = m ((c.tc : Thread Cert.KernelConvLnIdeal.nD Cert.KernelConvLnIdeal.τ).loc Cert.KernelConvLnIdeal.main_arg0)
      ∧ r.2.mem ((c.tc : Thread Cert.KernelConvLnIdeal.nD Cert.KernelConvLnIdeal.τ).loc Cert.KernelConvLnIdeal.main_arg1) = m ((c.tc : Thread Cert.KernelConvLnIdeal.nD Cert.KernelConvLnIdeal.τ).loc Cert.KernelConvLnIdeal.main_arg1)
      ∧ r.2.mem ((c.tc : Thread Cert.KernelConvLnIdeal.nD Cert.KernelConvLnIdeal.τ).loc Cert.KernelConvLnIdeal.main_arg2) = m ((c.tc : Thread Cert.KernelConvLnIdeal.nD Cert.KernelConvLnIdeal.τ).loc Cert.KernelConvLnIdeal.main_arg2)
      ∧ r.2.mem ((c.tc : Thread Cert.KernelConvLnIdeal.nD Cert.KernelConvLnIdeal.τ).loc Cert.KernelConvLnIdeal.main_arg3) = m ((c.tc : Thread Cert.KernelConvLnIdeal.nD Cert.KernelConvLnIdeal.τ).loc Cert.KernelConvLnIdeal.main_arg3)
      ∧ r.2.mem ((c.tc : Thread Cert.KernelConvLnIdeal.nD Cert.KernelConvLnIdeal.τ).loc Cert.KernelConvLnIdeal.main_arg4) = m ((c.tc : Thread Cert.KernelConvLnIdeal.nD Cert.KernelConvLnIdeal.τ).loc Cert.KernelConvLnIdeal.main_arg4))
      ∧ r.2.sem = fun _ => 0)

def quiescent_KernelConvLnIdeal_pre_finite_conv_ln [hKernelConvLnIdeal : Cert.KernelConvLnIdeal.Facts] [hPre_finite_conv_ln : Cert.Pre_finite_conv_ln.Facts] : Prop :=
  ∀ (m : (ℓ : Loc Cert.KernelConvLnIdeal.nD Cert.KernelConvLnIdeal.τ Cert.KernelConvLnIdeal.sig) → Buf (Elt Ideal) ℓ) (g : Dev Cert.KernelConvLnIdeal.nD → PrngReg), Pre_KernelConvLnIdeal_finite_conv_ln m →
    θ_run (Cert.KernelConvLnIdeal.defs (F := Ideal)) (onTc (τ := Cert.KernelConvLnIdeal.τ) (Cert.KernelConvLnIdeal.main (F := Ideal))) ⟨m, fun _ => 0, g⟩ (fun r => (∀ c : Dev Cert.KernelConvLnIdeal.nD,
      r.2.mem ((c.tc : Thread Cert.KernelConvLnIdeal.nD Cert.KernelConvLnIdeal.τ).loc Cert.KernelConvLnIdeal.main_arg0) = m ((c.tc : Thread Cert.KernelConvLnIdeal.nD Cert.KernelConvLnIdeal.τ).loc Cert.KernelConvLnIdeal.main_arg0)
      ∧ r.2.mem ((c.tc : Thread Cert.KernelConvLnIdeal.nD Cert.KernelConvLnIdeal.τ).loc Cert.KernelConvLnIdeal.main_arg1) = m ((c.tc : Thread Cert.KernelConvLnIdeal.nD Cert.KernelConvLnIdeal.τ).loc Cert.KernelConvLnIdeal.main_arg1)
      ∧ r.2.mem ((c.tc : Thread Cert.KernelConvLnIdeal.nD Cert.KernelConvLnIdeal.τ).loc Cert.KernelConvLnIdeal.main_arg2) = m ((c.tc : Thread Cert.KernelConvLnIdeal.nD Cert.KernelConvLnIdeal.τ).loc Cert.KernelConvLnIdeal.main_arg2)
      ∧ r.2.mem ((c.tc : Thread Cert.KernelConvLnIdeal.nD Cert.KernelConvLnIdeal.τ).loc Cert.KernelConvLnIdeal.main_arg3) = m ((c.tc : Thread Cert.KernelConvLnIdeal.nD Cert.KernelConvLnIdeal.τ).loc Cert.KernelConvLnIdeal.main_arg3)
      ∧ r.2.mem ((c.tc : Thread Cert.KernelConvLnIdeal.nD Cert.KernelConvLnIdeal.τ).loc Cert.KernelConvLnIdeal.main_arg4) = m ((c.tc : Thread Cert.KernelConvLnIdeal.nD Cert.KernelConvLnIdeal.τ).loc Cert.KernelConvLnIdeal.main_arg4))
      ∧ r.2.sem = fun _ => 0)

def quiescent_ReferenceConvLnIdeal [hReferenceConvLnIdeal : Cert.ReferenceConvLnIdeal.Facts] : Prop :=
  ∀ (m : (ℓ : Loc Cert.ReferenceConvLnIdeal.nD Cert.ReferenceConvLnIdeal.τ Cert.ReferenceConvLnIdeal.sig) → Buf (Elt Ideal) ℓ) (g : Dev Cert.ReferenceConvLnIdeal.nD → PrngReg), Pre_ReferenceConvLnIdeal m →
    θ_run (Cert.ReferenceConvLnIdeal.defs (F := Ideal)) (onTc (τ := Cert.ReferenceConvLnIdeal.τ) (Cert.ReferenceConvLnIdeal.main (F := Ideal))) ⟨m, fun _ => 0, g⟩ (fun r => (∀ c : Dev Cert.ReferenceConvLnIdeal.nD,
      r.2.mem ((c.tc : Thread Cert.ReferenceConvLnIdeal.nD Cert.ReferenceConvLnIdeal.τ).loc Cert.ReferenceConvLnIdeal.main_arg0) = m ((c.tc : Thread Cert.ReferenceConvLnIdeal.nD Cert.ReferenceConvLnIdeal.τ).loc Cert.ReferenceConvLnIdeal.main_arg0)
      ∧ r.2.mem ((c.tc : Thread Cert.ReferenceConvLnIdeal.nD Cert.ReferenceConvLnIdeal.τ).loc Cert.ReferenceConvLnIdeal.main_arg1) = m ((c.tc : Thread Cert.ReferenceConvLnIdeal.nD Cert.ReferenceConvLnIdeal.τ).loc Cert.ReferenceConvLnIdeal.main_arg1)
      ∧ r.2.mem ((c.tc : Thread Cert.ReferenceConvLnIdeal.nD Cert.ReferenceConvLnIdeal.τ).loc Cert.ReferenceConvLnIdeal.main_arg2) = m ((c.tc : Thread Cert.ReferenceConvLnIdeal.nD Cert.ReferenceConvLnIdeal.τ).loc Cert.ReferenceConvLnIdeal.main_arg2)
      ∧ r.2.mem ((c.tc : Thread Cert.ReferenceConvLnIdeal.nD Cert.ReferenceConvLnIdeal.τ).loc Cert.ReferenceConvLnIdeal.main_arg3) = m ((c.tc : Thread Cert.ReferenceConvLnIdeal.nD Cert.ReferenceConvLnIdeal.τ).loc Cert.ReferenceConvLnIdeal.main_arg3)
      ∧ r.2.mem ((c.tc : Thread Cert.ReferenceConvLnIdeal.nD Cert.ReferenceConvLnIdeal.τ).loc Cert.ReferenceConvLnIdeal.main_arg4) = m ((c.tc : Thread Cert.ReferenceConvLnIdeal.nD Cert.ReferenceConvLnIdeal.τ).loc Cert.ReferenceConvLnIdeal.main_arg4))
      ∧ r.2.sem = fun _ => 0)

def quiescent_ReferenceConvLnIdeal_pre_finite_conv_ln [hReferenceConvLnIdeal : Cert.ReferenceConvLnIdeal.Facts] [hPre_finite_conv_ln : Cert.Pre_finite_conv_ln.Facts] : Prop :=
  ∀ (m : (ℓ : Loc Cert.ReferenceConvLnIdeal.nD Cert.ReferenceConvLnIdeal.τ Cert.ReferenceConvLnIdeal.sig) → Buf (Elt Ideal) ℓ) (g : Dev Cert.ReferenceConvLnIdeal.nD → PrngReg), Pre_ReferenceConvLnIdeal_finite_conv_ln m →
    θ_run (Cert.ReferenceConvLnIdeal.defs (F := Ideal)) (onTc (τ := Cert.ReferenceConvLnIdeal.τ) (Cert.ReferenceConvLnIdeal.main (F := Ideal))) ⟨m, fun _ => 0, g⟩ (fun r => (∀ c : Dev Cert.ReferenceConvLnIdeal.nD,
      r.2.mem ((c.tc : Thread Cert.ReferenceConvLnIdeal.nD Cert.ReferenceConvLnIdeal.τ).loc Cert.ReferenceConvLnIdeal.main_arg0) = m ((c.tc : Thread Cert.ReferenceConvLnIdeal.nD Cert.ReferenceConvLnIdeal.τ).loc Cert.ReferenceConvLnIdeal.main_arg0)
      ∧ r.2.mem ((c.tc : Thread Cert.ReferenceConvLnIdeal.nD Cert.ReferenceConvLnIdeal.τ).loc Cert.ReferenceConvLnIdeal.main_arg1) = m ((c.tc : Thread Cert.ReferenceConvLnIdeal.nD Cert.ReferenceConvLnIdeal.τ).loc Cert.ReferenceConvLnIdeal.main_arg1)
      ∧ r.2.mem ((c.tc : Thread Cert.ReferenceConvLnIdeal.nD Cert.ReferenceConvLnIdeal.τ).loc Cert.ReferenceConvLnIdeal.main_arg2) = m ((c.tc : Thread Cert.ReferenceConvLnIdeal.nD Cert.ReferenceConvLnIdeal.τ).loc Cert.ReferenceConvLnIdeal.main_arg2)
      ∧ r.2.mem ((c.tc : Thread Cert.ReferenceConvLnIdeal.nD Cert.ReferenceConvLnIdeal.τ).loc Cert.ReferenceConvLnIdeal.main_arg3) = m ((c.tc : Thread Cert.ReferenceConvLnIdeal.nD Cert.ReferenceConvLnIdeal.τ).loc Cert.ReferenceConvLnIdeal.main_arg3)
      ∧ r.2.mem ((c.tc : Thread Cert.ReferenceConvLnIdeal.nD Cert.ReferenceConvLnIdeal.τ).loc Cert.ReferenceConvLnIdeal.main_arg4) = m ((c.tc : Thread Cert.ReferenceConvLnIdeal.nD Cert.ReferenceConvLnIdeal.τ).loc Cert.ReferenceConvLnIdeal.main_arg4))
      ∧ r.2.sem = fun _ => 0)

def quiescent_KernelMemKv [hKernelMemKv : Cert.KernelMemKv.Facts] : Prop :=
  ∀ (m : (ℓ : Loc Cert.KernelMemKv.nD Cert.KernelMemKv.τ Cert.KernelMemKv.sig) → Buf (Elt Bits) ℓ) (g : Dev Cert.KernelMemKv.nD → PrngReg), Pre_KernelMemKv m →
    θ_run (Cert.KernelMemKv.defs (F := Bits)) (onTc (τ := Cert.KernelMemKv.τ) (Cert.KernelMemKv.main (F := Bits))) ⟨m, fun _ => 0, g⟩ (fun r => (∀ c : Dev Cert.KernelMemKv.nD,
      r.2.mem ((c.tc : Thread Cert.KernelMemKv.nD Cert.KernelMemKv.τ).loc Cert.KernelMemKv.main_arg0) = m ((c.tc : Thread Cert.KernelMemKv.nD Cert.KernelMemKv.τ).loc Cert.KernelMemKv.main_arg0)
      ∧ r.2.mem ((c.tc : Thread Cert.KernelMemKv.nD Cert.KernelMemKv.τ).loc Cert.KernelMemKv.main_arg1) = m ((c.tc : Thread Cert.KernelMemKv.nD Cert.KernelMemKv.τ).loc Cert.KernelMemKv.main_arg1)
      ∧ r.2.mem ((c.tc : Thread Cert.KernelMemKv.nD Cert.KernelMemKv.τ).loc Cert.KernelMemKv.main_arg2) = m ((c.tc : Thread Cert.KernelMemKv.nD Cert.KernelMemKv.τ).loc Cert.KernelMemKv.main_arg2)
      ∧ r.2.mem ((c.tc : Thread Cert.KernelMemKv.nD Cert.KernelMemKv.τ).loc Cert.KernelMemKv.main_arg3) = m ((c.tc : Thread Cert.KernelMemKv.nD Cert.KernelMemKv.τ).loc Cert.KernelMemKv.main_arg3))
      ∧ r.2.sem = fun _ => 0)

def quiescent_KernelMemKvIdeal [hKernelMemKvIdeal : Cert.KernelMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg), Pre_KernelMemKvIdeal m →
    θ_run (Cert.KernelMemKvIdeal.defs (F := Ideal)) (onTc (τ := Cert.KernelMemKvIdeal.τ) (Cert.KernelMemKvIdeal.main (F := Ideal))) ⟨m, fun _ => 0, g⟩ (fun r => (∀ c : Dev Cert.KernelMemKvIdeal.nD,
      r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
      ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
      ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2)
      ∧ r.2.mem ((c.tc : Thread Cert.KernelMemKvIdeal.nD Cert.KernelMemKvIdeal.τ).loc Cert.KernelMemKvIdeal.main_arg3) = m ((c.tc : Thread Cert.KernelMemKvIdeal.nD Cert.KernelMemKvIdeal.τ).loc Cert.KernelMemKvIdeal.main_arg3))
      ∧ r.2.sem = fun _ => 0)

def quiescent_ReferenceMemKvIdeal [hReferenceMemKvIdeal : Cert.ReferenceMemKvIdeal.Facts] : Prop :=
  ∀ (m : (ℓ : Loc Cert.ReferenceMemKvIdeal.nD Cert.ReferenceMemKvIdeal.τ Cert.ReferenceMemKvIdeal.sig) → Buf (Elt Ideal) ℓ) (g : Dev Cert.ReferenceMemKvIdeal.nD → PrngReg), Pre_ReferenceMemKvIdeal m →
    θ_run (Cert.ReferenceMemKvIdeal.defs (F := Ideal)) (onTc (τ := Cert.ReferenceMemKvIdeal.τ) (Cert.ReferenceMemKvIdeal.main (F := Ideal))) ⟨m, fun _ => 0, g⟩ (fun r => (∀ c : Dev Cert.ReferenceMemKvIdeal.nD,
      r.2.mem ((c.tc : Thread Cert.ReferenceMemKvIdeal.nD Cert.ReferenceMemKvIdeal.τ).loc Cert.ReferenceMemKvIdeal.main_arg0) = m ((c.tc : Thread Cert.ReferenceMemKvIdeal.nD Cert.ReferenceMemKvIdeal.τ).loc Cert.ReferenceMemKvIdeal.main_arg0)
      ∧ r.2.mem ((c.tc : Thread Cert.ReferenceMemKvIdeal.nD Cert.ReferenceMemKvIdeal.τ).loc Cert.ReferenceMemKvIdeal.main_arg1) = m ((c.tc : Thread Cert.ReferenceMemKvIdeal.nD Cert.ReferenceMemKvIdeal.τ).loc Cert.ReferenceMemKvIdeal.main_arg1)
      ∧ r.2.mem ((c.tc : Thread Cert.ReferenceMemKvIdeal.nD Cert.ReferenceMemKvIdeal.τ).loc Cert.ReferenceMemKvIdeal.main_arg2) = m ((c.tc : Thread Cert.ReferenceMemKvIdeal.nD Cert.ReferenceMemKvIdeal.τ).loc Cert.ReferenceMemKvIdeal.main_arg2)
      ∧ r.2.mem ((c.tc : Thread Cert.ReferenceMemKvIdeal.nD Cert.ReferenceMemKvIdeal.τ).loc Cert.ReferenceMemKvIdeal.main_arg3) = m ((c.tc : Thread Cert.ReferenceMemKvIdeal.nD Cert.ReferenceMemKvIdeal.τ).loc Cert.ReferenceMemKvIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2)
      ∧ r.2.mem ((c.tc : Thread Cert.KernelFfnIn.nD Cert.KernelFfnIn.τ).loc Cert.KernelFfnIn.main_arg3) = m ((c.tc : Thread Cert.KernelFfnIn.nD Cert.KernelFfnIn.τ).loc Cert.KernelFfnIn.main_arg3)
      ∧ r.2.mem ((c.tc : Thread Cert.KernelFfnIn.nD Cert.KernelFfnIn.τ).loc Cert.KernelFfnIn.main_arg4) = m ((c.tc : Thread Cert.KernelFfnIn.nD Cert.KernelFfnIn.τ).loc Cert.KernelFfnIn.main_arg4))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
      ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
      ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4))
      ∧ r.2.sem = fun _ => 0)

def quiescent_KernelFfnInIdeal_pre_finite_ffn_in [hKernelFfnInIdeal : Cert.KernelFfnInIdeal.Facts] [hPre_finite_ffn_in : Cert.Pre_finite_ffn_in.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal_finite_ffn_in m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
      ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
      ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2)
      ∧ r.2.mem ((c.tc : Thread Cert.ReferenceFfnInIdeal.nD Cert.ReferenceFfnInIdeal.τ).loc Cert.ReferenceFfnInIdeal.main_arg3) = m ((c.tc : Thread Cert.ReferenceFfnInIdeal.nD Cert.ReferenceFfnInIdeal.τ).loc Cert.ReferenceFfnInIdeal.main_arg3)
      ∧ r.2.mem ((c.tc : Thread Cert.ReferenceFfnInIdeal.nD Cert.ReferenceFfnInIdeal.τ).loc Cert.ReferenceFfnInIdeal.main_arg4) = m ((c.tc : Thread Cert.ReferenceFfnInIdeal.nD Cert.ReferenceFfnInIdeal.τ).loc Cert.ReferenceFfnInIdeal.main_arg4))
      ∧ r.2.sem = fun _ => 0)

def quiescent_ReferenceFfnInIdeal_pre_finite_ffn_in [hReferenceFfnInIdeal : Cert.ReferenceFfnInIdeal.Facts] [hPre_finite_ffn_in : Cert.Pre_finite_ffn_in.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal_finite_ffn_in m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2)
      ∧ r.2.mem ((c.tc : Thread Cert.ReferenceFfnInIdeal.nD Cert.ReferenceFfnInIdeal.τ).loc Cert.ReferenceFfnInIdeal.main_arg3) = m ((c.tc : Thread Cert.ReferenceFfnInIdeal.nD Cert.ReferenceFfnInIdeal.τ).loc Cert.ReferenceFfnInIdeal.main_arg3)
      ∧ r.2.mem ((c.tc : Thread Cert.ReferenceFfnInIdeal.nD Cert.ReferenceFfnInIdeal.τ).loc Cert.ReferenceFfnInIdeal.main_arg4) = m ((c.tc : Thread Cert.ReferenceFfnInIdeal.nD Cert.ReferenceFfnInIdeal.τ).loc Cert.ReferenceFfnInIdeal.main_arg4))
      ∧ r.2.sem = fun _ => 0)

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1)
      ∧ r.2.mem ((c.tc : Thread Cert.KernelMixIn.nD Cert.KernelMixIn.τ).loc Cert.KernelMixIn.main_arg2) = m ((c.tc : Thread Cert.KernelMixIn.nD Cert.KernelMixIn.τ).loc Cert.KernelMixIn.main_arg2)
      ∧ r.2.mem ((c.tc : Thread Cert.KernelMixIn.nD Cert.KernelMixIn.τ).loc Cert.KernelMixIn.main_arg3) = m ((c.tc : Thread Cert.KernelMixIn.nD Cert.KernelMixIn.τ).loc Cert.KernelMixIn.main_arg3)
      ∧ r.2.mem ((c.tc : Thread Cert.KernelMixIn.nD Cert.KernelMixIn.τ).loc Cert.KernelMixIn.main_arg4) = m ((c.tc : Thread Cert.KernelMixIn.nD Cert.KernelMixIn.τ).loc Cert.KernelMixIn.main_arg4))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ r.2.sem = fun _ => 0)

def quiescent_KernelMixInIdeal_pre_finite_mix_in [hKernelMixInIdeal : Cert.KernelMixInIdeal.Facts] [hPre_finite_mix_in : Cert.Pre_finite_mix_in.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal_finite_mix_in m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ r.2.sem = fun _ => 0)

def quiescent_ReferenceMixInIdeal [hReferenceMixInIdeal : Cert.ReferenceMixInIdeal.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4))
      ∧ r.2.sem = fun _ => 0)

def quiescent_ReferenceMixInIdeal_pre_finite_mix_in [hReferenceMixInIdeal : Cert.ReferenceMixInIdeal.Facts] [hPre_finite_mix_in : Cert.Pre_finite_mix_in.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal_finite_mix_in m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4))
      ∧ r.2.sem = fun _ => 0)

def quiescent_KernelMemAtt [hKernelMemAtt : Cert.KernelMemAtt.Facts] : Prop :=
  ∀ (m : (ℓ : Loc Cert.KernelMemAtt.nD Cert.KernelMemAtt.τ Cert.KernelMemAtt.sig) → Buf (Elt Bits) ℓ) (g : Dev Cert.KernelMemAtt.nD → PrngReg), Pre_KernelMemAtt m →
    θ_run (Cert.KernelMemAtt.defs (F := Bits)) (onTc (τ := Cert.KernelMemAtt.τ) (Cert.KernelMemAtt.main (F := Bits))) ⟨m, fun _ => 0, g⟩ (fun r => (∀ c : Dev Cert.KernelMemAtt.nD,
      r.2.mem ((c.tc : Thread Cert.KernelMemAtt.nD Cert.KernelMemAtt.τ).loc Cert.KernelMemAtt.main_arg0) = m ((c.tc : Thread Cert.KernelMemAtt.nD Cert.KernelMemAtt.τ).loc Cert.KernelMemAtt.main_arg0)
      ∧ r.2.mem ((c.tc : Thread Cert.KernelMemAtt.nD Cert.KernelMemAtt.τ).loc Cert.KernelMemAtt.main_arg1) = m ((c.tc : Thread Cert.KernelMemAtt.nD Cert.KernelMemAtt.τ).loc Cert.KernelMemAtt.main_arg1)
      ∧ r.2.mem ((c.tc : Thread Cert.KernelMemAtt.nD Cert.KernelMemAtt.τ).loc Cert.KernelMemAtt.main_arg2) = m ((c.tc : Thread Cert.KernelMemAtt.nD Cert.KernelMemAtt.τ).loc Cert.KernelMemAtt.main_arg2)
      ∧ r.2.mem ((c.tc : Thread Cert.KernelMemAtt.nD Cert.KernelMemAtt.τ).loc Cert.KernelMemAtt.main_arg3) = m ((c.tc : Thread Cert.KernelMemAtt.nD Cert.KernelMemAtt.τ).loc Cert.KernelMemAtt.main_arg3))
      ∧ r.2.sem = fun _ => 0)

def quiescent_KernelMemAttIdeal [hKernelMemAttIdeal : Cert.KernelMemAttIdeal.Facts] : Prop :=
  ∀ (m : (ℓ : Loc Cert.KernelMemAttIdeal.nD Cert.KernelMemAttIdeal.τ Cert.KernelMemAttIdeal.sig) → Buf (Elt Ideal) ℓ) (g : Dev Cert.KernelMemAttIdeal.nD → PrngReg), Pre_KernelMemAttIdeal m →
    θ_run (Cert.KernelMemAttIdeal.defs (F := Ideal)) (onTc (τ := Cert.KernelMemAttIdeal.τ) (Cert.KernelMemAttIdeal.main (F := Ideal))) ⟨m, fun _ => 0, g⟩ (fun r => (∀ c : Dev Cert.KernelMemAttIdeal.nD,
      r.2.mem ((c.tc : Thread Cert.KernelMemAttIdeal.nD Cert.KernelMemAttIdeal.τ).loc Cert.KernelMemAttIdeal.main_arg0) = m ((c.tc : Thread Cert.KernelMemAttIdeal.nD Cert.KernelMemAttIdeal.τ).loc Cert.KernelMemAttIdeal.main_arg0)
      ∧ r.2.mem ((c.tc : Thread Cert.KernelMemAttIdeal.nD Cert.KernelMemAttIdeal.τ).loc Cert.KernelMemAttIdeal.main_arg1) = m ((c.tc : Thread Cert.KernelMemAttIdeal.nD Cert.KernelMemAttIdeal.τ).loc Cert.KernelMemAttIdeal.main_arg1)
      ∧ r.2.mem ((c.tc : Thread Cert.KernelMemAttIdeal.nD Cert.KernelMemAttIdeal.τ).loc Cert.KernelMemAttIdeal.main_arg2) = m ((c.tc : Thread Cert.KernelMemAttIdeal.nD Cert.KernelMemAttIdeal.τ).loc Cert.KernelMemAttIdeal.main_arg2)
      ∧ r.2.mem ((c.tc : Thread Cert.KernelMemAttIdeal.nD Cert.KernelMemAttIdeal.τ).loc Cert.KernelMemAttIdeal.main_arg3) = m ((c.tc : Thread Cert.KernelMemAttIdeal.nD Cert.KernelMemAttIdeal.τ).loc Cert.KernelMemAttIdeal.main_arg3))
      ∧ r.2.sem = fun _ => 0)

def quiescent_KernelMemAttIdeal_pre_finite_mem_att [hKernelMemAttIdeal : Cert.KernelMemAttIdeal.Facts] [hPre_finite_mem_att : Cert.Pre_finite_mem_att.Facts] : Prop :=
  ∀ (m : (ℓ : Loc Cert.KernelMemAttIdeal.nD Cert.KernelMemAttIdeal.τ Cert.KernelMemAttIdeal.sig) → Buf (Elt Ideal) ℓ) (g : Dev Cert.KernelMemAttIdeal.nD → PrngReg), Pre_KernelMemAttIdeal_finite_mem_att m →
    θ_run (Cert.KernelMemAttIdeal.defs (F := Ideal)) (onTc (τ := Cert.KernelMemAttIdeal.τ) (Cert.KernelMemAttIdeal.main (F := Ideal))) ⟨m, fun _ => 0, g⟩ (fun r => (∀ c : Dev Cert.KernelMemAttIdeal.nD,
      r.2.mem ((c.tc : Thread Cert.KernelMemAttIdeal.nD Cert.KernelMemAttIdeal.τ).loc Cert.KernelMemAttIdeal.main_arg0) = m ((c.tc : Thread Cert.KernelMemAttIdeal.nD Cert.KernelMemAttIdeal.τ).loc Cert.KernelMemAttIdeal.main_arg0)
      ∧ r.2.mem ((c.tc : Thread Cert.KernelMemAttIdeal.nD Cert.KernelMemAttIdeal.τ).loc Cert.KernelMemAttIdeal.main_arg1) = m ((c.tc : Thread Cert.KernelMemAttIdeal.nD Cert.KernelMemAttIdeal.τ).loc Cert.KernelMemAttIdeal.main_arg1)
      ∧ r.2.mem ((c.tc : Thread Cert.KernelMemAttIdeal.nD Cert.KernelMemAttIdeal.τ).loc Cert.KernelMemAttIdeal.main_arg2) = m ((c.tc : Thread Cert.KernelMemAttIdeal.nD Cert.KernelMemAttIdeal.τ).loc Cert.KernelMemAttIdeal.main_arg2)
      ∧ r.2.mem ((c.tc : Thread Cert.KernelMemAttIdeal.nD Cert.KernelMemAttIdeal.τ).loc Cert.KernelMemAttIdeal.main_arg3) = m ((c.tc : Thread Cert.KernelMemAttIdeal.nD Cert.KernelMemAttIdeal.τ).loc Cert.KernelMemAttIdeal.main_arg3))
      ∧ r.2.sem = fun _ => 0)

def quiescent_ReferenceMemAttIdeal [hReferenceMemAttIdeal : Cert.ReferenceMemAttIdeal.Facts] : Prop :=
  ∀ (m : (ℓ : Loc Cert.ReferenceMemAttIdeal.nD Cert.ReferenceMemAttIdeal.τ Cert.ReferenceMemAttIdeal.sig) → Buf (Elt Ideal) ℓ) (g : Dev Cert.ReferenceMemAttIdeal.nD → PrngReg), Pre_ReferenceMemAttIdeal m →
    θ_run (Cert.ReferenceMemAttIdeal.defs (F := Ideal)) (onTc (τ := Cert.ReferenceMemAttIdeal.τ) (Cert.ReferenceMemAttIdeal.main (F := Ideal))) ⟨m, fun _ => 0, g⟩ (fun r => (∀ c : Dev Cert.ReferenceMemAttIdeal.nD,
      r.2.mem ((c.tc : Thread Cert.ReferenceMemAttIdeal.nD Cert.ReferenceMemAttIdeal.τ).loc Cert.ReferenceMemAttIdeal.main_arg0) = m ((c.tc : Thread Cert.ReferenceMemAttIdeal.nD Cert.ReferenceMemAttIdeal.τ).loc Cert.ReferenceMemAttIdeal.main_arg0)
      ∧ r.2.mem ((c.tc : Thread Cert.ReferenceMemAttIdeal.nD Cert.ReferenceMemAttIdeal.τ).loc Cert.ReferenceMemAttIdeal.main_arg1) = m ((c.tc : Thread Cert.ReferenceMemAttIdeal.nD Cert.ReferenceMemAttIdeal.τ).loc Cert.ReferenceMemAttIdeal.main_arg1)
      ∧ r.2.mem ((c.tc : Thread Cert.ReferenceMemAttIdeal.nD Cert.ReferenceMemAttIdeal.τ).loc Cert.ReferenceMemAttIdeal.main_arg2) = m ((c.tc : Thread Cert.ReferenceMemAttIdeal.nD Cert.ReferenceMemAttIdeal.τ).loc Cert.ReferenceMemAttIdeal.main_arg2)
      ∧ r.2.mem ((c.tc : Thread Cert.ReferenceMemAttIdeal.nD Cert.ReferenceMemAttIdeal.τ).loc Cert.ReferenceMemAttIdeal.main_arg3) = m ((c.tc : Thread Cert.ReferenceMemAttIdeal.nD Cert.ReferenceMemAttIdeal.τ).loc Cert.ReferenceMemAttIdeal.main_arg3))
      ∧ r.2.sem = fun _ => 0)

def quiescent_ReferenceMemAttIdeal_pre_finite_mem_att [hReferenceMemAttIdeal : Cert.ReferenceMemAttIdeal.Facts] [hPre_finite_mem_att : Cert.Pre_finite_mem_att.Facts] : Prop :=
  ∀ (m : (ℓ : Loc Cert.ReferenceMemAttIdeal.nD Cert.ReferenceMemAttIdeal.τ Cert.ReferenceMemAttIdeal.sig) → Buf (Elt Ideal) ℓ) (g : Dev Cert.ReferenceMemAttIdeal.nD → PrngReg), Pre_ReferenceMemAttIdeal_finite_mem_att m →
    θ_run (Cert.ReferenceMemAttIdeal.defs (F := Ideal)) (onTc (τ := Cert.ReferenceMemAttIdeal.τ) (Cert.ReferenceMemAttIdeal.main (F := Ideal))) ⟨m, fun _ => 0, g⟩ (fun r => (∀ c : Dev Cert.ReferenceMemAttIdeal.nD,
      r.2.mem ((c.tc : Thread Cert.ReferenceMemAttIdeal.nD Cert.ReferenceMemAttIdeal.τ).loc Cert.ReferenceMemAttIdeal.main_arg0) = m ((c.tc : Thread Cert.ReferenceMemAttIdeal.nD Cert.ReferenceMemAttIdeal.τ).loc Cert.ReferenceMemAttIdeal.main_arg0)
      ∧ r.2.mem ((c.tc : Thread Cert.ReferenceMemAttIdeal.nD Cert.ReferenceMemAttIdeal.τ).loc Cert.ReferenceMemAttIdeal.main_arg1) = m ((c.tc : Thread Cert.ReferenceMemAttIdeal.nD Cert.ReferenceMemAttIdeal.τ).loc Cert.ReferenceMemAttIdeal.main_arg1)
      ∧ r.2.mem ((c.tc : Thread Cert.ReferenceMemAttIdeal.nD Cert.ReferenceMemAttIdeal.τ).loc Cert.ReferenceMemAttIdeal.main_arg2) = m ((c.tc : Thread Cert.ReferenceMemAttIdeal.nD Cert.ReferenceMemAttIdeal.τ).loc Cert.ReferenceMemAttIdeal.main_arg2)
      ∧ r.2.mem ((c.tc : Thread Cert.ReferenceMemAttIdeal.nD Cert.ReferenceMemAttIdeal.τ).loc Cert.ReferenceMemAttIdeal.main_arg3) = m ((c.tc : Thread Cert.ReferenceMemAttIdeal.nD Cert.ReferenceMemAttIdeal.τ).loc Cert.ReferenceMemAttIdeal.main_arg3))
      ∧ r.2.sem = fun _ => 0)

def quiescent_KernelMemKvFwd [hKernelMemKvFwd : Cert.KernelMemKvFwd.Facts] : Prop :=
  ∀ (m : (ℓ : Loc Cert.KernelMemKvFwd.nD Cert.KernelMemKvFwd.τ Cert.KernelMemKvFwd.sig) → Buf (Elt Bits) ℓ) (g : Dev Cert.KernelMemKvFwd.nD → PrngReg), Pre_KernelMemKvFwd m →
    θ_run (Cert.KernelMemKvFwd.defs (F := Bits)) (onTc (τ := Cert.KernelMemKvFwd.τ) (Cert.KernelMemKvFwd.main (F := Bits))) ⟨m, fun _ => 0, g⟩ (fun r => (∀ c : Dev Cert.KernelMemKvFwd.nD,
      r.2.mem ((c.tc : Thread Cert.KernelMemKvFwd.nD Cert.KernelMemKvFwd.τ).loc Cert.KernelMemKvFwd.main_arg0) = m ((c.tc : Thread Cert.KernelMemKvFwd.nD Cert.KernelMemKvFwd.τ).loc Cert.KernelMemKvFwd.main_arg0)
      ∧ r.2.mem ((c.tc : Thread Cert.KernelMemKvFwd.nD Cert.KernelMemKvFwd.τ).loc Cert.KernelMemKvFwd.main_arg1) = m ((c.tc : Thread Cert.KernelMemKvFwd.nD Cert.KernelMemKvFwd.τ).loc Cert.KernelMemKvFwd.main_arg1)
      ∧ r.2.mem ((c.tc : Thread Cert.KernelMemKvFwd.nD Cert.KernelMemKvFwd.τ).loc Cert.KernelMemKvFwd.main_arg2) = m ((c.tc : Thread Cert.KernelMemKvFwd.nD Cert.KernelMemKvFwd.τ).loc Cert.KernelMemKvFwd.main_arg2))
      ∧ r.2.sem = fun _ => 0)

def quiescent_KernelMemKvFwdIdeal [hKernelMemKvFwdIdeal : Cert.KernelMemKvFwdIdeal.Facts] : Prop :=
  ∀ (m : (ℓ : Loc Cert.KernelMemKvFwdIdeal.nD Cert.KernelMemKvFwdIdeal.τ Cert.KernelMemKvFwdIdeal.sig) → Buf (Elt Ideal) ℓ) (g : Dev Cert.KernelMemKvFwdIdeal.nD → PrngReg), Pre_KernelMemKvFwdIdeal m →
    θ_run (Cert.KernelMemKvFwdIdeal.defs (F := Ideal)) (onTc (τ := Cert.KernelMemKvFwdIdeal.τ) (Cert.KernelMemKvFwdIdeal.main (F := Ideal))) ⟨m, fun _ => 0, g⟩ (fun r => (∀ c : Dev Cert.KernelMemKvFwdIdeal.nD,
      r.2.mem ((c.tc : Thread Cert.KernelMemKvFwdIdeal.nD Cert.KernelMemKvFwdIdeal.τ).loc Cert.KernelMemKvFwdIdeal.main_arg0) = m ((c.tc : Thread Cert.KernelMemKvFwdIdeal.nD Cert.KernelMemKvFwdIdeal.τ).loc Cert.KernelMemKvFwdIdeal.main_arg0)
      ∧ r.2.mem ((c.tc : Thread Cert.KernelMemKvFwdIdeal.nD Cert.KernelMemKvFwdIdeal.τ).loc Cert.KernelMemKvFwdIdeal.main_arg1) = m ((c.tc : Thread Cert.KernelMemKvFwdIdeal.nD Cert.KernelMemKvFwdIdeal.τ).loc Cert.KernelMemKvFwdIdeal.main_arg1)
      ∧ r.2.mem ((c.tc : Thread Cert.KernelMemKvFwdIdeal.nD Cert.KernelMemKvFwdIdeal.τ).loc Cert.KernelMemKvFwdIdeal.main_arg2) = m ((c.tc : Thread Cert.KernelMemKvFwdIdeal.nD Cert.KernelMemKvFwdIdeal.τ).loc Cert.KernelMemKvFwdIdeal.main_arg2))
      ∧ r.2.sem = fun _ => 0)

def quiescent_ReferenceMemKvFwdIdeal [hReferenceMemKvFwdIdeal : Cert.ReferenceMemKvFwdIdeal.Facts] : Prop :=
  ∀ (m : (ℓ : Loc Cert.ReferenceMemKvFwdIdeal.nD Cert.ReferenceMemKvFwdIdeal.τ Cert.ReferenceMemKvFwdIdeal.sig) → Buf (Elt Ideal) ℓ) (g : Dev Cert.ReferenceMemKvFwdIdeal.nD → PrngReg), Pre_ReferenceMemKvFwdIdeal m →
    θ_run (Cert.ReferenceMemKvFwdIdeal.defs (F := Ideal)) (onTc (τ := Cert.ReferenceMemKvFwdIdeal.τ) (Cert.ReferenceMemKvFwdIdeal.main (F := Ideal))) ⟨m, fun _ => 0, g⟩ (fun r => (∀ c : Dev Cert.ReferenceMemKvFwdIdeal.nD,
      r.2.mem ((c.tc : Thread Cert.ReferenceMemKvFwdIdeal.nD Cert.ReferenceMemKvFwdIdeal.τ).loc Cert.ReferenceMemKvFwdIdeal.main_arg0) = m ((c.tc : Thread Cert.ReferenceMemKvFwdIdeal.nD Cert.ReferenceMemKvFwdIdeal.τ).loc Cert.ReferenceMemKvFwdIdeal.main_arg0)
      ∧ r.2.mem ((c.tc : Thread Cert.ReferenceMemKvFwdIdeal.nD Cert.ReferenceMemKvFwdIdeal.τ).loc Cert.ReferenceMemKvFwdIdeal.main_arg1) = m ((c.tc : Thread Cert.ReferenceMemKvFwdIdeal.nD Cert.ReferenceMemKvFwdIdeal.τ).loc Cert.ReferenceMemKvFwdIdeal.main_arg1)
      ∧ r.2.mem ((c.tc : Thread Cert.ReferenceMemKvFwdIdeal.nD Cert.ReferenceMemKvFwdIdeal.τ).loc Cert.ReferenceMemKvFwdIdeal.main_arg2) = m ((c.tc : Thread Cert.ReferenceMemKvFwdIdeal.nD Cert.ReferenceMemKvFwdIdeal.τ).loc Cert.ReferenceMemKvFwdIdeal.main_arg2))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3)
      ∧ r.2.mem ((c.tc : Thread Cert.KernelFfnFwd.nD Cert.KernelFfnFwd.τ).loc Cert.KernelFfnFwd.main_arg4) = m ((c.tc : Thread Cert.KernelFfnFwd.nD Cert.KernelFfnFwd.τ).loc Cert.KernelFfnFwd.main_arg4))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
      ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ r.2.sem = fun _ => 0)

def quiescent_ReferenceFfnFwdIdeal [hReferenceFfnFwdIdeal : Cert.ReferenceFfnFwdIdeal.Facts] : Prop :=
  ∀ (m : (ℓ : Loc Cert.ReferenceFfnFwdIdeal.nD Cert.ReferenceFfnFwdIdeal.τ Cert.ReferenceFfnFwdIdeal.sig) → Buf (Elt Ideal) ℓ) (g : Dev Cert.ReferenceFfnFwdIdeal.nD → PrngReg), Pre_ReferenceFfnFwdIdeal m →
    θ_run (Cert.ReferenceFfnFwdIdeal.defs (F := Ideal)) (onTc (τ := Cert.ReferenceFfnFwdIdeal.τ) (Cert.ReferenceFfnFwdIdeal.main (F := Ideal))) ⟨m, fun _ => 0, g⟩ (fun r => (∀ c : Dev Cert.ReferenceFfnFwdIdeal.nD,
      r.2.mem ((c.tc : Thread Cert.ReferenceFfnFwdIdeal.nD Cert.ReferenceFfnFwdIdeal.τ).loc Cert.ReferenceFfnFwdIdeal.main_arg0) = m ((c.tc : Thread Cert.ReferenceFfnFwdIdeal.nD Cert.ReferenceFfnFwdIdeal.τ).loc Cert.ReferenceFfnFwdIdeal.main_arg0)
      ∧ r.2.mem ((c.tc : Thread Cert.ReferenceFfnFwdIdeal.nD Cert.ReferenceFfnFwdIdeal.τ).loc Cert.ReferenceFfnFwdIdeal.main_arg1) = m ((c.tc : Thread Cert.ReferenceFfnFwdIdeal.nD Cert.ReferenceFfnFwdIdeal.τ).loc Cert.ReferenceFfnFwdIdeal.main_arg1)
      ∧ r.2.mem ((c.tc : Thread Cert.ReferenceFfnFwdIdeal.nD Cert.ReferenceFfnFwdIdeal.τ).loc Cert.ReferenceFfnFwdIdeal.main_arg2) = m ((c.tc : Thread Cert.ReferenceFfnFwdIdeal.nD Cert.ReferenceFfnFwdIdeal.τ).loc Cert.ReferenceFfnFwdIdeal.main_arg2)
      ∧ r.2.mem ((c.tc : Thread Cert.ReferenceFfnFwdIdeal.nD Cert.ReferenceFfnFwdIdeal.τ).loc Cert.ReferenceFfnFwdIdeal.main_arg3) = m ((c.tc : Thread Cert.ReferenceFfnFwdIdeal.nD Cert.ReferenceFfnFwdIdeal.τ).loc Cert.ReferenceFfnFwdIdeal.main_arg3)
      ∧ r.2.mem ((c.tc : Thread Cert.ReferenceFfnFwdIdeal.nD Cert.ReferenceFfnFwdIdeal.τ).loc Cert.ReferenceFfnFwdIdeal.main_arg4) = m ((c.tc : Thread Cert.ReferenceFfnFwdIdeal.nD Cert.ReferenceFfnFwdIdeal.τ).loc Cert.ReferenceFfnFwdIdeal.main_arg4))
      ∧ r.2.sem = fun _ => 0)

def quiescent_KernelMemAttFwd [hKernelMemAttFwd : Cert.KernelMemAttFwd.Facts] : Prop :=
  ∀ (m : (ℓ : Loc Cert.KernelMemAttFwd.nD Cert.KernelMemAttFwd.τ Cert.KernelMemAttFwd.sig) → Buf (Elt Bits) ℓ) (g : Dev Cert.KernelMemAttFwd.nD → PrngReg), Pre_KernelMemAttFwd m →
    θ_run (Cert.KernelMemAttFwd.defs (F := Bits)) (onTc (τ := Cert.KernelMemAttFwd.τ) (Cert.KernelMemAttFwd.main (F := Bits))) ⟨m, fun _ => 0, g⟩ (fun r => (∀ c : Dev Cert.KernelMemAttFwd.nD,
      r.2.mem ((c.tc : Thread Cert.KernelMemAttFwd.nD Cert.KernelMemAttFwd.τ).loc Cert.KernelMemAttFwd.main_arg0) = m ((c.tc : Thread Cert.KernelMemAttFwd.nD Cert.KernelMemAttFwd.τ).loc Cert.KernelMemAttFwd.main_arg0)
      ∧ r.2.mem ((c.tc : Thread Cert.KernelMemAttFwd.nD Cert.KernelMemAttFwd.τ).loc Cert.KernelMemAttFwd.main_arg1) = m ((c.tc : Thread Cert.KernelMemAttFwd.nD Cert.KernelMemAttFwd.τ).loc Cert.KernelMemAttFwd.main_arg1))
      ∧ r.2.sem = fun _ => 0)

def quiescent_KernelMemAttFwdIdeal [hKernelMemAttFwdIdeal : Cert.KernelMemAttFwdIdeal.Facts] : Prop :=
  ∀ (m : (ℓ : Loc Cert.KernelMemAttFwdIdeal.nD Cert.KernelMemAttFwdIdeal.τ Cert.KernelMemAttFwdIdeal.sig) → Buf (Elt Ideal) ℓ) (g : Dev Cert.KernelMemAttFwdIdeal.nD → PrngReg), Pre_KernelMemAttFwdIdeal m →
    θ_run (Cert.KernelMemAttFwdIdeal.defs (F := Ideal)) (onTc (τ := Cert.KernelMemAttFwdIdeal.τ) (Cert.KernelMemAttFwdIdeal.main (F := Ideal))) ⟨m, fun _ => 0, g⟩ (fun r => (∀ c : Dev Cert.KernelMemAttFwdIdeal.nD,
      r.2.mem ((c.tc : Thread Cert.KernelMemAttFwdIdeal.nD Cert.KernelMemAttFwdIdeal.τ).loc Cert.KernelMemAttFwdIdeal.main_arg0) = m ((c.tc : Thread Cert.KernelMemAttFwdIdeal.nD Cert.KernelMemAttFwdIdeal.τ).loc Cert.KernelMemAttFwdIdeal.main_arg0)
      ∧ r.2.mem ((c.tc : Thread Cert.KernelMemAttFwdIdeal.nD Cert.KernelMemAttFwdIdeal.τ).loc Cert.KernelMemAttFwdIdeal.main_arg1) = m ((c.tc : Thread Cert.KernelMemAttFwdIdeal.nD Cert.KernelMemAttFwdIdeal.τ).loc Cert.KernelMemAttFwdIdeal.main_arg1))
      ∧ r.2.sem = fun _ => 0)

def quiescent_ReferenceMemAttFwdIdeal [hReferenceMemAttFwdIdeal : Cert.ReferenceMemAttFwdIdeal.Facts] : Prop :=
  ∀ (m : (ℓ : Loc Cert.ReferenceMemAttFwdIdeal.nD Cert.ReferenceMemAttFwdIdeal.τ Cert.ReferenceMemAttFwdIdeal.sig) → Buf (Elt Ideal) ℓ) (g : Dev Cert.ReferenceMemAttFwdIdeal.nD → PrngReg), Pre_ReferenceMemAttFwdIdeal m →
    θ_run (Cert.ReferenceMemAttFwdIdeal.defs (F := Ideal)) (onTc (τ := Cert.ReferenceMemAttFwdIdeal.τ) (Cert.ReferenceMemAttFwdIdeal.main (F := Ideal))) ⟨m, fun _ => 0, g⟩ (fun r => (∀ c : Dev Cert.ReferenceMemAttFwdIdeal.nD,
      r.2.mem ((c.tc : Thread Cert.ReferenceMemAttFwdIdeal.nD Cert.ReferenceMemAttFwdIdeal.τ).loc Cert.ReferenceMemAttFwdIdeal.main_arg0) = m ((c.tc : Thread Cert.ReferenceMemAttFwdIdeal.nD Cert.ReferenceMemAttFwdIdeal.τ).loc Cert.ReferenceMemAttFwdIdeal.main_arg0)
      ∧ r.2.mem ((c.tc : Thread Cert.ReferenceMemAttFwdIdeal.nD Cert.ReferenceMemAttFwdIdeal.τ).loc Cert.ReferenceMemAttFwdIdeal.main_arg1) = m ((c.tc : Thread Cert.ReferenceMemAttFwdIdeal.nD Cert.ReferenceMemAttFwdIdeal.τ).loc Cert.ReferenceMemAttFwdIdeal.main_arg1))
      ∧ r.2.sem = fun _ => 0)

def quiescent_KernelMergeFwd [hKernelMergeFwd : Cert.KernelMergeFwd.Facts] : Prop :=
  ∀ (m : (ℓ : Loc Cert.KernelMergeFwd.nD Cert.KernelMergeFwd.τ Cert.KernelMergeFwd.sig) → Buf (Elt Bits) ℓ) (g : Dev Cert.KernelMergeFwd.nD → PrngReg), Pre_KernelMergeFwd m →
    θ_run (Cert.KernelMergeFwd.defs (F := Bits)) (onTc (τ := Cert.KernelMergeFwd.τ) (Cert.KernelMergeFwd.main (F := Bits))) ⟨m, fun _ => 0, g⟩ (fun r => (∀ c : Dev Cert.KernelMergeFwd.nD,
      r.2.mem ((c.tc : Thread Cert.KernelMergeFwd.nD Cert.KernelMergeFwd.τ).loc Cert.KernelMergeFwd.main_arg0) = m ((c.tc : Thread Cert.KernelMergeFwd.nD Cert.KernelMergeFwd.τ).loc Cert.KernelMergeFwd.main_arg0)
      ∧ r.2.mem ((c.tc : Thread Cert.KernelMergeFwd.nD Cert.KernelMergeFwd.τ).loc Cert.KernelMergeFwd.main_arg1) = m ((c.tc : Thread Cert.KernelMergeFwd.nD Cert.KernelMergeFwd.τ).loc Cert.KernelMergeFwd.main_arg1)
      ∧ r.2.mem ((c.tc : Thread Cert.KernelMergeFwd.nD Cert.KernelMergeFwd.τ).loc Cert.KernelMergeFwd.main_arg2) = m ((c.tc : Thread Cert.KernelMergeFwd.nD Cert.KernelMergeFwd.τ).loc Cert.KernelMergeFwd.main_arg2)
      ∧ r.2.mem ((c.tc : Thread Cert.KernelMergeFwd.nD Cert.KernelMergeFwd.τ).loc Cert.KernelMergeFwd.main_arg3) = m ((c.tc : Thread Cert.KernelMergeFwd.nD Cert.KernelMergeFwd.τ).loc Cert.KernelMergeFwd.main_arg3)
      ∧ r.2.mem ((c.tc : Thread Cert.KernelMergeFwd.nD Cert.KernelMergeFwd.τ).loc Cert.KernelMergeFwd.main_arg4) = m ((c.tc : Thread Cert.KernelMergeFwd.nD Cert.KernelMergeFwd.τ).loc Cert.KernelMergeFwd.main_arg4)
      ∧ r.2.mem ((c.tc : Thread Cert.KernelMergeFwd.nD Cert.KernelMergeFwd.τ).loc Cert.KernelMergeFwd.main_arg5) = m ((c.tc : Thread Cert.KernelMergeFwd.nD Cert.KernelMergeFwd.τ).loc Cert.KernelMergeFwd.main_arg5)
      ∧ r.2.mem ((c.tc : Thread Cert.KernelMergeFwd.nD Cert.KernelMergeFwd.τ).loc Cert.KernelMergeFwd.main_arg6) = m ((c.tc : Thread Cert.KernelMergeFwd.nD Cert.KernelMergeFwd.τ).loc Cert.KernelMergeFwd.main_arg6)
      ∧ r.2.mem ((c.tc : Thread Cert.KernelMergeFwd.nD Cert.KernelMergeFwd.τ).loc Cert.KernelMergeFwd.main_arg7) = m ((c.tc : Thread Cert.KernelMergeFwd.nD Cert.KernelMergeFwd.τ).loc Cert.KernelMergeFwd.main_arg7)
      ∧ r.2.mem ((c.tc : Thread Cert.KernelMergeFwd.nD Cert.KernelMergeFwd.τ).loc Cert.KernelMergeFwd.main_arg8) = m ((c.tc : Thread Cert.KernelMergeFwd.nD Cert.KernelMergeFwd.τ).loc Cert.KernelMergeFwd.main_arg8)
      ∧ r.2.mem ((c.tc : Thread Cert.KernelMergeFwd.nD Cert.KernelMergeFwd.τ).loc Cert.KernelMergeFwd.main_arg9) = m ((c.tc : Thread Cert.KernelMergeFwd.nD Cert.KernelMergeFwd.τ).loc Cert.KernelMergeFwd.main_arg9)
      ∧ r.2.mem ((c.tc : Thread Cert.KernelMergeFwd.nD Cert.KernelMergeFwd.τ).loc Cert.KernelMergeFwd.main_arg10) = m ((c.tc : Thread Cert.KernelMergeFwd.nD Cert.KernelMergeFwd.τ).loc Cert.KernelMergeFwd.main_arg10)
      ∧ r.2.mem ((c.tc : Thread Cert.KernelMergeFwd.nD Cert.KernelMergeFwd.τ).loc Cert.KernelMergeFwd.main_arg11) = m ((c.tc : Thread Cert.KernelMergeFwd.nD Cert.KernelMergeFwd.τ).loc Cert.KernelMergeFwd.main_arg11))
      ∧ r.2.sem = fun _ => 0)

def quiescent_KernelMergeFwdIdeal [hKernelMergeFwdIdeal : Cert.KernelMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg), Pre_KernelMergeFwdIdeal m →
    θ_run (Cert.KernelMergeFwdIdeal.defs (F := Ideal)) (onTc (τ := Cert.KernelMergeFwdIdeal.τ) (Cert.KernelMergeFwdIdeal.main (F := Ideal))) ⟨m, fun _ => 0, g⟩ (fun r => (∀ c : Dev Cert.KernelMergeFwdIdeal.nD,
      r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
      ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
      ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
      ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3)
      ∧ r.2.mem ((c.tc : Thread Cert.KernelMergeFwdIdeal.nD Cert.KernelMergeFwdIdeal.τ).loc Cert.KernelMergeFwdIdeal.main_arg4) = m ((c.tc : Thread Cert.KernelMergeFwdIdeal.nD Cert.KernelMergeFwdIdeal.τ).loc Cert.KernelMergeFwdIdeal.main_arg4)
      ∧ r.2.mem ((c.tc : Thread Cert.KernelMergeFwdIdeal.nD Cert.KernelMergeFwdIdeal.τ).loc Cert.KernelMergeFwdIdeal.main_arg5) = m ((c.tc : Thread Cert.KernelMergeFwdIdeal.nD Cert.KernelMergeFwdIdeal.τ).loc Cert.KernelMergeFwdIdeal.main_arg5)
      ∧ r.2.mem ((c.tc : Thread Cert.KernelMergeFwdIdeal.nD Cert.KernelMergeFwdIdeal.τ).loc Cert.KernelMergeFwdIdeal.main_arg6) = m ((c.tc : Thread Cert.KernelMergeFwdIdeal.nD Cert.KernelMergeFwdIdeal.τ).loc Cert.KernelMergeFwdIdeal.main_arg6)
      ∧ r.2.mem ((c.tc : Thread Cert.KernelMergeFwdIdeal.nD Cert.KernelMergeFwdIdeal.τ).loc Cert.KernelMergeFwdIdeal.main_arg7) = m ((c.tc : Thread Cert.KernelMergeFwdIdeal.nD Cert.KernelMergeFwdIdeal.τ).loc Cert.KernelMergeFwdIdeal.main_arg7)
      ∧ r.2.mem ((c.tc : Thread Cert.KernelMergeFwdIdeal.nD Cert.KernelMergeFwdIdeal.τ).loc Cert.KernelMergeFwdIdeal.main_arg8) = m ((c.tc : Thread Cert.KernelMergeFwdIdeal.nD Cert.KernelMergeFwdIdeal.τ).loc Cert.KernelMergeFwdIdeal.main_arg8)
      ∧ r.2.mem ((c.tc : Thread Cert.KernelMergeFwdIdeal.nD Cert.KernelMergeFwdIdeal.τ).loc Cert.KernelMergeFwdIdeal.main_arg9) = m ((c.tc : Thread Cert.KernelMergeFwdIdeal.nD Cert.KernelMergeFwdIdeal.τ).loc Cert.KernelMergeFwdIdeal.main_arg9)
      ∧ r.2.mem ((c.tc : Thread Cert.KernelMergeFwdIdeal.nD Cert.KernelMergeFwdIdeal.τ).loc Cert.KernelMergeFwdIdeal.main_arg10) = m ((c.tc : Thread Cert.KernelMergeFwdIdeal.nD Cert.KernelMergeFwdIdeal.τ).loc Cert.KernelMergeFwdIdeal.main_arg10)
      ∧ r.2.mem ((c.tc : Thread Cert.KernelMergeFwdIdeal.nD Cert.KernelMergeFwdIdeal.τ).loc Cert.KernelMergeFwdIdeal.main_arg11) = m ((c.tc : Thread Cert.KernelMergeFwdIdeal.nD Cert.KernelMergeFwdIdeal.τ).loc Cert.KernelMergeFwdIdeal.main_arg11))
      ∧ r.2.sem = fun _ => 0)

def quiescent_ReferenceMergeFwdIdeal [hReferenceMergeFwdIdeal : Cert.ReferenceMergeFwdIdeal.Facts] : Prop :=
  ∀ (m : (ℓ : Loc Cert.ReferenceMergeFwdIdeal.nD Cert.ReferenceMergeFwdIdeal.τ Cert.ReferenceMergeFwdIdeal.sig) → Buf (Elt Ideal) ℓ) (g : Dev Cert.ReferenceMergeFwdIdeal.nD → PrngReg), Pre_ReferenceMergeFwdIdeal m →
    θ_run (Cert.ReferenceMergeFwdIdeal.defs (F := Ideal)) (onTc (τ := Cert.ReferenceMergeFwdIdeal.τ) (Cert.ReferenceMergeFwdIdeal.main (F := Ideal))) ⟨m, fun _ => 0, g⟩ (fun r => (∀ c : Dev Cert.ReferenceMergeFwdIdeal.nD,
      r.2.mem ((c.tc : Thread Cert.ReferenceMergeFwdIdeal.nD Cert.ReferenceMergeFwdIdeal.τ).loc Cert.ReferenceMergeFwdIdeal.main_arg0) = m ((c.tc : Thread Cert.ReferenceMergeFwdIdeal.nD Cert.ReferenceMergeFwdIdeal.τ).loc Cert.ReferenceMergeFwdIdeal.main_arg0)
      ∧ r.2.mem ((c.tc : Thread Cert.ReferenceMergeFwdIdeal.nD Cert.ReferenceMergeFwdIdeal.τ).loc Cert.ReferenceMergeFwdIdeal.main_arg1) = m ((c.tc : Thread Cert.ReferenceMergeFwdIdeal.nD Cert.ReferenceMergeFwdIdeal.τ).loc Cert.ReferenceMergeFwdIdeal.main_arg1)
      ∧ r.2.mem ((c.tc : Thread Cert.ReferenceMergeFwdIdeal.nD Cert.ReferenceMergeFwdIdeal.τ).loc Cert.ReferenceMergeFwdIdeal.main_arg2) = m ((c.tc : Thread Cert.ReferenceMergeFwdIdeal.nD Cert.ReferenceMergeFwdIdeal.τ).loc Cert.ReferenceMergeFwdIdeal.main_arg2)
      ∧ r.2.mem ((c.tc : Thread Cert.ReferenceMergeFwdIdeal.nD Cert.ReferenceMergeFwdIdeal.τ).loc Cert.ReferenceMergeFwdIdeal.main_arg3) = m ((c.tc : Thread Cert.ReferenceMergeFwdIdeal.nD Cert.ReferenceMergeFwdIdeal.τ).loc Cert.ReferenceMergeFwdIdeal.main_arg3)
      ∧ r.2.mem ((c.tc : Thread Cert.ReferenceMergeFwdIdeal.nD Cert.ReferenceMergeFwdIdeal.τ).loc Cert.ReferenceMergeFwdIdeal.main_arg4) = m ((c.tc : Thread Cert.ReferenceMergeFwdIdeal.nD Cert.ReferenceMergeFwdIdeal.τ).loc Cert.ReferenceMergeFwdIdeal.main_arg4)
      ∧ r.2.mem ((c.tc : Thread Cert.ReferenceMergeFwdIdeal.nD Cert.ReferenceMergeFwdIdeal.τ).loc Cert.ReferenceMergeFwdIdeal.main_arg5) = m ((c.tc : Thread Cert.ReferenceMergeFwdIdeal.nD Cert.ReferenceMergeFwdIdeal.τ).loc Cert.ReferenceMergeFwdIdeal.main_arg5)
      ∧ r.2.mem ((c.tc : Thread Cert.ReferenceMergeFwdIdeal.nD Cert.ReferenceMergeFwdIdeal.τ).loc Cert.ReferenceMergeFwdIdeal.main_arg6) = m ((c.tc : Thread Cert.ReferenceMergeFwdIdeal.nD Cert.ReferenceMergeFwdIdeal.τ).loc Cert.ReferenceMergeFwdIdeal.main_arg6)
      ∧ r.2.mem ((c.tc : Thread Cert.ReferenceMergeFwdIdeal.nD Cert.ReferenceMergeFwdIdeal.τ).loc Cert.ReferenceMergeFwdIdeal.main_arg7) = m ((c.tc : Thread Cert.ReferenceMergeFwdIdeal.nD Cert.ReferenceMergeFwdIdeal.τ).loc Cert.ReferenceMergeFwdIdeal.main_arg7)
      ∧ r.2.mem ((c.tc : Thread Cert.ReferenceMergeFwdIdeal.nD Cert.ReferenceMergeFwdIdeal.τ).loc Cert.ReferenceMergeFwdIdeal.main_arg8) = m ((c.tc : Thread Cert.ReferenceMergeFwdIdeal.nD Cert.ReferenceMergeFwdIdeal.τ).loc Cert.ReferenceMergeFwdIdeal.main_arg8)
      ∧ r.2.mem ((c.tc : Thread Cert.ReferenceMergeFwdIdeal.nD Cert.ReferenceMergeFwdIdeal.τ).loc Cert.ReferenceMergeFwdIdeal.main_arg9) = m ((c.tc : Thread Cert.ReferenceMergeFwdIdeal.nD Cert.ReferenceMergeFwdIdeal.τ).loc Cert.ReferenceMergeFwdIdeal.main_arg9)
      ∧ r.2.mem ((c.tc : Thread Cert.ReferenceMergeFwdIdeal.nD Cert.ReferenceMergeFwdIdeal.τ).loc Cert.ReferenceMergeFwdIdeal.main_arg10) = m ((c.tc : Thread Cert.ReferenceMergeFwdIdeal.nD Cert.ReferenceMergeFwdIdeal.τ).loc Cert.ReferenceMergeFwdIdeal.main_arg10)
      ∧ r.2.mem ((c.tc : Thread Cert.ReferenceMergeFwdIdeal.nD Cert.ReferenceMergeFwdIdeal.τ).loc Cert.ReferenceMergeFwdIdeal.main_arg11) = m ((c.tc : Thread Cert.ReferenceMergeFwdIdeal.nD Cert.ReferenceMergeFwdIdeal.τ).loc Cert.ReferenceMergeFwdIdeal.main_arg11))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelConvDw [hKernelConvDw : Cert.KernelConvDw.Facts] : Prop :=
  ∀ (m : (ℓ : Loc Cert.KernelConvDw.nD Cert.KernelConvDw.τ Cert.KernelConvDw.sig) → Buf (Elt Bits) ℓ) (g : Dev Cert.KernelConvDw.nD → PrngReg), Pre_KernelConvDw m →
    θ_run (Cert.KernelConvDw.defs (F := Bits)) (onTc (τ := Cert.KernelConvDw.τ) (Cert.KernelConvDw.main (F := Bits))) ⟨m, fun _ => 0, g⟩ (fun r => (∀ c : Dev Cert.KernelConvDw.nD,
      r.2.mem ((c.tc : Thread Cert.KernelConvDw.nD Cert.KernelConvDw.τ).loc Cert.KernelConvDw.main_arg0) = m ((c.tc : Thread Cert.KernelConvDw.nD Cert.KernelConvDw.τ).loc Cert.KernelConvDw.main_arg0)
      ∧ r.2.mem ((c.tc : Thread Cert.KernelConvDw.nD Cert.KernelConvDw.τ).loc Cert.KernelConvDw.main_arg1) = m ((c.tc : Thread Cert.KernelConvDw.nD Cert.KernelConvDw.τ).loc Cert.KernelConvDw.main_arg1)
      ∧ r.2.mem ((c.tc : Thread Cert.KernelConvDw.nD Cert.KernelConvDw.τ).loc Cert.KernelConvDw.main_arg2) = m ((c.tc : Thread Cert.KernelConvDw.nD Cert.KernelConvDw.τ).loc Cert.KernelConvDw.main_arg2)
      ∧ r.2.mem ((c.tc : Thread Cert.KernelConvDw.nD Cert.KernelConvDw.τ).loc Cert.KernelConvDw.main_arg3) = m ((c.tc : Thread Cert.KernelConvDw.nD Cert.KernelConvDw.τ).loc Cert.KernelConvDw.main_arg3))
      ∧ r.2.sem = fun _ => 0)

def quiescent_KernelConvDwIdeal [hKernelConvDwIdeal : Cert.KernelConvDwIdeal.Facts] : Prop :=
  ∀ (m : (ℓ : Loc Cert.KernelConvDwIdeal.nD Cert.KernelConvDwIdeal.τ Cert.KernelConvDwIdeal.sig) → Buf (Elt Ideal) ℓ) (g : Dev Cert.KernelConvDwIdeal.nD → PrngReg), Pre_KernelConvDwIdeal m →
    θ_run (Cert.KernelConvDwIdeal.defs (F := Ideal)) (onTc (τ := Cert.KernelConvDwIdeal.τ) (Cert.KernelConvDwIdeal.main (F := Ideal))) ⟨m, fun _ => 0, g⟩ (fun r => (∀ c : Dev Cert.KernelConvDwIdeal.nD,
      r.2.mem ((c.tc : Thread Cert.KernelConvDwIdeal.nD Cert.KernelConvDwIdeal.τ).loc Cert.KernelConvDwIdeal.main_arg0) = m ((c.tc : Thread Cert.KernelConvDwIdeal.nD Cert.KernelConvDwIdeal.τ).loc Cert.KernelConvDwIdeal.main_arg0)
      ∧ r.2.mem ((c.tc : Thread Cert.KernelConvDwIdeal.nD Cert.KernelConvDwIdeal.τ).loc Cert.KernelConvDwIdeal.main_arg1) = m ((c.tc : Thread Cert.KernelConvDwIdeal.nD Cert.KernelConvDwIdeal.τ).loc Cert.KernelConvDwIdeal.main_arg1)
      ∧ r.2.mem ((c.tc : Thread Cert.KernelConvDwIdeal.nD Cert.KernelConvDwIdeal.τ).loc Cert.KernelConvDwIdeal.main_arg2) = m ((c.tc : Thread Cert.KernelConvDwIdeal.nD Cert.KernelConvDwIdeal.τ).loc Cert.KernelConvDwIdeal.main_arg2)
      ∧ r.2.mem ((c.tc : Thread Cert.KernelConvDwIdeal.nD Cert.KernelConvDwIdeal.τ).loc Cert.KernelConvDwIdeal.main_arg3) = m ((c.tc : Thread Cert.KernelConvDwIdeal.nD Cert.KernelConvDwIdeal.τ).loc Cert.KernelConvDwIdeal.main_arg3))
      ∧ r.2.sem = fun _ => 0)

def quiescent_ReferenceConvDwIdeal [hReferenceConvDwIdeal : Cert.ReferenceConvDwIdeal.Facts] : Prop :=
  ∀ (m : (ℓ : Loc Cert.ReferenceConvDwIdeal.nD Cert.ReferenceConvDwIdeal.τ Cert.ReferenceConvDwIdeal.sig) → Buf (Elt Ideal) ℓ) (g : Dev Cert.ReferenceConvDwIdeal.nD → PrngReg), Pre_ReferenceConvDwIdeal m →
    θ_run (Cert.ReferenceConvDwIdeal.defs (F := Ideal)) (onTc (τ := Cert.ReferenceConvDwIdeal.τ) (Cert.ReferenceConvDwIdeal.main (F := Ideal))) ⟨m, fun _ => 0, g⟩ (fun r => (∀ c : Dev Cert.ReferenceConvDwIdeal.nD,
      r.2.mem ((c.tc : Thread Cert.ReferenceConvDwIdeal.nD Cert.ReferenceConvDwIdeal.τ).loc Cert.ReferenceConvDwIdeal.main_arg0) = m ((c.tc : Thread Cert.ReferenceConvDwIdeal.nD Cert.ReferenceConvDwIdeal.τ).loc Cert.ReferenceConvDwIdeal.main_arg0)
      ∧ r.2.mem ((c.tc : Thread Cert.ReferenceConvDwIdeal.nD Cert.ReferenceConvDwIdeal.τ).loc Cert.ReferenceConvDwIdeal.main_arg1) = m ((c.tc : Thread Cert.ReferenceConvDwIdeal.nD Cert.ReferenceConvDwIdeal.τ).loc Cert.ReferenceConvDwIdeal.main_arg1)
      ∧ r.2.mem ((c.tc : Thread Cert.ReferenceConvDwIdeal.nD Cert.ReferenceConvDwIdeal.τ).loc Cert.ReferenceConvDwIdeal.main_arg2) = m ((c.tc : Thread Cert.ReferenceConvDwIdeal.nD Cert.ReferenceConvDwIdeal.τ).loc Cert.ReferenceConvDwIdeal.main_arg2)
      ∧ r.2.mem ((c.tc : Thread Cert.ReferenceConvDwIdeal.nD Cert.ReferenceConvDwIdeal.τ).loc Cert.ReferenceConvDwIdeal.main_arg3) = m ((c.tc : Thread Cert.ReferenceConvDwIdeal.nD Cert.ReferenceConvDwIdeal.τ).loc Cert.ReferenceConvDwIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4))
      ∧ r.2.sem = fun _ => 0)

def quiescent_KernelAttPrep [hKernelAttPrep : Cert.KernelAttPrep.Facts] : Prop :=
  ∀ (m : (ℓ : Loc Cert.KernelAttPrep.nD Cert.KernelAttPrep.τ Cert.KernelAttPrep.sig) → Buf (Elt Bits) ℓ) (g : Dev Cert.KernelAttPrep.nD → PrngReg), Pre_KernelAttPrep m →
    θ_run (Cert.KernelAttPrep.defs (F := Bits)) (onTc (τ := Cert.KernelAttPrep.τ) (Cert.KernelAttPrep.main (F := Bits))) ⟨m, fun _ => 0, g⟩ (fun r => (∀ c : Dev Cert.KernelAttPrep.nD,
      r.2.mem ((c.tc : Thread Cert.KernelAttPrep.nD Cert.KernelAttPrep.τ).loc Cert.KernelAttPrep.main_arg0) = m ((c.tc : Thread Cert.KernelAttPrep.nD Cert.KernelAttPrep.τ).loc Cert.KernelAttPrep.main_arg0)
      ∧ r.2.mem ((c.tc : Thread Cert.KernelAttPrep.nD Cert.KernelAttPrep.τ).loc Cert.KernelAttPrep.main_arg1) = m ((c.tc : Thread Cert.KernelAttPrep.nD Cert.KernelAttPrep.τ).loc Cert.KernelAttPrep.main_arg1)
      ∧ r.2.mem ((c.tc : Thread Cert.KernelAttPrep.nD Cert.KernelAttPrep.τ).loc Cert.KernelAttPrep.main_arg2) = m ((c.tc : Thread Cert.KernelAttPrep.nD Cert.KernelAttPrep.τ).loc Cert.KernelAttPrep.main_arg2)
      ∧ r.2.mem ((c.tc : Thread Cert.KernelAttPrep.nD Cert.KernelAttPrep.τ).loc Cert.KernelAttPrep.main_arg3) = m ((c.tc : Thread Cert.KernelAttPrep.nD Cert.KernelAttPrep.τ).loc Cert.KernelAttPrep.main_arg3)
      ∧ r.2.mem ((c.tc : Thread Cert.KernelAttPrep.nD Cert.KernelAttPrep.τ).loc Cert.KernelAttPrep.main_arg4) = m ((c.tc : Thread Cert.KernelAttPrep.nD Cert.KernelAttPrep.τ).loc Cert.KernelAttPrep.main_arg4)
      ∧ r.2.mem ((c.tc : Thread Cert.KernelAttPrep.nD Cert.KernelAttPrep.τ).loc Cert.KernelAttPrep.main_arg5) = m ((c.tc : Thread Cert.KernelAttPrep.nD Cert.KernelAttPrep.τ).loc Cert.KernelAttPrep.main_arg5)
      ∧ r.2.mem ((c.tc : Thread Cert.KernelAttPrep.nD Cert.KernelAttPrep.τ).loc Cert.KernelAttPrep.main_arg6) = m ((c.tc : Thread Cert.KernelAttPrep.nD Cert.KernelAttPrep.τ).loc Cert.KernelAttPrep.main_arg6))
      ∧ r.2.sem = fun _ => 0)

def quiescent_KernelAttPrepIdeal [hKernelAttPrepIdeal : Cert.KernelAttPrepIdeal.Facts] : Prop :=
  ∀ (m : (ℓ : Loc Cert.KernelAttPrepIdeal.nD Cert.KernelAttPrepIdeal.τ Cert.KernelAttPrepIdeal.sig) → Buf (Elt Ideal) ℓ) (g : Dev Cert.KernelAttPrepIdeal.nD → PrngReg), Pre_KernelAttPrepIdeal m →
    θ_run (Cert.KernelAttPrepIdeal.defs (F := Ideal)) (onTc (τ := Cert.KernelAttPrepIdeal.τ) (Cert.KernelAttPrepIdeal.main (F := Ideal))) ⟨m, fun _ => 0, g⟩ (fun r => (∀ c : Dev Cert.KernelAttPrepIdeal.nD,
      r.2.mem ((c.tc : Thread Cert.KernelAttPrepIdeal.nD Cert.KernelAttPrepIdeal.τ).loc Cert.KernelAttPrepIdeal.main_arg0) = m ((c.tc : Thread Cert.KernelAttPrepIdeal.nD Cert.KernelAttPrepIdeal.τ).loc Cert.KernelAttPrepIdeal.main_arg0)
      ∧ r.2.mem ((c.tc : Thread Cert.KernelAttPrepIdeal.nD Cert.KernelAttPrepIdeal.τ).loc Cert.KernelAttPrepIdeal.main_arg1) = m ((c.tc : Thread Cert.KernelAttPrepIdeal.nD Cert.KernelAttPrepIdeal.τ).loc Cert.KernelAttPrepIdeal.main_arg1)
      ∧ r.2.mem ((c.tc : Thread Cert.KernelAttPrepIdeal.nD Cert.KernelAttPrepIdeal.τ).loc Cert.KernelAttPrepIdeal.main_arg2) = m ((c.tc : Thread Cert.KernelAttPrepIdeal.nD Cert.KernelAttPrepIdeal.τ).loc Cert.KernelAttPrepIdeal.main_arg2)
      ∧ r.2.mem ((c.tc : Thread Cert.KernelAttPrepIdeal.nD Cert.KernelAttPrepIdeal.τ).loc Cert.KernelAttPrepIdeal.main_arg3) = m ((c.tc : Thread Cert.KernelAttPrepIdeal.nD Cert.KernelAttPrepIdeal.τ).loc Cert.KernelAttPrepIdeal.main_arg3)
      ∧ r.2.mem ((c.tc : Thread Cert.KernelAttPrepIdeal.nD Cert.KernelAttPrepIdeal.τ).loc Cert.KernelAttPrepIdeal.main_arg4) = m ((c.tc : Thread Cert.KernelAttPrepIdeal.nD Cert.KernelAttPrepIdeal.τ).loc Cert.KernelAttPrepIdeal.main_arg4)
      ∧ r.2.mem ((c.tc : Thread Cert.KernelAttPrepIdeal.nD Cert.KernelAttPrepIdeal.τ).loc Cert.KernelAttPrepIdeal.main_arg5) = m ((c.tc : Thread Cert.KernelAttPrepIdeal.nD Cert.KernelAttPrepIdeal.τ).loc Cert.KernelAttPrepIdeal.main_arg5)
      ∧ r.2.mem ((c.tc : Thread Cert.KernelAttPrepIdeal.nD Cert.KernelAttPrepIdeal.τ).loc Cert.KernelAttPrepIdeal.main_arg6) = m ((c.tc : Thread Cert.KernelAttPrepIdeal.nD Cert.KernelAttPrepIdeal.τ).loc Cert.KernelAttPrepIdeal.main_arg6))
      ∧ r.2.sem = fun _ => 0)

def quiescent_ReferenceAttPrepIdeal [hReferenceAttPrepIdeal : Cert.ReferenceAttPrepIdeal.Facts] : Prop :=
  ∀ (m : (ℓ : Loc Cert.ReferenceAttPrepIdeal.nD Cert.ReferenceAttPrepIdeal.τ Cert.ReferenceAttPrepIdeal.sig) → Buf (Elt Ideal) ℓ) (g : Dev Cert.ReferenceAttPrepIdeal.nD → PrngReg), Pre_ReferenceAttPrepIdeal m →
    θ_run (Cert.ReferenceAttPrepIdeal.defs (F := Ideal)) (onTc (τ := Cert.ReferenceAttPrepIdeal.τ) (Cert.ReferenceAttPrepIdeal.main (F := Ideal))) ⟨m, fun _ => 0, g⟩ (fun r => (∀ c : Dev Cert.ReferenceAttPrepIdeal.nD,
      r.2.mem ((c.tc : Thread Cert.ReferenceAttPrepIdeal.nD Cert.ReferenceAttPrepIdeal.τ).loc Cert.ReferenceAttPrepIdeal.main_arg0) = m ((c.tc : Thread Cert.ReferenceAttPrepIdeal.nD Cert.ReferenceAttPrepIdeal.τ).loc Cert.ReferenceAttPrepIdeal.main_arg0)
      ∧ r.2.mem ((c.tc : Thread Cert.ReferenceAttPrepIdeal.nD Cert.ReferenceAttPrepIdeal.τ).loc Cert.ReferenceAttPrepIdeal.main_arg1) = m ((c.tc : Thread Cert.ReferenceAttPrepIdeal.nD Cert.ReferenceAttPrepIdeal.τ).loc Cert.ReferenceAttPrepIdeal.main_arg1)
      ∧ r.2.mem ((c.tc : Thread Cert.ReferenceAttPrepIdeal.nD Cert.ReferenceAttPrepIdeal.τ).loc Cert.ReferenceAttPrepIdeal.main_arg2) = m ((c.tc : Thread Cert.ReferenceAttPrepIdeal.nD Cert.ReferenceAttPrepIdeal.τ).loc Cert.ReferenceAttPrepIdeal.main_arg2)
      ∧ r.2.mem ((c.tc : Thread Cert.ReferenceAttPrepIdeal.nD Cert.ReferenceAttPrepIdeal.τ).loc Cert.ReferenceAttPrepIdeal.main_arg3) = m ((c.tc : Thread Cert.ReferenceAttPrepIdeal.nD Cert.ReferenceAttPrepIdeal.τ).loc Cert.ReferenceAttPrepIdeal.main_arg3)
      ∧ r.2.mem ((c.tc : Thread Cert.ReferenceAttPrepIdeal.nD Cert.ReferenceAttPrepIdeal.τ).loc Cert.ReferenceAttPrepIdeal.main_arg4) = m ((c.tc : Thread Cert.ReferenceAttPrepIdeal.nD Cert.ReferenceAttPrepIdeal.τ).loc Cert.ReferenceAttPrepIdeal.main_arg4)
      ∧ r.2.mem ((c.tc : Thread Cert.ReferenceAttPrepIdeal.nD Cert.ReferenceAttPrepIdeal.τ).loc Cert.ReferenceAttPrepIdeal.main_arg5) = m ((c.tc : Thread Cert.ReferenceAttPrepIdeal.nD Cert.ReferenceAttPrepIdeal.τ).loc Cert.ReferenceAttPrepIdeal.main_arg5)
      ∧ r.2.mem ((c.tc : Thread Cert.ReferenceAttPrepIdeal.nD Cert.ReferenceAttPrepIdeal.τ).loc Cert.ReferenceAttPrepIdeal.main_arg6) = m ((c.tc : Thread Cert.ReferenceAttPrepIdeal.nD Cert.ReferenceAttPrepIdeal.τ).loc Cert.ReferenceAttPrepIdeal.main_arg6))
      ∧ r.2.sem = fun _ => 0)

def quiescent_KernelAttCombine [hKernelAttCombine : Cert.KernelAttCombine.Facts] : Prop :=
  ∀ (m : (ℓ : Loc Cert.KernelAttCombine.nD Cert.KernelAttCombine.τ Cert.KernelAttCombine.sig) → Buf (Elt Bits) ℓ) (g : Dev Cert.KernelAttCombine.nD → PrngReg), Pre_KernelAttCombine m →
    θ_run (Cert.KernelAttCombine.defs (F := Bits)) (onTc (τ := Cert.KernelAttCombine.τ) (Cert.KernelAttCombine.main (F := Bits))) ⟨m, fun _ => 0, g⟩ (fun r => (∀ c : Dev Cert.KernelAttCombine.nD,
      r.2.mem ((c.tc : Thread Cert.KernelAttCombine.nD Cert.KernelAttCombine.τ).loc Cert.KernelAttCombine.main_arg0) = m ((c.tc : Thread Cert.KernelAttCombine.nD Cert.KernelAttCombine.τ).loc Cert.KernelAttCombine.main_arg0)
      ∧ r.2.mem ((c.tc : Thread Cert.KernelAttCombine.nD Cert.KernelAttCombine.τ).loc Cert.KernelAttCombine.main_arg1) = m ((c.tc : Thread Cert.KernelAttCombine.nD Cert.KernelAttCombine.τ).loc Cert.KernelAttCombine.main_arg1)
      ∧ r.2.mem ((c.tc : Thread Cert.KernelAttCombine.nD Cert.KernelAttCombine.τ).loc Cert.KernelAttCombine.main_arg2) = m ((c.tc : Thread Cert.KernelAttCombine.nD Cert.KernelAttCombine.τ).loc Cert.KernelAttCombine.main_arg2)
      ∧ r.2.mem ((c.tc : Thread Cert.KernelAttCombine.nD Cert.KernelAttCombine.τ).loc Cert.KernelAttCombine.main_arg3) = m ((c.tc : Thread Cert.KernelAttCombine.nD Cert.KernelAttCombine.τ).loc Cert.KernelAttCombine.main_arg3)
      ∧ r.2.mem ((c.tc : Thread Cert.KernelAttCombine.nD Cert.KernelAttCombine.τ).loc Cert.KernelAttCombine.main_arg4) = m ((c.tc : Thread Cert.KernelAttCombine.nD Cert.KernelAttCombine.τ).loc Cert.KernelAttCombine.main_arg4)
      ∧ r.2.mem ((c.tc : Thread Cert.KernelAttCombine.nD Cert.KernelAttCombine.τ).loc Cert.KernelAttCombine.main_arg5) = m ((c.tc : Thread Cert.KernelAttCombine.nD Cert.KernelAttCombine.τ).loc Cert.KernelAttCombine.main_arg5))
      ∧ r.2.sem = fun _ => 0)

def quiescent_KernelAttCombineIdeal [hKernelAttCombineIdeal : Cert.KernelAttCombineIdeal.Facts] : Prop :=
  ∀ (m : (ℓ : Loc Cert.KernelAttCombineIdeal.nD Cert.KernelAttCombineIdeal.τ Cert.KernelAttCombineIdeal.sig) → Buf (Elt Ideal) ℓ) (g : Dev Cert.KernelAttCombineIdeal.nD → PrngReg), Pre_KernelAttCombineIdeal m →
    θ_run (Cert.KernelAttCombineIdeal.defs (F := Ideal)) (onTc (τ := Cert.KernelAttCombineIdeal.τ) (Cert.KernelAttCombineIdeal.main (F := Ideal))) ⟨m, fun _ => 0, g⟩ (fun r => (∀ c : Dev Cert.KernelAttCombineIdeal.nD,
      r.2.mem ((c.tc : Thread Cert.KernelAttCombineIdeal.nD Cert.KernelAttCombineIdeal.τ).loc Cert.KernelAttCombineIdeal.main_arg0) = m ((c.tc : Thread Cert.KernelAttCombineIdeal.nD Cert.KernelAttCombineIdeal.τ).loc Cert.KernelAttCombineIdeal.main_arg0)
      ∧ r.2.mem ((c.tc : Thread Cert.KernelAttCombineIdeal.nD Cert.KernelAttCombineIdeal.τ).loc Cert.KernelAttCombineIdeal.main_arg1) = m ((c.tc : Thread Cert.KernelAttCombineIdeal.nD Cert.KernelAttCombineIdeal.τ).loc Cert.KernelAttCombineIdeal.main_arg1)
      ∧ r.2.mem ((c.tc : Thread Cert.KernelAttCombineIdeal.nD Cert.KernelAttCombineIdeal.τ).loc Cert.KernelAttCombineIdeal.main_arg2) = m ((c.tc : Thread Cert.KernelAttCombineIdeal.nD Cert.KernelAttCombineIdeal.τ).loc Cert.KernelAttCombineIdeal.main_arg2)
      ∧ r.2.mem ((c.tc : Thread Cert.KernelAttCombineIdeal.nD Cert.KernelAttCombineIdeal.τ).loc Cert.KernelAttCombineIdeal.main_arg3) = m ((c.tc : Thread Cert.KernelAttCombineIdeal.nD Cert.KernelAttCombineIdeal.τ).loc Cert.KernelAttCombineIdeal.main_arg3)
      ∧ r.2.mem ((c.tc : Thread Cert.KernelAttCombineIdeal.nD Cert.KernelAttCombineIdeal.τ).loc Cert.KernelAttCombineIdeal.main_arg4) = m ((c.tc : Thread Cert.KernelAttCombineIdeal.nD Cert.KernelAttCombineIdeal.τ).loc Cert.KernelAttCombineIdeal.main_arg4)
      ∧ r.2.mem ((c.tc : Thread Cert.KernelAttCombineIdeal.nD Cert.KernelAttCombineIdeal.τ).loc Cert.KernelAttCombineIdeal.main_arg5) = m ((c.tc : Thread Cert.KernelAttCombineIdeal.nD Cert.KernelAttCombineIdeal.τ).loc Cert.KernelAttCombineIdeal.main_arg5))
      ∧ r.2.sem = fun _ => 0)

def quiescent_ReferenceAttCombineIdeal [hReferenceAttCombineIdeal : Cert.ReferenceAttCombineIdeal.Facts] : Prop :=
  ∀ (m : (ℓ : Loc Cert.ReferenceAttCombineIdeal.nD Cert.ReferenceAttCombineIdeal.τ Cert.ReferenceAttCombineIdeal.sig) → Buf (Elt Ideal) ℓ) (g : Dev Cert.ReferenceAttCombineIdeal.nD → PrngReg), Pre_ReferenceAttCombineIdeal m →
    θ_run (Cert.ReferenceAttCombineIdeal.defs (F := Ideal)) (onTc (τ := Cert.ReferenceAttCombineIdeal.τ) (Cert.ReferenceAttCombineIdeal.main (F := Ideal))) ⟨m, fun _ => 0, g⟩ (fun r => (∀ c : Dev Cert.ReferenceAttCombineIdeal.nD,
      r.2.mem ((c.tc : Thread Cert.ReferenceAttCombineIdeal.nD Cert.ReferenceAttCombineIdeal.τ).loc Cert.ReferenceAttCombineIdeal.main_arg0) = m ((c.tc : Thread Cert.ReferenceAttCombineIdeal.nD Cert.ReferenceAttCombineIdeal.τ).loc Cert.ReferenceAttCombineIdeal.main_arg0)
      ∧ r.2.mem ((c.tc : Thread Cert.ReferenceAttCombineIdeal.nD Cert.ReferenceAttCombineIdeal.τ).loc Cert.ReferenceAttCombineIdeal.main_arg1) = m ((c.tc : Thread Cert.ReferenceAttCombineIdeal.nD Cert.ReferenceAttCombineIdeal.τ).loc Cert.ReferenceAttCombineIdeal.main_arg1)
      ∧ r.2.mem ((c.tc : Thread Cert.ReferenceAttCombineIdeal.nD Cert.ReferenceAttCombineIdeal.τ).loc Cert.ReferenceAttCombineIdeal.main_arg2) = m ((c.tc : Thread Cert.ReferenceAttCombineIdeal.nD Cert.ReferenceAttCombineIdeal.τ).loc Cert.ReferenceAttCombineIdeal.main_arg2)
      ∧ r.2.mem ((c.tc : Thread Cert.ReferenceAttCombineIdeal.nD Cert.ReferenceAttCombineIdeal.τ).loc Cert.ReferenceAttCombineIdeal.main_arg3) = m ((c.tc : Thread Cert.ReferenceAttCombineIdeal.nD Cert.ReferenceAttCombineIdeal.τ).loc Cert.ReferenceAttCombineIdeal.main_arg3)
      ∧ r.2.mem ((c.tc : Thread Cert.ReferenceAttCombineIdeal.nD Cert.ReferenceAttCombineIdeal.τ).loc Cert.ReferenceAttCombineIdeal.main_arg4) = m ((c.tc : Thread Cert.ReferenceAttCombineIdeal.nD Cert.ReferenceAttCombineIdeal.τ).loc Cert.ReferenceAttCombineIdeal.main_arg4)
      ∧ r.2.mem ((c.tc : Thread Cert.ReferenceAttCombineIdeal.nD Cert.ReferenceAttCombineIdeal.τ).loc Cert.ReferenceAttCombineIdeal.main_arg5) = m ((c.tc : Thread Cert.ReferenceAttCombineIdeal.nD Cert.ReferenceAttCombineIdeal.τ).loc Cert.ReferenceAttCombineIdeal.main_arg5))
      ∧ r.2.sem = fun _ => 0)

def quiescent_KernelMm [hKernelMm : Cert.KernelMm.Facts] : Prop :=
  ∀ (m : (ℓ : Loc Cert.KernelMm.nD Cert.KernelMm.τ Cert.KernelMm.sig) → Buf (Elt Bits) ℓ) (g : Dev Cert.KernelMm.nD → PrngReg), Pre_KernelMm m →
    θ_run (Cert.KernelMm.defs (F := Bits)) (onTc (τ := Cert.KernelMm.τ) (Cert.KernelMm.main (F := Bits))) ⟨m, fun _ => 0, g⟩ (fun r => (∀ c : Dev Cert.KernelMm.nD,
      r.2.mem ((c.tc : Thread Cert.KernelMm.nD Cert.KernelMm.τ).loc Cert.KernelMm.main_arg0) = m ((c.tc : Thread Cert.KernelMm.nD Cert.KernelMm.τ).loc Cert.KernelMm.main_arg0)
      ∧ r.2.mem ((c.tc : Thread Cert.KernelMm.nD Cert.KernelMm.τ).loc Cert.KernelMm.main_arg1) = m ((c.tc : Thread Cert.KernelMm.nD Cert.KernelMm.τ).loc Cert.KernelMm.main_arg1))
      ∧ r.2.sem = fun _ => 0)

def quiescent_KernelMmIdeal [hKernelMmIdeal : Cert.KernelMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg), Pre_KernelMmIdeal m →
    θ_run (Cert.KernelMmIdeal.defs (F := Ideal)) (onTc (τ := Cert.KernelMmIdeal.τ) (Cert.KernelMmIdeal.main (F := Ideal))) ⟨m, fun _ => 0, g⟩ (fun r => (∀ c : Dev Cert.KernelMmIdeal.nD,
      r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
      ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1))
      ∧ r.2.sem = fun _ => 0)

def quiescent_ReferenceMmIdeal [hReferenceMmIdeal : Cert.ReferenceMmIdeal.Facts] : Prop :=
  ∀ (m : (ℓ : Loc Cert.ReferenceMmIdeal.nD Cert.ReferenceMmIdeal.τ Cert.ReferenceMmIdeal.sig) → Buf (Elt Ideal) ℓ) (g : Dev Cert.ReferenceMmIdeal.nD → PrngReg), Pre_ReferenceMmIdeal m →
    θ_run (Cert.ReferenceMmIdeal.defs (F := Ideal)) (onTc (τ := Cert.ReferenceMmIdeal.τ) (Cert.ReferenceMmIdeal.main (F := Ideal))) ⟨m, fun _ => 0, g⟩ (fun r => (∀ c : Dev Cert.ReferenceMmIdeal.nD,
      r.2.mem ((c.tc : Thread Cert.ReferenceMmIdeal.nD Cert.ReferenceMmIdeal.τ).loc Cert.ReferenceMmIdeal.main_arg0) = m ((c.tc : Thread Cert.ReferenceMmIdeal.nD Cert.ReferenceMmIdeal.τ).loc Cert.ReferenceMmIdeal.main_arg0)
      ∧ r.2.mem ((c.tc : Thread Cert.ReferenceMmIdeal.nD Cert.ReferenceMmIdeal.τ).loc Cert.ReferenceMmIdeal.main_arg1) = m ((c.tc : Thread Cert.ReferenceMmIdeal.nD Cert.ReferenceMmIdeal.τ).loc Cert.ReferenceMmIdeal.main_arg1))
      ∧ r.2.sem = fun _ => 0)

def quiescent_KernelMmGrad [hKernelMmGrad : Cert.KernelMmGrad.Facts] : Prop :=
  ∀ (m : (ℓ : Loc Cert.KernelMmGrad.nD Cert.KernelMmGrad.τ Cert.KernelMmGrad.sig) → Buf (Elt Bits) ℓ) (g : Dev Cert.KernelMmGrad.nD → PrngReg), Pre_KernelMmGrad m →
    θ_run (Cert.KernelMmGrad.defs (F := Bits)) (onTc (τ := Cert.KernelMmGrad.τ) (Cert.KernelMmGrad.main (F := Bits))) ⟨m, fun _ => 0, g⟩ (fun r => (∀ c : Dev Cert.KernelMmGrad.nD,
      r.2.mem ((c.tc : Thread Cert.KernelMmGrad.nD Cert.KernelMmGrad.τ).loc Cert.KernelMmGrad.main_arg0) = m ((c.tc : Thread Cert.KernelMmGrad.nD Cert.KernelMmGrad.τ).loc Cert.KernelMmGrad.main_arg0)
      ∧ r.2.mem ((c.tc : Thread Cert.KernelMmGrad.nD Cert.KernelMmGrad.τ).loc Cert.KernelMmGrad.main_arg1) = m ((c.tc : Thread Cert.KernelMmGrad.nD Cert.KernelMmGrad.τ).loc Cert.KernelMmGrad.main_arg1)
      ∧ r.2.mem ((c.tc : Thread Cert.KernelMmGrad.nD Cert.KernelMmGrad.τ).loc Cert.KernelMmGrad.main_arg2) = m ((c.tc : Thread Cert.KernelMmGrad.nD Cert.KernelMmGrad.τ).loc Cert.KernelMmGrad.main_arg2))
      ∧ r.2.sem = fun _ => 0)

def quiescent_KernelMmGradIdeal [hKernelMmGradIdeal : Cert.KernelMmGradIdeal.Facts] : Prop :=
  ∀ (m : (ℓ : Loc Cert.KernelMmGradIdeal.nD Cert.KernelMmGradIdeal.τ Cert.KernelMmGradIdeal.sig) → Buf (Elt Ideal) ℓ) (g : Dev Cert.KernelMmGradIdeal.nD → PrngReg), Pre_KernelMmGradIdeal m →
    θ_run (Cert.KernelMmGradIdeal.defs (F := Ideal)) (onTc (τ := Cert.KernelMmGradIdeal.τ) (Cert.KernelMmGradIdeal.main (F := Ideal))) ⟨m, fun _ => 0, g⟩ (fun r => (∀ c : Dev Cert.KernelMmGradIdeal.nD,
      r.2.mem ((c.tc : Thread Cert.KernelMmGradIdeal.nD Cert.KernelMmGradIdeal.τ).loc Cert.KernelMmGradIdeal.main_arg0) = m ((c.tc : Thread Cert.KernelMmGradIdeal.nD Cert.KernelMmGradIdeal.τ).loc Cert.KernelMmGradIdeal.main_arg0)
      ∧ r.2.mem ((c.tc : Thread Cert.KernelMmGradIdeal.nD Cert.KernelMmGradIdeal.τ).loc Cert.KernelMmGradIdeal.main_arg1) = m ((c.tc : Thread Cert.KernelMmGradIdeal.nD Cert.KernelMmGradIdeal.τ).loc Cert.KernelMmGradIdeal.main_arg1)
      ∧ r.2.mem ((c.tc : Thread Cert.KernelMmGradIdeal.nD Cert.KernelMmGradIdeal.τ).loc Cert.KernelMmGradIdeal.main_arg2) = m ((c.tc : Thread Cert.KernelMmGradIdeal.nD Cert.KernelMmGradIdeal.τ).loc Cert.KernelMmGradIdeal.main_arg2))
      ∧ r.2.sem = fun _ => 0)

def quiescent_ReferenceMmGradIdeal [hReferenceMmGradIdeal : Cert.ReferenceMmGradIdeal.Facts] : Prop :=
  ∀ (m : (ℓ : Loc Cert.ReferenceMmGradIdeal.nD Cert.ReferenceMmGradIdeal.τ Cert.ReferenceMmGradIdeal.sig) → Buf (Elt Ideal) ℓ) (g : Dev Cert.ReferenceMmGradIdeal.nD → PrngReg), Pre_ReferenceMmGradIdeal m →
    θ_run (Cert.ReferenceMmGradIdeal.defs (F := Ideal)) (onTc (τ := Cert.ReferenceMmGradIdeal.τ) (Cert.ReferenceMmGradIdeal.main (F := Ideal))) ⟨m, fun _ => 0, g⟩ (fun r => (∀ c : Dev Cert.ReferenceMmGradIdeal.nD,
      r.2.mem ((c.tc : Thread Cert.ReferenceMmGradIdeal.nD Cert.ReferenceMmGradIdeal.τ).loc Cert.ReferenceMmGradIdeal.main_arg0) = m ((c.tc : Thread Cert.ReferenceMmGradIdeal.nD Cert.ReferenceMmGradIdeal.τ).loc Cert.ReferenceMmGradIdeal.main_arg0)
      ∧ r.2.mem ((c.tc : Thread Cert.ReferenceMmGradIdeal.nD Cert.ReferenceMmGradIdeal.τ).loc Cert.ReferenceMmGradIdeal.main_arg1) = m ((c.tc : Thread Cert.ReferenceMmGradIdeal.nD Cert.ReferenceMmGradIdeal.τ).loc Cert.ReferenceMmGradIdeal.main_arg1)
      ∧ r.2.mem ((c.tc : Thread Cert.ReferenceMmGradIdeal.nD Cert.ReferenceMmGradIdeal.τ).loc Cert.ReferenceMmGradIdeal.main_arg2) = m ((c.tc : Thread Cert.ReferenceMmGradIdeal.nD Cert.ReferenceMmGradIdeal.τ).loc Cert.ReferenceMmGradIdeal.main_arg2))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3))
      ∧ r.2.sem = fun _ => 0)

def quiescent_KernelRelTotal [hKernelRelTotal : Cert.KernelRelTotal.Facts] : Prop :=
  ∀ (m : (ℓ : Loc Cert.KernelRelTotal.nD Cert.KernelRelTotal.τ Cert.KernelRelTotal.sig) → Buf (Elt Bits) ℓ) (g : Dev Cert.KernelRelTotal.nD → PrngReg), Pre_KernelRelTotal m →
    θ_run (Cert.KernelRelTotal.defs (F := Bits)) (onTc (τ := Cert.KernelRelTotal.τ) (Cert.KernelRelTotal.main (F := Bits))) ⟨m, fun _ => 0, g⟩ (fun r => (∀ c : Dev Cert.KernelRelTotal.nD,
      r.2.mem ((c.tc : Thread Cert.KernelRelTotal.nD Cert.KernelRelTotal.τ).loc Cert.KernelRelTotal.main_arg0) = m ((c.tc : Thread Cert.KernelRelTotal.nD Cert.KernelRelTotal.τ).loc Cert.KernelRelTotal.main_arg0)
      ∧ r.2.mem ((c.tc : Thread Cert.KernelRelTotal.nD Cert.KernelRelTotal.τ).loc Cert.KernelRelTotal.main_arg1) = m ((c.tc : Thread Cert.KernelRelTotal.nD Cert.KernelRelTotal.τ).loc Cert.KernelRelTotal.main_arg1)
      ∧ r.2.mem ((c.tc : Thread Cert.KernelRelTotal.nD Cert.KernelRelTotal.τ).loc Cert.KernelRelTotal.main_arg2) = m ((c.tc : Thread Cert.KernelRelTotal.nD Cert.KernelRelTotal.τ).loc Cert.KernelRelTotal.main_arg2)
      ∧ r.2.mem ((c.tc : Thread Cert.KernelRelTotal.nD Cert.KernelRelTotal.τ).loc Cert.KernelRelTotal.main_arg3) = m ((c.tc : Thread Cert.KernelRelTotal.nD Cert.KernelRelTotal.τ).loc Cert.KernelRelTotal.main_arg3)
      ∧ r.2.mem ((c.tc : Thread Cert.KernelRelTotal.nD Cert.KernelRelTotal.τ).loc Cert.KernelRelTotal.main_arg4) = m ((c.tc : Thread Cert.KernelRelTotal.nD Cert.KernelRelTotal.τ).loc Cert.KernelRelTotal.main_arg4)
      ∧ r.2.mem ((c.tc : Thread Cert.KernelRelTotal.nD Cert.KernelRelTotal.τ).loc Cert.KernelRelTotal.main_arg5) = m ((c.tc : Thread Cert.KernelRelTotal.nD Cert.KernelRelTotal.τ).loc Cert.KernelRelTotal.main_arg5))
      ∧ r.2.sem = fun _ => 0)

def quiescent_KernelRelTotalIdeal [hKernelRelTotalIdeal : Cert.KernelRelTotalIdeal.Facts] : Prop :=
  ∀ (m : (ℓ : Loc Cert.KernelRelTotalIdeal.nD Cert.KernelRelTotalIdeal.τ Cert.KernelRelTotalIdeal.sig) → Buf (Elt Ideal) ℓ) (g : Dev Cert.KernelRelTotalIdeal.nD → PrngReg), Pre_KernelRelTotalIdeal m →
    θ_run (Cert.KernelRelTotalIdeal.defs (F := Ideal)) (onTc (τ := Cert.KernelRelTotalIdeal.τ) (Cert.KernelRelTotalIdeal.main (F := Ideal))) ⟨m, fun _ => 0, g⟩ (fun r => (∀ c : Dev Cert.KernelRelTotalIdeal.nD,
      r.2.mem ((c.tc : Thread Cert.KernelRelTotalIdeal.nD Cert.KernelRelTotalIdeal.τ).loc Cert.KernelRelTotalIdeal.main_arg0) = m ((c.tc : Thread Cert.KernelRelTotalIdeal.nD Cert.KernelRelTotalIdeal.τ).loc Cert.KernelRelTotalIdeal.main_arg0)
      ∧ r.2.mem ((c.tc : Thread Cert.KernelRelTotalIdeal.nD Cert.KernelRelTotalIdeal.τ).loc Cert.KernelRelTotalIdeal.main_arg1) = m ((c.tc : Thread Cert.KernelRelTotalIdeal.nD Cert.KernelRelTotalIdeal.τ).loc Cert.KernelRelTotalIdeal.main_arg1)
      ∧ r.2.mem ((c.tc : Thread Cert.KernelRelTotalIdeal.nD Cert.KernelRelTotalIdeal.τ).loc Cert.KernelRelTotalIdeal.main_arg2) = m ((c.tc : Thread Cert.KernelRelTotalIdeal.nD Cert.KernelRelTotalIdeal.τ).loc Cert.KernelRelTotalIdeal.main_arg2)
      ∧ r.2.mem ((c.tc : Thread Cert.KernelRelTotalIdeal.nD Cert.KernelRelTotalIdeal.τ).loc Cert.KernelRelTotalIdeal.main_arg3) = m ((c.tc : Thread Cert.KernelRelTotalIdeal.nD Cert.KernelRelTotalIdeal.τ).loc Cert.KernelRelTotalIdeal.main_arg3)
      ∧ r.2.mem ((c.tc : Thread Cert.KernelRelTotalIdeal.nD Cert.KernelRelTotalIdeal.τ).loc Cert.KernelRelTotalIdeal.main_arg4) = m ((c.tc : Thread Cert.KernelRelTotalIdeal.nD Cert.KernelRelTotalIdeal.τ).loc Cert.KernelRelTotalIdeal.main_arg4)
      ∧ r.2.mem ((c.tc : Thread Cert.KernelRelTotalIdeal.nD Cert.KernelRelTotalIdeal.τ).loc Cert.KernelRelTotalIdeal.main_arg5) = m ((c.tc : Thread Cert.KernelRelTotalIdeal.nD Cert.KernelRelTotalIdeal.τ).loc Cert.KernelRelTotalIdeal.main_arg5))
      ∧ r.2.sem = fun _ => 0)

def quiescent_ReferenceRelTotalIdeal [hReferenceRelTotalIdeal : Cert.ReferenceRelTotalIdeal.Facts] : Prop :=
  ∀ (m : (ℓ : Loc Cert.ReferenceRelTotalIdeal.nD Cert.ReferenceRelTotalIdeal.τ Cert.ReferenceRelTotalIdeal.sig) → Buf (Elt Ideal) ℓ) (g : Dev Cert.ReferenceRelTotalIdeal.nD → PrngReg), Pre_ReferenceRelTotalIdeal m →
    θ_run (Cert.ReferenceRelTotalIdeal.defs (F := Ideal)) (onTc (τ := Cert.ReferenceRelTotalIdeal.τ) (Cert.ReferenceRelTotalIdeal.main (F := Ideal))) ⟨m, fun _ => 0, g⟩ (fun r => (∀ c : Dev Cert.ReferenceRelTotalIdeal.nD,
      r.2.mem ((c.tc : Thread Cert.ReferenceRelTotalIdeal.nD Cert.ReferenceRelTotalIdeal.τ).loc Cert.ReferenceRelTotalIdeal.main_arg0) = m ((c.tc : Thread Cert.ReferenceRelTotalIdeal.nD Cert.ReferenceRelTotalIdeal.τ).loc Cert.ReferenceRelTotalIdeal.main_arg0)
      ∧ r.2.mem ((c.tc : Thread Cert.ReferenceRelTotalIdeal.nD Cert.ReferenceRelTotalIdeal.τ).loc Cert.ReferenceRelTotalIdeal.main_arg1) = m ((c.tc : Thread Cert.ReferenceRelTotalIdeal.nD Cert.ReferenceRelTotalIdeal.τ).loc Cert.ReferenceRelTotalIdeal.main_arg1)
      ∧ r.2.mem ((c.tc : Thread Cert.ReferenceRelTotalIdeal.nD Cert.ReferenceRelTotalIdeal.τ).loc Cert.ReferenceRelTotalIdeal.main_arg2) = m ((c.tc : Thread Cert.ReferenceRelTotalIdeal.nD Cert.ReferenceRelTotalIdeal.τ).loc Cert.ReferenceRelTotalIdeal.main_arg2)
      ∧ r.2.mem ((c.tc : Thread Cert.ReferenceRelTotalIdeal.nD Cert.ReferenceRelTotalIdeal.τ).loc Cert.ReferenceRelTotalIdeal.main_arg3) = m ((c.tc : Thread Cert.ReferenceRelTotalIdeal.nD Cert.ReferenceRelTotalIdeal.τ).loc Cert.ReferenceRelTotalIdeal.main_arg3)
      ∧ r.2.mem ((c.tc : Thread Cert.ReferenceRelTotalIdeal.nD Cert.ReferenceRelTotalIdeal.τ).loc Cert.ReferenceRelTotalIdeal.main_arg4) = m ((c.tc : Thread Cert.ReferenceRelTotalIdeal.nD Cert.ReferenceRelTotalIdeal.τ).loc Cert.ReferenceRelTotalIdeal.main_arg4)
      ∧ r.2.mem ((c.tc : Thread Cert.ReferenceRelTotalIdeal.nD Cert.ReferenceRelTotalIdeal.τ).loc Cert.ReferenceRelTotalIdeal.main_arg5) = m ((c.tc : Thread Cert.ReferenceRelTotalIdeal.nD Cert.ReferenceRelTotalIdeal.τ).loc Cert.ReferenceRelTotalIdeal.main_arg5))
      ∧ r.2.sem = fun _ => 0)

def quiescent_KernelAddHalf [hKernelAddHalf : Cert.KernelAddHalf.Facts] : Prop :=
  ∀ (m : (ℓ : Loc Cert.KernelAddHalf.nD Cert.KernelAddHalf.τ Cert.KernelAddHalf.sig) → Buf (Elt Bits) ℓ) (g : Dev Cert.KernelAddHalf.nD → PrngReg), Pre_KernelAddHalf m →
    θ_run (Cert.KernelAddHalf.defs (F := Bits)) (onTc (τ := Cert.KernelAddHalf.τ) (Cert.KernelAddHalf.main (F := Bits))) ⟨m, fun _ => 0, g⟩ (fun r => (∀ c : Dev Cert.KernelAddHalf.nD,
      r.2.mem ((c.tc : Thread Cert.KernelAddHalf.nD Cert.KernelAddHalf.τ).loc Cert.KernelAddHalf.main_arg0) = m ((c.tc : Thread Cert.KernelAddHalf.nD Cert.KernelAddHalf.τ).loc Cert.KernelAddHalf.main_arg0)
      ∧ r.2.mem ((c.tc : Thread Cert.KernelAddHalf.nD Cert.KernelAddHalf.τ).loc Cert.KernelAddHalf.main_arg1) = m ((c.tc : Thread Cert.KernelAddHalf.nD Cert.KernelAddHalf.τ).loc Cert.KernelAddHalf.main_arg1))
      ∧ r.2.sem = fun _ => 0)

def quiescent_KernelAddHalfIdeal [hKernelAddHalfIdeal : Cert.KernelAddHalfIdeal.Facts] : Prop :=
  ∀ (m : (ℓ : Loc Cert.KernelAddHalfIdeal.nD Cert.KernelAddHalfIdeal.τ Cert.KernelAddHalfIdeal.sig) → Buf (Elt Ideal) ℓ) (g : Dev Cert.KernelAddHalfIdeal.nD → PrngReg), Pre_KernelAddHalfIdeal m →
    θ_run (Cert.KernelAddHalfIdeal.defs (F := Ideal)) (onTc (τ := Cert.KernelAddHalfIdeal.τ) (Cert.KernelAddHalfIdeal.main (F := Ideal))) ⟨m, fun _ => 0, g⟩ (fun r => (∀ c : Dev Cert.KernelAddHalfIdeal.nD,
      r.2.mem ((c.tc : Thread Cert.KernelAddHalfIdeal.nD Cert.KernelAddHalfIdeal.τ).loc Cert.KernelAddHalfIdeal.main_arg0) = m ((c.tc : Thread Cert.KernelAddHalfIdeal.nD Cert.KernelAddHalfIdeal.τ).loc Cert.KernelAddHalfIdeal.main_arg0)
      ∧ r.2.mem ((c.tc : Thread Cert.KernelAddHalfIdeal.nD Cert.KernelAddHalfIdeal.τ).loc Cert.KernelAddHalfIdeal.main_arg1) = m ((c.tc : Thread Cert.KernelAddHalfIdeal.nD Cert.KernelAddHalfIdeal.τ).loc Cert.KernelAddHalfIdeal.main_arg1))
      ∧ r.2.sem = fun _ => 0)

def quiescent_ReferenceAddHalfIdeal [hReferenceAddHalfIdeal : Cert.ReferenceAddHalfIdeal.Facts] : Prop :=
  ∀ (m : (ℓ : Loc Cert.ReferenceAddHalfIdeal.nD Cert.ReferenceAddHalfIdeal.τ Cert.ReferenceAddHalfIdeal.sig) → Buf (Elt Ideal) ℓ) (g : Dev Cert.ReferenceAddHalfIdeal.nD → PrngReg), Pre_ReferenceAddHalfIdeal m →
    θ_run (Cert.ReferenceAddHalfIdeal.defs (F := Ideal)) (onTc (τ := Cert.ReferenceAddHalfIdeal.τ) (Cert.ReferenceAddHalfIdeal.main (F := Ideal))) ⟨m, fun _ => 0, g⟩ (fun r => (∀ c : Dev Cert.ReferenceAddHalfIdeal.nD,
      r.2.mem ((c.tc : Thread Cert.ReferenceAddHalfIdeal.nD Cert.ReferenceAddHalfIdeal.τ).loc Cert.ReferenceAddHalfIdeal.main_arg0) = m ((c.tc : Thread Cert.ReferenceAddHalfIdeal.nD Cert.ReferenceAddHalfIdeal.τ).loc Cert.ReferenceAddHalfIdeal.main_arg0)
      ∧ r.2.mem ((c.tc : Thread Cert.ReferenceAddHalfIdeal.nD Cert.ReferenceAddHalfIdeal.τ).loc Cert.ReferenceAddHalfIdeal.main_arg1) = m ((c.tc : Thread Cert.ReferenceAddHalfIdeal.nD Cert.ReferenceAddHalfIdeal.τ).loc Cert.ReferenceAddHalfIdeal.main_arg1))
      ∧ r.2.sem = fun _ => 0)

def quiescent_KernelSumChips [hKernelSumChips : Cert.KernelSumChips.Facts] : Prop :=
  ∀ (m : (ℓ : Loc Cert.KernelSumChips.nD Cert.KernelSumChips.τ Cert.KernelSumChips.sig) → Buf (Elt Bits) ℓ) (g : Dev Cert.KernelSumChips.nD → PrngReg), Pre_KernelSumChips m →
    θ_run (Cert.KernelSumChips.defs (F := Bits)) (onTc (τ := Cert.KernelSumChips.τ) (Cert.KernelSumChips.main (F := Bits))) ⟨m, fun _ => 0, g⟩ (fun r => (∀ c : Dev Cert.KernelSumChips.nD,
      r.2.mem ((c.tc : Thread Cert.KernelSumChips.nD Cert.KernelSumChips.τ).loc Cert.KernelSumChips.main_arg0) = m ((c.tc : Thread Cert.KernelSumChips.nD Cert.KernelSumChips.τ).loc Cert.KernelSumChips.main_arg0)
      ∧ r.2.mem ((c.tc : Thread Cert.KernelSumChips.nD Cert.KernelSumChips.τ).loc Cert.KernelSumChips.main_arg1) = m ((c.tc : Thread Cert.KernelSumChips.nD Cert.KernelSumChips.τ).loc Cert.KernelSumChips.main_arg1)
      ∧ r.2.mem ((c.tc : Thread Cert.KernelSumChips.nD Cert.KernelSumChips.τ).loc Cert.KernelSumChips.main_arg2) = m ((c.tc : Thread Cert.KernelSumChips.nD Cert.KernelSumChips.τ).loc Cert.KernelSumChips.main_arg2))
      ∧ r.2.sem = fun _ => 0)

def quiescent_KernelSumChipsIdeal [hKernelSumChipsIdeal : Cert.KernelSumChipsIdeal.Facts] : Prop :=
  ∀ (m : (ℓ : Loc Cert.KernelSumChipsIdeal.nD Cert.KernelSumChipsIdeal.τ Cert.KernelSumChipsIdeal.sig) → Buf (Elt Ideal) ℓ) (g : Dev Cert.KernelSumChipsIdeal.nD → PrngReg), Pre_KernelSumChipsIdeal m →
    θ_run (Cert.KernelSumChipsIdeal.defs (F := Ideal)) (onTc (τ := Cert.KernelSumChipsIdeal.τ) (Cert.KernelSumChipsIdeal.main (F := Ideal))) ⟨m, fun _ => 0, g⟩ (fun r => (∀ c : Dev Cert.KernelSumChipsIdeal.nD,
      r.2.mem ((c.tc : Thread Cert.KernelSumChipsIdeal.nD Cert.KernelSumChipsIdeal.τ).loc Cert.KernelSumChipsIdeal.main_arg0) = m ((c.tc : Thread Cert.KernelSumChipsIdeal.nD Cert.KernelSumChipsIdeal.τ).loc Cert.KernelSumChipsIdeal.main_arg0)
      ∧ r.2.mem ((c.tc : Thread Cert.KernelSumChipsIdeal.nD Cert.KernelSumChipsIdeal.τ).loc Cert.KernelSumChipsIdeal.main_arg1) = m ((c.tc : Thread Cert.KernelSumChipsIdeal.nD Cert.KernelSumChipsIdeal.τ).loc Cert.KernelSumChipsIdeal.main_arg1)
      ∧ r.2.mem ((c.tc : Thread Cert.KernelSumChipsIdeal.nD Cert.KernelSumChipsIdeal.τ).loc Cert.KernelSumChipsIdeal.main_arg2) = m ((c.tc : Thread Cert.KernelSumChipsIdeal.nD Cert.KernelSumChipsIdeal.τ).loc Cert.KernelSumChipsIdeal.main_arg2))
      ∧ r.2.sem = fun _ => 0)

def quiescent_ReferenceSumChipsIdeal [hReferenceSumChipsIdeal : Cert.ReferenceSumChipsIdeal.Facts] : Prop :=
  ∀ (m : (ℓ : Loc Cert.ReferenceSumChipsIdeal.nD Cert.ReferenceSumChipsIdeal.τ Cert.ReferenceSumChipsIdeal.sig) → Buf (Elt Ideal) ℓ) (g : Dev Cert.ReferenceSumChipsIdeal.nD → PrngReg), Pre_ReferenceSumChipsIdeal m →
    θ_run (Cert.ReferenceSumChipsIdeal.defs (F := Ideal)) (onTc (τ := Cert.ReferenceSumChipsIdeal.τ) (Cert.ReferenceSumChipsIdeal.main (F := Ideal))) ⟨m, fun _ => 0, g⟩ (fun r => (∀ c : Dev Cert.ReferenceSumChipsIdeal.nD,
      r.2.mem ((c.tc : Thread Cert.ReferenceSumChipsIdeal.nD Cert.ReferenceSumChipsIdeal.τ).loc Cert.ReferenceSumChipsIdeal.main_arg0) = m ((c.tc : Thread Cert.ReferenceSumChipsIdeal.nD Cert.ReferenceSumChipsIdeal.τ).loc Cert.ReferenceSumChipsIdeal.main_arg0)
      ∧ r.2.mem ((c.tc : Thread Cert.ReferenceSumChipsIdeal.nD Cert.ReferenceSumChipsIdeal.τ).loc Cert.ReferenceSumChipsIdeal.main_arg1) = m ((c.tc : Thread Cert.ReferenceSumChipsIdeal.nD Cert.ReferenceSumChipsIdeal.τ).loc Cert.ReferenceSumChipsIdeal.main_arg1)
      ∧ r.2.mem ((c.tc : Thread Cert.ReferenceSumChipsIdeal.nD Cert.ReferenceSumChipsIdeal.τ).loc Cert.ReferenceSumChipsIdeal.main_arg2) = m ((c.tc : Thread Cert.ReferenceSumChipsIdeal.nD Cert.ReferenceSumChipsIdeal.τ).loc Cert.ReferenceSumChipsIdeal.main_arg2))
      ∧ r.2.sem = fun _ => 0)

def preserves_KernelConvLn_KernelConvLnIdeal : Prop :=
  True

def algebraic_KernelConvLnIdeal_ReferenceConvLnIdeal_pre_finite_conv_ln [hKernelConvLnIdeal : Cert.KernelConvLnIdeal.Facts] [hReferenceConvLnIdeal : Cert.ReferenceConvLnIdeal.Facts] [hPre_finite_conv_ln : Cert.Pre_finite_conv_ln.Facts] : Prop :=
  ∀ (m : (ℓ : Loc Cert.KernelConvLnIdeal.nD Cert.KernelConvLnIdeal.τ Cert.KernelConvLnIdeal.sig) → Buf (Elt Ideal) ℓ) (g : Dev Cert.KernelConvLnIdeal.nD → PrngReg)
    (m' : (ℓ : Loc Cert.ReferenceConvLnIdeal.nD Cert.ReferenceConvLnIdeal.τ Cert.ReferenceConvLnIdeal.sig) → Buf (Elt Ideal) ℓ) (g' : Dev Cert.ReferenceConvLnIdeal.nD → PrngReg), Pre_KernelConvLnIdeal_finite_conv_ln m →
    (∀ c : Dev Cert.KernelConvLnIdeal.nD,
      m' ((c.tc : Thread Cert.ReferenceConvLnIdeal.nD Cert.ReferenceConvLnIdeal.τ).loc Cert.ReferenceConvLnIdeal.main_arg0) = m ((c.tc : Thread Cert.KernelConvLnIdeal.nD Cert.KernelConvLnIdeal.τ).loc Cert.KernelConvLnIdeal.main_arg0)
      ∧ m' ((c.tc : Thread Cert.ReferenceConvLnIdeal.nD Cert.ReferenceConvLnIdeal.τ).loc Cert.ReferenceConvLnIdeal.main_arg1) = m ((c.tc : Thread Cert.KernelConvLnIdeal.nD Cert.KernelConvLnIdeal.τ).loc Cert.KernelConvLnIdeal.main_arg1)
      ∧ m' ((c.tc : Thread Cert.ReferenceConvLnIdeal.nD Cert.ReferenceConvLnIdeal.τ).loc Cert.ReferenceConvLnIdeal.main_arg2) = m ((c.tc : Thread Cert.KernelConvLnIdeal.nD Cert.KernelConvLnIdeal.τ).loc Cert.KernelConvLnIdeal.main_arg2)
      ∧ m' ((c.tc : Thread Cert.ReferenceConvLnIdeal.nD Cert.ReferenceConvLnIdeal.τ).loc Cert.ReferenceConvLnIdeal.main_arg3) = m ((c.tc : Thread Cert.KernelConvLnIdeal.nD Cert.KernelConvLnIdeal.τ).loc Cert.KernelConvLnIdeal.main_arg3)
      ∧ m' ((c.tc : Thread Cert.ReferenceConvLnIdeal.nD Cert.ReferenceConvLnIdeal.τ).loc Cert.ReferenceConvLnIdeal.main_arg4) = m ((c.tc : Thread Cert.KernelConvLnIdeal.nD Cert.KernelConvLnIdeal.τ).loc Cert.KernelConvLnIdeal.main_arg4)) →
    ∃ (v0 : (c : Dev Cert.KernelConvLnIdeal.nD) → Buf (Elt Ideal) ((c.tc : Thread Cert.KernelConvLnIdeal.nD Cert.KernelConvLnIdeal.τ).loc Cert.KernelConvLnIdeal.main_v8_0)) (v1 : (c : Dev Cert.KernelConvLnIdeal.nD) → Buf (Elt Ideal) ((c.tc : Thread Cert.KernelConvLnIdeal.nD Cert.KernelConvLnIdeal.τ).loc Cert.KernelConvLnIdeal.main_v8_1)) (v2 : (c : Dev Cert.KernelConvLnIdeal.nD) → Buf (Elt Ideal) ((c.tc : Thread Cert.KernelConvLnIdeal.nD Cert.KernelConvLnIdeal.τ).loc Cert.KernelConvLnIdeal.main_v8_2)) (v3 : (c : Dev Cert.KernelConvLnIdeal.nD) → Buf (Elt Ideal) ((c.tc : Thread Cert.KernelConvLnIdeal.nD Cert.KernelConvLnIdeal.τ).loc Cert.KernelConvLnIdeal.main_v8_3)),
      θ_run (Cert.KernelConvLnIdeal.defs (F := Ideal)) (onTc (τ := Cert.KernelConvLnIdeal.τ) (Cert.KernelConvLnIdeal.main (F := Ideal))) ⟨m, fun _ => 0, g⟩ (fun r => ∀ c : Dev Cert.KernelConvLnIdeal.nD,
          r.2.mem ((c.tc : Thread Cert.KernelConvLnIdeal.nD Cert.KernelConvLnIdeal.τ).loc Cert.KernelConvLnIdeal.main_v8_0) = v0 c
          ∧ r.2.mem ((c.tc : Thread Cert.KernelConvLnIdeal.nD Cert.KernelConvLnIdeal.τ).loc Cert.KernelConvLnIdeal.main_v8_1) = v1 c
          ∧ r.2.mem ((c.tc : Thread Cert.KernelConvLnIdeal.nD Cert.KernelConvLnIdeal.τ).loc Cert.KernelConvLnIdeal.main_v8_2) = v2 c
          ∧ r.2.mem ((c.tc : Thread Cert.KernelConvLnIdeal.nD Cert.KernelConvLnIdeal.τ).loc Cert.KernelConvLnIdeal.main_v8_3) = v3 c
          ∧ r.2.mem ((c.tc : Thread Cert.KernelConvLnIdeal.nD Cert.KernelConvLnIdeal.τ).loc Cert.KernelConvLnIdeal.main_arg0) = m ((c.tc : Thread Cert.KernelConvLnIdeal.nD Cert.KernelConvLnIdeal.τ).loc Cert.KernelConvLnIdeal.main_arg0)
          ∧ r.2.mem ((c.tc : Thread Cert.KernelConvLnIdeal.nD Cert.KernelConvLnIdeal.τ).loc Cert.KernelConvLnIdeal.main_arg1) = m ((c.tc : Thread Cert.KernelConvLnIdeal.nD Cert.KernelConvLnIdeal.τ).loc Cert.KernelConvLnIdeal.main_arg1)
          ∧ r.2.mem ((c.tc : Thread Cert.KernelConvLnIdeal.nD Cert.KernelConvLnIdeal.τ).loc Cert.KernelConvLnIdeal.main_arg2) = m ((c.tc : Thread Cert.KernelConvLnIdeal.nD Cert.KernelConvLnIdeal.τ).loc Cert.KernelConvLnIdeal.main_arg2)
          ∧ r.2.mem ((c.tc : Thread Cert.KernelConvLnIdeal.nD Cert.KernelConvLnIdeal.τ).loc Cert.KernelConvLnIdeal.main_arg3) = m ((c.tc : Thread Cert.KernelConvLnIdeal.nD Cert.KernelConvLnIdeal.τ).loc Cert.KernelConvLnIdeal.main_arg3)
          ∧ r.2.mem ((c.tc : Thread Cert.KernelConvLnIdeal.nD Cert.KernelConvLnIdeal.τ).loc Cert.KernelConvLnIdeal.main_arg4) = m ((c.tc : Thread Cert.KernelConvLnIdeal.nD Cert.KernelConvLnIdeal.τ).loc Cert.KernelConvLnIdeal.main_arg4))
      ∧ θ_run (Cert.ReferenceConvLnIdeal.defs (F := Ideal)) (onTc (τ := Cert.ReferenceConvLnIdeal.τ) (Cert.ReferenceConvLnIdeal.main (F := Ideal))) ⟨m', fun _ => 0, g'⟩ (fun r => ∀ c : Dev Cert.ReferenceConvLnIdeal.nD,
          r.2.mem ((c.tc : Thread Cert.ReferenceConvLnIdeal.nD Cert.ReferenceConvLnIdeal.τ).loc Cert.ReferenceConvLnIdeal.main_v62) = v0 c
          ∧ r.2.mem ((c.tc : Thread Cert.ReferenceConvLnIdeal.nD Cert.ReferenceConvLnIdeal.τ).loc Cert.ReferenceConvLnIdeal.main_v66) = v1 c
          ∧ r.2.mem ((c.tc : Thread Cert.ReferenceConvLnIdeal.nD Cert.ReferenceConvLnIdeal.τ).loc Cert.ReferenceConvLnIdeal.main_v67) = v2 c
          ∧ r.2.mem ((c.tc : Thread Cert.ReferenceConvLnIdeal.nD Cert.ReferenceConvLnIdeal.τ).loc Cert.ReferenceConvLnIdeal.main_v68) = v3 c
          ∧ r.2.mem ((c.tc : Thread Cert.ReferenceConvLnIdeal.nD Cert.ReferenceConvLnIdeal.τ).loc Cert.ReferenceConvLnIdeal.main_arg0) = m' ((c.tc : Thread Cert.ReferenceConvLnIdeal.nD Cert.ReferenceConvLnIdeal.τ).loc Cert.ReferenceConvLnIdeal.main_arg0)
          ∧ r.2.mem ((c.tc : Thread Cert.ReferenceConvLnIdeal.nD Cert.ReferenceConvLnIdeal.τ).loc Cert.ReferenceConvLnIdeal.main_arg1) = m' ((c.tc : Thread Cert.ReferenceConvLnIdeal.nD Cert.ReferenceConvLnIdeal.τ).loc Cert.ReferenceConvLnIdeal.main_arg1)
          ∧ r.2.mem ((c.tc : Thread Cert.ReferenceConvLnIdeal.nD Cert.ReferenceConvLnIdeal.τ).loc Cert.ReferenceConvLnIdeal.main_arg2) = m' ((c.tc : Thread Cert.ReferenceConvLnIdeal.nD Cert.ReferenceConvLnIdeal.τ).loc Cert.ReferenceConvLnIdeal.main_arg2)
          ∧ r.2.mem ((c.tc : Thread Cert.ReferenceConvLnIdeal.nD Cert.ReferenceConvLnIdeal.τ).loc Cert.ReferenceConvLnIdeal.main_arg3) = m' ((c.tc : Thread Cert.ReferenceConvLnIdeal.nD Cert.ReferenceConvLnIdeal.τ).loc Cert.ReferenceConvLnIdeal.main_arg3)
          ∧ r.2.mem ((c.tc : Thread Cert.ReferenceConvLnIdeal.nD Cert.ReferenceConvLnIdeal.τ).loc Cert.ReferenceConvLnIdeal.main_arg4) = m' ((c.tc : Thread Cert.ReferenceConvLnIdeal.nD Cert.ReferenceConvLnIdeal.τ).loc Cert.ReferenceConvLnIdeal.main_arg4))

def preserves_KernelMemKv_KernelMemKvIdeal : Prop :=
  True

def algebraic_KernelMemKvIdeal_ReferenceMemKvIdeal [hKernelMemKvIdeal : Cert.KernelMemKvIdeal.Facts] [hReferenceMemKvIdeal : Cert.ReferenceMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg)
    (m' : (ℓ : Loc Cert.ReferenceMemKvIdeal.nD Cert.ReferenceMemKvIdeal.τ Cert.ReferenceMemKvIdeal.sig) → Buf (Elt Ideal) ℓ) (g' : Dev Cert.ReferenceMemKvIdeal.nD → PrngReg), Pre_KernelMemKvIdeal m →
    (∀ c : Dev Cert.KernelMemKvIdeal.nD,
      m' ((c.tc : Thread Cert.ReferenceMemKvIdeal.nD Cert.ReferenceMemKvIdeal.τ).loc Cert.ReferenceMemKvIdeal.main_arg0) = m ((c.tc : Thread Cert.KernelMemKvIdeal.nD Cert.KernelMemKvIdeal.τ).loc Cert.KernelMemKvIdeal.main_arg0)
      ∧ m' ((c.tc : Thread Cert.ReferenceMemKvIdeal.nD Cert.ReferenceMemKvIdeal.τ).loc Cert.ReferenceMemKvIdeal.main_arg1) = m ((c.tc : Thread Cert.KernelMemKvIdeal.nD Cert.KernelMemKvIdeal.τ).loc Cert.KernelMemKvIdeal.main_arg1)
      ∧ m' ((c.tc : Thread Cert.ReferenceMemKvIdeal.nD Cert.ReferenceMemKvIdeal.τ).loc Cert.ReferenceMemKvIdeal.main_arg2) = m ((c.tc : Thread Cert.KernelMemKvIdeal.nD Cert.KernelMemKvIdeal.τ).loc Cert.KernelMemKvIdeal.main_arg2)
      ∧ m' ((c.tc : Thread Cert.ReferenceMemKvIdeal.nD Cert.ReferenceMemKvIdeal.τ).loc Cert.ReferenceMemKvIdeal.main_arg3) = m ((c.tc : Thread Cert.KernelMemKvIdeal.nD Cert.KernelMemKvIdeal.τ).loc Cert.KernelMemKvIdeal.main_arg3)) →
    ∃ (v0 : (c : Dev Cert.KernelMemKvIdeal.nD) → Buf (Elt Ideal) ((c.tc : Thread Cert.KernelMemKvIdeal.nD Cert.KernelMemKvIdeal.τ).loc Cert.KernelMemKvIdeal.main_v16_0)) (v1 : (c : Dev Cert.KernelMemKvIdeal.nD) → Buf (Elt Ideal) ((c.tc : Thread Cert.KernelMemKvIdeal.nD Cert.KernelMemKvIdeal.τ).loc Cert.KernelMemKvIdeal.main_v16_1)),
      θ_run (Cert.KernelMemKvIdeal.defs (F := Ideal)) (onTc (τ := Cert.KernelMemKvIdeal.τ) (Cert.KernelMemKvIdeal.main (F := Ideal))) ⟨m, fun _ => 0, g⟩ (fun r => ∀ c : Dev Cert.KernelMemKvIdeal.nD,
          r.2.mem ((c.tc : Thread Cert.KernelMemKvIdeal.nD Cert.KernelMemKvIdeal.τ).loc Cert.KernelMemKvIdeal.main_v16_0) = v0 c
          ∧ r.2.mem ((c.tc : Thread Cert.KernelMemKvIdeal.nD Cert.KernelMemKvIdeal.τ).loc Cert.KernelMemKvIdeal.main_v16_1) = v1 c
          ∧ r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
          ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
          ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2)
          ∧ r.2.mem ((c.tc : Thread Cert.KernelMemKvIdeal.nD Cert.KernelMemKvIdeal.τ).loc Cert.KernelMemKvIdeal.main_arg3) = m ((c.tc : Thread Cert.KernelMemKvIdeal.nD Cert.KernelMemKvIdeal.τ).loc Cert.KernelMemKvIdeal.main_arg3))
      ∧ θ_run (Cert.ReferenceMemKvIdeal.defs (F := Ideal)) (onTc (τ := Cert.ReferenceMemKvIdeal.τ) (Cert.ReferenceMemKvIdeal.main (F := Ideal))) ⟨m', fun _ => 0, g'⟩ (fun r => ∀ c : Dev Cert.ReferenceMemKvIdeal.nD,
          r.2.mem ((c.tc : Thread Cert.ReferenceMemKvIdeal.nD Cert.ReferenceMemKvIdeal.τ).loc Cert.ReferenceMemKvIdeal.main_v15) = v0 c
          ∧ r.2.mem ((c.tc : Thread Cert.ReferenceMemKvIdeal.nD Cert.ReferenceMemKvIdeal.τ).loc Cert.ReferenceMemKvIdeal.main_v21) = v1 c
          ∧ r.2.mem ((c.tc : Thread Cert.ReferenceMemKvIdeal.nD Cert.ReferenceMemKvIdeal.τ).loc Cert.ReferenceMemKvIdeal.main_arg0) = m' ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1) = m' ((c.tc : Thread Cert.ReferenceMemKvIdeal.nD Cert.ReferenceMemKvIdeal.τ).loc Cert.ReferenceMemKvIdeal.main_arg1)
          ∧ r.2.mem ((c.tc : Thread Cert.ReferenceMemKvIdeal.nD Cert.ReferenceMemKvIdeal.τ).loc Cert.ReferenceMemKvIdeal.main_arg2) = m' ((c.tc : Thread Cert.ReferenceMemKvIdeal.nD Cert.ReferenceMemKvIdeal.τ).loc Cert.ReferenceMemKvIdeal.main_arg2)
          ∧ r.2.mem ((c.tc : Thread Cert.ReferenceMemKvIdeal.nD Cert.ReferenceMemKvIdeal.τ).loc Cert.ReferenceMemKvIdeal.main_arg3) = m' ((c.tc : Thread Cert.ReferenceMemKvIdeal.nD Cert.ReferenceMemKvIdeal.τ).loc Cert.ReferenceMemKvIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v3_0)) (v1 : (c : Dev Cert.KernelLossIdeal.nD) → Buf (Elt Ideal) ((c.tc : Thread Cert.KernelLossIdeal.nD Cert.KernelLossIdeal.τ).loc Cert.KernelLossIdeal.main_v3_1)) (v2 : (c : Dev Cert.KernelLossIdeal.nD) → Buf (Elt Ideal) ((c.tc : Thread Cert.KernelLossIdeal.nD Cert.KernelLossIdeal.τ).loc Cert.KernelLossIdeal.main_v3_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v3_0) = v0 c
          ∧ r.2.mem ((c.tc : Thread Cert.KernelLossIdeal.nD Cert.KernelLossIdeal.τ).loc Cert.KernelLossIdeal.main_v3_1) = v1 c
          ∧ r.2.mem ((c.tc : Thread Cert.KernelLossIdeal.nD Cert.KernelLossIdeal.τ).loc Cert.KernelLossIdeal.main_v3_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v33) = v0 c
          ∧ r.2.mem ((c.tc : Thread Cert.ReferenceLossIdeal.nD Cert.ReferenceLossIdeal.τ).loc Cert.ReferenceLossIdeal.main_v4) = v1 c
          ∧ r.2.mem ((c.tc : Thread Cert.ReferenceLossIdeal.nD Cert.ReferenceLossIdeal.τ).loc Cert.ReferenceLossIdeal.main_v34) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v8_0)) (v1 : (c : Dev Cert.KernelFfnIdeal.nD) → Buf (Elt Ideal) ((c.tc : Thread Cert.KernelFfnIdeal.nD Cert.KernelFfnIdeal.τ).loc Cert.KernelFfnIdeal.main_v8_1)) (v2 : (c : Dev Cert.KernelFfnIdeal.nD) → Buf (Elt Ideal) ((c.tc : Thread Cert.KernelFfnIdeal.nD Cert.KernelFfnIdeal.τ).loc Cert.KernelFfnIdeal.main_v8_2)) (v3 : (c : Dev Cert.KernelFfnIdeal.nD) → Buf (Elt Ideal) ((c.tc : Thread Cert.KernelFfnIdeal.nD Cert.KernelFfnIdeal.τ).loc Cert.KernelFfnIdeal.main_v8_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v8_0) = v0 c
          ∧ r.2.mem ((c.tc : Thread Cert.KernelFfnIdeal.nD Cert.KernelFfnIdeal.τ).loc Cert.KernelFfnIdeal.main_v8_1) = v1 c
          ∧ r.2.mem ((c.tc : Thread Cert.KernelFfnIdeal.nD Cert.KernelFfnIdeal.τ).loc Cert.KernelFfnIdeal.main_v8_2) = v2 c
          ∧ r.2.mem ((c.tc : Thread Cert.KernelFfnIdeal.nD Cert.KernelFfnIdeal.τ).loc Cert.KernelFfnIdeal.main_v8_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v48) = v0 c
          ∧ r.2.mem ((c.tc : Thread Cert.ReferenceFfnIdeal.nD Cert.ReferenceFfnIdeal.τ).loc Cert.ReferenceFfnIdeal.main_v49) = v1 c
          ∧ r.2.mem ((c.tc : Thread Cert.ReferenceFfnIdeal.nD Cert.ReferenceFfnIdeal.τ).loc Cert.ReferenceFfnIdeal.main_v50) = v2 c
          ∧ r.2.mem ((c.tc : Thread Cert.ReferenceFfnIdeal.nD Cert.ReferenceFfnIdeal.τ).loc Cert.ReferenceFfnIdeal.main_v51) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelFfnIn_KernelFfnInIdeal : Prop :=
  True

def algebraic_KernelFfnInIdeal_ReferenceFfnInIdeal_pre_finite_ffn_in [hKernelFfnInIdeal : Cert.KernelFfnInIdeal.Facts] [hReferenceFfnInIdeal : Cert.ReferenceFfnInIdeal.Facts] [hPre_finite_ffn_in : Cert.Pre_finite_ffn_in.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal_finite_ffn_in m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)
      ∧ m' ((c.tc : Thread Cert.ReferenceFfnInIdeal.nD Cert.ReferenceFfnInIdeal.τ).loc Cert.ReferenceFfnInIdeal.main_arg3) = m ((c.tc : Thread Cert.KernelFfnInIdeal.nD Cert.KernelFfnInIdeal.τ).loc Cert.KernelFfnInIdeal.main_arg3)
      ∧ m' ((c.tc : Thread Cert.ReferenceFfnInIdeal.nD Cert.ReferenceFfnInIdeal.τ).loc Cert.ReferenceFfnInIdeal.main_arg4) = m ((c.tc : Thread Cert.KernelFfnInIdeal.nD Cert.KernelFfnInIdeal.τ).loc Cert.KernelFfnInIdeal.main_arg4)) →
    ∃ (v0 : (c : Dev Cert.KernelFfnInIdeal.nD) → Buf (Elt Ideal) ((c.tc : Thread Cert.KernelFfnInIdeal.nD Cert.KernelFfnInIdeal.τ).loc Cert.KernelFfnInIdeal.main_v3_0)) (v1 : (c : Dev Cert.KernelFfnInIdeal.nD) → Buf (Elt Ideal) ((c.tc : Thread Cert.KernelFfnInIdeal.nD Cert.KernelFfnInIdeal.τ).loc Cert.KernelFfnInIdeal.main_v3_1)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v3_0) = v0 c
          ∧ r.2.mem ((c.tc : Thread Cert.KernelFfnInIdeal.nD Cert.KernelFfnInIdeal.τ).loc Cert.KernelFfnInIdeal.main_v3_1) = v1 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
          ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
          ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v38) = v0 c
          ∧ r.2.mem ((c.tc : Thread Cert.ReferenceFfnInIdeal.nD Cert.ReferenceFfnInIdeal.τ).loc Cert.ReferenceFfnInIdeal.main_v39) = v1 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2)
          ∧ r.2.mem ((c.tc : Thread Cert.ReferenceFfnInIdeal.nD Cert.ReferenceFfnInIdeal.τ).loc Cert.ReferenceFfnInIdeal.main_arg3) = m' ((c.tc : Thread Cert.ReferenceFfnInIdeal.nD Cert.ReferenceFfnInIdeal.τ).loc Cert.ReferenceFfnInIdeal.main_arg3)
          ∧ r.2.mem ((c.tc : Thread Cert.ReferenceFfnInIdeal.nD Cert.ReferenceFfnInIdeal.τ).loc Cert.ReferenceFfnInIdeal.main_arg4) = m' ((c.tc : Thread Cert.ReferenceFfnInIdeal.nD Cert.ReferenceFfnInIdeal.τ).loc Cert.ReferenceFfnInIdeal.main_arg4))

def preserves_KernelMixIn_KernelMixInIdeal : Prop :=
  True

def algebraic_KernelMixInIdeal_ReferenceMixInIdeal_pre_finite_mix_in [hKernelMixInIdeal : Cert.KernelMixInIdeal.Facts] [hReferenceMixInIdeal : Cert.ReferenceMixInIdeal.Facts] [hPre_finite_mix_in : Cert.Pre_finite_mix_in.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.ReferenceMixInIdeal.nD Cert.ReferenceMixInIdeal.τ Cert.ReferenceMixInIdeal.sig) → Buf (Elt Ideal) ℓ) (g' : Dev Cert.ReferenceMixInIdeal.nD → PrngReg), Pre_KernelMixInIdeal_finite_mix_in m →
    (∀ c : Dev Cert.KernelMixInIdeal.nD,
      m' ((c.tc : Thread Cert.ReferenceMixInIdeal.nD Cert.ReferenceMixInIdeal.τ).loc Cert.ReferenceMixInIdeal.main_arg0) = m ((c.tc : Thread Cert.KernelMixInIdeal.nD Cert.KernelMixInIdeal.τ).loc Cert.KernelMixInIdeal.main_arg0)
      ∧ m' ((c.tc : Thread Cert.ReferenceMixInIdeal.nD Cert.ReferenceMixInIdeal.τ).loc Cert.ReferenceMixInIdeal.main_arg1) = m ((c.tc : Thread Cert.KernelMixInIdeal.nD Cert.KernelMixInIdeal.τ).loc Cert.KernelMixInIdeal.main_arg1)
      ∧ m' ((c.tc : Thread Cert.ReferenceMixInIdeal.nD Cert.ReferenceMixInIdeal.τ).loc Cert.ReferenceMixInIdeal.main_arg2) = m ((c.tc : Thread Cert.KernelMixInIdeal.nD Cert.KernelMixInIdeal.τ).loc Cert.KernelMixInIdeal.main_arg2)
      ∧ m' ((c.tc : Thread Cert.ReferenceMixInIdeal.nD Cert.ReferenceMixInIdeal.τ).loc Cert.ReferenceMixInIdeal.main_arg3) = m ((c.tc : Thread Cert.KernelMixInIdeal.nD Cert.KernelMixInIdeal.τ).loc Cert.KernelMixInIdeal.main_arg3)
      ∧ m' ((c.tc : Thread Cert.ReferenceMixInIdeal.nD Cert.ReferenceMixInIdeal.τ).loc Cert.ReferenceMixInIdeal.main_arg4) = m ((c.tc : Thread Cert.KernelMixInIdeal.nD Cert.KernelMixInIdeal.τ).loc Cert.KernelMixInIdeal.main_arg4)) →
    ∃ (v0 : (c : Dev Cert.KernelMixInIdeal.nD) → Buf (Elt Ideal) ((c.tc : Thread Cert.KernelMixInIdeal.nD Cert.KernelMixInIdeal.τ).loc Cert.KernelMixInIdeal.main_v29_0)) (v1 : (c : Dev Cert.KernelMixInIdeal.nD) → Buf (Elt Ideal) ((c.tc : Thread Cert.KernelMixInIdeal.nD Cert.KernelMixInIdeal.τ).loc Cert.KernelMixInIdeal.main_v29_1)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v29_0) = v0 c
          ∧ r.2.mem ((c.tc : Thread Cert.KernelMixInIdeal.nD Cert.KernelMixInIdeal.τ).loc Cert.KernelMixInIdeal.main_v29_1) = v1 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
          ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
          ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
          ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4))
      ∧ θ_run (Cert.ReferenceMixInIdeal.defs (F := Ideal)) (onTc (τ := Cert.ReferenceMixInIdeal.τ) (Cert.ReferenceMixInIdeal.main (F := Ideal))) ⟨m', fun _ => 0, g'⟩ (fun r => ∀ c : Dev Cert.ReferenceMixInIdeal.nD,
          r.2.mem ((c.tc : Thread Cert.ReferenceMixInIdeal.nD Cert.ReferenceMixInIdeal.τ).loc Cert.ReferenceMixInIdeal.main_v38) = v0 c
          ∧ r.2.mem ((c.tc : Thread Cert.ReferenceMixInIdeal.nD Cert.ReferenceMixInIdeal.τ).loc Cert.ReferenceMixInIdeal.main_v39) = v1 c
          ∧ r.2.mem ((c.tc : Thread Cert.ReferenceMixInIdeal.nD Cert.ReferenceMixInIdeal.τ).loc Cert.ReferenceMixInIdeal.main_arg0) = m' ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1) = m' ((c.tc : Thread Cert.ReferenceMixInIdeal.nD Cert.ReferenceMixInIdeal.τ).loc Cert.ReferenceMixInIdeal.main_arg1)
          ∧ r.2.mem ((c.tc : Thread Cert.ReferenceMixInIdeal.nD Cert.ReferenceMixInIdeal.τ).loc Cert.ReferenceMixInIdeal.main_arg2) = m' ((c.tc : Thread Cert.ReferenceMixInIdeal.nD Cert.ReferenceMixInIdeal.τ).loc Cert.ReferenceMixInIdeal.main_arg2)
          ∧ r.2.mem ((c.tc : Thread Cert.ReferenceMixInIdeal.nD Cert.ReferenceMixInIdeal.τ).loc Cert.ReferenceMixInIdeal.main_arg3) = m' ((c.tc : Thread Cert.ReferenceMixInIdeal.nD Cert.ReferenceMixInIdeal.τ).loc Cert.ReferenceMixInIdeal.main_arg3)
          ∧ r.2.mem ((c.tc : Thread Cert.ReferenceMixInIdeal.nD Cert.ReferenceMixInIdeal.τ).loc Cert.ReferenceMixInIdeal.main_arg4) = m' ((c.tc : Thread Cert.ReferenceMixInIdeal.nD Cert.ReferenceMixInIdeal.τ).loc Cert.ReferenceMixInIdeal.main_arg4))

def preserves_KernelMemAtt_KernelMemAttIdeal : Prop :=
  True

def algebraic_KernelMemAttIdeal_ReferenceMemAttIdeal_pre_finite_mem_att [hKernelMemAttIdeal : Cert.KernelMemAttIdeal.Facts] [hReferenceMemAttIdeal : Cert.ReferenceMemAttIdeal.Facts] [hPre_finite_mem_att : Cert.Pre_finite_mem_att.Facts] : Prop :=
  ∀ (m : (ℓ : Loc Cert.KernelMemAttIdeal.nD Cert.KernelMemAttIdeal.τ Cert.KernelMemAttIdeal.sig) → Buf (Elt Ideal) ℓ) (g : Dev Cert.KernelMemAttIdeal.nD → PrngReg)
    (m' : (ℓ : Loc Cert.ReferenceMemAttIdeal.nD Cert.ReferenceMemAttIdeal.τ Cert.ReferenceMemAttIdeal.sig) → Buf (Elt Ideal) ℓ) (g' : Dev Cert.ReferenceMemAttIdeal.nD → PrngReg), Pre_KernelMemAttIdeal_finite_mem_att m →
    (∀ c : Dev Cert.KernelMemAttIdeal.nD,
      m' ((c.tc : Thread Cert.ReferenceMemAttIdeal.nD Cert.ReferenceMemAttIdeal.τ).loc Cert.ReferenceMemAttIdeal.main_arg0) = m ((c.tc : Thread Cert.KernelMemAttIdeal.nD Cert.KernelMemAttIdeal.τ).loc Cert.KernelMemAttIdeal.main_arg0)
      ∧ m' ((c.tc : Thread Cert.ReferenceMemAttIdeal.nD Cert.ReferenceMemAttIdeal.τ).loc Cert.ReferenceMemAttIdeal.main_arg1) = m ((c.tc : Thread Cert.KernelMemAttIdeal.nD Cert.KernelMemAttIdeal.τ).loc Cert.KernelMemAttIdeal.main_arg1)
      ∧ m' ((c.tc : Thread Cert.ReferenceMemAttIdeal.nD Cert.ReferenceMemAttIdeal.τ).loc Cert.ReferenceMemAttIdeal.main_arg2) = m ((c.tc : Thread Cert.KernelMemAttIdeal.nD Cert.KernelMemAttIdeal.τ).loc Cert.KernelMemAttIdeal.main_arg2)
      ∧ m' ((c.tc : Thread Cert.ReferenceMemAttIdeal.nD Cert.ReferenceMemAttIdeal.τ).loc Cert.ReferenceMemAttIdeal.main_arg3) = m ((c.tc : Thread Cert.KernelMemAttIdeal.nD Cert.KernelMemAttIdeal.τ).loc Cert.KernelMemAttIdeal.main_arg3)) →
    ∃ (v0 : (c : Dev Cert.KernelMemAttIdeal.nD) → Buf (Elt Ideal) ((c.tc : Thread Cert.KernelMemAttIdeal.nD Cert.KernelMemAttIdeal.τ).loc Cert.KernelMemAttIdeal.main_v17_0)) (v1 : (c : Dev Cert.KernelMemAttIdeal.nD) → Buf (Elt Ideal) ((c.tc : Thread Cert.KernelMemAttIdeal.nD Cert.KernelMemAttIdeal.τ).loc Cert.KernelMemAttIdeal.main_v17_1)),
      θ_run (Cert.KernelMemAttIdeal.defs (F := Ideal)) (onTc (τ := Cert.KernelMemAttIdeal.τ) (Cert.KernelMemAttIdeal.main (F := Ideal))) ⟨m, fun _ => 0, g⟩ (fun r => ∀ c : Dev Cert.KernelMemAttIdeal.nD,
          r.2.mem ((c.tc : Thread Cert.KernelMemAttIdeal.nD Cert.KernelMemAttIdeal.τ).loc Cert.KernelMemAttIdeal.main_v17_0) = v0 c
          ∧ r.2.mem ((c.tc : Thread Cert.KernelMemAttIdeal.nD Cert.KernelMemAttIdeal.τ).loc Cert.KernelMemAttIdeal.main_v17_1) = v1 c
          ∧ r.2.mem ((c.tc : Thread Cert.KernelMemAttIdeal.nD Cert.KernelMemAttIdeal.τ).loc Cert.KernelMemAttIdeal.main_arg0) = m ((c.tc : Thread Cert.KernelMemAttIdeal.nD Cert.KernelMemAttIdeal.τ).loc Cert.KernelMemAttIdeal.main_arg0)
          ∧ r.2.mem ((c.tc : Thread Cert.KernelMemAttIdeal.nD Cert.KernelMemAttIdeal.τ).loc Cert.KernelMemAttIdeal.main_arg1) = m ((c.tc : Thread Cert.KernelMemAttIdeal.nD Cert.KernelMemAttIdeal.τ).loc Cert.KernelMemAttIdeal.main_arg1)
          ∧ r.2.mem ((c.tc : Thread Cert.KernelMemAttIdeal.nD Cert.KernelMemAttIdeal.τ).loc Cert.KernelMemAttIdeal.main_arg2) = m ((c.tc : Thread Cert.KernelMemAttIdeal.nD Cert.KernelMemAttIdeal.τ).loc Cert.KernelMemAttIdeal.main_arg2)
          ∧ r.2.mem ((c.tc : Thread Cert.KernelMemAttIdeal.nD Cert.KernelMemAttIdeal.τ).loc Cert.KernelMemAttIdeal.main_arg3) = m ((c.tc : Thread Cert.KernelMemAttIdeal.nD Cert.KernelMemAttIdeal.τ).loc Cert.KernelMemAttIdeal.main_arg3))
      ∧ θ_run (Cert.ReferenceMemAttIdeal.defs (F := Ideal)) (onTc (τ := Cert.ReferenceMemAttIdeal.τ) (Cert.ReferenceMemAttIdeal.main (F := Ideal))) ⟨m', fun _ => 0, g'⟩ (fun r => ∀ c : Dev Cert.ReferenceMemAttIdeal.nD,
          r.2.mem ((c.tc : Thread Cert.ReferenceMemAttIdeal.nD Cert.ReferenceMemAttIdeal.τ).loc Cert.ReferenceMemAttIdeal.main_v74) = v0 c
          ∧ r.2.mem ((c.tc : Thread Cert.ReferenceMemAttIdeal.nD Cert.ReferenceMemAttIdeal.τ).loc Cert.ReferenceMemAttIdeal.main_v69) = v1 c
          ∧ r.2.mem ((c.tc : Thread Cert.ReferenceMemAttIdeal.nD Cert.ReferenceMemAttIdeal.τ).loc Cert.ReferenceMemAttIdeal.main_arg0) = m' ((c.tc : Thread Cert.ReferenceMemAttIdeal.nD Cert.ReferenceMemAttIdeal.τ).loc Cert.ReferenceMemAttIdeal.main_arg0)
          ∧ r.2.mem ((c.tc : Thread Cert.ReferenceMemAttIdeal.nD Cert.ReferenceMemAttIdeal.τ).loc Cert.ReferenceMemAttIdeal.main_arg1) = m' ((c.tc : Thread Cert.ReferenceMemAttIdeal.nD Cert.ReferenceMemAttIdeal.τ).loc Cert.ReferenceMemAttIdeal.main_arg1)
          ∧ r.2.mem ((c.tc : Thread Cert.ReferenceMemAttIdeal.nD Cert.ReferenceMemAttIdeal.τ).loc Cert.ReferenceMemAttIdeal.main_arg2) = m' ((c.tc : Thread Cert.ReferenceMemAttIdeal.nD Cert.ReferenceMemAttIdeal.τ).loc Cert.ReferenceMemAttIdeal.main_arg2)
          ∧ r.2.mem ((c.tc : Thread Cert.ReferenceMemAttIdeal.nD Cert.ReferenceMemAttIdeal.τ).loc Cert.ReferenceMemAttIdeal.main_arg3) = m' ((c.tc : Thread Cert.ReferenceMemAttIdeal.nD Cert.ReferenceMemAttIdeal.τ).loc Cert.ReferenceMemAttIdeal.main_arg3))

def preserves_KernelMemKvFwd_KernelMemKvFwdIdeal : Prop :=
  True

def algebraic_KernelMemKvFwdIdeal_ReferenceMemKvFwdIdeal [hKernelMemKvFwdIdeal : Cert.KernelMemKvFwdIdeal.Facts] [hReferenceMemKvFwdIdeal : Cert.ReferenceMemKvFwdIdeal.Facts] : Prop :=
  ∀ (m : (ℓ : Loc Cert.KernelMemKvFwdIdeal.nD Cert.KernelMemKvFwdIdeal.τ Cert.KernelMemKvFwdIdeal.sig) → Buf (Elt Ideal) ℓ) (g : Dev Cert.KernelMemKvFwdIdeal.nD → PrngReg)
    (m' : (ℓ : Loc Cert.ReferenceMemKvFwdIdeal.nD Cert.ReferenceMemKvFwdIdeal.τ Cert.ReferenceMemKvFwdIdeal.sig) → Buf (Elt Ideal) ℓ) (g' : Dev Cert.ReferenceMemKvFwdIdeal.nD → PrngReg), Pre_KernelMemKvFwdIdeal m →
    (∀ c : Dev Cert.KernelMemKvFwdIdeal.nD,
      m' ((c.tc : Thread Cert.ReferenceMemKvFwdIdeal.nD Cert.ReferenceMemKvFwdIdeal.τ).loc Cert.ReferenceMemKvFwdIdeal.main_arg0) = m ((c.tc : Thread Cert.KernelMemKvFwdIdeal.nD Cert.KernelMemKvFwdIdeal.τ).loc Cert.KernelMemKvFwdIdeal.main_arg0)
      ∧ m' ((c.tc : Thread Cert.ReferenceMemKvFwdIdeal.nD Cert.ReferenceMemKvFwdIdeal.τ).loc Cert.ReferenceMemKvFwdIdeal.main_arg1) = m ((c.tc : Thread Cert.KernelMemKvFwdIdeal.nD Cert.KernelMemKvFwdIdeal.τ).loc Cert.KernelMemKvFwdIdeal.main_arg1)
      ∧ m' ((c.tc : Thread Cert.ReferenceMemKvFwdIdeal.nD Cert.ReferenceMemKvFwdIdeal.τ).loc Cert.ReferenceMemKvFwdIdeal.main_arg2) = m ((c.tc : Thread Cert.KernelMemKvFwdIdeal.nD Cert.KernelMemKvFwdIdeal.τ).loc Cert.KernelMemKvFwdIdeal.main_arg2)) →
    ∃ (v0 : (c : Dev Cert.KernelMemKvFwdIdeal.nD) → Buf (Elt Ideal) ((c.tc : Thread Cert.KernelMemKvFwdIdeal.nD Cert.KernelMemKvFwdIdeal.τ).loc Cert.KernelMemKvFwdIdeal.main_v2_0)) (v1 : (c : Dev Cert.KernelMemKvFwdIdeal.nD) → Buf (Elt Ideal) ((c.tc : Thread Cert.KernelMemKvFwdIdeal.nD Cert.KernelMemKvFwdIdeal.τ).loc Cert.KernelMemKvFwdIdeal.main_v2_1)),
      θ_run (Cert.KernelMemKvFwdIdeal.defs (F := Ideal)) (onTc (τ := Cert.KernelMemKvFwdIdeal.τ) (Cert.KernelMemKvFwdIdeal.main (F := Ideal))) ⟨m, fun _ => 0, g⟩ (fun r => ∀ c : Dev Cert.KernelMemKvFwdIdeal.nD,
          r.2.mem ((c.tc : Thread Cert.KernelMemKvFwdIdeal.nD Cert.KernelMemKvFwdIdeal.τ).loc Cert.KernelMemKvFwdIdeal.main_v2_0) = v0 c
          ∧ r.2.mem ((c.tc : Thread Cert.KernelMemKvFwdIdeal.nD Cert.KernelMemKvFwdIdeal.τ).loc Cert.KernelMemKvFwdIdeal.main_v2_1) = v1 c
          ∧ r.2.mem ((c.tc : Thread Cert.KernelMemKvFwdIdeal.nD Cert.KernelMemKvFwdIdeal.τ).loc Cert.KernelMemKvFwdIdeal.main_arg0) = m ((c.tc : Thread Cert.KernelMemKvFwdIdeal.nD Cert.KernelMemKvFwdIdeal.τ).loc Cert.KernelMemKvFwdIdeal.main_arg0)
          ∧ r.2.mem ((c.tc : Thread Cert.KernelMemKvFwdIdeal.nD Cert.KernelMemKvFwdIdeal.τ).loc Cert.KernelMemKvFwdIdeal.main_arg1) = m ((c.tc : Thread Cert.KernelMemKvFwdIdeal.nD Cert.KernelMemKvFwdIdeal.τ).loc Cert.KernelMemKvFwdIdeal.main_arg1)
          ∧ r.2.mem ((c.tc : Thread Cert.KernelMemKvFwdIdeal.nD Cert.KernelMemKvFwdIdeal.τ).loc Cert.KernelMemKvFwdIdeal.main_arg2) = m ((c.tc : Thread Cert.KernelMemKvFwdIdeal.nD Cert.KernelMemKvFwdIdeal.τ).loc Cert.KernelMemKvFwdIdeal.main_arg2))
      ∧ θ_run (Cert.ReferenceMemKvFwdIdeal.defs (F := Ideal)) (onTc (τ := Cert.ReferenceMemKvFwdIdeal.τ) (Cert.ReferenceMemKvFwdIdeal.main (F := Ideal))) ⟨m', fun _ => 0, g'⟩ (fun r => ∀ c : Dev Cert.ReferenceMemKvFwdIdeal.nD,
          r.2.mem ((c.tc : Thread Cert.ReferenceMemKvFwdIdeal.nD Cert.ReferenceMemKvFwdIdeal.τ).loc Cert.ReferenceMemKvFwdIdeal.main_v13) = v0 c
          ∧ r.2.mem ((c.tc : Thread Cert.ReferenceMemKvFwdIdeal.nD Cert.ReferenceMemKvFwdIdeal.τ).loc Cert.ReferenceMemKvFwdIdeal.main_v15) = v1 c
          ∧ r.2.mem ((c.tc : Thread Cert.ReferenceMemKvFwdIdeal.nD Cert.ReferenceMemKvFwdIdeal.τ).loc Cert.ReferenceMemKvFwdIdeal.main_arg0) = m' ((c.tc : Thread Cert.ReferenceMemKvFwdIdeal.nD Cert.ReferenceMemKvFwdIdeal.τ).loc Cert.ReferenceMemKvFwdIdeal.main_arg0)
          ∧ r.2.mem ((c.tc : Thread Cert.ReferenceMemKvFwdIdeal.nD Cert.ReferenceMemKvFwdIdeal.τ).loc Cert.ReferenceMemKvFwdIdeal.main_arg1) = m' ((c.tc : Thread Cert.ReferenceMemKvFwdIdeal.nD Cert.ReferenceMemKvFwdIdeal.τ).loc Cert.ReferenceMemKvFwdIdeal.main_arg1)
          ∧ r.2.mem ((c.tc : Thread Cert.ReferenceMemKvFwdIdeal.nD Cert.ReferenceMemKvFwdIdeal.τ).loc Cert.ReferenceMemKvFwdIdeal.main_arg2) = m' ((c.tc : Thread Cert.ReferenceMemKvFwdIdeal.nD Cert.ReferenceMemKvFwdIdeal.τ).loc Cert.ReferenceMemKvFwdIdeal.main_arg2))

def preserves_KernelFfnFwd_KernelFfnFwdIdeal : Prop :=
  True

def algebraic_KernelFfnFwdIdeal_ReferenceFfnFwdIdeal [hKernelFfnFwdIdeal : Cert.KernelFfnFwdIdeal.Facts] [hReferenceFfnFwdIdeal : Cert.ReferenceFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.ReferenceFfnFwdIdeal.nD Cert.ReferenceFfnFwdIdeal.τ Cert.ReferenceFfnFwdIdeal.sig) → Buf (Elt Ideal) ℓ) (g' : Dev Cert.ReferenceFfnFwdIdeal.nD → PrngReg), Pre_KernelFfnFwdIdeal m →
    (∀ c : Dev Cert.KernelFfnFwdIdeal.nD,
      m' ((c.tc : Thread Cert.ReferenceFfnFwdIdeal.nD Cert.ReferenceFfnFwdIdeal.τ).loc Cert.ReferenceFfnFwdIdeal.main_arg0) = m ((c.tc : Thread Cert.KernelFfnFwdIdeal.nD Cert.KernelFfnFwdIdeal.τ).loc Cert.KernelFfnFwdIdeal.main_arg0)
      ∧ m' ((c.tc : Thread Cert.ReferenceFfnFwdIdeal.nD Cert.ReferenceFfnFwdIdeal.τ).loc Cert.ReferenceFfnFwdIdeal.main_arg1) = m ((c.tc : Thread Cert.KernelFfnFwdIdeal.nD Cert.KernelFfnFwdIdeal.τ).loc Cert.KernelFfnFwdIdeal.main_arg1)
      ∧ m' ((c.tc : Thread Cert.ReferenceFfnFwdIdeal.nD Cert.ReferenceFfnFwdIdeal.τ).loc Cert.ReferenceFfnFwdIdeal.main_arg2) = m ((c.tc : Thread Cert.KernelFfnFwdIdeal.nD Cert.KernelFfnFwdIdeal.τ).loc Cert.KernelFfnFwdIdeal.main_arg2)
      ∧ m' ((c.tc : Thread Cert.ReferenceFfnFwdIdeal.nD Cert.ReferenceFfnFwdIdeal.τ).loc Cert.ReferenceFfnFwdIdeal.main_arg3) = m ((c.tc : Thread Cert.KernelFfnFwdIdeal.nD Cert.KernelFfnFwdIdeal.τ).loc Cert.KernelFfnFwdIdeal.main_arg3)
      ∧ m' ((c.tc : Thread Cert.ReferenceFfnFwdIdeal.nD Cert.ReferenceFfnFwdIdeal.τ).loc Cert.ReferenceFfnFwdIdeal.main_arg4) = m ((c.tc : Thread Cert.KernelFfnFwdIdeal.nD Cert.KernelFfnFwdIdeal.τ).loc Cert.KernelFfnFwdIdeal.main_arg4)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v4_0)) (v1 : (c : Dev Cert.KernelFfnFwdIdeal.nD) → Buf (Elt Ideal) ((c.tc : Thread Cert.KernelFfnFwdIdeal.nD Cert.KernelFfnFwdIdeal.τ).loc Cert.KernelFfnFwdIdeal.main_v4_1)) (v2 : (c : Dev Cert.KernelFfnFwdIdeal.nD) → Buf (Elt Ideal) ((c.tc : Thread Cert.KernelFfnFwdIdeal.nD Cert.KernelFfnFwdIdeal.τ).loc Cert.KernelFfnFwdIdeal.main_v4_2)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v4_0) = v0 c
          ∧ r.2.mem ((c.tc : Thread Cert.KernelFfnFwdIdeal.nD Cert.KernelFfnFwdIdeal.τ).loc Cert.KernelFfnFwdIdeal.main_v4_1) = v1 c
          ∧ r.2.mem ((c.tc : Thread Cert.KernelFfnFwdIdeal.nD Cert.KernelFfnFwdIdeal.τ).loc Cert.KernelFfnFwdIdeal.main_v4_2) = v2 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
          ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ θ_run (Cert.ReferenceFfnFwdIdeal.defs (F := Ideal)) (onTc (τ := Cert.ReferenceFfnFwdIdeal.τ) (Cert.ReferenceFfnFwdIdeal.main (F := Ideal))) ⟨m', fun _ => 0, g'⟩ (fun r => ∀ c : Dev Cert.ReferenceFfnFwdIdeal.nD,
          r.2.mem ((c.tc : Thread Cert.ReferenceFfnFwdIdeal.nD Cert.ReferenceFfnFwdIdeal.τ).loc Cert.ReferenceFfnFwdIdeal.main_v18) = v0 c
          ∧ r.2.mem ((c.tc : Thread Cert.ReferenceFfnFwdIdeal.nD Cert.ReferenceFfnFwdIdeal.τ).loc Cert.ReferenceFfnFwdIdeal.main_v4) = v1 c
          ∧ r.2.mem ((c.tc : Thread Cert.ReferenceFfnFwdIdeal.nD Cert.ReferenceFfnFwdIdeal.τ).loc Cert.ReferenceFfnFwdIdeal.main_v32) = v2 c
          ∧ r.2.mem ((c.tc : Thread Cert.ReferenceFfnFwdIdeal.nD Cert.ReferenceFfnFwdIdeal.τ).loc Cert.ReferenceFfnFwdIdeal.main_arg0) = m' ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1) = m' ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2) = m' ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3) = m' ((c.tc : Thread Cert.ReferenceFfnFwdIdeal.nD Cert.ReferenceFfnFwdIdeal.τ).loc Cert.ReferenceFfnFwdIdeal.main_arg3)
          ∧ r.2.mem ((c.tc : Thread Cert.ReferenceFfnFwdIdeal.nD Cert.ReferenceFfnFwdIdeal.τ).loc Cert.ReferenceFfnFwdIdeal.main_arg4) = m' ((c.tc : Thread Cert.ReferenceFfnFwdIdeal.nD Cert.ReferenceFfnFwdIdeal.τ).loc Cert.ReferenceFfnFwdIdeal.main_arg4))

def preserves_KernelMemAttFwd_KernelMemAttFwdIdeal : Prop :=
  True

def algebraic_KernelMemAttFwdIdeal_ReferenceMemAttFwdIdeal [hKernelMemAttFwdIdeal : Cert.KernelMemAttFwdIdeal.Facts] [hReferenceMemAttFwdIdeal : Cert.ReferenceMemAttFwdIdeal.Facts] : Prop :=
  ∀ (m : (ℓ : Loc Cert.KernelMemAttFwdIdeal.nD Cert.KernelMemAttFwdIdeal.τ Cert.KernelMemAttFwdIdeal.sig) → Buf (Elt Ideal) ℓ) (g : Dev Cert.KernelMemAttFwdIdeal.nD → PrngReg)
    (m' : (ℓ : Loc Cert.ReferenceMemAttFwdIdeal.nD Cert.ReferenceMemAttFwdIdeal.τ Cert.ReferenceMemAttFwdIdeal.sig) → Buf (Elt Ideal) ℓ) (g' : Dev Cert.ReferenceMemAttFwdIdeal.nD → PrngReg), Pre_KernelMemAttFwdIdeal m →
    (∀ c : Dev Cert.KernelMemAttFwdIdeal.nD,
      m' ((c.tc : Thread Cert.ReferenceMemAttFwdIdeal.nD Cert.ReferenceMemAttFwdIdeal.τ).loc Cert.ReferenceMemAttFwdIdeal.main_arg0) = m ((c.tc : Thread Cert.KernelMemAttFwdIdeal.nD Cert.KernelMemAttFwdIdeal.τ).loc Cert.KernelMemAttFwdIdeal.main_arg0)
      ∧ m' ((c.tc : Thread Cert.ReferenceMemAttFwdIdeal.nD Cert.ReferenceMemAttFwdIdeal.τ).loc Cert.ReferenceMemAttFwdIdeal.main_arg1) = m ((c.tc : Thread Cert.KernelMemAttFwdIdeal.nD Cert.KernelMemAttFwdIdeal.τ).loc Cert.KernelMemAttFwdIdeal.main_arg1)) →
    ∃ (v0 : (c : Dev Cert.KernelMemAttFwdIdeal.nD) → Buf (Elt Ideal) ((c.tc : Thread Cert.KernelMemAttFwdIdeal.nD Cert.KernelMemAttFwdIdeal.τ).loc Cert.KernelMemAttFwdIdeal.main_v15)),
      θ_run (Cert.KernelMemAttFwdIdeal.defs (F := Ideal)) (onTc (τ := Cert.KernelMemAttFwdIdeal.τ) (Cert.KernelMemAttFwdIdeal.main (F := Ideal))) ⟨m, fun _ => 0, g⟩ (fun r => ∀ c : Dev Cert.KernelMemAttFwdIdeal.nD,
          r.2.mem ((c.tc : Thread Cert.KernelMemAttFwdIdeal.nD Cert.KernelMemAttFwdIdeal.τ).loc Cert.KernelMemAttFwdIdeal.main_v15) = v0 c
          ∧ r.2.mem ((c.tc : Thread Cert.KernelMemAttFwdIdeal.nD Cert.KernelMemAttFwdIdeal.τ).loc Cert.KernelMemAttFwdIdeal.main_arg0) = m ((c.tc : Thread Cert.KernelMemAttFwdIdeal.nD Cert.KernelMemAttFwdIdeal.τ).loc Cert.KernelMemAttFwdIdeal.main_arg0)
          ∧ r.2.mem ((c.tc : Thread Cert.KernelMemAttFwdIdeal.nD Cert.KernelMemAttFwdIdeal.τ).loc Cert.KernelMemAttFwdIdeal.main_arg1) = m ((c.tc : Thread Cert.KernelMemAttFwdIdeal.nD Cert.KernelMemAttFwdIdeal.τ).loc Cert.KernelMemAttFwdIdeal.main_arg1))
      ∧ θ_run (Cert.ReferenceMemAttFwdIdeal.defs (F := Ideal)) (onTc (τ := Cert.ReferenceMemAttFwdIdeal.τ) (Cert.ReferenceMemAttFwdIdeal.main (F := Ideal))) ⟨m', fun _ => 0, g'⟩ (fun r => ∀ c : Dev Cert.ReferenceMemAttFwdIdeal.nD,
          r.2.mem ((c.tc : Thread Cert.ReferenceMemAttFwdIdeal.nD Cert.ReferenceMemAttFwdIdeal.τ).loc Cert.ReferenceMemAttFwdIdeal.main_v24) = v0 c
          ∧ r.2.mem ((c.tc : Thread Cert.ReferenceMemAttFwdIdeal.nD Cert.ReferenceMemAttFwdIdeal.τ).loc Cert.ReferenceMemAttFwdIdeal.main_arg0) = m' ((c.tc : Thread Cert.ReferenceMemAttFwdIdeal.nD Cert.ReferenceMemAttFwdIdeal.τ).loc Cert.ReferenceMemAttFwdIdeal.main_arg0)
          ∧ r.2.mem ((c.tc : Thread Cert.ReferenceMemAttFwdIdeal.nD Cert.ReferenceMemAttFwdIdeal.τ).loc Cert.ReferenceMemAttFwdIdeal.main_arg1) = m' ((c.tc : Thread Cert.ReferenceMemAttFwdIdeal.nD Cert.ReferenceMemAttFwdIdeal.τ).loc Cert.ReferenceMemAttFwdIdeal.main_arg1))

def preserves_KernelMergeFwd_KernelMergeFwdIdeal : Prop :=
  True

def algebraic_KernelMergeFwdIdeal_ReferenceMergeFwdIdeal [hKernelMergeFwdIdeal : Cert.KernelMergeFwdIdeal.Facts] [hReferenceMergeFwdIdeal : Cert.ReferenceMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg)
    (m' : (ℓ : Loc Cert.ReferenceMergeFwdIdeal.nD Cert.ReferenceMergeFwdIdeal.τ Cert.ReferenceMergeFwdIdeal.sig) → Buf (Elt Ideal) ℓ) (g' : Dev Cert.ReferenceMergeFwdIdeal.nD → PrngReg), Pre_KernelMergeFwdIdeal m →
    (∀ c : Dev Cert.KernelMergeFwdIdeal.nD,
      m' ((c.tc : Thread Cert.ReferenceMergeFwdIdeal.nD Cert.ReferenceMergeFwdIdeal.τ).loc Cert.ReferenceMergeFwdIdeal.main_arg0) = m ((c.tc : Thread Cert.KernelMergeFwdIdeal.nD Cert.KernelMergeFwdIdeal.τ).loc Cert.KernelMergeFwdIdeal.main_arg0)
      ∧ m' ((c.tc : Thread Cert.ReferenceMergeFwdIdeal.nD Cert.ReferenceMergeFwdIdeal.τ).loc Cert.ReferenceMergeFwdIdeal.main_arg1) = m ((c.tc : Thread Cert.KernelMergeFwdIdeal.nD Cert.KernelMergeFwdIdeal.τ).loc Cert.KernelMergeFwdIdeal.main_arg1)
      ∧ m' ((c.tc : Thread Cert.ReferenceMergeFwdIdeal.nD Cert.ReferenceMergeFwdIdeal.τ).loc Cert.ReferenceMergeFwdIdeal.main_arg2) = m ((c.tc : Thread Cert.KernelMergeFwdIdeal.nD Cert.KernelMergeFwdIdeal.τ).loc Cert.KernelMergeFwdIdeal.main_arg2)
      ∧ m' ((c.tc : Thread Cert.ReferenceMergeFwdIdeal.nD Cert.ReferenceMergeFwdIdeal.τ).loc Cert.ReferenceMergeFwdIdeal.main_arg3) = m ((c.tc : Thread Cert.KernelMergeFwdIdeal.nD Cert.KernelMergeFwdIdeal.τ).loc Cert.KernelMergeFwdIdeal.main_arg3)
      ∧ m' ((c.tc : Thread Cert.ReferenceMergeFwdIdeal.nD Cert.ReferenceMergeFwdIdeal.τ).loc Cert.ReferenceMergeFwdIdeal.main_arg4) = m ((c.tc : Thread Cert.KernelMergeFwdIdeal.nD Cert.KernelMergeFwdIdeal.τ).loc Cert.KernelMergeFwdIdeal.main_arg4)
      ∧ m' ((c.tc : Thread Cert.ReferenceMergeFwdIdeal.nD Cert.ReferenceMergeFwdIdeal.τ).loc Cert.ReferenceMergeFwdIdeal.main_arg5) = m ((c.tc : Thread Cert.KernelMergeFwdIdeal.nD Cert.KernelMergeFwdIdeal.τ).loc Cert.KernelMergeFwdIdeal.main_arg5)
      ∧ m' ((c.tc : Thread Cert.ReferenceMergeFwdIdeal.nD Cert.ReferenceMergeFwdIdeal.τ).loc Cert.ReferenceMergeFwdIdeal.main_arg6) = m ((c.tc : Thread Cert.KernelMergeFwdIdeal.nD Cert.KernelMergeFwdIdeal.τ).loc Cert.KernelMergeFwdIdeal.main_arg6)
      ∧ m' ((c.tc : Thread Cert.ReferenceMergeFwdIdeal.nD Cert.ReferenceMergeFwdIdeal.τ).loc Cert.ReferenceMergeFwdIdeal.main_arg7) = m ((c.tc : Thread Cert.KernelMergeFwdIdeal.nD Cert.KernelMergeFwdIdeal.τ).loc Cert.KernelMergeFwdIdeal.main_arg7)
      ∧ m' ((c.tc : Thread Cert.ReferenceMergeFwdIdeal.nD Cert.ReferenceMergeFwdIdeal.τ).loc Cert.ReferenceMergeFwdIdeal.main_arg8) = m ((c.tc : Thread Cert.KernelMergeFwdIdeal.nD Cert.KernelMergeFwdIdeal.τ).loc Cert.KernelMergeFwdIdeal.main_arg8)
      ∧ m' ((c.tc : Thread Cert.ReferenceMergeFwdIdeal.nD Cert.ReferenceMergeFwdIdeal.τ).loc Cert.ReferenceMergeFwdIdeal.main_arg9) = m ((c.tc : Thread Cert.KernelMergeFwdIdeal.nD Cert.KernelMergeFwdIdeal.τ).loc Cert.KernelMergeFwdIdeal.main_arg9)
      ∧ m' ((c.tc : Thread Cert.ReferenceMergeFwdIdeal.nD Cert.ReferenceMergeFwdIdeal.τ).loc Cert.ReferenceMergeFwdIdeal.main_arg10) = m ((c.tc : Thread Cert.KernelMergeFwdIdeal.nD Cert.KernelMergeFwdIdeal.τ).loc Cert.KernelMergeFwdIdeal.main_arg10)
      ∧ m' ((c.tc : Thread Cert.ReferenceMergeFwdIdeal.nD Cert.ReferenceMergeFwdIdeal.τ).loc Cert.ReferenceMergeFwdIdeal.main_arg11) = m ((c.tc : Thread Cert.KernelMergeFwdIdeal.nD Cert.KernelMergeFwdIdeal.τ).loc Cert.KernelMergeFwdIdeal.main_arg11)) →
    ∃ (v0 : (c : Dev Cert.KernelMergeFwdIdeal.nD) → Buf (Elt Ideal) ((c.tc : Thread Cert.KernelMergeFwdIdeal.nD Cert.KernelMergeFwdIdeal.τ).loc Cert.KernelMergeFwdIdeal.main_v24_0)) (v1 : (c : Dev Cert.KernelMergeFwdIdeal.nD) → Buf (Elt Ideal) ((c.tc : Thread Cert.KernelMergeFwdIdeal.nD Cert.KernelMergeFwdIdeal.τ).loc Cert.KernelMergeFwdIdeal.main_v24_1)) (v2 : (c : Dev Cert.KernelMergeFwdIdeal.nD) → Buf (Elt Ideal) ((c.tc : Thread Cert.KernelMergeFwdIdeal.nD Cert.KernelMergeFwdIdeal.τ).loc Cert.KernelMergeFwdIdeal.main_v24_2)) (v3 : (c : Dev Cert.KernelMergeFwdIdeal.nD) → Buf (Elt Ideal) ((c.tc : Thread Cert.KernelMergeFwdIdeal.nD Cert.KernelMergeFwdIdeal.τ).loc Cert.KernelMergeFwdIdeal.main_v24_3)),
      θ_run (Cert.KernelMergeFwdIdeal.defs (F := Ideal)) (onTc (τ := Cert.KernelMergeFwdIdeal.τ) (Cert.KernelMergeFwdIdeal.main (F := Ideal))) ⟨m, fun _ => 0, g⟩ (fun r => ∀ c : Dev Cert.KernelMergeFwdIdeal.nD,
          r.2.mem ((c.tc : Thread Cert.KernelMergeFwdIdeal.nD Cert.KernelMergeFwdIdeal.τ).loc Cert.KernelMergeFwdIdeal.main_v24_0) = v0 c
          ∧ r.2.mem ((c.tc : Thread Cert.KernelMergeFwdIdeal.nD Cert.KernelMergeFwdIdeal.τ).loc Cert.KernelMergeFwdIdeal.main_v24_1) = v1 c
          ∧ r.2.mem ((c.tc : Thread Cert.KernelMergeFwdIdeal.nD Cert.KernelMergeFwdIdeal.τ).loc Cert.KernelMergeFwdIdeal.main_v24_2) = v2 c
          ∧ r.2.mem ((c.tc : Thread Cert.KernelMergeFwdIdeal.nD Cert.KernelMergeFwdIdeal.τ).loc Cert.KernelMergeFwdIdeal.main_v24_3) = v3 c
          ∧ r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
          ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
          ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
          ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3)
          ∧ r.2.mem ((c.tc : Thread Cert.KernelMergeFwdIdeal.nD Cert.KernelMergeFwdIdeal.τ).loc Cert.KernelMergeFwdIdeal.main_arg4) = m ((c.tc : Thread Cert.KernelMergeFwdIdeal.nD Cert.KernelMergeFwdIdeal.τ).loc Cert.KernelMergeFwdIdeal.main_arg4)
          ∧ r.2.mem ((c.tc : Thread Cert.KernelMergeFwdIdeal.nD Cert.KernelMergeFwdIdeal.τ).loc Cert.KernelMergeFwdIdeal.main_arg5) = m ((c.tc : Thread Cert.KernelMergeFwdIdeal.nD Cert.KernelMergeFwdIdeal.τ).loc Cert.KernelMergeFwdIdeal.main_arg5)
          ∧ r.2.mem ((c.tc : Thread Cert.KernelMergeFwdIdeal.nD Cert.KernelMergeFwdIdeal.τ).loc Cert.KernelMergeFwdIdeal.main_arg6) = m ((c.tc : Thread Cert.KernelMergeFwdIdeal.nD Cert.KernelMergeFwdIdeal.τ).loc Cert.KernelMergeFwdIdeal.main_arg6)
          ∧ r.2.mem ((c.tc : Thread Cert.KernelMergeFwdIdeal.nD Cert.KernelMergeFwdIdeal.τ).loc Cert.KernelMergeFwdIdeal.main_arg7) = m ((c.tc : Thread Cert.KernelMergeFwdIdeal.nD Cert.KernelMergeFwdIdeal.τ).loc Cert.KernelMergeFwdIdeal.main_arg7)
          ∧ r.2.mem ((c.tc : Thread Cert.KernelMergeFwdIdeal.nD Cert.KernelMergeFwdIdeal.τ).loc Cert.KernelMergeFwdIdeal.main_arg8) = m ((c.tc : Thread Cert.KernelMergeFwdIdeal.nD Cert.KernelMergeFwdIdeal.τ).loc Cert.KernelMergeFwdIdeal.main_arg8)
          ∧ r.2.mem ((c.tc : Thread Cert.KernelMergeFwdIdeal.nD Cert.KernelMergeFwdIdeal.τ).loc Cert.KernelMergeFwdIdeal.main_arg9) = m ((c.tc : Thread Cert.KernelMergeFwdIdeal.nD Cert.KernelMergeFwdIdeal.τ).loc Cert.KernelMergeFwdIdeal.main_arg9)
          ∧ r.2.mem ((c.tc : Thread Cert.KernelMergeFwdIdeal.nD Cert.KernelMergeFwdIdeal.τ).loc Cert.KernelMergeFwdIdeal.main_arg10) = m ((c.tc : Thread Cert.KernelMergeFwdIdeal.nD Cert.KernelMergeFwdIdeal.τ).loc Cert.KernelMergeFwdIdeal.main_arg10)
          ∧ r.2.mem ((c.tc : Thread Cert.KernelMergeFwdIdeal.nD Cert.KernelMergeFwdIdeal.τ).loc Cert.KernelMergeFwdIdeal.main_arg11) = m ((c.tc : Thread Cert.KernelMergeFwdIdeal.nD Cert.KernelMergeFwdIdeal.τ).loc Cert.KernelMergeFwdIdeal.main_arg11))
      ∧ θ_run (Cert.ReferenceMergeFwdIdeal.defs (F := Ideal)) (onTc (τ := Cert.ReferenceMergeFwdIdeal.τ) (Cert.ReferenceMergeFwdIdeal.main (F := Ideal))) ⟨m', fun _ => 0, g'⟩ (fun r => ∀ c : Dev Cert.ReferenceMergeFwdIdeal.nD,
          r.2.mem ((c.tc : Thread Cert.ReferenceMergeFwdIdeal.nD Cert.ReferenceMergeFwdIdeal.τ).loc Cert.ReferenceMergeFwdIdeal.main_v39) = v0 c
          ∧ r.2.mem ((c.tc : Thread Cert.ReferenceMergeFwdIdeal.nD Cert.ReferenceMergeFwdIdeal.τ).loc Cert.ReferenceMergeFwdIdeal.main_v40) = v1 c
          ∧ r.2.mem ((c.tc : Thread Cert.ReferenceMergeFwdIdeal.nD Cert.ReferenceMergeFwdIdeal.τ).loc Cert.ReferenceMergeFwdIdeal.main_v25) = v2 c
          ∧ r.2.mem ((c.tc : Thread Cert.ReferenceMergeFwdIdeal.nD Cert.ReferenceMergeFwdIdeal.τ).loc Cert.ReferenceMergeFwdIdeal.main_v54) = v3 c
          ∧ r.2.mem ((c.tc : Thread Cert.ReferenceMergeFwdIdeal.nD Cert.ReferenceMergeFwdIdeal.τ).loc Cert.ReferenceMergeFwdIdeal.main_arg0) = m' ((c.tc : Thread Cert.ReferenceMergeFwdIdeal.nD Cert.ReferenceMergeFwdIdeal.τ).loc Cert.ReferenceMergeFwdIdeal.main_arg0)
          ∧ r.2.mem ((c.tc : Thread Cert.ReferenceMergeFwdIdeal.nD Cert.ReferenceMergeFwdIdeal.τ).loc Cert.ReferenceMergeFwdIdeal.main_arg1) = m' ((c.tc : Thread Cert.ReferenceMergeFwdIdeal.nD Cert.ReferenceMergeFwdIdeal.τ).loc Cert.ReferenceMergeFwdIdeal.main_arg1)
          ∧ r.2.mem ((c.tc : Thread Cert.ReferenceMergeFwdIdeal.nD Cert.ReferenceMergeFwdIdeal.τ).loc Cert.ReferenceMergeFwdIdeal.main_arg2) = m' ((c.tc : Thread Cert.ReferenceMergeFwdIdeal.nD Cert.ReferenceMergeFwdIdeal.τ).loc Cert.ReferenceMergeFwdIdeal.main_arg2)
          ∧ r.2.mem ((c.tc : Thread Cert.ReferenceMergeFwdIdeal.nD Cert.ReferenceMergeFwdIdeal.τ).loc Cert.ReferenceMergeFwdIdeal.main_arg3) = m' ((c.tc : Thread Cert.ReferenceMergeFwdIdeal.nD Cert.ReferenceMergeFwdIdeal.τ).loc Cert.ReferenceMergeFwdIdeal.main_arg3)
          ∧ r.2.mem ((c.tc : Thread Cert.ReferenceMergeFwdIdeal.nD Cert.ReferenceMergeFwdIdeal.τ).loc Cert.ReferenceMergeFwdIdeal.main_arg4) = m' ((c.tc : Thread Cert.ReferenceMergeFwdIdeal.nD Cert.ReferenceMergeFwdIdeal.τ).loc Cert.ReferenceMergeFwdIdeal.main_arg4)
          ∧ r.2.mem ((c.tc : Thread Cert.ReferenceMergeFwdIdeal.nD Cert.ReferenceMergeFwdIdeal.τ).loc Cert.ReferenceMergeFwdIdeal.main_arg5) = m' ((c.tc : Thread Cert.ReferenceMergeFwdIdeal.nD Cert.ReferenceMergeFwdIdeal.τ).loc Cert.ReferenceMergeFwdIdeal.main_arg5)
          ∧ r.2.mem ((c.tc : Thread Cert.ReferenceMergeFwdIdeal.nD Cert.ReferenceMergeFwdIdeal.τ).loc Cert.ReferenceMergeFwdIdeal.main_arg6) = m' ((c.tc : Thread Cert.ReferenceMergeFwdIdeal.nD Cert.ReferenceMergeFwdIdeal.τ).loc Cert.ReferenceMergeFwdIdeal.main_arg6)
          ∧ r.2.mem ((c.tc : Thread Cert.ReferenceMergeFwdIdeal.nD Cert.ReferenceMergeFwdIdeal.τ).loc Cert.ReferenceMergeFwdIdeal.main_arg7) = m' ((c.tc : Thread Cert.ReferenceMergeFwdIdeal.nD Cert.ReferenceMergeFwdIdeal.τ).loc Cert.ReferenceMergeFwdIdeal.main_arg7)
          ∧ r.2.mem ((c.tc : Thread Cert.ReferenceMergeFwdIdeal.nD Cert.ReferenceMergeFwdIdeal.τ).loc Cert.ReferenceMergeFwdIdeal.main_arg8) = m' ((c.tc : Thread Cert.ReferenceMergeFwdIdeal.nD Cert.ReferenceMergeFwdIdeal.τ).loc Cert.ReferenceMergeFwdIdeal.main_arg8)
          ∧ r.2.mem ((c.tc : Thread Cert.ReferenceMergeFwdIdeal.nD Cert.ReferenceMergeFwdIdeal.τ).loc Cert.ReferenceMergeFwdIdeal.main_arg9) = m' ((c.tc : Thread Cert.ReferenceMergeFwdIdeal.nD Cert.ReferenceMergeFwdIdeal.τ).loc Cert.ReferenceMergeFwdIdeal.main_arg9)
          ∧ r.2.mem ((c.tc : Thread Cert.ReferenceMergeFwdIdeal.nD Cert.ReferenceMergeFwdIdeal.τ).loc Cert.ReferenceMergeFwdIdeal.main_arg10) = m' ((c.tc : Thread Cert.ReferenceMergeFwdIdeal.nD Cert.ReferenceMergeFwdIdeal.τ).loc Cert.ReferenceMergeFwdIdeal.main_arg10)
          ∧ r.2.mem ((c.tc : Thread Cert.ReferenceMergeFwdIdeal.nD Cert.ReferenceMergeFwdIdeal.τ).loc Cert.ReferenceMergeFwdIdeal.main_arg11) = m' ((c.tc : Thread Cert.ReferenceMergeFwdIdeal.nD Cert.ReferenceMergeFwdIdeal.τ).loc Cert.ReferenceMergeFwdIdeal.main_arg11))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelConvDw_KernelConvDwIdeal : Prop :=
  True

def preserves_KernelConv_KernelConvIdeal : Prop :=
  True

def preserves_KernelAttPrep_KernelAttPrepIdeal : Prop :=
  True

def algebraic_KernelAttPrepIdeal_ReferenceAttPrepIdeal [hKernelAttPrepIdeal : Cert.KernelAttPrepIdeal.Facts] [hReferenceAttPrepIdeal : Cert.ReferenceAttPrepIdeal.Facts] : Prop :=
  ∀ (m : (ℓ : Loc Cert.KernelAttPrepIdeal.nD Cert.KernelAttPrepIdeal.τ Cert.KernelAttPrepIdeal.sig) → Buf (Elt Ideal) ℓ) (g : Dev Cert.KernelAttPrepIdeal.nD → PrngReg)
    (m' : (ℓ : Loc Cert.ReferenceAttPrepIdeal.nD Cert.ReferenceAttPrepIdeal.τ Cert.ReferenceAttPrepIdeal.sig) → Buf (Elt Ideal) ℓ) (g' : Dev Cert.ReferenceAttPrepIdeal.nD → PrngReg), Pre_KernelAttPrepIdeal m →
    (∀ c : Dev Cert.KernelAttPrepIdeal.nD,
      m' ((c.tc : Thread Cert.ReferenceAttPrepIdeal.nD Cert.ReferenceAttPrepIdeal.τ).loc Cert.ReferenceAttPrepIdeal.main_arg0) = m ((c.tc : Thread Cert.KernelAttPrepIdeal.nD Cert.KernelAttPrepIdeal.τ).loc Cert.KernelAttPrepIdeal.main_arg0)
      ∧ m' ((c.tc : Thread Cert.ReferenceAttPrepIdeal.nD Cert.ReferenceAttPrepIdeal.τ).loc Cert.ReferenceAttPrepIdeal.main_arg1) = m ((c.tc : Thread Cert.KernelAttPrepIdeal.nD Cert.KernelAttPrepIdeal.τ).loc Cert.KernelAttPrepIdeal.main_arg1)
      ∧ m' ((c.tc : Thread Cert.ReferenceAttPrepIdeal.nD Cert.ReferenceAttPrepIdeal.τ).loc Cert.ReferenceAttPrepIdeal.main_arg2) = m ((c.tc : Thread Cert.KernelAttPrepIdeal.nD Cert.KernelAttPrepIdeal.τ).loc Cert.KernelAttPrepIdeal.main_arg2)
      ∧ m' ((c.tc : Thread Cert.ReferenceAttPrepIdeal.nD Cert.ReferenceAttPrepIdeal.τ).loc Cert.ReferenceAttPrepIdeal.main_arg3) = m ((c.tc : Thread Cert.KernelAttPrepIdeal.nD Cert.KernelAttPrepIdeal.τ).loc Cert.KernelAttPrepIdeal.main_arg3)
      ∧ m' ((c.tc : Thread Cert.ReferenceAttPrepIdeal.nD Cert.ReferenceAttPrepIdeal.τ).loc Cert.ReferenceAttPrepIdeal.main_arg4) = m ((c.tc : Thread Cert.KernelAttPrepIdeal.nD Cert.KernelAttPrepIdeal.τ).loc Cert.KernelAttPrepIdeal.main_arg4)
      ∧ m' ((c.tc : Thread Cert.ReferenceAttPrepIdeal.nD Cert.ReferenceAttPrepIdeal.τ).loc Cert.ReferenceAttPrepIdeal.main_arg5) = m ((c.tc : Thread Cert.KernelAttPrepIdeal.nD Cert.KernelAttPrepIdeal.τ).loc Cert.KernelAttPrepIdeal.main_arg5)
      ∧ m' ((c.tc : Thread Cert.ReferenceAttPrepIdeal.nD Cert.ReferenceAttPrepIdeal.τ).loc Cert.ReferenceAttPrepIdeal.main_arg6) = m ((c.tc : Thread Cert.KernelAttPrepIdeal.nD Cert.KernelAttPrepIdeal.τ).loc Cert.KernelAttPrepIdeal.main_arg6)) →
    ∃ (v0 : (c : Dev Cert.KernelAttPrepIdeal.nD) → Buf (Elt Ideal) ((c.tc : Thread Cert.KernelAttPrepIdeal.nD Cert.KernelAttPrepIdeal.τ).loc Cert.KernelAttPrepIdeal.main_v40)),
      θ_run (Cert.KernelAttPrepIdeal.defs (F := Ideal)) (onTc (τ := Cert.KernelAttPrepIdeal.τ) (Cert.KernelAttPrepIdeal.main (F := Ideal))) ⟨m, fun _ => 0, g⟩ (fun r => ∀ c : Dev Cert.KernelAttPrepIdeal.nD,
          r.2.mem ((c.tc : Thread Cert.KernelAttPrepIdeal.nD Cert.KernelAttPrepIdeal.τ).loc Cert.KernelAttPrepIdeal.main_v40) = v0 c
          ∧ r.2.mem ((c.tc : Thread Cert.KernelAttPrepIdeal.nD Cert.KernelAttPrepIdeal.τ).loc Cert.KernelAttPrepIdeal.main_arg0) = m ((c.tc : Thread Cert.KernelAttPrepIdeal.nD Cert.KernelAttPrepIdeal.τ).loc Cert.KernelAttPrepIdeal.main_arg0)
          ∧ r.2.mem ((c.tc : Thread Cert.KernelAttPrepIdeal.nD Cert.KernelAttPrepIdeal.τ).loc Cert.KernelAttPrepIdeal.main_arg1) = m ((c.tc : Thread Cert.KernelAttPrepIdeal.nD Cert.KernelAttPrepIdeal.τ).loc Cert.KernelAttPrepIdeal.main_arg1)
          ∧ r.2.mem ((c.tc : Thread Cert.KernelAttPrepIdeal.nD Cert.KernelAttPrepIdeal.τ).loc Cert.KernelAttPrepIdeal.main_arg2) = m ((c.tc : Thread Cert.KernelAttPrepIdeal.nD Cert.KernelAttPrepIdeal.τ).loc Cert.KernelAttPrepIdeal.main_arg2)
          ∧ r.2.mem ((c.tc : Thread Cert.KernelAttPrepIdeal.nD Cert.KernelAttPrepIdeal.τ).loc Cert.KernelAttPrepIdeal.main_arg3) = m ((c.tc : Thread Cert.KernelAttPrepIdeal.nD Cert.KernelAttPrepIdeal.τ).loc Cert.KernelAttPrepIdeal.main_arg3)
          ∧ r.2.mem ((c.tc : Thread Cert.KernelAttPrepIdeal.nD Cert.KernelAttPrepIdeal.τ).loc Cert.KernelAttPrepIdeal.main_arg4) = m ((c.tc : Thread Cert.KernelAttPrepIdeal.nD Cert.KernelAttPrepIdeal.τ).loc Cert.KernelAttPrepIdeal.main_arg4)
          ∧ r.2.mem ((c.tc : Thread Cert.KernelAttPrepIdeal.nD Cert.KernelAttPrepIdeal.τ).loc Cert.KernelAttPrepIdeal.main_arg5) = m ((c.tc : Thread Cert.KernelAttPrepIdeal.nD Cert.KernelAttPrepIdeal.τ).loc Cert.KernelAttPrepIdeal.main_arg5)
          ∧ r.2.mem ((c.tc : Thread Cert.KernelAttPrepIdeal.nD Cert.KernelAttPrepIdeal.τ).loc Cert.KernelAttPrepIdeal.main_arg6) = m ((c.tc : Thread Cert.KernelAttPrepIdeal.nD Cert.KernelAttPrepIdeal.τ).loc Cert.KernelAttPrepIdeal.main_arg6))
      ∧ θ_run (Cert.ReferenceAttPrepIdeal.defs (F := Ideal)) (onTc (τ := Cert.ReferenceAttPrepIdeal.τ) (Cert.ReferenceAttPrepIdeal.main (F := Ideal))) ⟨m', fun _ => 0, g'⟩ (fun r => ∀ c : Dev Cert.ReferenceAttPrepIdeal.nD,
          r.2.mem ((c.tc : Thread Cert.ReferenceAttPrepIdeal.nD Cert.ReferenceAttPrepIdeal.τ).loc Cert.ReferenceAttPrepIdeal.main_v48) = v0 c
          ∧ r.2.mem ((c.tc : Thread Cert.ReferenceAttPrepIdeal.nD Cert.ReferenceAttPrepIdeal.τ).loc Cert.ReferenceAttPrepIdeal.main_arg0) = m' ((c.tc : Thread Cert.ReferenceAttPrepIdeal.nD Cert.ReferenceAttPrepIdeal.τ).loc Cert.ReferenceAttPrepIdeal.main_arg0)
          ∧ r.2.mem ((c.tc : Thread Cert.ReferenceAttPrepIdeal.nD Cert.ReferenceAttPrepIdeal.τ).loc Cert.ReferenceAttPrepIdeal.main_arg1) = m' ((c.tc : Thread Cert.ReferenceAttPrepIdeal.nD Cert.ReferenceAttPrepIdeal.τ).loc Cert.ReferenceAttPrepIdeal.main_arg1)
          ∧ r.2.mem ((c.tc : Thread Cert.ReferenceAttPrepIdeal.nD Cert.ReferenceAttPrepIdeal.τ).loc Cert.ReferenceAttPrepIdeal.main_arg2) = m' ((c.tc : Thread Cert.ReferenceAttPrepIdeal.nD Cert.ReferenceAttPrepIdeal.τ).loc Cert.ReferenceAttPrepIdeal.main_arg2)
          ∧ r.2.mem ((c.tc : Thread Cert.ReferenceAttPrepIdeal.nD Cert.ReferenceAttPrepIdeal.τ).loc Cert.ReferenceAttPrepIdeal.main_arg3) = m' ((c.tc : Thread Cert.ReferenceAttPrepIdeal.nD Cert.ReferenceAttPrepIdeal.τ).loc Cert.ReferenceAttPrepIdeal.main_arg3)
          ∧ r.2.mem ((c.tc : Thread Cert.ReferenceAttPrepIdeal.nD Cert.ReferenceAttPrepIdeal.τ).loc Cert.ReferenceAttPrepIdeal.main_arg4) = m' ((c.tc : Thread Cert.ReferenceAttPrepIdeal.nD Cert.ReferenceAttPrepIdeal.τ).loc Cert.ReferenceAttPrepIdeal.main_arg4)
          ∧ r.2.mem ((c.tc : Thread Cert.ReferenceAttPrepIdeal.nD Cert.ReferenceAttPrepIdeal.τ).loc Cert.ReferenceAttPrepIdeal.main_arg5) = m' ((c.tc : Thread Cert.ReferenceAttPrepIdeal.nD Cert.ReferenceAttPrepIdeal.τ).loc Cert.ReferenceAttPrepIdeal.main_arg5)
          ∧ r.2.mem ((c.tc : Thread Cert.ReferenceAttPrepIdeal.nD Cert.ReferenceAttPrepIdeal.τ).loc Cert.ReferenceAttPrepIdeal.main_arg6) = m' ((c.tc : Thread Cert.ReferenceAttPrepIdeal.nD Cert.ReferenceAttPrepIdeal.τ).loc Cert.ReferenceAttPrepIdeal.main_arg6))

def preserves_KernelAttCombine_KernelAttCombineIdeal : Prop :=
  True

def algebraic_KernelAttCombineIdeal_ReferenceAttCombineIdeal [hKernelAttCombineIdeal : Cert.KernelAttCombineIdeal.Facts] [hReferenceAttCombineIdeal : Cert.ReferenceAttCombineIdeal.Facts] : Prop :=
  ∀ (m : (ℓ : Loc Cert.KernelAttCombineIdeal.nD Cert.KernelAttCombineIdeal.τ Cert.KernelAttCombineIdeal.sig) → Buf (Elt Ideal) ℓ) (g : Dev Cert.KernelAttCombineIdeal.nD → PrngReg)
    (m' : (ℓ : Loc Cert.ReferenceAttCombineIdeal.nD Cert.ReferenceAttCombineIdeal.τ Cert.ReferenceAttCombineIdeal.sig) → Buf (Elt Ideal) ℓ) (g' : Dev Cert.ReferenceAttCombineIdeal.nD → PrngReg), Pre_KernelAttCombineIdeal m →
    (∀ c : Dev Cert.KernelAttCombineIdeal.nD,
      m' ((c.tc : Thread Cert.ReferenceAttCombineIdeal.nD Cert.ReferenceAttCombineIdeal.τ).loc Cert.ReferenceAttCombineIdeal.main_arg0) = m ((c.tc : Thread Cert.KernelAttCombineIdeal.nD Cert.KernelAttCombineIdeal.τ).loc Cert.KernelAttCombineIdeal.main_arg0)
      ∧ m' ((c.tc : Thread Cert.ReferenceAttCombineIdeal.nD Cert.ReferenceAttCombineIdeal.τ).loc Cert.ReferenceAttCombineIdeal.main_arg1) = m ((c.tc : Thread Cert.KernelAttCombineIdeal.nD Cert.KernelAttCombineIdeal.τ).loc Cert.KernelAttCombineIdeal.main_arg1)
      ∧ m' ((c.tc : Thread Cert.ReferenceAttCombineIdeal.nD Cert.ReferenceAttCombineIdeal.τ).loc Cert.ReferenceAttCombineIdeal.main_arg2) = m ((c.tc : Thread Cert.KernelAttCombineIdeal.nD Cert.KernelAttCombineIdeal.τ).loc Cert.KernelAttCombineIdeal.main_arg2)
      ∧ m' ((c.tc : Thread Cert.ReferenceAttCombineIdeal.nD Cert.ReferenceAttCombineIdeal.τ).loc Cert.ReferenceAttCombineIdeal.main_arg3) = m ((c.tc : Thread Cert.KernelAttCombineIdeal.nD Cert.KernelAttCombineIdeal.τ).loc Cert.KernelAttCombineIdeal.main_arg3)
      ∧ m' ((c.tc : Thread Cert.ReferenceAttCombineIdeal.nD Cert.ReferenceAttCombineIdeal.τ).loc Cert.ReferenceAttCombineIdeal.main_arg4) = m ((c.tc : Thread Cert.KernelAttCombineIdeal.nD Cert.KernelAttCombineIdeal.τ).loc Cert.KernelAttCombineIdeal.main_arg4)
      ∧ m' ((c.tc : Thread Cert.ReferenceAttCombineIdeal.nD Cert.ReferenceAttCombineIdeal.τ).loc Cert.ReferenceAttCombineIdeal.main_arg5) = m ((c.tc : Thread Cert.KernelAttCombineIdeal.nD Cert.KernelAttCombineIdeal.τ).loc Cert.KernelAttCombineIdeal.main_arg5)) →
    ∃ (v0 : (c : Dev Cert.KernelAttCombineIdeal.nD) → Buf (Elt Ideal) ((c.tc : Thread Cert.KernelAttCombineIdeal.nD Cert.KernelAttCombineIdeal.τ).loc Cert.KernelAttCombineIdeal.main_v12_0)) (v1 : (c : Dev Cert.KernelAttCombineIdeal.nD) → Buf (Elt Ideal) ((c.tc : Thread Cert.KernelAttCombineIdeal.nD Cert.KernelAttCombineIdeal.τ).loc Cert.KernelAttCombineIdeal.main_v12_1)),
      θ_run (Cert.KernelAttCombineIdeal.defs (F := Ideal)) (onTc (τ := Cert.KernelAttCombineIdeal.τ) (Cert.KernelAttCombineIdeal.main (F := Ideal))) ⟨m, fun _ => 0, g⟩ (fun r => ∀ c : Dev Cert.KernelAttCombineIdeal.nD,
          r.2.mem ((c.tc : Thread Cert.KernelAttCombineIdeal.nD Cert.KernelAttCombineIdeal.τ).loc Cert.KernelAttCombineIdeal.main_v12_0) = v0 c
          ∧ r.2.mem ((c.tc : Thread Cert.KernelAttCombineIdeal.nD Cert.KernelAttCombineIdeal.τ).loc Cert.KernelAttCombineIdeal.main_v12_1) = v1 c
          ∧ r.2.mem ((c.tc : Thread Cert.KernelAttCombineIdeal.nD Cert.KernelAttCombineIdeal.τ).loc Cert.KernelAttCombineIdeal.main_arg0) = m ((c.tc : Thread Cert.KernelAttCombineIdeal.nD Cert.KernelAttCombineIdeal.τ).loc Cert.KernelAttCombineIdeal.main_arg0)
          ∧ r.2.mem ((c.tc : Thread Cert.KernelAttCombineIdeal.nD Cert.KernelAttCombineIdeal.τ).loc Cert.KernelAttCombineIdeal.main_arg1) = m ((c.tc : Thread Cert.KernelAttCombineIdeal.nD Cert.KernelAttCombineIdeal.τ).loc Cert.KernelAttCombineIdeal.main_arg1)
          ∧ r.2.mem ((c.tc : Thread Cert.KernelAttCombineIdeal.nD Cert.KernelAttCombineIdeal.τ).loc Cert.KernelAttCombineIdeal.main_arg2) = m ((c.tc : Thread Cert.KernelAttCombineIdeal.nD Cert.KernelAttCombineIdeal.τ).loc Cert.KernelAttCombineIdeal.main_arg2)
          ∧ r.2.mem ((c.tc : Thread Cert.KernelAttCombineIdeal.nD Cert.KernelAttCombineIdeal.τ).loc Cert.KernelAttCombineIdeal.main_arg3) = m ((c.tc : Thread Cert.KernelAttCombineIdeal.nD Cert.KernelAttCombineIdeal.τ).loc Cert.KernelAttCombineIdeal.main_arg3)
          ∧ r.2.mem ((c.tc : Thread Cert.KernelAttCombineIdeal.nD Cert.KernelAttCombineIdeal.τ).loc Cert.KernelAttCombineIdeal.main_arg4) = m ((c.tc : Thread Cert.KernelAttCombineIdeal.nD Cert.KernelAttCombineIdeal.τ).loc Cert.KernelAttCombineIdeal.main_arg4)
          ∧ r.2.mem ((c.tc : Thread Cert.KernelAttCombineIdeal.nD Cert.KernelAttCombineIdeal.τ).loc Cert.KernelAttCombineIdeal.main_arg5) = m ((c.tc : Thread Cert.KernelAttCombineIdeal.nD Cert.KernelAttCombineIdeal.τ).loc Cert.KernelAttCombineIdeal.main_arg5))
      ∧ θ_run (Cert.ReferenceAttCombineIdeal.defs (F := Ideal)) (onTc (τ := Cert.ReferenceAttCombineIdeal.τ) (Cert.ReferenceAttCombineIdeal.main (F := Ideal))) ⟨m', fun _ => 0, g'⟩ (fun r => ∀ c : Dev Cert.ReferenceAttCombineIdeal.nD,
          r.2.mem ((c.tc : Thread Cert.ReferenceAttCombineIdeal.nD Cert.ReferenceAttCombineIdeal.τ).loc Cert.ReferenceAttCombineIdeal.main_v35) = v0 c
          ∧ r.2.mem ((c.tc : Thread Cert.ReferenceAttCombineIdeal.nD Cert.ReferenceAttCombineIdeal.τ).loc Cert.ReferenceAttCombineIdeal.main_v38) = v1 c
          ∧ r.2.mem ((c.tc : Thread Cert.ReferenceAttCombineIdeal.nD Cert.ReferenceAttCombineIdeal.τ).loc Cert.ReferenceAttCombineIdeal.main_arg0) = m' ((c.tc : Thread Cert.ReferenceAttCombineIdeal.nD Cert.ReferenceAttCombineIdeal.τ).loc Cert.ReferenceAttCombineIdeal.main_arg0)
          ∧ r.2.mem ((c.tc : Thread Cert.ReferenceAttCombineIdeal.nD Cert.ReferenceAttCombineIdeal.τ).loc Cert.ReferenceAttCombineIdeal.main_arg1) = m' ((c.tc : Thread Cert.ReferenceAttCombineIdeal.nD Cert.ReferenceAttCombineIdeal.τ).loc Cert.ReferenceAttCombineIdeal.main_arg1)
          ∧ r.2.mem ((c.tc : Thread Cert.ReferenceAttCombineIdeal.nD Cert.ReferenceAttCombineIdeal.τ).loc Cert.ReferenceAttCombineIdeal.main_arg2) = m' ((c.tc : Thread Cert.ReferenceAttCombineIdeal.nD Cert.ReferenceAttCombineIdeal.τ).loc Cert.ReferenceAttCombineIdeal.main_arg2)
          ∧ r.2.mem ((c.tc : Thread Cert.ReferenceAttCombineIdeal.nD Cert.ReferenceAttCombineIdeal.τ).loc Cert.ReferenceAttCombineIdeal.main_arg3) = m' ((c.tc : Thread Cert.ReferenceAttCombineIdeal.nD Cert.ReferenceAttCombineIdeal.τ).loc Cert.ReferenceAttCombineIdeal.main_arg3)
          ∧ r.2.mem ((c.tc : Thread Cert.ReferenceAttCombineIdeal.nD Cert.ReferenceAttCombineIdeal.τ).loc Cert.ReferenceAttCombineIdeal.main_arg4) = m' ((c.tc : Thread Cert.ReferenceAttCombineIdeal.nD Cert.ReferenceAttCombineIdeal.τ).loc Cert.ReferenceAttCombineIdeal.main_arg4)
          ∧ r.2.mem ((c.tc : Thread Cert.ReferenceAttCombineIdeal.nD Cert.ReferenceAttCombineIdeal.τ).loc Cert.ReferenceAttCombineIdeal.main_arg5) = m' ((c.tc : Thread Cert.ReferenceAttCombineIdeal.nD Cert.ReferenceAttCombineIdeal.τ).loc Cert.ReferenceAttCombineIdeal.main_arg5))

def preserves_KernelMm_KernelMmIdeal : Prop :=
  True

def algebraic_KernelMmIdeal_ReferenceMmIdeal [hKernelMmIdeal : Cert.KernelMmIdeal.Facts] [hReferenceMmIdeal : Cert.ReferenceMmIdeal.Facts] : Prop :=
  ∀ (m : (ℓ : Loc Cert.KernelMmIdeal.nD Cert.KernelMmIdeal.τ Cert.KernelMmIdeal.sig) → Buf (Elt Ideal) ℓ) (g : Dev Cert.KernelMmIdeal.nD → PrngReg)
    (m' : (ℓ : Loc Cert.ReferenceMmIdeal.nD Cert.ReferenceMmIdeal.τ Cert.ReferenceMmIdeal.sig) → Buf (Elt Ideal) ℓ) (g' : Dev Cert.ReferenceMmIdeal.nD → PrngReg), Pre_KernelMmIdeal m →
    (∀ c : Dev Cert.KernelMmIdeal.nD,
      m' ((c.tc : Thread Cert.ReferenceMmIdeal.nD Cert.ReferenceMmIdeal.τ).loc Cert.ReferenceMmIdeal.main_arg0) = m ((c.tc : Thread Cert.KernelMmIdeal.nD Cert.KernelMmIdeal.τ).loc Cert.KernelMmIdeal.main_arg0)
      ∧ m' ((c.tc : Thread Cert.ReferenceMmIdeal.nD Cert.ReferenceMmIdeal.τ).loc Cert.ReferenceMmIdeal.main_arg1) = m ((c.tc : Thread Cert.KernelMmIdeal.nD Cert.KernelMmIdeal.τ).loc Cert.KernelMmIdeal.main_arg1)) →
    ∃ (v0 : (c : Dev Cert.KernelMmIdeal.nD) → Buf (Elt Ideal) ((c.tc : Thread Cert.KernelMmIdeal.nD Cert.KernelMmIdeal.τ).loc Cert.KernelMmIdeal.main_v2)),
      θ_run (Cert.KernelMmIdeal.defs (F := Ideal)) (onTc (τ := Cert.KernelMmIdeal.τ) (Cert.KernelMmIdeal.main (F := Ideal))) ⟨m, fun _ => 0, g⟩ (fun r => ∀ c : Dev Cert.KernelMmIdeal.nD,
          r.2.mem ((c.tc : Thread Cert.KernelMmIdeal.nD Cert.KernelMmIdeal.τ).loc Cert.KernelMmIdeal.main_v2) = v0 c
          ∧ r.2.mem ((c.tc : Thread Cert.KernelMmIdeal.nD Cert.KernelMmIdeal.τ).loc Cert.KernelMmIdeal.main_arg0) = m ((c.tc : Thread Cert.KernelMmIdeal.nD Cert.KernelMmIdeal.τ).loc Cert.KernelMmIdeal.main_arg0)
          ∧ r.2.mem ((c.tc : Thread Cert.KernelMmIdeal.nD Cert.KernelMmIdeal.τ).loc Cert.KernelMmIdeal.main_arg1) = m ((c.tc : Thread Cert.KernelMmIdeal.nD Cert.KernelMmIdeal.τ).loc Cert.KernelMmIdeal.main_arg1))
      ∧ θ_run (Cert.ReferenceMmIdeal.defs (F := Ideal)) (onTc (τ := Cert.ReferenceMmIdeal.τ) (Cert.ReferenceMmIdeal.main (F := Ideal))) ⟨m', fun _ => 0, g'⟩ (fun r => ∀ c : Dev Cert.ReferenceMmIdeal.nD,
          r.2.mem ((c.tc : Thread Cert.ReferenceMmIdeal.nD Cert.ReferenceMmIdeal.τ).loc Cert.ReferenceMmIdeal.main_v1) = v0 c
          ∧ r.2.mem ((c.tc : Thread Cert.ReferenceMmIdeal.nD Cert.ReferenceMmIdeal.τ).loc Cert.ReferenceMmIdeal.main_arg0) = m' ((c.tc : Thread Cert.ReferenceMmIdeal.nD Cert.ReferenceMmIdeal.τ).loc Cert.ReferenceMmIdeal.main_arg0)
          ∧ r.2.mem ((c.tc : Thread Cert.ReferenceMmIdeal.nD Cert.ReferenceMmIdeal.τ).loc Cert.ReferenceMmIdeal.main_arg1) = m' ((c.tc : Thread Cert.ReferenceMmIdeal.nD Cert.ReferenceMmIdeal.τ).loc Cert.ReferenceMmIdeal.main_arg1))

def preserves_KernelMmGrad_KernelMmGradIdeal : Prop :=
  True

def algebraic_KernelMmGradIdeal_ReferenceMmGradIdeal [hKernelMmGradIdeal : Cert.KernelMmGradIdeal.Facts] [hReferenceMmGradIdeal : Cert.ReferenceMmGradIdeal.Facts] : Prop :=
  ∀ (m : (ℓ : Loc Cert.KernelMmGradIdeal.nD Cert.KernelMmGradIdeal.τ Cert.KernelMmGradIdeal.sig) → Buf (Elt Ideal) ℓ) (g : Dev Cert.KernelMmGradIdeal.nD → PrngReg)
    (m' : (ℓ : Loc Cert.ReferenceMmGradIdeal.nD Cert.ReferenceMmGradIdeal.τ Cert.ReferenceMmGradIdeal.sig) → Buf (Elt Ideal) ℓ) (g' : Dev Cert.ReferenceMmGradIdeal.nD → PrngReg), Pre_KernelMmGradIdeal m →
    (∀ c : Dev Cert.KernelMmGradIdeal.nD,
      m' ((c.tc : Thread Cert.ReferenceMmGradIdeal.nD Cert.ReferenceMmGradIdeal.τ).loc Cert.ReferenceMmGradIdeal.main_arg0) = m ((c.tc : Thread Cert.KernelMmGradIdeal.nD Cert.KernelMmGradIdeal.τ).loc Cert.KernelMmGradIdeal.main_arg0)
      ∧ m' ((c.tc : Thread Cert.ReferenceMmGradIdeal.nD Cert.ReferenceMmGradIdeal.τ).loc Cert.ReferenceMmGradIdeal.main_arg1) = m ((c.tc : Thread Cert.KernelMmGradIdeal.nD Cert.KernelMmGradIdeal.τ).loc Cert.KernelMmGradIdeal.main_arg1)
      ∧ m' ((c.tc : Thread Cert.ReferenceMmGradIdeal.nD Cert.ReferenceMmGradIdeal.τ).loc Cert.ReferenceMmGradIdeal.main_arg2) = m ((c.tc : Thread Cert.KernelMmGradIdeal.nD Cert.KernelMmGradIdeal.τ).loc Cert.KernelMmGradIdeal.main_arg2)) →
    ∃ (v0 : (c : Dev Cert.KernelMmGradIdeal.nD) → Buf (Elt Ideal) ((c.tc : Thread Cert.KernelMmGradIdeal.nD Cert.KernelMmGradIdeal.τ).loc Cert.KernelMmGradIdeal.main_v2)),
      θ_run (Cert.KernelMmGradIdeal.defs (F := Ideal)) (onTc (τ := Cert.KernelMmGradIdeal.τ) (Cert.KernelMmGradIdeal.main (F := Ideal))) ⟨m, fun _ => 0, g⟩ (fun r => ∀ c : Dev Cert.KernelMmGradIdeal.nD,
          r.2.mem ((c.tc : Thread Cert.KernelMmGradIdeal.nD Cert.KernelMmGradIdeal.τ).loc Cert.KernelMmGradIdeal.main_v2) = v0 c
          ∧ r.2.mem ((c.tc : Thread Cert.KernelMmGradIdeal.nD Cert.KernelMmGradIdeal.τ).loc Cert.KernelMmGradIdeal.main_arg0) = m ((c.tc : Thread Cert.KernelMmGradIdeal.nD Cert.KernelMmGradIdeal.τ).loc Cert.KernelMmGradIdeal.main_arg0)
          ∧ r.2.mem ((c.tc : Thread Cert.KernelMmGradIdeal.nD Cert.KernelMmGradIdeal.τ).loc Cert.KernelMmGradIdeal.main_arg1) = m ((c.tc : Thread Cert.KernelMmGradIdeal.nD Cert.KernelMmGradIdeal.τ).loc Cert.KernelMmGradIdeal.main_arg1)
          ∧ r.2.mem ((c.tc : Thread Cert.KernelMmGradIdeal.nD Cert.KernelMmGradIdeal.τ).loc Cert.KernelMmGradIdeal.main_arg2) = m ((c.tc : Thread Cert.KernelMmGradIdeal.nD Cert.KernelMmGradIdeal.τ).loc Cert.KernelMmGradIdeal.main_arg2))
      ∧ θ_run (Cert.ReferenceMmGradIdeal.defs (F := Ideal)) (onTc (τ := Cert.ReferenceMmGradIdeal.τ) (Cert.ReferenceMmGradIdeal.main (F := Ideal))) ⟨m', fun _ => 0, g'⟩ (fun r => ∀ c : Dev Cert.ReferenceMmGradIdeal.nD,
          r.2.mem ((c.tc : Thread Cert.ReferenceMmGradIdeal.nD Cert.ReferenceMmGradIdeal.τ).loc Cert.ReferenceMmGradIdeal.main_v2) = v0 c
          ∧ r.2.mem ((c.tc : Thread Cert.ReferenceMmGradIdeal.nD Cert.ReferenceMmGradIdeal.τ).loc Cert.ReferenceMmGradIdeal.main_arg0) = m' ((c.tc : Thread Cert.ReferenceMmGradIdeal.nD Cert.ReferenceMmGradIdeal.τ).loc Cert.ReferenceMmGradIdeal.main_arg0)
          ∧ r.2.mem ((c.tc : Thread Cert.ReferenceMmGradIdeal.nD Cert.ReferenceMmGradIdeal.τ).loc Cert.ReferenceMmGradIdeal.main_arg1) = m' ((c.tc : Thread Cert.ReferenceMmGradIdeal.nD Cert.ReferenceMmGradIdeal.τ).loc Cert.ReferenceMmGradIdeal.main_arg1)
          ∧ r.2.mem ((c.tc : Thread Cert.ReferenceMmGradIdeal.nD Cert.ReferenceMmGradIdeal.τ).loc Cert.ReferenceMmGradIdeal.main_arg2) = m' ((c.tc : Thread Cert.ReferenceMmGradIdeal.nD Cert.ReferenceMmGradIdeal.τ).loc Cert.ReferenceMmGradIdeal.main_arg2))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)) →
    ∃ (v0 : (c : Dev Cert.KernelAdamwIdeal.nD) → Buf (Elt Ideal) ((c.tc : Thread Cert.KernelAdamwIdeal.nD Cert.KernelAdamwIdeal.τ).loc Cert.KernelAdamwIdeal.main_v0_0)) (v1 : (c : Dev Cert.KernelAdamwIdeal.nD) → Buf (Elt Ideal) ((c.tc : Thread Cert.KernelAdamwIdeal.nD Cert.KernelAdamwIdeal.τ).loc Cert.KernelAdamwIdeal.main_v0_1)) (v2 : (c : Dev Cert.KernelAdamwIdeal.nD) → Buf (Elt Ideal) ((c.tc : Thread Cert.KernelAdamwIdeal.nD Cert.KernelAdamwIdeal.τ).loc Cert.KernelAdamwIdeal.main_v0_2)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v0_0) = v0 c
          ∧ r.2.mem ((c.tc : Thread Cert.KernelAdamwIdeal.nD Cert.KernelAdamwIdeal.τ).loc Cert.KernelAdamwIdeal.main_v0_1) = v1 c
          ∧ r.2.mem ((c.tc : Thread Cert.KernelAdamwIdeal.nD Cert.KernelAdamwIdeal.τ).loc Cert.KernelAdamwIdeal.main_v0_2) = v2 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_v23) = v0 c
          ∧ r.2.mem ((c.tc : Thread Cert.ReferenceAdamwIdeal.nD Cert.ReferenceAdamwIdeal.τ).loc Cert.ReferenceAdamwIdeal.main_v4) = v1 c
          ∧ r.2.mem ((c.tc : Thread Cert.ReferenceAdamwIdeal.nD Cert.ReferenceAdamwIdeal.τ).loc Cert.ReferenceAdamwIdeal.main_v10) = v2 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3))

def preserves_KernelRelTotal_KernelRelTotalIdeal : Prop :=
  True

def algebraic_KernelRelTotalIdeal_ReferenceRelTotalIdeal [hKernelRelTotalIdeal : Cert.KernelRelTotalIdeal.Facts] [hReferenceRelTotalIdeal : Cert.ReferenceRelTotalIdeal.Facts] : Prop :=
  ∀ (m : (ℓ : Loc Cert.KernelRelTotalIdeal.nD Cert.KernelRelTotalIdeal.τ Cert.KernelRelTotalIdeal.sig) → Buf (Elt Ideal) ℓ) (g : Dev Cert.KernelRelTotalIdeal.nD → PrngReg)
    (m' : (ℓ : Loc Cert.ReferenceRelTotalIdeal.nD Cert.ReferenceRelTotalIdeal.τ Cert.ReferenceRelTotalIdeal.sig) → Buf (Elt Ideal) ℓ) (g' : Dev Cert.ReferenceRelTotalIdeal.nD → PrngReg), Pre_KernelRelTotalIdeal m →
    (∀ c : Dev Cert.KernelRelTotalIdeal.nD,
      m' ((c.tc : Thread Cert.ReferenceRelTotalIdeal.nD Cert.ReferenceRelTotalIdeal.τ).loc Cert.ReferenceRelTotalIdeal.main_arg0) = m ((c.tc : Thread Cert.KernelRelTotalIdeal.nD Cert.KernelRelTotalIdeal.τ).loc Cert.KernelRelTotalIdeal.main_arg0)
      ∧ m' ((c.tc : Thread Cert.ReferenceRelTotalIdeal.nD Cert.ReferenceRelTotalIdeal.τ).loc Cert.ReferenceRelTotalIdeal.main_arg1) = m ((c.tc : Thread Cert.KernelRelTotalIdeal.nD Cert.KernelRelTotalIdeal.τ).loc Cert.KernelRelTotalIdeal.main_arg1)
      ∧ m' ((c.tc : Thread Cert.ReferenceRelTotalIdeal.nD Cert.ReferenceRelTotalIdeal.τ).loc Cert.ReferenceRelTotalIdeal.main_arg2) = m ((c.tc : Thread Cert.KernelRelTotalIdeal.nD Cert.KernelRelTotalIdeal.τ).loc Cert.KernelRelTotalIdeal.main_arg2)
      ∧ m' ((c.tc : Thread Cert.ReferenceRelTotalIdeal.nD Cert.ReferenceRelTotalIdeal.τ).loc Cert.ReferenceRelTotalIdeal.main_arg3) = m ((c.tc : Thread Cert.KernelRelTotalIdeal.nD Cert.KernelRelTotalIdeal.τ).loc Cert.KernelRelTotalIdeal.main_arg3)
      ∧ m' ((c.tc : Thread Cert.ReferenceRelTotalIdeal.nD Cert.ReferenceRelTotalIdeal.τ).loc Cert.ReferenceRelTotalIdeal.main_arg4) = m ((c.tc : Thread Cert.KernelRelTotalIdeal.nD Cert.KernelRelTotalIdeal.τ).loc Cert.KernelRelTotalIdeal.main_arg4)
      ∧ m' ((c.tc : Thread Cert.ReferenceRelTotalIdeal.nD Cert.ReferenceRelTotalIdeal.τ).loc Cert.ReferenceRelTotalIdeal.main_arg5) = m ((c.tc : Thread Cert.KernelRelTotalIdeal.nD Cert.KernelRelTotalIdeal.τ).loc Cert.KernelRelTotalIdeal.main_arg5)) →
    ∃ (v0 : (c : Dev Cert.KernelRelTotalIdeal.nD) → Buf (Elt Ideal) ((c.tc : Thread Cert.KernelRelTotalIdeal.nD Cert.KernelRelTotalIdeal.τ).loc Cert.KernelRelTotalIdeal.main_v0)),
      θ_run (Cert.KernelRelTotalIdeal.defs (F := Ideal)) (onTc (τ := Cert.KernelRelTotalIdeal.τ) (Cert.KernelRelTotalIdeal.main (F := Ideal))) ⟨m, fun _ => 0, g⟩ (fun r => ∀ c : Dev Cert.KernelRelTotalIdeal.nD,
          r.2.mem ((c.tc : Thread Cert.KernelRelTotalIdeal.nD Cert.KernelRelTotalIdeal.τ).loc Cert.KernelRelTotalIdeal.main_v0) = v0 c
          ∧ r.2.mem ((c.tc : Thread Cert.KernelRelTotalIdeal.nD Cert.KernelRelTotalIdeal.τ).loc Cert.KernelRelTotalIdeal.main_arg0) = m ((c.tc : Thread Cert.KernelRelTotalIdeal.nD Cert.KernelRelTotalIdeal.τ).loc Cert.KernelRelTotalIdeal.main_arg0)
          ∧ r.2.mem ((c.tc : Thread Cert.KernelRelTotalIdeal.nD Cert.KernelRelTotalIdeal.τ).loc Cert.KernelRelTotalIdeal.main_arg1) = m ((c.tc : Thread Cert.KernelRelTotalIdeal.nD Cert.KernelRelTotalIdeal.τ).loc Cert.KernelRelTotalIdeal.main_arg1)
          ∧ r.2.mem ((c.tc : Thread Cert.KernelRelTotalIdeal.nD Cert.KernelRelTotalIdeal.τ).loc Cert.KernelRelTotalIdeal.main_arg2) = m ((c.tc : Thread Cert.KernelRelTotalIdeal.nD Cert.KernelRelTotalIdeal.τ).loc Cert.KernelRelTotalIdeal.main_arg2)
          ∧ r.2.mem ((c.tc : Thread Cert.KernelRelTotalIdeal.nD Cert.KernelRelTotalIdeal.τ).loc Cert.KernelRelTotalIdeal.main_arg3) = m ((c.tc : Thread Cert.KernelRelTotalIdeal.nD Cert.KernelRelTotalIdeal.τ).loc Cert.KernelRelTotalIdeal.main_arg3)
          ∧ r.2.mem ((c.tc : Thread Cert.KernelRelTotalIdeal.nD Cert.KernelRelTotalIdeal.τ).loc Cert.KernelRelTotalIdeal.main_arg4) = m ((c.tc : Thread Cert.KernelRelTotalIdeal.nD Cert.KernelRelTotalIdeal.τ).loc Cert.KernelRelTotalIdeal.main_arg4)
          ∧ r.2.mem ((c.tc : Thread Cert.KernelRelTotalIdeal.nD Cert.KernelRelTotalIdeal.τ).loc Cert.KernelRelTotalIdeal.main_arg5) = m ((c.tc : Thread Cert.KernelRelTotalIdeal.nD Cert.KernelRelTotalIdeal.τ).loc Cert.KernelRelTotalIdeal.main_arg5))
      ∧ θ_run (Cert.ReferenceRelTotalIdeal.defs (F := Ideal)) (onTc (τ := Cert.ReferenceRelTotalIdeal.τ) (Cert.ReferenceRelTotalIdeal.main (F := Ideal))) ⟨m', fun _ => 0, g'⟩ (fun r => ∀ c : Dev Cert.ReferenceRelTotalIdeal.nD,
          r.2.mem ((c.tc : Thread Cert.ReferenceRelTotalIdeal.nD Cert.ReferenceRelTotalIdeal.τ).loc Cert.ReferenceRelTotalIdeal.main_v6) = v0 c
          ∧ r.2.mem ((c.tc : Thread Cert.ReferenceRelTotalIdeal.nD Cert.ReferenceRelTotalIdeal.τ).loc Cert.ReferenceRelTotalIdeal.main_arg0) = m' ((c.tc : Thread Cert.ReferenceRelTotalIdeal.nD Cert.ReferenceRelTotalIdeal.τ).loc Cert.ReferenceRelTotalIdeal.main_arg0)
          ∧ r.2.mem ((c.tc : Thread Cert.ReferenceRelTotalIdeal.nD Cert.ReferenceRelTotalIdeal.τ).loc Cert.ReferenceRelTotalIdeal.main_arg1) = m' ((c.tc : Thread Cert.ReferenceRelTotalIdeal.nD Cert.ReferenceRelTotalIdeal.τ).loc Cert.ReferenceRelTotalIdeal.main_arg1)
          ∧ r.2.mem ((c.tc : Thread Cert.ReferenceRelTotalIdeal.nD Cert.ReferenceRelTotalIdeal.τ).loc Cert.ReferenceRelTotalIdeal.main_arg2) = m' ((c.tc : Thread Cert.ReferenceRelTotalIdeal.nD Cert.ReferenceRelTotalIdeal.τ).loc Cert.ReferenceRelTotalIdeal.main_arg2)
          ∧ r.2.mem ((c.tc : Thread Cert.ReferenceRelTotalIdeal.nD Cert.ReferenceRelTotalIdeal.τ).loc Cert.ReferenceRelTotalIdeal.main_arg3) = m' ((c.tc : Thread Cert.ReferenceRelTotalIdeal.nD Cert.ReferenceRelTotalIdeal.τ).loc Cert.ReferenceRelTotalIdeal.main_arg3)
          ∧ r.2.mem ((c.tc : Thread Cert.ReferenceRelTotalIdeal.nD Cert.ReferenceRelTotalIdeal.τ).loc Cert.ReferenceRelTotalIdeal.main_arg4) = m' ((c.tc : Thread Cert.ReferenceRelTotalIdeal.nD Cert.ReferenceRelTotalIdeal.τ).loc Cert.ReferenceRelTotalIdeal.main_arg4)
          ∧ r.2.mem ((c.tc : Thread Cert.ReferenceRelTotalIdeal.nD Cert.ReferenceRelTotalIdeal.τ).loc Cert.ReferenceRelTotalIdeal.main_arg5) = m' ((c.tc : Thread Cert.ReferenceRelTotalIdeal.nD Cert.ReferenceRelTotalIdeal.τ).loc Cert.ReferenceRelTotalIdeal.main_arg5))

def preserves_KernelAddHalf_KernelAddHalfIdeal : Prop :=
  True

def algebraic_KernelAddHalfIdeal_ReferenceAddHalfIdeal [hKernelAddHalfIdeal : Cert.KernelAddHalfIdeal.Facts] [hReferenceAddHalfIdeal : Cert.ReferenceAddHalfIdeal.Facts] : Prop :=
  ∀ (m : (ℓ : Loc Cert.KernelAddHalfIdeal.nD Cert.KernelAddHalfIdeal.τ Cert.KernelAddHalfIdeal.sig) → Buf (Elt Ideal) ℓ) (g : Dev Cert.KernelAddHalfIdeal.nD → PrngReg)
    (m' : (ℓ : Loc Cert.ReferenceAddHalfIdeal.nD Cert.ReferenceAddHalfIdeal.τ Cert.ReferenceAddHalfIdeal.sig) → Buf (Elt Ideal) ℓ) (g' : Dev Cert.ReferenceAddHalfIdeal.nD → PrngReg), Pre_KernelAddHalfIdeal m →
    (∀ c : Dev Cert.KernelAddHalfIdeal.nD,
      m' ((c.tc : Thread Cert.ReferenceAddHalfIdeal.nD Cert.ReferenceAddHalfIdeal.τ).loc Cert.ReferenceAddHalfIdeal.main_arg0) = m ((c.tc : Thread Cert.KernelAddHalfIdeal.nD Cert.KernelAddHalfIdeal.τ).loc Cert.KernelAddHalfIdeal.main_arg0)
      ∧ m' ((c.tc : Thread Cert.ReferenceAddHalfIdeal.nD Cert.ReferenceAddHalfIdeal.τ).loc Cert.ReferenceAddHalfIdeal.main_arg1) = m ((c.tc : Thread Cert.KernelAddHalfIdeal.nD Cert.KernelAddHalfIdeal.τ).loc Cert.KernelAddHalfIdeal.main_arg1)) →
    ∃ (v0 : (c : Dev Cert.KernelAddHalfIdeal.nD) → Buf (Elt Ideal) ((c.tc : Thread Cert.KernelAddHalfIdeal.nD Cert.KernelAddHalfIdeal.τ).loc Cert.KernelAddHalfIdeal.main_v3)),
      θ_run (Cert.KernelAddHalfIdeal.defs (F := Ideal)) (onTc (τ := Cert.KernelAddHalfIdeal.τ) (Cert.KernelAddHalfIdeal.main (F := Ideal))) ⟨m, fun _ => 0, g⟩ (fun r => ∀ c : Dev Cert.KernelAddHalfIdeal.nD,
          r.2.mem ((c.tc : Thread Cert.KernelAddHalfIdeal.nD Cert.KernelAddHalfIdeal.τ).loc Cert.KernelAddHalfIdeal.main_v3) = v0 c
          ∧ r.2.mem ((c.tc : Thread Cert.KernelAddHalfIdeal.nD Cert.KernelAddHalfIdeal.τ).loc Cert.KernelAddHalfIdeal.main_arg0) = m ((c.tc : Thread Cert.KernelAddHalfIdeal.nD Cert.KernelAddHalfIdeal.τ).loc Cert.KernelAddHalfIdeal.main_arg0)
          ∧ r.2.mem ((c.tc : Thread Cert.KernelAddHalfIdeal.nD Cert.KernelAddHalfIdeal.τ).loc Cert.KernelAddHalfIdeal.main_arg1) = m ((c.tc : Thread Cert.KernelAddHalfIdeal.nD Cert.KernelAddHalfIdeal.τ).loc Cert.KernelAddHalfIdeal.main_arg1))
      ∧ θ_run (Cert.ReferenceAddHalfIdeal.defs (F := Ideal)) (onTc (τ := Cert.ReferenceAddHalfIdeal.τ) (Cert.ReferenceAddHalfIdeal.main (F := Ideal))) ⟨m', fun _ => 0, g'⟩ (fun r => ∀ c : Dev Cert.ReferenceAddHalfIdeal.nD,
          r.2.mem ((c.tc : Thread Cert.ReferenceAddHalfIdeal.nD Cert.ReferenceAddHalfIdeal.τ).loc Cert.ReferenceAddHalfIdeal.main_v2) = v0 c
          ∧ r.2.mem ((c.tc : Thread Cert.ReferenceAddHalfIdeal.nD Cert.ReferenceAddHalfIdeal.τ).loc Cert.ReferenceAddHalfIdeal.main_arg0) = m' ((c.tc : Thread Cert.ReferenceAddHalfIdeal.nD Cert.ReferenceAddHalfIdeal.τ).loc Cert.ReferenceAddHalfIdeal.main_arg0)
          ∧ r.2.mem ((c.tc : Thread Cert.ReferenceAddHalfIdeal.nD Cert.ReferenceAddHalfIdeal.τ).loc Cert.ReferenceAddHalfIdeal.main_arg1) = m' ((c.tc : Thread Cert.ReferenceAddHalfIdeal.nD Cert.ReferenceAddHalfIdeal.τ).loc Cert.ReferenceAddHalfIdeal.main_arg1))

def preserves_KernelSumChips_KernelSumChipsIdeal : Prop :=
  True

def algebraic_KernelSumChipsIdeal_ReferenceSumChipsIdeal [hKernelSumChipsIdeal : Cert.KernelSumChipsIdeal.Facts] [hReferenceSumChipsIdeal : Cert.ReferenceSumChipsIdeal.Facts] : Prop :=
  ∀ (m : (ℓ : Loc Cert.KernelSumChipsIdeal.nD Cert.KernelSumChipsIdeal.τ Cert.KernelSumChipsIdeal.sig) → Buf (Elt Ideal) ℓ) (g : Dev Cert.KernelSumChipsIdeal.nD → PrngReg)
    (m' : (ℓ : Loc Cert.ReferenceSumChipsIdeal.nD Cert.ReferenceSumChipsIdeal.τ Cert.ReferenceSumChipsIdeal.sig) → Buf (Elt Ideal) ℓ) (g' : Dev Cert.ReferenceSumChipsIdeal.nD → PrngReg), Pre_KernelSumChipsIdeal m →
    (∀ c : Dev Cert.KernelSumChipsIdeal.nD,
      m' ((c.tc : Thread Cert.ReferenceSumChipsIdeal.nD Cert.ReferenceSumChipsIdeal.τ).loc Cert.ReferenceSumChipsIdeal.main_arg0) = m ((c.tc : Thread Cert.KernelSumChipsIdeal.nD Cert.KernelSumChipsIdeal.τ).loc Cert.KernelSumChipsIdeal.main_arg0)
      ∧ m' ((c.tc : Thread Cert.ReferenceSumChipsIdeal.nD Cert.ReferenceSumChipsIdeal.τ).loc Cert.ReferenceSumChipsIdeal.main_arg1) = m ((c.tc : Thread Cert.KernelSumChipsIdeal.nD Cert.KernelSumChipsIdeal.τ).loc Cert.KernelSumChipsIdeal.main_arg1)
      ∧ m' ((c.tc : Thread Cert.ReferenceSumChipsIdeal.nD Cert.ReferenceSumChipsIdeal.τ).loc Cert.ReferenceSumChipsIdeal.main_arg2) = m ((c.tc : Thread Cert.KernelSumChipsIdeal.nD Cert.KernelSumChipsIdeal.τ).loc Cert.KernelSumChipsIdeal.main_arg2)) →
    ∃ (v0 : (c : Dev Cert.KernelSumChipsIdeal.nD) → Buf (Elt Ideal) ((c.tc : Thread Cert.KernelSumChipsIdeal.nD Cert.KernelSumChipsIdeal.τ).loc Cert.KernelSumChipsIdeal.main_v3)),
      θ_run (Cert.KernelSumChipsIdeal.defs (F := Ideal)) (onTc (τ := Cert.KernelSumChipsIdeal.τ) (Cert.KernelSumChipsIdeal.main (F := Ideal))) ⟨m, fun _ => 0, g⟩ (fun r => ∀ c : Dev Cert.KernelSumChipsIdeal.nD,
          r.2.mem ((c.tc : Thread Cert.KernelSumChipsIdeal.nD Cert.KernelSumChipsIdeal.τ).loc Cert.KernelSumChipsIdeal.main_v3) = v0 c
          ∧ r.2.mem ((c.tc : Thread Cert.KernelSumChipsIdeal.nD Cert.KernelSumChipsIdeal.τ).loc Cert.KernelSumChipsIdeal.main_arg0) = m ((c.tc : Thread Cert.KernelSumChipsIdeal.nD Cert.KernelSumChipsIdeal.τ).loc Cert.KernelSumChipsIdeal.main_arg0)
          ∧ r.2.mem ((c.tc : Thread Cert.KernelSumChipsIdeal.nD Cert.KernelSumChipsIdeal.τ).loc Cert.KernelSumChipsIdeal.main_arg1) = m ((c.tc : Thread Cert.KernelSumChipsIdeal.nD Cert.KernelSumChipsIdeal.τ).loc Cert.KernelSumChipsIdeal.main_arg1)
          ∧ r.2.mem ((c.tc : Thread Cert.KernelSumChipsIdeal.nD Cert.KernelSumChipsIdeal.τ).loc Cert.KernelSumChipsIdeal.main_arg2) = m ((c.tc : Thread Cert.KernelSumChipsIdeal.nD Cert.KernelSumChipsIdeal.τ).loc Cert.KernelSumChipsIdeal.main_arg2))
      ∧ θ_run (Cert.ReferenceSumChipsIdeal.defs (F := Ideal)) (onTc (τ := Cert.ReferenceSumChipsIdeal.τ) (Cert.ReferenceSumChipsIdeal.main (F := Ideal))) ⟨m', fun _ => 0, g'⟩ (fun r => ∀ c : Dev Cert.ReferenceSumChipsIdeal.nD,
          r.2.mem ((c.tc : Thread Cert.ReferenceSumChipsIdeal.nD Cert.ReferenceSumChipsIdeal.τ).loc Cert.ReferenceSumChipsIdeal.main_v7) = v0 c
          ∧ r.2.mem ((c.tc : Thread Cert.ReferenceSumChipsIdeal.nD Cert.ReferenceSumChipsIdeal.τ).loc Cert.ReferenceSumChipsIdeal.main_arg0) = m' ((c.tc : Thread Cert.ReferenceSumChipsIdeal.nD Cert.ReferenceSumChipsIdeal.τ).loc Cert.ReferenceSumChipsIdeal.main_arg0)
          ∧ r.2.mem ((c.tc : Thread Cert.ReferenceSumChipsIdeal.nD Cert.ReferenceSumChipsIdeal.τ).loc Cert.ReferenceSumChipsIdeal.main_arg1) = m' ((c.tc : Thread Cert.ReferenceSumChipsIdeal.nD Cert.ReferenceSumChipsIdeal.τ).loc Cert.ReferenceSumChipsIdeal.main_arg1)
          ∧ r.2.mem ((c.tc : Thread Cert.ReferenceSumChipsIdeal.nD Cert.ReferenceSumChipsIdeal.τ).loc Cert.ReferenceSumChipsIdeal.main_arg2) = m' ((c.tc : Thread Cert.ReferenceSumChipsIdeal.nD Cert.ReferenceSumChipsIdeal.τ).loc Cert.ReferenceSumChipsIdeal.main_arg2))

def Claim : Prop :=
  ∃ (hKernelConvLn : Cert.KernelConvLn.Facts) (hKernelConvLnIdeal : Cert.KernelConvLnIdeal.Facts) (hReferenceConvLnIdeal : Cert.ReferenceConvLnIdeal.Facts) (hKernelMemKv : Cert.KernelMemKv.Facts) (hKernelMemKvIdeal : Cert.KernelMemKvIdeal.Facts) (hReferenceMemKvIdeal : Cert.ReferenceMemKvIdeal.Facts) (hKernelLoss : Cert.KernelLoss.Facts) (hKernelLossIdeal : Cert.KernelLossIdeal.Facts) (hReferenceLossIdeal : Cert.ReferenceLossIdeal.Facts) (hKernelFfn : Cert.KernelFfn.Facts) (hKernelFfnIdeal : Cert.KernelFfnIdeal.Facts) (hReferenceFfnIdeal : Cert.ReferenceFfnIdeal.Facts) (hKernelFfnIn : Cert.KernelFfnIn.Facts) (hKernelFfnInIdeal : Cert.KernelFfnInIdeal.Facts) (hReferenceFfnInIdeal : Cert.ReferenceFfnInIdeal.Facts) (hKernelMixIn : Cert.KernelMixIn.Facts) (hKernelMixInIdeal : Cert.KernelMixInIdeal.Facts) (hReferenceMixInIdeal : Cert.ReferenceMixInIdeal.Facts) (hKernelMemAtt : Cert.KernelMemAtt.Facts) (hKernelMemAttIdeal : Cert.KernelMemAttIdeal.Facts) (hReferenceMemAttIdeal : Cert.ReferenceMemAttIdeal.Facts) (hKernelMemKvFwd : Cert.KernelMemKvFwd.Facts) (hKernelMemKvFwdIdeal : Cert.KernelMemKvFwdIdeal.Facts) (hReferenceMemKvFwdIdeal : Cert.ReferenceMemKvFwdIdeal.Facts) (hKernelFfnFwd : Cert.KernelFfnFwd.Facts) (hKernelFfnFwdIdeal : Cert.KernelFfnFwdIdeal.Facts) (hReferenceFfnFwdIdeal : Cert.ReferenceFfnFwdIdeal.Facts) (hKernelMemAttFwd : Cert.KernelMemAttFwd.Facts) (hKernelMemAttFwdIdeal : Cert.KernelMemAttFwdIdeal.Facts) (hReferenceMemAttFwdIdeal : Cert.ReferenceMemAttFwdIdeal.Facts) (hKernelMergeFwd : Cert.KernelMergeFwd.Facts) (hKernelMergeFwdIdeal : Cert.KernelMergeFwdIdeal.Facts) (hReferenceMergeFwdIdeal : Cert.ReferenceMergeFwdIdeal.Facts) (hKernelNorm : Cert.KernelNorm.Facts) (hKernelNormIdeal : Cert.KernelNormIdeal.Facts) (hReferenceNormIdeal : Cert.ReferenceNormIdeal.Facts) (hKernelConvDw : Cert.KernelConvDw.Facts) (hKernelConvDwIdeal : Cert.KernelConvDwIdeal.Facts) (hReferenceConvDwIdeal : Cert.ReferenceConvDwIdeal.Facts) (hKernelConv : Cert.KernelConv.Facts) (hKernelConvIdeal : Cert.KernelConvIdeal.Facts) (hReferenceConvIdeal : Cert.ReferenceConvIdeal.Facts) (hKernelAttPrep : Cert.KernelAttPrep.Facts) (hKernelAttPrepIdeal : Cert.KernelAttPrepIdeal.Facts) (hReferenceAttPrepIdeal : Cert.ReferenceAttPrepIdeal.Facts) (hKernelAttCombine : Cert.KernelAttCombine.Facts) (hKernelAttCombineIdeal : Cert.KernelAttCombineIdeal.Facts) (hReferenceAttCombineIdeal : Cert.ReferenceAttCombineIdeal.Facts) (hKernelMm : Cert.KernelMm.Facts) (hKernelMmIdeal : Cert.KernelMmIdeal.Facts) (hReferenceMmIdeal : Cert.ReferenceMmIdeal.Facts) (hKernelMmGrad : Cert.KernelMmGrad.Facts) (hKernelMmGradIdeal : Cert.KernelMmGradIdeal.Facts) (hReferenceMmGradIdeal : Cert.ReferenceMmGradIdeal.Facts) (hKernelAdamw : Cert.KernelAdamw.Facts) (hKernelAdamwIdeal : Cert.KernelAdamwIdeal.Facts) (hReferenceAdamwIdeal : Cert.ReferenceAdamwIdeal.Facts) (hKernelRelTotal : Cert.KernelRelTotal.Facts) (hKernelRelTotalIdeal : Cert.KernelRelTotalIdeal.Facts) (hReferenceRelTotalIdeal : Cert.ReferenceRelTotalIdeal.Facts) (hKernelAddHalf : Cert.KernelAddHalf.Facts) (hKernelAddHalfIdeal : Cert.KernelAddHalfIdeal.Facts) (hReferenceAddHalfIdeal : Cert.ReferenceAddHalfIdeal.Facts) (hKernelSumChips : Cert.KernelSumChips.Facts) (hKernelSumChipsIdeal : Cert.KernelSumChipsIdeal.Facts) (hReferenceSumChipsIdeal : Cert.ReferenceSumChipsIdeal.Facts) (hPre_finite_conv_ln : Cert.Pre_finite_conv_ln.Facts) (hPre_finite_ffn : Cert.Pre_finite_ffn.Facts) (hPre_finite_ffn_in : Cert.Pre_finite_ffn_in.Facts) (hPre_finite_mix_in : Cert.Pre_finite_mix_in.Facts) (hPre_finite_mem_att : Cert.Pre_finite_mem_att.Facts),
    quiescent_KernelConvLn (hKernelConvLn := hKernelConvLn)
    ∧ quiescent_KernelConvLnIdeal (hKernelConvLnIdeal := hKernelConvLnIdeal)
    ∧ quiescent_KernelConvLnIdeal_pre_finite_conv_ln (hKernelConvLnIdeal := hKernelConvLnIdeal) (hPre_finite_conv_ln := hPre_finite_conv_ln)
    ∧ quiescent_ReferenceConvLnIdeal (hReferenceConvLnIdeal := hReferenceConvLnIdeal)
    ∧ quiescent_ReferenceConvLnIdeal_pre_finite_conv_ln (hReferenceConvLnIdeal := hReferenceConvLnIdeal) (hPre_finite_conv_ln := hPre_finite_conv_ln)
    ∧ quiescent_KernelMemKv (hKernelMemKv := hKernelMemKv)
    ∧ quiescent_KernelMemKvIdeal (hKernelMemKvIdeal := hKernelMemKvIdeal)
    ∧ quiescent_ReferenceMemKvIdeal (hReferenceMemKvIdeal := hReferenceMemKvIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelFfnIn (hKernelFfnIn := hKernelFfnIn)
    ∧ quiescent_KernelFfnInIdeal (hKernelFfnInIdeal := hKernelFfnInIdeal)
    ∧ quiescent_KernelFfnInIdeal_pre_finite_ffn_in (hKernelFfnInIdeal := hKernelFfnInIdeal) (hPre_finite_ffn_in := hPre_finite_ffn_in)
    ∧ quiescent_ReferenceFfnInIdeal (hReferenceFfnInIdeal := hReferenceFfnInIdeal)
    ∧ quiescent_ReferenceFfnInIdeal_pre_finite_ffn_in (hReferenceFfnInIdeal := hReferenceFfnInIdeal) (hPre_finite_ffn_in := hPre_finite_ffn_in)
    ∧ quiescent_KernelMixIn (hKernelMixIn := hKernelMixIn)
    ∧ quiescent_KernelMixInIdeal (hKernelMixInIdeal := hKernelMixInIdeal)
    ∧ quiescent_KernelMixInIdeal_pre_finite_mix_in (hKernelMixInIdeal := hKernelMixInIdeal) (hPre_finite_mix_in := hPre_finite_mix_in)
    ∧ quiescent_ReferenceMixInIdeal (hReferenceMixInIdeal := hReferenceMixInIdeal)
    ∧ quiescent_ReferenceMixInIdeal_pre_finite_mix_in (hReferenceMixInIdeal := hReferenceMixInIdeal) (hPre_finite_mix_in := hPre_finite_mix_in)
    ∧ quiescent_KernelMemAtt (hKernelMemAtt := hKernelMemAtt)
    ∧ quiescent_KernelMemAttIdeal (hKernelMemAttIdeal := hKernelMemAttIdeal)
    ∧ quiescent_KernelMemAttIdeal_pre_finite_mem_att (hKernelMemAttIdeal := hKernelMemAttIdeal) (hPre_finite_mem_att := hPre_finite_mem_att)
    ∧ quiescent_ReferenceMemAttIdeal (hReferenceMemAttIdeal := hReferenceMemAttIdeal)
    ∧ quiescent_ReferenceMemAttIdeal_pre_finite_mem_att (hReferenceMemAttIdeal := hReferenceMemAttIdeal) (hPre_finite_mem_att := hPre_finite_mem_att)
    ∧ quiescent_KernelMemKvFwd (hKernelMemKvFwd := hKernelMemKvFwd)
    ∧ quiescent_KernelMemKvFwdIdeal (hKernelMemKvFwdIdeal := hKernelMemKvFwdIdeal)
    ∧ quiescent_ReferenceMemKvFwdIdeal (hReferenceMemKvFwdIdeal := hReferenceMemKvFwdIdeal)
    ∧ quiescent_KernelFfnFwd (hKernelFfnFwd := hKernelFfnFwd)
    ∧ quiescent_KernelFfnFwdIdeal (hKernelFfnFwdIdeal := hKernelFfnFwdIdeal)
    ∧ quiescent_ReferenceFfnFwdIdeal (hReferenceFfnFwdIdeal := hReferenceFfnFwdIdeal)
    ∧ quiescent_KernelMemAttFwd (hKernelMemAttFwd := hKernelMemAttFwd)
    ∧ quiescent_KernelMemAttFwdIdeal (hKernelMemAttFwdIdeal := hKernelMemAttFwdIdeal)
    ∧ quiescent_ReferenceMemAttFwdIdeal (hReferenceMemAttFwdIdeal := hReferenceMemAttFwdIdeal)
    ∧ quiescent_KernelMergeFwd (hKernelMergeFwd := hKernelMergeFwd)
    ∧ quiescent_KernelMergeFwdIdeal (hKernelMergeFwdIdeal := hKernelMergeFwdIdeal)
    ∧ quiescent_ReferenceMergeFwdIdeal (hReferenceMergeFwdIdeal := hReferenceMergeFwdIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelConvDw (hKernelConvDw := hKernelConvDw)
    ∧ quiescent_KernelConvDwIdeal (hKernelConvDwIdeal := hKernelConvDwIdeal)
    ∧ quiescent_ReferenceConvDwIdeal (hReferenceConvDwIdeal := hReferenceConvDwIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelAttPrep (hKernelAttPrep := hKernelAttPrep)
    ∧ quiescent_KernelAttPrepIdeal (hKernelAttPrepIdeal := hKernelAttPrepIdeal)
    ∧ quiescent_ReferenceAttPrepIdeal (hReferenceAttPrepIdeal := hReferenceAttPrepIdeal)
    ∧ quiescent_KernelAttCombine (hKernelAttCombine := hKernelAttCombine)
    ∧ quiescent_KernelAttCombineIdeal (hKernelAttCombineIdeal := hKernelAttCombineIdeal)
    ∧ quiescent_ReferenceAttCombineIdeal (hReferenceAttCombineIdeal := hReferenceAttCombineIdeal)
    ∧ quiescent_KernelMm (hKernelMm := hKernelMm)
    ∧ quiescent_KernelMmIdeal (hKernelMmIdeal := hKernelMmIdeal)
    ∧ quiescent_ReferenceMmIdeal (hReferenceMmIdeal := hReferenceMmIdeal)
    ∧ quiescent_KernelMmGrad (hKernelMmGrad := hKernelMmGrad)
    ∧ quiescent_KernelMmGradIdeal (hKernelMmGradIdeal := hKernelMmGradIdeal)
    ∧ quiescent_ReferenceMmGradIdeal (hReferenceMmGradIdeal := hReferenceMmGradIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ quiescent_KernelRelTotal (hKernelRelTotal := hKernelRelTotal)
    ∧ quiescent_KernelRelTotalIdeal (hKernelRelTotalIdeal := hKernelRelTotalIdeal)
    ∧ quiescent_ReferenceRelTotalIdeal (hReferenceRelTotalIdeal := hReferenceRelTotalIdeal)
    ∧ quiescent_KernelAddHalf (hKernelAddHalf := hKernelAddHalf)
    ∧ quiescent_KernelAddHalfIdeal (hKernelAddHalfIdeal := hKernelAddHalfIdeal)
    ∧ quiescent_ReferenceAddHalfIdeal (hReferenceAddHalfIdeal := hReferenceAddHalfIdeal)
    ∧ quiescent_KernelSumChips (hKernelSumChips := hKernelSumChips)
    ∧ quiescent_KernelSumChipsIdeal (hKernelSumChipsIdeal := hKernelSumChipsIdeal)
    ∧ quiescent_ReferenceSumChipsIdeal (hReferenceSumChipsIdeal := hReferenceSumChipsIdeal)
    ∧ preserves_KernelConvLn_KernelConvLnIdeal
    ∧ algebraic_KernelConvLnIdeal_ReferenceConvLnIdeal_pre_finite_conv_ln (hKernelConvLnIdeal := hKernelConvLnIdeal) (hReferenceConvLnIdeal := hReferenceConvLnIdeal) (hPre_finite_conv_ln := hPre_finite_conv_ln)
    ∧ preserves_KernelMemKv_KernelMemKvIdeal
    ∧ algebraic_KernelMemKvIdeal_ReferenceMemKvIdeal (hKernelMemKvIdeal := hKernelMemKvIdeal) (hReferenceMemKvIdeal := hReferenceMemKvIdeal)
    ∧ preserves_KernelLoss_KernelLossIdeal
    ∧ algebraic_KernelLossIdeal_ReferenceLossIdeal (hKernelLossIdeal := hKernelLossIdeal) (hReferenceLossIdeal := hReferenceLossIdeal)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelFfnIn_KernelFfnInIdeal
    ∧ algebraic_KernelFfnInIdeal_ReferenceFfnInIdeal_pre_finite_ffn_in (hKernelFfnInIdeal := hKernelFfnInIdeal) (hReferenceFfnInIdeal := hReferenceFfnInIdeal) (hPre_finite_ffn_in := hPre_finite_ffn_in)
    ∧ preserves_KernelMixIn_KernelMixInIdeal
    ∧ algebraic_KernelMixInIdeal_ReferenceMixInIdeal_pre_finite_mix_in (hKernelMixInIdeal := hKernelMixInIdeal) (hReferenceMixInIdeal := hReferenceMixInIdeal) (hPre_finite_mix_in := hPre_finite_mix_in)
    ∧ preserves_KernelMemAtt_KernelMemAttIdeal
    ∧ algebraic_KernelMemAttIdeal_ReferenceMemAttIdeal_pre_finite_mem_att (hKernelMemAttIdeal := hKernelMemAttIdeal) (hReferenceMemAttIdeal := hReferenceMemAttIdeal) (hPre_finite_mem_att := hPre_finite_mem_att)
    ∧ preserves_KernelMemKvFwd_KernelMemKvFwdIdeal
    ∧ algebraic_KernelMemKvFwdIdeal_ReferenceMemKvFwdIdeal (hKernelMemKvFwdIdeal := hKernelMemKvFwdIdeal) (hReferenceMemKvFwdIdeal := hReferenceMemKvFwdIdeal)
    ∧ preserves_KernelFfnFwd_KernelFfnFwdIdeal
    ∧ algebraic_KernelFfnFwdIdeal_ReferenceFfnFwdIdeal (hKernelFfnFwdIdeal := hKernelFfnFwdIdeal) (hReferenceFfnFwdIdeal := hReferenceFfnFwdIdeal)
    ∧ preserves_KernelMemAttFwd_KernelMemAttFwdIdeal
    ∧ algebraic_KernelMemAttFwdIdeal_ReferenceMemAttFwdIdeal (hKernelMemAttFwdIdeal := hKernelMemAttFwdIdeal) (hReferenceMemAttFwdIdeal := hReferenceMemAttFwdIdeal)
    ∧ preserves_KernelMergeFwd_KernelMergeFwdIdeal
    ∧ algebraic_KernelMergeFwdIdeal_ReferenceMergeFwdIdeal (hKernelMergeFwdIdeal := hKernelMergeFwdIdeal) (hReferenceMergeFwdIdeal := hReferenceMergeFwdIdeal)
    ∧ preserves_KernelNorm_KernelNormIdeal
    ∧ algebraic_KernelNormIdeal_ReferenceNormIdeal (hKernelNormIdeal := hKernelNormIdeal) (hReferenceNormIdeal := hReferenceNormIdeal)
    ∧ preserves_KernelConvDw_KernelConvDwIdeal
    ∧ preserves_KernelConv_KernelConvIdeal
    ∧ preserves_KernelAttPrep_KernelAttPrepIdeal
    ∧ algebraic_KernelAttPrepIdeal_ReferenceAttPrepIdeal (hKernelAttPrepIdeal := hKernelAttPrepIdeal) (hReferenceAttPrepIdeal := hReferenceAttPrepIdeal)
    ∧ preserves_KernelAttCombine_KernelAttCombineIdeal
    ∧ algebraic_KernelAttCombineIdeal_ReferenceAttCombineIdeal (hKernelAttCombineIdeal := hKernelAttCombineIdeal) (hReferenceAttCombineIdeal := hReferenceAttCombineIdeal)
    ∧ preserves_KernelMm_KernelMmIdeal
    ∧ algebraic_KernelMmIdeal_ReferenceMmIdeal (hKernelMmIdeal := hKernelMmIdeal) (hReferenceMmIdeal := hReferenceMmIdeal)
    ∧ preserves_KernelMmGrad_KernelMmGradIdeal
    ∧ algebraic_KernelMmGradIdeal_ReferenceMmGradIdeal (hKernelMmGradIdeal := hKernelMmGradIdeal) (hReferenceMmGradIdeal := hReferenceMmGradIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
    ∧ preserves_KernelRelTotal_KernelRelTotalIdeal
    ∧ algebraic_KernelRelTotalIdeal_ReferenceRelTotalIdeal (hKernelRelTotalIdeal := hKernelRelTotalIdeal) (hReferenceRelTotalIdeal := hReferenceRelTotalIdeal)
    ∧ preserves_KernelAddHalf_KernelAddHalfIdeal
    ∧ algebraic_KernelAddHalfIdeal_ReferenceAddHalfIdeal (hKernelAddHalfIdeal := hKernelAddHalfIdeal) (hReferenceAddHalfIdeal := hReferenceAddHalfIdeal)
    ∧ preserves_KernelSumChips_KernelSumChipsIdeal
    ∧ algebraic_KernelSumChipsIdeal_ReferenceSumChipsIdeal (hKernelSumChipsIdeal := hKernelSumChipsIdeal) (hReferenceSumChipsIdeal := hReferenceSumChipsIdeal)
-- ==== Pre_finite_conv_ln.lean ====
abbrev S1x8192x512 : Shape := ⟨3, ![1, 8192, 512]⟩
abbrev S512 : Shape := ⟨1, ![512]⟩
abbrev S_ : Shape := ⟨0, ![]⟩

class Facts : Prop where
  bcast_S_S1x8192x512 : S_.BroadcastsInDim S1x8192x512 (![] : Fin 0 → Fin S1x8192x512.rank)
  bcast_S_S512 : S_.BroadcastsInDim S512 (![] : Fin 0 → Fin S512.rank)

variable [Facts]

def fn {F : FTy → Type} [FloatOps F] (main_arg0 : FVec F S1x8192x512 .f32) (main_arg1 : FVec F S512 .f32) (main_arg2 : FVec F S512 .f32) (main_arg3 : FVec F S512 .f32) (main_arg4 : FVec F S1x8192x512 .f32) : IVec S1x8192x512 1 × IVec S512 1 × IVec S512 1 × IVec S512 1 × IVec S1x8192x512 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_v3 : FVec F S512 .f32 := Host.absf main_arg1
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S1x8192x512 .f32 := Host.absf main_arg4
  let main_cst_3 : FVec F S_ .f32 := constant S_ .f32 0x7F800000#32
  let main_v13 : FVec F S1x8192x512 .f32 := broadcastInDim S1x8192x512 ![] bcast_S_S1x8192x512 main_cst_3
  let main_v14 : IVec S1x8192x512 1 := cmpf .olt main_v12 main_v13
  (main_v2, main_v5, main_v8, main_v11, main_v14)
-- ==== Pre_finite_ffn.lean ====
abbrev S8192x5632 : Shape := ⟨2, ![8192, 5632]⟩
abbrev S2816x1024 : Shape := ⟨2, ![2816, 1024]⟩
abbrev S1024 : Shape := ⟨1, ![1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S2816x1024 : S_.BroadcastsInDim S2816x1024 (![] : Fin 0 → Fin S2816x1024.rank)
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S2816x1024 .f32) (main_arg2 : FVec F S1024 .f32) (main_arg3 : FVec F S8192x1024 .f32) : IVec S8192x5632 1 × IVec S2816x1024 1 × IVec S1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_ffn_in.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S8192x5632 : S_.BroadcastsInDim S8192x5632 (![] : Fin 0 → Fin S8192x5632.rank)

variable [Facts]

def fn {F : FTy → Type} [FloatOps F] (main_arg0 : FVec F S8192x1024 .f32) (main_arg1 : FVec F S1024 .f32) (main_arg2 : FVec F S1024x5632 .f32) (main_arg3 : FVec F S8192x5632 .f32) (main_arg4 : FVec F S8192x1024 .f32) : IVec S8192x1024 1 × IVec S1024 1 × IVec S1024x5632 1 × IVec S8192x5632 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  (main_v2, main_v5, main_v8, main_v11)
-- ==== Pre_finite_mem_att.lean ====
abbrev S8192x6912 : Shape := ⟨2, ![8192, 6912]⟩
abbrev S256x1024 : Shape := ⟨2, ![256, 1024]⟩
abbrev S8192x512 : Shape := ⟨2, ![8192, 512]⟩
abbrev S_ : Shape := ⟨0, ![]⟩

class Facts : Prop where
  bcast_S_S8192x6912 : S_.BroadcastsInDim S8192x6912 (![] : Fin 0 → Fin S8192x6912.rank)
  bcast_S_S256x1024 : S_.BroadcastsInDim S256x1024 (![] : Fin 0 → Fin S256x1024.rank)
  bcast_S_S8192x512 : S_.BroadcastsInDim S8192x512 (![] : Fin 0 → Fin S8192x512.rank)

variable [Facts]

def fn {F : FTy → Type} [FloatOps F] (main_arg0 : FVec F S8192x6912 .f32) (main_arg1 : FVec F S256x1024 .f32) (main_arg2 : FVec F S8192x512 .f32) (main_arg3 : FVec F S8192x6912 .f32) : IVec S8192x6912 1 × IVec S256x1024 1 × IVec S8192x512 1 :=
  let main_v0 : FVec F S8192x6912 .f32 := Host.absf main_arg0
  let main_cst : FVec F S_ .f32 := constant S_ .f32 0x7F800000#32
  let main_v1 : FVec F S8192x6912 .f32 := broadcastInDim S8192x6912 ![] bcast_S_S8192x6912 main_cst
  let main_v2 : IVec S8192x6912 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_finite_mix_in.lean ====
abbrev S8192x1024 : Shape := ⟨2, ![8192, 1024]⟩
abbrev S1024 : Shape := ⟨1, ![1024]⟩
abbrev S1024x6912 : Shape := ⟨2, ![1024, 6912]⟩
abbrev S8192x6912 : Shape := ⟨2, ![8192, 6912]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x6912 : S_.BroadcastsInDim S1024x6912 (![] : Fin 0 → Fin S1024x6912.rank)
  bcast_S_S8192x6912 : S_.BroadcastsInDim S8192x6912 (![] : Fin 0 → Fin S8192x6912.rank)

variable [Facts]

def fn {F : FTy → Type} [FloatOps F] (main_arg0 : FVec F S8192x1024 .f32) (main_arg1 : FVec F S1024 .f32) (main_arg2 : FVec F S1024x6912 .f32) (main_arg3 : FVec F S8192x6912 .f32) (main_arg4 : FVec F S8192x1024 .f32) : IVec S8192x1024 1 × IVec S1024 1 × IVec S1024x6912 1 × IVec S8192x6912 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6912 .f32 := Host.absf main_arg2
  let main_cst_1 : FVec F S_ .f32 := constant S_ .f32 0x7F800000#32
  let main_v7 : FVec F S1024x6912 .f32 := broadcastInDim S1024x6912 ![] bcast_S_S1024x6912 main_cst_1
  let main_v8 : IVec S1024x6912 1 := cmpf .olt main_v6 main_v7
  let main_v9 : FVec F S8192x6912 .f32 := Host.absf main_arg3
  let main_cst_2 : FVec F S_ .f32 := constant S_ .f32 0x7F800000#32
  let main_v10 : FVec F S8192x6912 .f32 := broadcastInDim S8192x6912 ![] bcast_S_S8192x6912 main_cst_2
  let main_v11 : IVec S8192x6912 1 := cmpf .olt main_v9 main_v10
  (main_v2, main_v5, main_v8, main_v11)
-- ==== KernelConvLn.lean ====
abbrev S1x8192x512 : Shape := ⟨3, ![1, 8192, 512]⟩
abbrev S512 : Shape := ⟨1, ![512]⟩
abbrev S8192x512 : Shape := ⟨2, ![8192, 512]⟩
abbrev S1x512 : Shape := ⟨2, ![1, 512]⟩
abbrev S512x512 : Shape := ⟨2, ![512, 512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S1x8192x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S1x8192x512, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .bf16⟩
  | .hbm, ⟨11, _⟩ => ⟨S1x512, .f32⟩
  | .hbm, ⟨12, _⟩ => ⟨S1x512, .f32⟩
  | .hbm, ⟨13, _⟩ => ⟨S8192x512, .f32⟩
  | .hbm, ⟨14, _⟩ => ⟨S1x512, .f32⟩
  | .hbm, ⟨15, _⟩ => ⟨S1x512, .f32⟩
  | .hbm, ⟨16, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceConvLnIdeal.lean ====
abbrev S1x8192x512 : Shape := ⟨3, ![1, 8192, 512]⟩
abbrev S512 : Shape := ⟨1, ![512]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩

abbrev nBuf : Space → Nat
  | .hbm => 107
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S1x8192x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S8192x512, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x512, .f32⟩
  | .hbm, ⟨98, _⟩ => ⟨S8192x512, .f32⟩
  | .hbm, ⟨99, _⟩ => ⟨S_, .f32⟩
  | .hbm, ⟨100, _⟩ => ⟨S512, .f32⟩
  | .hbm, ⟨101, _⟩ => ⟨S1x512, .f32⟩
  | .hbm, ⟨102, _⟩ => ⟨S_, .f32⟩
  | .hbm, ⟨103, _⟩ => ⟨S512, .f32⟩
  | .hbm, ⟨104, _⟩ => ⟨S1x512, .f32⟩
  | .hbm, ⟨105, _⟩ => ⟨S1x512, .f32⟩
  | .hbm, ⟨106, _⟩ => ⟨S1x512, .f32⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v30_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v30_1 : Ref sig .tc := ⟨.hbm, 52, rfl⟩
abbrev main_v30_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_cst_16 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== KernelMemKv.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 25
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .bf16⟩
  | .hbm, ⟨22, _⟩ => ⟨S1024x1024, .bf16⟩
  | .hbm, ⟨23, _⟩ => ⟨S1024x1024, .f32⟩
  | .hbm, ⟨24, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S1024x1024, .bf16⟩
  | .local _ .vmem, ⟨4, _⟩ => ⟨S256x1024, .f32⟩
  | .local _ .vmem, ⟨5, _⟩ => ⟨S1024x1024, .f32⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceMemKvIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S1024x1024, .f32⟩
  | .hbm, ⟨22, _⟩ => ⟨S1024x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== KernelLoss.lean ====
abbrev S8192x1024 : Shape := ⟨2, ![8192, 1024]⟩
abbrev S8192x5632 : Shape := ⟨2, ![8192, 5632]⟩
abbrev S2816x1024 : Shape := ⟨2, ![2816, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x5632, .bf16⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLossIdeal.lean ====
abbrev S8192x1024 : Shape := ⟨2, ![8192, 1024]⟩
abbrev S8192x5632 : Shape := ⟨2, ![8192, 5632]⟩
abbrev S2816x1024 : Shape := ⟨2, ![2816, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_cst_6 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== KernelFfn.lean ====
abbrev S8192x5632 : Shape := ⟨2, ![8192, 5632]⟩
abbrev S2816x1024 : Shape := ⟨2, ![2816, 1024]⟩
abbrev S1024 : Shape := ⟨1, ![1024]⟩
abbrev S8192x1024 : Shape := ⟨2, ![8192, 1024]⟩
abbrev S8192x2816 : Shape := ⟨2, ![8192, 2816]⟩
abbrev S_ : Shape := ⟨0, ![]⟩
abbrev S1x1024 : Shape := ⟨2, ![1, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 24
  | .vmem => 15
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x1024, .f32⟩
  | .hbm, ⟨17, _⟩ => ⟨S8192x5632, .bf16⟩
  | .hbm, ⟨18, _⟩ => ⟨S2816x1024, .bf16⟩
  | .hbm, ⟨19, _⟩ => ⟨S1x1024, .f32⟩
  | .hbm, ⟨20, _⟩ => ⟨S8192x5632, .bf16⟩
  | .hbm, ⟨21, _⟩ => ⟨S8192x1024, .bf16⟩
  | .hbm, ⟨22, _⟩ => ⟨S8192x2816, .bf16⟩
  | .hbm, ⟨23, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S2816x1024, .bf16⟩
  | .local _ .vmem, ⟨7, _⟩ => ⟨S1x1024, .f32⟩
  | .local _ .vmem, ⟨8, _⟩ => ⟨S256x5632, .bf16⟩
  | .local _ .vmem, ⟨9, _⟩ => ⟨S256x5632, .bf16⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S1x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceFfnIdeal.lean ====
abbrev S8192x5632 : Shape := ⟨2, ![8192, 5632]⟩
abbrev S2816x1024 : Shape := ⟨2, ![2816, 1024]⟩
abbrev S1024 : Shape := ⟨1, ![1024]⟩
abbrev S8192x1024 : Shape := ⟨2, ![8192, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S_, .f32⟩
  | .hbm, ⟨70, _⟩ => ⟨S8192x5632, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S_, .f32⟩
  | .hbm, ⟨76, _⟩ => ⟨S8192x5632, .f32⟩
  | .hbm, ⟨77, _⟩ => ⟨S8192x5632, .f32⟩
  | .hbm, ⟨78, _⟩ => ⟨S8192x5632, .bf16⟩
  | .hbm, ⟨79, _⟩ => ⟨S8192x1024, .bf16⟩
  | .hbm, ⟨80, _⟩ => ⟨S8192x2816, .bf16⟩
  | .hbm, ⟨81, _⟩ => ⟨S1x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== KernelFfnIn.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S8192x5632, .bf16⟩
  | .hbm, ⟨6, _⟩ => ⟨S1024x5632, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFfnInIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelMixIn.lean ====
abbrev S8192x1024 : Shape := ⟨2, ![8192, 1024]⟩
abbrev S1024 : Shape := ⟨1, ![1024]⟩
abbrev S1024x6912 : Shape := ⟨2, ![1024, 6912]⟩
abbrev S8192x6912 : Shape := ⟨2, ![8192, 6912]⟩
abbrev S8192x256 : Shape := ⟨2, ![8192, 256]⟩
abbrev S8192x3072 : Shape := ⟨2, ![8192, 3072]⟩
abbrev S8192x512 : Shape := ⟨2, ![8192, 512]⟩
abbrev S1024x256 : Shape := ⟨2, ![1024, 256]⟩
abbrev S1024x3072 : Shape := ⟨2, ![1024, 3072]⟩
abbrev S1024x1024 : Shape := ⟨2, ![1024, 1024]⟩
abbrev S1024x512 : Shape := ⟨2, ![1024, 512]⟩
abbrev S1x1024 : Shape := ⟨2, ![1, 1024]⟩
abbrev S512x6912 : Shape := ⟨2, ![512, 6912]⟩
abbrev S512x1024 : Shape := ⟨2, ![512, 1024]⟩
abbrev S512 : Shape := ⟨1, ![512]⟩
abbrev S512x1 : Shape := ⟨2, ![512, 1]⟩

abbrev nBuf : Space → Nat
  | .hbm => 36
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6912, .f32⟩
  | .hbm, ⟨3, _⟩ => ⟨S8192x6912, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x3072, .f32⟩
  | .hbm, ⟨15, _⟩ => ⟨S8192x1024, .f32⟩
  | .hbm, ⟨16, _⟩ => ⟨S8192x512, .f32⟩
  | .hbm, ⟨17, _⟩ => ⟨S8192x6912, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x3072, .f32⟩
  | .hbm, ⟨28, _⟩ => ⟨S1024x1024, .f32⟩
  | .hbm, ⟨29, _⟩ => ⟨S1024x512, .f32⟩
  | .hbm, ⟨30, _⟩ => ⟨S1024x6912, .f32⟩
  | .hbm, ⟨31, _⟩ => ⟨S8192x6912, .bf16⟩
  | .hbm, ⟨32, _⟩ => ⟨S1024x6912, .bf16⟩
  | .hbm, ⟨33, _⟩ => ⟨S1x1024, .f32⟩
  | .hbm, ⟨34, _⟩ => ⟨S8192x1024, .f32⟩
  | .hbm, ⟨35, _⟩ => ⟨S1x1024, .f32⟩
  | .local _ .vmem, ⟨0, _⟩ => ⟨S512x6912, .bf16⟩
  | .local _ .vmem, ⟨1, _⟩ => ⟨S512x6912, .bf16⟩
  | .local _ .vmem, ⟨2, _⟩ => ⟨S1024x6912, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMixInIdeal.lean ====
abbrev S8192x1024 : Shape := ⟨2, ![8192, 1024]⟩
abbrev S1024 : Shape := ⟨1, ![1024]⟩
abbrev S1024x6912 : Shape := ⟨2, ![1024, 6912]⟩
abbrev S8192x6912 : Shape := ⟨2, ![8192, 6912]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6912, .f32⟩
  | .hbm, ⟨3, _⟩ => ⟨S8192x6912, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6912, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelMemAtt.lean ====
abbrev S8192x6912 : Shape := ⟨2, ![8192, 6912]⟩
abbrev S256x1024 : Shape := ⟨2, ![256, 1024]⟩
abbrev S8192x512 : Shape := ⟨2, ![8192, 512]⟩
abbrev S8192x256 : Shape := ⟨2, ![8192, 256]⟩
abbrev S8192x3072 : Shape := ⟨2, ![8192, 3072]⟩
abbrev S8192x1024 : Shape := ⟨2, ![8192, 1024]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 23
  | .vmem => 8
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x512, .f32⟩
  | .hbm, ⟨3, _⟩ => ⟨S8192x6912, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x3072, .f32⟩
  | .hbm, ⟨14, _⟩ => ⟨S8192x1024, .f32⟩
  | .hbm, ⟨15, _⟩ => ⟨S8192x512, .f32⟩
  | .hbm, ⟨16, _⟩ => ⟨S8192x6912, .f32⟩
  | .hbm, ⟨17, _⟩ => ⟨S8192x6912, .bf16⟩
  | .hbm, ⟨18, _⟩ => ⟨S256x1024, .bf16⟩
  | .hbm, ⟨19, _⟩ => ⟨S8192x512, .bf16⟩
  | .hbm, ⟨20, _⟩ => ⟨S8192x6912, .bf16⟩
  | .hbm, ⟨21, _⟩ => ⟨S8192x6912, .bf16⟩
  | .hbm, ⟨22, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceMemAttIdeal.lean ====
abbrev S8192x6912 : Shape := ⟨2, ![8192, 6912]⟩
abbrev S256x1024 : Shape := ⟨2, ![256, 1024]⟩
abbrev S8192x512 : Shape := ⟨2, ![8192, 512]⟩
abbrev S8192x4x128 : Shape := ⟨3, ![8192, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S8192x4096 : Shape := ⟨2, ![8192, 4096]⟩
abbrev S8192x2304 : Shape := ⟨2, ![8192, 2304]⟩

abbrev nBuf : Space → Nat
  | .hbm => 95
  | .vmem => 0
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x512, .f32⟩
  | .hbm, ⟨3, _⟩ => ⟨S8192x6912, .f32⟩
  | .hbm, ⟨4, _⟩ => ⟨S8192x512, .f32⟩
  | .hbm, ⟨5, _⟩ => ⟨S8192x4x128, .f32⟩
  | .hbm, ⟨6, _⟩ => ⟨S256x2x4x128, .f32⟩
  | .hbm, ⟨7, _⟩ => ⟨S256x1x4x128, .f32⟩
  | .hbm, ⟨8, _⟩ => ⟨S256x4x128, .f32⟩
  | .hbm, ⟨9, _⟩ => ⟨S256x1x4x128, .f32⟩
  | .hbm, ⟨10, _⟩ => ⟨S256x4x128, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x128x8192, .f32⟩
  | .hbm, ⟨54, _⟩ => ⟨S8192x4x128, .f32⟩
  | .hbm, ⟨55, _⟩ => ⟨S8192x512, .f32⟩
  | .hbm, ⟨56, _⟩ => ⟨S8192x4x128, .f32⟩
  | .hbm, ⟨57, _⟩ => ⟨S4x128x8192, .f32⟩
  | .hbm, ⟨58, _⟩ => ⟨S4x8192x256, .f32⟩
  | .hbm, ⟨59, _⟩ => ⟨S4x128x256, .f32⟩
  | .hbm, ⟨60, _⟩ => ⟨S256x4x128, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x128, .f32⟩
  | .hbm, ⟨79, _⟩ => ⟨S256x4x128, .f32⟩
  | .hbm, ⟨80, _⟩ => ⟨S4x8192x128, .f32⟩
  | .hbm, ⟨81, _⟩ => ⟨S8192x4x128, .f32⟩
  | .hbm, ⟨82, _⟩ => ⟨S256x1x4x128, .f32⟩
  | .hbm, ⟨83, _⟩ => ⟨S_, .f32⟩
  | .hbm, ⟨84, _⟩ => ⟨S256x2x4x128, .f32⟩
  | .hbm, ⟨85, _⟩ => ⟨S256x1x4x128, .f32⟩
  | .hbm, ⟨86, _⟩ => ⟨S_, .f32⟩
  | .hbm, ⟨87, _⟩ => ⟨S256x2x4x128, .f32⟩
  | .hbm, ⟨88, _⟩ => ⟨S256x2x4x128, .f32⟩
  | .hbm, ⟨89, _⟩ => ⟨S256x1024, .f32⟩
  | .hbm, ⟨90, _⟩ => ⟨S8192x512, .f32⟩
  | .hbm, ⟨91, _⟩ => ⟨S8192x4096, .f32⟩
  | .hbm, ⟨92, _⟩ => ⟨S8192x2304, .f32⟩
  | .hbm, ⟨93, _⟩ => ⟨S8192x6912, .f32⟩
  | .hbm, ⟨94, _⟩ => ⟨S8192x6912, .bf16⟩
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== KernelMemKvFwd.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S256x1024, .bf16⟩
  | .hbm, ⟨6, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceMemKvFwdIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .f32⟩
  | .hbm, ⟨21, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelFfnFwd.lean ====
abbrev S8192x1024 : Shape := ⟨2, ![8192, 1024]⟩
abbrev S8192x5632 : Shape := ⟨2, ![8192, 5632]⟩
abbrev S2816x1024 : Shape := ⟨2, ![2816, 1024]⟩
abbrev S1024 : Shape := ⟨1, ![1024]⟩
abbrev S1x1024 : Shape := ⟨2, ![1, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFfnFwdIdeal.lean ====
abbrev S8192x1024 : Shape := ⟨2, ![8192, 1024]⟩
abbrev S8192x5632 : Shape := ⟨2, ![8192, 5632]⟩
abbrev S2816x1024 : Shape := ⟨2, ![2816, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== KernelMemAttFwd.lean ====
abbrev S8192x6912 : Shape := ⟨2, ![8192, 6912]⟩
abbrev S256x1024 : Shape := ⟨2, ![256, 1024]⟩
abbrev S8192x256 : Shape := ⟨2, ![8192, 256]⟩
abbrev S8192x3072 : Shape := ⟨2, ![8192, 3072]⟩
abbrev S8192x1024 : Shape := ⟨2, ![8192, 1024]⟩
abbrev S8192x512 : Shape := ⟨2, ![8192, 512]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 5
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x3072, .f32⟩
  | .hbm, ⟨12, _⟩ => ⟨S8192x1024, .f32⟩
  | .hbm, ⟨13, _⟩ => ⟨S8192x512, .f32⟩
  | .hbm, ⟨14, _⟩ => ⟨S8192x6912, .f32⟩
  | .hbm, ⟨15, _⟩ => ⟨S8192x6912, .bf16⟩
  | .hbm, ⟨16, _⟩ => ⟨S256x1024, .bf16⟩
  | .hbm, ⟨17, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMemAttFwdIdeal.lean ====
abbrev S8192x6912 : Shape := ⟨2, ![8192, 6912]⟩
abbrev S256x1024 : Shape := ⟨2, ![256, 1024]⟩
abbrev S8192x512 : Shape := ⟨2, ![8192, 512]⟩
abbrev S8192x4x128 : Shape := ⟨3, ![8192, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x6912, .f32⟩
  | .hbm, ⟨1, _⟩ => ⟨S256x1024, .f32⟩
  | .hbm, ⟨2, _⟩ => ⟨S8192x512, .f32⟩
  | .hbm, ⟨3, _⟩ => ⟨S8192x4x128, .f32⟩
  | .hbm, ⟨4, _⟩ => ⟨S256x2x4x128, .f32⟩
  | .hbm, ⟨5, _⟩ => ⟨S256x1x4x128, .f32⟩
  | .hbm, ⟨6, _⟩ => ⟨S256x4x128, .f32⟩
  | .hbm, ⟨7, _⟩ => ⟨S256x1x4x128, .f32⟩
  | .hbm, ⟨8, _⟩ => ⟨S256x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x128x8192, .f32⟩
  | .hbm, ⟨28, _⟩ => ⟨S8192x4x128, .f32⟩
  | .hbm, ⟨29, _⟩ => ⟨S8192x512, .f32⟩
  | .hbm, ⟨30, _⟩ => ⟨S8192x512, .bf16⟩
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelMergeFwd.lean ====
abbrev S8192x1024 : Shape := ⟨2, ![8192, 1024]⟩
abbrev S8192x6912 : Shape := ⟨2, ![8192, 6912]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S1024x1024 : Shape := ⟨2, ![1024, 1024]⟩
abbrev S3072 : Shape := ⟨1, ![3072]⟩
abbrev S1024 : Shape := ⟨1, ![1024]⟩
abbrev S8192x3072 : Shape := ⟨2, ![8192, 3072]⟩
abbrev S1x3072 : Shape := ⟨2, ![1, 3072]⟩
abbrev S1x1024 : Shape := ⟨2, ![1, 1024]⟩
abbrev S512x512 : Shape := ⟨2, ![512, 512]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩

abbrev nBuf : Space → Nat
  | .hbm => 40
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x6912, .f32⟩
  | .hbm, ⟨2, _⟩ => ⟨S8192x512, .f32⟩
  | .hbm, ⟨3, _⟩ => ⟨S8192x256, .f32⟩
  | .hbm, ⟨4, _⟩ => ⟨S8192x512, .f32⟩
  | .hbm, ⟨5, _⟩ => ⟨S512x1024, .f32⟩
  | .hbm, ⟨6, _⟩ => ⟨S256x1024, .f32⟩
  | .hbm, ⟨7, _⟩ => ⟨S512x1024, .f32⟩
  | .hbm, ⟨8, _⟩ => ⟨S1024x1024, .f32⟩
  | .hbm, ⟨9, _⟩ => ⟨S3072, .f32⟩
  | .hbm, ⟨10, _⟩ => ⟨S1024, .f32⟩
  | .hbm, ⟨11, _⟩ => ⟨S1024, .f32⟩
  | .hbm, ⟨12, _⟩ => ⟨S8192x512, .bf16⟩
  | .hbm, ⟨13, _⟩ => ⟨S8192x256, .bf16⟩
  | .hbm, ⟨14, _⟩ => ⟨S8192x512, .bf16⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x3072, .f32⟩
  | .hbm, ⟨25, _⟩ => ⟨S8192x1024, .f32⟩
  | .hbm, ⟨26, _⟩ => ⟨S8192x512, .f32⟩
  | .hbm, ⟨27, _⟩ => ⟨S8192x6912, .f32⟩
  | .hbm, ⟨28, _⟩ => ⟨S8192x6912, .bf16⟩
  | .hbm, ⟨29, _⟩ => ⟨S512x1024, .bf16⟩
  | .hbm, ⟨30, _⟩ => ⟨S256x1024, .bf16⟩
  | .hbm, ⟨31, _⟩ => ⟨S512x1024, .bf16⟩
  | .hbm, ⟨32, _⟩ => ⟨S1024x1024, .bf16⟩
  | .hbm, ⟨33, _⟩ => ⟨S1x3072, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S8192x1024, .bf16⟩
  | .hbm, ⟨38, _⟩ => ⟨S8192x1024, .f32⟩
  | .hbm, ⟨39, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S256x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x3072, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceMergeFwdIdeal.lean ====
abbrev S8192x1024 : Shape := ⟨2, ![8192, 1024]⟩
abbrev S8192x6912 : Shape := ⟨2, ![8192, 6912]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S1024x1024 : Shape := ⟨2, ![1024, 1024]⟩
abbrev S3072 : Shape := ⟨1, ![3072]⟩
abbrev S1024 : Shape := ⟨1, ![1024]⟩
abbrev S8192x3072 : Shape := ⟨2, ![8192, 3072]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6912, .f32⟩
  | .hbm, ⟨2, _⟩ => ⟨S8192x512, .f32⟩
  | .hbm, ⟨3, _⟩ => ⟨S8192x256, .f32⟩
  | .hbm, ⟨4, _⟩ => ⟨S8192x512, .f32⟩
  | .hbm, ⟨5, _⟩ => ⟨S512x1024, .f32⟩
  | .hbm, ⟨6, _⟩ => ⟨S256x1024, .f32⟩
  | .hbm, ⟨7, _⟩ => ⟨S512x1024, .f32⟩
  | .hbm, ⟨8, _⟩ => ⟨S1024x1024, .f32⟩
  | .hbm, ⟨9, _⟩ => ⟨S3072, .f32⟩
  | .hbm, ⟨10, _⟩ => ⟨S1024, .f32⟩
  | .hbm, ⟨11, _⟩ => ⟨S1024, .f32⟩
  | .hbm, ⟨12, _⟩ => ⟨S8192x3072, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S8192x3x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== KernelNorm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelConvDw.lean ====
abbrev S8192x6912 : Shape := ⟨2, ![8192, 6912]⟩
abbrev S31x512 : Shape := ⟨2, ![31, 512]⟩
abbrev S8192x512 : Shape := ⟨2, ![8192, 512]⟩
abbrev S8192x256 : Shape := ⟨2, ![8192, 256]⟩
abbrev S8192x3072 : Shape := ⟨2, ![8192, 3072]⟩
abbrev S8192x1024 : Shape := ⟨2, ![8192, 1024]⟩
abbrev S_ : Shape := ⟨0, ![]⟩
abbrev S32x512 : Shape := ⟨2, ![32, 512]⟩
abbrev S256x1024 : Shape := ⟨2, ![256, 1024]⟩
abbrev S16x1024 : Shape := ⟨2, ![16, 1024]⟩
abbrev S256x512 : Shape := ⟨2, ![256, 512]⟩
abbrev S16x512 : Shape := ⟨2, ![16, 512]⟩
abbrev S296x512 : Shape := ⟨2, ![296, 512]⟩
abbrev S8x288x512 : Shape := ⟨3, ![8, 288, 512]⟩
abbrev S32x8x512 : Shape := ⟨3, ![32, 8, 512]⟩
abbrev S8x512 : Shape := ⟨2, ![8, 512]⟩
abbrev S288x512 : Shape := ⟨2, ![288, 512]⟩
abbrev S1x288x512 : Shape := ⟨3, ![1, 288, 512]⟩
abbrev S1x512 : Shape := ⟨2, ![1, 512]⟩
abbrev S1x32x512 : Shape := ⟨3, ![1, 32, 512]⟩
abbrev S1x8x512 : Shape := ⟨3, ![1, 8, 512]⟩
abbrev S4x8x512 : Shape := ⟨3, ![4, 8, 512]⟩
abbrev S32x1024 : Shape := ⟨2, ![32, 1024]⟩

abbrev nBuf : Space → Nat
  | .hbm => 24
  | .vmem => 21
  | .smem => 0
  | _ => 0

abbrev bufTy : (tb : Table) → Fin (tcTables nBuf tb) → BufTy
  | .hbm, ⟨0, _⟩ => ⟨S8192x6912, .f32⟩
  | .hbm, ⟨1, _⟩ => ⟨S31x512, .f32⟩
  | .hbm, ⟨2, _⟩ => ⟨S8192x512, .f32⟩
  | .hbm, ⟨3, _⟩ => ⟨S8192x6912, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x3072, .f32⟩
  | .hbm, ⟨14, _⟩ => ⟨S8192x1024, .f32⟩
  | .hbm, ⟨15, _⟩ => ⟨S8192x512, .f32⟩
  | .hbm, ⟨16, _⟩ => ⟨S8192x6912, .f32⟩
  | .hbm, ⟨17, _⟩ => ⟨S8192x6912, .bf16⟩
  | .hbm, ⟨18, _⟩ => ⟨S_, .i32⟩
  | .hbm, ⟨19, _⟩ => ⟨S_, .f32⟩
  | .hbm, ⟨20, _⟩ => ⟨S32x512, .f32⟩
  | .hbm, ⟨21, _⟩ => ⟨S8192x6912, .bf16⟩
  | .hbm, ⟨22, _⟩ => ⟨S8192x6912, .bf16⟩
  | .hbm, ⟨23, _⟩ => ⟨S32x512, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S32x512, .f32⟩
  | .local _ .vmem, ⟨13, _⟩ => ⟨S256x1024, .bf16⟩
  | .local _ .vmem, ⟨14, _⟩ => ⟨S256x1024, .bf16⟩
  | .local _ .vmem, ⟨15, _⟩ => ⟨S32x512, .f32⟩
  | .local _ .vmem, ⟨16, _⟩ => ⟨S296x512, .f32⟩
  | .local _ .vmem, ⟨17, _⟩ => ⟨S8x288x512, .f32⟩
  | .local _ .vmem, ⟨18, _⟩ => ⟨S296x512, .f32⟩
  | .local _ .vmem, ⟨19, _⟩ => ⟨S8x288x512, .f32⟩
  | .local _ .vmem, ⟨20, _⟩ => ⟨S32x8x512, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_3888 : BitVec 32 := 31#32
  let v4803 : BitVec 1 := Scalar.cmpi .eq arg0 c31_i32_3888
  let v4804 : BitVec 32 := Scalar.extui v4803
  let c0_i32_3889 : BitVec 32 := 0#32
  let v4805 : BitVec 1 := Scalar.cmpi .ne v4804 c0_i32_3889
  v4805

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceConvDwIdeal.lean ====
abbrev S8192x6912 : Shape := ⟨2, ![8192, 6912]⟩
abbrev S31x512 : Shape := ⟨2, ![31, 512]⟩
abbrev S8192x512 : Shape := ⟨2, ![8192, 512]⟩
abbrev S8192x1024 : Shape := ⟨2, ![8192, 1024]⟩
abbrev S_ : Shape := ⟨0, ![]⟩
abbrev S15x512 : Shape := ⟨2, ![15, 512]⟩
abbrev S8222x512 : Shape := ⟨2, ![8222, 512]⟩
abbrev S1x512 : Shape := ⟨2, ![1, 512]⟩
abbrev S512 : Shape := ⟨1, ![512]⟩
abbrev S32x512 : Shape := ⟨2, ![32, 512]⟩

abbrev nBuf : Space → Nat
  | .hbm => 725
  | .vmem => 0
  | .smem => 0
  | _ => 0

abbrev hbmTy0_0 (i : Nat) : BufTy := match i % 128 with
  | 0 => ⟨S8192x6912, .f32⟩
  | 1 => ⟨S31x512, .f32⟩
  | 2 => ⟨S8192x512, .f32⟩
  | 3 => ⟨S8192x6912, .f32⟩
  | 4 => ⟨S8192x1024, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S15x512, .f32⟩
  | 22 => ⟨S8222x512, .f32⟩
  | 23 => ⟨S_, .f32⟩
  | 24 => ⟨S15x512, .f32⟩
  | 25 => ⟨S_, .f32⟩
  | 26 => ⟨S15x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S1x512, .f32⟩
  | 37 => ⟨S512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S1x512, .f32⟩
  | _ => ⟨S8192x6912, .f32⟩

abbrev hbmTy0_1 (i : Nat) : BufTy := match i % 128 with
  | 0 => ⟨S512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S512, .f32⟩
  | 125 => ⟨S1x512, .f32⟩
  | 126 => ⟨S_, .f32⟩
  | 127 => ⟨S512, .f32⟩
  | _ => ⟨S8192x6912, .f32⟩

abbrev hbmTy0_2 (i : Nat) : BufTy := match i % 128 with
  | 0 => ⟨S_, .f32⟩
  | 1 => ⟨S8222x512, .f32⟩
  | 2 => ⟨S1x512, .f32⟩
  | 3 => ⟨S_, .f32⟩
  | 4 => ⟨S31x512, .f32⟩
  | 5 => ⟨S8192x512, .f32⟩
  | 6 => ⟨S8192x512, .f32⟩
  | 7 => ⟨S8192x512, .f32⟩
  | 8 => ⟨S_, .f32⟩
  | 9 => ⟨S512, .f32⟩
  | 10 => ⟨S1x512, .f32⟩
  | 11 => ⟨S_, .f32⟩
  | 12 => ⟨S512, .f32⟩
  | 13 => ⟨S_, .f32⟩
  | 14 => ⟨S8222x512, .f32⟩
  | 15 => ⟨S8222x512, .f32⟩
  | 16 => ⟨S1x512, .f32⟩
  | 17 => ⟨S_, .f32⟩
  | 18 => ⟨S31x512, .f32⟩
  | 19 => ⟨S31x512, .f32⟩
  | 20 => ⟨S8192x512, .f32⟩
  | 21 => ⟨S8192x512, .f32⟩
  | 22 => ⟨S8192x512, .f32⟩
  | 23 => ⟨S_, .f32⟩
  | 24 => ⟨S512, .f32⟩
  | 25 => ⟨S1x512, .f32⟩
  | 26 => ⟨S_, .f32⟩
  | 27 => ⟨S512, .f32⟩
  | 28 => ⟨S_, .f32⟩
  | 29 => ⟨S8222x512, .f32⟩
  | 30 => ⟨S8222x512, .f32⟩
  | 31 => ⟨S1x512, .f32⟩
  | 32 => ⟨S_, .f32⟩
  | 33 => ⟨S31x512, .f32⟩
  | 34 => ⟨S31x512, .f32⟩
  | 35 => ⟨S8192x512, .f32⟩
  | 36 => ⟨S8192x512, .f32⟩
  | 37 => ⟨S8192x512, .f32⟩
  | 38 => ⟨S_, .f32⟩
  | 39 => ⟨S512, .f32⟩
  | 40 => ⟨S1x512, .f32⟩
  | 41 => ⟨S_, .f32⟩
  | 42 => ⟨S512, .f32⟩
  | 43 => ⟨S_, .f32⟩
  | 44 => ⟨S8222x512, .f32⟩
  | 45 => ⟨S8222x512, .f32⟩
  | 46 => ⟨S1x512, .f32⟩
  | 47 => ⟨S_, .f32⟩
  | 48 => ⟨S31x512, .f32⟩
  | 49 => ⟨S31x512, .f32⟩
  | 50 => ⟨S8192x512, .f32⟩
  | 51 => ⟨S8192x512, .f32⟩
  | 52 => ⟨S8192x512, .f32⟩
  | 53 => ⟨S_, .f32⟩
  | 54 => ⟨S512, .f32⟩
  | 55 => ⟨S1x512, .f32⟩
  | 56 => ⟨S_, .f32⟩
  | 57 => ⟨S512, .f32⟩
  | 58 => ⟨S_, .f32⟩
  | 59 => ⟨S8222x512, .f32⟩
  | 60 => ⟨S8222x512, .f32⟩
  | 61 => ⟨S1x512, .f32⟩
  | 62 => ⟨S_, .f32⟩
  | 63 => ⟨S31x512, .f32⟩
  | 64 => ⟨S31x512, .f32⟩
  | 65 => ⟨S8192x512, .f32⟩
  | 66 => ⟨S8192x512, .f32⟩
  | 67 => ⟨S8192x512, .f32⟩
  | 68 => ⟨S_, .f32⟩
  | 69 => ⟨S512, .f32⟩
  | 70 => ⟨S1x512, .f32⟩
  | 71 => ⟨S_, .f32⟩
  | 72 => ⟨S512, .f32⟩
  | 73 => ⟨S_, .f32⟩
  | 74 => ⟨S8222x512, .f32⟩
  | 75 => ⟨S8222x512, .f32⟩
  | 76 => ⟨S1x512, .f32⟩
  | 77 => ⟨S_, .f32⟩
  | 78 => ⟨S31x512, .f32⟩
  | 79 => ⟨S31x512, .f32⟩
  | 80 => ⟨S8192x512, .f32⟩
  | 81 => ⟨S8192x512, .f32⟩
  | 82 => ⟨S8192x512, .f32⟩
  | 83 => ⟨S_, .f32⟩
  | 84 => ⟨S512, .f32⟩
  | 85 => ⟨S1x512, .f32⟩
  | 86 => ⟨S_, .f32⟩
  | 87 => ⟨S512, .f32⟩
  | 88 => ⟨S_, .f32⟩
  | 89 => ⟨S8222x512, .f32⟩
  | 90 => ⟨S8222x512, .f32⟩
  | 91 => ⟨S1x512, .f32⟩
  | 92 => ⟨S_, .f32⟩
  | 93 => ⟨S31x512, .f32⟩
  | 94 => ⟨S31x512, .f32⟩
  | 95 => ⟨S8192x512, .f32⟩
  | 96 => ⟨S8192x512, .f32⟩
  | 97 => ⟨S8192x512, .f32⟩
  | 98 => ⟨S_, .f32⟩
  | 99 => ⟨S512, .f32⟩
  | 100 => ⟨S1x512, .f32⟩
  | 101 => ⟨S_, .f32⟩
  | 102 => ⟨S512, .f32⟩
  | 103 => ⟨S_, .f32⟩
  | 104 => ⟨S8222x512, .f32⟩
  | 105 => ⟨S8222x512, .f32⟩
  | 106 => ⟨S1x512, .f32⟩
  | 107 => ⟨S_, .f32⟩
  | 108 => ⟨S31x512, .f32⟩
  | 109 => ⟨S31x512, .f32⟩
  | 110 => ⟨S8192x512, .f32⟩
  | 111 => ⟨S8192x512, .f32⟩
  | 112 => ⟨S8192x512, .f32⟩
  | 113 => ⟨S_, .f32⟩
  | 114 => ⟨S512, .f32⟩
  | 115 => ⟨S1x512, .f32⟩
  | 116 => ⟨S_, .f32⟩
  | 117 => ⟨S512, .f32⟩
  | 118 => ⟨S_, .f32⟩
  | 119 => ⟨S8222x512, .f32⟩
  | 120 => ⟨S8222x512, .f32⟩
  | 121 => ⟨S1x512, .f32⟩
  | 122 => ⟨S_, .f32⟩
  | 123 => ⟨S31x512, .f32⟩
  | 124 => ⟨S31x512, .f32⟩
  | 125 => ⟨S8192x512, .f32⟩
  | 126 => ⟨S8192x512, .f32⟩
  | 127 => ⟨S8192x512, .f32⟩
  | _ => ⟨S8192x6912, .f32⟩

abbrev hbmTy0_3 (i : Nat) : BufTy := match i % 128 with
  | 0 => ⟨S_, .f32⟩
  | 1 => ⟨S512, .f32⟩
  | 2 => ⟨S1x512, .f32⟩
  | 3 => ⟨S_, .f32⟩
  | 4 => ⟨S512, .f32⟩
  | 5 => ⟨S_, .f32⟩
  | 6 => ⟨S8222x512, .f32⟩
  | 7 => ⟨S8222x512, .f32⟩
  | 8 => ⟨S1x512, .f32⟩
  | 9 => ⟨S_, .f32⟩
  | 10 => ⟨S31x512, .f32⟩
  | 11 => ⟨S31x512, .f32⟩
  | 12 => ⟨S8192x512, .f32⟩
  | 13 => ⟨S8192x512, .f32⟩
  | 14 => ⟨S8192x512, .f32⟩
  | 15 => ⟨S_, .f32⟩
  | 16 => ⟨S512, .f32⟩
  | 17 => ⟨S1x512, .f32⟩
  | 18 => ⟨S_, .f32⟩
  | 19 => ⟨S512, .f32⟩
  | 20 => ⟨S_, .f32⟩
  | 21 => ⟨S8222x512, .f32⟩
  | 22 => ⟨S8222x512, .f32⟩
  | 23 => ⟨S1x512, .f32⟩
  | 24 => ⟨S_, .f32⟩
  | 25 => ⟨S31x512, .f32⟩
  | 26 => ⟨S31x512, .f32⟩
  | 27 => ⟨S8192x512, .f32⟩
  | 28 => ⟨S8192x512, .f32⟩
  | 29 => ⟨S8192x512, .f32⟩
  | 30 => ⟨S_, .f32⟩
  | 31 => ⟨S512, .f32⟩
  | 32 => ⟨S1x512, .f32⟩
  | 33 => ⟨S_, .f32⟩
  | 34 => ⟨S512, .f32⟩
  | 35 => ⟨S_, .f32⟩
  | 36 => ⟨S8222x512, .f32⟩
  | 37 => ⟨S8222x512, .f32⟩
  | 38 => ⟨S1x512, .f32⟩
  | 39 => ⟨S_, .f32⟩
  | 40 => ⟨S31x512, .f32⟩
  | 41 => ⟨S31x512, .f32⟩
  | 42 => ⟨S8192x512, .f32⟩
  | 43 => ⟨S8192x512, .f32⟩
  | 44 => ⟨S8192x512, .f32⟩
  | 45 => ⟨S_, .f32⟩
  | 46 => ⟨S512, .f32⟩
  | 47 => ⟨S1x512, .f32⟩
  | 48 => ⟨S_, .f32⟩
  | 49 => ⟨S512, .f32⟩
  | 50 => ⟨S_, .f32⟩
  | 51 => ⟨S8222x512, .f32⟩
  | 52 => ⟨S8222x512, .f32⟩
  | 53 => ⟨S1x512, .f32⟩
  | 54 => ⟨S_, .f32⟩
  | 55 => ⟨S31x512, .f32⟩
  | 56 => ⟨S31x512, .f32⟩
  | 57 => ⟨S8192x512, .f32⟩
  | 58 => ⟨S8192x512, .f32⟩
  | 59 => ⟨S8192x512, .f32⟩
  | 60 => ⟨S_, .f32⟩
  | 61 => ⟨S512, .f32⟩
  | 62 => ⟨S1x512, .f32⟩
  | 63 => ⟨S_, .f32⟩
  | 64 => ⟨S512, .f32⟩
  | 65 => ⟨S_, .f32⟩
  | 66 => ⟨S8222x512, .f32⟩
  | 67 => ⟨S8222x512, .f32⟩
  | 68 => ⟨S1x512, .f32⟩
  | 69 => ⟨S_, .f32⟩
  | 70 => ⟨S31x512, .f32⟩
  | 71 => ⟨S31x512, .f32⟩
  | 72 => ⟨S8192x512, .f32⟩
  | 73 => ⟨S8192x512, .f32⟩
  | 74 => ⟨S8192x512, .f32⟩
  | 75 => ⟨S_, .f32⟩
  | 76 => ⟨S512, .f32⟩
  | 77 => ⟨S1x512, .f32⟩
  | 78 => ⟨S_, .f32⟩
  | 79 => ⟨S512, .f32⟩
  | 80 => ⟨S_, .f32⟩
  | 81 => ⟨S8222x512, .f32⟩
  | 82 => ⟨S8222x512, .f32⟩
  | 83 => ⟨S1x512, .f32⟩
  | 84 => ⟨S_, .f32⟩
  | 85 => ⟨S31x512, .f32⟩
  | 86 => ⟨S31x512, .f32⟩
  | 87 => ⟨S8192x512, .f32⟩
  | 88 => ⟨S8192x512, .f32⟩
  | 89 => ⟨S8192x512, .f32⟩
  | 90 => ⟨S_, .f32⟩
  | 91 => ⟨S512, .f32⟩
  | 92 => ⟨S1x512, .f32⟩
  | 93 => ⟨S_, .f32⟩
  | 94 => ⟨S512, .f32⟩
  | 95 => ⟨S_, .f32⟩
  | 96 => ⟨S8222x512, .f32⟩
  | 97 => ⟨S8222x512, .f32⟩
  | 98 => ⟨S1x512, .f32⟩
  | 99 => ⟨S_, .f32⟩
  | 100 => ⟨S31x512, .f32⟩
  | 101 => ⟨S31x512, .f32⟩
  | 102 => ⟨S8192x512, .f32⟩
  | 103 => ⟨S8192x512, .f32⟩
  | 104 => ⟨S8192x512, .f32⟩
  | 105 => ⟨S_, .f32⟩
  | 106 => ⟨S512, .f32⟩
  | 107 => ⟨S1x512, .f32⟩
  | 108 => ⟨S_, .f32⟩
  | 109 => ⟨S512, .f32⟩
  | 110 => ⟨S_, .f32⟩
  | 111 => ⟨S8222x512, .f32⟩
  | 112 => ⟨S8222x512, .f32⟩
  | 113 => ⟨S1x512, .f32⟩
  | 114 => ⟨S_, .f32⟩
  | 115 => ⟨S31x512, .f32⟩
  | 116 => ⟨S31x512, .f32⟩
  | 117 => ⟨S8192x512, .f32⟩
  | 118 => ⟨S8192x512, .f32⟩
  | 119 => ⟨S8192x512, .f32⟩
  | 120 => ⟨S_, .f32⟩
  | 121 => ⟨S512, .f32⟩
  | 122 => ⟨S1x512, .f32⟩
  | 123 => ⟨S_, .f32⟩
  | 124 => ⟨S512, .f32⟩
  | 125 => ⟨S_, .f32⟩
  | 126 => ⟨S8222x512, .f32⟩
  | 127 => ⟨S8222x512, .f32⟩
  | _ => ⟨S8192x6912, .f32⟩

abbrev hbmTy0_4 (i : Nat) : BufTy := match i % 128 with
  | 0 => ⟨S1x512, .f32⟩
  | 1 => ⟨S_, .f32⟩
  | 2 => ⟨S31x512, .f32⟩
  | 3 => ⟨S31x512, .f32⟩
  | 4 => ⟨S8192x512, .f32⟩
  | 5 => ⟨S8192x512, .f32⟩
  | 6 => ⟨S8192x512, .f32⟩
  | 7 => ⟨S_, .f32⟩
  | 8 => ⟨S512, .f32⟩
  | 9 => ⟨S1x512, .f32⟩
  | 10 => ⟨S_, .f32⟩
  | 11 => ⟨S512, .f32⟩
  | 12 => ⟨S_, .f32⟩
  | 13 => ⟨S8222x512, .f32⟩
  | 14 => ⟨S8222x512, .f32⟩
  | 15 => ⟨S1x512, .f32⟩
  | 16 => ⟨S_, .f32⟩
  | 17 => ⟨S31x512, .f32⟩
  | 18 => ⟨S31x512, .f32⟩
  | 19 => ⟨S8192x512, .f32⟩
  | 20 => ⟨S8192x512, .f32⟩
  | 21 => ⟨S8192x512, .f32⟩
  | 22 => ⟨S_, .f32⟩
  | 23 => ⟨S512, .f32⟩
  | 24 => ⟨S1x512, .f32⟩
  | 25 => ⟨S_, .f32⟩
  | 26 => ⟨S512, .f32⟩
  | 27 => ⟨S_, .f32⟩
  | 28 => ⟨S8222x512, .f32⟩
  | 29 => ⟨S8222x512, .f32⟩
  | 30 => ⟨S1x512, .f32⟩
  | 31 => ⟨S_, .f32⟩
  | 32 => ⟨S31x512, .f32⟩
  | 33 => ⟨S31x512, .f32⟩
  | 34 => ⟨S8192x512, .f32⟩
  | 35 => ⟨S8192x512, .f32⟩
  | 36 => ⟨S8192x512, .f32⟩
  | 37 => ⟨S_, .f32⟩
  | 38 => ⟨S512, .f32⟩
  | 39 => ⟨S1x512, .f32⟩
  | 40 => ⟨S_, .f32⟩
  | 41 => ⟨S512, .f32⟩
  | 42 => ⟨S_, .f32⟩
  | 43 => ⟨S8222x512, .f32⟩
  | 44 => ⟨S8222x512, .f32⟩
  | 45 => ⟨S1x512, .f32⟩
  | 46 => ⟨S_, .f32⟩
  | 47 => ⟨S31x512, .f32⟩
  | 48 => ⟨S31x512, .f32⟩
  | 49 => ⟨S8192x512, .f32⟩
  | 50 => ⟨S8192x512, .f32⟩
  | 51 => ⟨S8192x512, .f32⟩
  | 52 => ⟨S_, .f32⟩
  | 53 => ⟨S512, .f32⟩
  | 54 => ⟨S1x512, .f32⟩
  | 55 => ⟨S_, .f32⟩
  | 56 => ⟨S512, .f32⟩
  | 57 => ⟨S_, .f32⟩
  | 58 => ⟨S8222x512, .f32⟩
  | 59 => ⟨S8222x512, .f32⟩
  | 60 => ⟨S1x512, .f32⟩
  | 61 => ⟨S_, .f32⟩
  | 62 => ⟨S31x512, .f32⟩
  | 63 => ⟨S31x512, .f32⟩
  | 64 => ⟨S8192x512, .f32⟩
  | 65 => ⟨S8192x512, .f32⟩
  | 66 => ⟨S8192x512, .f32⟩
  | 67 => ⟨S_, .f32⟩
  | 68 => ⟨S512, .f32⟩
  | 69 => ⟨S1x512, .f32⟩
  | 70 => ⟨S_, .f32⟩
  | 71 => ⟨S512, .f32⟩
  | 72 => ⟨S_, .f32⟩
  | 73 => ⟨S8222x512, .f32⟩
  | 74 => ⟨S8222x512, .f32⟩
  | 75 => ⟨S1x512, .f32⟩
  | 76 => ⟨S_, .f32⟩
  | 77 => ⟨S31x512, .f32⟩
  | 78 => ⟨S31x512, .f32⟩
  | 79 => ⟨S8192x512, .f32⟩
  | 80 => ⟨S8192x512, .f32⟩
  | 81 => ⟨S8192x512, .f32⟩
  | 82 => ⟨S_, .f32⟩
  | 83 => ⟨S512, .f32⟩
  | 84 => ⟨S1x512, .f32⟩
  | 85 => ⟨S_, .f32⟩
  | 86 => ⟨S512, .f32⟩
  | 87 => ⟨S_, .f32⟩
  | 88 => ⟨S8222x512, .f32⟩
  | 89 => ⟨S8222x512, .f32⟩
  | 90 => ⟨S1x512, .f32⟩
  | 91 => ⟨S_, .f32⟩
  | 92 => ⟨S31x512, .f32⟩
  | 93 => ⟨S31x512, .f32⟩
  | 94 => ⟨S8192x512, .f32⟩
  | 95 => ⟨S8192x512, .f32⟩
  | 96 => ⟨S8192x512, .f32⟩
  | 97 => ⟨S_, .f32⟩
  | 98 => ⟨S512, .f32⟩
  | 99 => ⟨S1x512, .f32⟩
  | 100 => ⟨S_, .f32⟩
  | 101 => ⟨S512, .f32⟩
  | 102 => ⟨S_, .f32⟩
  | 103 => ⟨S8222x512, .f32⟩
  | 104 => ⟨S8222x512, .f32⟩
  | 105 => ⟨S1x512, .f32⟩
  | 106 => ⟨S_, .f32⟩
  | 107 => ⟨S31x512, .f32⟩
  | 108 => ⟨S31x512, .f32⟩
  | 109 => ⟨S8192x512, .f32⟩
  | 110 => ⟨S8192x512, .f32⟩
  | 111 => ⟨S8192x512, .f32⟩
  | 112 => ⟨S_, .f32⟩
  | 113 => ⟨S512, .f32⟩
  | 114 => ⟨S1x512, .f32⟩
  | 115 => ⟨S_, .f32⟩
  | 116 => ⟨S512, .f32⟩
  | 117 => ⟨S_, .f32⟩
  | 118 => ⟨S8222x512, .f32⟩
  | 119 => ⟨S8222x512, .f32⟩
  | 120 => ⟨S1x512, .f32⟩
  | 121 => ⟨S_, .f32⟩
  | 122 => ⟨S31x512, .f32⟩
  | 123 => ⟨S31x512, .f32⟩
  | 124 => ⟨S8192x512, .f32⟩
  | 125 => ⟨S8192x512, .f32⟩
  | 126 => ⟨S8192x512, .f32⟩
  | 127 => ⟨S_, .f32⟩
  | _ => ⟨S8192x6912, .f32⟩

abbrev hbmTy0_5 (i : Nat) : BufTy := match i % 128 with
  | 0 => ⟨S512, .f32⟩
  | 1 => ⟨S1x512, .f32⟩
  | 2 => ⟨S_, .f32⟩
  | 3 => ⟨S512, .f32⟩
  | 4 => ⟨S_, .f32⟩
  | 5 => ⟨S8222x512, .f32⟩
  | 6 => ⟨S8222x512, .f32⟩
  | 7 => ⟨S1x512, .f32⟩
  | 8 => ⟨S_, .f32⟩
  | 9 => ⟨S31x512, .f32⟩
  | 10 => ⟨S31x512, .f32⟩
  | 11 => ⟨S8192x512, .f32⟩
  | 12 => ⟨S8192x512, .f32⟩
  | 13 => ⟨S8192x512, .f32⟩
  | 14 => ⟨S_, .f32⟩
  | 15 => ⟨S512, .f32⟩
  | 16 => ⟨S1x512, .f32⟩
  | 17 => ⟨S_, .f32⟩
  | 18 => ⟨S512, .f32⟩
  | 19 => ⟨S_, .f32⟩
  | 20 => ⟨S8222x512, .f32⟩
  | 21 => ⟨S8222x512, .f32⟩
  | 22 => ⟨S1x512, .f32⟩
  | 23 => ⟨S_, .f32⟩
  | 24 => ⟨S31x512, .f32⟩
  | 25 => ⟨S31x512, .f32⟩
  | 26 => ⟨S8192x512, .f32⟩
  | 27 => ⟨S8192x512, .f32⟩
  | 28 => ⟨S8192x512, .f32⟩
  | 29 => ⟨S_, .f32⟩
  | 30 => ⟨S512, .f32⟩
  | 31 => ⟨S1x512, .f32⟩
  | 32 => ⟨S_, .f32⟩
  | 33 => ⟨S512, .f32⟩
  | 34 => ⟨S_, .f32⟩
  | 35 => ⟨S8222x512, .f32⟩
  | 36 => ⟨S8222x512, .f32⟩
  | 37 => ⟨S1x512, .f32⟩
  | 38 => ⟨S_, .f32⟩
  | 39 => ⟨S31x512, .f32⟩
  | 40 => ⟨S31x512, .f32⟩
  | 41 => ⟨S8192x512, .f32⟩
  | 42 => ⟨S8192x512, .f32⟩
  | 43 => ⟨S8192x512, .f32⟩
  | 44 => ⟨S_, .f32⟩
  | 45 => ⟨S512, .f32⟩
  | 46 => ⟨S1x512, .f32⟩
  | 47 => ⟨S_, .f32⟩
  | 48 => ⟨S512, .f32⟩
  | 49 => ⟨S_, .f32⟩
  | 50 => ⟨S8222x512, .f32⟩
  | 51 => ⟨S8222x512, .f32⟩
  | 52 => ⟨S1x512, .f32⟩
  | 53 => ⟨S_, .f32⟩
  | 54 => ⟨S31x512, .f32⟩
  | 55 => ⟨S31x512, .f32⟩
  | 56 => ⟨S8192x512, .f32⟩
  | 57 => ⟨S8192x512, .f32⟩
  | 58 => ⟨S8192x512, .f32⟩
  | 59 => ⟨S_, .f32⟩
  | 60 => ⟨S512, .f32⟩
  | 61 => ⟨S1x512, .f32⟩
  | 62 => ⟨S_, .f32⟩
  | 63 => ⟨S512, .f32⟩
  | 64 => ⟨S_, .f32⟩
  | 65 => ⟨S8222x512, .f32⟩
  | 66 => ⟨S8222x512, .f32⟩
  | 67 => ⟨S1x512, .f32⟩
  | 68 => ⟨S_, .f32⟩
  | 69 => ⟨S31x512, .f32⟩
  | 70 => ⟨S31x512, .f32⟩
  | 71 => ⟨S15x512, .f32⟩
  | 72 => ⟨S8192x512, .f32⟩
  | 73 => ⟨S15x512, .f32⟩
  | 74 => ⟨S8192x512, .f32⟩
  | 75 => ⟨S8192x512, .f32⟩
  | 76 => ⟨S8192x512, .f32⟩
  | 77 => ⟨S8192x1024, .f32⟩
  | 78 => ⟨S_, .i32⟩
  | 79 => ⟨S_, .i32⟩
  | 80 => ⟨S8192x6912, .f32⟩
  | 81 => ⟨S8192x6912, .bf16⟩
  | 82 => ⟨S_, .i32⟩
  | 83 => ⟨S_, .f32⟩
  | 84 => ⟨S32x512, .f32⟩
  | _ => ⟨S8192x6912, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x6912, .f32⟩

abbrev bufTy : (tb : Table) → Fin (tcTables nBuf tb) → BufTy
  | .hbm, ⟨i, _⟩ => hbmTy i
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_6 : Ref sig .tc := ⟨.hbm, 251, rfl⟩
abbrev main_v240 : Ref sig .tc := ⟨.hbm, 252, rfl⟩
abbrev main_v241 : Ref sig .tc := ⟨.hbm, 253, rfl⟩
abbrev main_cst_7 : Ref sig .tc := ⟨.hbm, 254, rfl⟩
abbrev main_v242 : Ref sig .tc := ⟨.hbm, 255, rfl⟩
abbrev main_cst_8 : Ref sig .tc := ⟨.hbm, 256, rfl⟩
abbrev main_v243 : Ref sig .tc := ⟨.hbm, 257, rfl⟩
abbrev main_v244 : Ref sig .tc := ⟨.hbm, 258, rfl⟩
abbrev main_cst_9 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_cst_10 : Ref sig .tc := ⟨.hbm, 264, rfl⟩
abbrev main_v249 : Ref sig .tc := ⟨.hbm, 265, rfl⟩
abbrev main_v250 : Ref sig .tc := ⟨.hbm, 266, rfl⟩
abbrev main_cst_11 : Ref sig .tc := ⟨.hbm, 267, rfl⟩
abbrev main_v251 : Ref sig .tc := ⟨.hbm, 268, rfl⟩
abbrev main_cst_12 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_13 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_cst_14 : Ref sig .tc := ⟨.hbm, 279, rfl⟩
abbrev main_v260 : Ref sig .tc := ⟨.hbm, 280, rfl⟩
abbrev main_v261 : Ref sig .tc := ⟨.hbm, 281, rfl⟩
abbrev main_cst_15 : Ref sig .tc := ⟨.hbm, 282, rfl⟩
abbrev main_v262 : Ref sig .tc := ⟨.hbm, 283, rfl⟩
abbrev main_cst_16 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_cst_17 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_cst_18 : Ref sig .tc := ⟨.hbm, 294, rfl⟩
abbrev main_v271 : Ref sig .tc := ⟨.hbm, 295, rfl⟩
abbrev main_v272 : Ref sig .tc := ⟨.hbm, 296, rfl⟩
abbrev main_cst_19 : Ref sig .tc := ⟨.hbm, 297, rfl⟩
abbrev main_v273 : Ref sig .tc := ⟨.hbm, 298, rfl⟩
abbrev main_cst_20 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_cst_21 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_cst_22 : Ref sig .tc := ⟨.hbm, 309, rfl⟩
abbrev main_v282 : Ref sig .tc := ⟨.hbm, 310, rfl⟩
abbrev main_v283 : Ref sig .tc := ⟨.hbm, 311, rfl⟩
abbrev main_cst_23 : Ref sig .tc := ⟨.hbm, 312, rfl⟩
abbrev main_v284 : Ref sig .tc := ⟨.hbm, 313, rfl⟩
abbrev main_cst_24 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_cst_25 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_cst_26 : Ref sig .tc := ⟨.hbm, 324, rfl⟩
abbrev main_v293 : Ref sig .tc := ⟨.hbm, 325, rfl⟩
abbrev main_v294 : Ref sig .tc := ⟨.hbm, 326, rfl⟩
abbrev main_cst_27 : Ref sig .tc := ⟨.hbm, 327, rfl⟩
abbrev main_v295 : Ref sig .tc := ⟨.hbm, 328, rfl⟩
abbrev main_cst_28 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_cst_29 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_cst_30 : Ref sig .tc := ⟨.hbm, 339, rfl⟩
abbrev main_v304 : Ref sig .tc := ⟨.hbm, 340, rfl⟩
abbrev main_v305 : Ref sig .tc := ⟨.hbm, 341, rfl⟩
abbrev main_cst_31 : Ref sig .tc := ⟨.hbm, 342, rfl⟩
abbrev main_v306 : Ref sig .tc := ⟨.hbm, 343, rfl⟩
abbrev main_cst_32 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_cst_33 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_cst_34 : Ref sig .tc := ⟨.hbm, 354, rfl⟩
abbrev main_v315 : Ref sig .tc := ⟨.hbm, 355, rfl⟩
abbrev main_v316 : Ref sig .tc := ⟨.hbm, 356, rfl⟩
abbrev main_cst_35 : Ref sig .tc := ⟨.hbm, 357, rfl⟩
abbrev main_v317 : Ref sig .tc := ⟨.hbm, 358, rfl⟩
abbrev main_cst_36 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_cst_37 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_cst_38 : Ref sig .tc := ⟨.hbm, 369, rfl⟩
abbrev main_v326 : Ref sig .tc := ⟨.hbm, 370, rfl⟩
abbrev main_v327 : Ref sig .tc := ⟨.hbm, 371, rfl⟩
abbrev main_cst_39 : Ref sig .tc := ⟨.hbm, 372, rfl⟩
abbrev main_v328 : Ref sig .tc := ⟨.hbm, 373, rfl⟩
abbrev main_cst_40 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_cst_41 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_cst_42 : Ref sig .tc := ⟨.hbm, 384, rfl⟩
abbrev main_v337 : Ref sig .tc := ⟨.hbm, 385, rfl⟩
abbrev main_v338 : Ref sig .tc := ⟨.hbm, 386, rfl⟩
abbrev main_cst_43 : Ref sig .tc := ⟨.hbm, 387, rfl⟩
abbrev main_v339 : Ref sig .tc := ⟨.hbm, 388, rfl⟩
abbrev main_cst_44 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_cst_45 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_cst_46 : Ref sig .tc := ⟨.hbm, 399, rfl⟩
abbrev main_v348 : Ref sig .tc := ⟨.hbm, 400, rfl⟩
abbrev main_v349 : Ref sig .tc := ⟨.hbm, 401, rfl⟩
abbrev main_cst_47 : Ref sig .tc := ⟨.hbm, 402, rfl⟩
abbrev main_v350 : Ref sig .tc := ⟨.hbm, 403, rfl⟩
abbrev main_cst_48 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_cst_49 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_cst_50 : Ref sig .tc := ⟨.hbm, 414, rfl⟩
abbrev main_v359 : Ref sig .tc := ⟨.hbm, 415, rfl⟩
abbrev main_v360 : Ref sig .tc := ⟨.hbm, 416, rfl⟩
abbrev main_cst_51 : Ref sig .tc := ⟨.hbm, 417, rfl⟩
abbrev main_v361 : Ref sig .tc := ⟨.hbm, 418, rfl⟩
abbrev main_cst_52 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_cst_53 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_v369 : Ref sig .tc := ⟨.hbm, 428, rfl⟩
abbrev main_cst_54 : Ref sig .tc := ⟨.hbm, 429, rfl⟩
abbrev main_v370 : Ref sig .tc := ⟨.hbm, 430, rfl⟩
abbrev main_v371 : Ref sig .tc := ⟨.hbm, 431, rfl⟩
abbrev main_cst_55 : Ref sig .tc := ⟨.hbm, 432, rfl⟩
abbrev main_v372 : Ref sig .tc := ⟨.hbm, 433, rfl⟩
abbrev main_cst_56 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_cst_57 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_cst_58 : Ref sig .tc := ⟨.hbm, 444, rfl⟩
abbrev main_v381 : Ref sig .tc := ⟨.hbm, 445, rfl⟩
abbrev main_v382 : Ref sig .tc := ⟨.hbm, 446, rfl⟩
abbrev main_cst_59 : Ref sig .tc := ⟨.hbm, 447, rfl⟩
abbrev main_v383 : Ref sig .tc := ⟨.hbm, 448, rfl⟩
abbrev main_cst_60 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_cst_61 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_v391 : Ref sig .tc := ⟨.hbm, 458, rfl⟩
abbrev main_cst_62 : Ref sig .tc := ⟨.hbm, 459, rfl⟩
abbrev main_v392 : Ref sig .tc := ⟨.hbm, 460, rfl⟩
abbrev main_v393 : Ref sig .tc := ⟨.hbm, 461, rfl⟩
abbrev main_cst_63 : Ref sig .tc := ⟨.hbm, 462, rfl⟩
abbrev main_v394 : Ref sig .tc := ⟨.hbm, 463, rfl⟩
abbrev main_cst_64 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_cst_65 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_v402 : Ref sig .tc := ⟨.hbm, 473, rfl⟩
abbrev main_cst_66 : Ref sig .tc := ⟨.hbm, 474, rfl⟩
abbrev main_v403 : Ref sig .tc := ⟨.hbm, 475, rfl⟩
abbrev main_v404 : Ref sig .tc := ⟨.hbm, 476, rfl⟩
abbrev main_cst_67 : Ref sig .tc := ⟨.hbm, 477, rfl⟩
abbrev main_v405 : Ref sig .tc := ⟨.hbm, 478, rfl⟩
abbrev main_cst_68 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_cst_69 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_v413 : Ref sig .tc := ⟨.hbm, 488, rfl⟩
abbrev main_cst_70 : Ref sig .tc := ⟨.hbm, 489, rfl⟩
abbrev main_v414 : Ref sig .tc := ⟨.hbm, 490, rfl⟩
abbrev main_v415 : Ref sig .tc := ⟨.hbm, 491, rfl⟩
abbrev main_cst_71 : Ref sig .tc := ⟨.hbm, 492, rfl⟩
abbrev main_v416 : Ref sig .tc := ⟨.hbm, 493, rfl⟩
abbrev main_cst_72 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_cst_73 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_v424 : Ref sig .tc := ⟨.hbm, 503, rfl⟩
abbrev main_cst_74 : Ref sig .tc := ⟨.hbm, 504, rfl⟩
abbrev main_v425 : Ref sig .tc := ⟨.hbm, 505, rfl⟩
abbrev main_v426 : Ref sig .tc := ⟨.hbm, 506, rfl⟩
abbrev main_cst_75 : Ref sig .tc := ⟨.hbm, 507, rfl⟩
abbrev main_v427 : Ref sig .tc := ⟨.hbm, 508, rfl⟩
abbrev main_cst_76 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_cst_77 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_v435 : Ref sig .tc := ⟨.hbm, 518, rfl⟩
abbrev main_cst_78 : Ref sig .tc := ⟨.hbm, 519, rfl⟩
abbrev main_v436 : Ref sig .tc := ⟨.hbm, 520, rfl⟩
abbrev main_v437 : Ref sig .tc := ⟨.hbm, 521, rfl⟩
abbrev main_cst_79 : Ref sig .tc := ⟨.hbm, 522, rfl⟩
abbrev main_v438 : Ref sig .tc := ⟨.hbm, 523, rfl⟩
abbrev main_cst_80 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_cst_81 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_cst_82 : Ref sig .tc := ⟨.hbm, 534, rfl⟩
abbrev main_v447 : Ref sig .tc := ⟨.hbm, 535, rfl⟩
abbrev main_v448 : Ref sig .tc := ⟨.hbm, 536, rfl⟩
abbrev main_cst_83 : Ref sig .tc := ⟨.hbm, 537, rfl⟩
abbrev main_v449 : Ref sig .tc := ⟨.hbm, 538, rfl⟩
abbrev main_cst_84 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_cst_85 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_v457 : Ref sig .tc := ⟨.hbm, 548, rfl⟩
abbrev main_cst_86 : Ref sig .tc := ⟨.hbm, 549, rfl⟩
abbrev main_v458 : Ref sig .tc := ⟨.hbm, 550, rfl⟩
abbrev main_v459 : Ref sig .tc := ⟨.hbm, 551, rfl⟩
abbrev main_cst_87 : Ref sig .tc := ⟨.hbm, 552, rfl⟩
abbrev main_v460 : Ref sig .tc := ⟨.hbm, 553, rfl⟩
abbrev main_cst_88 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_cst_89 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_v467 : Ref sig .tc := ⟨.hbm, 562, rfl⟩
abbrev main_v468 : Ref sig .tc := ⟨.hbm, 563, rfl⟩
abbrev main_cst_90 : Ref sig .tc := ⟨.hbm, 564, rfl⟩
abbrev main_v469 : Ref sig .tc := ⟨.hbm, 565, rfl⟩
abbrev main_v470 : Ref sig .tc := ⟨.hbm, 566, rfl⟩
abbrev main_cst_91 : Ref sig .tc := ⟨.hbm, 567, rfl⟩
abbrev main_v471 : Ref sig .tc := ⟨.hbm, 568, rfl⟩
abbrev main_cst_92 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_cst_93 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_v479 : Ref sig .tc := ⟨.hbm, 578, rfl⟩
abbrev main_cst_94 : Ref sig .tc := ⟨.hbm, 579, rfl⟩
abbrev main_v480 : Ref sig .tc := ⟨.hbm, 580, rfl⟩
abbrev main_v481 : Ref sig .tc := ⟨.hbm, 581, rfl⟩
abbrev main_cst_95 : Ref sig .tc := ⟨.hbm, 582, rfl⟩
abbrev main_v482 : Ref sig .tc := ⟨.hbm, 583, rfl⟩
abbrev main_cst_96 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_cst_97 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_v490 : Ref sig .tc := ⟨.hbm, 593, rfl⟩
abbrev main_cst_98 : Ref sig .tc := ⟨.hbm, 594, rfl⟩
abbrev main_v491 : Ref sig .tc := ⟨.hbm, 595, rfl⟩
abbrev main_v492 : Ref sig .tc := ⟨.hbm, 596, rfl⟩
abbrev main_cst_99 : Ref sig .tc := ⟨.hbm, 597, rfl⟩
abbrev main_v493 : Ref sig .tc := ⟨.hbm, 598, rfl⟩
abbrev main_cst_100 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_cst_101 : Ref sig .tc := ⟨.hbm, 603, rfl⟩
abbrev main_v497 : Ref sig .tc := ⟨.hbm, 604, rfl⟩
abbrev main_v498 : Ref sig .tc := ⟨.hbm, 605, rfl⟩
abbrev main_v499 : Ref sig .tc := ⟨.hbm, 606, rfl⟩
abbrev main_v500 : Ref sig .tc := ⟨.hbm, 607, rfl⟩
abbrev main_v501 : Ref sig .tc := ⟨.hbm, 608, rfl⟩
abbrev main_cst_102 : Ref sig .tc := ⟨.hbm, 609, rfl⟩
abbrev main_v502 : Ref sig .tc := ⟨.hbm, 610, rfl⟩
abbrev main_v503 : Ref sig .tc := ⟨.hbm, 611, rfl⟩
abbrev main_cst_103 : Ref sig .tc := ⟨.hbm, 612, rfl⟩
abbrev main_v504 : Ref sig .tc := ⟨.hbm, 613, rfl⟩
abbrev main_cst_104 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_cst_105 : Ref sig .tc := ⟨.hbm, 618, rfl⟩
abbrev main_v508 : Ref sig .tc := ⟨.hbm, 619, rfl⟩
abbrev main_v509 : Ref sig .tc := ⟨.hbm, 620, rfl⟩
abbrev main_v510 : Ref sig .tc := ⟨.hbm, 621, rfl⟩
abbrev main_v511 : Ref sig .tc := ⟨.hbm, 622, rfl⟩
abbrev main_v512 : Ref sig .tc := ⟨.hbm, 623, rfl⟩
abbrev main_cst_106 : Ref sig .tc := ⟨.hbm, 624, rfl⟩
abbrev main_v513 : Ref sig .tc := ⟨.hbm, 625, rfl⟩
abbrev main_v514 : Ref sig .tc := ⟨.hbm, 626, rfl⟩
abbrev main_cst_107 : Ref sig .tc := ⟨.hbm, 627, rfl⟩
abbrev main_v515 : Ref sig .tc := ⟨.hbm, 628, rfl⟩
abbrev main_cst_108 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_109 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_v523 : Ref sig .tc := ⟨.hbm, 638, rfl⟩
abbrev main_cst_110 : Ref sig .tc := ⟨.hbm, 639, rfl⟩
abbrev main_v524 : Ref sig .tc := ⟨.hbm, 640, rfl⟩
abbrev main_v525 : Ref sig .tc := ⟨.hbm, 641, rfl⟩
abbrev main_cst_111 : Ref sig .tc := ⟨.hbm, 642, rfl⟩
abbrev main_v526 : Ref sig .tc := ⟨.hbm, 643, rfl⟩
abbrev main_cst_112 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_cst_113 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_v534 : Ref sig .tc := ⟨.hbm, 653, rfl⟩
abbrev main_cst_114 : Ref sig .tc := ⟨.hbm, 654, rfl⟩
abbrev main_v535 : Ref sig .tc := ⟨.hbm, 655, rfl⟩
abbrev main_v536 : Ref sig .tc := ⟨.hbm, 656, rfl⟩
abbrev main_cst_115 : Ref sig .tc := ⟨.hbm, 657, rfl⟩
abbrev main_v537 : Ref sig .tc := ⟨.hbm, 658, rfl⟩
abbrev main_cst_116 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_cst_117 : Ref sig .tc := ⟨.hbm, 663, rfl⟩
abbrev main_v541 : Ref sig .tc := ⟨.hbm, 664, rfl⟩
abbrev main_v542 : Ref sig .tc := ⟨.hbm, 665, rfl⟩
abbrev main_v543 : Ref sig .tc := ⟨.hbm, 666, rfl⟩
abbrev main_v544 : Ref sig .tc := ⟨.hbm, 667, rfl⟩
abbrev main_v545 : Ref sig .tc := ⟨.hbm, 668, rfl⟩
abbrev main_cst_118 : Ref sig .tc := ⟨.hbm, 669, rfl⟩
abbrev main_v546 : Ref sig .tc := ⟨.hbm, 670, rfl⟩
abbrev main_v547 : Ref sig .tc := ⟨.hbm, 671, rfl⟩
abbrev main_cst_119 : Ref sig .tc := ⟨.hbm, 672, rfl⟩
abbrev main_v548 : Ref sig .tc := ⟨.hbm, 673, rfl⟩
abbrev main_cst_120 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_cst_121 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_v556 : Ref sig .tc := ⟨.hbm, 683, rfl⟩
abbrev main_cst_122 : Ref sig .tc := ⟨.hbm, 684, rfl⟩
abbrev main_v557 : Ref sig .tc := ⟨.hbm, 685, rfl⟩
abbrev main_v558 : Ref sig .tc := ⟨.hbm, 686, rfl⟩
abbrev main_cst_123 : Ref sig .tc := ⟨.hbm, 687, rfl⟩
abbrev main_v559 : Ref sig .tc := ⟨.hbm, 688, rfl⟩
abbrev main_cst_124 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_cst_125 : Ref sig .tc := ⟨.hbm, 693, rfl⟩
abbrev main_v563 : Ref sig .tc := ⟨.hbm, 694, rfl⟩
abbrev main_v564 : Ref sig .tc := ⟨.hbm, 695, rfl⟩
abbrev main_v565 : Ref sig .tc := ⟨.hbm, 696, rfl⟩
abbrev main_v566 : Ref sig .tc := ⟨.hbm, 697, rfl⟩
abbrev main_v567 : Ref sig .tc := ⟨.hbm, 698, rfl⟩
abbrev main_cst_126 : Ref sig .tc := ⟨.hbm, 699, rfl⟩
abbrev main_v568 : Ref sig .tc := ⟨.hbm, 700, rfl⟩
abbrev main_v569 : Ref sig .tc := ⟨.hbm, 701, rfl⟩
abbrev main_cst_127 : Ref sig .tc := ⟨.hbm, 702, rfl⟩
abbrev main_v570 : Ref sig .tc := ⟨.hbm, 703, rfl⟩
abbrev main_cst_128 : Ref sig .tc := ⟨.hbm, 704, rfl⟩
abbrev main_v571 : Ref sig .tc := ⟨.hbm, 705, rfl⟩
abbrev main_v572 : Ref sig .tc := ⟨.hbm, 706, rfl⟩
abbrev main_v573 : Ref sig .tc := ⟨.hbm, 707, rfl⟩
abbrev main_cst_129 : Ref sig .tc := ⟨.hbm, 708, rfl⟩
abbrev main_v574 : Ref sig .tc := ⟨.hbm, 709, rfl⟩
abbrev main_v575 : Ref sig .tc := ⟨.hbm, 710, rfl⟩
abbrev main_v576 : Ref sig .tc := ⟨.hbm, 711, rfl⟩
abbrev main_v577 : Ref sig .tc := ⟨.hbm, 712, rfl⟩
abbrev main_v578 : Ref sig .tc := ⟨.hbm, 713, rfl⟩
abbrev main_v579 : Ref sig .tc := ⟨.hbm, 714, rfl⟩
abbrev main_v580 : Ref sig .tc := ⟨.hbm, 715, rfl⟩
abbrev main_v581 : Ref sig .tc := ⟨.hbm, 716, rfl⟩
abbrev main_v582 : Ref sig .tc := ⟨.hbm, 717, rfl⟩
abbrev main_c : Ref sig .tc := ⟨.hbm, 718, rfl⟩
abbrev main_c_130 : Ref sig .tc := ⟨.hbm, 719, rfl⟩
abbrev main_v583 : Ref sig .tc := ⟨.hbm, 720, rfl⟩
abbrev main_v584 : Ref sig .tc := ⟨.hbm, 721, rfl⟩
abbrev main_c_131 : Ref sig .tc := ⟨.hbm, 722, rfl⟩
abbrev main_call0_v0 : Ref sig .tc := ⟨.hbm, 723, rfl⟩
abbrev main_v585 : Ref sig .tc := ⟨.hbm, 724, rfl⟩

abbrev nD : Nat := 1
abbrev τ : Topo := Topo.v7x

variable {F : FTy → Type} [FloatOps F]
-- ==== KernelConv.lean ====
abbrev S8192x6912 : Shape := ⟨2, ![8192, 6912]⟩
abbrev S31x512 : Shape := ⟨2, ![31, 512]⟩
abbrev S512 : Shape := ⟨1, ![512]⟩
abbrev S8192x256 : Shape := ⟨2, ![8192, 256]⟩
abbrev S8192x3072 : Shape := ⟨2, ![8192, 3072]⟩
abbrev S8192x1024 : Shape := ⟨2, ![8192, 1024]⟩
abbrev S8192x512 : Shape := ⟨2, ![8192, 512]⟩
abbrev S_ : Shape := ⟨0, ![]⟩
abbrev S32x512 : Shape := ⟨2, ![32, 512]⟩
abbrev S1x512 : Shape := ⟨2, ![1, 512]⟩
abbrev S256x1024 : Shape := ⟨2, ![256, 1024]⟩
abbrev S16x1024 : Shape := ⟨2, ![16, 1024]⟩
abbrev S256x512 : Shape := ⟨2, ![256, 512]⟩
abbrev S296x512 : Shape := ⟨2, ![296, 512]⟩
abbrev S8x288x512 : Shape := ⟨3, ![8, 288, 512]⟩
abbrev S16x512 : Shape := ⟨2, ![16, 512]⟩
abbrev S8x512 : Shape := ⟨2, ![8, 512]⟩
abbrev S288x512 : Shape := ⟨2, ![288, 512]⟩
abbrev S1x288x512 : Shape := ⟨3, ![1, 288, 512]⟩
abbrev S1x32x512 : Shape := ⟨3, ![1, 32, 512]⟩
abbrev S32 : Shape := ⟨1, ![32]⟩
abbrev S32x1 : Shape := ⟨2, ![32, 1]⟩

abbrev nBuf : Space → Nat
  | .hbm => 27
  | .vmem => 16
  | .smem => 0
  | _ => 0

abbrev bufTy : (tb : Table) → Fin (tcTables nBuf tb) → BufTy
  | .hbm, ⟨0, _⟩ => ⟨S8192x6912, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x3072, .f32⟩
  | .hbm, ⟨15, _⟩ => ⟨S8192x1024, .f32⟩
  | .hbm, ⟨16, _⟩ => ⟨S8192x512, .f32⟩
  | .hbm, ⟨17, _⟩ => ⟨S8192x6912, .f32⟩
  | .hbm, ⟨18, _⟩ => ⟨S8192x6912, .bf16⟩
  | .hbm, ⟨19, _⟩ => ⟨S_, .i32⟩
  | .hbm, ⟨20, _⟩ => ⟨S_, .f32⟩
  | .hbm, ⟨21, _⟩ => ⟨S32x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S8192x512, .f32⟩
  | .hbm, ⟨26, _⟩ => ⟨S8192x512, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S296x512, .f32⟩
  | .local _ .vmem, ⟨15, _⟩ => ⟨S8x288x512, .f32⟩
  | _, _ => ⟨S8192x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceConvIdeal.lean ====
abbrev S8192x6912 : Shape := ⟨2, ![8192, 6912]⟩
abbrev S31x512 : Shape := ⟨2, ![31, 512]⟩
abbrev S512 : Shape := ⟨1, ![512]⟩
abbrev S8192x1024 : Shape := ⟨2, ![8192, 1024]⟩
abbrev S8192x512 : Shape := ⟨2, ![8192, 512]⟩
abbrev S_ : Shape := ⟨0, ![]⟩
abbrev S15x512 : Shape := ⟨2, ![15, 512]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩

abbrev nBuf : Space → Nat
  | .hbm => 279
  | .vmem => 0
  | .smem => 0
  | _ => 0

abbrev hbmTy0_0 (i : Nat) : BufTy := match i % 128 with
  | 0 => ⟨S8192x6912, .f32⟩
  | 1 => ⟨S31x512, .f32⟩
  | 2 => ⟨S512, .f32⟩
  | 3 => ⟨S512, .f32⟩
  | 4 => ⟨S512, .f32⟩
  | 5 => ⟨S8192x1024, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S15x512, .f32⟩
  | 19 => ⟨S8222x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S1x512, .f32⟩
  | 30 => ⟨S512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S1x512, .f32⟩
  | _ => ⟨S8192x6912, .f32⟩

abbrev hbmTy0_1 (i : Nat) : BufTy := match i % 128 with
  | 0 => ⟨S512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x512, .f32⟩
  | 121 => ⟨S8192x512, .f32⟩
  | 122 => ⟨S8192x512, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x6912, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x512, .f32⟩
  | 6 => ⟨S8192x512, .f32⟩
  | 7 => ⟨S1x512, .f32⟩
  | 8 => ⟨S8192x512, .f32⟩
  | 9 => ⟨S8192x512, .f32⟩
  | 10 => ⟨S1x512, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .bf16⟩
  | _ => ⟨S8192x6912, .f32⟩

abbrev hbmTy (i : Nat) : BufTy := match i / 128 with
  | 0 => hbmTy0_0 i
  | 1 => hbmTy0_1 i
  | 2 => hbmTy0_2 i
  | _ => ⟨S8192x6912, .f32⟩

abbrev bufTy : (tb : Table) → Fin (tcTables nBuf tb) → BufTy
  | .hbm, ⟨i, _⟩ => hbmTy i
  | _, _ => ⟨S8192x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_cst_7 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== KernelAttPrep.lean ====
abbrev S8192x256 : Shape := ⟨2, ![8192, 256]⟩
abbrev S8192x4 : Shape := ⟨2, ![8192, 4]⟩
abbrev S8192x4x64 : Shape := ⟨3, ![8192, 4, 64]⟩
abbrev S1x8192x4x64 : Shape := ⟨4, ![1, 8192, 4, 64]⟩
abbrev S3x8192x4x64 : Shape := ⟨4, ![3, 8192, 4, 64]⟩
abbrev S1x8192x4 : Shape := ⟨3, ![1, 8192, 4]⟩
abbrev S3x8192x4 : Shape := ⟨3, ![3, 8192, 4]⟩
abbrev S_ : Shape := ⟨0, ![]⟩
abbrev S3x8192x4x1 : Shape := ⟨4, ![3, 8192, 4, 1]⟩
abbrev S8192x4x1 : Shape := ⟨3, ![8192, 4, 1]⟩
abbrev S1024x256 : Shape := ⟨2, ![1024, 256]⟩
abbrev S1024x64 : Shape := ⟨2, ![1024, 64]⟩
abbrev S1024 : Shape := ⟨1, ![1024]⟩
abbrev S1024x1 : Shape := ⟨2, ![1024, 1]⟩

abbrev nBuf : Space → Nat
  | .hbm => 54
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S8192x256, .f32⟩
  | .hbm, ⟨7, _⟩ => ⟨S8192x4x64, .f32⟩
  | .hbm, ⟨8, _⟩ => ⟨S8192x4x64, .f32⟩
  | .hbm, ⟨9, _⟩ => ⟨S8192x4x64, .f32⟩
  | .hbm, ⟨10, _⟩ => ⟨S1x8192x4x64, .f32⟩
  | .hbm, ⟨11, _⟩ => ⟨S1x8192x4x64, .f32⟩
  | .hbm, ⟨12, _⟩ => ⟨S1x8192x4x64, .f32⟩
  | .hbm, ⟨13, _⟩ => ⟨S3x8192x4x64, .f32⟩
  | .hbm, ⟨14, _⟩ => ⟨S1x8192x4, .f32⟩
  | .hbm, ⟨15, _⟩ => ⟨S1x8192x4, .f32⟩
  | .hbm, ⟨16, _⟩ => ⟨S1x8192x4, .f32⟩
  | .hbm, ⟨17, _⟩ => ⟨S3x8192x4, .f32⟩
  | .hbm, ⟨18, _⟩ => ⟨S_, .f32⟩
  | .hbm, ⟨19, _⟩ => ⟨S8192x4, .f32⟩
  | .hbm, ⟨20, _⟩ => ⟨S_, .f32⟩
  | .hbm, ⟨21, _⟩ => ⟨S8192x4, .f32⟩
  | .hbm, ⟨22, _⟩ => ⟨S8192x4, .f32⟩
  | .hbm, ⟨23, _⟩ => ⟨S1x8192x4, .f32⟩
  | .hbm, ⟨24, _⟩ => ⟨S3x8192x4, .f32⟩
  | .hbm, ⟨25, _⟩ => ⟨S3x8192x4, .f32⟩
  | .hbm, ⟨26, _⟩ => ⟨S3x8192x4, .f32⟩
  | .hbm, ⟨27, _⟩ => ⟨S_, .f32⟩
  | .hbm, ⟨28, _⟩ => ⟨S8192x4, .f32⟩
  | .hbm, ⟨29, _⟩ => ⟨S1x8192x4, .f32⟩
  | .hbm, ⟨30, _⟩ => ⟨S3x8192x4, .f32⟩
  | .hbm, ⟨31, _⟩ => ⟨S3x8192x4, .f32⟩
  | .hbm, ⟨32, _⟩ => ⟨S_, .f32⟩
  | .hbm, ⟨33, _⟩ => ⟨S8192x4, .f32⟩
  | .hbm, ⟨34, _⟩ => ⟨S3x8192x4x1, .f32⟩
  | .hbm, ⟨35, _⟩ => ⟨S3x8192x4x64, .f32⟩
  | .hbm, ⟨36, _⟩ => ⟨S3x8192x4x64, .f32⟩
  | .hbm, ⟨37, _⟩ => ⟨S_, .f32⟩
  | .hbm, ⟨38, _⟩ => ⟨S8192x4x64, .f32⟩
  | .hbm, ⟨39, _⟩ => ⟨S1x8192x4, .f32⟩
  | .hbm, ⟨40, _⟩ => ⟨S3x8192x4, .f32⟩
  | .hbm, ⟨41, _⟩ => ⟨S3x8192x4, .f32⟩
  | .hbm, ⟨42, _⟩ => ⟨S3x8192x4, .f32⟩
  | .hbm, ⟨43, _⟩ => ⟨S_, .f32⟩
  | .hbm, ⟨44, _⟩ => ⟨S8192x4, .f32⟩
  | .hbm, ⟨45, _⟩ => ⟨S8192x4, .f32⟩
  | .hbm, ⟨46, _⟩ => ⟨S8192x4, .f32⟩
  | .hbm, ⟨47, _⟩ => ⟨S8192x4x1, .f32⟩
  | .hbm, ⟨48, _⟩ => ⟨S8192x4x64, .f32⟩
  | .hbm, ⟨49, _⟩ => ⟨S8192x256, .f32⟩
  | .hbm, ⟨50, _⟩ => ⟨S8192x256, .bf16⟩
  | .hbm, ⟨51, _⟩ => ⟨S8192x256, .f32⟩
  | .hbm, ⟨52, _⟩ => ⟨S8192x256, .bf16⟩
  | .hbm, ⟨53, _⟩ => ⟨S8192x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAttPrepIdeal.lean ====
abbrev S8192x256 : Shape := ⟨2, ![8192, 256]⟩
abbrev S8192x4 : Shape := ⟨2, ![8192, 4]⟩
abbrev S8192x4x64 : Shape := ⟨3, ![8192, 4, 64]⟩
abbrev S1x8192x4x64 : Shape := ⟨4, ![1, 8192, 4, 64]⟩
abbrev S3x8192x4x64 : Shape := ⟨4, ![3, 8192, 4, 64]⟩
abbrev S1x8192x4 : Shape := ⟨3, ![1, 8192, 4]⟩
abbrev S3x8192x4 : Shape := ⟨3, ![3, 8192, 4]⟩
abbrev S_ : Shape := ⟨0, ![]⟩
abbrev S3x8192x4x1 : Shape := ⟨4, ![3, 8192, 4, 1]⟩
abbrev S8192x4x1 : Shape := ⟨3, ![8192, 4, 1]⟩
abbrev S8192x4x32 : Shape := ⟨3, ![8192, 4, 32]⟩

abbrev nBuf : Space → Nat
  | .hbm => 65
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S8192x256, .f32⟩
  | .hbm, ⟨7, _⟩ => ⟨S8192x4x64, .f32⟩
  | .hbm, ⟨8, _⟩ => ⟨S8192x4x64, .f32⟩
  | .hbm, ⟨9, _⟩ => ⟨S8192x4x64, .f32⟩
  | .hbm, ⟨10, _⟩ => ⟨S1x8192x4x64, .f32⟩
  | .hbm, ⟨11, _⟩ => ⟨S1x8192x4x64, .f32⟩
  | .hbm, ⟨12, _⟩ => ⟨S1x8192x4x64, .f32⟩
  | .hbm, ⟨13, _⟩ => ⟨S3x8192x4x64, .f32⟩
  | .hbm, ⟨14, _⟩ => ⟨S1x8192x4, .f32⟩
  | .hbm, ⟨15, _⟩ => ⟨S1x8192x4, .f32⟩
  | .hbm, ⟨16, _⟩ => ⟨S1x8192x4, .f32⟩
  | .hbm, ⟨17, _⟩ => ⟨S3x8192x4, .f32⟩
  | .hbm, ⟨18, _⟩ => ⟨S_, .f32⟩
  | .hbm, ⟨19, _⟩ => ⟨S8192x4, .f32⟩
  | .hbm, ⟨20, _⟩ => ⟨S_, .f32⟩
  | .hbm, ⟨21, _⟩ => ⟨S8192x4, .f32⟩
  | .hbm, ⟨22, _⟩ => ⟨S8192x4, .f32⟩
  | .hbm, ⟨23, _⟩ => ⟨S1x8192x4, .f32⟩
  | .hbm, ⟨24, _⟩ => ⟨S3x8192x4, .f32⟩
  | .hbm, ⟨25, _⟩ => ⟨S3x8192x4, .f32⟩
  | .hbm, ⟨26, _⟩ => ⟨S3x8192x4, .f32⟩
  | .hbm, ⟨27, _⟩ => ⟨S_, .f32⟩
  | .hbm, ⟨28, _⟩ => ⟨S8192x4, .f32⟩
  | .hbm, ⟨29, _⟩ => ⟨S1x8192x4, .f32⟩
  | .hbm, ⟨30, _⟩ => ⟨S3x8192x4, .f32⟩
  | .hbm, ⟨31, _⟩ => ⟨S3x8192x4, .f32⟩
  | .hbm, ⟨32, _⟩ => ⟨S_, .f32⟩
  | .hbm, ⟨33, _⟩ => ⟨S8192x4, .f32⟩
  | .hbm, ⟨34, _⟩ => ⟨S3x8192x4x1, .f32⟩
  | .hbm, ⟨35, _⟩ => ⟨S3x8192x4x64, .f32⟩
  | .hbm, ⟨36, _⟩ => ⟨S3x8192x4x64, .f32⟩
  | .hbm, ⟨37, _⟩ => ⟨S_, .f32⟩
  | .hbm, ⟨38, _⟩ => ⟨S8192x4x64, .f32⟩
  | .hbm, ⟨39, _⟩ => ⟨S1x8192x4, .f32⟩
  | .hbm, ⟨40, _⟩ => ⟨S3x8192x4, .f32⟩
  | .hbm, ⟨41, _⟩ => ⟨S3x8192x4, .f32⟩
  | .hbm, ⟨42, _⟩ => ⟨S3x8192x4, .f32⟩
  | .hbm, ⟨43, _⟩ => ⟨S_, .f32⟩
  | .hbm, ⟨44, _⟩ => ⟨S8192x4, .f32⟩
  | .hbm, ⟨45, _⟩ => ⟨S8192x4, .f32⟩
  | .hbm, ⟨46, _⟩ => ⟨S8192x4, .f32⟩
  | .hbm, ⟨47, _⟩ => ⟨S_, .f32⟩
  | .hbm, ⟨48, _⟩ => ⟨S8192x4, .f32⟩
  | .hbm, ⟨49, _⟩ => ⟨S8192x4x1, .f32⟩
  | .hbm, ⟨50, _⟩ => ⟨S8192x4x64, .f32⟩
  | .hbm, ⟨51, _⟩ => ⟨S8192x4x64, .f32⟩
  | .hbm, ⟨52, _⟩ => ⟨S8192x4x64, .f32⟩
  | .hbm, ⟨53, _⟩ => ⟨S8192x4x64, .f32⟩
  | .hbm, ⟨54, _⟩ => ⟨S_, .f32⟩
  | .hbm, ⟨55, _⟩ => ⟨S8192x4, .f32⟩
  | .hbm, ⟨56, _⟩ => ⟨S8192x4x1, .f32⟩
  | .hbm, ⟨57, _⟩ => ⟨S_, .f32⟩
  | .hbm, ⟨58, _⟩ => ⟨S8192x4, .f32⟩
  | .hbm, ⟨59, _⟩ => ⟨S8192x4x1, .f32⟩
  | .hbm, ⟨60, _⟩ => ⟨S8192x4x32, .f32⟩
  | .hbm, ⟨61, _⟩ => ⟨S8192x4x1, .f32⟩
  | .hbm, ⟨62, _⟩ => ⟨S8192x4x32, .f32⟩
  | .hbm, ⟨63, _⟩ => ⟨S8192x4x64, .f32⟩
  | .hbm, ⟨64, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== KernelAttCombine.lean ====
abbrev S8192x256 : Shape := ⟨2, ![8192, 256]⟩
abbrev S8192x4 : Shape := ⟨2, ![8192, 4]⟩
abbrev S8192x4x1 : Shape := ⟨3, ![8192, 4, 1]⟩
abbrev S8192x4x64 : Shape := ⟨3, ![8192, 4, 64]⟩
abbrev S1024x256 : Shape := ⟨2, ![1024, 256]⟩

abbrev nBuf : Space → Nat
  | .hbm => 20
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x4x1, .f32⟩
  | .hbm, ⟨10, _⟩ => ⟨S8192x4x64, .f32⟩
  | .hbm, ⟨11, _⟩ => ⟨S8192x256, .f32⟩
  | .hbm, ⟨12, _⟩ => ⟨S8192x4x1, .f32⟩
  | .hbm, ⟨13, _⟩ => ⟨S8192x4x64, .f32⟩
  | .hbm, ⟨14, _⟩ => ⟨S8192x256, .f32⟩
  | .hbm, ⟨15, _⟩ => ⟨S8192x4x1, .f32⟩
  | .hbm, ⟨16, _⟩ => ⟨S8192x4x64, .f32⟩
  | .hbm, ⟨17, _⟩ => ⟨S8192x256, .f32⟩
  | .hbm, ⟨18, _⟩ => ⟨S8192x256, .bf16⟩
  | .hbm, ⟨19, _⟩ => ⟨S8192x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAttCombineIdeal.lean ====
abbrev S8192x256 : Shape := ⟨2, ![8192, 256]⟩
abbrev S8192x4 : Shape := ⟨2, ![8192, 4]⟩
abbrev S8192x4x64 : Shape := ⟨3, ![8192, 4, 64]⟩
abbrev S1x8192x4x64 : Shape := ⟨4, ![1, 8192, 4, 64]⟩
abbrev S3x8192x4x64 : Shape := ⟨4, ![3, 8192, 4, 64]⟩
abbrev S1x8192x4 : Shape := ⟨3, ![1, 8192, 4]⟩
abbrev S3x8192x4 : Shape := ⟨3, ![3, 8192, 4]⟩
abbrev S_ : Shape := ⟨0, ![]⟩
abbrev S3x8192x4x1 : Shape := ⟨4, ![3, 8192, 4, 1]⟩
abbrev S8192x4x1 : Shape := ⟨3, ![8192, 4, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S8192x4x64, .f32⟩
  | .hbm, ⟨7, _⟩ => ⟨S8192x4x64, .f32⟩
  | .hbm, ⟨8, _⟩ => ⟨S8192x4x64, .f32⟩
  | .hbm, ⟨9, _⟩ => ⟨S1x8192x4x64, .f32⟩
  | .hbm, ⟨10, _⟩ => ⟨S1x8192x4x64, .f32⟩
  | .hbm, ⟨11, _⟩ => ⟨S1x8192x4x64, .f32⟩
  | .hbm, ⟨12, _⟩ => ⟨S3x8192x4x64, .f32⟩
  | .hbm, ⟨13, _⟩ => ⟨S1x8192x4, .f32⟩
  | .hbm, ⟨14, _⟩ => ⟨S1x8192x4, .f32⟩
  | .hbm, ⟨15, _⟩ => ⟨S1x8192x4, .f32⟩
  | .hbm, ⟨16, _⟩ => ⟨S3x8192x4, .f32⟩
  | .hbm, ⟨17, _⟩ => ⟨S_, .f32⟩
  | .hbm, ⟨18, _⟩ => ⟨S8192x4, .f32⟩
  | .hbm, ⟨19, _⟩ => ⟨S_, .f32⟩
  | .hbm, ⟨20, _⟩ => ⟨S8192x4, .f32⟩
  | .hbm, ⟨21, _⟩ => ⟨S8192x4, .f32⟩
  | .hbm, ⟨22, _⟩ => ⟨S1x8192x4, .f32⟩
  | .hbm, ⟨23, _⟩ => ⟨S3x8192x4, .f32⟩
  | .hbm, ⟨24, _⟩ => ⟨S3x8192x4, .f32⟩
  | .hbm, ⟨25, _⟩ => ⟨S3x8192x4, .f32⟩
  | .hbm, ⟨26, _⟩ => ⟨S_, .f32⟩
  | .hbm, ⟨27, _⟩ => ⟨S8192x4, .f32⟩
  | .hbm, ⟨28, _⟩ => ⟨S1x8192x4, .f32⟩
  | .hbm, ⟨29, _⟩ => ⟨S3x8192x4, .f32⟩
  | .hbm, ⟨30, _⟩ => ⟨S3x8192x4, .f32⟩
  | .hbm, ⟨31, _⟩ => ⟨S3x8192x4x1, .f32⟩
  | .hbm, ⟨32, _⟩ => ⟨S3x8192x4x64, .f32⟩
  | .hbm, ⟨33, _⟩ => ⟨S3x8192x4x64, .f32⟩
  | .hbm, ⟨34, _⟩ => ⟨S_, .f32⟩
  | .hbm, ⟨35, _⟩ => ⟨S8192x4x64, .f32⟩
  | .hbm, ⟨36, _⟩ => ⟨S_, .f32⟩
  | .hbm, ⟨37, _⟩ => ⟨S8192x4, .f32⟩
  | .hbm, ⟨38, _⟩ => ⟨S1x8192x4, .f32⟩
  | .hbm, ⟨39, _⟩ => ⟨S3x8192x4, .f32⟩
  | .hbm, ⟨40, _⟩ => ⟨S3x8192x4, .f32⟩
  | .hbm, ⟨41, _⟩ => ⟨S3x8192x4, .f32⟩
  | .hbm, ⟨42, _⟩ => ⟨S_, .f32⟩
  | .hbm, ⟨43, _⟩ => ⟨S8192x4, .f32⟩
  | .hbm, ⟨44, _⟩ => ⟨S8192x4, .f32⟩
  | .hbm, ⟨45, _⟩ => ⟨S8192x4, .f32⟩
  | .hbm, ⟨46, _⟩ => ⟨S8192x256, .f32⟩
  | .hbm, ⟨47, _⟩ => ⟨S8192x256, .bf16⟩
  | .hbm, ⟨48, _⟩ => ⟨S8192x4x1, .f32⟩
  | .hbm, ⟨49, _⟩ => ⟨S8192x4x64, .f32⟩
  | .hbm, ⟨50, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== KernelMm.lean ====
abbrev S8192x1024 : Shape := ⟨2, ![8192, 1024]⟩
abbrev S1024x6912 : Shape := ⟨2, ![1024, 6912]⟩
abbrev S8192x6912 : Shape := ⟨2, ![8192, 6912]⟩
abbrev S512x1024 : Shape := ⟨2, ![512, 1024]⟩
abbrev S512x6912 : Shape := ⟨2, ![512, 6912]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x6912, .f32⟩
  | .hbm, ⟨2, _⟩ => ⟨S8192x1024, .bf16⟩
  | .hbm, ⟨3, _⟩ => ⟨S1024x6912, .bf16⟩
  | .hbm, ⟨4, _⟩ => ⟨S8192x6912, .bf16⟩
  | .local _ .vmem, ⟨0, _⟩ => ⟨S512x1024, .bf16⟩
  | .local _ .vmem, ⟨1, _⟩ => ⟨S512x1024, .bf16⟩
  | .local _ .vmem, ⟨2, _⟩ => ⟨S1024x6912, .bf16⟩
  | .local _ .vmem, ⟨3, _⟩ => ⟨S512x6912, .bf16⟩
  | .local _ .vmem, ⟨4, _⟩ => ⟨S512x6912, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6912 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMmIdeal.lean ====
abbrev S8192x1024 : Shape := ⟨2, ![8192, 1024]⟩
abbrev S1024x6912 : Shape := ⟨2, ![1024, 6912]⟩
abbrev S8192x6912 : Shape := ⟨2, ![8192, 6912]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6912, .f32⟩
  | .hbm, ⟨2, _⟩ => ⟨S8192x6912, .f32⟩
  | .hbm, ⟨3, _⟩ => ⟨S8192x6912, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMmGrad.lean ====
abbrev S8192x1024 : Shape := ⟨2, ![8192, 1024]⟩
abbrev S1024x6912 : Shape := ⟨2, ![1024, 6912]⟩
abbrev S8192x6912 : Shape := ⟨2, ![8192, 6912]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x6912, .f32⟩
  | .hbm, ⟨2, _⟩ => ⟨S8192x6912, .f32⟩
  | .hbm, ⟨3, _⟩ => ⟨S8192x1024, .bf16⟩
  | .hbm, ⟨4, _⟩ => ⟨S8192x6912, .bf16⟩
  | .hbm, ⟨5, _⟩ => ⟨S1024x6912, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceMmGradIdeal.lean ====
abbrev S8192x1024 : Shape := ⟨2, ![8192, 1024]⟩
abbrev S1024x6912 : Shape := ⟨2, ![1024, 6912]⟩
abbrev S8192x6912 : Shape := ⟨2, ![8192, 6912]⟩
abbrev S6912x1024 : Shape := ⟨2, ![6912, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6912, .f32⟩
  | .hbm, ⟨2, _⟩ => ⟨S8192x6912, .f32⟩
  | .hbm, ⟨3, _⟩ => ⟨S8192x6912, .f32⟩
  | .hbm, ⟨4, _⟩ => ⟨S6912x1024, .f32⟩
  | .hbm, ⟨5, _⟩ => ⟨S1024x6912, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelAdamw.lean ====
abbrev S2048x1728 : Shape := ⟨2, ![2048, 1728]⟩
abbrev S256x1728 : Shape := ⟨2, ![256, 1728]⟩

abbrev nBuf : Space → Nat
  | .hbm => 7
  | .vmem => 14
  | .smem => 0
  | _ => 0

abbrev bufTy : (tb : Table) → Fin (tcTables nBuf tb) → BufTy
  | .hbm, ⟨0, _⟩ => ⟨S2048x1728, .f32⟩
  | .hbm, ⟨1, _⟩ => ⟨S2048x1728, .f32⟩
  | .hbm, ⟨2, _⟩ => ⟨S2048x1728, .f32⟩
  | .hbm, ⟨3, _⟩ => ⟨S2048x1728, .f32⟩
  | .hbm, ⟨4, _⟩ => ⟨S2048x1728, .f32⟩
  | .hbm, ⟨5, _⟩ => ⟨S2048x1728, .f32⟩
  | .hbm, ⟨6, _⟩ => ⟨S2048x1728, .f32⟩
  | .local _ .vmem, ⟨0, _⟩ => ⟨S256x1728, .f32⟩
  | .local _ .vmem, ⟨1, _⟩ => ⟨S256x1728, .f32⟩
  | .local _ .vmem, ⟨2, _⟩ => ⟨S256x1728, .f32⟩
  | .local _ .vmem, ⟨3, _⟩ => ⟨S256x1728, .f32⟩
  | .local _ .vmem, ⟨4, _⟩ => ⟨S256x1728, .f32⟩
  | .local _ .vmem, ⟨5, _⟩ => ⟨S256x1728, .f32⟩
  | .local _ .vmem, ⟨6, _⟩ => ⟨S256x1728, .f32⟩
  | .local _ .vmem, ⟨7, _⟩ => ⟨S256x1728, .f32⟩
  | .local _ .vmem, ⟨8, _⟩ => ⟨S256x1728, .f32⟩
  | .local _ .vmem, ⟨9, _⟩ => ⟨S256x1728, .f32⟩
  | .local _ .vmem, ⟨10, _⟩ => ⟨S256x1728, .f32⟩
  | .local _ .vmem, ⟨11, _⟩ => ⟨S256x1728, .f32⟩
  | .local _ .vmem, ⟨12, _⟩ => ⟨S256x1728, .f32⟩
  | .local _ .vmem, ⟨13, _⟩ => ⟨S256x1728, .f32⟩
  | _, _ => ⟨S2048x1728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1728 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1728 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1728 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1728 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1728 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1728 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1728 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamwIdeal.lean ====
abbrev S2048x1728 : Shape := ⟨2, ![2048, 1728]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1728, .f32⟩
  | .hbm, ⟨1, _⟩ => ⟨S2048x1728, .f32⟩
  | .hbm, ⟨2, _⟩ => ⟨S2048x1728, .f32⟩
  | .hbm, ⟨3, _⟩ => ⟨S2048x1728, .f32⟩
  | .hbm, ⟨4, _⟩ => ⟨S_, .f32⟩
  | .hbm, ⟨5, _⟩ => ⟨S2048x1728, .f32⟩
  | .hbm, ⟨6, _⟩ => ⟨S2048x1728, .f32⟩
  | .hbm, ⟨7, _⟩ => ⟨S_, .f32⟩
  | .hbm, ⟨8, _⟩ => ⟨S2048x1728, .f32⟩
  | .hbm, ⟨9, _⟩ => ⟨S2048x1728, .f32⟩
  | .hbm, ⟨10, _⟩ => ⟨S2048x1728, .f32⟩
  | .hbm, ⟨11, _⟩ => ⟨S_, .f32⟩
  | .hbm, ⟨12, _⟩ => ⟨S2048x1728, .f32⟩
  | .hbm, ⟨13, _⟩ => ⟨S2048x1728, .f32⟩
  | .hbm, ⟨14, _⟩ => ⟨S2048x1728, .f32⟩
  | .hbm, ⟨15, _⟩ => ⟨S_, .f32⟩
  | .hbm, ⟨16, _⟩ => ⟨S2048x1728, .f32⟩
  | .hbm, ⟨17, _⟩ => ⟨S2048x1728, .f32⟩
  | .hbm, ⟨18, _⟩ => ⟨S2048x1728, .f32⟩
  | .hbm, ⟨19, _⟩ => ⟨S_, .f32⟩
  | .hbm, ⟨20, _⟩ => ⟨S2048x1728, .f32⟩
  | .hbm, ⟨21, _⟩ => ⟨S2048x1728, .f32⟩
  | .hbm, ⟨22, _⟩ => ⟨S_, .f32⟩
  | .hbm, ⟨23, _⟩ => ⟨S2048x1728, .f32⟩
  | .hbm, ⟨24, _⟩ => ⟨S2048x1728, .f32⟩
  | .hbm, ⟨25, _⟩ => ⟨S2048x1728, .f32⟩
  | .hbm, ⟨26, _⟩ => ⟨S_, .f32⟩
  | .hbm, ⟨27, _⟩ => ⟨S2048x1728, .f32⟩
  | .hbm, ⟨28, _⟩ => ⟨S2048x1728, .f32⟩
  | .hbm, ⟨29, _⟩ => ⟨S2048x1728, .f32⟩
  | .hbm, ⟨30, _⟩ => ⟨S_, .f32⟩
  | .hbm, ⟨31, _⟩ => ⟨S2048x1728, .f32⟩
  | .hbm, ⟨32, _⟩ => ⟨S2048x1728, .f32⟩
  | .hbm, ⟨33, _⟩ => ⟨S2048x1728, .f32⟩
  | .hbm, ⟨34, _⟩ => ⟨S_, .f32⟩
  | .hbm, ⟨35, _⟩ => ⟨S2048x1728, .f32⟩
  | .hbm, ⟨36, _⟩ => ⟨S2048x1728, .f32⟩
  | _, _ => ⟨S2048x1728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelRelTotal.lean ====
abbrev S32x128 : Shape := ⟨2, ![32, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceRelTotalIdeal.lean ====
abbrev S32x128 : Shape := ⟨2, ![32, 128]⟩
abbrev S32x4 : Shape := ⟨2, ![32, 4]⟩
abbrev S32x124 : Shape := ⟨2, ![32, 124]⟩
abbrev S32x8 : Shape := ⟨2, ![32, 8]⟩
abbrev S32x120 : Shape := ⟨2, ![32, 120]⟩

abbrev nBuf : Space → Nat
  | .hbm => 17
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x4, .f32⟩
  | .hbm, ⟨9, _⟩ => ⟨S32x124, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S32x8, .f32⟩
  | .hbm, ⟨14, _⟩ => ⟨S32x120, .f32⟩
  | .hbm, ⟨15, _⟩ => ⟨S32x128, .f32⟩
  | .hbm, ⟨16, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== KernelAddHalf.lean ====
abbrev S4x1024x1728 : Shape := ⟨3, ![4, 1024, 1728]⟩
abbrev S4x512x1728 : Shape := ⟨3, ![4, 512, 1728]⟩
abbrev S_ : Shape := ⟨0, ![]⟩
abbrev S2 : Shape := ⟨1, ![2]⟩
abbrev S1x512x1728 : Shape := ⟨3, ![1, 512, 1728]⟩
abbrev S1 : Shape := ⟨1, ![1]⟩

abbrev nBuf : Space → Nat
  | .hbm => 6
  | .vmem => 6
  | .smem => 1
  | _ => 0

abbrev bufTy : (tb : Table) → Fin (tcTables nBuf tb) → BufTy
  | .hbm, ⟨0, _⟩ => ⟨S4x1024x1728, .f32⟩
  | .hbm, ⟨1, _⟩ => ⟨S4x512x1728, .f32⟩
  | .hbm, ⟨2, _⟩ => ⟨S_, .i32⟩
  | .hbm, ⟨3, _⟩ => ⟨S4x1024x1728, .bf16⟩
  | .hbm, ⟨4, _⟩ => ⟨S4x512x1728, .bf16⟩
  | .hbm, ⟨5, _⟩ => ⟨S4x512x1728, .bf16⟩
  | .local _ .vmem, ⟨0, _⟩ => ⟨S1x512x1728, .bf16⟩
  | .local _ .vmem, ⟨1, _⟩ => ⟨S1x512x1728, .bf16⟩
  | .local _ .vmem, ⟨2, _⟩ => ⟨S1x512x1728, .bf16⟩
  | .local _ .vmem, ⟨3, _⟩ => ⟨S1x512x1728, .bf16⟩
  | .local _ .vmem, ⟨4, _⟩ => ⟨S1x512x1728, .bf16⟩
  | .local _ .vmem, ⟨5, _⟩ => ⟨S1x512x1728, .bf16⟩
  | .local _ .smem, ⟨0, _⟩ => ⟨S2, .i32⟩
  | _, _ => ⟨S4x1024x1728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1728 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1728 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1728 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAddHalfIdeal.lean ====
abbrev S4x1024x1728 : Shape := ⟨3, ![4, 1024, 1728]⟩
abbrev S4x512x1728 : Shape := ⟨3, ![4, 512, 1728]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x1728, .f32⟩
  | .hbm, ⟨1, _⟩ => ⟨S4x512x1728, .f32⟩
  | .hbm, ⟨2, _⟩ => ⟨S4x512x1728, .f32⟩
  | .hbm, ⟨3, _⟩ => ⟨S4x512x1728, .f32⟩
  | .hbm, ⟨4, _⟩ => ⟨S4x512x1728, .bf16⟩
  | _, _ => ⟨S4x1024x1728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSumChips.lean ====
abbrev S4x512x1728 : Shape := ⟨3, ![4, 512, 1728]⟩
abbrev S3x512x1728 : Shape := ⟨3, ![3, 512, 1728]⟩
abbrev S2x1024x1728 : Shape := ⟨3, ![2, 1024, 1728]⟩
abbrev S_ : Shape := ⟨0, ![]⟩
abbrev S2 : Shape := ⟨1, ![2]⟩
abbrev S1x512x1728 : Shape := ⟨3, ![1, 512, 1728]⟩
abbrev S1 : Shape := ⟨1, ![1]⟩
abbrev S512x1728 : Shape := ⟨2, ![512, 1728]⟩

abbrev nBuf : Space → Nat
  | .hbm => 7
  | .vmem => 3
  | .smem => 1
  | _ => 0

abbrev bufTy : (tb : Table) → Fin (tcTables nBuf tb) → BufTy
  | .hbm, ⟨0, _⟩ => ⟨S4x512x1728, .f32⟩
  | .hbm, ⟨1, _⟩ => ⟨S3x512x1728, .f32⟩
  | .hbm, ⟨2, _⟩ => ⟨S2x1024x1728, .f32⟩
  | .hbm, ⟨3, _⟩ => ⟨S_, .i32⟩
  | .hbm, ⟨4, _⟩ => ⟨S4x512x1728, .bf16⟩
  | .hbm, ⟨5, _⟩ => ⟨S3x512x1728, .bf16⟩
  | .hbm, ⟨6, _⟩ => ⟨S2x1024x1728, .f32⟩
  | .local _ .vmem, ⟨0, _⟩ => ⟨S1x512x1728, .bf16⟩
  | .local _ .vmem, ⟨1, _⟩ => ⟨S3x512x1728, .bf16⟩
  | .local _ .vmem, ⟨2, _⟩ => ⟨S1x512x1728, .f32⟩
  | .local _ .smem, ⟨0, _⟩ => ⟨S2, .i32⟩
  | _, _ => ⟨S4x512x1728, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 1 → Memref sig .tc .vmem S1x512x1728 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x1728 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x1728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceSumChipsIdeal.lean ====
abbrev S4x512x1728 : Shape := ⟨3, ![4, 512, 1728]⟩
abbrev S3x512x1728 : Shape := ⟨3, ![3, 512, 1728]⟩
abbrev S2x1024x1728 : Shape := ⟨3, ![2, 1024, 1728]⟩
abbrev S1x512x1728 : Shape := ⟨3, ![1, 512, 1728]⟩
abbrev S_ : Shape := ⟨0, ![]⟩
abbrev S512x1728 : Shape := ⟨2, ![512, 1728]⟩
abbrev S1x1024x1728 : Shape := ⟨3, ![1, 1024, 1728]⟩

abbrev nBuf : Space → Nat
  | .hbm => 12
  | .vmem => 0
  | .smem => 0
  | _ => 0

abbrev bufTy : (tb : Table) → Fin (tcTables nBuf tb) → BufTy
  | .hbm, ⟨0, _⟩ => ⟨S4x512x1728, .f32⟩
  | .hbm, ⟨1, _⟩ => ⟨S3x512x1728, .f32⟩
  | .hbm, ⟨2, _⟩ => ⟨S2x1024x1728, .f32⟩
  | .hbm, ⟨3, _⟩ => ⟨S1x512x1728, .f32⟩
  | .hbm, ⟨4, _⟩ => ⟨S_, .f32⟩
  | .hbm, ⟨5, _⟩ => ⟨S512x1728, .f32⟩
  | .hbm, ⟨6, _⟩ => ⟨S1x512x1728, .f32⟩
  | .hbm, ⟨7, _⟩ => ⟨S1x512x1728, .f32⟩
  | .hbm, ⟨8, _⟩ => ⟨S1x512x1728, .f32⟩
  | .hbm, ⟨9, _⟩ => ⟨S1x1024x1728, .f32⟩
  | .hbm, ⟨10, _⟩ => ⟨S1x1024x1728, .f32⟩
  | .hbm, ⟨11, _⟩ => ⟨S2x1024x1728, .f32⟩
  | _, _ => ⟨S4x512x1728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Real.lean ====
/-
  Extended reals that are real numbers. The operations of the ideal programs at real arguments are the
  operations of the real numbers (`EReal` is no ring, `ℝ` is one), so a value claim under a finiteness
  precondition is read over `ℝ`: the lemmas here move the coercion `ℝ → EReal` outwards.
-/
module

public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

namespace Cert.Lift

open Idealize.ShloMosaic

/-- A finite sum of real numbers is the real number their sum is. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_add (a b : ℝ) : (a : EReal) + (b : EReal) = ((a + b : ℝ) : EReal) := (EReal.coe_add a b).symm
theorem coe_sub (a b : ℝ) : (a : EReal) - (b : EReal) = ((a - b : ℝ) : EReal) := (EReal.coe_sub a b).symm
theorem coe_mul (a b : ℝ) : (a : EReal) * (b : EReal) = ((a * b : ℝ) : EReal) := (EReal.coe_mul a b).symm
theorem coe_neg (a : ℝ) : -(a : EReal) = ((-a : ℝ) : EReal) := (EReal.coe_neg a).symm
theorem coe_zero : (0 : EReal) = ((0 : ℝ) : EReal) := EReal.coe_zero.symm
theorem coe_one : (1 : EReal) = ((1 : ℝ) : EReal) := EReal.coe_one.symm

/-- Division of real numbers by one that is not zero. -/
theorem coe_div (a b : ℝ) (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

/-- The reciprocal square root of a positive real number. -/
theorem coe_rsqrt (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

theorem coe_exp (a : ℝ) : Ideal.exp (a : EReal) = ((Real.exp a : ℝ) : EReal) := rfl

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- An extended real whose absolute value is below `⊤` is a real number. -/
theorem coe_toReal_of_abs_lt {x : EReal} (h : max x (-x) < ⊤) : x = ((x.toReal : ℝ) : EReal) := by
  have h1 : x ≠ ⊤ := by rintro rfl; simp at h
  have h2 : x ≠ ⊥ := by rintro rfl; simp at h
  exact (EReal.coe_toReal h1 h2).symm

theorem ofBits_inf_f32 : Ideal.ofBits .f32 0x7F800000#32 = (⊤ : EReal) := by
  simp [Ideal.ofBits, Ideal.ieee]

theorem ofBits_512 : Ideal.ofBits .f32 0x44000000#32 = ((512 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The programs' `1e-5`: the float word's own rational number. -/
def eps : ℝ := 10995116 * (2 ^ 40)⁻¹

theorem ofBits_eps : Ideal.ofBits .f32 0x3727C5AC#32 = ((eps : ℝ) : EReal) := by
  unfold eps; simp [Ideal.ofBits, Ideal.ieee, -EReal.coe_mul]

theorem eps_pos : 0 < eps := by
  unfold eps; positivity

/-- An array on which `|x| < inf` holds everywhere is an array of real numbers. -/
theorem real_of_finite {s : Shape} (hb : (⟨0, ![]⟩ : Shape).BroadcastsInDim s (![] : Fin 0 → Fin s.rank)) (x : FVec Ideal s .f32)
    (h : cmpf .olt (Host.absf x) (broadcastInDim s ![] hb (constant ⟨0, ![]⟩ .f32 0x7F800000#32)) = fun _ => 1#1) (i : s.Idx) :
    x i = (((x i : EReal).toReal : ℝ) : EReal) := by
  have h1 := congrFun h i
  have h2 : Ideal.cmp .olt (max (x i : EReal) (-(x i : EReal))) (⊤ : EReal) = 1#1 := by
    rw [← ofBits_inf_f32]; exact h1
  apply coe_toReal_of_abs_lt
  by_contra hn
  have h3 : BitVec.ofBool (decide (max (x i : EReal) (-(x i : EReal)) < (⊤ : EReal))) = 1#1 := h2
  rw [decide_eq_false hn] at h3
  exact absurd h3 (by decide)

/-- Such an array, as the array of its real numbers. -/
theorem exists_real_of_finite {s : Shape} (hb : (⟨0, ![]⟩ : Shape).BroadcastsInDim s (![] : Fin 0 → Fin s.rank)) (x : FVec Ideal s .f32)
    (h : cmpf .olt (Host.absf x) (broadcastInDim s ![] hb (constant ⟨0, ![]⟩ .f32 0x7F800000#32)) = fun _ => 1#1) :
    ∃ X : s.Idx → ℝ, ∀ i, x i = ((X i : ℝ) : EReal) :=
  ⟨fun i => (x i : EReal).toReal, real_of_finite hb x h⟩

/-- An index of a one-row array. -/
theorem row1 {n : ℕ} (i : (⟨2, ![1, n]⟩ : Shape).Idx) : ∃ b : Fin n, i = ix2 0 b := by
  refine ⟨i 1, funext fun a => ?_⟩
  match a with
  | 0 => exact Subsingleton.elim (α := Fin 1) _ _
  | 1 => rfl

/-- Row `r` of block `t`, of blocks of `n` rows. -/
abbrev rowOf {N L : ℕ} (n : ℕ) (hL : L = N * n) (t : Fin N) (r : Fin n) : Fin L :=
  ⟨t.val * n + r.val, Fin.mul_add_lt_of_eq_mul hL t r⟩

/-- The sums over the blocks, added to zero, are the sum over all rows. -/
theorem sum_rowOf {N L : ℕ} (n : ℕ) (hL : L = N * n) (f : Fin L → ℝ) :
    (0 : EReal) + ∑ t : Fin N, ((∑ r : Fin n, f (rowOf n hL t r) : ℝ) : EReal) = ((∑ s : Fin L, f s : ℝ) : EReal) := by
  rw [zero_add, coe_sum, ← Fin.sum_mul_add_fin N n f hL]

/-- A one-row buffer that the first point of the grid sets to its block's sum over the rows, and every other point
    adds its block's sum to, holds the sum over all rows after the last point. -/
theorem acc_rows {N L w : ℕ} (n J : ℕ) (hL : L = N * n) (f : (k : ℕ) → k < N → (⟨2, ![1, w]⟩ : Shape).Idx → EReal)
    (g : Fin L → Fin w → ℝ)
    (h0 : ∀ t : Fin N, t.val % J = 0 → ∀ b : Fin w, f t.val t.isLt (ix2 0 b) = 0 + ((∑ r : Fin n, g (rowOf n hL t r) b : ℝ) : EReal))
    (hs : ∀ t : Fin N, ¬t.val % J = 0 → ∀ b : Fin w, f t.val t.isLt (ix2 0 b)
      = f (t.val - 1) (Nat.lt_of_le_of_lt (Nat.sub_le _ _) t.isLt) (ix2 0 b) + ((∑ r : Fin n, g (rowOf n hL t r) b : ℝ) : EReal))
    (hN : N ≤ J) (t : Fin N) (ht : t.val + 1 = N) (b : Fin w) :
    f t.val t.isLt (ix2 0 b) = ((∑ s : Fin L, g s b : ℝ) : EReal) := by
  rw [Pipeline.eq_sum_fin_of_reset_step_apply_last (fun k h (b : Fin w) => f k h (ix2 0 b)) J (fun _ => 0)
    (fun t b => ((∑ r : Fin n, g (rowOf n hL t r) b : ℝ) : EReal)) h0 hs hN t ht b]
  exact sum_rowOf n hL fun s => g s b

/-- The same for any index type and any extended reals. -/
theorem acc_blocks {N L : ℕ} {ι : Type} (n J : ℕ) (hL : L = N * n) (f : (k : ℕ) → k < N → ι → EReal) (g : Fin L → ι → EReal)
    (h0 : ∀ t : Fin N, t.val % J = 0 → ∀ i, f t.val t.isLt i = 0 + ∑ r : Fin n, g (rowOf n hL t r) i)
    (hs : ∀ t : Fin N, ¬t.val % J = 0 → ∀ i, f t.val t.isLt i
      = f (t.val - 1) (Nat.lt_of_le_of_lt (Nat.sub_le _ _) t.isLt) i + ∑ r : Fin n, g (rowOf n hL t r) i)
    (hN : N ≤ J) (t : Fin N) (ht : t.val + 1 = N) (i : ι) :
    f t.val t.isLt i = ∑ s : Fin L, g s i := by
  rw [Pipeline.eq_sum_fin_of_reset_step_apply_last f J (fun _ => 0)
    (fun t i => ∑ r : Fin n, g (rowOf n hL t r) i) h0 hs hN t ht i, zero_add]
  exact Fin.sum_mul_add_fin N n (fun s => g s i) hL

/-- A nonnegative real factor distributes over a sum of extended reals. -/
theorem mul_sum_of_nonneg {n : ℕ} (a : ℝ) (ha : 0 ≤ a) (f : Fin n → EReal) : (a : EReal) * ∑ i, f i = ∑ i, (a : EReal) * f i := by
  classical
  induction (Finset.univ : Finset (Fin n)) using Finset.induction_on with
  | empty => simp
  | insert i s hi ih =>
    rw [Finset.sum_insert hi, Finset.sum_insert hi,
      EReal.left_distrib_of_nonneg_of_ne_top (by exact_mod_cast ha) (EReal.coe_ne_top a), ih]

/-- Division by a real number is the product with its inverse. -/
theorem div_real (x : EReal) (b : ℝ) (hb : b ≠ 0) : Ideal.div x (b : EReal) = x * ((b⁻¹ : ℝ) : EReal) := by
  have hb' : (b : EReal) ≠ 0 := by exact_mod_cast hb
  rw [Ideal.div, if_neg hb', EReal.coe_inv]

/-- Twice the half of a real factor. -/
theorem mul_add_mul_half (x : EReal) (a : ℝ) (ha : 0 ≤ a) : x * (a : EReal) + (a : EReal) * x = x * ((2 * a : ℝ) : EReal) := by
  have h : (0 : EReal) ≤ (a : EReal) := by exact_mod_cast ha
  rw [mul_comm (a : EReal) x, ← EReal.left_distrib_of_nonneg h h, coe_add, two_mul]

theorem ofBits_1024 : Ideal.ofBits .f32 0x44800000#32 = ((1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

end Cert.Lift

end
-- ==== Proof.ConvLn.lean ====
/-
  The value of the gradient of the convolution branch's bias, layer norm and silu.
-/
module

public import proofs.«01_k».proof.Proof.Real
public import proofs.«01_k».proof.Proof.Gen.KernelConvLnIdeal.Value
public import proofs.«01_k».proof.Proof.Gen.ReferenceConvLnIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.ConvLn

/-! ## The real functions of one row -/

section Row
variable (y g b d : Fin 512 → ℝ) (j : Fin 512)

def mean : ℝ := (∑ k, y k) / 512
def xc : ℝ := y j - mean y
def var : ℝ := (∑ k, xc y k * xc y k) / 512
def rs : ℝ := (Real.sqrt (var y + eps))⁻¹
def yn : ℝ := xc y j * rs y
def ln : ℝ := yn y j * g j + b j
def sg : ℝ := 1 / (1 + Real.exp (0 - ln y g b j))
/-- The gradient at the layer norm's output, through silu. -/
def dln : ℝ := d j * (sg y g b j * (1 + ln y g b j * (1 - sg y g b j)))
/-- The gradient at the layer norm's input. -/
def dy : ℝ := rs y * (dln y g b d j * g j - (∑ k, dln y g b d k * g k) / 512
  - yn y j * ((∑ k, dln y g b d k * g k * yn y k) / 512))

theorem var_eps_pos : 0 < var y + eps := by
  have h : 0 ≤ var y := by unfold var; exact div_nonneg (Finset.sum_nonneg fun k _ => mul_self_nonneg _) (by norm_num)
  linarith [eps_pos]

/-- `1 / (var + eps)` is the square of the reciprocal root. -/
theorem rs_div : rs y / (var y + eps) = rs y ^ 3 := by
  have h := var_eps_pos y
  have e : rs y ^ 2 = (var y + eps)⁻¹ := by rw [rs, inv_pow, Real.sq_sqrt h.le]
  rw [div_eq_mul_inv, ← e]; ring

theorem sum_xc : ∑ k, xc y k = 0 := by
  simp only [xc, mean, Finset.sum_sub_distrib, Finset.sum_const, Finset.card_univ, Fintype.card_fin, nsmul_eq_mul]
  push_cast; ring

end Row

/-! ## The kernel's block -/

section Kernel
open Cert.KernelConvLnIdeal Cert.KernelConvLnIdeal.Gen

variable (x0 : Vec Ideal S512x512 .f32) (x1 : Vec Ideal S512x512 .bf16) (x2 x3 : Vec Ideal S1x512 .f32)
  (Y D : Fin 512 → Fin 512 → ℝ) (G B : Fin 512 → ℝ)
  (h0 : ∀ r j, x0 (ix2 r j) = ((Y r j : ℝ) : EReal)) (h1 : ∀ r j, x1 (ix2 r j) = ((D r j : ℝ) : EReal))
  (h2 : ∀ j, x2 (ix2 0 j) = ((G j : ℝ) : EReal)) (h3 : ∀ j, x3 (ix2 0 j) = ((B j : ℝ) : EReal))

section
include h0

theorem pay2 (r j : Fin 512) : k0_pay2 x0 (ix2 r j) = ((xc (Y r) j : ℝ) : EReal) := by
  pointwise [k0_pay2, h0, ofBits_512]
  simp (disch := norm_num) only [coe_sum, coe_div, coe_sub]
  rfl

theorem pay3 (r : Fin 512) : k0_pay3 x0 (ix2 r 0) = ((rs (Y r) : ℝ) : EReal) := by
  pointwise [k0_pay3, pay2 x0 Y h0, ofBits_512, ofBits_eps]
  simp (disch := norm_num) only [coe_sum, coe_mul, coe_div, coe_add]
  exact coe_rsqrt _ (var_eps_pos (Y r))

theorem pay4 (r j : Fin 512) : k0_pay4 x0 (ix2 r j) = ((yn (Y r) j : ℝ) : EReal) := by
  pointwise [k0_pay4, pay2 x0 Y h0, pay3 x0 Y h0]
  rw [coe_mul]; rfl

include h2 h3

theorem pay5 (r j : Fin 512) : k0_pay5 x0 x2 x3 (ix2 r j) = ((ln (Y r) G B j : ℝ) : EReal) := by
  pointwise [k0_pay5, pay4 x0 Y h0, h2, h3]
  rw [coe_mul, coe_add]; rfl

theorem pay6 (r j : Fin 512) : k0_pay6 x0 x2 x3 (ix2 r j) = ((sg (Y r) G B j : ℝ) : EReal) := by
  pointwise [k0_pay6, pay5 x0 x2 x3 Y G B h0 h2 h3, coe_zero, coe_one, coe_sub, coe_exp, coe_add]
  exact coe_div _ _ (by positivity)

theorem pay8 (r j : Fin 512) : k0_pay8 x0 x2 x3 (ix2 r j)
    = ((1 + ln (Y r) G B j * (1 - sg (Y r) G B j) : ℝ) : EReal) := by
  pointwise [k0_pay8, pay5 x0 x2 x3 Y G B h0 h2 h3, pay6 x0 x2 x3 Y G B h0 h2 h3, coe_one]
  simp only [coe_sub, coe_mul, coe_add]

include h1

theorem pay9 (r j : Fin 512) : k0_pay9 (k0_pay6 x0 x2 x3) (k0_pay7 x1) (k0_pay8 x0 x2 x3) (ix2 r j)
    = ((dln (Y r) G B (D r) j : ℝ) : EReal) := by
  pointwise [k0_pay9, k0_pay7, h1, pay6 x0 x2 x3 Y G B h0 h2 h3, pay8 x0 x2 x3 Y G B h0 h2 h3]
  simp only [coe_mul]; rfl

theorem pay10 (r j : Fin 512) : k0_pay10 (k0_pay3 x0) (k0_pay4 x0) (k0_pay6 x0 x2 x3) (k0_pay7 x1) (k0_pay8 x0 x2 x3) x2 (ix2 r j)
    = ((dy (Y r) G B (D r) j : ℝ) : EReal) := by
  pointwise [k0_pay10, pay9 x0 x1 x2 x3 Y D G B h0 h1 h2 h3, pay3 x0 Y h0, pay4 x0 Y h0, h2, ofBits_512]
  simp (disch := norm_num) only [coe_sum, coe_mul, coe_div, coe_sub]
  rfl

theorem pay14 (a : Vec Ideal S1x512 .f32) (j : Fin 512) :
    k0_pay14 (k0_pay4 x0) (k0_pay6 x0 x2 x3) (k0_pay7 x1) (k0_pay8 x0 x2 x3) a (ix2 0 j)
    = a (ix2 0 j) + ((∑ r, dln (Y r) G B (D r) j * yn (Y r) j : ℝ) : EReal) := by
  pointwise [k0_pay14, pay9 x0 x1 x2 x3 Y D G B h0 h1 h2 h3, pay4 x0 Y h0]
  simp only [coe_mul, coe_sum]

theorem pay15 (a : Vec Ideal S1x512 .f32) (j : Fin 512) :
    k0_pay15 (k0_pay6 x0 x2 x3) (k0_pay7 x1) (k0_pay8 x0 x2 x3) a (ix2 0 j)
    = a (ix2 0 j) + ((∑ r, dln (Y r) G B (D r) j : ℝ) : EReal) := by
  pointwise [k0_pay15, pay9 x0 x1 x2 x3 Y D G B h0 h1 h2 h3]
  simp only [coe_sum]

theorem pay1 (a : Vec Ideal S1x512 .f32) (j : Fin 512) :
    k0_pay1 (k0_pay10 (k0_pay3 x0) (k0_pay4 x0) (k0_pay6 x0 x2 x3) (k0_pay7 x1) (k0_pay8 x0 x2 x3) x2) a (ix2 0 j)
    = a (ix2 0 j) + ((∑ r, dy (Y r) G B (D r) j : ℝ) : EReal) := by
  pointwise [k0_pay1, pay10 x0 x1 x2 x3 Y D G B h0 h1 h2 h3]
  simp only [coe_sum]

end
end Kernel

/-! ## The reference -/

section Reference
open Cert.ReferenceConvLnIdeal Cert.ReferenceConvLnIdeal.Gen Cert.ReferenceConvLnIdeal.Read

variable (x0 x4 : FVec Ideal S1x8192x512 .f32) (x1 x2 x3 : FVec Ideal S512 .f32)
  (Y D : Fin 8192 → Fin 512 → ℝ) (G B : Fin 512 → ℝ)
  (h0 : ∀ r j, val_main_v4 (F := Ideal) x0 x1 (ix2 r j) = ((Y r j : ℝ) : EReal))
  (h4 : ∀ r j, val_main_v1 (F := Ideal) x4 (ix2 r j) = ((D r j : ℝ) : EReal))
  (h2 : ∀ j, val_main_v24 (F := Ideal) x2 (ix2 0 j) = ((G j : ℝ) : EReal))
  (h3 : ∀ j, val_main_v27 (F := Ideal) x3 (ix2 0 j) = ((B j : ℝ) : EReal))

section
include h0

theorem ref10 (s : Fin 8192) (j : Fin 512) : val_main_v10 (F := Ideal) x0 x1 (ix2 s j) = ((xc (Y s) j : ℝ) : EReal) := by
  pointwise [val_main_v10, val_main_v9, val_main_v8, val_main_v7, val_main_cst_0, val_main_v6, val_main_v5, val_main_cst, h0, ofBits_512, zero_add]
  simp (disch := norm_num) only [coe_sum, coe_div, coe_sub, coe_add]
  rfl

theorem ref17 (s : Fin 8192) : val_main_v17 (F := Ideal) x0 x1 (ix2 s 0) = ((var (Y s) + eps : ℝ) : EReal) := by
  pointwise [val_main_v17, val_main_v16, val_main_cst_3, val_main_v15, val_main_v14, val_main_cst_2, val_main_v13, val_main_v12, val_main_cst_1,
    val_main_v11, ref10 x0 x1 Y h0, ofBits_512, ofBits_eps, zero_add]
  simp (disch := norm_num) only [coe_sum, coe_mul, coe_div, coe_add]
  rfl

theorem ref18 (s : Fin 8192) : val_main_v18 (F := Ideal) x0 x1 (ix2 s 0) = ((rs (Y s) : ℝ) : EReal) := by
  pointwise [val_main_v18, ref17 x0 x1 Y h0]
  exact coe_rsqrt _ (var_eps_pos (Y s))

theorem ref21 (s : Fin 8192) : val_main_v21 (F := Ideal) x0 x1 (ix2 s 0) = ((-(1 / 2) * (rs (Y s) / (var (Y s) + eps)) : ℝ) : EReal) := by
  pointwise [val_main_v21, val_main_v20, val_main_cst_4, val_main_v19, ref17 x0 x1 Y h0, ref18 x0 x1 Y h0, ofBits_neg_half]
  rw [coe_div _ _ (var_eps_pos (Y s)).ne', coe_mul]

theorem ref23 (s : Fin 8192) (j : Fin 512) : val_main_v23 (F := Ideal) x0 x1 (ix2 s j) = ((yn (Y s) j : ℝ) : EReal) := by
  pointwise [val_main_v23, val_main_v22, ref10 x0 x1 Y h0, ref18 x0 x1 Y h0]
  rw [coe_mul]; rfl

include h2 h3

theorem ref29 (s : Fin 8192) (j : Fin 512) : val_main_v29 (F := Ideal) x0 x1 x2 x3 (ix2 s j) = ((ln (Y s) G B j : ℝ) : EReal) := by
  pointwise [val_main_v29, val_main_v28, val_main_v26, val_main_v25, ref23 x0 x1 Y h0, h2, h3]
  rw [coe_mul, coe_add]; rfl

theorem ref30 (s : Fin 8192) (j : Fin 512) : val_main_v30_2 (F := Ideal) x0 x1 x2 x3 (ix2 s j) = ((sg (Y s) G B j : ℝ) : EReal) := by
  pointwise [val_main_v30_2, val_main_call0_v4, val_main_call0_cst_0, val_main_call0_v3, val_main_call0_v2, val_main_call0_cst, val_main_call0_v1,
    val_main_call0_v0, ref29 x0 x1 x2 x3 Y G B h0 h2 h3, coe_one, coe_neg, coe_exp, coe_add]
  rw [coe_div _ _ (by positivity), sg, zero_sub]

include h4

theorem ref31 (s : Fin 8192) (j : Fin 512) : val_main_v31 (F := Ideal) x0 x1 x2 x3 x4 (ix2 s j) = ((dln (Y s) G B (D s) j : ℝ) : EReal) := by
  pointwise [val_main_v31, val_main_call1_v2, val_main_call1_v1, val_main_call1_v0, val_main_v30_1, val_main_call0_v7, val_main_call0_v6, val_main_call0_cst_1,
    ref29 x0 x1 x2 x3 Y G B h0 h2 h3, ref30 x0 x1 x2 x3 Y G B h0 h2 h3, h4, coe_one]
  simp only [coe_sub, coe_mul, coe_add, dln]
  congr 1; ring

theorem ref39 (s : Fin 8192) (j : Fin 512) : val_main_v39 (F := Ideal) x0 x1 x2 x3 x4 (ix2 s j) = ((dln (Y s) G B (D s) j * G j : ℝ) : EReal) := by
  pointwise [val_main_v39, val_main_v38, ref31 x0 x4 x1 x2 x3 Y D G B h0 h4 h2 h3, h2]
  rw [coe_mul]

/-- The gradient through the variance. -/
theorem ref50 (s : Fin 8192) (j : Fin 512) : val_main_v50 (F := Ideal) x0 x1 x2 x3 x4 (ix2 s j)
    = (((∑ k, xc (Y s) k * (dln (Y s) G B (D s) k * G k)) * (-(1 / 2) * (rs (Y s) / (var (Y s) + eps))) / 512 : ℝ) : EReal) := by
  pointwise [val_main_v50, val_main_v49, val_main_cst_11, val_main_v48, val_main_v47, val_main_cst_10, val_main_v46, val_main_v43, val_main_v42, val_main_cst_9,
    val_main_v41, ref39 x0 x4 x1 x2 x3 Y D G B h0 h4 h2 h3, ref10 x0 x1 Y h0, ref21 x0 x1 Y h0, ofBits_512, zero_add, Fin.sum_univ_one]
  simp (disch := norm_num) only [coe_sum, coe_mul, coe_div]

/-- The gradient before the mean's share. -/
theorem ref54 (s : Fin 8192) (j : Fin 512) : val_main_v54 (F := Ideal) x0 x1 x2 x3 x4 (ix2 s j)
    = ((dln (Y s) G B (D s) j * G j * rs (Y s) - xc (Y s) j * ((∑ k, dln (Y s) G B (D s) k * G k * yn (Y s) k) / 512 * rs (Y s) ^ 2) : ℝ) : EReal) := by
  pointwise [val_main_v54, val_main_v53, val_main_v52, val_main_v51, val_main_v45, val_main_v44, ref50 x0 x4 x1 x2 x3 Y D G B h0 h4 h2 h3,
    ref39 x0 x4 x1 x2 x3 Y D G B h0 h4 h2 h3, ref10 x0 x1 Y h0, ref18 x0 x1 Y h0]
  simp only [coe_mul, coe_add]
  congr 1
  have e : (∑ k, dln (Y s) G B (D s) k * G k * yn (Y s) k) = (∑ k, xc (Y s) k * (dln (Y s) G B (D s) k * G k)) * rs (Y s) := by
    rw [Finset.sum_mul]; exact Finset.sum_congr rfl fun k _ => by rw [yn]; ring
  rw [e, rs_div]; ring

theorem ref62 (s : Fin 8192) (j : Fin 512) : val_main_v62 (F := Ideal) x0 x1 x2 x3 x4 (ix2 s j) = ((dy (Y s) G B (D s) j : ℝ) : EReal) := by
  pointwise [val_main_v62, val_main_v61, val_main_v60, val_main_cst_14, val_main_v59, val_main_v58, val_main_cst_13, val_main_v57, val_main_v56, val_main_cst_12,
    val_main_v55, ref54 x0 x4 x1 x2 x3 Y D G B h0 h4 h2 h3, ofBits_512, zero_add, Fin.sum_univ_one]
  simp (disch := norm_num) only [coe_neg, coe_sum, coe_div, coe_add]
  congr 1
  rw [Finset.sum_neg_distrib, Finset.sum_sub_distrib, ← Finset.sum_mul, ← Finset.sum_mul, sum_xc, dy, yn]; ring

theorem ref66 (j : Fin 512) : val_main_v66 (F := Ideal) x0 x1 x2 x3 x4 (ix2 0 j) = ((∑ s, dln (Y s) G B (D s) j * yn (Y s) j : ℝ) : EReal) := by
  pointwise [val_main_v66, val_main_v40, val_main_cst_8, val_main_v37, val_main_v36, val_main_cst_7, val_main_v35, ref23 x0 x1 Y h0,
    ref31 x0 x4 x1 x2 x3 Y D G B h0 h4 h2 h3, zero_add, Fin.sum_univ_one]
  simp only [coe_mul, coe_sum]
  exact congrArg _ (Finset.sum_congr rfl fun k _ => mul_comm _ _)

theorem ref67 (j : Fin 512) : val_main_v67 (F := Ideal) x0 x1 x2 x3 x4 (ix2 0 j) = ((∑ s, dln (Y s) G B (D s) j : ℝ) : EReal) := by
  pointwise [val_main_v67, val_main_v34, val_main_cst_6, val_main_v33, val_main_v32, val_main_cst_5,
    ref31 x0 x4 x1 x2 x3 Y D G B h0 h4 h2 h3, zero_add, Fin.sum_univ_one]
  simp only [coe_sum]

theorem ref68 (j : Fin 512) : val_main_v68 (F := Ideal) x0 x1 x2 x3 x4 (ix2 0 j) = ((∑ s, dy (Y s) G B (D s) j : ℝ) : EReal) := by
  pointwise [val_main_v68, val_main_v65, val_main_cst_16, val_main_v64, val_main_v63, val_main_cst_15,
    ref62 x0 x4 x1 x2 x3 Y D G B h0 h4 h2 h3, zero_add, Fin.sum_univ_one]
  simp only [coe_sum]

end
end Reference

end Cert.ConvLn

end
-- ==== Proof.ConvLnValue.lean ====
/-
  The arrays of the gradient of the convolution branch's bias, layer norm and silu after the run.
-/
module

public import proofs.«01_k».proof.Proof.ConvLn

@[expose] public section

set_option maxRecDepth 16384

noncomputable section

open Idealize.ShloMosaic Idealize.ShloMosaic.TcCoe Idealize.SL.Sem
open Idealize.ShloMosaic.Pipeline (Dat)
open Cert.Lift

namespace Cert.ConvLn
open Cert.KernelConvLnIdeal Cert.KernelConvLnIdeal.Gen
open Cert.ReferenceConvLnIdeal.Read

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![0, 0] :=
  (by decide +kernel : ∀ t : Fin grid0.N, _)

theorem hrows : 8192 = cfg0.N * 512 := by rw [show cfg0.N = 16 from N_0]

variable (m : (ℓ : Loc nD τ sig) → Buf (Elt Ideal) ℓ) (c : Dev nD)
  (Y D : Fin 8192 → Fin 512 → ℝ) (G B : Fin 512 → ℝ)
  (h0 : ∀ r j, val_main_v4 (F := Ideal) (m ((c : Thread nD τ).loc main_arg0)) (m ((c : Thread nD τ).loc main_arg1)) (ix2 r j) = ((Y r j : ℝ) : EReal))
  (h4 : ∀ r j, val_main_v1 (F := Ideal) (m ((c : Thread nD τ).loc main_arg4)) (ix2 r j) = ((D r j : ℝ) : EReal))
  (h2 : ∀ j, val_main_v24 (F := Ideal) (m ((c : Thread nD τ).loc main_arg2)) (ix2 0 j) = ((G j : ℝ) : EReal))
  (h3 : ∀ j, val_main_v27 (F := Ideal) (m ((c : Thread nD τ).loc main_arg3)) (ix2 0 j) = ((B j : ℝ) : EReal))

/-- The rows a grid point works on. -/
abbrev row (t : Fin cfg0.N) (r : Fin 512) : Fin 8192 := rowOf 512 hrows t r

include h0 in
theorem blk0 (t : Fin cfg0.N) (r j : Fin 512) : (iblk m c 0 t : FVec Ideal S512x512 .f32) (ix2 r j) = ((Y (row t r) j : ℝ) : EReal) := by
  rw [← h0]
  blk_simp [iblk]
  entry_read
  show val_main_v4 (F := Ideal) _ _ _ = _
  blk_ext [idx t]

include h4 in
theorem blk1 (t : Fin cfg0.N) (r j : Fin 512) : (iblk m c 1 t : FVec Ideal S512x512 .bf16) (ix2 r j) = ((D (row t r) j : ℝ) : EReal) := by
  rw [← h4]
  blk_simp [iblk]
  entry_read
  show val_main_v1 (F := Ideal) _ _ = _
  blk_ext [idx t]

include h2 in
theorem blk2 (t : Fin cfg0.N) (j : Fin 512) : (iblk m c 2 t : FVec Ideal S1x512 .f32) (ix2 0 j) = ((G j : ℝ) : EReal) := by
  rw [← h2]
  blk_simp [iblk]
  entry_read
  show val_main_v24 (F := Ideal) _ _ = _
  blk_ext [idx t]

include h3 in
theorem blk3 (t : Fin cfg0.N) (j : Fin 512) : (iblk m c 3 t : FVec Ideal S1x512 .f32) (ix2 0 j) = ((B j : ℝ) : EReal) := by
  rw [← h3]
  blk_simp [iblk]
  entry_read
  show val_main_v27 (F := Ideal) _ _ = _
  blk_ext [idx t]

include h0 h4 h2 h3

theorem final4 : (dats m 0 c).arrAt 4 (cfgs 0).N
    = (val_main_v62 (F := Ideal) (m ((c : Thread nD τ).loc main_arg0)) (m ((c : Thread nD τ).loc main_arg1)) (m ((c : Thread nD τ).loc main_arg2))
        (m ((c : Thread nD τ).loc main_arg3)) (m ((c : Thread nD τ).loc main_arg4))) := by
  refine (dats m 0 c).arrAt_eq_of_covers 4 _ (by decide +kernel) fun t _ y => ?_
  blk_simp
  rw [after0_4]
  have key : (outsAt0 m c t.val t.isLt).1 = k0_pay10 (k0_pay3 (iblk m c 0 t)) (k0_pay4 (iblk m c 0 t)) (k0_pay6 (iblk m c 0 t) (iblk m c 2 t) (iblk m c 3 t))
      (k0_pay7 (iblk m c 1 t)) (k0_pay8 (iblk m c 0 t) (iblk m c 2 t) (iblk m c 3 t)) (iblk m c 2 t) := by
    by_cases h : t.val % 16 = 0
    · rw [outsAt0_A m c t h]; frame_out
    · rw [outsAt0_B m c t h]; frame_out
  rw [key]
  idx_vars y
  rw [pay10 _ _ _ _ (fun r => Y (row t r)) (fun r => D (row t r)) G B (blk0 m c Y h0 t) (blk1 m c D h4 t) (blk2 m c G h2 t) (blk3 m c B h3 t),
    ← ref62 _ _ _ _ _ Y D G B h0 h4 h2 h3]
  blk_ext [idx t]

theorem final5 : (dats m 0 c).arrAt 5 (cfgs 0).N
    = (val_main_v66 (F := Ideal) (m ((c : Thread nD τ).loc main_arg0)) (m ((c : Thread nD τ).loc main_arg1)) (m ((c : Thread nD τ).loc main_arg2))
        (m ((c : Thread nD τ).loc main_arg3)) (m ((c : Thread nD τ).loc main_arg4))) := by
  refine (dats m 0 c).arrAt_eq_of_after_last 5 t0_15 (by decide +kernel) _ fun j => ?_
  blk_simp
  rw [after0_5]
  obtain ⟨b, rfl⟩ := row1 j
  have hz : ∀ i, k0_pay11 (F := Ideal) i = 0 := fun i => by pointwise [k0_pay11]
  have hp := fun (t : Fin cfg0.N) => pay14 _ _ _ _ (fun r => Y (row t r)) (fun r => D (row t r)) G B
    (blk0 m c Y h0 t) (blk1 m c D h4 t) (blk2 m c G h2 t) (blk3 m c B h3 t)
  rw [ref66 _ _ _ _ _ Y D G B h0 h4 h2 h3 b]
  refine acc_rows 512 16 hrows (fun n h => (outsAt0 m c n h).2.1) (fun s j => dln (Y s) G B (D s) j * yn (Y s) j) (fun t h b => ?_) (fun t h b => ?_) (le_of_eq N_0) t0_15 rfl b
  · rw [outsAt0_A m c t h]; frame_out
    exact (hp t _ b).trans (by rw [hz])
  · rw [outsAt0_B m c t h]; frame_out
    exact hp t _ b

theorem final6 : (dats m 0 c).arrAt 6 (cfgs 0).N
    = (val_main_v67 (F := Ideal) (m ((c : Thread nD τ).loc main_arg0)) (m ((c : Thread nD τ).loc main_arg1)) (m ((c : Thread nD τ).loc main_arg2))
        (m ((c : Thread nD τ).loc main_arg3)) (m ((c : Thread nD τ).loc main_arg4))) := by
  refine (dats m 0 c).arrAt_eq_of_after_last 6 t0_15 (by decide +kernel) _ fun j => ?_
  blk_simp
  rw [after0_6]
  obtain ⟨b, rfl⟩ := row1 j
  have hz : ∀ i, k0_pay12 (F := Ideal) i = 0 := fun i => by pointwise [k0_pay12]
  have hp := fun (t : Fin cfg0.N) => pay15 _ _ _ _ (fun r => Y (row t r)) (fun r => D (row t r)) G B
    (blk0 m c Y h0 t) (blk1 m c D h4 t) (blk2 m c G h2 t) (blk3 m c B h3 t)
  rw [ref67 _ _ _ _ _ Y D G B h0 h4 h2 h3 b]
  refine acc_rows 512 16 hrows (fun n h => (outsAt0 m c n h).2.2.1) (fun s j => dln (Y s) G B (D s) j) (fun t h b => ?_) (fun t h b => ?_) (le_of_eq N_0) t0_15 rfl b
  · rw [outsAt0_A m c t h]; frame_out
    exact (hp t _ b).trans (by rw [hz])
  · rw [outsAt0_B m c t h]; frame_out
    exact hp t _ b

theorem final7 : (dats m 0 c).arrAt 7 (cfgs 0).N
    = (val_main_v68 (F := Ideal) (m ((c : Thread nD τ).loc main_arg0)) (m ((c : Thread nD τ).loc main_arg1)) (m ((c : Thread nD τ).loc main_arg2))
        (m ((c : Thread nD τ).loc main_arg3)) (m ((c : Thread nD τ).loc main_arg4))) := by
  refine (dats m 0 c).arrAt_eq_of_after_last 7 t0_15 (by decide +kernel) _ fun j => ?_
  blk_simp
  rw [after0_7]
  obtain ⟨b, rfl⟩ := row1 j
  have hz : ∀ i, k0_pay13 (F := Ideal) i = 0 := fun i => by pointwise [k0_pay13]
  have hp := fun (t : Fin cfg0.N) => pay1 _ _ _ _ (fun r => Y (row t r)) (fun r => D (row t r)) G B
    (blk0 m c Y h0 t) (blk1 m c D h4 t) (blk2 m c G h2 t) (blk3 m c B h3 t)
  rw [ref68 _ _ _ _ _ Y D G B h0 h4 h2 h3 b]
  refine acc_rows 512 16 hrows (fun n h => (outsAt0 m c n h).2.2.2) (fun s j => dy (Y s) G B (D s) j) (fun t h b => ?_) (fun t h b => ?_) (le_of_eq N_0) t0_15 rfl b
  · rw [outsAt0_A m c t h]; frame_out
    exact (hp t _ b).trans (by rw [hz])
  · rw [outsAt0_B m c t h]; frame_out
    exact hp t _ b

end Cert.ConvLn

end
-- ==== Proof.ConvLnClaims.lean ====
/-
  The value claim of the gradient of the convolution branch's bias, layer norm and silu.
-/
module

public import proofs.«01_k».proof.Defs
public import proofs.«01_k».proof.Proof.Gen.Pre_finite_conv_ln
public import proofs.«01_k».proof.Proof.Gen.ReferenceConvLnIdeal.Run
public import proofs.«01_k».proof.Proof.ConvLnValue

@[expose] public section

set_option maxRecDepth 16384

noncomputable section

open Idealize.ShloMosaic Idealize.ShloMosaic.TcCoe Idealize.SL.Sem
open Cert.Lift

namespace Cert.ConvLn
open Cert.ReferenceConvLnIdeal.Read

section
variable (m : (ℓ : Loc Cert.KernelConvLnIdeal.nD Cert.KernelConvLnIdeal.τ Cert.KernelConvLnIdeal.sig) → Buf (Elt Ideal) ℓ)
  (hpre : Cert.Pre_KernelConvLnIdeal_finite_conv_ln m) (c : Dev Cert.KernelConvLnIdeal.nD)
open Cert.KernelConvLnIdeal
include hpre

/-- Finite arguments: the layer norm's input, the cotangent, the scale and the bias are real numbers. -/
theorem reals : ∃ (Y D : Fin 8192 → Fin 512 → ℝ) (G B : Fin 512 → ℝ),
    (∀ r j, val_main_v4 (F := Ideal) (m ((c : Thread nD τ).loc main_arg0)) (m ((c : Thread nD τ).loc main_arg1)) (ix2 r j) = ((Y r j : ℝ) : EReal))
    ∧ (∀ r j, val_main_v1 (F := Ideal) (m ((c : Thread nD τ).loc main_arg4)) (ix2 r j) = ((D r j : ℝ) : EReal))
    ∧ (∀ j, val_main_v24 (F := Ideal) (m ((c : Thread nD τ).loc main_arg2)) (ix2 0 j) = ((G j : ℝ) : EReal))
    ∧ (∀ j, val_main_v27 (F := Ideal) (m ((c : Thread nD τ).loc main_arg3)) (ix2 0 j) = ((B j : ℝ) : EReal)) := by
  obtain ⟨f0, f1, f2, f3, f4⟩ := hpre c
  obtain ⟨X0, h0⟩ := exists_real_of_finite _ _ f0
  obtain ⟨X1, h1⟩ := exists_real_of_finite _ _ f1
  obtain ⟨X2, h2⟩ := exists_real_of_finite _ _ f2
  obtain ⟨X3, h3⟩ := exists_real_of_finite _ _ f3
  obtain ⟨X4, h4⟩ := exists_real_of_finite _ _ f4
  exact ⟨fun r j => _, fun r j => _, fun j => _, fun j => _,
    fun r j => (congrArg₂ (fun a b : EReal => a + b) (h0 _) (h1 _)).trans (coe_add _ _), fun r j => h4 _, fun j => h2 _, fun j => h3 _⟩

end

theorem algebraic : Cert.algebraic_KernelConvLnIdeal_ReferenceConvLnIdeal_pre_finite_conv_ln := by
  pair_intro
  · run_from Cert.KernelConvLnIdeal.Value.run_blocks m g
  · run_from Cert.ReferenceConvLnIdeal.Value.run m' g'
    all_goals
      obtain ⟨e0, e1, e2, e3, e4⟩ := hagree c
      obtain ⟨Y, D, G, B, h0, h4, h2, h3⟩ := reals m hpre c
    · refine (val_main_v62_eq (StableHlo.launchContents m' c)).trans (Eq.trans ?_ (final4 m c Y D G B h0 h4 h2 h3).symm)
      rw [← e0, ← e1, ← e2, ← e3, ← e4]
    · refine (val_main_v66_eq (StableHlo.launchContents m' c)).trans (Eq.trans ?_ (final5 m c Y D G B h0 h4 h2 h3).symm)
      rw [← e0, ← e1, ← e2, ← e3, ← e4]
    · refine (val_main_v67_eq (StableHlo.launchContents m' c)).trans (Eq.trans ?_ (final6 m c Y D G B h0 h4 h2 h3).symm)
      rw [← e0, ← e1, ← e2, ← e3, ← e4]
    · refine (val_main_v68_eq (StableHlo.launchContents m' c)).trans (Eq.trans ?_ (final7 m c Y D G B h0 h4 h2 h3).symm)
      rw [← e0, ← e1, ← e2, ← e3, ← e4]

end Cert.ConvLn

end
-- ==== Proof.MemKv.lean ====
/-
  The value of the gradients of the memory's norm and key/value projection.
-/
module

public import proofs.«01_k».proof.Proof.Real
public import proofs.«01_k».proof.Proof.Gen.KernelMemKvIdeal.Value
public import proofs.«01_k».proof.Proof.Gen.ReferenceMemKvIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.MemKv
open Cert.KernelMemKvIdeal Cert.KernelMemKvIdeal.Gen
open Cert.ReferenceMemKvIdeal.Read

section
variable (x0 x3 : Vec Ideal S256x1024 .f32) (x1 : Vec Ideal S1024 .f32) (x2 : Vec Ideal S1024x1024 .f32)

/-- The gradient of the projection: both contract the rows, with the factors in the other order. -/
theorem pay2 (v0 : Vec Ideal S256x1024 .f32) (v2 : Vec Ideal S256x1024 .bf16) (h0 : ∀ r j, v0 (ix2 r j) = x3 (ix2 r j))
    (h2 : ∀ r j, v2 (ix2 r j) = val_main_v12 (F := Ideal) x0 x1 (ix2 r j)) (i j : Fin 1024) :
    k0_pay2 v0 v2 (ix2 i j) = val_main_v15 (F := Ideal) x0 x1 x3 (ix2 i j) := by
  pointwise [k0_pay2, k0_pay1, val_main_v15, val_main_v14, h0, h2, zero_add]
  exact Finset.sum_congr rfl fun r _ => mul_comm _ _

/-- The gradient of the gain. -/
theorem pay3 (v0 : Vec Ideal S256x1024 .f32) (v6 : Vec Ideal S1024x1024 .bf16) (v9 : Vec Ideal S256x1024 .f32) (h0 : ∀ r j, v0 (ix2 r j) = x3 (ix2 r j))
    (h6 : ∀ i j, v6 (ix2 i j) = x2 (ix2 i j)) (h9 : ∀ r j, v9 (ix2 r j) = x0 (ix2 r j)) (j : Fin 1024) :
    k0_pay3 v0 v6 v9 (ix2 0 j) = val_main_v21 (F := Ideal) x0 x2 x3 (ix2 0 j) := by
  pointwise [k0_pay3, k0_pay1, val_main_v21, val_main_v20, val_main_cst_3, val_main_v19, val_main_v18, val_main_cst_2, val_main_v17, val_main_v16, val_main_v9,
    val_main_v8, val_main_v7, val_main_v6, val_main_v5, val_main_cst_1, val_main_v4, val_main_v3, val_main_cst_0, val_main_v2, val_main_v1, val_main_cst,
    val_main_v0, h0, h6, h9, zero_add, Fin.sum_univ_one]
  exact Finset.sum_congr rfl fun r _ => mul_comm _ _

end

theorem idx : ∀ t : Fin cfg0.N, win0_0.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

theorem blk0 (t : Fin cfg0.N) (r : Fin 256) (j : Fin 1024) : (iblk m c 0 t : FVec Ideal S256x1024 .f32) (ix2 r j) = m ((c : Thread nD τ).loc main_arg0) (ix2 r j) := by
  blk_simp [iblk]
  entry_read
  blk_ext [idx t]

theorem blk2 (t : Fin cfg0.N) (r : Fin 256) (j : Fin 1024) : (iblk m c 2 t : FVec Ideal S256x1024 .bf16) (ix2 r j)
    = val_main_v12 (F := Ideal) (m ((c : Thread nD τ).loc main_arg0)) (m ((c : Thread nD τ).loc main_arg1)) (ix2 r j) := by
  blk_simp [iblk]
  entry_read
  show val_main_v12 (F := Ideal) _ _ _ = _
  blk_ext [idx t]

theorem blk3 (t : Fin cfg0.N) (i j : Fin 1024) : (iblk m c 3 t : FVec Ideal S1024x1024 .bf16) (ix2 i j) = m ((c : Thread nD τ).loc main_arg2) (ix2 i j) := by
  blk_simp [iblk]
  entry_read
  blk_ext [idx t]

theorem blk4 (t : Fin cfg0.N) (r : Fin 256) (j : Fin 1024) : (iblk m c 4 t : FVec Ideal S256x1024 .f32) (ix2 r j) = m ((c : Thread nD τ).loc main_arg3) (ix2 r j) := by
  blk_simp [iblk]
  entry_read
  blk_ext [idx t]

theorem final5 : (dats m 0 c).arrAt 5 (cfgs 0).N
    = val_main_v15 (F := Ideal) (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  have key : out0_5 (iblk m c 0 t) (iblk m c 1 t) (iblk m c 2 t) (iblk m c 3 t) (iblk m c 4 t) = k0_pay2 (iblk m c 4 t) (iblk m c 2 t) := by
    frame_out
  rw [key]
  idx_vars y
  rw [pay2 _ _ _ _ _ (blk4 m c t) (blk2 m c t)]
  blk_ext [idx t]

theorem final6 : (dats m 0 c).arrAt 6 (cfgs 0).N
    = val_main_v21 (F := Ideal) (m ((c : Thread nD τ).loc main_arg0)) (m ((c : Thread nD τ).loc main_arg2)) (m ((c : Thread nD τ).loc main_arg3)) := by
  refine (dats m 0 c).arrAt_eq_of_covers 6 _ (by decide +kernel) fun t _ y => ?_
  blk_simp
  rw [after0_6]
  have key : out0_6 (iblk m c 0 t) (iblk m c 1 t) (iblk m c 2 t) (iblk m c 3 t) (iblk m c 4 t) = k0_pay3 (iblk m c 4 t) (iblk m c 3 t) (iblk m c 0 t) := by
    frame_out
  rw [key]
  obtain ⟨b, rfl⟩ := row1 y
  rw [pay3 _ _ _ _ _ _ (blk4 m c t) (blk3 m c t) (blk0 m c t)]
  blk_ext [idx t]

end Cert.MemKv

end
-- ==== Proof.MemKvClaims.lean ====
/-
  The value claim of the gradients of the memory's norm and key/value projection.
-/
module

public import proofs.«01_k».proof.Defs
public import proofs.«01_k».proof.Proof.Gen.ReferenceMemKvIdeal.Run
public import proofs.«01_k».proof.Proof.MemKv

@[expose] public section

set_option maxRecDepth 16384

noncomputable section

open Idealize.ShloMosaic Idealize.ShloMosaic.TcCoe Idealize.SL.Sem

namespace Cert.MemKv
open Cert.ReferenceMemKvIdeal.Read

theorem algebraic : Cert.algebraic_KernelMemKvIdeal_ReferenceMemKvIdeal := by
  pair_intro
  · run_from Cert.KernelMemKvIdeal.Value.run_blocks m g
  · run_from Cert.ReferenceMemKvIdeal.Value.run m' g'
    all_goals
      obtain ⟨e0, e1, e2, e3⟩ := hagree c
    · refine (val_main_v15_eq _ _ _).trans (Eq.trans ?_ (final5 m c).symm)
      rw [← e0, ← e1, ← e3]
    · refine (val_main_v21_eq _ _ _).trans (Eq.trans ?_ (final6 m c).symm)
      rw [← e0, ← e2, ← e3]

end Cert.MemKv

end
-- ==== Proof.Loss.lean ====
/-
  The value of the last channel mixer with the loss and the loss's gradient.
-/
module

public import proofs.«01_k».proof.Proof.Real
public import proofs.«01_k».proof.Proof.Gen.KernelLossIdeal.Value
public import proofs.«01_k».proof.Proof.Gen.ReferenceLossIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.Loss
open Cert.KernelLossIdeal Cert.KernelLossIdeal.Gen
open Cert.ReferenceLossIdeal.Read

section
variable (x0 x4 : Vec Ideal S8192x1024 .f32) (x1 : Vec Ideal S8192x5632 .f32) (x2 : Vec Ideal S2816x1024 .f32) (x3 : Vec Ideal S1024 .f32)
  (v3 v6 : Vec Ideal S256x2816 .bf16) (v19 : Vec Ideal S2816x1024 .bf16) (v23 v39 : Vec Ideal S256x1024 .f32) (v24 : Vec Ideal S1x1024 .f32)
  (row : Fin 256 → Fin 8192)
  (h3 : ∀ r k, v3 (ix2 r k) = val_main_v0 (F := Ideal) x1 (ix2 (row r) k)) (h6 : ∀ r k, v6 (ix2 r k) = val_main_v2 (F := Ideal) x1 (ix2 (row r) k))
  (h19 : ∀ k j, v19 (ix2 k j) = x2 (ix2 k j)) (h23 : ∀ r j, v23 (ix2 r j) = x0 (ix2 (row r) j)) (h24 : ∀ j, v24 (ix2 0 j) = val_main_v15 (F := Ideal) x3 (ix2 0 j))
  (h39 : ∀ r j, v39 (ix2 r j) = x4 (ix2 (row r) j))

include h3 h6 h19

/-- The mixer's output. -/
theorem pay5 (r : Fin 256) (j : Fin 1024) : k0_pay5 v3 v6 v19 (ix2 r j) = val_main_v4 (F := Ideal) x1 x2 (ix2 (row r) j) := by
  pointwise [k0_pay5, val_main_v4, val_main_v3, val_main_v1, val_main_call0_v5, val_main_call0_v4, val_main_call0_cst_0, val_main_call0_v3, val_main_call0_v2,
    val_main_call0_cst, val_main_call0_v1, val_main_call0_v0, h3, h6, h19, zero_sub, zero_add]

theorem pay7 (r : Fin 256) (j : Fin 1024) : k0_pay7 v3 v6 v19 (ix2 r j) = val_main_v14 (F := Ideal) x1 x2 (ix2 (row r) j) := by
  pointwise [k0_pay7, val_main_v14, val_main_v13, val_main_v12, val_main_v11, val_main_v10, val_main_cst_1, val_main_v9, val_main_v8, val_main_cst_0, val_main_v7,
    val_main_v6, val_main_cst, val_main_v5, pay5 x1 x2 v3 v6 v19 row h3 h6 h19, zero_add]

include h23 h24 h39

/-- The difference to the target. -/
theorem pay1 (r : Fin 256) (j : Fin 1024) : k0_pay1 v23 (k0_pay6 v24) (k0_pay7 v3 v6 v19) v39 (ix2 r j)
    = val_main_v19 (F := Ideal) x0 x1 x2 x3 x4 (ix2 (row r) j) := by
  pointwise [k0_pay1, k0_pay6, val_main_v19, val_main_v18, val_main_v17, val_main_v16, pay7 x1 x2 v3 v6 v19 row h3 h6 h19, h23, h24, h39]

/-- The loss's gradient. -/
theorem pay2 (r : Fin 256) (j : Fin 1024) : k0_pay2 v23 (k0_pay6 v24) (k0_pay7 v3 v6 v19) v39 (ix2 r j)
    = val_main_v33 (F := Ideal) x0 x1 x2 x3 x4 (ix2 (row r) j) := by
  pointwise [k0_pay2, val_main_v33, val_main_v32, val_main_v31, val_main_v30, val_main_v29, val_main_v28, val_main_cst_8, val_main_v27, val_main_v26, val_main_cst_7,
    val_main_cst_6, pay1 x0 x4 x1 x2 x3 v3 v6 v19 v23 v39 v24 row h3 h6 h19 h23 h24 h39, ofBits_1024, ofBits_half, ofBits_inv_1024, mul_one]
  rw [coe_div _ _ (by norm_num), mul_add_mul_half _ _ (by norm_num)]
  norm_num

/-- A block's share of the loss. -/
theorem pay3 (a : Vec Ideal S8x128 .f32) (i : S8x128.Idx) : k0_pay3 v23 (k0_pay6 v24) (k0_pay7 v3 v6 v19) v39 a i
    = a i + ∑ r : Fin 256, ((1 / 2048 : ℝ) : EReal) * ∑ j : Fin 1024, val_main_v20 (F := Ideal) x0 x1 x2 x3 x4 (ix2 (row r) j) := by
  rw [← mul_sum_of_nonneg _ (by norm_num)]
  idx_vars i
  pointwise [k0_pay3, val_main_v20, pay1 x0 x4 x1 x2 x3 v3 v6 v19 v23 v39 v24 row h3 h6 h19 h23 h24 h39, ofBits_inv_2048]

end

/-- The loss, as the sum over the rows. -/
theorem ref34 (x0 x4 : Vec Ideal S8192x1024 .f32) (x1 : Vec Ideal S8192x5632 .f32) (x2 : Vec Ideal S2816x1024 .f32) (x3 : Vec Ideal S1024 .f32) (i : S8x128.Idx) :
    val_main_v34 (F := Ideal) x0 x1 x2 x3 x4 i
      = ∑ s : Fin 8192, ((1 / 2048 : ℝ) : EReal) * ∑ j : Fin 1024, val_main_v20 (F := Ideal) x0 x1 x2 x3 x4 (ix2 s j) := by
  pointwise [val_main_v34, val_main_v25, val_main_cst_5, val_main_v24, val_main_cst_4, val_main_v23, val_main_v22, val_main_cst_3, val_main_v21, val_main_cst_2,
    ofBits_1024, ofBits_half, zero_add]
  rw [mul_sum_of_nonneg _ (by norm_num)]
  refine Finset.sum_congr rfl fun s _ => ?_
  rw [div_real _ _ (by norm_num), mul_left_comm, coe_mul, mul_comm]
  norm_num

end Cert.Loss

end
-- ==== Proof.LossValue.lean ====
/-
  The arrays that the last feed-forward layer's kernel leaves: the loss, its gradient and the layer's output.
-/
module

public import proofs.«01_k».proof.Proof.Loss
public import proofs.«01_k».proof.Proof.Gen.KernelLossIdeal.Value
public import proofs.«01_k».proof.Proof.Gen.ReferenceLossIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.Loss
open Cert.KernelLossIdeal Cert.KernelLossIdeal.Gen
open Cert.ReferenceLossIdeal.Read

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

theorem hrows : 8192 = cfg0.N * 256 := by rw [show cfg0.N = 32 from N_0]

/-- The last grid point. -/
def tLast : Fin grid0.N := ⟨31, by rw [N_0]; decide⟩

variable (m : (ℓ : Loc nD τ sig) → Buf (Elt Ideal) ℓ) (c : Dev nD)

/-- The rows a grid point works on. -/
abbrev row (t : Fin cfg0.N) (r : Fin 256) : Fin 8192 := rowOf 256 hrows t r

theorem blk0 (t : Fin cfg0.N) (r : Fin 256) (j : Fin 1024) : (iblk m c 0 t : FVec Ideal S256x1024 .f32) (ix2 r j)
    = m ((c : Thread nD τ).loc main_arg0) (ix2 (row t r) j) := by
  blk_simp [iblk]
  entry_read
  blk_ext [idx t]

theorem blk1 (t : Fin cfg0.N) (r : Fin 256) (k : Fin 5632) : (iblk m c 1 t : FVec Ideal S256x5632 .bf16) (ix2 r k)
    = m ((c : Thread nD τ).loc main_arg1) (ix2 (row t r) k) := by
  blk_simp [iblk]
  entry_read
  blk_ext [idx t]

theorem blk2 (t : Fin cfg0.N) (k : Fin 2816) (j : Fin 1024) : (iblk m c 2 t : FVec Ideal S2816x1024 .bf16) (ix2 k j)
    = m ((c : Thread nD τ).loc main_arg2) (ix2 k j) := by
  blk_simp [iblk]
  entry_read
  blk_ext [idx t]

theorem blk3 (t : Fin cfg0.N) (j : Fin 1024) : (iblk m c 3 t : FVec Ideal S1x1024 .f32) (ix2 0 j)
    = val_main_v15 (F := Ideal) (m ((c : Thread nD τ).loc main_arg3)) (ix2 0 j) := by
  blk_simp [iblk]
  entry_read
  show val_main_v15 (F := Ideal) _ _ = _
  blk_ext [idx t]

theorem blk4 (t : Fin cfg0.N) (r : Fin 256) (j : Fin 1024) : (iblk m c 4 t : FVec Ideal S256x1024 .f32) (ix2 r j)
    = m ((c : Thread nD τ).loc main_arg4) (ix2 (row t r) j) := by
  blk_simp [iblk]
  entry_read
  blk_ext [idx t]

theorem final5 : (dats m 0 c).arrAt 5 (cfgs 0).N
    = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  have key : ∀ r j, (outsAt0 m c t.val t.isLt).1 (ix2 r j)
      = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix2 (row t r) j) := by
    intro r j
    by_cases h : t.val % 32 = 0
    on_goal 1 => rw [outsAt0_A m c t h]
    on_goal 2 => rw [outsAt0_B m c t h]
    all_goals
      frame_out
      refine pay2 _ _ _ _ _ _ _ _ _ _ _ (row t) (fun r k => ?_) (fun r k => ?_) (blk2 m c t) (blk0 m c t) (blk3 m c t) (blk4 m c t) r j
      all_goals pointwise [val_main_v0, val_main_v2, blk1]
  idx_vars y
  rw [key]
  blk_ext [idx t]

theorem final6 : (dats m 0 c).arrAt 6 (cfgs 0).N
    = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  have key : ∀ r j, (outsAt0 m c t.val t.isLt).2.1 (ix2 r j)
      = val_main_v4 (F := Ideal) (m ((c : Thread nD τ).loc main_arg1)) (m ((c : Thread nD τ).loc main_arg2)) (ix2 (row t r) j) := by
    intro r j
    by_cases h : t.val % 32 = 0
    on_goal 1 => rw [outsAt0_A m c t h]
    on_goal 2 => rw [outsAt0_B m c t h]
    all_goals
      frame_out
      refine pay5 _ _ _ _ _ (row t) (fun r k => ?_) (fun r k => ?_) (blk2 m c t) r j
      all_goals pointwise [val_main_v0, val_main_v2, blk1]
  idx_vars y
  rw [key]
  blk_ext [idx t]

theorem final7 : (dats m 0 c).arrAt 7 (cfgs 0).N
    = val_main_v34 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 7 tLast (by decide +kernel) _ fun j => ?_
  blk_simp
  rw [after0_7]
  rw [ref34]
  refine acc_blocks 256 32 hrows (fun n h => (outsAt0 m c n h).2.2) (fun s _ => ((1 / 2048 : ℝ) : EReal) * ∑ j : Fin 1024,
    val_main_v20 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix2 s j)) (fun t h i => ?_) (fun t h i => ?_) (le_of_eq N_0) tLast rfl j
  on_goal 1 =>
    rw [outsAt0_A m c t h, ← show k0_pay4 (F := Ideal) i = 0 by pointwise [k0_pay4]]
  on_goal 2 => rw [outsAt0_B m c t h]
  all_goals
    frame_out
    refine pay3 _ _ _ _ _ _ _ _ _ _ _ (row t) (fun r k => ?_) (fun r k => ?_) (blk2 m c t) (blk0 m c t) (blk3 m c t) (blk4 m c t) _ i
    all_goals pointwise [val_main_v0, val_main_v2, blk1]

end Cert.Loss

end
-- ==== Proof.LossClaims.lean ====
/-
  The value claim of the last layer's loss and its gradient.
-/
module

public import proofs.«01_k».proof.Defs
public import proofs.«01_k».proof.Proof.Gen.ReferenceLossIdeal.Run
public import proofs.«01_k».proof.Proof.LossValue

@[expose] public section

set_option maxRecDepth 16384

noncomputable section

open Idealize.ShloMosaic Idealize.ShloMosaic.TcCoe Idealize.SL.Sem
open Cert.Lift

namespace Cert.Loss
open Cert.ReferenceLossIdeal.Read

theorem algebraic : Cert.algebraic_KernelLossIdeal_ReferenceLossIdeal := by
  pair_intro
  · run_from Cert.KernelLossIdeal.Value.run_blocks m g
  · run_from Cert.ReferenceLossIdeal.Value.run m' g'
    all_goals
      obtain ⟨e0, e1, e2, e3, e4⟩ := hagree c
    · refine (val_main_v33_eq m' c).trans (Eq.trans ?_ (final5 m c).symm)
      rw [← e0, ← e1, ← e2, ← e3, ← e4]
    · refine (val_main_v4_eq (F := Ideal) _ _).trans ?_
      refine Eq.trans ?_ (final6 m c).symm
      rw [← e1, ← e2]
    · refine (val_main_v34_eq m' c).trans (Eq.trans ?_ (final7 m c).symm)
      rw [← e0, ← e1, ← e2, ← e3, ← e4]

end Cert.Loss

end
-- ==== Proof.Rms.lean ====
/-
  The root mean square norm and the sigmoid over the real numbers: one row of 1024 entries, its gradient in the
  kernels' form, and the form the derivative of the plain formula has.
-/
module

public import proofs.«01_k».proof.Proof.Real

@[expose] public section

set_option maxRecDepth 16384

noncomputable section

open Idealize.ShloMosaic
open Cert.Lift

namespace Cert.Rms

/-- The programs' `1e-6`: the float word's own rational number. -/
def eps6 : ℝ := 8796093 * (2 ^ 43)⁻¹

theorem ofBits_eps6 : Ideal.ofBits .f32 0x358637BD#32 = ((eps6 : ℝ) : EReal) := by
  unfold eps6; simp [Ideal.ofBits, Ideal.ieee, -EReal.coe_mul]

theorem eps6_pos : 0 < eps6 := by
  unfold eps6; positivity

section Row
variable (v g d : Fin 1024 → ℝ) (j : Fin 1024)

/-- The mean square, with the constant that keeps it positive. -/
def ms : ℝ := (∑ k, v k * v k) / 1024 + eps6
def rs : ℝ := (Real.sqrt (ms v))⁻¹
def vh : ℝ := v j * rs v
/-- The gradient at the norm's input, for the cotangent `d` and the gain `g`. -/
def dv : ℝ := rs v * (d j * g j - vh v j * ((∑ k, d k * g k * vh v k) / 1024))
/-- The share of the gradient that comes through the mean square. -/
def dms : ℝ := (∑ k, v k * (d k * g k)) * (-(1 / 2) * (rs v / ms v)) / 1024

theorem ms_pos : 0 < ms v := by
  have h : 0 ≤ (∑ k, v k * v k) / 1024 := div_nonneg (Finset.sum_nonneg fun k _ => mul_self_nonneg _) (by norm_num)
  unfold ms
  linarith [eps6_pos]

/-- The derivative of the plain formula is the kernels' form. -/
theorem dv_eq : d j * g j * rs v + v j * dms v g d + dms v g d * v j = dv v g d j := by
  have h := ms_pos v
  have e : rs v / ms v = rs v ^ 3 := by
    have e2 : rs v ^ 2 = (ms v)⁻¹ := by rw [rs, inv_pow, Real.sq_sqrt h.le]
    rw [div_eq_mul_inv, ← e2]; ring
  have e3 : (∑ k, d k * g k * vh v k) = (∑ k, v k * (d k * g k)) * rs v := by
    rw [Finset.sum_mul]; exact Finset.sum_congr rfl fun k _ => by rw [vh]; ring
  rw [dms, e, dv, e3, vh]; ring

end Row

/-! ## The norm's gradient as the programs write it, at arrays of real numbers -/

section Ext
variable (v d g : Fin 1024 → EReal) (V D G : Fin 1024 → ℝ) (j : Fin 1024)

abbrev eMs : EReal := Ideal.div (∑ k, v k * v k) (Ideal.ofBits .f32 0x44800000#32) + Ideal.ofBits .f32 0x358637BD#32
abbrev eRs : EReal := Ideal.rsqrt (eMs v)
abbrev eDms : EReal := Ideal.div ((∑ k, v k * (d k * g k)) * (Ideal.ofBits .f32 0xBF000000#32 * Ideal.div (eRs v) (eMs v)))
  (Ideal.ofBits .f32 0x44800000#32)

variable (hv : ∀ k, v k = ((V k : ℝ) : EReal)) (hd : ∀ k, d k = ((D k : ℝ) : EReal)) (hg : ∀ k, g k = ((G k : ℝ) : EReal))

include hv

theorem coe_ms : eMs v = ((ms V : ℝ) : EReal) := by
  simp only [eMs, hv, ofBits_1024, ofBits_eps6, coe_mul, coe_sum]
  rw [coe_div _ _ (by norm_num), coe_add]; rfl

theorem coe_rs : eRs v = ((rs V : ℝ) : EReal) := by
  rw [eRs, coe_ms v V hv]; exact coe_rsqrt _ (ms_pos V)

theorem coe_vh : v j * eRs v = ((vh V j : ℝ) : EReal) := by
  rw [coe_rs v V hv, hv, coe_mul]; rfl

include hd hg

/-- The kernels' form. -/
theorem coe_dv : eRs v * (d j * g j - v j * eRs v * Ideal.div (∑ k, d k * g k * (v k * eRs v)) (Ideal.ofBits .f32 0x44800000#32))
    = ((dv V G D j : ℝ) : EReal) := by
  simp only [coe_rs v V hv, hv, hd, hg, ofBits_1024, coe_mul, coe_sum]
  rw [coe_div _ _ (by norm_num), coe_mul, coe_sub, coe_mul]; rfl

/-- The derivative of the plain formula, added to what reached the input before. -/
theorem coe_dv_vjp (x : EReal) : x + d j * g j * eRs v + v j * eDms v d g + eDms v d g * v j = x + ((dv V G D j : ℝ) : EReal) := by
  simp only [eDms, coe_rs v V hv, coe_ms v V hv, hv, hd, hg, ofBits_1024, ofBits_neg_half, coe_mul, coe_sum]
  rw [coe_div _ _ (ms_pos V).ne', coe_mul, coe_mul, coe_div _ _ (by norm_num), coe_mul, coe_mul, add_assoc, add_assoc, coe_add, coe_add, ← add_assoc]
  exact congrArg (fun y : ℝ => x + (y : EReal)) (dv_eq V G D j)

end Ext

/-- The sigmoid. -/
def sg (x : ℝ) : ℝ := 1 / (1 + Real.exp (0 - x))
/-- The gradient of `silu`. -/
def dsilu (x : ℝ) : ℝ := sg x * (1 + x * (1 - sg x))

theorem coe_sg (x : ℝ) : Ideal.div (1 : EReal) (1 + Ideal.exp (0 - (x : EReal))) = ((sg x : ℝ) : EReal) := by
  rw [coe_one, coe_zero, coe_sub, coe_exp, coe_add, coe_div _ _ (by positivity)]; rfl

theorem coe_sg_neg (x : ℝ) : Ideal.div (1 : EReal) (1 + Ideal.exp (-(x : EReal))) = ((sg x : ℝ) : EReal) := by
  rw [← coe_sg, zero_sub]

end Cert.Rms

end
-- ==== Proof.Ffn.lean ====
/-
  The value of the channel mixer's gradient: the gate, the product with the output projection and the post norm.
-/
module

public import proofs.«01_k».proof.Proof.Rms
public import proofs.«01_k».proof.Proof.Gen.KernelFfnIdeal.Value
public import proofs.«01_k».proof.Proof.Gen.ReferenceFfnIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift Cert.Rms

namespace Cert.Ffn

/-! ## The real functions of one row -/

section Row
variable (a u : Fin 2816 → ℝ) (W : Fin 2816 → Fin 1024 → ℝ) (f g d : Fin 1024 → ℝ)

def act (k : Fin 2816) : ℝ := a k * sg (a k) * u k
def out (j : Fin 1024) : ℝ := ∑ k, act a u k * W k j
def dact (k : Fin 2816) : ℝ := ∑ j, dv f g d j * W k j
def dgate (k : Fin 2816) : ℝ := dact W f g d k * u k * dsilu (a k)
def dup (k : Fin 2816) : ℝ := dact W f g d k * (a k * sg (a k))

end Row

/-! ## The kernel's block -/

section Kernel
open Cert.KernelFfnIdeal Cert.KernelFfnIdeal.Gen

variable (v3 v7 : Vec Ideal S256x1024 .f32) (v5 : Vec Ideal S1x1024 .f32) (v39 : Vec Ideal S2816x1024 .bf16) (v42 v45 : Vec Ideal S256x2816 .bf16)
  (A U : Fin 256 → Fin 2816 → ℝ) (W : Fin 2816 → Fin 1024 → ℝ) (F D : Fin 256 → Fin 1024 → ℝ) (G : Fin 1024 → ℝ)
  (h3 : ∀ r j, v3 (ix2 r j) = ((F r j : ℝ) : EReal)) (h7 : ∀ r j, v7 (ix2 r j) = ((D r j : ℝ) : EReal))
  (h5 : ∀ j, v5 (ix2 0 j) = ((G j : ℝ) : EReal)) (h39 : ∀ k j, v39 (ix2 k j) = ((W k j : ℝ) : EReal))
  (h42 : ∀ r k, v42 (ix2 r k) = ((A r k : ℝ) : EReal)) (h45 : ∀ r k, v45 (ix2 r k) = ((U r k : ℝ) : EReal))

section
include h3

theorem pay11 (r : Fin 256) : k0_pay11 v3 (ix2 r 0) = ((rs (F r) : ℝ) : EReal) := by
  pointwise [k0_pay11, k0_pay10, h3, ofBits_1024, ofBits_eps6]
  simp (disch := norm_num) only [coe_sum, coe_mul, coe_div, coe_add]
  exact coe_rsqrt _ (ms_pos (F r))

theorem pay12 (r : Fin 256) (j : Fin 1024) : k0_pay12 v3 (ix2 r j) = ((vh (F r) j : ℝ) : EReal) := by
  pointwise [k0_pay12, k0_pay10, pay11 v3 F h3, h3]
  rw [coe_mul]; rfl

include h7

theorem pay13 (a : Vec Ideal S1x1024 .f32) (j : Fin 1024) : k0_pay13 v3 v7 a (ix2 0 j)
    = a (ix2 0 j) + ((∑ r, D r j * vh (F r) j : ℝ) : EReal) := by
  pointwise [k0_pay13, pay12 v3 F h3, h7]
  simp only [coe_mul, coe_sum]

include h5

theorem pay14 (r : Fin 256) (j : Fin 1024) : k0_pay14 v3 v5 v7 (ix2 r j) = ((dv (F r) G (D r) j : ℝ) : EReal) := by
  pointwise [k0_pay14, pay11 v3 F h3, pay12 v3 F h3, h5, h7, ofBits_1024]
  simp (disch := norm_num) only [coe_sum, coe_mul, coe_div, coe_sub]
  rfl

include h39

theorem pay1 (r : Fin 256) (k : Fin 2816) : k0_pay1 (k0_pay14 v3 v5 v7) v39 (ix2 r k) = ((dact W (F r) G (D r) k : ℝ) : EReal) := by
  pointwise [k0_pay1, pay14 v3 v7 v5 F D G h3 h7 h5, h39, zero_add]
  simp only [coe_mul, coe_sum]; rfl

end

section
include h42

theorem pay4 (r : Fin 256) (k : Fin 2816) : k0_pay4 v42 (ix2 r k) = ((sg (A r k) : ℝ) : EReal) := by
  pointwise [k0_pay4, k0_pay2, h42]
  exact coe_sg _

theorem pay5 (r : Fin 256) (k : Fin 2816) : k0_pay5 v42 (ix2 r k) = ((A r k * sg (A r k) : ℝ) : EReal) := by
  pointwise [k0_pay5, k0_pay2, pay4 v42 A h42, h42]
  rw [coe_mul]

include h45 in
theorem pay6 (r : Fin 256) (k : Fin 2816) : k0_pay6 v42 v45 (ix2 r k) = ((act (A r) (U r) k : ℝ) : EReal) := by
  pointwise [k0_pay6, k0_pay3, pay5 v42 A h42, h45]
  rw [coe_mul]; rfl

include h3 h5 h7 h39

theorem pay8 (r : Fin 256) (k : Fin 2816) : k0_pay8 (k0_pay14 v3 v5 v7) v39 v42 (ix2 r k) = ((dup (A r) W (F r) G (D r) k : ℝ) : EReal) := by
  pointwise [k0_pay8, pay1 v3 v7 v5 v39 W F D G h3 h7 h5 h39, pay5 v42 A h42]
  rw [coe_mul]; rfl

include h45

theorem pay7 (r : Fin 256) (k : Fin 2816) : k0_pay7 (k0_pay14 v3 v5 v7) v39 v42 v45 (ix2 r k) = ((dgate (A r) (U r) W (F r) G (D r) k : ℝ) : EReal) := by
  pointwise [k0_pay7, k0_pay2, k0_pay3, pay1 v3 v7 v5 v39 W F D G h3 h7 h5 h39, pay4 v42 A h42, h42, h45, coe_one]
  simp only [coe_sub, coe_mul, coe_add]; rfl

end
end Kernel

/-! ## The reference -/

section Reference
open Cert.ReferenceFfnIdeal Cert.ReferenceFfnIdeal.Gen Cert.ReferenceFfnIdeal.Read

variable (x0 : FVec Ideal S8192x5632 .f32) (x1 : FVec Ideal S2816x1024 .f32) (x2 : FVec Ideal S1024 .f32) (x3 : FVec Ideal S8192x1024 .f32)
  (A U : Fin 8192 → Fin 2816 → ℝ) (W : Fin 2816 → Fin 1024 → ℝ) (D : Fin 8192 → Fin 1024 → ℝ) (G : Fin 1024 → ℝ)
  (h0 : ∀ s k, val_main_v0 (F := Ideal) x0 (ix2 s k) = ((A s k : ℝ) : EReal)) (hu : ∀ s k, val_main_v2 (F := Ideal) x0 (ix2 s k) = ((U s k : ℝ) : EReal))
  (h1 : ∀ k j, x1 (ix2 k j) = ((W k j : ℝ) : EReal)) (h2 : ∀ j, val_main_v18 (F := Ideal) x2 (ix2 0 j) = ((G j : ℝ) : EReal))
  (h3 : ∀ s j, x3 (ix2 s j) = ((D s j : ℝ) : EReal))

section
include h0

theorem refSg (s : Fin 8192) (k : Fin 2816) : val_main_v1_2 (F := Ideal) x0 (ix2 s k) = ((sg (A s k) : ℝ) : EReal) := by
  pointwise [val_main_v1_2, val_main_call0_v4, val_main_call0_cst_0, val_main_call0_v3, val_main_call0_v2, val_main_call0_cst, val_main_call0_v1,
    val_main_call0_v0, h0]
  exact coe_sg_neg _

theorem ref1 (s : Fin 8192) (k : Fin 2816) : val_main_v1_0 (F := Ideal) x0 (ix2 s k) = ((A s k * sg (A s k) : ℝ) : EReal) := by
  pointwise [val_main_v1_0, h0, refSg x0 A h0]
  rw [coe_mul]

include hu

theorem ref3 (s : Fin 8192) (k : Fin 2816) : val_main_v3 (F := Ideal) x0 (ix2 s k) = ((act (A s) (U s) k : ℝ) : EReal) := by
  pointwise [val_main_v3, hu, ref1 x0 A h0]
  rw [coe_mul]; rfl

include h1

theorem ref4 (s : Fin 8192) (j : Fin 1024) : val_main_v4 (F := Ideal) x0 x1 (ix2 s j) = ((out (A s) (U s) W j : ℝ) : EReal) := by
  pointwise [val_main_v4, h1, ref3 x0 A U h0 hu]
  simp only [coe_mul, coe_sum]; rfl

theorem ref11 (s : Fin 8192) : val_main_v11 (F := Ideal) x0 x1 (ix2 s 0) = ((ms (out (A s) (U s) W) : ℝ) : EReal) := by
  pointwise [val_main_v11, val_main_v10, val_main_cst_1, val_main_v9, val_main_v8, val_main_cst_0, val_main_v7, val_main_v6, val_main_cst, val_main_v5,
    ref4 x0 x1 A U W h0 hu h1, ofBits_1024, ofBits_eps6, zero_add]
  simp (disch := norm_num) only [coe_mul, coe_sum, coe_div, coe_add]; rfl

theorem ref12 (s : Fin 8192) : val_main_v12 (F := Ideal) x0 x1 (ix2 s 0) = ((rs (out (A s) (U s) W) : ℝ) : EReal) := by
  pointwise [val_main_v12, ref11 x0 x1 A U W h0 hu h1]
  exact coe_rsqrt _ (ms_pos _)

theorem ref15 (s : Fin 8192) : val_main_v15 (F := Ideal) x0 x1 (ix2 s 0)
    = ((-(1 / 2) * (rs (out (A s) (U s) W) / ms (out (A s) (U s) W)) : ℝ) : EReal) := by
  pointwise [val_main_v15, val_main_v14, val_main_cst_2, val_main_v13, ref11 x0 x1 A U W h0 hu h1, ref12 x0 x1 A U W h0 hu h1, ofBits_neg_half]
  rw [coe_div _ _ (ms_pos _).ne', coe_mul]

theorem ref17 (s : Fin 8192) (j : Fin 1024) : val_main_v17 (F := Ideal) x0 x1 (ix2 s j) = ((vh (out (A s) (U s) W) j : ℝ) : EReal) := by
  pointwise [val_main_v17, val_main_v16, ref4 x0 x1 A U W h0 hu h1, ref12 x0 x1 A U W h0 hu h1]
  rw [coe_mul]; rfl

include h3 in
theorem ref51 (j : Fin 1024) : val_main_v51 (F := Ideal) x0 x1 x3 (ix2 0 j) = ((∑ s, D s j * vh (out (A s) (U s) W) j : ℝ) : EReal) := by
  pointwise [val_main_v51, val_main_v26, val_main_cst_4, val_main_v23, val_main_v22, val_main_cst_3, val_main_v21, ref17 x0 x1 A U W h0 hu h1, h3,
    zero_add, Fin.sum_univ_one]
  simp only [coe_mul, coe_sum]
  exact congrArg _ (Finset.sum_congr rfl fun s _ => mul_comm _ _)

include h2 h3

theorem ref36 (s : Fin 8192) (j : Fin 1024) : val_main_v36 (F := Ideal) x0 x1 x2 x3 (ix2 s j) = ((dms (out (A s) (U s) W) G (D s) : ℝ) : EReal) := by
  pointwise [val_main_v36, val_main_v35, val_main_cst_7, val_main_v34, val_main_v33, val_main_cst_6, val_main_v32, val_main_v29, val_main_v28, val_main_cst_5,
    val_main_v27, val_main_v25, val_main_v24, ref4 x0 x1 A U W h0 hu h1, ref15 x0 x1 A U W h0 hu h1, h2, h3, ofBits_1024, zero_add, Fin.sum_univ_one]
  simp (disch := norm_num) only [coe_mul, coe_sum, coe_div]; rfl

theorem ref40 (s : Fin 8192) (j : Fin 1024) : val_main_v40 (F := Ideal) x0 x1 x2 x3 (ix2 s j) = ((dv (out (A s) (U s) W) G (D s) j : ℝ) : EReal) := by
  pointwise [val_main_v40, val_main_v39, val_main_v38, val_main_v37, val_main_v31, val_main_v30, val_main_v25, val_main_v24,
    ref36 x0 x1 x2 x3 A U W D G h0 hu h1 h2 h3, ref4 x0 x1 A U W h0 hu h1, ref12 x0 x1 A U W h0 hu h1, h2, h3]
  simp only [coe_mul, coe_add]
  rw [dv_eq]

theorem ref41 (s : Fin 8192) (k : Fin 2816) : val_main_v41 (F := Ideal) x0 x1 x2 x3 (ix2 s k) = ((dact W (out (A s) (U s) W) G (D s) k : ℝ) : EReal) := by
  pointwise [val_main_v41, ref40 x0 x1 x2 x3 A U W D G h0 hu h1 h2 h3, h1]
  simp only [coe_mul, coe_sum]; rfl

theorem ref42 (s : Fin 8192) (k : Fin 2816) : val_main_v42 (F := Ideal) x0 x1 x2 x3 (ix2 s k) = ((dup (A s) W (out (A s) (U s) W) G (D s) k : ℝ) : EReal) := by
  pointwise [val_main_v42, ref41 x0 x1 x2 x3 A U W D G h0 hu h1 h2 h3, ref1 x0 A h0]
  rw [coe_mul, mul_comm]; rfl

theorem ref45 (s : Fin 8192) (k : Fin 2816) : val_main_v45 (F := Ideal) x0 x1 x2 x3 (ix2 s k)
    = ((dgate (A s) (U s) W (out (A s) (U s) W) G (D s) k : ℝ) : EReal) := by
  pointwise [val_main_v45, val_main_call1_v2, val_main_call1_v1, val_main_call1_v0, val_main_v43, val_main_v1_1, val_main_call0_v7, val_main_call0_v6,
    val_main_call0_cst_1, ref41 x0 x1 x2 x3 A U W D G h0 hu h1 h2 h3, refSg x0 A h0, h0, hu, coe_one]
  simp only [coe_sub, coe_mul, coe_add]
  congr 1
  rw [dgate, dsilu]; ring

end

/-- The two halves of the gradient at the gate and up projections. -/
theorem ref48a (s : Fin 8192) (k : Fin 2816) (h : (k : ℕ) < 5632) : val_main_v48 (F := Ideal) x0 x1 x2 x3 (ix2 s ⟨k, h⟩)
    = val_main_v45 (F := Ideal) x0 x1 x2 x3 (ix2 s k) := by
  pointwise [val_main_v48, val_main_v47, val_main_v46, val_main_cst_9, val_main_v44, val_main_cst_8, zero_add, add_zero]
  rw [dif_neg (fun h => h.1), zero_add]

theorem ref48b (s : Fin 8192) (k : Fin 2816) (h : 2816 + (k : ℕ) < 5632) : val_main_v48 (F := Ideal) x0 x1 x2 x3 (ix2 s ⟨2816 + k, h⟩)
    = val_main_v42 (F := Ideal) x0 x1 x2 x3 (ix2 s k) := by
  pointwise [val_main_v48, val_main_v47, val_main_v46, val_main_cst_9, val_main_v44, val_main_cst_8, zero_add, add_zero]

end Reference

end Cert.Ffn

end
-- ==== Proof.FfnValue.lean ====
/-
  The arrays that the kernel of the channel mixer's gradient leaves.
-/
module

public import proofs.«01_k».proof.Proof.Ffn
public import proofs.«01_k».proof.Proof.Gen.KernelFfnIdeal.Value
public import proofs.«01_k».proof.Proof.Gen.ReferenceFfnIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift Cert.Rms

namespace Cert.Ffn
open Cert.KernelFfnIdeal Cert.KernelFfnIdeal.Gen
open Cert.ReferenceFfnIdeal.Read

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] ∧ win0_8.index t = ![0, 0] :=
  (by decide +kernel : ∀ t : Fin grid0.N, _)

theorem hrows : 8192 = cfg0.N * 256 := by rw [show cfg0.N = 32 from N_0]

/-- The last grid point. -/
def tLast : Fin grid0.N := ⟨31, by rw [N_0]; decide⟩

variable (m : (ℓ : Loc nD τ sig) → Buf (Elt Ideal) ℓ) (c : Dev nD)
  (A U : Fin 8192 → Fin 2816 → ℝ) (W : Fin 2816 → Fin 1024 → ℝ) (D : Fin 8192 → Fin 1024 → ℝ) (G : Fin 1024 → ℝ)
  (e0 : ∀ s k, val_main_v0 (F := Ideal) (m ((c : Thread nD τ).loc main_arg0)) (ix2 s k) = ((A s k : ℝ) : EReal)) (eu : ∀ s k, val_main_v2 (F := Ideal) (m ((c : Thread nD τ).loc main_arg0)) (ix2 s k) = ((U s k : ℝ) : EReal))
  (e1 : ∀ k j, (m ((c : Thread nD τ).loc main_arg1)) (ix2 k j) = ((W k j : ℝ) : EReal)) (e2 : ∀ j, val_main_v18 (F := Ideal) (m ((c : Thread nD τ).loc main_arg2)) (ix2 0 j) = ((G j : ℝ) : EReal))
  (e3 : ∀ s j, (m ((c : Thread nD τ).loc main_arg3)) (ix2 s j) = ((D s j : ℝ) : EReal))

/-- The rows a grid point works on. -/
abbrev row (t : Fin cfg0.N) (r : Fin 256) : Fin 8192 := rowOf 256 hrows t r

/-- The mixer's output before its norm. -/
abbrev fo (s : Fin 8192) : Fin 1024 → ℝ := out (A s) (U s) W

include e3 in
theorem blk0 (t : Fin cfg0.N) (r : Fin 256) (j : Fin 1024) : (iblk m c 0 t : FVec Ideal S256x1024 .f32) (ix2 r j) = ((D (row t r) j : ℝ) : EReal) := by
  rw [← e3]
  blk_simp [iblk]
  entry_read
  blk_ext [idx t]

include e0 eu e1 in
theorem blk1 (t : Fin cfg0.N) (r : Fin 256) (j : Fin 1024) : (iblk m c 1 t : FVec Ideal S256x1024 .f32) (ix2 r j) = ((fo A U W (row t r) j : ℝ) : EReal) := by
  rw [← ref4 _ _ A U W e0 eu e1]
  blk_simp [iblk]
  entry_read
  show val_main_v4 (F := Ideal) _ _ _ = _
  blk_ext [idx t]

theorem blk2 (t : Fin cfg0.N) (r : Fin 256) (k : Fin 5632) : (iblk m c 2 t : FVec Ideal S256x5632 .bf16) (ix2 r k) = (m ((c : Thread nD τ).loc main_arg0)) (ix2 (row t r) k) := by
  blk_simp [iblk]
  entry_read
  blk_ext [idx t]

include e1 in
theorem blk3 (t : Fin cfg0.N) (k : Fin 2816) (j : Fin 1024) : (iblk m c 3 t : FVec Ideal S2816x1024 .bf16) (ix2 k j) = ((W k j : ℝ) : EReal) := by
  rw [← e1]
  blk_simp [iblk]
  entry_read
  blk_ext [idx t]

include e2 in
theorem blk4 (t : Fin cfg0.N) (j : Fin 1024) : (iblk m c 4 t : FVec Ideal S1x1024 .f32) (ix2 0 j) = ((G j : ℝ) : EReal) := by
  rw [← e2]
  blk_simp [iblk]
  entry_read
  show val_main_v18 (F := Ideal) _ _ = _
  blk_ext [idx t]

include e0 eu

/-- The activation. -/
theorem final7 : (dats m 0 c).arrAt 7 (cfgs 0).N = val_main_v50 (F := Ideal) (m ((c : Thread nD τ).loc main_arg0)) := by
  refine (dats m 0 c).arrAt_eq_of_covers 7 _ (by decide +kernel) fun t _ y => ?_
  blk_simp
  rw [after0_7]
  have key : ∀ r k, (outsAt0 m c t.val t.isLt).2.2.1 (ix2 r k) = ((act (A (row t r)) (U (row t r)) k : ℝ) : EReal) := by
    intro r k
    by_cases e : t.val % 32 = 0
    on_goal 1 => rw [outsAt0_A m c t e]
    on_goal 2 => rw [outsAt0_B m c t e]
    all_goals
      frame_out
      refine pay6 _ _ (fun r => A (row t r)) (fun r => U (row t r)) (fun r k => ?_) (fun r k => ?_) r k
      on_goal 1 => rw [← e0]
      on_goal 2 => rw [← eu]
      all_goals pointwise [val_main_v0, val_main_v2, blk2]
  idx_vars y
  rw [key, ← ref3 _ A U e0 eu]
  show _ = val_main_v3 (F := Ideal) _ _
  blk_ext [idx t]

include e1 e3

/-- The gain's gradient. -/
theorem final8 : (dats m 0 c).arrAt 8 (cfgs 0).N = val_main_v51 (F := Ideal) (m ((c : Thread nD τ).loc main_arg0)) (m ((c : Thread nD τ).loc main_arg1)) (m ((c : Thread nD τ).loc main_arg3)) := by
  refine (dats m 0 c).arrAt_eq_of_after_last 8 tLast (by decide +kernel) _ fun j => ?_
  blk_simp
  rw [after0_8]
  obtain ⟨b, rfl⟩ := row1 j
  have hz : ∀ i, k0_pay9 (F := Ideal) i = 0 := fun i => by pointwise [k0_pay9]
  have hp := fun (t : Fin cfg0.N) => pay13 _ _ (fun r => fo A U W (row t r)) (fun r => D (row t r)) (blk1 m c A U W e0 eu e1 t) (blk0 m c D e3 t)
  rw [ref51 _ _ _ A U W D e0 eu e1 e3 b]
  refine acc_rows 256 32 hrows (fun n h => (outsAt0 m c n h).2.2.2) (fun s j => D s j * vh (fo A U W s) j) (fun t h b => ?_) (fun t h b => ?_) (le_of_eq N_0) tLast rfl b
  · rw [outsAt0_A m c t h]; frame_out
    exact (hp t _ b).trans (by rw [hz])
  · rw [outsAt0_B m c t h]; frame_out
    exact hp t _ b

include e2

/-- The gradient at the mixer's output. -/
theorem final6 : (dats m 0 c).arrAt 6 (cfgs 0).N = val_main_v49 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  have key : (outsAt0 m c t.val t.isLt).2.1 = k0_pay14 (iblk m c 1 t) (iblk m c 4 t) (iblk m c 0 t) := by
    by_cases e : t.val % 32 = 0
    · rw [outsAt0_A m c t e]; frame_out
    · rw [outsAt0_B m c t e]; frame_out
  rw [key]
  idx_vars y
  rw [pay14 _ _ _ (fun r => fo A U W (row t r)) (fun r => D (row t r)) G (blk1 m c A U W e0 eu e1 t) (blk0 m c D e3 t) (blk4 m c G e2 t),
    ← ref40 _ _ _ _ A U W D G e0 eu e1 e2 e3]
  show _ = val_main_v40 (F := Ideal) _ _ _ _ _
  blk_ext [idx t]

/-- The gradient at the gate and up projections. -/
theorem final5 : (dats m 0 c).arrAt 5 (cfgs 0).N = val_main_v48 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases e : t.val % 32 = 0
  on_goal 1 => rw [outsAt0_A m c t e]
  on_goal 2 => rw [outsAt0_B m c t e]
  all_goals
    frame_out
    canon_tiles x h
    all_goals idx_vars x
    · refine (pay8 _ _ _ _ _ (fun r => A (row t r)) W (fun r => fo A U W (row t r)) (fun r => D (row t r)) G (blk1 m c A U W e0 eu e1 t)
        (blk0 m c D e3 t) (blk4 m c G e2 t) (blk3 m c W e1 t) (fun r k => ?_) x0 x1).trans ?_
      · rw [← e0]; pointwise [val_main_v0, blk2]
      · rw [← ref42 _ _ _ _ A U W D G e0 eu e1 e2 e3, ← ref48b _ _ _ _ _ _ (by omega)]
        blk_ext [idx t, h0, h1]
    · refine (pay7 _ _ _ _ _ _ (fun r => A (row t r)) (fun r => U (row t r)) W (fun r => fo A U W (row t r)) (fun r => D (row t r)) G
        (blk1 m c A U W e0 eu e1 t) (blk0 m c D e3 t) (blk4 m c G e2 t) (blk3 m c W e1 t) (fun r k => ?_) (fun r k => ?_) x0 x1).trans ?_
      · rw [← e0]; pointwise [val_main_v0, blk2]
      · rw [← eu]; pointwise [val_main_v2, blk2]
      · rw [← ref45 _ _ _ _ A U W D G e0 eu e1 e2 e3, ← ref48a _ _ _ _ _ _ (by omega)]
        blk_ext [idx t, h0, h1]

end Cert.Ffn

end
-- ==== Proof.FfnClaims.lean ====
/-
  The value claim of the channel mixer's gradient.
-/
module

public import proofs.«01_k».proof.Defs
public import proofs.«01_k».proof.Proof.Gen.Pre_finite_ffn
public import proofs.«01_k».proof.Proof.Gen.ReferenceFfnIdeal.Run
public import proofs.«01_k».proof.Proof.FfnValue

@[expose] public section

set_option maxRecDepth 16384

noncomputable section

open Idealize.ShloMosaic Idealize.ShloMosaic.TcCoe Idealize.SL.Sem
open Cert.Lift

namespace Cert.Ffn
open Cert.ReferenceFfnIdeal.Read

section
variable (m : (ℓ : Loc Cert.KernelFfnIdeal.nD Cert.KernelFfnIdeal.τ Cert.KernelFfnIdeal.sig) → Buf (Elt Ideal) ℓ)
  (hpre : Cert.Pre_KernelFfnIdeal_finite_ffn m) (c : Dev Cert.KernelFfnIdeal.nD)
open Cert.KernelFfnIdeal
include hpre

/-- Finite arguments are real numbers. -/
theorem reals : ∃ (A U : Fin 8192 → Fin 2816 → ℝ) (W : Fin 2816 → Fin 1024 → ℝ) (D : Fin 8192 → Fin 1024 → ℝ) (G : Fin 1024 → ℝ),
    (∀ s k, val_main_v0 (F := Ideal) (m ((c : Thread nD τ).loc main_arg0)) (ix2 s k) = ((A s k : ℝ) : EReal)) ∧ (∀ s k, val_main_v2 (F := Ideal) (m ((c : Thread nD τ).loc main_arg0)) (ix2 s k) = ((U s k : ℝ) : EReal))
    ∧ (∀ k j, (m ((c : Thread nD τ).loc main_arg1)) (ix2 k j) = ((W k j : ℝ) : EReal)) ∧ (∀ j, val_main_v18 (F := Ideal) (m ((c : Thread nD τ).loc main_arg2)) (ix2 0 j) = ((G j : ℝ) : EReal))
    ∧ (∀ s j, (m ((c : Thread nD τ).loc main_arg3)) (ix2 s j) = ((D s j : ℝ) : EReal)) := by
  obtain ⟨f0, f1, f2, f3⟩ := hpre c
  obtain ⟨X0, h0⟩ := exists_real_of_finite _ _ f0
  obtain ⟨X1, h1⟩ := exists_real_of_finite _ _ f1
  obtain ⟨X2, h2⟩ := exists_real_of_finite _ _ f2
  obtain ⟨X3, h3⟩ := exists_real_of_finite _ _ f3
  exact ⟨fun s k => _, fun s k => _, fun k j => _, fun s j => _, fun j => _, fun s k => h0 _, fun s k => h0 _, fun k j => h1 _, fun j => h2 _, fun s j => h3 _⟩

end

theorem algebraic : Cert.algebraic_KernelFfnIdeal_ReferenceFfnIdeal_pre_finite_ffn := by
  pair_intro
  · run_from Cert.KernelFfnIdeal.Value.run_blocks m g
  · run_from Cert.ReferenceFfnIdeal.Value.run m' g'
    all_goals
      obtain ⟨e0, e1, e2, e3⟩ := hagree c
      obtain ⟨A, U, W, D, G, h0, hu, h1, h2, h3⟩ := reals m hpre c
    · refine (val_main_v48_eq m' c).trans (Eq.trans ?_ (final5 m c A U W D G h0 hu h1 h2 h3).symm)
      rw [← e0, ← e1, ← e2, ← e3]
    · refine (val_main_v49_eq m' c).trans (Eq.trans ?_ (final6 m c A U W D G h0 hu h1 h2 h3).symm)
      rw [← e0, ← e1, ← e2, ← e3]
    · refine (val_main_v50_eq _).trans (Eq.trans ?_ (final7 m c A U h0 hu).symm)
      rw [← e0]
    · refine (val_main_v51_eq _ _ _).trans (Eq.trans ?_ (final8 m c A U W D h0 hu h1 h3).symm)
      rw [← e0, ← e1, ← e3]

end Cert.Ffn

end
-- ==== Proof.FfnIn.lean ====
/-
  The value of the gradient at the channel mixer's input: the product with the input projection and the norm before it.
-/
module

public import proofs.«01_k».proof.Proof.Rms
public import proofs.«01_k».proof.Proof.Gen.KernelFfnInIdeal.Value
public import proofs.«01_k».proof.Proof.Gen.ReferenceFfnInIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift Cert.Rms

namespace Cert.FfnIn

/-! ## The kernel's block -/

section Kernel
open Cert.KernelFfnInIdeal Cert.KernelFfnInIdeal.Gen

variable (v3 v34 : Vec Ideal S512x1024 .f32) (v4 : Vec Ideal S1x1024 .f32) (v6 : Vec Ideal S512x5632 .bf16) (v8 : Vec Ideal S1024x5632 .bf16)
  (V D : Fin 512 → Fin 1024 → ℝ) (G : Fin 1024 → ℝ)
  (h3 : ∀ r j, v3 (ix2 r j) = ((V r j : ℝ) : EReal)) (h4 : ∀ j, v4 (ix2 0 j) = ((G j : ℝ) : EReal))
  (hd : ∀ r j, k0_pay3 v6 v8 (ix2 r j) = ((D r j : ℝ) : EReal))

include h3 hd

theorem pay1 (a : Vec Ideal S1x1024 .f32) (j : Fin 1024) : k0_pay1 (k0_pay6 v3 v6 v8) a (ix2 0 j)
    = a (ix2 0 j) + ((∑ r, D r j * vh (V r) j : ℝ) : EReal) := by
  pointwise [k0_pay1, k0_pay6, k0_pay5, k0_pay4, hd]
  simp only [← coe_sum, ← coe_mul, ← coe_vh (fun k => v3 (ix2 _ k)) (V _) _ (h3 _)]

include h4

theorem pay7 (r : Fin 512) (j : Fin 1024) : k0_pay7 v3 v4 v6 v8 v34 (ix2 r j) = v34 (ix2 r j) + ((dv (V r) G (D r) j : ℝ) : EReal) := by
  rw [← coe_dv (fun k => v3 (ix2 r k)) (fun k => k0_pay3 v6 v8 (ix2 r k)) (fun k => v4 (ix2 0 k)) _ _ _ j (h3 r) (hd r) h4]
  pointwise [k0_pay7, k0_pay5, k0_pay4]

end Kernel

/-! ## The reference -/

section Reference
open Cert.ReferenceFfnInIdeal Cert.ReferenceFfnInIdeal.Gen Cert.ReferenceFfnInIdeal.Read

variable (x0 x4 : FVec Ideal S8192x1024 .f32) (x1 : FVec Ideal S1024 .f32) (x2 : FVec Ideal S1024x5632 .f32) (x3 : FVec Ideal S8192x5632 .f32)
  (V D : Fin 8192 → Fin 1024 → ℝ) (G : Fin 1024 → ℝ)
  (h0 : ∀ s j, x0 (ix2 s j) = ((V s j : ℝ) : EReal)) (h1 : ∀ j, val_main_v13 (F := Ideal) x1 (ix2 0 j) = ((G j : ℝ) : EReal))
  (hd : ∀ s j, val_main_v17 (F := Ideal) x2 x3 (ix2 s j) = ((D s j : ℝ) : EReal))

include h0 hd

theorem ref39 (j : Fin 1024) : val_main_v39 (F := Ideal) x0 x2 x3 (ix2 0 j) = ((∑ s, D s j * vh (V s) j : ℝ) : EReal) := by
  simp only [← coe_sum, ← coe_mul, ← coe_vh (fun k => x0 (ix2 _ k)) (V _) _ (h0 _)]
  pointwise [val_main_v39, val_main_v23, val_main_cst_4, val_main_v20, val_main_v19, val_main_cst_3, val_main_v18, val_main_v12, val_main_v11, val_main_v7,
    val_main_v6, val_main_v5, val_main_cst_1, val_main_v4, val_main_v3, val_main_cst_0, val_main_v2, val_main_v1, val_main_cst, val_main_v0, hd,
    zero_add, Fin.sum_univ_one]
  exact Finset.sum_congr rfl fun s _ => mul_comm _ _

include h1

theorem ref38 (s : Fin 8192) (j : Fin 1024) : val_main_v38 (F := Ideal) x0 x1 x2 x3 x4 (ix2 s j) = x4 (ix2 s j) + ((dv (V s) G (D s) j : ℝ) : EReal) := by
  rw [← coe_dv_vjp (fun k => x0 (ix2 s k)) (fun k => val_main_v17 (F := Ideal) x2 x3 (ix2 s k)) (fun k => val_main_v13 (F := Ideal) x1 (ix2 0 k))
    _ _ _ j (h0 s) (hd s) h1]
  pointwise [val_main_v38, val_main_v37, val_main_v36, val_main_v35, val_main_v34, val_main_v33, val_main_cst_7, val_main_v32, val_main_v31, val_main_cst_6,
    val_main_v30, val_main_v29, val_main_v28, val_main_v27, val_main_v26, val_main_v25, val_main_cst_5, val_main_v24, val_main_v22, val_main_v21,
    val_main_v10, val_main_v9, val_main_cst_2, val_main_v8, val_main_v7, val_main_v6, val_main_v5, val_main_cst_1, val_main_v4, val_main_v3, val_main_cst_0,
    val_main_v2, val_main_v1, val_main_cst, val_main_v0, zero_add, Fin.sum_univ_one]

end Reference

/-! ## The arrays after the run -/

section Value
open Cert.KernelFfnInIdeal Cert.KernelFfnInIdeal.Gen
open Cert.ReferenceFfnInIdeal.Read

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem hrows : 8192 = cfg0.N * 512 := by rw [show cfg0.N = 16 from N_0]

variable (m : (ℓ : Loc nD τ sig) → Buf (Elt Ideal) ℓ) (c : Dev nD)
  (V D : Fin 8192 → Fin 1024 → ℝ) (G : Fin 1024 → ℝ)
  (h0 : ∀ s j, m ((c : Thread nD τ).loc main_arg0) (ix2 s j) = ((V s j : ℝ) : EReal))
  (h1 : ∀ j, val_main_v13 (F := Ideal) (m ((c : Thread nD τ).loc main_arg1)) (ix2 0 j) = ((G j : ℝ) : EReal))
  (hd : ∀ s j, val_main_v17 (F := Ideal) (m ((c : Thread nD τ).loc main_arg2)) (m ((c : Thread nD τ).loc main_arg3)) (ix2 s j) = ((D s j : ℝ) : EReal))

/-- The rows a grid point works on. -/
abbrev row (t : Fin cfg0.N) (r : Fin 512) : Fin 8192 := rowOf 512 hrows t r

include hd in
/-- The block's product is the rows of the whole product. -/
theorem blkD (t : Fin cfg0.N) (r : Fin 512) (j : Fin 1024) : k0_pay3 (F := Ideal) (iblk m c 0 t) (iblk m c 1 t) (ix2 r j) = ((D (row t r) j : ℝ) : EReal) := by
  have h0 : ∀ k : Fin 5632, (iblk m c 0 t : FVec Ideal S512x5632 .bf16) (ix2 r k) = m ((c : Thread nD τ).loc main_arg3) (ix2 (row t r) k) := fun k => by
    blk_simp [iblk]
    entry_read
    blk_ext [idx t]
  have h1 : ∀ k : Fin 5632, (iblk m c 1 t : FVec Ideal S1024x5632 .bf16) (ix2 j k) = m ((c : Thread nD τ).loc main_arg2) (ix2 j k) := fun k => by
    blk_simp [iblk]
    entry_read
    blk_ext [idx t]
  rw [← hd]
  pointwise [k0_pay3, val_main_v17, h0, h1, zero_add]

include h0 in
theorem blk2 (t : Fin cfg0.N) (r : Fin 512) (j : Fin 1024) : (iblk m c 2 t : FVec Ideal S512x1024 .f32) (ix2 r j) = ((V (row t r) j : ℝ) : EReal) := by
  rw [← h0]
  blk_simp [iblk]
  entry_read
  blk_ext [idx t]

include h1 in
theorem blk3 (t : Fin cfg0.N) (j : Fin 1024) : (iblk m c 3 t : FVec Ideal S1x1024 .f32) (ix2 0 j) = ((G j : ℝ) : EReal) := by
  rw [← h1]
  blk_simp [iblk]
  entry_read
  show val_main_v13 (F := Ideal) _ _ = _
  blk_ext [idx t]

theorem blk4 (t : Fin cfg0.N) (r : Fin 512) (j : Fin 1024) : (iblk m c 4 t : FVec Ideal S512x1024 .f32) (ix2 r j)
    = m ((c : Thread nD τ).loc main_arg4) (ix2 (row t r) j) := by
  blk_simp [iblk]
  entry_read
  blk_ext [idx t]

include h0 hd

theorem final6 : (dats m 0 c).arrAt 6 (cfgs 0).N
    = val_main_v39 (F := Ideal) (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6]
  obtain ⟨b, rfl⟩ := row1 j
  have hz : ∀ i, k0_pay2 (F := Ideal) i = 0 := fun i => by pointwise [k0_pay2]
  have hp := fun (t : Fin cfg0.N) => pay1 _ _ _ (fun r => V (row t r)) (fun r => D (row t r)) (blk2 m c V h0 t) (blkD m c D hd t)
  rw [ref39 _ _ _ V D h0 hd b]
  refine acc_rows 512 16 hrows (fun n h => (outsAt0 m c n h).2) (fun s j => D s j * vh (V s) j) (fun t h b => ?_) (fun t h b => ?_) (le_of_eq N_0) t0_15 rfl b
  · rw [outsAt0_A m c t h]; frame_out
    exact (hp t _ b).trans (by rw [hz])
  · rw [outsAt0_B m c t h]; frame_out
    exact hp t _ b

include h1

theorem final5 : (dats m 0 c).arrAt 5 (cfgs 0).N
    = val_main_v38 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  have key : (outsAt0 m c t.val t.isLt).1 = k0_pay7 (iblk m c 2 t) (iblk m c 3 t) (iblk m c 0 t) (iblk m c 1 t) (iblk m c 4 t) := by
    by_cases h : t.val % 16 = 0
    · rw [outsAt0_A m c t h]; frame_out
    · rw [outsAt0_B m c t h]; frame_out
  rw [key]
  idx_vars y
  rw [pay7 _ _ _ _ _ (fun r => V (row t r)) (fun r => D (row t r)) G (blk2 m c V h0 t) (blk3 m c G h1 t) (blkD m c D hd t), blk4,
    ← ref38 _ _ _ _ _ V D G h0 h1 hd]
  blk_ext [idx t]

end Value

end Cert.FfnIn

end
-- ==== Proof.FfnInClaims.lean ====
/-
  The value claim of the gradient at the channel mixer's input.
-/
module

public import proofs.«01_k».proof.Defs
public import proofs.«01_k».proof.Proof.Gen.Pre_finite_ffn_in
public import proofs.«01_k».proof.Proof.Gen.ReferenceFfnInIdeal.Run
public import proofs.«01_k».proof.Proof.FfnIn

@[expose] public section

set_option maxRecDepth 16384

noncomputable section

open Idealize.ShloMosaic Idealize.ShloMosaic.TcCoe Idealize.SL.Sem
open Cert.Lift

namespace Cert.FfnIn
open Cert.ReferenceFfnInIdeal.Read

section
variable (m : (ℓ : Loc Cert.KernelFfnInIdeal.nD Cert.KernelFfnInIdeal.τ Cert.KernelFfnInIdeal.sig) → Buf (Elt Ideal) ℓ)
  (hpre : Cert.Pre_KernelFfnInIdeal_finite_ffn_in m) (c : Dev Cert.KernelFfnInIdeal.nD)
open Cert.KernelFfnInIdeal
include hpre

/-- Finite arguments: the norm's input, its gain and the gradient behind it are real numbers. -/
theorem reals : ∃ (V D : Fin 8192 → Fin 1024 → ℝ) (G : Fin 1024 → ℝ),
    (∀ s j, (m ((c : Thread nD τ).loc main_arg0)) (ix2 s j) = ((V s j : ℝ) : EReal)) ∧ (∀ j, val_main_v13 (F := Ideal) (m ((c : Thread nD τ).loc main_arg1)) (ix2 0 j) = ((G j : ℝ) : EReal))
    ∧ (∀ s j, val_main_v17 (F := Ideal) (m ((c : Thread nD τ).loc main_arg2)) (m ((c : Thread nD τ).loc main_arg3)) (ix2 s j) = ((D s j : ℝ) : EReal)) := by
  obtain ⟨f0, f1, f2, f3⟩ := hpre c
  obtain ⟨X0, h0⟩ := exists_real_of_finite _ _ f0
  obtain ⟨X1, h1⟩ := exists_real_of_finite _ _ f1
  obtain ⟨X2, h2⟩ := exists_real_of_finite _ _ f2
  obtain ⟨X3, h3⟩ := exists_real_of_finite _ _ f3
  refine ⟨fun s j => _, fun s j => ∑ k : Fin 5632, X3 (ix2 s k) * X2 (ix2 j k), fun j => _, fun s j => h0 _, fun j => h1 _, fun s j => ?_⟩
  pointwise [val_main_v17, h2, h3]
  simp only [coe_mul, coe_sum]

end

theorem algebraic : Cert.algebraic_KernelFfnInIdeal_ReferenceFfnInIdeal_pre_finite_ffn_in := by
  pair_intro
  · run_from Cert.KernelFfnInIdeal.Value.run_blocks m g
  · run_from Cert.ReferenceFfnInIdeal.Value.run m' g'
    all_goals
      obtain ⟨e0, e1, e2, e3, e4⟩ := hagree c
      obtain ⟨V, D, G, h0, h1, hd⟩ := reals m hpre c
    · refine (val_main_v38_eq m' c).trans (Eq.trans ?_ (final5 m c V D G h0 h1 hd).symm)
      rw [← e0, ← e1, ← e2, ← e3, ← e4]
    · refine (val_main_v39_eq _ _ _).trans (Eq.trans ?_ (final6 m c V D h0 hd).symm)
      rw [← e0, ← e2, ← e3]

end Cert.FfnIn

end
-- ==== Proof.MixIn.lean ====
/-
  The value of the gradient at the token mixer's input: the product with the input projection and the norm before it.
-/
module

public import proofs.«01_k».proof.Proof.Rms
public import proofs.«01_k».proof.Proof.Gen.KernelMixInIdeal.Value
public import proofs.«01_k».proof.Proof.Gen.ReferenceMixInIdeal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Lift Cert.Rms

namespace Cert.MixIn

/-! ## The order of the projection's columns -/

/-- The column of the reference that the kernel's column `k` is. -/
def colNat (k : ℕ) : ℕ :=
  if k < 3072 then k + 3840 else if k < 4096 then k - 3072 else if k < 4608 then k - 768
  else 1024 + 768 * ((k - 4608) / 256 % 3) + 256 * ((k - 4608) / 256 / 3) + (k - 4608) % 256

/-- The way back. -/
def locNat (k : ℕ) : ℕ :=
  if k < 1024 then k + 3072 else if k < 3328 then 4608 + 256 * ((k - 1024) / 768 + 3 * ((k - 1024) % 768 / 256)) + (k - 1024) % 256
  else if k < 3840 then k + 768 else k - 3840

def col (k : Fin 6912) : Fin 6912 := ⟨colNat k, by have := k.isLt; unfold colNat; split_ifs <;> omega⟩
def loc (k : Fin 6912) : Fin 6912 := ⟨locNat k, by have := k.isLt; unfold locNat; split_ifs <;> omega⟩

/-- An `if` equals what both its branches equal. -/
theorem dite_of {α : Type} {p : Prop} [Decidable p] {a : p → α} {b : ¬p → α} {x : α} (ha : ∀ h, a h = x) (hb : ∀ h, b h = x) : dite p a b = x := by
  split_ifs with h
  · exact ha h
  · exact hb h

theorem loc_col (k : Fin 6912) : loc (col k) = k := by
  refine Fin.ext ?_
  have := k.isLt
  show locNat (colNat k) = k
  unfold colNat locNat
  split_ifs <;> omega

theorem col_bijective : Function.Bijective col :=
  Finite.injective_iff_bijective.mp (Function.LeftInverse.injective loc_col)

theorem sum_col (a b : Fin 6912 → EReal) : ∑ k, a (col k) * b (col k) = ∑ k, a k * b k :=
  col_bijective.sum_comp fun k => a k * b k

/-! ## The kernel's block -/

section Kernel
open Cert.KernelMixInIdeal Cert.KernelMixInIdeal.Gen

variable (v3 v34 : Vec Ideal S512x1024 .f32) (v4 : Vec Ideal S1x1024 .f32) (v6 : Vec Ideal S512x6912 .bf16) (v8 : Vec Ideal S1024x6912 .bf16)
  (V D : Fin 512 → Fin 1024 → ℝ) (G : Fin 1024 → ℝ)
  (h3 : ∀ r j, v3 (ix2 r j) = ((V r j : ℝ) : EReal)) (h4 : ∀ j, v4 (ix2 0 j) = ((G j : ℝ) : EReal))
  (hd : ∀ r j, k0_pay3 v6 v8 (ix2 r j) = ((D r j : ℝ) : EReal))

include h3 hd

theorem pay1 (a : Vec Ideal S1x1024 .f32) (j : Fin 1024) : k0_pay1 (k0_pay6 v3 v6 v8) a (ix2 0 j)
    = a (ix2 0 j) + ((∑ r, D r j * vh (V r) j : ℝ) : EReal) := by
  pointwise [k0_pay1, k0_pay6, k0_pay5, k0_pay4, hd]
  simp only [← coe_sum, ← coe_mul, ← coe_vh (fun k => v3 (ix2 _ k)) (V _) _ (h3 _)]

include h4

theorem pay7 (r : Fin 512) (j : Fin 1024) : k0_pay7 v3 v4 v6 v8 v34 (ix2 r j) = v34 (ix2 r j) + ((dv (V r) G (D r) j : ℝ) : EReal) := by
  rw [← coe_dv (fun k => v3 (ix2 r k)) (fun k => k0_pay3 v6 v8 (ix2 r k)) (fun k => v4 (ix2 0 k)) _ _ _ j (h3 r) (hd r) h4]
  pointwise [k0_pay7, k0_pay5, k0_pay4]

end Kernel

/-! ## The reference -/

section Reference
open Cert.ReferenceMixInIdeal Cert.ReferenceMixInIdeal.Gen Cert.ReferenceMixInIdeal.Read

variable (x0 x4 : FVec Ideal S8192x1024 .f32) (x1 : FVec Ideal S1024 .f32) (x2 : FVec Ideal S1024x6912 .f32) (x3 : FVec Ideal S8192x6912 .f32)
  (V D : Fin 8192 → Fin 1024 → ℝ) (G : Fin 1024 → ℝ)
  (h0 : ∀ s j, x0 (ix2 s j) = ((V s j : ℝ) : EReal)) (h1 : ∀ j, val_main_v13 (F := Ideal) x1 (ix2 0 j) = ((G j : ℝ) : EReal))
  (hd : ∀ s j, val_main_v17 (F := Ideal) x2 x3 (ix2 s j) = ((D s j : ℝ) : EReal))

include h0 hd

theorem ref39 (j : Fin 1024) : val_main_v39 (F := Ideal) x0 x2 x3 (ix2 0 j) = ((∑ s, D s j * vh (V s) j : ℝ) : EReal) := by
  simp only [← coe_sum, ← coe_mul, ← coe_vh (fun k => x0 (ix2 _ k)) (V _) _ (h0 _)]
  pointwise [val_main_v39, val_main_v23, val_main_cst_4, val_main_v20, val_main_v19, val_main_cst_3, val_main_v18, val_main_v12, val_main_v11, val_main_v7,
    val_main_v6, val_main_v5, val_main_cst_1, val_main_v4, val_main_v3, val_main_cst_0, val_main_v2, val_main_v1, val_main_cst, val_main_v0, hd,
    zero_add, Fin.sum_univ_one]
  exact Finset.sum_congr rfl fun s _ => mul_comm _ _

include h1

theorem ref38 (s : Fin 8192) (j : Fin 1024) : val_main_v38 (F := Ideal) x0 x1 x2 x3 x4 (ix2 s j) = x4 (ix2 s j) + ((dv (V s) G (D s) j : ℝ) : EReal) := by
  rw [← coe_dv_vjp (fun k => x0 (ix2 s k)) (fun k => val_main_v17 (F := Ideal) x2 x3 (ix2 s k)) (fun k => val_main_v13 (F := Ideal) x1 (ix2 0 k))
    _ _ _ j (h0 s) (hd s) h1]
  pointwise [val_main_v38, val_main_v37, val_main_v36, val_main_v35, val_main_v34, val_main_v33, val_main_cst_7, val_main_v32, val_main_v31, val_main_cst_6,
    val_main_v30, val_main_v29, val_main_v28, val_main_v27, val_main_v26, val_main_v25, val_main_cst_5, val_main_v24, val_main_v22, val_main_v21,
    val_main_v10, val_main_v9, val_main_cst_2, val_main_v8, val_main_v7, val_main_v6, val_main_v5, val_main_cst_1, val_main_v4, val_main_v3, val_main_cst_0,
    val_main_v2, val_main_v1, val_main_cst, val_main_v0, zero_add, Fin.sum_univ_one]

end Reference

/-! ## The arrays after the run -/

section Value
open Cert.KernelMixInIdeal Cert.KernelMixInIdeal.Gen
open Cert.ReferenceMixInIdeal.Read

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem hrows : 8192 = cfg0.N * 512 := by rw [show cfg0.N = 16 from N_0]

variable (m : (ℓ : Loc nD τ sig) → Buf (Elt Ideal) ℓ) (c : Dev nD)
  (V D : Fin 8192 → Fin 1024 → ℝ) (G : Fin 1024 → ℝ)
  (h0 : ∀ s j, m ((c : Thread nD τ).loc main_arg0) (ix2 s j) = ((V s j : ℝ) : EReal))
  (h1 : ∀ j, val_main_v13 (F := Ideal) (m ((c : Thread nD τ).loc main_arg1)) (ix2 0 j) = ((G j : ℝ) : EReal))
  (hd : ∀ s j, val_main_v17 (F := Ideal) (m ((c : Thread nD τ).loc main_arg2)) (m ((c : Thread nD τ).loc main_arg3)) (ix2 s j) = ((D s j : ℝ) : EReal))

/-- The rows a grid point works on. -/
abbrev row (t : Fin cfg0.N) (r : Fin 512) : Fin 8192 := rowOf 512 hrows t r

set_option maxHeartbeats 1000000 in
set_option maxRecDepth 200000 in
theorem blk0 (t : Fin cfg0.N) (r : Fin 512) (k : Fin 6912) : (iblk m c 0 t : FVec Ideal S512x6912 .bf16) (ix2 r k)
    = m ((c : Thread nD τ).loc main_arg3) (ix2 (row t r) (col k)) := by
  blk_simp [iblk]
  refine (congrArg (V m c main_v26) (?_ : _ = ix2 (row t r) k)).trans ?_
  · blk_ext [idx t]
  unfold V
  after_reads_simp
  pointwise
  repeat' refine dite_of (fun _ => ?_) (fun _ => ?_)
  all_goals
    after_reads_simp
    pointwise
    refine congrArg (fun q => m ((c : Thread nD τ).loc main_arg3) (ix2 (row t r) q)) (Fin.ext ?_)
    have hk := k.isLt
    dsimp only [col]
    unfold colNat
    split_ifs <;> omega

set_option maxHeartbeats 1000000 in
set_option maxRecDepth 200000 in
theorem blk1 (t : Fin cfg0.N) (r : Fin 1024) (k : Fin 6912) : (iblk m c 1 t : FVec Ideal S1024x6912 .bf16) (ix2 r k)
    = m ((c : Thread nD τ).loc main_arg2) (ix2 (r) (col k)) := by
  blk_simp [iblk]
  refine (congrArg (V m c main_v27) (?_ : _ = ix2 (r) k)).trans ?_
  · blk_ext [idx t]
  unfold V
  after_reads_simp
  pointwise
  repeat' refine dite_of (fun _ => ?_) (fun _ => ?_)
  all_goals
    after_reads_simp
    pointwise
    refine congrArg (fun q => m ((c : Thread nD τ).loc main_arg2) (ix2 (r) q)) (Fin.ext ?_)
    have hk := k.isLt
    dsimp only [col]
    unfold colNat
    split_ifs <;> omega

include hd in
/-- The block's product is the rows of the whole product: its columns are those of the whole one, in another order. -/
theorem blkD (t : Fin cfg0.N) (r : Fin 512) (j : Fin 1024) : k0_pay3 (F := Ideal) (iblk m c 0 t) (iblk m c 1 t) (ix2 r j) = ((D (row t r) j : ℝ) : EReal) := by
  rw [← hd]
  pointwise [k0_pay3, val_main_v17, blk0, blk1, zero_add]
  exact sum_col (fun k => m ((c : Thread nD τ).loc main_arg3) (ix2 (row t r) k)) (fun k => m ((c : Thread nD τ).loc main_arg2) (ix2 j k))

include h0 in
theorem blk2 (t : Fin cfg0.N) (r : Fin 512) (j : Fin 1024) : (iblk m c 2 t : FVec Ideal S512x1024 .f32) (ix2 r j) = ((V (row t r) j : ℝ) : EReal) := by
  rw [← h0]
  blk_simp [iblk]
  entry_read
  blk_ext [idx t]

include h1 in
theorem blk3 (t : Fin cfg0.N) (j : Fin 1024) : (iblk m c 3 t : FVec Ideal S1x1024 .f32) (ix2 0 j) = ((G j : ℝ) : EReal) := by
  rw [← h1]
  blk_simp [iblk]
  entry_read
  show val_main_v13 (F := Ideal) _ _ = _
  blk_ext [idx t]

theorem blk4 (t : Fin cfg0.N) (r : Fin 512) (j : Fin 1024) : (iblk m c 4 t : FVec Ideal S512x1024 .f32) (ix2 r j)
    = m ((c : Thread nD τ).loc main_arg4) (ix2 (row t r) j) := by
  blk_simp [iblk]
  entry_read
  blk_ext [idx t]

include h0 hd

theorem final6 : (dats m 0 c).arrAt 6 (cfgs 0).N
    = val_main_v39 (F := Ideal) (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6]
  obtain ⟨b, rfl⟩ := row1 j
  have hz : ∀ i, k0_pay2 (F := Ideal) i = 0 := fun i => by pointwise [k0_pay2]
  have hp := fun (t : Fin cfg0.N) => pay1 _ _ _ (fun r => V (row t r)) (fun r => D (row t r)) (blk2 m c V h0 t) (blkD m c D hd t)
  rw [ref39 _ _ _ V D h0 hd b]
  refine acc_rows 512 16 hrows (fun n h => (outsAt0 m c n h).2) (fun s j => D s j * vh (V s) j) (fun t h b => ?_) (fun t h b => ?_) (le_of_eq N_0) t0_15 rfl b
  · rw [outsAt0_A m c t h]; frame_out
    exact (hp t _ b).trans (by rw [hz])
  · rw [outsAt0_B m c t h]; frame_out
    exact hp t _ b

include h1

theorem final5 : (dats m 0 c).arrAt 5 (cfgs 0).N
    = val_main_v38 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  have key : (outsAt0 m c t.val t.isLt).1 = k0_pay7 (iblk m c 2 t) (iblk m c 3 t) (iblk m c 0 t) (iblk m c 1 t) (iblk m c 4 t) := by
    by_cases h : t.val % 16 = 0
    · rw [outsAt0_A m c t h]; frame_out
    · rw [outsAt0_B m c t h]; frame_out
  rw [key]
  idx_vars y
  rw [pay7 _ _ _ _ _ (fun r => V (row t r)) (fun r => D (row t r)) G (blk2 m c V h0 t) (blk3 m c G h1 t) (blkD m c D hd t), blk4,
    ← ref38 _ _ _ _ _ V D G h0 h1 hd]
  blk_ext [idx t]

end Value

end Cert.MixIn

end
-- ==== Proof.MixInClaims.lean ====
/-
  The value claim of the gradient at the token mixer's input.
-/
module

public import proofs.«01_k».proof.Defs
public import proofs.«01_k».proof.Proof.Gen.Pre_finite_mix_in
public import proofs.«01_k».proof.Proof.Gen.ReferenceMixInIdeal.Run
public import proofs.«01_k».proof.Proof.MixIn

@[expose] public section

set_option maxRecDepth 16384

noncomputable section

open Idealize.ShloMosaic Idealize.ShloMosaic.TcCoe Idealize.SL.Sem
open Cert.Lift

namespace Cert.MixIn
open Cert.ReferenceMixInIdeal.Read

section
variable (m : (ℓ : Loc Cert.KernelMixInIdeal.nD Cert.KernelMixInIdeal.τ Cert.KernelMixInIdeal.sig) → Buf (Elt Ideal) ℓ)
  (hpre : Cert.Pre_KernelMixInIdeal_finite_mix_in m) (c : Dev Cert.KernelMixInIdeal.nD)
open Cert.KernelMixInIdeal
include hpre

/-- Finite arguments: the norm's input, its gain and the gradient behind it are real numbers. -/
theorem reals : ∃ (V D : Fin 8192 → Fin 1024 → ℝ) (G : Fin 1024 → ℝ),
    (∀ s j, (m ((c : Thread nD τ).loc main_arg0)) (ix2 s j) = ((V s j : ℝ) : EReal)) ∧ (∀ j, val_main_v13 (F := Ideal) (m ((c : Thread nD τ).loc main_arg1)) (ix2 0 j) = ((G j : ℝ) : EReal))
    ∧ (∀ s j, val_main_v17 (F := Ideal) (m ((c : Thread nD τ).loc main_arg2)) (m ((c : Thread nD τ).loc main_arg3)) (ix2 s j) = ((D s j : ℝ) : EReal)) := by
  obtain ⟨f0, f1, f2, f3⟩ := hpre c
  obtain ⟨X0, h0⟩ := exists_real_of_finite _ _ f0
  obtain ⟨X1, h1⟩ := exists_real_of_finite _ _ f1
  obtain ⟨X2, h2⟩ := exists_real_of_finite _ _ f2
  obtain ⟨X3, h3⟩ := exists_real_of_finite _ _ f3
  refine ⟨fun s j => _, fun s j => ∑ k : Fin 6912, X3 (ix2 s k) * X2 (ix2 j k), fun j => _, fun s j => h0 _, fun j => h1 _, fun s j => ?_⟩
  pointwise [val_main_v17, h2, h3]
  simp only [coe_mul, coe_sum]

end

theorem algebraic : Cert.algebraic_KernelMixInIdeal_ReferenceMixInIdeal_pre_finite_mix_in := by
  pair_intro
  · run_from Cert.KernelMixInIdeal.Value.run_blocks m g
  · run_from Cert.ReferenceMixInIdeal.Value.run m' g'
    all_goals
      obtain ⟨e0, e1, e2, e3, e4⟩ := hagree c
      obtain ⟨V, D, G, h0, h1, hd⟩ := reals m hpre c
    · refine (val_main_v38_eq m' c).trans (Eq.trans ?_ (final5 m c V D G h0 h1 hd).symm)
      rw [← e0, ← e1, ← e2, ← e3, ← e4]
    · refine (val_main_v39_eq _ _ _).trans (Eq.trans ?_ (final6 m c V D h0 hd).symm)
      rw [← e0, ← e2, ← e3]

end Cert.MixIn

end
-- ==== Proof.Soft.lean ====
/-
  The softmax of a row of scores over the real numbers: its weights, their gradient in the kernels' form, and the form
  the derivative of the plain formula has.
-/
module

public import proofs.«01_k».proof.Proof.Real

@[expose] public section

set_option maxRecDepth 16384

noncomputable section

open Idealize.ShloMosaic
open Cert.Lift

namespace Cert.Soft

/-- The programs' `1 / sqrt 128`: the float word's own rational number. -/
def scale : ℝ := 11863283 * (2 ^ 27)⁻¹

theorem ofBits_scale : Ideal.ofBits .f32 0x3DB504F3#32 = ((scale : ℝ) : EReal) := by
  unfold scale; simp [Ideal.ofBits, Ideal.ieee, -EReal.coe_mul]

theorem ofBits_bot : Ideal.ofBits .f32 0xFF800000#32 = (⊥ : EReal) := by
  simp [Ideal.ofBits, Ideal.ieee]

variable {n : ℕ} [NeZero n] (s d : Fin n → ℝ) (j : Fin n)

/-- The greatest score. -/
def top : ℝ := EReal.toReal (Finset.univ.fold max (⊥ : EReal) fun k => ((s k : ℝ) : EReal))

omit [NeZero n] in
theorem fold_bounds (t : Finset (Fin n)) : (t.fold max (⊥ : EReal) fun k => ((s k : ℝ) : EReal)) < ⊤
    ∧ ∀ j ∈ t, ((s j : ℝ) : EReal) ≤ t.fold max (⊥ : EReal) fun k => ((s k : ℝ) : EReal) := by
  classical
  induction t using Finset.induction_on with
  | empty => exact ⟨bot_lt_top, fun j h => absurd h (Finset.notMem_empty j)⟩
  | insert a t ha ih =>
    rw [Finset.fold_insert ha]
    refine ⟨max_lt (EReal.coe_lt_top (s a)) ih.1, fun j h => ?_⟩
    rcases Finset.mem_insert.mp h with rfl | h
    · exact le_max_left _ _
    · exact le_max_of_le_right (ih.2 j h)

theorem coe_top : (Finset.univ.fold max (⊥ : EReal) fun k => ((s k : ℝ) : EReal)) = ((top s : ℝ) : EReal) := by
  refine (EReal.coe_toReal (ne_of_lt ?_) (ne_of_gt ?_)).symm
  · exact (fold_bounds s Finset.univ).1
  · exact lt_of_lt_of_le (EReal.bot_lt_coe (s 0)) ((fold_bounds s Finset.univ).2 0 (Finset.mem_univ _))

def ex : ℝ := Real.exp (s j - top s)
def den : ℝ := ∑ k, ex s k
/-- The softmax. -/
def pr : ℝ := ex s j / den s
/-- The gradient at the scores, for the cotangent `d` of the softmax. -/
def ds : ℝ := pr s j * (d j - ∑ k, d k * pr s k)

theorem den_pos : 0 < den s :=
  Finset.sum_pos (fun _ _ => Real.exp_pos _) ⟨0, Finset.mem_univ _⟩

/-- The derivative of the plain formula is the kernels' form. -/
theorem ds_eq : (d j / den s + -∑ k, d k * (1 / (den s * den s)) * ex s k) * ex s j = ds s d j := by
  have h := (den_pos s).ne'
  have e : ∑ k, d k * (1 / (den s * den s)) * ex s k = (∑ k, d k * pr s k) / den s := by
    rw [Finset.sum_div]
    exact Finset.sum_congr rfl fun k _ => by rw [pr]; field_simp
  rw [e, ds, pr]
  field_simp
  ring

/-! ## The same as the programs write it, at arrays of real numbers -/

section Ext
variable (x y : Fin n → EReal)

abbrev eTop : EReal := Finset.univ.fold max (⊥ : EReal) x
abbrev eEx : EReal := Ideal.exp (x j - eTop x)
abbrev eDen : EReal := ∑ k, eEx k x

variable (hx : ∀ k, x k = ((s k : ℝ) : EReal))
include hx

theorem coe_eTop : eTop x = ((top s : ℝ) : EReal) := by
  rw [eTop, funext hx]; exact coe_top s

theorem coe_ex : eEx j x = ((ex s j : ℝ) : EReal) := by
  rw [eEx, coe_eTop s x hx, hx, coe_sub, coe_exp]; rfl

theorem coe_den : eDen x = ((den s : ℝ) : EReal) := by
  simp only [eDen, coe_ex s _ x hx, coe_sum]; rfl

theorem coe_pr : Ideal.div (eEx j x) (eDen x) = ((pr s j : ℝ) : EReal) := by
  rw [coe_ex s j x hx, coe_den s x hx, coe_div _ _ (den_pos s).ne']; rfl

variable (hy : ∀ k, y k = ((d k : ℝ) : EReal))
include hy

/-- The form of the derivative of the plain formula. -/
theorem coe_ds_vjp : (Ideal.div (y j) (eDen x) + -∑ k, y k * Ideal.div 1 (eDen x * eDen x) * eEx k x) * eEx j x
    = ((ds s d j : ℝ) : EReal) := by
  have h := (den_pos s).ne'
  simp only [coe_ex s _ x hx, coe_den s x hx, hy, coe_mul, coe_one]
  rw [coe_div _ _ h, coe_div _ _ (mul_ne_zero h h)]
  simp only [coe_mul, coe_sum]
  rw [coe_neg, coe_add, coe_mul, ds_eq]

end Ext

end Cert.Soft

end
-- ==== Proof.MemAtt.lean ====
/-
  The gradient of the cross-attention into the memory tokens: one head of the kernel's block.
-/
module

public import proofs.«01_k».proof.Proof.Soft
public import proofs.«01_k».proof.Proof.Gen.KernelMemAttIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift Cert.Soft

namespace Cert.MemAtt

/-! ## One row of one head -/

section Row
variable (q d : Fin 128 → ℝ) (K W : Fin 256 → Fin 128 → ℝ) (j : Fin 256)

/-- The scores of the query `q`. -/
def sc : ℝ := (∑ e, q e * K j e) * scale
/-- The gradient at the softmax, for the cotangent `d` of the output. -/
def dp : ℝ := ∑ e, d e * W j e
/-- The gradient at the scores. -/
def gs : ℝ := ds (sc q K) (dp d W) j

end Row

/-! ## One head of the kernel's block -/

section Kernel
open Cert.KernelMemAttIdeal Cert.KernelMemAttIdeal.Gen

variable (k v : Vec Ideal S256x128 .bf16) (q d : Vec Ideal S512x128 .bf16) (a : Vec Ideal S256x128 .f32)
  (K W : Fin 256 → Fin 128 → ℝ) (Q D : Fin 512 → Fin 128 → ℝ)
  (hk : ∀ j e, k (ix2 j e) = ((K j e : ℝ) : EReal)) (hv : ∀ j e, v (ix2 j e) = ((W j e : ℝ) : EReal))
  (hq : ∀ r e, q (ix2 r e) = ((Q r e : ℝ) : EReal)) (hd : ∀ r e, d (ix2 r e) = ((D r e : ℝ) : EReal))

section
include hk hq

theorem payP (r : Fin 512) (j : Fin 256) : k0_pay7 k q (ix2 r j) = ((pr (sc (Q r) K) j : ℝ) : EReal) := by
  pointwise [k0_pay7, k0_pay5, k0_pay4, ofBits_bot]
  exact coe_pr (sc (Q r) K) j (fun j => (∑ e, q (ix2 r e) * k (ix2 j e)) * Ideal.ofBits .f32 0x3DB504F3#32) fun j => by
    simp only [hq, hk, ofBits_scale, coe_mul, coe_sum]; rfl

include hd

theorem payV (j : Fin 256) (e : Fin 128) : k0_pay8 k q d a (ix2 j e)
    = a (ix2 j e) + ∑ r, ((pr (sc (Q r) K) j * D r e : ℝ) : EReal) := by
  pointwise [k0_pay8, k0_pay6, payP k q K Q hk hq, hd]
  simp only [coe_mul]

include hv

theorem payS (r : Fin 512) (j : Fin 256) : k0_pay9 k v q d (ix2 r j) = ((gs (Q r) (D r) K W j : ℝ) : EReal) := by
  pointwise [k0_pay9, k0_pay6, payP k q K Q hk hq, hd, hv]
  simp only [coe_mul, coe_sum, coe_sub]; rfl

theorem payQ (r : Fin 512) (e : Fin 128) : k0_pay11 (k0_pay4 k) (k0_pay9 k v q d) (ix2 r e)
    = ((∑ j, gs (Q r) (D r) K W j * scale * K j e : ℝ) : EReal) := by
  pointwise [k0_pay11, k0_pay10, k0_pay4, payS k v q d K W Q D hk hv hq hd, hk, ofBits_scale]
  simp only [coe_mul, coe_sum, Finset.sum_mul, mul_right_comm _ scale]

theorem payK (j : Fin 256) (e : Fin 128) : k0_pay12 (k0_pay5 q) (k0_pay9 k v q d) a (ix2 j e)
    = a (ix2 j e) + ∑ r, ((gs (Q r) (D r) K W j * scale * Q r e : ℝ) : EReal) := by
  pointwise [k0_pay12, k0_pay10, k0_pay5, payS k v q d K W Q D hk hv hq hd, hq, ofBits_scale]
  simp only [coe_mul, coe_sum, Finset.sum_mul, mul_right_comm _ scale]

end

/-! The other heads' values are the same functions of their own slices. -/

theorem head1V : k0_pay18 (k0_pay16 d) (k0_pay17 k q) a = k0_pay8 k q d a := rfl
theorem head1Q : k0_pay20 (k0_pay13 k) (k0_pay14 v) (k0_pay16 d) (k0_pay17 k q) = k0_pay11 (k0_pay4 k) (k0_pay9 k v q d) := rfl
theorem head1K : k0_pay21 (k0_pay14 v) (k0_pay15 q) (k0_pay16 d) (k0_pay17 k q) a = k0_pay12 (k0_pay5 q) (k0_pay9 k v q d) a := rfl
theorem head2V : k0_pay27 (k0_pay22 k) (k0_pay24 q) (k0_pay25 d) (constant S512x256 .f32 0x00000000#32) a = k0_pay8 k q d a := rfl
theorem head2Q : k0_pay29 (k0_pay22 k) (k0_pay23 v) (k0_pay24 q) (k0_pay25 d) (constant S512x256 .f32 0x00000000#32)
    = k0_pay11 (k0_pay4 k) (k0_pay9 k v q d) := rfl
theorem head2K : k0_pay30 (k0_pay22 k) (k0_pay23 v) (k0_pay24 q) (k0_pay25 d) (constant S512x256 .f32 0x00000000#32) a
    = k0_pay12 (k0_pay5 q) (k0_pay9 k v q d) a := rfl
theorem head3V : k0_pay35 k q d a = k0_pay8 k q d a := rfl
theorem head3Q : k0_pay1 (k0_pay37 k v q d) = k0_pay11 (k0_pay4 k) (k0_pay9 k v q d) := rfl
theorem head3K : k0_pay2 (k0_pay32 q) (k0_pay36 k v q d) a = k0_pay12 (k0_pay5 q) (k0_pay9 k v q d) a := rfl

end Kernel

end Cert.MemAtt

end
-- ==== Proof.MemAttRef.lean ====
/-
  The gradient of the cross-attention into the memory tokens: the reference.
-/
module

public import proofs.«01_k».proof.Proof.MemAtt
public import proofs.«01_k».proof.Proof.Gen.ReferenceMemAttIdeal.Read

@[expose] public section

set_option maxRecDepth 16384

noncomputable section

open Idealize.ShloMosaic Idealize.ShloMosaic.TcCoe Idealize.SL.Sem
open Cert.Lift Cert.Soft
open Cert.ReferenceMemAttIdeal Cert.ReferenceMemAttIdeal.Gen Cert.ReferenceMemAttIdeal.Read

namespace Cert.MemAtt

/-- Column `e` of head `h` among all heads' columns. -/
abbrev hc (h : Fin 4) (e : Fin 128) : Fin 512 := ⟨h.val * 128 + e.val, by omega⟩
/-- The same column among the projection's, among the keys' and among the values'. -/
abbrev qc (h : Fin 4) (e : Fin 128) : Fin 6912 := ⟨3328 + (h.val * 128 + e.val), by omega⟩
abbrev kc (h : Fin 4) (e : Fin 128) : Fin 1024 := ⟨h.val * 128 + e.val, by omega⟩
abbrev vc (h : Fin 4) (e : Fin 128) : Fin 1024 := ⟨512 + (h.val * 128 + e.val), by omega⟩

section Reference
variable (x0 : FVec Ideal S8192x6912 .f32) (x1 : FVec Ideal S256x1024 .f32) (x2 : FVec Ideal S8192x512 .f32)
  (Z : Fin 8192 → Fin 6912 → ℝ) (A : Fin 256 → Fin 1024 → ℝ) (D : Fin 8192 → Fin 512 → ℝ)
  (e0 : ∀ s j, x0 (ix2 s j) = ((Z s j : ℝ) : EReal)) (e1 : ∀ j l, x1 (ix2 j l) = ((A j l : ℝ) : EReal))
  (e2 : ∀ s j, x2 (ix2 s j) = ((D s j : ℝ) : EReal))

include e0 in
theorem ref1 (s : Fin 8192) (h : Fin 4) (e : Fin 128) : val_main_v1 (F := Ideal) x0 (ix3 s h e) = ((Z s (qc h e) : ℝ) : EReal) := by
  rw [← e0]
  pointwise [val_main_v1, val_main_v0]
  blk_ext

include e1 in
theorem ref4 (j : Fin 256) (h : Fin 4) (e : Fin 128) : val_main_v4 (F := Ideal) x1 (ix3 j h e) = ((A j (kc h e) : ℝ) : EReal) := by
  rw [← e1]
  pointwise [val_main_v4, val_main_v3, val_main_v2]
  blk_ext

include e1 in
theorem ref6 (j : Fin 256) (h : Fin 4) (e : Fin 128) : val_main_v6 (F := Ideal) x1 (ix3 j h e) = ((A j (vc h e) : ℝ) : EReal) := by
  rw [← e1]
  pointwise [val_main_v6, val_main_v5, val_main_v2]
  blk_ext

include e2 in
theorem ref42 (s : Fin 8192) (h : Fin 4) (e : Fin 128) : val_main_v42 (F := Ideal) x2 (ix3 h e s) = ((D s (hc h e) : ℝ) : EReal) := by
  rw [← e2]
  pointwise [val_main_v42, val_main_v41]
  blk_ext

/-- The scores of query `s` in head `h`. -/
abbrev scr (h : Fin 4) (s : Fin 8192) : Fin 256 → ℝ := sc (fun e => Z s (qc h e)) fun j e => A j (kc h e)
/-- The gradient at the scores. -/
abbrev gsr (h : Fin 4) (s : Fin 8192) : Fin 256 → ℝ :=
  gs (fun e => Z s (qc h e)) (fun e => D s (hc h e)) (fun j e => A j (kc h e)) fun j e => A j (vc h e)

include e0 e1

theorem ref9 (h : Fin 4) (s : Fin 8192) (j : Fin 256) : val_main_v9 (F := Ideal) x0 x1 (ix3 h s j) = ((scr Z A h s j : ℝ) : EReal) := by
  pointwise [val_main_v9, val_main_v8, val_main_cst, val_main_v7, ref1 x0 Z e0, ref4 x1 A e1, ofBits_scale]
  simp only [coe_mul, coe_sum]; rfl

omit e0 e1 in
theorem ref10 (h : Fin 4) (s : Fin 8192) : val_main_v10 (F := Ideal) x0 x1 (ix2 h s) = eTop fun j => val_main_v9 (F := Ideal) x0 x1 (ix3 h s j) := by
  generalize hv : val_main_v9 (F := Ideal) x0 x1 = v
  pointwise [val_main_v10, hv, val_main_cst_0, ofBits_bot]

omit e0 e1 in
theorem ref16 (i : S4x8192.Idx) : val_main_v16 (F := Ideal) i = (⊥ : EReal) :=
  (val_main_v16_apply i).trans ofBits_bot

omit e0 e1 in
theorem ref17 (i : S4x8192.Idx) : val_main_v17 (F := Ideal) x0 x1 i = val_main_v10 (F := Ideal) x0 x1 i := by
  rw [val_main_v17_apply, ref16]
  generalize val_main_v10 (F := Ideal) x0 x1 = w
  exact max_eq_right (α := EReal) (bot_le (α := EReal))

omit e0 e1 in
theorem ref28 (h : Fin 4) (s : Fin 8192) (j : Fin 256) : val_main_v28 (F := Ideal) x0 x1 (ix3 h s j) = val_main_v17 (F := Ideal) x0 x1 (ix2 h s) := by
  pointwise [val_main_v28, val_main_v27]

omit e0 e1 in
theorem ref30 (h : Fin 4) (s : Fin 8192) (j : Fin 256) : val_main_v30 (F := Ideal) x0 x1 (ix3 h s j)
    = eEx j fun j => val_main_v9 (F := Ideal) x0 x1 (ix3 h s j) := by
  pointwise [val_main_v30, val_main_v29, ref28, ref17, ref10]

theorem ref34 (h : Fin 4) (s : Fin 8192) (j : Fin 256) : val_main_v34 (F := Ideal) x0 x1 (ix3 h s j) = ((pr (scr Z A h s) j : ℝ) : EReal) := by
  rw [← coe_pr (scr Z A h s) j _ (ref9 x0 x1 Z A e0 e1 h s)]
  pointwise [val_main_v34, val_main_v33, val_main_v32, val_main_v31, val_main_cst_8, ref30, zero_add]

include e2

theorem ref43 (h : Fin 4) (s : Fin 8192) (j : Fin 256) : val_main_v43 (F := Ideal) x1 x2 (ix3 h s j)
    = ((dp (fun e => D s (hc h e)) (fun j e => A j (vc h e)) j : ℝ) : EReal) := by
  pointwise [val_main_v43, ref42 x2 D e2, ref6 x1 A e1]
  simp only [coe_mul, coe_sum]; rfl

theorem ref59 (h : Fin 4) (s : Fin 8192) (j : Fin 256) : val_main_v59 (F := Ideal) x0 x1 x2 (ix3 h s j) = ((gsr Z A D h s j * scale : ℝ) : EReal) := by
  rw [← coe_mul, gsr, gs, ← coe_ds_vjp (scr Z A h s) _ j _ _ (ref9 x0 x1 Z A e0 e1 h s) (ref43 x0 x1 x2 Z A D e0 e1 e2 h s), ← ofBits_scale]
  pointwise [val_main_v59, val_main_v58, val_main_cst_12, val_main_v57, val_main_v56, val_main_v55, val_main_v54, val_main_cst_11, val_main_v53,
    val_main_v52, val_main_v51, val_main_v50, val_main_v49, val_main_cst_10, val_main_v48, val_main_v47, val_main_v46, val_main_v37, val_main_v36,
    val_main_cst_9, val_main_v35, val_main_v32, val_main_v31, val_main_cst_8, ref30, zero_add, Fin.sum_univ_one]

/-- The gradient of the queries. -/
theorem refQ (h : Fin 4) (s : Fin 8192) (e : Fin 128) : val_main_v70 (F := Ideal) x0 x1 x2 (ix2 s (hc h e))
    = ((∑ j, gsr Z A D h s j * scale * A j (kc h e) : ℝ) : EReal) := by
  rw [show val_main_v70 (F := Ideal) x0 x1 x2 (ix2 s (hc h e)) = val_main_v63 (F := Ideal) x0 x1 x2 (ix3 s h e) by pointwise [val_main_v70]; blk_ext]
  pointwise [val_main_v63, val_main_v62, ref59 x0 x1 x2 Z A D e0 e1 e2, ref4 x1 A e1]
  simp only [coe_mul, coe_sum]

/-- The gradient of the keys. -/
theorem refK (h : Fin 4) (j : Fin 256) (e : Fin 128) : val_main_v69 (F := Ideal) x0 x1 x2 (ix2 j (kc h e))
    = ∑ s, ((gsr Z A D h s j * scale * Z s (qc h e) : ℝ) : EReal) := by
  rw [show val_main_v69 (F := Ideal) x0 x1 x2 (ix2 j (kc h e)) = val_main_v68 (F := Ideal) x0 x1 x2 (ix4 j 0 h e) by pointwise [val_main_v69]; blk_ext]
  pointwise [val_main_v68, val_main_v67, val_main_v66, val_main_cst_14, val_main_v65, val_main_cst_13, val_main_v61, val_main_v60,
    ref59 x0 x1 x2 Z A D e0 e1 e2, ref1 x0 Z e0, zero_add]
  simp only [coe_mul]

/-- The gradient of the values. -/
theorem refV (h : Fin 4) (j : Fin 256) (e : Fin 128) : val_main_v69 (F := Ideal) x0 x1 x2 (ix2 j (vc h e))
    = ∑ s, ((pr (scr Z A h s) j * D s (hc h e) : ℝ) : EReal) := by
  rw [show val_main_v69 (F := Ideal) x0 x1 x2 (ix2 j (vc h e)) = val_main_v68 (F := Ideal) x0 x1 x2 (ix4 j 1 h e) by pointwise [val_main_v69]; blk_ext]
  pointwise [val_main_v68, val_main_v67, val_main_v64, val_main_cst_14, val_main_v65, val_main_cst_13, val_main_v45, val_main_v44,
    ref34 x0 x1 Z A e0 e1, ref42 x2 D e2, add_zero]
  simp only [coe_mul, mul_comm]

end Reference

end Cert.MemAtt

end
-- ==== Proof.MemAttValue.lean ====
/-
  The arrays after the run of the gradient of the cross-attention into the memory tokens.
-/
module

public import Idealize.ShloMosaic.Lib.Pipeline.ReadBack
public import proofs.«01_k».proof.Proof.MemAttRef
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Lift Cert.Soft
open Cert.KernelMemAttIdeal Cert.KernelMemAttIdeal.Gen
open Cert.ReferenceMemAttIdeal.Read

namespace Cert.MemAtt

theorem idx : ∀ t : Fin cfg0.N, win0_0.index t = ![t.val, 8] ∧ win0_1.index t = ![0, 0] ∧ win0_2.index t = ![t.val, 0] ∧ win0_3.index t = ![t.val, 8]
    ∧ win0_4.index t = ![0, 0] :=
  (by decide +kernel : ∀ t : Fin grid0.N, _)

theorem hrows : 8192 = cfg0.N * 512 := by rw [show cfg0.N = 16 from N_0]

/-- An `if` equals what both its branches equal. -/
theorem dite_of {α : Type} {p : Prop} [Decidable p] {a : p → α} {b : ¬p → α} {x : α} (ha : ∀ h, a h = x) (hb : ∀ h, b h = x) : dite p a b = x := by
  split_ifs with h
  · exact ha h
  · exact hb h

variable (m : (ℓ : Loc nD τ sig) → Buf (Elt Ideal) ℓ) (c : Dev nD)
  (Z : Fin 8192 → Fin 6912 → ℝ) (A : Fin 256 → Fin 1024 → ℝ) (D : Fin 8192 → Fin 512 → ℝ)
  (e0 : ∀ s j, m ((c : Thread nD τ).loc main_arg0) (ix2 s j) = ((Z s j : ℝ) : EReal))
  (e1 : ∀ j l, m ((c : Thread nD τ).loc main_arg1) (ix2 j l) = ((A j l : ℝ) : EReal))
  (e2 : ∀ s j, m ((c : Thread nD τ).loc main_arg2) (ix2 s j) = ((D s j : ℝ) : EReal))

/-- The rows a grid point works on. -/
abbrev row (t : Fin cfg0.N) (r : Fin 512) : Fin 8192 := rowOf 512 hrows t r

include e0 in
set_option maxHeartbeats 1000000 in
set_option maxRecDepth 200000 in
theorem blk0 (t : Fin cfg0.N) (r : Fin 512) (k : Fin 512) : (X0_0 m c t : FVec Ideal S512x512 .bf16) (ix2 r k)
    = ((Z (row t r) ⟨3328 + k.val, by omega⟩ : ℝ) : EReal) := by
  rw [← e0]
  unfold X0_0 Pipeline.Window.fill
  rw [dif_pos (moved0_0 t _)]
  blk_simp [iblk]
  refine (congrArg (V m c main_v13) (?_ : _ = ix2 (row t r) ⟨4096 + k.val, by omega⟩)).trans ?_
  · blk_ext [idx t]
  unfold V
  after_reads_simp
  pointwise
  repeat' refine dite_of (fun _ => ?_) (fun _ => ?_)
  all_goals
    after_reads_simp
    pointwise
    refine congrArg (fun q => m ((c : Thread nD τ).loc main_arg0) (ix2 (row t r) q)) (Fin.ext ?_)
    have hk := k.isLt
    simp only [] at *
    omega

include e1 in
theorem blk1 (t : Fin cfg0.N) (j : Fin 256) (l : Fin 1024) : (iblk m c 1 t : FVec Ideal S256x1024 .bf16) (ix2 j l) = ((A j l : ℝ) : EReal) := by
  rw [← e1]
  blk_simp [iblk]
  entry_read
  blk_ext [idx t]

include e2 in
theorem blk2 (t : Fin cfg0.N) (r : Fin 512) (k : Fin 512) : (iblk m c 2 t : FVec Ideal S512x512 .bf16) (ix2 r k) = ((D (row t r) k : ℝ) : EReal) := by
  rw [← e2]
  blk_simp [iblk]
  entry_read
  blk_ext [idx t]

/-! ## One head's tiles at a grid point -/

/-- What row `s` adds to an entry of the keys' and values' gradient. -/
def contrib (s : Fin 8192) (i : S256x1024.Idx) : EReal :=
  if (i 1).val < 512 then
    ((gsr Z A D ⟨(i 1).val / 128 % 4, by omega⟩ s (i 0) * scale * Z s (qc ⟨(i 1).val / 128 % 4, by omega⟩ ⟨(i 1).val % 128, by omega⟩) : ℝ) : EReal)
  else
    ((pr (scr Z A ⟨(i 1).val / 128 % 4, by omega⟩ s) (i 0) * D s (hc ⟨(i 1).val / 128 % 4, by omega⟩ ⟨(i 1).val % 128, by omega⟩) : ℝ) : EReal)

theorem contribK (s : Fin 8192) (h : Fin 4) (j : Fin 256) (e : Fin 128) :
    contrib Z A D s (ix2 j (kc h e)) = ((gsr Z A D h s j * scale * Z s (qc h e) : ℝ) : EReal) := by
  have e1 : (⟨(kc h e).val / 128 % 4, by omega⟩ : Fin 4) = h := Fin.ext (by show (h.val * 128 + e.val) / 128 % 4 = h.val; omega)
  have e2 : (⟨(kc h e).val % 128, by omega⟩ : Fin 128) = e := Fin.ext (by show (h.val * 128 + e.val) % 128 = e.val; omega)
  have e3 : (kc h e).val < 512 := by show h.val * 128 + e.val < 512; omega
  refine (if_pos e3).trans ?_
  show ((gsr Z A D ⟨(kc h e).val / 128 % 4, _⟩ s j * scale * Z s (qc ⟨(kc h e).val / 128 % 4, _⟩ ⟨(kc h e).val % 128, _⟩) : ℝ) : EReal) = _
  rw [e1, e2]

theorem contribV (s : Fin 8192) (h : Fin 4) (j : Fin 256) (e : Fin 128) :
    contrib Z A D s (ix2 j (vc h e)) = ((pr (scr Z A h s) j * D s (hc h e) : ℝ) : EReal) := by
  have e1 : (⟨(vc h e).val / 128 % 4, by omega⟩ : Fin 4) = h := Fin.ext (by show (512 + (h.val * 128 + e.val)) / 128 % 4 = h.val; omega)
  have e2 : (⟨(vc h e).val % 128, by omega⟩ : Fin 128) = e := Fin.ext (by show (512 + (h.val * 128 + e.val)) % 128 = e.val; omega)
  have e3 : ¬(vc h e).val < 512 := by show ¬512 + (h.val * 128 + e.val) < 512; omega
  refine (if_neg e3).trans ?_
  show ((pr (scr Z A ⟨(vc h e).val / 128 % 4, _⟩ s) j * D s (hc ⟨(vc h e).val / 128 % 4, _⟩ ⟨(vc h e).val % 128, _⟩) : ℝ) : EReal) = _
  rw [e1, e2]

/-- The first head's columns are the first ones. -/
theorem hc_zero (e : Fin 128) : (⟨e.val, by omega⟩ : Fin 512) = hc 0 e := Fin.ext (by show e.val = 0 * 128 + e.val; omega)

/-- Each column is one head's, among the keys' or among the values'. -/
theorem columns (i : S256x1024.Idx) : ∃ (h : Fin 4) (j : Fin 256) (e : Fin 128), i = ix2 j (kc h e) ∨ i = ix2 j (vc h e) := by
  idx_vars i
  have hi := i1.isLt
  refine ⟨⟨i1.val / 128 % 4, by omega⟩, i0, ⟨i1.val % 128, by omega⟩, ?_⟩
  by_cases h : i1.val < 512
  · left; blk_ext
  · right; blk_ext

section Tile
variable (h : Fin 4) (t : Fin cfg0.N) (k v : Vec Ideal S256x128 .bf16) (q d : Vec Ideal S512x128 .bf16) (a : Vec Ideal S256x128 .f32)
  (hk : ∀ j e, k (ix2 j e) = ((A j (kc h e) : ℝ) : EReal)) (hv : ∀ j e, v (ix2 j e) = ((A j (vc h e) : ℝ) : EReal))
  (hq : ∀ r e, q (ix2 r e) = ((Z (row t r) (qc h e) : ℝ) : EReal)) (hd : ∀ r e, d (ix2 r e) = ((D (row t r) (hc h e) : ℝ) : EReal))
  (b : EReal) (i : S256x1024.Idx) (j : Fin 256) (e : Fin 128) (ha : a (ix2 j e) = b)

include hk hq hd

theorem tileV (ha : a (ix2 j e) = b) (hi : i = ix2 j (vc h e)) : k0_pay8 k q d a (ix2 j e) = b + ∑ r, contrib Z A D (row t r) i := by
  subst hi
  rw [payV k q d a (fun j e => A j (kc h e)) (fun r e => Z (row t r) (qc h e)) (fun r e => D (row t r) (hc h e)) hk hq hd, ha]
  simp only [contribV]

include hv

theorem tileK (ha : a (ix2 j e) = b) (hi : i = ix2 j (kc h e)) : k0_pay12 (k0_pay5 q) (k0_pay9 k v q d) a (ix2 j e) = b + ∑ r, contrib Z A D (row t r) i := by
  subst hi
  rw [payK k v q d a (fun j e => A j (kc h e)) (fun j e => A j (vc h e)) (fun r e => Z (row t r) (qc h e)) (fun r e => D (row t r) (hc h e)) hk hv hq hd, ha]
  simp only [contribK]

end Tile

/-- The projection's gradient at the queries' columns. -/
theorem out3 (x0 : FVec Ideal S8192x6912 .f32) (x1 : FVec Ideal S256x1024 .f32) (x2 : FVec Ideal S8192x512 .f32) (x3 : FVec Ideal S8192x6912 .f32)
    (h : Fin 4) (s : Fin 8192) (e : Fin 128) : val_main_v74 (F := Ideal) x0 x1 x2 x3 (ix2 s ⟨4096 + (h.val * 128 + e.val), by omega⟩)
    = val_main_v70 (F := Ideal) x0 x1 x2 (ix2 s (hc h e)) := by
  pointwise [val_main_v74, val_main_v73]
  exact dif_pos (by omega)

include e0 e1 e2 in
theorem tileQ (h : Fin 4) (t : Fin cfg0.N) (k v : Vec Ideal S256x128 .bf16) (q d : Vec Ideal S512x128 .bf16) (x3 : FVec Ideal S8192x6912 .f32)
    (hk : ∀ j e, k (ix2 j e) = ((A j (kc h e) : ℝ) : EReal)) (hv : ∀ j e, v (ix2 j e) = ((A j (vc h e) : ℝ) : EReal))
    (hq : ∀ r e, q (ix2 r e) = ((Z (row t r) (qc h e) : ℝ) : EReal)) (hd : ∀ r e, d (ix2 r e) = ((D (row t r) (hc h e) : ℝ) : EReal))
    (i : S8192x6912.Idx) (r : Fin 512) (e : Fin 128) (hi : i = ix2 (row t r) ⟨4096 + (h.val * 128 + e.val), by omega⟩) :
    k0_pay11 (k0_pay4 k) (k0_pay9 k v q d) (ix2 r e)
      = val_main_v74 (F := Ideal) (m ((c : Thread nD τ).loc main_arg0)) (m ((c : Thread nD τ).loc main_arg1)) (m ((c : Thread nD τ).loc main_arg2)) x3 i := by
  subst hi
  rw [out3, refQ _ _ _ Z A D e0 e1 e2]
  exact payQ k v q d (fun j e => A j (kc h e)) (fun j e => A j (vc h e)) (fun r e => Z (row t r) (qc h e)) (fun r e => D (row t r) (hc h e)) hk hv hq hd r e

include e0 e1 e2

set_option maxHeartbeats 2000000 in
theorem final3 : (dats m 0 c).arrAt 3 (cfgs 0).N
    = val_main_v74 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_coversWhere_of_agree 3 _ (fun β => β (1 : Fin 2) = 8) (by decide +kernel) (fun t hf y => ?_) (fun j hj => ?_)
  · blk_simp
    rw [after0_3]
    by_cases e : t.val % 16 = 0
    on_goal 1 => rw [outsAt0_A m c t e]
    on_goal 2 => rw [outsAt0_B m c t e]
    all_goals
      frame_out
      canon_tiles x h
      all_goals
        idx_vars x
        try simp only [head1Q, head2Q, head3Q]
      on_goal 1 => refine tileQ m c Z A D e0 e1 e2 3 t _ _ _ _ _ (fun j e => ?_) (fun j e => ?_) (fun r e => ?_) (fun r e => ?_) _ x0 x1 ?_
      on_goal 6 => refine tileQ m c Z A D e0 e1 e2 2 t _ _ _ _ _ (fun j e => ?_) (fun j e => ?_) (fun r e => ?_) (fun r e => ?_) _ x0 x1 ?_
      on_goal 11 => refine tileQ m c Z A D e0 e1 e2 1 t _ _ _ _ _ (fun j e => ?_) (fun j e => ?_) (fun r e => ?_) (fun r e => ?_) _ x0 x1 ?_
      on_goal 16 => refine tileQ m c Z A D e0 e1 e2 0 t _ _ _ _ _ (fun j e => ?_) (fun j e => ?_) (fun r e => ?_) (fun r e => ?_) _ x0 x1 ?_
      all_goals first
        | (blk_ext [idx t, h0, h1]; done)
        | (pointwise [blk0 m c Z e0, blk1 m c A e1, blk2 m c D e2]; done)
        | (pointwise [blk0 m c Z e0, blk1 m c A e1, blk2 m c D e2]; rfl)
        | (pointwise [blk0 m c Z e0, blk1 m c A e1, blk2 m c D e2]
           first
             | refine congrArg (fun q => ((A _ q : ℝ) : EReal)) (Fin.ext ?_)
             | refine congrArg (fun q => ((Z _ q : ℝ) : EReal)) (Fin.ext ?_)
           simp only [hc, qc, kc, vc, Fin.val_zero, Fin.val_one, Fin.val_two, show (3 : Fin 4).val = 3 from rfl]
             <;> omega)
        | (pointwise [blk0 m c Z e0, blk1 m c A e1, blk2 m c D e2]; exact congrArg (fun q => ((D _ q : ℝ) : EReal)) (hc_zero _))
  · blk_simp [Pipeline.Window.cell_apply] at hj
    idx_vars j
    have hj1 := j1.isLt
    refine Eq.trans (b := m ((c : Thread nD τ).loc main_arg3) (ix2 j0 j1)) ?_ ?_
    · blk_simp
      show V m c main_v17_0 (ix2 j0 j1) = _
      unfold V
      after_reads_simp
      show truncf FTy.bf16 _ bitsLt_bf16_f32 (ix2 j0 j1) = _
      pointwise
    · refine Eq.trans ?_ (congrArg (val_main_v74 (F := Ideal) _ _ _ _) (?_ : ix2 j0 j1 = _))
      · pointwise [val_main_v74, val_main_v73]
        refine (dite_of (fun e => ?_) (fun e => dite_of (fun e' => ?_) (fun e' => ?_))).symm
        · pointwise [val_main_v71]
        · exfalso; omega
        · pointwise [val_main_v72]
          exact congrArg (fun q => m ((c : Thread nD τ).loc main_arg3) (ix2 j0 q)) (Fin.ext (by show 4608 + (j1.val - 4096 - 512) = j1.val; omega))
      · blk_ext

set_option maxHeartbeats 2000000 in
theorem final4 : (dats m 0 c).arrAt 4 (cfgs 0).N
    = val_main_v69 (F := Ideal) (m ((c : Thread nD τ).loc main_arg0)) (m ((c : Thread nD τ).loc main_arg1)) (m ((c : Thread nD τ).loc main_arg2)) := by
  refine (dats m 0 c).arrAt_eq_of_after_last 4 t0_15 (by decide +kernel) _ fun j => ?_
  blk_simp
  rw [after0_4]
  refine (acc_blocks 512 16 hrows (fun n h => (outsAt0 m c n h).2) (contrib Z A D) (fun t h i => ?_) (fun t h i => ?_) (le_of_eq N_0) t0_15 rfl _).trans ?_
  on_goal 1 =>
    rw [outsAt0_A m c t h]; frame_out
    simp (disch := decide) only [↓ View.readCov_skip, ↓ View.readCov_cons_toLoadRect, ↓ View.readCov_fill]
    refine View.canon_append_of_piecesOf (fun i => 0 + ∑ r, contrib Z A D (rowOf 512 hrows t r) i : Vec Ideal S256x1024 .f32) [_] [_, _, _, _, _, _, _, _] ?_ i ?_
  on_goal 3 =>
    rw [outsAt0_B m c t h]; frame_out
    refine View.canon_append_of_piecesOf (fun i => (outsAt0 m c (t.val - 1) _).2 i + ∑ r, contrib Z A D (rowOf 512 hrows t r) i : Vec Ideal S256x1024 .f32) [] [_, _, _, _, _, _, _, _] ?_ i ?_
  on_goal 2 => exact View.cover_of_tiledL _ ![256, 128] (by sl_kernel_rfl) i
  on_goal 3 => exact View.cover_of_tiledL _ ![256, 128] (by sl_kernel_rfl) i
  iterate 2
    on_goal 1 =>
      refine ⟨fun (x : S256x128.Idx) => ?_, fun (x : S256x128.Idx) => ?_, fun (x : S256x128.Idx) => ?_, fun (x : S256x128.Idx) => ?_,
        fun (x : S256x128.Idx) => ?_, fun (x : S256x128.Idx) => ?_, fun (x : S256x128.Idx) => ?_, fun (x : S256x128.Idx) => ?_, trivial⟩
      all_goals
        idx_vars x
        try simp only [head1V, head1K, head2V, head2K, head3V, head3K]
      on_goal 1 => refine tileK Z A D 3 t _ _ _ _ _ (fun j e => ?_) (fun j e => ?_) (fun r e => ?_) (fun r e => ?_) _ _ x0 x1 ?_ ?_
      on_goal 7 => refine tileV Z A D 3 t _ _ _ _ (fun j e => ?_) (fun r e => ?_) (fun r e => ?_) _ _ x0 x1 ?_ ?_
      on_goal 12 => refine tileK Z A D 2 t _ _ _ _ _ (fun j e => ?_) (fun j e => ?_) (fun r e => ?_) (fun r e => ?_) _ _ x0 x1 ?_ ?_
      on_goal 18 => refine tileV Z A D 2 t _ _ _ _ (fun j e => ?_) (fun r e => ?_) (fun r e => ?_) _ _ x0 x1 ?_ ?_
      on_goal 23 => refine tileK Z A D 1 t _ _ _ _ _ (fun j e => ?_) (fun j e => ?_) (fun r e => ?_) (fun r e => ?_) _ _ x0 x1 ?_ ?_
      on_goal 29 => refine tileV Z A D 1 t _ _ _ _ (fun j e => ?_) (fun r e => ?_) (fun r e => ?_) _ _ x0 x1 ?_ ?_
      on_goal 34 => refine tileK Z A D 0 t _ _ _ _ _ (fun j e => ?_) (fun j e => ?_) (fun r e => ?_) (fun r e => ?_) _ _ x0 x1 ?_ ?_
      on_goal 40 => refine tileV Z A D 0 t _ _ _ _ (fun j e => ?_) (fun r e => ?_) (fun r e => ?_) _ _ x0 x1 ?_ ?_
      all_goals first
        | (blk_ext; done)
        | (pointwise [blk0 m c Z e0, blk1 m c A e1, blk2 m c D e2]; done)
        | (pointwise [blk0 m c Z e0, blk1 m c A e1, blk2 m c D e2]; rfl)
        | (pointwise [k0_pay3]; done)
        | (pointwise [blk0 m c Z e0, blk1 m c A e1, blk2 m c D e2]
           first
             | refine congrArg (fun q => ((A _ q : ℝ) : EReal)) (Fin.ext ?_)
             | refine congrArg (fun q => ((Z _ q : ℝ) : EReal)) (Fin.ext ?_)
           simp only [hc, qc, kc, vc, Fin.val_zero, Fin.val_one, Fin.val_two, show (3 : Fin 4).val = 3 from rfl]
             <;> omega)
        | (pointwise [blk0 m c Z e0, blk1 m c A e1, blk2 m c D e2]; exact congrArg (fun q => ((D _ q : ℝ) : EReal)) (hc_zero _))
  obtain ⟨h, r, e, hj | hj⟩ := columns j
  all_goals subst hj
  · simp only [contribK]; exact (refK _ _ _ Z A D e0 e1 e2 h r e).symm
  · simp only [contribV]; exact (refV _ _ _ Z A D e0 e1 e2 h r e).symm

end Cert.MemAtt

end
-- ==== Proof.MemAttClaims.lean ====
/-
  The value claim of the gradient of the cross-attention into the memory tokens.
-/
module

public import proofs.«01_k».proof.Defs
public import proofs.«01_k».proof.Proof.Gen.Pre_finite_mem_att
public import proofs.«01_k».proof.Proof.Gen.ReferenceMemAttIdeal.Run
public import proofs.«01_k».proof.Proof.MemAttValue

@[expose] public section

set_option maxRecDepth 16384

noncomputable section

open Idealize.ShloMosaic Idealize.ShloMosaic.TcCoe Idealize.SL.Sem
open Cert.Lift

namespace Cert.MemAtt
open Cert.ReferenceMemAttIdeal.Read

section
variable (m : (ℓ : Loc Cert.KernelMemAttIdeal.nD Cert.KernelMemAttIdeal.τ Cert.KernelMemAttIdeal.sig) → Buf (Elt Ideal) ℓ)
  (hpre : Cert.Pre_KernelMemAttIdeal_finite_mem_att m) (c : Dev Cert.KernelMemAttIdeal.nD)
open Cert.KernelMemAttIdeal
include hpre

/-- Finite arguments are real numbers. -/
theorem reals : ∃ (Z : Fin 8192 → Fin 6912 → ℝ) (A : Fin 256 → Fin 1024 → ℝ) (D : Fin 8192 → Fin 512 → ℝ),
    (∀ s j, (m ((c : Thread nD τ).loc main_arg0)) (ix2 s j) = ((Z s j : ℝ) : EReal)) ∧ (∀ j l, (m ((c : Thread nD τ).loc main_arg1)) (ix2 j l) = ((A j l : ℝ) : EReal))
    ∧ (∀ s j, (m ((c : Thread nD τ).loc main_arg2)) (ix2 s j) = ((D s j : ℝ) : EReal)) := by
  obtain ⟨f0, f1, f2⟩ := hpre c
  obtain ⟨X0, h0⟩ := exists_real_of_finite _ _ f0
  obtain ⟨X1, h1⟩ := exists_real_of_finite _ _ f1
  obtain ⟨X2, h2⟩ := exists_real_of_finite _ _ f2
  exact ⟨fun s j => _, fun j l => _, fun s j => _, fun s j => h0 _, fun j l => h1 _, fun s j => h2 _⟩

end

theorem algebraic : Cert.algebraic_KernelMemAttIdeal_ReferenceMemAttIdeal_pre_finite_mem_att := by
  pair_intro
  · run_from Cert.KernelMemAttIdeal.Value.run_blocks m g
  · run_from Cert.ReferenceMemAttIdeal.Value.run m' g'
    all_goals
      obtain ⟨e0, e1, e2, e3⟩ := hagree c
      obtain ⟨Z, A, D, h0, h1, h2⟩ := reals m hpre c
    · refine (val_main_v74_eq m' c).trans (Eq.trans ?_ (final3 m c Z A D h0 h1 h2).symm)
      rw [← e0, ← e1, ← e2, ← e3]
    · refine (val_main_v69_eq m' c).trans (Eq.trans ?_ (final4 m c Z A D h0 h1 h2).symm)
      rw [← e0, ← e1, ← e2]

end Cert.MemAtt

end
-- ==== Proof.MemKvFwd.lean ====
/-
  The memory's norm and its projection to keys and values: the kernel and the reference.
-/
module

public import proofs.«01_k».proof.Proof.Real
public import proofs.«01_k».proof.Proof.Gen.KernelMemKvFwdIdeal.Value
public import proofs.«01_k».proof.Proof.Gen.ReferenceMemKvFwdIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.MemKvFwd
open Cert.KernelMemKvFwdIdeal Cert.KernelMemKvFwdIdeal.Gen
open Cert.ReferenceMemKvFwdIdeal.Read

section
variable (x0 : Vec Ideal S256x1024 .f32) (x1 : Vec Ideal S1024 .f32) (x2 : Vec Ideal S1024x1024 .f32)
  (v0 : Vec Ideal S256x1024 .f32) (v1 : Vec Ideal S1x1024 .f32) (v17 : Vec Ideal S1024x1024 .bf16)
  (h0 : ∀ r j, v0 (ix2 r j) = x0 (ix2 r j)) (h1 : ∀ j, v1 (ix2 0 j) = x1 (ix1 j)) (h17 : ∀ i j, v17 (ix2 i j) = x2 (ix2 i j))

include h0 h1

/-- The normalised memory. -/
theorem pay1 (r : Fin 256) (j : Fin 1024) : k0_pay1 v0 v1 (ix2 r j) = val_main_v12 (F := Ideal) x0 x1 (ix2 r j) := by
  pointwise [k0_pay1, val_main_v12, val_main_v11, val_main_v10, val_main_v9, val_main_v8, val_main_v7, val_main_v6, val_main_v5, val_main_cst_1, val_main_v4,
    val_main_v3, val_main_cst_0, val_main_v2, val_main_v1, val_main_cst, val_main_v0, h0, h1]

include h17

/-- Its keys and values. -/
theorem pay2 (r : Fin 256) (j : Fin 1024) : k0_pay2 v0 v1 v17 (ix2 r j) = val_main_v15 (F := Ideal) x0 x1 x2 (ix2 r j) := by
  pointwise [k0_pay2, val_main_v15, val_main_v14, h17, pay1 x0 x1 v0 v1 h0 h1]

end

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

variable (m : (ℓ : Loc nD τ sig) → Buf (Elt Ideal) ℓ) (c : Dev nD)

theorem blk0 (t : Fin cfg0.N) (r : Fin 256) (j : Fin 1024) : (iblk m c 0 t : FVec Ideal S256x1024 .f32) (ix2 r j) = m ((c : Thread nD τ).loc main_arg0) (ix2 r j) := by
  blk_simp [iblk]
  entry_read
  blk_ext [idx t]

theorem blk1 (t : Fin cfg0.N) (j : Fin 1024) : (iblk m c 1 t : FVec Ideal S1x1024 .f32) (ix2 0 j) = m ((c : Thread nD τ).loc main_arg1) (ix1 j) := by
  blk_simp [iblk]
  entry_read
  pointwise
  blk_ext [idx t]

theorem blk2 (t : Fin cfg0.N) (i j : Fin 1024) : (iblk m c 2 t : FVec Ideal S1024x1024 .bf16) (ix2 i j) = m ((c : Thread nD τ).loc main_arg2) (ix2 i j) := by
  blk_simp [iblk]
  entry_read
  blk_ext [idx t]

theorem final3 : (dats m 0 c).arrAt 3 (cfgs 0).N = val_main_v13 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  have key : out0_3 (iblk m c 0 t) (iblk m c 1 t) (iblk m c 2 t) = k0_pay1 (iblk m c 0 t) (iblk m c 1 t) := by
    frame_out
  rw [key]
  idx_vars y
  refine (pay1 _ _ _ _ (blk0 m c t) (blk1 m c t) y0 y1).trans ?_
  show val_main_v13 (F := Ideal) _ _ _ = _
  blk_ext [idx t]

theorem final4 : (dats m 0 c).arrAt 4 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have key : out0_4 (iblk m c 0 t) (iblk m c 1 t) (iblk m c 2 t) = k0_pay2 (iblk m c 0 t) (iblk m c 1 t) (iblk m c 2 t) := by
    frame_out
  rw [key]
  idx_vars y
  rw [pay2 _ _ _ _ _ _ (blk0 m c t) (blk1 m c t) (blk2 m c t)]
  blk_ext [idx t]

end Cert.MemKvFwd

end
-- ==== Proof.MemKvFwdClaims.lean ====
/-
  The value claim of the memory's norm and its projection to keys and values.
-/
module

public import proofs.«01_k».proof.Defs
public import proofs.«01_k».proof.Proof.Gen.ReferenceMemKvFwdIdeal.Run
public import proofs.«01_k».proof.Proof.MemKvFwd

@[expose] public section

set_option maxRecDepth 16384

noncomputable section

open Idealize.ShloMosaic Idealize.ShloMosaic.TcCoe Idealize.SL.Sem
open Cert.Lift

namespace Cert.MemKvFwd
open Cert.ReferenceMemKvFwdIdeal.Read

theorem algebraic : Cert.algebraic_KernelMemKvFwdIdeal_ReferenceMemKvFwdIdeal := by
  pair_intro
  · run_from Cert.KernelMemKvFwdIdeal.Value.run_blocks m g
  · run_from Cert.ReferenceMemKvFwdIdeal.Value.run m' g'
    all_goals
      obtain ⟨e0, e1, e2⟩ := hagree c
    · refine (val_main_v13_eq _ _).trans (Eq.trans ?_ (final3 m c).symm)
      rw [← e0, ← e1]
    · refine (val_main_v15_eq _ _ _).trans (Eq.trans ?_ (final4 m c).symm)
      rw [← e0, ← e1, ← e2]

end Cert.MemKvFwd

end
-- ==== Proof.FfnFwd.lean ====
/-
  The feed-forward block: the gated product, its projection, the norm after it, and the norm before the next layer.
-/
module

public import proofs.«01_k».proof.Proof.Real
public import proofs.«01_k».proof.Proof.Gen.KernelFfnFwdIdeal.Value
public import proofs.«01_k».proof.Proof.Gen.ReferenceFfnFwdIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.FfnFwd
open Cert.KernelFfnFwdIdeal Cert.KernelFfnFwdIdeal.Gen
open Cert.ReferenceFfnFwdIdeal.Read

section
variable (x0 : Vec Ideal S8192x1024 .f32) (x1 : Vec Ideal S8192x5632 .f32) (x2 : Vec Ideal S2816x1024 .f32) (x3 x4 : Vec Ideal S1024 .f32)
  (a u : Vec Ideal S256x2816 .bf16) (w : Vec Ideal S2816x1024 .bf16) (v : Vec Ideal S256x1024 .f32) (g p : Vec Ideal S1x1024 .f32) (s : Fin 256 → Fin 8192)
  (ha : ∀ r k, a (ix2 r k) = x1 (ix2 (s r) ⟨k.val, by omega⟩)) (hu : ∀ r k, u (ix2 r k) = x1 (ix2 (s r) ⟨2816 + k.val, by omega⟩))
  (hw : ∀ k j, w (ix2 k j) = x2 (ix2 k j)) (hv : ∀ r j, v (ix2 r j) = x0 (ix2 (s r) j)) (hg : ∀ j, g (ix2 0 j) = x3 (ix1 j)) (hp : ∀ j, p (ix2 0 j) = x4 (ix1 j))

/-- The second half of the columns. -/
theorem ref2 (r : Fin 8192) (k : Fin 2816) : val_main_v2 (F := Ideal) x1 (ix2 r k) = x1 (ix2 r ⟨2816 + k.val, by omega⟩) := by
  pointwise [val_main_v2]

theorem ref0 (r : Fin 8192) (k : Fin 2816) : val_main_v0 (F := Ideal) x1 (ix2 r k) = x1 (ix2 r ⟨k.val, by omega⟩) := by
  pointwise [val_main_v0]

include ha hu hw

theorem pay2 (r : Fin 256) (j : Fin 1024) : k0_pay2 a u w (ix2 r j) = val_main_v4 (F := Ideal) x1 x2 (ix2 (s r) j) := by
  pointwise [k0_pay2, val_main_v4, val_main_v3, val_main_v1, val_main_call0_v5, val_main_call0_v4, val_main_call0_cst_0, val_main_call0_v3, val_main_call0_v2,
    val_main_call0_cst, val_main_call0_v1, val_main_call0_v0, ref0, ref2, ha, hu, hw, zero_sub]

include hv hg

theorem pay3 (r : Fin 256) (j : Fin 1024) : k0_pay3 a u w v g (ix2 r j) = val_main_v18 (F := Ideal) x0 x1 x2 x3 (ix2 (s r) j) := by
  have e := pay2 x1 x2 a u w s ha hu hw
  pointwise [k0_pay3, val_main_v18, val_main_v17, val_main_v16, val_main_v15, val_main_v14, val_main_v13, val_main_v12, val_main_v11, val_main_v10,
    val_main_cst_1, val_main_v9, val_main_v8, val_main_cst_0, val_main_v7, val_main_v6, val_main_cst, val_main_v5, e, hv, hg]

include hp

theorem pay1 (r : Fin 256) (j : Fin 1024) : k0_pay1 (k0_pay3 a u w v g) p (ix2 r j) = val_main_v32 (F := Ideal) x0 x1 x2 x3 x4 (ix2 (s r) j) := by
  have e := pay3 x0 x1 x2 x3 a u w v g s ha hu hw hv hg
  pointwise [k0_pay1, val_main_v32, val_main_v31, val_main_v30, val_main_v29, val_main_v28, val_main_v27, val_main_v26, val_main_v25, val_main_v24,
    val_main_cst_4, val_main_v23, val_main_v22, val_main_cst_3, val_main_v21, val_main_v20, val_main_cst_2, val_main_v19, e, hp]

end

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem hrows : 8192 = cfg0.N * 256 := by rw [show cfg0.N = 32 from N_0]

variable (m : (ℓ : Loc nD τ sig) → Buf (Elt Ideal) ℓ) (c : Dev nD)

/-- The rows a grid point works on. -/
abbrev row (t : Fin cfg0.N) (r : Fin 256) : Fin 8192 := rowOf 256 hrows t r

theorem blk0 (t : Fin cfg0.N) (r : Fin 256) (j : Fin 1024) : (iblk m c 0 t : FVec Ideal S256x1024 .f32) (ix2 r j)
    = m ((c : Thread nD τ).loc main_arg0) (ix2 (row t r) j) := by
  blk_simp [iblk]
  entry_read
  blk_ext [idx t]

theorem blk1 (t : Fin cfg0.N) (r : Fin 256) (k : Fin 5632) : (iblk m c 1 t : FVec Ideal S256x5632 .bf16) (ix2 r k)
    = m ((c : Thread nD τ).loc main_arg1) (ix2 (row t r) k) := by
  blk_simp [iblk]
  entry_read
  blk_ext [idx t]

theorem blk2 (t : Fin cfg0.N) (k : Fin 2816) (j : Fin 1024) : (iblk m c 2 t : FVec Ideal S2816x1024 .bf16) (ix2 k j)
    = m ((c : Thread nD τ).loc main_arg2) (ix2 k j) := by
  blk_simp [iblk]
  entry_read
  blk_ext [idx t]

theorem blk3 (t : Fin cfg0.N) (j : Fin 1024) : (iblk m c 3 t : FVec Ideal S1x1024 .f32) (ix2 0 j) = m ((c : Thread nD τ).loc main_arg3) (ix1 j) := by
  blk_simp [iblk]
  entry_read
  pointwise
  blk_ext [idx t]

theorem blk4 (t : Fin cfg0.N) (j : Fin 1024) : (iblk m c 4 t : FVec Ideal S1x1024 .f32) (ix2 0 j) = m ((c : Thread nD τ).loc main_arg4) (ix1 j) := by
  blk_simp [iblk]
  entry_read
  pointwise
  blk_ext [idx t]

theorem final5 : (dats m 0 c).arrAt 5 (cfgs 0).N = val_main_v18 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  blk_simp
  rw [after0_5]
  frame_out
  idx_vars y
  refine (pay3 (m ((c : Thread nD τ).loc main_arg0)) (m ((c : Thread nD τ).loc main_arg1)) (m ((c : Thread nD τ).loc main_arg2)) (m ((c : Thread nD τ).loc main_arg3))
    _ _ _ _ _ (row t) (fun r k => ?_) (fun r k => ?_) (fun k j => ?_) (fun r j => ?_) (fun j => ?_) y0 y1).trans ?_
  all_goals first
    | (blk_ext [idx t]; done)
    | (pointwise [blk0 m c, blk1 m c, blk2 m c, blk3 m c]; done)
    | (pointwise [blk0 m c, blk1 m c, blk2 m c, blk3 m c]; rfl)

theorem final6 : (dats m 0 c).arrAt 6 (cfgs 0).N
    = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  idx_vars y
  refine (pay2 (m ((c : Thread nD τ).loc main_arg1)) (m ((c : Thread nD τ).loc main_arg2)) _ _ _ (row t) (fun r k => ?_) (fun r k => ?_) (fun k j => ?_) y0 y1).trans ?_
  all_goals first
    | (blk_ext [idx t]; done)
    | (pointwise [blk1 m c, blk2 m c]; done)
    | (pointwise [blk1 m c, blk2 m c]; rfl)

theorem final7 : (dats m 0 c).arrAt 7 (cfgs 0).N = val_main_v32 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  idx_vars y
  refine (pay1 (m ((c : Thread nD τ).loc main_arg0)) (m ((c : Thread nD τ).loc main_arg1)) (m ((c : Thread nD τ).loc main_arg2)) (m ((c : Thread nD τ).loc main_arg3))
    (m ((c : Thread nD τ).loc main_arg4)) _ _ _ _ _ _ (row t) (fun r k => ?_) (fun r k => ?_) (fun k j => ?_) (fun r j => ?_) (fun j => ?_) (fun j => ?_) y0 y1).trans ?_
  all_goals first
    | (blk_ext [idx t]; done)
    | (pointwise [blk0 m c, blk1 m c, blk2 m c, blk3 m c, blk4 m c]; done)
    | (pointwise [blk0 m c, blk1 m c, blk2 m c, blk3 m c, blk4 m c]; rfl)

end Cert.FfnFwd

end
-- ==== Proof.FfnFwdClaims.lean ====
/-
  The value claim of the feed-forward block.
-/
module

public import proofs.«01_k».proof.Defs
public import proofs.«01_k».proof.Proof.Gen.ReferenceFfnFwdIdeal.Run
public import proofs.«01_k».proof.Proof.FfnFwd

@[expose] public section

set_option maxRecDepth 16384

noncomputable section

open Idealize.ShloMosaic Idealize.ShloMosaic.TcCoe Idealize.SL.Sem
open Cert.Lift

namespace Cert.FfnFwd
open Cert.ReferenceFfnFwdIdeal.Read

theorem algebraic : Cert.algebraic_KernelFfnFwdIdeal_ReferenceFfnFwdIdeal := by
  pair_intro
  · run_from Cert.KernelFfnFwdIdeal.Value.run_blocks m g
  · run_from Cert.ReferenceFfnFwdIdeal.Value.run m' g'
    all_goals
      obtain ⟨e0, e1, e2, e3, e4⟩ := hagree c
    · refine (val_main_v18_eq _ _ _ _).trans (Eq.trans ?_ (final5 m c).symm)
      rw [← e0, ← e1, ← e2, ← e3]
    · refine (val_main_v4_eq (F := Ideal) _ _).trans (Eq.trans ?_ (final6 m c).symm)
      rw [← e1, ← e2]
    · refine (val_main_v32_eq m' c).trans (Eq.trans ?_ (final7 m c).symm)
      rw [← e0, ← e1, ← e2, ← e3, ← e4]

end Cert.FfnFwd

end
-- ==== Proof.MemAttFwd.lean ====
/-
  The cross-attention into the memory tokens: the kernel and the reference.
-/
module

public import proofs.«01_k».proof.Proof.Soft
public import proofs.«01_k».proof.Proof.Gen.KernelMemAttFwdIdeal.Value
public import proofs.«01_k».proof.Proof.Gen.ReferenceMemAttFwdIdeal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Lift Cert.Soft

namespace Cert.MemAttFwd

/-- The scores of a query against every key. -/
def sc (q : Fin 128 → EReal) (k : Fin 256 → Fin 128 → EReal) (j : Fin 256) : EReal := (∑ e, q e * k j e) * ((scale : ℝ) : EReal)

/-- One head's output column: the softmax of the scores against the values. -/
def att (q : Fin 128 → EReal) (k : Fin 256 → Fin 128 → EReal) (w : Fin 256 → EReal) : EReal :=
  ∑ j, Ideal.div (eEx j (sc q k)) (eDen (sc q k)) * w j

section Reference
open Cert.ReferenceMemAttFwdIdeal Cert.ReferenceMemAttFwdIdeal.Gen Cert.ReferenceMemAttFwdIdeal.Read
variable (x0 : FVec Ideal S8192x6912 .f32) (x1 : FVec Ideal S256x1024 .f32)

/-- Column `e` of head `h`, among the projection's, the keys' and the values' columns. -/
abbrev hc (h : Fin 4) (e : Fin 128) : Fin 512 := ⟨h.val * 128 + e.val, by omega⟩
abbrev qc (h : Fin 4) (e : Fin 128) : Fin 6912 := ⟨3328 + (h.val * 128 + e.val), by omega⟩
abbrev kc (h : Fin 4) (e : Fin 128) : Fin 1024 := ⟨h.val * 128 + e.val, by omega⟩
abbrev vc (h : Fin 4) (e : Fin 128) : Fin 1024 := ⟨512 + (h.val * 128 + e.val), by omega⟩

theorem ref1 (s : Fin 8192) (h : Fin 4) (e : Fin 128) : val_main_v1 (F := Ideal) x0 (ix3 s h e) = x0 (ix2 s (qc h e)) := by
  pointwise [val_main_v1, val_main_v0]
  blk_ext

theorem ref4 (j : Fin 256) (h : Fin 4) (e : Fin 128) : val_main_v4 (F := Ideal) x1 (ix3 j h e) = x1 (ix2 j (kc h e)) := by
  pointwise [val_main_v4, val_main_v3, val_main_v2]
  blk_ext

theorem ref6 (j : Fin 256) (h : Fin 4) (e : Fin 128) : val_main_v6 (F := Ideal) x1 (ix3 j h e) = x1 (ix2 j (vc h e)) := by
  pointwise [val_main_v6, val_main_v5, val_main_v2]
  blk_ext

/-- The reference's scores. -/
abbrev scr (h : Fin 4) (s : Fin 8192) : Fin 256 → EReal := sc (fun e => x0 (ix2 s (qc h e))) fun j e => x1 (ix2 j (kc h e))

theorem ref9 (h : Fin 4) (s : Fin 8192) (j : Fin 256) : val_main_v9 (F := Ideal) x0 x1 (ix3 h s j) = scr x0 x1 h s j := by
  pointwise [val_main_v9, val_main_v8, val_main_cst, val_main_v7, ref1, ref4, ofBits_scale]
  rfl

theorem ref10 (h : Fin 4) (s : Fin 8192) : val_main_v10 (F := Ideal) x0 x1 (ix2 h s) = eTop (scr x0 x1 h s) := by
  rw [← funext (ref9 x0 x1 h s)]
  generalize hv : val_main_v9 (F := Ideal) x0 x1 = v
  pointwise [val_main_v10, hv, val_main_cst_0, ofBits_bot]

theorem ref12 (i : S4x8192.Idx) : val_main_v12 (F := Ideal) x0 x1 i = val_main_v10 (F := Ideal) x0 x1 i := by
  rw [val_main_v12_apply, show val_main_v11 (F := Ideal) i = (⊥ : EReal) from (val_main_v11_apply i).trans ofBits_bot]
  generalize val_main_v10 (F := Ideal) x0 x1 = w
  exact max_eq_right (α := EReal) (bot_le (α := EReal))

theorem ref14 (h : Fin 4) (s : Fin 8192) (j : Fin 256) : val_main_v14 (F := Ideal) x0 x1 (ix3 h s j) = val_main_v12 (F := Ideal) x0 x1 (ix2 h s) := by
  pointwise [val_main_v14, val_main_v13]

theorem ref16 (h : Fin 4) (s : Fin 8192) (j : Fin 256) : val_main_v16 (F := Ideal) x0 x1 (ix3 h s j) = eEx j (scr x0 x1 h s) := by
  pointwise [val_main_v16, val_main_v15, ref14, ref12, ref10, ref9]

theorem ref20 (h : Fin 4) (s : Fin 8192) (j : Fin 256) : val_main_v20 (F := Ideal) x0 x1 (ix3 h s j)
    = Ideal.div (eEx j (scr x0 x1 h s)) (eDen (scr x0 x1 h s)) := by
  pointwise [val_main_v20, val_main_v19, val_main_v18, val_main_v17, val_main_cst_2, ref16]

theorem ref24 (h : Fin 4) (s : Fin 8192) (e : Fin 128) : val_main_v24 (F := Ideal) x0 x1 (ix2 s (hc h e))
    = att (fun e => x0 (ix2 s (qc h e))) (fun j e => x1 (ix2 j (kc h e))) fun j => x1 (ix2 j (vc h e)) := by
  refine (val_main_v24_apply (F := Ideal) x0 x1 _).trans ?_
  rw [show val_main_v23 (F := Ideal) x0 x1 (ix2 s (hc h e)) = val_main_v22 (F := Ideal) x0 x1 (ix3 s h e) by pointwise [val_main_v23]; blk_ext]
  pointwise [val_main_v22, val_main_v21, ref6, ref20]
  exact Finset.sum_congr rfl fun j _ => mul_comm _ _

end Reference

section Kernel
open Cert.KernelMemAttFwdIdeal Cert.KernelMemAttFwdIdeal.Gen
variable (k v : Vec Ideal S256x128 .bf16) (q : Vec Ideal S512x128 .bf16)

theorem pay (r : Fin 512) (e : Fin 128) : k0_pay2 k v q (ix2 r e)
    = att (fun e => q (ix2 r e)) (fun j e => k (ix2 j e)) fun j => v (ix2 j e) := by
  pointwise [k0_pay2, ofBits_scale, ofBits_bot]
  rfl

/-! The other heads' values are the same function of their own slices. -/

theorem head1 : k0_pay5 (k0_pay3 v) (k0_pay4 k q) = k0_pay2 k v q := rfl
theorem head2 : k0_pay6 k v q = k0_pay2 k v q := rfl
theorem head3 : k0_pay1 (k0_pay7 k) (k0_pay8 v) q = k0_pay2 k v q := rfl

end Kernel

/-- An `if` equals what both its branches equal. -/
theorem dite_of {α : Type} {p : Prop} [Decidable p] {a : p → α} {b : ¬p → α} {x : α} (ha : ∀ h, a h = x) (hb : ∀ h, b h = x) : dite p a b = x := by
  split_ifs with h
  · exact ha h
  · exact hb h

/-! ## The arrays after the run -/

section Value
open Cert.KernelMemAttFwdIdeal Cert.KernelMemAttFwdIdeal.Gen
open Cert.ReferenceMemAttFwdIdeal.Read

theorem idx : ∀ t : Fin cfg0.N, win0_0.index t = ![t.val, 8] ∧ win0_1.index t = ![0, 0] ∧ win0_2.index t = ![t.val, 0] :=
  (by decide +kernel : ∀ t : Fin grid0.N, _)

theorem hrows : 8192 = cfg0.N * 512 := by rw [show cfg0.N = 16 from N_0]

variable (m : (ℓ : Loc nD τ sig) → Buf (Elt Ideal) ℓ) (c : Dev nD)

/-- The rows a grid point works on. -/
abbrev row (t : Fin cfg0.N) (r : Fin 512) : Fin 8192 := rowOf 512 hrows t r

set_option maxHeartbeats 1000000 in
set_option maxRecDepth 200000 in
theorem blk0 (t : Fin cfg0.N) (r : Fin 512) (k : Fin 512) : (X0_0 m c t : FVec Ideal S512x512 .bf16) (ix2 r k)
    = m ((c : Thread nD τ).loc main_arg0) (ix2 (row t r) ⟨3328 + k.val, by omega⟩) := by
  unfold X0_0 Pipeline.Window.fill
  rw [dif_pos (moved0_0 t _)]
  blk_simp [iblk]
  refine (congrArg (V m c main_v13) (?_ : _ = ix2 (row t r) ⟨4096 + k.val, by omega⟩)).trans ?_
  · blk_ext [idx t]
  unfold V
  after_reads_simp
  pointwise
  repeat' refine dite_of (fun _ => ?_) (fun _ => ?_)
  all_goals
    after_reads_simp
    pointwise
    refine congrArg (fun q => m ((c : Thread nD τ).loc main_arg0) (ix2 (row t r) q)) (Fin.ext ?_)
    have hk := k.isLt
    simp only [] at *
    omega

theorem blk1 (t : Fin cfg0.N) (j : Fin 256) (l : Fin 1024) : (iblk m c 1 t : FVec Ideal S256x1024 .bf16) (ix2 j l)
    = m ((c : Thread nD τ).loc main_arg1) (ix2 j l) := by
  blk_simp [iblk]
  entry_read
  blk_ext [idx t]

/-- One head's tile at a grid point. -/
theorem tile (h : Fin 4) (t : Fin cfg0.N) (k v : Vec Ideal S256x128 .bf16) (q : Vec Ideal S512x128 .bf16)
    (hk : ∀ j e, k (ix2 j e) = m ((c : Thread nD τ).loc main_arg1) (ix2 j (kc h e)))
    (hv : ∀ j e, v (ix2 j e) = m ((c : Thread nD τ).loc main_arg1) (ix2 j (vc h e)))
    (hq : ∀ r e, q (ix2 r e) = m ((c : Thread nD τ).loc main_arg0) (ix2 (row t r) (qc h e)))
    (i : S8192x512.Idx) (r : Fin 512) (e : Fin 128) (hi : i = ix2 (row t r) (hc h e)) :
    k0_pay2 k v q (ix2 r e) = val_main_v24 (F := Ideal) (m ((c : Thread nD τ).loc main_arg0)) (m ((c : Thread nD τ).loc main_arg1)) i := by
  subst hi
  rw [ref24, pay]
  simp only [hk, hv, hq]

set_option maxHeartbeats 2000000 in
theorem final2 : (dats m 0 c).arrAt 2 (cfgs 0).N
    = val_main_v24 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  canon_tiles x h
  all_goals
    idx_vars x
    try simp only [head1, head2, head3]
  on_goal 1 => refine tile m c 3 t _ _ _ (fun j e => ?_) (fun j e => ?_) (fun r e => ?_) _ x0 x1 ?_
  on_goal 5 => refine tile m c 2 t _ _ _ (fun j e => ?_) (fun j e => ?_) (fun r e => ?_) _ x0 x1 ?_
  on_goal 9 => refine tile m c 1 t _ _ _ (fun j e => ?_) (fun j e => ?_) (fun r e => ?_) _ x0 x1 ?_
  on_goal 13 => refine tile m c 0 t _ _ _ (fun j e => ?_) (fun j e => ?_) (fun r e => ?_) _ x0 x1 ?_
  all_goals first
    | (blk_ext [idx t, h0, h1]; done)
    | (pointwise [blk0 m c, blk1 m c]; done)
    | (pointwise [blk0 m c, blk1 m c]; rfl)
    | (pointwise [blk0 m c, blk1 m c]
       first
         | refine congrArg (fun q => m ((c : Thread nD τ).loc main_arg1) (ix2 _ q)) (Fin.ext ?_)
         | refine congrArg (fun q => m ((c : Thread nD τ).loc main_arg0) (ix2 _ q)) (Fin.ext ?_)
       simp only [hc, qc, kc, vc, Fin.val_zero, Fin.val_one, Fin.val_two, show (3 : Fin 4).val = 3 from rfl]
         <;> omega)

end Value

end Cert.MemAttFwd

end
-- ==== Proof.MemAttFwdClaims.lean ====
/-
  The value claim of the cross-attention into the memory tokens.
-/
module

public import proofs.«01_k».proof.Defs
public import proofs.«01_k».proof.Proof.Gen.ReferenceMemAttFwdIdeal.Run
public import proofs.«01_k».proof.Proof.MemAttFwd

@[expose] public section

set_option maxRecDepth 16384

noncomputable section

open Idealize.ShloMosaic Idealize.ShloMosaic.TcCoe Idealize.SL.Sem
open Cert.Lift

namespace Cert.MemAttFwd
open Cert.ReferenceMemAttFwdIdeal.Read

theorem algebraic : Cert.algebraic_KernelMemAttFwdIdeal_ReferenceMemAttFwdIdeal := by
  pair_intro
  · run_from Cert.KernelMemAttFwdIdeal.Value.run_blocks m g
  · run_from Cert.ReferenceMemAttFwdIdeal.Value.run m' g'
    all_goals
      obtain ⟨e0, e1⟩ := hagree c
    · refine (val_main_v24_eq _ _).trans (Eq.trans ?_ (final2 m c).symm)
      rw [← e0, ← e1]

end Cert.MemAttFwd

end
-- ==== Proof.MergeFwd.lean ====
/-
  The gated sum of the three branches, its projection, the norm after it, and the norm before the feed-forward block.
-/
module

public import proofs.«01_k».proof.Proof.Real
public import proofs.«01_k».proof.Proof.Gen.KernelMergeFwdIdeal.Value
public import proofs.«01_k».proof.Proof.Gen.ReferenceMergeFwdIdeal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Lift

namespace Cert.MergeFwd
open Cert.KernelMergeFwdIdeal Cert.KernelMergeFwdIdeal.Gen
open Cert.ReferenceMergeFwdIdeal.Read

section
variable (x0 : Vec Ideal S8192x1024 .f32) (x1 : Vec Ideal S8192x6912 .f32) (x2 : Vec Ideal S8192x512 .f32) (x3 : Vec Ideal S8192x256 .f32) (x4 : Vec Ideal S8192x512 .f32) (x5 : Vec Ideal S512x1024 .f32) (x6 : Vec Ideal S256x1024 .f32) (x7 : Vec Ideal S512x1024 .f32) (x8 : Vec Ideal S1024x1024 .f32) (x9 : Vec Ideal S3072 .f32) (x10 : Vec Ideal S1024 .f32) (x11 : Vec Ideal S1024 .f32)
  (y : Vec Ideal S512x512 .bf16) (o : Vec Ideal S512x256 .bf16) (q : Vec Ideal S512x512 .bf16) (wy : Vec Ideal S512x1024 .bf16) (wo : Vec Ideal S256x1024 .bf16)
  (wq : Vec Ideal S512x1024 .bf16) (w : Vec Ideal S1024x1024 .bf16) (z0 z1 z2 : Vec Ideal S512x1024 .bf16) (b0 b1 b2 : Vec Ideal S1x1024 .f32)
  (v : Vec Ideal S512x1024 .f32) (g p : Vec Ideal S1x1024 .f32) (s : Fin 512 → Fin 8192)

/-! The reference's three gates are three blocks of columns of one array. -/

theorem ref12 (r : Fin 8192) (j : Fin 1024) : val_main_v12 (F := Ideal) x1 x9 (ix2 r j) = val_main_v9 (F := Ideal) x1 x9 (ix2 r ⟨j.val, by omega⟩) := by
  pointwise [val_main_v12, val_main_v11, val_main_v10]
  blk_ext

theorem ref16 (r : Fin 8192) (j : Fin 1024) : val_main_v16 (F := Ideal) x1 x9 (ix2 r j) = val_main_v9 (F := Ideal) x1 x9 (ix2 r ⟨1024 + j.val, by omega⟩) := by
  pointwise [val_main_v16, val_main_v15, val_main_v10]
  blk_ext

theorem ref21 (r : Fin 8192) (j : Fin 1024) : val_main_v21 (F := Ideal) x1 x9 (ix2 r j) = val_main_v9 (F := Ideal) x1 x9 (ix2 r ⟨2048 + j.val, by omega⟩) := by
  pointwise [val_main_v21, val_main_v20, val_main_v10]
  blk_ext

/-- The columns of the projection that the gates are made of. -/
theorem ref0 (r : Fin 8192) (k : Fin 3072) : val_main_v0 (F := Ideal) x1 (ix2 r k) = x1 (ix2 r ⟨3840 + k.val, by omega⟩) := by
  pointwise [val_main_v0]

variable (hy : ∀ r k, y (ix2 r k) = x2 (ix2 (s r) k)) (ho : ∀ r k, o (ix2 r k) = x3 (ix2 (s r) k)) (hq : ∀ r k, q (ix2 r k) = x4 (ix2 (s r) k))
  (hwy : ∀ k j, wy (ix2 k j) = x5 (ix2 k j)) (hwo : ∀ k j, wo (ix2 k j) = x6 (ix2 k j)) (hwq : ∀ k j, wq (ix2 k j) = x7 (ix2 k j))
  (hz0 : ∀ r j, z0 (ix2 r j) = val_main_v0 (F := Ideal) x1 (ix2 (s r) ⟨j.val, by omega⟩))
  (hz1 : ∀ r j, z1 (ix2 r j) = val_main_v0 (F := Ideal) x1 (ix2 (s r) ⟨1024 + j.val, by omega⟩))
  (hz2 : ∀ r j, z2 (ix2 r j) = val_main_v0 (F := Ideal) x1 (ix2 (s r) ⟨2048 + j.val, by omega⟩))
  (hb0 : ∀ j, b0 (ix2 0 j) = x9 (ix1 ⟨j.val, by omega⟩)) (hb1 : ∀ j, b1 (ix2 0 j) = x9 (ix1 ⟨1024 + j.val, by omega⟩))
  (hb2 : ∀ j, b2 (ix2 0 j) = x9 (ix1 ⟨2048 + j.val, by omega⟩))

include hy ho hq hwy hwo hwq hz0 hz1 hz2 hb0 hb1 hb2

/-- The gated sum. -/
theorem pay8 (r : Fin 512) (j : Fin 1024) :
    k0_pay8 (k0_pay3 y wy) (k0_pay4 o wo) (k0_pay5 q wq) (k0_pay6 z0 b0) (k0_pay7 z1) b1 z2 b2 (ix2 r j)
      = val_main_v24 (F := Ideal) x1 x2 x3 x4 x5 x6 x7 x9 (ix2 (s r) j) := by
  pointwise [k0_pay8, k0_pay3, k0_pay4, k0_pay5, k0_pay6, k0_pay7, val_main_v24, val_main_v23, val_main_v22, val_main_v19, val_main_v18, val_main_v17, val_main_v14,
    val_main_v13, ref12, ref16, ref21, val_main_v9, val_main_v8, val_main_cst_0, val_main_v7, val_main_v6, val_main_cst, val_main_v5, val_main_v4, val_main_v3,
    val_main_v2, val_main_v1, hy, ho, hq, hwy, hwo, hwq, hz0, hz1, hz2, hb0, hb1, hb2, zero_sub]

variable (hw : ∀ k j, w (ix2 k j) = x8 (ix2 k j))
include hw

/-- Its projection. -/
theorem pay9 (r : Fin 512) (j : Fin 1024) :
    k0_pay9 (k0_pay3 y wy) (k0_pay4 o wo) (k0_pay5 q wq) (k0_pay6 z0 b0) (k0_pay7 z1) b1 z2 b2 w (ix2 r j)
      = val_main_v25 (F := Ideal) x1 x2 x3 x4 x5 x6 x7 x8 x9 (ix2 (s r) j) := by
  have e := pay8 x1 x2 x3 x4 x5 x6 x7 x9 y o q wy wo wq z0 z1 z2 b0 b1 b2 s hy ho hq hwy hwo hwq hz0 hz1 hz2 hb0 hb1 hb2
  pointwise [k0_pay9, val_main_v25, e, hw]

variable (hv : ∀ r j, v (ix2 r j) = x0 (ix2 (s r) j)) (hg : ∀ j, g (ix2 0 j) = x10 (ix1 j))
omit hy ho hq hwy hwo hwq hz0 hz1 hz2 hb0 hb1 hb2 hw
include hv hg

/-- The state after the block. -/
theorem pay1 (d : FVec Ideal S512x1024 .f32) (hd : ∀ r j, d (ix2 r j) = val_main_v25 (F := Ideal) x1 x2 x3 x4 x5 x6 x7 x8 x9 (ix2 (s r) j))
    (r : Fin 512) (j : Fin 1024) : k0_pay1 d v g (ix2 r j) = val_main_v39 (F := Ideal) x0 x1 x2 x3 x4 x5 x6 x7 x8 x9 x10 (ix2 (s r) j) := by
  pointwise [k0_pay1, val_main_v39, val_main_v38, val_main_v37, val_main_v36, val_main_v35, val_main_v34, val_main_v33, val_main_v32, val_main_v31, val_main_cst_3,
    val_main_v30, val_main_v29, val_main_cst_2, val_main_v28, val_main_v27, val_main_cst_1, val_main_v26, hd, hv, hg]

variable (hp : ∀ j, p (ix2 0 j) = x11 (ix1 j))
include hp

/-- Its norm. -/
theorem pay2 (d : FVec Ideal S512x1024 .f32) (hd : ∀ r j, d (ix2 r j) = val_main_v25 (F := Ideal) x1 x2 x3 x4 x5 x6 x7 x8 x9 (ix2 (s r) j))
    (r : Fin 512) (j : Fin 1024) : k0_pay2 d v g p (ix2 r j) = val_main_v54 (F := Ideal) x0 x1 x2 x3 x4 x5 x6 x7 x8 x9 x10 x11 (ix2 (s r) j) := by
  have e := pay1 x0 x1 x2 x3 x4 x5 x6 x7 x8 x9 x10 v g s hv hg d hd
  pointwise [k0_pay2, val_main_v54, val_main_v53, val_main_v52, val_main_v51, val_main_v50, val_main_v49, val_main_v48, val_main_v47, val_main_v46, val_main_cst_6,
    val_main_v45, val_main_v44, val_main_cst_5, val_main_v43, val_main_v42, val_main_cst_4, val_main_v41, e, hp]

end

/-- An `if` equals what both its branches equal. -/
theorem dite_of {α : Type} {p : Prop} [Decidable p] {a : p → α} {b : ¬p → α} {x : α} (ha : ∀ h, a h = x) (hb : ∀ h, b h = x) : dite p a b = x := by
  split_ifs with h
  · exact ha h
  · exact hb h

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ win0_13.index t = ![t.val, 0]
    ∧ win0_14.index t = ![t.val, 0] ∧ win0_15.index t = ![t.val, 0] :=
  (by decide +kernel : ∀ t : Fin grid0.N, _)

theorem hrows : 8192 = cfg0.N * 512 := by rw [show cfg0.N = 16 from N_0]

variable (m : (ℓ : Loc nD τ sig) → Buf (Elt Ideal) ℓ) (c : Dev nD)

/-- The rows a grid point works on. -/
abbrev row (t : Fin cfg0.N) (r : Fin 512) : Fin 8192 := rowOf 512 hrows t r

theorem blk0 (t : Fin cfg0.N) (r : Fin 512) (k : Fin 1024) : (iblk m c 0 t : FVec Ideal S512x1024 .f32) (ix2 r k)
    = m ((c : Thread nD τ).loc main_arg0) (ix2 (row t r) k) := by
  blk_simp [iblk]
  entry_read
  blk_ext [idx t]

theorem blk1 (t : Fin cfg0.N) (r : Fin 512) (k : Fin 512) : (iblk m c 1 t : FVec Ideal S512x512 .bf16) (ix2 r k)
    = m ((c : Thread nD τ).loc main_arg2) (ix2 (row t r) k) := by
  blk_simp [iblk]
  entry_read
  blk_ext [idx t]

theorem blk2 (t : Fin cfg0.N) (r : Fin 512) (k : Fin 256) : (iblk m c 2 t : FVec Ideal S512x256 .bf16) (ix2 r k)
    = m ((c : Thread nD τ).loc main_arg3) (ix2 (row t r) k) := by
  blk_simp [iblk]
  entry_read
  blk_ext [idx t]

theorem blk3 (t : Fin cfg0.N) (r : Fin 512) (k : Fin 512) : (iblk m c 3 t : FVec Ideal S512x512 .bf16) (ix2 r k)
    = m ((c : Thread nD τ).loc main_arg4) (ix2 (row t r) k) := by
  blk_simp [iblk]
  entry_read
  blk_ext [idx t]

set_option maxHeartbeats 1000000 in
set_option maxRecDepth 200000 in
theorem blk4 (t : Fin cfg0.N) (r : Fin 512) (k : Fin 3072) : (X0_4 m c t : FVec Ideal S512x3072 .bf16) (ix2 r k)
    = val_main_v0 (F := Ideal) (m ((c : Thread nD τ).loc main_arg1)) (ix2 (row t r) k) := by
  rw [ref0]
  unfold X0_4 Pipeline.Window.fill
  rw [dif_pos (moved0_4 t _)]
  blk_simp [iblk]
  refine (congrArg (V m c main_v16) (?_ : _ = ix2 (row t r) ⟨k.val, by omega⟩)).trans ?_
  · blk_ext [idx t]
  unfold V
  after_reads_simp
  pointwise
  repeat' refine dite_of (fun _ => ?_) (fun _ => ?_)
  all_goals
    after_reads_simp
    pointwise
    try
      refine congrArg (fun q => m ((c : Thread nD τ).loc main_arg1) (ix2 (row t r) q)) (Fin.ext ?_)
      have hk := k.isLt
      simp only [] at *
      omega

theorem blk5 (t : Fin cfg0.N) (k : Fin 512) (j : Fin 1024) : (iblk m c 5 t : FVec Ideal S512x1024 .bf16) (ix2 k j)
    = m ((c : Thread nD τ).loc main_arg5) (ix2 k j) := by
  blk_simp [iblk]
  entry_read
  blk_ext [idx t]

theorem blk6 (t : Fin cfg0.N) (k : Fin 256) (j : Fin 1024) : (iblk m c 6 t : FVec Ideal S256x1024 .bf16) (ix2 k j)
    = m ((c : Thread nD τ).loc main_arg6) (ix2 k j) := by
  blk_simp [iblk]
  entry_read
  blk_ext [idx t]

theorem blk7 (t : Fin cfg0.N) (k : Fin 512) (j : Fin 1024) : (iblk m c 7 t : FVec Ideal S512x1024 .bf16) (ix2 k j)
    = m ((c : Thread nD τ).loc main_arg7) (ix2 k j) := by
  blk_simp [iblk]
  entry_read
  blk_ext [idx t]

theorem blk8 (t : Fin cfg0.N) (k : Fin 1024) (j : Fin 1024) : (iblk m c 8 t : FVec Ideal S1024x1024 .bf16) (ix2 k j)
    = m ((c : Thread nD τ).loc main_arg8) (ix2 k j) := by
  blk_simp [iblk]
  entry_read
  blk_ext [idx t]

theorem blk9 (t : Fin cfg0.N) (j : Fin 3072) : (iblk m c 9 t : FVec Ideal S1x3072 .f32) (ix2 0 j)
    = m ((c : Thread nD τ).loc main_arg9) (ix1 j) := by
  blk_simp [iblk]
  entry_read
  pointwise
  blk_ext [idx t]

theorem blk10 (t : Fin cfg0.N) (j : Fin 1024) : (iblk m c 10 t : FVec Ideal S1x1024 .f32) (ix2 0 j)
    = m ((c : Thread nD τ).loc main_arg10) (ix1 j) := by
  blk_simp [iblk]
  entry_read
  pointwise
  blk_ext [idx t]

theorem blk11 (t : Fin cfg0.N) (j : Fin 1024) : (iblk m c 11 t : FVec Ideal S1x1024 .f32) (ix2 0 j)
    = m ((c : Thread nD τ).loc main_arg11) (ix1 j) := by
  blk_simp [iblk]
  entry_read
  pointwise
  blk_ext [idx t]

set_option maxHeartbeats 1000000 in
theorem final12 : (dats m 0 c).arrAt 12 (cfgs 0).N = val_main_v39 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]
  unfold outsAt0
  frame_out
  idx_vars y
  refine (pay1 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) _ _ (row t) (fun r j => ?_) (fun j => ?_) _
    (pay9 _ _ _ _ _ _ _ _ _ _ _ _ _ _ _ _ _ _ _ _ _ _ _ (fun r k => ?_) (fun r k => ?_) (fun r k => ?_) (fun k j => ?_) (fun k j => ?_) (fun k j => ?_) (fun r j => ?_) (fun r j => ?_) (fun r j => ?_) (fun j => ?_) (fun j => ?_) (fun j => ?_) (fun k j => ?_)) y0 y1).trans ?_
  all_goals first
    | (blk_ext [idx t]; done)
    | (pointwise [blk0 m c, blk1 m c, blk2 m c, blk3 m c, blk4 m c, blk5 m c, blk6 m c, blk7 m c, blk8 m c, blk9 m c, blk10 m c, blk11 m c]; done)
    | (pointwise [blk0 m c, blk1 m c, blk2 m c, blk3 m c, blk4 m c, blk5 m c, blk6 m c, blk7 m c, blk8 m c, blk9 m c, blk10 m c, blk11 m c]; blk_ext; done)
    | (pointwise [blk0 m c, blk1 m c, blk2 m c, blk3 m c, blk4 m c, blk5 m c, blk6 m c, blk7 m c, blk8 m c, blk9 m c, blk10 m c, blk11 m c]; rfl)

set_option maxHeartbeats 1000000 in
theorem final13 : (dats m 0 c).arrAt 13 (cfgs 0).N = val_main_v40 (F := Ideal) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg9)) := by
  refine (dats m 0 c).arrAt_eq_of_covers 13 _ (by decide +kernel) fun t _ y => ?_
  blk_simp
  rw [after0_13]
  unfold outsAt0
  frame_out
  idx_vars y
  refine (pay8 _ _ _ _ _ _ _ _ _ _ _ _ _ _ _ _ _ _ _ _ (row t) (fun r k => ?_) (fun r k => ?_) (fun r k => ?_) (fun k j => ?_) (fun k j => ?_) (fun k j => ?_) (fun r j => ?_) (fun r j => ?_) (fun r j => ?_) (fun j => ?_) (fun j => ?_) (fun j => ?_) y0 y1).trans
    (Eq.trans (b := val_main_v40 (F := Ideal) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg9)) (ix2 (row t y0) y1)) rfl ?_)
  all_goals first
    | (blk_ext [idx t]; done)
    | (pointwise [blk0 m c, blk1 m c, blk2 m c, blk3 m c, blk4 m c, blk5 m c, blk6 m c, blk7 m c, blk8 m c, blk9 m c, blk10 m c, blk11 m c]; done)
    | (pointwise [blk0 m c, blk1 m c, blk2 m c, blk3 m c, blk4 m c, blk5 m c, blk6 m c, blk7 m c, blk8 m c, blk9 m c, blk10 m c, blk11 m c]; blk_ext; done)
    | (pointwise [blk0 m c, blk1 m c, blk2 m c, blk3 m c, blk4 m c, blk5 m c, blk6 m c, blk7 m c, blk8 m c, blk9 m c, blk10 m c, blk11 m c]; rfl)

set_option maxHeartbeats 1000000 in
theorem final14 : (dats m 0 c).arrAt 14 (cfgs 0).N = val_main_v25 (F := Ideal) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) := by
  refine (dats m 0 c).arrAt_eq_of_covers 14 _ (by decide +kernel) fun t _ y => ?_
  blk_simp
  rw [after0_14]
  unfold outsAt0
  frame_out
  idx_vars y
  refine (pay9 (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) _ _ _ _ _ _ _ _ _ _ _ _ _ (row t) (fun r k => ?_) (fun r k => ?_) (fun r k => ?_) (fun k j => ?_) (fun k j => ?_) (fun k j => ?_) (fun r j => ?_) (fun r j => ?_) (fun r j => ?_) (fun j => ?_) (fun j => ?_) (fun j => ?_) (fun k j => ?_) y0 y1).trans ?_
  all_goals first
    | (blk_ext [idx t]; done)
    | (pointwise [blk0 m c, blk1 m c, blk2 m c, blk3 m c, blk4 m c, blk5 m c, blk6 m c, blk7 m c, blk8 m c, blk9 m c, blk10 m c, blk11 m c]; done)
    | (pointwise [blk0 m c, blk1 m c, blk2 m c, blk3 m c, blk4 m c, blk5 m c, blk6 m c, blk7 m c, blk8 m c, blk9 m c, blk10 m c, blk11 m c]; blk_ext; done)
    | (pointwise [blk0 m c, blk1 m c, blk2 m c, blk3 m c, blk4 m c, blk5 m c, blk6 m c, blk7 m c, blk8 m c, blk9 m c, blk10 m c, blk11 m c]; rfl)

set_option maxHeartbeats 1000000 in
theorem final15 : (dats m 0 c).arrAt 15 (cfgs 0).N = val_main_v54 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15]
  unfold outsAt0
  frame_out
  idx_vars y
  refine (pay2 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) _ _ _ (row t) (fun r j => ?_) (fun j => ?_) (fun j => ?_) _
    (pay9 _ _ _ _ _ _ _ _ _ _ _ _ _ _ _ _ _ _ _ _ _ _ _ (fun r k => ?_) (fun r k => ?_) (fun r k => ?_) (fun k j => ?_) (fun k j => ?_) (fun k j => ?_) (fun r j => ?_) (fun r j => ?_) (fun r j => ?_) (fun j => ?_) (fun j => ?_) (fun j => ?_) (fun k j => ?_)) y0 y1).trans ?_
  all_goals first
    | (blk_ext [idx t]; done)
    | (pointwise [blk0 m c, blk1 m c, blk2 m c, blk3 m c, blk4 m c, blk5 m c, blk6 m c, blk7 m c, blk8 m c, blk9 m c, blk10 m c, blk11 m c]; done)
    | (pointwise [blk0 m c, blk1 m c, blk2 m c, blk3 m c, blk4 m c, blk5 m c, blk6 m c, blk7 m c, blk8 m c, blk9 m c, blk10 m c, blk11 m c]; blk_ext; done)
    | (pointwise [blk0 m c, blk1 m c, blk2 m c, blk3 m c, blk4 m c, blk5 m c, blk6 m c, blk7 m c, blk8 m c, blk9 m c, blk10 m c, blk11 m c]; rfl)

end Cert.MergeFwd

end
-- ==== Proof.MergeFwdClaims.lean ====
/-
  The value claim of the gated sum of the branches and its two norms.
-/
module

public import proofs.«01_k».proof.Defs
public import proofs.«01_k».proof.Proof.Gen.ReferenceMergeFwdIdeal.Run
public import proofs.«01_k».proof.Proof.MergeFwd

@[expose] public section

set_option maxRecDepth 16384

noncomputable section

open Idealize.ShloMosaic Idealize.ShloMosaic.TcCoe Idealize.SL.Sem
open Cert.Lift

namespace Cert.MergeFwd
open Cert.ReferenceMergeFwdIdeal.Read

set_option maxHeartbeats 2000000 in
theorem algebraic : Cert.algebraic_KernelMergeFwdIdeal_ReferenceMergeFwdIdeal := by
  pair_intro
  · run_from Cert.KernelMergeFwdIdeal.Value.run_blocks m g
  · run_from Cert.ReferenceMergeFwdIdeal.Value.run m' g'
    all_goals
      obtain ⟨e0, e1, e2, e3, e4, e5, e6, e7, e8, e9, e10, e11⟩ := hagree c
    · refine (val_main_v39_eq m' c).trans (Eq.trans ?_ (final12 m c).symm)
      rw [← e0, ← e1, ← e2, ← e3, ← e4, ← e5, ← e6, ← e7, ← e8, ← e9, ← e10]
    · refine (val_main_v40_eq (F := Ideal) _ _ _ _ _ _ _ _).trans (Eq.trans ?_ (final13 m c).symm)
      rw [← e1, ← e2, ← e3, ← e4, ← e5, ← e6, ← e7, ← e9]
    · refine Eq.trans ?_ (final14 m c).symm
      refine (val_main_v25_eq (F := Ideal) _ _ _ _ _ _ _ _ _).trans ?_
      rw [← e1, ← e2, ← e3, ← e4, ← e5, ← e6, ← e7, ← e8, ← e9]
    · refine (val_main_v54_eq m' c).trans (Eq.trans ?_ (final15 m c).symm)
      rw [← e0, ← e1, ← e2, ← e3, ← e4, ← e5, ← e6, ← e7, ← e8, ← e9, ← e10, ← e11]

end Cert.MergeFwd

end
-- ==== Proof.Norm.lean ====
/-
  The norm before the token mixer: the kernel and the reference.
-/
module

public import proofs.«01_k».proof.Proof.Real
public import proofs.«01_k».proof.Proof.Gen.KernelNormIdeal.Value
public import proofs.«01_k».proof.Proof.Gen.ReferenceNormIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.Norm
open Cert.KernelNormIdeal Cert.KernelNormIdeal.Gen
open Cert.ReferenceNormIdeal.Read

/-- The kernel's block of rows `s` is the reference's rows. -/
theorem pay1 (x0 : Vec Ideal S8192x1024 .f32) (x1 : Vec Ideal S1024 .f32) (v0 : Vec Ideal S512x1024 .f32) (v1 : Vec Ideal S1x1024 .f32) (s : Fin 512 → Fin 8192)
    (h0 : ∀ r j, v0 (ix2 r j) = x0 (ix2 (s r) j)) (h1 : ∀ j, v1 (ix2 0 j) = x1 (ix1 j)) (r : Fin 512) (j : Fin 1024) :
    k0_pay1 v0 v1 (ix2 r j) = val_main_v13 (F := Ideal) x0 x1 (ix2 (s r) j) := by
  pointwise [k0_pay1, val_main_v13, val_main_v12, val_main_v11, val_main_v10, val_main_v9, val_main_v8, val_main_v7, val_main_v6, val_main_v5, val_main_cst_1,
    val_main_v4, val_main_v3, val_main_cst_0, val_main_v2, val_main_v1, val_main_cst, val_main_v0, h0, h1]

theorem idx : ∀ t : Fin cfg0.N, win0_0.index t = ![t.val, 0] ∧ win0_1.index t = ![0, 0] ∧ win0_2.index t = ![t.val, 0] :=
  (by decide +kernel : ∀ t : Fin grid0.N, _)

theorem hrows : 8192 = cfg0.N * 512 := by rw [show cfg0.N = 16 from N_0]

variable (m : (ℓ : Loc nD τ sig) → Buf (Elt Ideal) ℓ) (c : Dev nD)

theorem blk0 (t : Fin cfg0.N) (r : Fin 512) (j : Fin 1024) : (iblk m c 0 t : FVec Ideal S512x1024 .f32) (ix2 r j)
    = m ((c : Thread nD τ).loc main_arg0) (ix2 (rowOf 512 hrows t r) j) := by
  blk_simp [iblk]
  entry_read
  blk_ext [idx t]

theorem blk1 (t : Fin cfg0.N) (j : Fin 1024) : (iblk m c 1 t : FVec Ideal S1x1024 .f32) (ix2 0 j) = m ((c : Thread nD τ).loc main_arg1) (ix1 j) := by
  blk_simp [iblk]
  entry_read
  pointwise
  blk_ext [idx t]

theorem final2 : (dats m 0 c).arrAt 2 (cfgs 0).N = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  have key : out0_2 (iblk m c 0 t) (iblk m c 1 t) = k0_pay1 (iblk m c 0 t) (iblk m c 1 t) := by
    frame_out
  rw [key]
  idx_vars y
  rw [pay1 _ _ _ _ (rowOf 512 hrows t) (blk0 m c t) (blk1 m c t)]
  blk_ext [idx t]

end Cert.Norm

end
-- ==== Proof.NormClaims.lean ====
/-
  The value claim of the norm before the token mixer.
-/
module

public import proofs.«01_k».proof.Defs
public import proofs.«01_k».proof.Proof.Gen.ReferenceNormIdeal.Run
public import proofs.«01_k».proof.Proof.Norm

@[expose] public section

set_option maxRecDepth 16384

noncomputable section

open Idealize.ShloMosaic Idealize.ShloMosaic.TcCoe Idealize.SL.Sem
open Cert.Lift

namespace Cert.Norm
open Cert.ReferenceNormIdeal.Read

theorem algebraic : Cert.algebraic_KernelNormIdeal_ReferenceNormIdeal := by
  pair_intro
  · run_from Cert.KernelNormIdeal.Value.run_blocks m g
  · run_from Cert.ReferenceNormIdeal.Value.run m' g'
    all_goals
      obtain ⟨e0, e1⟩ := hagree c
    · refine (val_main_v13_eq _ _).trans (Eq.trans ?_ (final2 m c).symm)
      rw [← e0, ← e1]

end Cert.Norm

end
-- ==== Proof.AttPrep.lean ====
/-
  The gradient of the dilated attention's weighted sum with respect to one scale per head, packed with the log-sums.
-/
module

public import proofs.«01_k».proof.Proof.Real
public import proofs.«01_k».proof.Proof.Gen.KernelAttPrepIdeal.Value
public import proofs.«01_k».proof.Proof.Gen.ReferenceAttPrepIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.AttPrep
open Cert.KernelAttPrepIdeal Cert.KernelAttPrepIdeal.Gen
open Cert.ReferenceAttPrepIdeal.Read

/-- The head a column belongs to. -/
abbrev head (j : Fin 256) : Fin 4 := ⟨j.val / 64, by omega⟩

/-- A column's place in its head. -/
theorem lane (r : Fin 1024) (j : Fin 256) : k0_pay7 (ix2 r j) = BitVec.ofNat 32 (j.val % 64) := by
  pointwise [k0_pay7]
  revert j
  decide +kernel

theorem low (j : Fin 256) : Scalar.cmpi .slt (BitVec.ofNat 32 (j.val % 64)) 32#32 = if j.val % 64 < 32 then 1#1 else 0#1 := by
  revert j
  decide +kernel

/-- One head's products, summed over its columns. -/
abbrev dot (x y : (S8192x256).Idx → EReal) (r : Fin 8192) (h : Fin 4) : EReal :=
  ∑ e : Fin 64, x (ix2 r ⟨64 * h.val + e.val, by omega⟩) * y (ix2 r ⟨64 * h.val + e.val, by omega⟩)

section
variable (d o : Vec Ideal S1024x256 .bf16) (l : Vec Ideal S1024x256 .f32)

theorem pay (r : Fin 1024) (j : Fin 256) :
    k0_pay1 (k0_pay3 d o) (k0_pay4 d o) (k0_pay5 d o) (k0_pay6 d o) k0_pay7 32#32 l (ix2 r j)
      = if j.val % 64 < 32 then l (ix2 r j)
        else ∑ e : Fin 64, d (ix2 r ⟨64 * (j.val / 64) + e.val, by omega⟩) * o (ix2 r ⟨64 * (j.val / 64) + e.val, by omega⟩) := by
  pointwise [k0_pay1, k0_pay2, k0_pay3, k0_pay4, k0_pay5, k0_pay6, lane]
  have h := low j
  unfold Scalar.cmpi at h
  rw [h]
  by_cases hl : j.val % 64 < 32
  · rw [if_pos hl, if_pos hl]; rfl
  · rw [if_neg hl, if_neg hl]
    refine (?_ : _ = _)
    show (if h : _ then _ else _) = _
    split_ifs <;> exact Finset.sum_congr rfl fun e _ => by congr 3 <;> (apply Fin.ext; simp only []; omega)

variable (x0 x1 x2 x6 : Vec Ideal S8192x256 .f32) (x3 x4 x5 : Vec Ideal S8192x4 .f32)

theorem ref (r : Fin 8192) (j : Fin 256) : val_main_v48 (F := Ideal) x0 x1 x2 x3 x4 x5 x6 (ix2 r j)
      = if j.val % 64 < 32 then val_main_v33 (F := Ideal) x3 x4 x5 (ix2 r (head j))
        else ∑ e : Fin 64, x6 (ix2 r ⟨64 * (j.val / 64) + e.val, by omega⟩) * val_main_v26 (F := Ideal) x0 x1 x2 x3 x4 x5 (ix3 r (head j) e) := by
  pointwise [val_main_v48, val_main_v47, val_main_v46, val_main_v45, val_main_v44, val_main_v43, val_main_v42, val_main_cst_7, val_main_v41, val_main_v40, val_main_cst_6,
    val_main_v39, val_main_v38]
  by_cases hl : j.val % 64 < 32
  · rw [dif_pos hl, if_pos hl]
  · rw [dif_neg hl, if_neg hl, Fin.sum_univ_one]
    exact Finset.sum_congr rfl fun e _ => by congr 3; apply Fin.ext; simp only []; omega

end

theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem hrows : 8192 = cfg0.N * 1024 := by rw [show cfg0.N = 8 from N_0]

variable (m : (ℓ : Loc nD τ sig) → Buf (Elt Ideal) ℓ) (c : Dev nD)

/-- The rows a grid point works on. -/
abbrev row (t : Fin cfg0.N) (r : Fin 1024) : Fin 8192 := rowOf 1024 hrows t r

theorem blk0 (t : Fin cfg0.N) (r : Fin 1024) (j : Fin 256) : (iblk m c 0 t : FVec Ideal S1024x256 .bf16) (ix2 r j)
    = m ((c : Thread nD τ).loc main_arg6) (ix2 (row t r) j) := by
  blk_simp [iblk]
  entry_read
  blk_ext [idx t]

/-- The weighted sum and the log-sum that the host's lines hand to the call are the reference's. -/
theorem arr1 : (V m c main_v39 : FVec Ideal S8192x256 .bf16) = truncf (F := Ideal) .bf16 (shapeCast S8192x256 (val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)))
    shapeCasts_S8192x4x64_S8192x256) bitsLt_bf16_f32 := by
  unfold V
  after_results_simp <;> (try dsimp only [Matrix.cons_val]) <;> (try after_results_simp) <;> rfl

theorem arr2 : (V m c main_v36 : FVec Ideal S8192x256 .f32) = shapeCast S8192x256 (broadcastInDim S8192x4x64 ![0, 1, 2] bcast_S8192x4x1_S8192x4x64_0_1_2
    (broadcastInDim S8192x4x1 ![0, 1] bcast_S8192x4_S8192x4x1_0_1 (val_main_v33 (F := Ideal) (m ((c : Thread nD τ).loc main_arg3)) (m ((c : Thread nD τ).loc main_arg4))
    (m ((c : Thread nD τ).loc main_arg5))))) shapeCasts_S8192x4x64_S8192x256 := by
  unfold V
  after_results_simp <;> (try dsimp only [Matrix.cons_val]) <;> (try after_results_simp) <;> rfl

theorem blk1 (t : Fin cfg0.N) (r : Fin 1024) (j : Fin 256) : (iblk m c 1 t : FVec Ideal S1024x256 .bf16) (ix2 r j)
    = val_main_v26 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix3 (row t r) (head j) ⟨j.val % 64, by omega⟩) := by
  blk_simp [iblk]
  refine (congrFun (arr1 m c) _).trans ?_
  pointwise

  refine congrArg _ ?_
  blk_ext [idx t]

theorem blk2 (t : Fin cfg0.N) (r : Fin 1024) (j : Fin 256) : (iblk m c 2 t : FVec Ideal S1024x256 .f32) (ix2 r j)
    = val_main_v33 (F := Ideal) (m ((c : Thread nD τ).loc main_arg3)) (m ((c : Thread nD τ).loc main_arg4)) (m ((c : Thread nD τ).loc main_arg5))
        (ix2 (row t r) (head j)) := by
  blk_simp [iblk]
  refine (congrFun (arr2 m c) _).trans ?_
  pointwise

  refine congrArg _ ?_
  blk_ext [idx t]

theorem final3 : (dats m 0 c).arrAt 3 (cfgs 0).N = val_main_v48 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  refine (dats m 0 c).arrAt_eq_of_covers 3 _ (by decide +kernel) fun t _ y => ?_
  blk_simp
  rw [after0_3]
  frame_out
  idx_vars y
  refine (pay (iblk m c 0 t) (iblk m c 1 t) (iblk m c 2 t) y0 y1).trans ?_
  refine Eq.trans ?_ ((ref _ _ _ _ _ _ _ (row t y0) y1).symm.trans (congrArg _ (by blk_ext [idx t])))
  rw [blk2 m c t y0 y1]
  refine ite_congr rfl (fun _ => rfl) fun _ => Finset.sum_congr rfl fun e _ => ?_
  rw [blk0 m c t, blk1 m c t]
  have h0 : (64 * (y1.val / 64) + e.val) / 64 = y1.val / 64 := by omega
  have h1 : (64 * (y1.val / 64) + e.val) % 64 = e.val := by omega
  simp only [head, h0, h1]

end Cert.AttPrep

end
-- ==== Proof.AttPrepClaims.lean ====
/-
  The value claim of the packed gradient of the dilated attention's weighted sum.
-/
module

public import proofs.«01_k».proof.Defs
public import proofs.«01_k».proof.Proof.Gen.ReferenceAttPrepIdeal.Run
public import proofs.«01_k».proof.Proof.AttPrep

@[expose] public section

set_option maxRecDepth 262144

noncomputable section

open Idealize.ShloMosaic Idealize.ShloMosaic.TcCoe Idealize.SL.Sem
open Cert.Lift

namespace Cert.AttPrep
open Cert.ReferenceAttPrepIdeal.Read

theorem algebraic : Cert.algebraic_KernelAttPrepIdeal_ReferenceAttPrepIdeal := by
  pair_intro
  · run_from Cert.KernelAttPrepIdeal.Value.run_blocks m g
  · run_from Cert.ReferenceAttPrepIdeal.Value.run m' g'
    obtain ⟨e0, e1, e2, e3, e4, e5, e6⟩ := hagree c
    refine (val_main_v48_eq m' c).trans (Eq.trans ?_ (final3 m c).symm)
    rw [← e0, ← e1, ← e2, ← e3, ← e4, ← e5, ← e6]

end Cert.AttPrep

end
-- ==== Proof.AttCombine.lean ====
/-
  The groups of the dilated attention, weighted by the softmax of their log-sums, and the log-sum over all the groups.
-/
module

public import proofs.«01_k».proof.Proof.Real
public import proofs.«01_k».proof.Proof.Soft
public import proofs.«01_k».proof.Proof.Gen.KernelAttCombineIdeal.Value
public import proofs.«01_k».proof.Proof.Gen.ReferenceAttCombineIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift
open Cert.Soft (ofBits_bot)

namespace Cert.AttCombine
open Cert.KernelAttCombineIdeal Cert.KernelAttCombineIdeal.Gen
open Cert.ReferenceAttCombineIdeal.Read

/-- The head a column belongs to, and its place in it. -/
abbrev head (j : Fin 256) : Fin 4 := ⟨j.val / 64, by omega⟩
abbrev lane (j : Fin 256) : Fin 64 := ⟨j.val % 64, by omega⟩

/-- The largest of three, folded from the least extended real. -/
theorem fold_max3 (f : Fin 3 → EReal) : Finset.univ.fold max (⊥ : EReal) f = max (max (f 0) (f 1)) (f 2) := by
  rw [Fin.univ_succ, Finset.fold_cons, Finset.fold_map, Fin.univ_succ, Finset.fold_cons, Finset.fold_map, Fin.univ_succ, Finset.fold_cons, Finset.fold_map]
  simp [max_assoc]

theorem col (j : Fin 256) (h : 64 * (j.val / 64) + j.val % 64 < 256) : (⟨64 * (j.val / 64) + j.val % 64, h⟩ : Fin 256) = j := Fin.ext (Nat.div_add_mod _ _)

section
variable (x0 x1 x2 : Vec Ideal S8192x256 .f32) (x3 x4 x5 : Vec Ideal S8192x4 .f32)
  (o0 o1 o2 : Vec Ideal S1024x256 .bf16) (l0 l1 l2 : Vec Ideal S1024x256 .f32) (s : Fin 1024 → Fin 8192)
  (ho0 : ∀ r j, o0 (ix2 r j) = x0 (ix2 (s r) j)) (ho1 : ∀ r j, o1 (ix2 r j) = x1 (ix2 (s r) j)) (ho2 : ∀ r j, o2 (ix2 r j) = x2 (ix2 (s r) j))
  (hl0 : ∀ r j, l0 (ix2 r j) = x3 (ix2 (s r) (head j))) (hl1 : ∀ r j, l1 (ix2 r j) = x4 (ix2 (s r) (head j)))
  (hl2 : ∀ r j, l2 (ix2 r j) = x5 (ix2 (s r) (head j)))

theorem ref10 (g : Fin 3) (r : Fin 8192) (h : Fin 4) : val_main_v10 (F := Ideal) x3 x4 x5 (ix3 g r h) = (![x3, x4, x5] g) (ix2 r h) := by
  fin_cases g <;> (pointwise [val_main_v10, val_main_v9, val_main_v8, val_main_v7])

theorem ref6 (g : Fin 3) (r : Fin 8192) (h : Fin 4) (e : Fin 64) : val_main_v6 (F := Ideal) x0 x1 x2 (ix4 g r h e)
    = (![x0, x1, x2] g) (ix2 r ⟨64 * h.val + e.val, by omega⟩) := by
  fin_cases g <;> (pointwise [val_main_v6, val_main_v5, val_main_v4, val_main_v3, val_main_v2, val_main_v1, val_main_v0]; blk_ext)

theorem ref11 (r : Fin 8192) (h : Fin 4) : val_main_v11 (F := Ideal) x3 x4 x5 (ix2 r h)
    = max (max (x3 (ix2 r h)) (x4 (ix2 r h))) (x5 (ix2 r h)) := by
  pointwise [val_main_v11, val_main_cst, ref10, ofBits_bot, fold_max3]
  try rfl

include hl0 hl1 hl2

theorem pay10 (r : Fin 1024) (j : Fin 256) : k0_pay10 l0 l1 l2 (ix2 r j) = val_main_v38 (F := Ideal) x3 x4 x5 (ix2 (s r) j) := by
  have e : ∀ r h, val_main_v26 (F := Ideal) x3 x4 x5 (ix2 r h) = _ := ref11 x3 x4 x5
  pointwise [k0_pay10, k0_pay8, k0_pay7, k0_pay6, k0_pay5, k0_pay4, k0_pay3, k0_pay2, k0_pay1, val_main_v38, val_main_v37, val_main_v36, val_main_v33, val_main_v32, val_main_v31,
    val_main_cst_4, val_main_v30, val_main_v29, val_main_v28, val_main_v27, ref10, hl0, hl1, hl2, e, Fin.sum_univ_three]
  try rfl

include ho0 ho1 ho2

theorem pay9 (r : Fin 1024) (j : Fin 256) : k0_pay9 l0 l1 l2 o0 o1 o2 (ix2 r j) = val_main_v35 (F := Ideal) x0 x1 x2 x3 x4 x5 (ix2 (s r) j) := by
  have e := ref11 x3 x4 x5
  pointwise [k0_pay9, k0_pay8, k0_pay7, k0_pay6, k0_pay5, k0_pay4, k0_pay3, k0_pay2, k0_pay1, val_main_v35, val_main_v34, val_main_v25, val_main_cst_2, val_main_v24, val_main_v23,
    val_main_v22, val_main_v21, val_main_v20, val_main_v19, val_main_v18, val_main_cst_1, val_main_v17, val_main_v16, val_main_v15, val_main_v14, val_main_v13, val_main_v12, val_main_cst_0,
    e, ofBits_bot, ref6, ref10, hl0, hl1, hl2, ho0, ho1, ho2, Fin.sum_univ_three, bot_sup_eq]
  simp only [col]

end

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem hrows : 8192 = cfg0.N * 1024 := by rw [show cfg0.N = 8 from N_0]

variable (m : (ℓ : Loc nD τ sig) → Buf (Elt Ideal) ℓ) (c : Dev nD)

/-- The rows a grid point works on. -/
abbrev row (t : Fin cfg0.N) (r : Fin 1024) : Fin 8192 := rowOf 1024 hrows t r

theorem blk0 (t : Fin cfg0.N) (r : Fin 1024) (j : Fin 256) : (iblk m c 0 t : FVec Ideal S1024x256 .bf16) (ix2 r j)
    = m ((c : Thread nD τ).loc main_arg0) (ix2 (row t r) j) := by
  blk_simp [iblk]
  entry_read
  blk_ext [idx t]

theorem blk1 (t : Fin cfg0.N) (r : Fin 1024) (j : Fin 256) : (iblk m c 1 t : FVec Ideal S1024x256 .bf16) (ix2 r j)
    = m ((c : Thread nD τ).loc main_arg1) (ix2 (row t r) j) := by
  blk_simp [iblk]
  entry_read
  blk_ext [idx t]

theorem blk2 (t : Fin cfg0.N) (r : Fin 1024) (j : Fin 256) : (iblk m c 2 t : FVec Ideal S1024x256 .bf16) (ix2 r j)
    = m ((c : Thread nD τ).loc main_arg2) (ix2 (row t r) j) := by
  blk_simp [iblk]
  entry_read
  blk_ext [idx t]

theorem blk3 (t : Fin cfg0.N) (r : Fin 1024) (j : Fin 256) : (iblk m c 3 t : FVec Ideal S1024x256 .f32) (ix2 r j)
    = m ((c : Thread nD τ).loc main_arg3) (ix2 (row t r) (head j)) := by
  blk_simp [iblk]
  entry_read
  pointwise
  blk_ext [idx t]

theorem blk4 (t : Fin cfg0.N) (r : Fin 1024) (j : Fin 256) : (iblk m c 4 t : FVec Ideal S1024x256 .f32) (ix2 r j)
    = m ((c : Thread nD τ).loc main_arg4) (ix2 (row t r) (head j)) := by
  blk_simp [iblk]
  entry_read
  pointwise
  blk_ext [idx t]

theorem blk5 (t : Fin cfg0.N) (r : Fin 1024) (j : Fin 256) : (iblk m c 5 t : FVec Ideal S1024x256 .f32) (ix2 r j)
    = m ((c : Thread nD τ).loc main_arg5) (ix2 (row t r) (head j)) := by
  blk_simp [iblk]
  entry_read
  pointwise
  blk_ext [idx t]

theorem final6 : (dats m 0 c).arrAt 6 (cfgs 0).N = val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  idx_vars y
  refine (pay9 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) _ _ _ _ _ _ (row t) (blk0 m c t) (blk1 m c t) (blk2 m c t) (blk3 m c t) (blk4 m c t) (blk5 m c t) y0 y1).trans ?_
  refine congrArg _ ?_
  blk_ext [idx t]

theorem final7 : (dats m 0 c).arrAt 7 (cfgs 0).N = val_main_v38 (F := Ideal) (m ((c : Thread nD τ).loc main_arg3)) (m ((c : Thread nD τ).loc main_arg4))
    (m ((c : Thread nD τ).loc main_arg5)) := by
  refine (dats m 0 c).arrAt_eq_of_covers 7 _ (by decide +kernel) fun t _ y => ?_
  blk_simp
  rw [after0_7]
  frame_out
  idx_vars y
  refine (pay10 (m ((c : Thread nD τ).loc main_arg3)) (m ((c : Thread nD τ).loc main_arg4)) (m ((c : Thread nD τ).loc main_arg5)) _ _ _ (row t)
    (blk3 m c t) (blk4 m c t) (blk5 m c t) y0 y1).trans ?_
  refine congrArg _ ?_
  blk_ext [idx t]

end Cert.AttCombine

end
-- ==== Proof.AttCombineClaims.lean ====
/-
  The value claim of the weighted sum of the dilated attention's groups.
-/
module

public import proofs.«01_k».proof.Defs
public import proofs.«01_k».proof.Proof.Gen.ReferenceAttCombineIdeal.Run
public import proofs.«01_k».proof.Proof.AttCombine

@[expose] public section

set_option maxRecDepth 262144

noncomputable section

open Idealize.ShloMosaic Idealize.ShloMosaic.TcCoe Idealize.SL.Sem
open Cert.Lift

namespace Cert.AttCombine
open Cert.ReferenceAttCombineIdeal.Read

theorem algebraic : Cert.algebraic_KernelAttCombineIdeal_ReferenceAttCombineIdeal := by
  pair_intro
  · run_from Cert.KernelAttCombineIdeal.Value.run_blocks m g
  · run_from Cert.ReferenceAttCombineIdeal.Value.run m' g'
    all_goals
      obtain ⟨e0, e1, e2, e3, e4, e5⟩ := hagree c
    · refine (val_main_v35_eq m' c).trans (Eq.trans ?_ (final6 m c).symm)
      rw [← e0, ← e1, ← e2, ← e3, ← e4, ← e5]
    · refine (val_main_v38_eq (F := Ideal) _ _ _).trans (Eq.trans ?_ (final7 m c).symm)
      rw [← e3, ← e4, ← e5]

end Cert.AttCombine

end
-- ==== Proof.Mm.lean ====
/-
  The input projection of a token mixer: the kernel and the reference.
-/
module

public import proofs.«01_k».proof.Proof.Real
public import proofs.«01_k».proof.Proof.Gen.KernelMmIdeal.Value
public import proofs.«01_k».proof.Proof.Gen.ReferenceMmIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.Mm
open Cert.KernelMmIdeal Cert.KernelMmIdeal.Gen
open Cert.ReferenceMmIdeal.Read

/-- The kernel's block of rows `s` is the reference's rows. -/
theorem pay1 (x0 : Vec Ideal S8192x1024 .f32) (x1 : Vec Ideal S1024x6912 .f32) (v0 : Vec Ideal S512x1024 .bf16) (v2 : Vec Ideal S1024x6912 .bf16)
    (s : Fin 512 → Fin 8192) (h0 : ∀ r k, v0 (ix2 r k) = x0 (ix2 (s r) k)) (h2 : ∀ k j, v2 (ix2 k j) = x1 (ix2 k j)) (r : Fin 512) (j : Fin 6912) :
    k0_pay1 v0 v2 (ix2 r j) = val_main_v1 (F := Ideal) x0 x1 (ix2 (s r) j) := by
  pointwise [k0_pay1, val_main_v1, val_main_v0, h0, h2, zero_add]

theorem idx : ∀ t : Fin cfg0.N, win0_0.index t = ![t.val, 0] ∧ win0_1.index t = ![0, 0] ∧ win0_2.index t = ![t.val, 0] :=
  (by decide +kernel : ∀ t : Fin grid0.N, _)

theorem hrows : 8192 = cfg0.N * 512 := by rw [show cfg0.N = 16 from N_0]

variable (m : (ℓ : Loc nD τ sig) → Buf (Elt Ideal) ℓ) (c : Dev nD)

theorem blk0 (t : Fin cfg0.N) (r : Fin 512) (k : Fin 1024) : (iblk m c 0 t : FVec Ideal S512x1024 .bf16) (ix2 r k)
    = m ((c : Thread nD τ).loc main_arg0) (ix2 (rowOf 512 hrows t r) k) := by
  blk_simp [iblk]
  entry_read
  pointwise
  blk_ext [idx t]

theorem blk1 (t : Fin cfg0.N) (k : Fin 1024) (j : Fin 6912) : (iblk m c 1 t : FVec Ideal S1024x6912 .bf16) (ix2 k j)
    = m ((c : Thread nD τ).loc main_arg1) (ix2 k j) := by
  blk_simp [iblk]
  entry_read
  pointwise
  blk_ext [idx t]

theorem final2 : (dats m 0 c).arrAt 2 (cfgs 0).N = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  have key : out0_2 (iblk m c 0 t) (iblk m c 1 t) = k0_pay1 (iblk m c 0 t) (iblk m c 1 t) := by
    frame_out
  rw [key]
  idx_vars y
  rw [pay1 _ _ _ _ (rowOf 512 hrows t) (blk0 m c t) (blk1 m c t)]
  blk_ext [idx t]

end Cert.Mm

end
-- ==== Proof.MmClaims.lean ====
/-
  The value claim of the input projection of a token mixer.
-/
module

public import proofs.«01_k».proof.Defs
public import proofs.«01_k».proof.Proof.Gen.ReferenceMmIdeal.Run
public import proofs.«01_k».proof.Proof.Mm

@[expose] public section

set_option maxRecDepth 16384

noncomputable section

open Idealize.ShloMosaic Idealize.ShloMosaic.TcCoe Idealize.SL.Sem
open Cert.Lift

namespace Cert.Mm
open Cert.ReferenceMmIdeal.Read

theorem algebraic : Cert.algebraic_KernelMmIdeal_ReferenceMmIdeal := by
  pair_intro
  · run_from Cert.KernelMmIdeal.Value.run_blocks m g
  · run_from Cert.ReferenceMmIdeal.Value.run m' g'
    obtain ⟨e0, e1⟩ := hagree c
    refine (val_main_v1_eq _ _).trans (Eq.trans ?_ (final2 m c).symm)
    rw [← e0, ← e1]

end Cert.Mm

end
-- ==== Proof.MmGrad.lean ====
/-
  The gradient of the input projection's weights: the kernel and the reference.
-/
module

public import proofs.«01_k».proof.Proof.Real
public import proofs.«01_k».proof.Proof.Gen.KernelMmGradIdeal.Value
public import proofs.«01_k».proof.Proof.Gen.ReferenceMmGradIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.MmGrad
open Cert.KernelMmGradIdeal Cert.KernelMmGradIdeal.Gen
open Cert.ReferenceMmGradIdeal.Read

/-- A block's share of the product. -/
def part (v5 : Vec Ideal S2048x1024 .bf16) (v7 : Vec Ideal S2048x1152 .bf16) (i : S1024x1152.Idx) : EReal :=
  ∑ r : Fin 2048, (v5 (ix2 r (i 0)) * v7 (ix2 r (i 1)) : EReal)

theorem pay2 (acc : Vec Ideal S1024x1152 .f32) (v5 : Vec Ideal S2048x1024 .bf16) (v7 : Vec Ideal S2048x1152 .bf16) (i : S1024x1152.Idx) :
    k0_pay2 acc v5 v7 i = acc i + part v5 v7 i := by
  idx_vars i
  pointwise [k0_pay2, part, zero_add]

/-- The gradient, as a sum over the rows. -/
theorem ref2 (x0 : Vec Ideal S8192x1024 .f32) (x2 : Vec Ideal S8192x6912 .f32) (a : Fin 1024) (j : Fin 6912) :
    val_main_v2 (F := Ideal) x0 x2 (ix2 a j) = ∑ s : Fin 8192, x0 (ix2 s a) * x2 (ix2 s j) := by
  pointwise [val_main_v2, val_main_v1]
  exact Finset.sum_congr rfl fun s _ => mul_comm _ _

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem hN : cfg0.N = 24 := N_0

variable (m : (ℓ : Loc nD τ sig) → Buf (Elt Ideal) ℓ) (c : Dev nD)

/-- Row `r` of the rows of point `t`. -/
abbrev row (t : Fin cfg0.N) (r : Fin 2048) : Fin 8192 := ⟨t.val % 4 * 2048 + r.val, by omega⟩

/-- Column `b` of the columns of point `t`. -/
abbrev col (t : Fin cfg0.N) (b : Fin 1152) : Fin 6912 := ⟨t.val / 4 * 1152 + b.val, by have := lt_of_lt_of_eq t.isLt hN; omega⟩

theorem blk0 (t : Fin cfg0.N) (r : Fin 2048) (a : Fin 1024) : (iblk m c 0 t : FVec Ideal S2048x1024 .bf16) (ix2 r a)
    = m ((c : Thread nD τ).loc main_arg0) (ix2 (row t r) a) := by
  blk_simp [iblk]
  entry_read
  pointwise
  blk_ext [idx t]

theorem blk1 (t : Fin cfg0.N) (r : Fin 2048) (b : Fin 1152) : (iblk m c 1 t : FVec Ideal S2048x1152 .bf16) (ix2 r b)
    = m ((c : Thread nD τ).loc main_arg2) (ix2 (row t r) (col t b)) := by
  blk_simp [iblk]
  entry_read
  pointwise
  blk_ext [idx t]

theorem final2 : (dats m 0 c).arrAt 2 (cfgs 0).N = val_main_v2 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t i => part (iblk m c 0 t) (iblk m c 1 t) i)
    (fun t h i => by rw [outsAt0_A m c t h]; frame_out; rw [pay2, show k0_pay1 (F := Ideal) i = 0 by pointwise [k0_pay1]])
    (fun t h i => by rw [outsAt0_B m c t h]; frame_out; rw [pay2]) t ((flush0_2 t).mp hf) _, zero_add]
  idx_vars y
  unfold part
  rw [show (((View.whole main_v2).slice (win0_2.rect t)).emb (ix2 y0 y1)) = ix2 y0 (col t y1) by blk_ext [idx t], ref2]
  refine Fin.sum_mul_add_congr (S := 4) (n := 2048) fun s r hl => ?_
  refine (congrArg₂ (fun a b : EReal => a * b) (blk0 m c _ r y0) (blk1 m c _ r y1)).trans ?_
  have h1 : (4 * (t.val / 4) + s.val) % 4 = s.val := by omega
  have h2 : (4 * (t.val / 4) + s.val) / 4 = t.val / 4 := by omega
  simp only [row, col, h1, h2]

end Cert.MmGrad

end
-- ==== Proof.MmGradClaims.lean ====
/-
  The value claim of the gradient of the input projection's weights.
-/
module

public import proofs.«01_k».proof.Defs
public import proofs.«01_k».proof.Proof.Gen.ReferenceMmGradIdeal.Run
public import proofs.«01_k».proof.Proof.MmGrad

@[expose] public section

set_option maxRecDepth 16384

noncomputable section

open Idealize.ShloMosaic Idealize.ShloMosaic.TcCoe Idealize.SL.Sem
open Cert.Lift

namespace Cert.MmGrad
open Cert.ReferenceMmGradIdeal.Read

theorem algebraic : Cert.algebraic_KernelMmGradIdeal_ReferenceMmGradIdeal := by
  pair_intro
  · run_from Cert.KernelMmGradIdeal.Value.run_blocks m g
  · run_from Cert.ReferenceMmGradIdeal.Value.run m' g'
    obtain ⟨e0, e1, e2⟩ := hagree c
    refine (val_main_v2_eq _ _).trans (Eq.trans ?_ (final2 m c).symm)
    rw [← e0, ← e2]

end Cert.MmGrad

end
-- ==== Proof.Adamw.lean ====
/-
  One step of the optimiser: the kernel and the reference.
-/
module

public import proofs.«01_k».proof.Proof.Real
public import proofs.«01_k».proof.Proof.Gen.KernelAdamwIdeal.Value
public import proofs.«01_k».proof.Proof.Gen.ReferenceAdamwIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.Adamw
open Cert.KernelAdamwIdeal Cert.KernelAdamwIdeal.Gen
open Cert.ReferenceAdamwIdeal.Read

section
variable (x0 x1 x2 x3 : Vec Ideal S2048x1728 .f32) (v0 v1 v2 v3 : Vec Ideal S256x1728 .f32) (s : Fin 256 → Fin 2048)
  (h0 : ∀ r j, v0 (ix2 r j) = x0 (ix2 (s r) j)) (h1 : ∀ r j, v1 (ix2 r j) = x1 (ix2 (s r) j))
  (h2 : ∀ r j, v2 (ix2 r j) = x2 (ix2 (s r) j)) (h3 : ∀ r j, v3 (ix2 r j) = x3 (ix2 (s r) j))
include h1

include h2 in
/-- The first moment. -/
theorem pay1 (r : Fin 256) (j : Fin 1728) : k0_pay1 v1 v2 (ix2 r j) = val_main_v4 (F := Ideal) x1 x2 (ix2 (s r) j) := by
  pointwise [k0_pay1, val_main_v4, val_main_v3, val_main_v2, val_main_cst_0, val_main_v1, val_main_v0, val_main_cst, h1, h2]

include h3 in
/-- The second moment. -/
theorem pay2 (r : Fin 256) (j : Fin 1728) : k0_pay2 v1 v3 (ix2 r j) = val_main_v10 (F := Ideal) x1 x3 (ix2 (s r) j) := by
  pointwise [k0_pay2, val_main_v10, val_main_v9, val_main_v8, val_main_cst_2, val_main_v7, val_main_v6, val_main_v5, val_main_cst_1, h1, h3]

include h0 h2 h3 in
/-- The change of the weights. -/
theorem pay3 (r : Fin 256) (j : Fin 1728) : k0_pay3 v1 v2 v3 v0 (ix2 r j) = val_main_v23 (F := Ideal) x0 x1 x2 x3 (ix2 (s r) j) := by
  pointwise [k0_pay3, val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3, pay1 x1 x2 v1 v2 s h1 h2,
    pay2 x1 x3 v1 v3 s h1 h3, h0]

end

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

theorem hrows : 2048 = cfg0.N * 256 := by rw [show cfg0.N = 8 from N_0]

variable (m : (ℓ : Loc nD τ sig) → Buf (Elt Ideal) ℓ) (c : Dev nD)

theorem blk0 (t : Fin cfg0.N) (r : Fin 256) (j : Fin 1728) : (iblk m c 0 t : FVec Ideal S256x1728 .f32) (ix2 r j)
    = m ((c : Thread nD τ).loc main_arg0) (ix2 (rowOf 256 hrows t r) j) := by
  blk_simp [iblk]
  entry_read
  blk_ext [idx t]

theorem blk1 (t : Fin cfg0.N) (r : Fin 256) (j : Fin 1728) : (iblk m c 1 t : FVec Ideal S256x1728 .f32) (ix2 r j)
    = m ((c : Thread nD τ).loc main_arg1) (ix2 (rowOf 256 hrows t r) j) := by
  blk_simp [iblk]
  entry_read
  blk_ext [idx t]

theorem blk2 (t : Fin cfg0.N) (r : Fin 256) (j : Fin 1728) : (iblk m c 2 t : FVec Ideal S256x1728 .f32) (ix2 r j)
    = m ((c : Thread nD τ).loc main_arg2) (ix2 (rowOf 256 hrows t r) j) := by
  blk_simp [iblk]
  entry_read
  blk_ext [idx t]

theorem blk3 (t : Fin cfg0.N) (r : Fin 256) (j : Fin 1728) : (iblk m c 3 t : FVec Ideal S256x1728 .f32) (ix2 r j)
    = m ((c : Thread nD τ).loc main_arg3) (ix2 (rowOf 256 hrows t r) j) := by
  blk_simp [iblk]
  entry_read
  blk_ext [idx t]

theorem final4 : (dats m 0 c).arrAt 4 (cfgs 0).N = val_main_v23 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  have key : out0_4 (iblk m c 0 t) (iblk m c 1 t) (iblk m c 2 t) (iblk m c 3 t) = k0_pay3 (iblk m c 1 t) (iblk m c 2 t) (iblk m c 3 t) (iblk m c 0 t) := by
    frame_out
  rw [key]
  idx_vars y
  rw [pay3 _ _ _ _ _ _ _ _ (rowOf 256 hrows t) (blk0 m c t) (blk1 m c t) (blk2 m c t) (blk3 m c t)]
  blk_ext [idx t]

theorem final5 : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  have key : out0_5 (iblk m c 0 t) (iblk m c 1 t) (iblk m c 2 t) (iblk m c 3 t) = k0_pay1 (iblk m c 1 t) (iblk m c 2 t) := by
    frame_out
  rw [key]
  idx_vars y
  rw [pay1 _ _ _ _ (rowOf 256 hrows t) (blk1 m c t) (blk2 m c t)]
  blk_ext [idx t]

theorem final6 : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  have key : out0_6 (iblk m c 0 t) (iblk m c 1 t) (iblk m c 2 t) (iblk m c 3 t) = k0_pay2 (iblk m c 1 t) (iblk m c 3 t) := by
    frame_out
  rw [key]
  idx_vars y
  rw [pay2 _ _ _ _ (rowOf 256 hrows t) (blk1 m c t) (blk3 m c t)]
  blk_ext [idx t]

end Cert.Adamw

end
-- ==== Proof.AdamwClaims.lean ====
/-
  The value claim of one step of the optimiser.
-/
module

public import proofs.«01_k».proof.Defs
public import proofs.«01_k».proof.Proof.Gen.ReferenceAdamwIdeal.Run
public import proofs.«01_k».proof.Proof.Adamw

@[expose] public section

set_option maxRecDepth 16384

noncomputable section

open Idealize.ShloMosaic Idealize.ShloMosaic.TcCoe Idealize.SL.Sem
open Cert.Lift

namespace Cert.Adamw
open Cert.ReferenceAdamwIdeal.Read

theorem algebraic : Cert.algebraic_KernelAdamwIdeal_ReferenceAdamwIdeal := by
  pair_intro
  · run_from Cert.KernelAdamwIdeal.Value.run_blocks m g
  · run_from Cert.ReferenceAdamwIdeal.Value.run m' g'
    all_goals
      obtain ⟨e0, e1, e2, e3⟩ := hagree c
    · refine (val_main_v23_eq _ _ _ _).trans (Eq.trans ?_ (final4 m c).symm)
      rw [← e0, ← e1, ← e2, ← e3]
    · refine (val_main_v4_eq _ _).trans (Eq.trans ?_ (final5 m c).symm)
      rw [← e1, ← e2]
    · refine (val_main_v10_eq _ _).trans (Eq.trans ?_ (final6 m c).symm)
      rw [← e1, ← e3]

end Cert.Adamw

end
-- ==== Proof.RelTotal.lean ====
/-
  The gradients of the table of relative positions, summed over the layers and set side by side over the groups:
  the kernel and the reference.
-/
module

public import proofs.«01_k».proof.Proof.Real
public import proofs.«01_k».proof.Proof.Gen.KernelRelTotalIdeal.Value
public import proofs.«01_k».proof.Proof.Gen.ReferenceRelTotalIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.RelTotal
open Cert.KernelRelTotalIdeal Cert.KernelRelTotalIdeal.Gen
open Cert.ReferenceRelTotalIdeal.Read

/-- The blocks are the whole arrays. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- Two turns by the same number of places add to the turn of the sum. -/
theorem pay (a0 a1 a2 b0 b1 b2 : Vec Ideal S32x128 .f32) (r : Fin 32) (j : Fin 128) :
    k0_pay1 a0 a1 a2 b0 b1 b2 (ix2 r j) = val_main_v6 (F := Ideal) a0 a1 a2 b0 b1 b2 (ix2 r j) := by
  pointwise [k0_pay1, val_main_v6, val_main_v5, val_main_v4, val_main_v3, val_main_v2, val_main_v1, val_main_v0, val_main_call0_v0, val_main_call0_v1,
    val_main_call1_v0, val_main_call1_v1]
  by_cases p : j.val < 4 <;> by_cases q : j.val < 8
  · rw [dif_pos p, dif_pos q]
    simp only [show ((j : ℕ) + 128 - 4) % 128 = 124 + j by omega, show ((j : ℕ) + 128 - 8) % 128 = 120 + j by omega]
    abel
  · omega
  · rw [dif_neg p, dif_pos q]
    simp only [show ((j : ℕ) + 128 - 4) % 128 = j - 4 by omega, show ((j : ℕ) + 128 - 8) % 128 = 120 + j by omega]
    abel
  · rw [dif_neg p, dif_neg q]
    simp only [show ((j : ℕ) + 128 - 4) % 128 = j - 4 by omega, show ((j : ℕ) + 128 - 8) % 128 = j - 8 by omega]
    abel

variable (m : (ℓ : Loc nD τ sig) → Buf (Elt Ideal) ℓ) (c : Dev nD)

theorem blk0 (t : Fin cfg0.N) : (iblk m c 0 t : FVec Ideal S32x128 .f32) = m ((c : Thread nD τ).loc main_arg0) := by
  funext y
  idx_vars y
  blk_simp [iblk]
  entry_read
  blk_ext [idx t]

theorem blk1 (t : Fin cfg0.N) : (iblk m c 1 t : FVec Ideal S32x128 .f32) = m ((c : Thread nD τ).loc main_arg1) := by
  funext y
  idx_vars y
  blk_simp [iblk]
  entry_read
  blk_ext [idx t]

theorem blk2 (t : Fin cfg0.N) : (iblk m c 2 t : FVec Ideal S32x128 .f32) = m ((c : Thread nD τ).loc main_arg2) := by
  funext y
  idx_vars y
  blk_simp [iblk]
  entry_read
  blk_ext [idx t]

theorem blk3 (t : Fin cfg0.N) : (iblk m c 3 t : FVec Ideal S32x128 .f32) = m ((c : Thread nD τ).loc main_arg3) := by
  funext y
  idx_vars y
  blk_simp [iblk]
  entry_read
  blk_ext [idx t]

theorem blk4 (t : Fin cfg0.N) : (iblk m c 4 t : FVec Ideal S32x128 .f32) = m ((c : Thread nD τ).loc main_arg4) := by
  funext y
  idx_vars y
  blk_simp [iblk]
  entry_read
  blk_ext [idx t]

theorem blk5 (t : Fin cfg0.N) : (iblk m c 5 t : FVec Ideal S32x128 .f32) = m ((c : Thread nD τ).loc main_arg5) := by
  funext y
  idx_vars y
  blk_simp [iblk]
  entry_read
  blk_ext [idx t]

theorem final6 : (dats m 0 c).arrAt 6 (cfgs 0).N = val_main_v6 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 6 _ (by decide +kernel) fun t _ y => ?_
  blk_simp
  rw [after0_6]
  have key : out0_6 (iblk m c 0 t) (iblk m c 1 t) (iblk m c 2 t) (iblk m c 3 t) (iblk m c 4 t) (iblk m c 5 t)
      = k0_pay1 (iblk m c 0 t) (iblk m c 1 t) (iblk m c 2 t) (iblk m c 3 t) (iblk m c 4 t) (iblk m c 5 t) := by
    frame_out
  rw [key]
  idx_vars y
  rw [pay, blk0, blk1, blk2, blk3, blk4, blk5]
  blk_ext [idx t]

end Cert.RelTotal

end
-- ==== Proof.RelTotalClaims.lean ====
/-
  The value claim of the the relative-position gradients summed over the shifts of the heads.
-/
module

public import proofs.«01_k».proof.Defs
public import proofs.«01_k».proof.Proof.Gen.ReferenceRelTotalIdeal.Run
public import proofs.«01_k».proof.Proof.RelTotal

@[expose] public section

set_option maxRecDepth 16384

noncomputable section

open Idealize.ShloMosaic Idealize.ShloMosaic.TcCoe Idealize.SL.Sem
open Cert.Lift

namespace Cert.RelTotal
open Cert.ReferenceRelTotalIdeal.Read

theorem algebraic : Cert.algebraic_KernelRelTotalIdeal_ReferenceRelTotalIdeal := by
  pair_intro
  · run_from Cert.KernelRelTotalIdeal.Value.run_blocks m g
  · run_from Cert.ReferenceRelTotalIdeal.Value.run m' g'
    obtain ⟨e0, e1, e2, e3, e4, e5⟩ := hagree c
    refine (val_main_v6_eq _ _ _ _ _ _).trans (Eq.trans ?_ (final6 m c).symm)
    rw [← e0, ← e1, ← e2, ← e3, ← e4, ← e5]

end Cert.RelTotal

end
-- ==== Proof.AddHalf.lean ====
/-
  The first step of the sum over the devices: a device's own half of a gradient and its sibling's, added.
-/
module

public import proofs.«01_k».proof.Proof.Real
public import proofs.«01_k».proof.Proof.Gen.KernelAddHalf.Frame
public import proofs.«01_k».proof.Proof.Gen.KernelAddHalfIdeal.Frame
public import proofs.«01_k».proof.Proof.Gen.ReferenceAddHalfIdeal.Read
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.AddHalf

section
open Cert.KernelAddHalfIdeal Cert.KernelAddHalfIdeal.Gen
variable {F : FTy → Type} [FloatOps F] (m : (ℓ : Loc nD τ sig) → Buf (Elt F) ℓ)

/-- The table of the device's place holds zeros. -/
theorem table (i : S2.Idx) : (tbl m 0 : IVec S2 32) i = 0#32 := by
  unfold tbl
  show (V m (0 : Dev nD) main_v0 : IVec S2 32) i = 0#32
  entry_read
  rfl

/-- So the block that a point reads of the first array is the point's own, its upper half. -/
theorem index (i : grid0.Coords) : cc0_transform_0 inb_S2_S1_0 numel1_S1 (tbl m) i = ![(i 0).val, 0, 0] := by
  unfold cc0_transform_0
  rw [show (tbl m).at 0 (Rect.unit (s := S2) ![0] S1.size inb_S2_S1_0) numel1_S1 = 0#32 from table m _]
  revert i
  decide +kernel

theorem ok : Ok m := by
  intro i
  rw [index]
  exact ⟨by revert i; decide +kernel, .inr (Affine.block_words_dvd (of_decide_eq_true rfl) (by decide))⟩

end

section
open Cert.KernelAddHalfIdeal Cert.KernelAddHalfIdeal.Gen
open Cert.ReferenceAddHalfIdeal.Read
variable (m : (ℓ : Loc nD τ sig) → Buf (Elt Ideal) ℓ) (hO : Ok m) (c : Dev nD)

theorem point : ∀ t : Fin grid0.N, (grid0.coords t 0).val = t.val := by decide +kernel
theorem index1 : ∀ t : Fin grid0.N, cc0_transform_1 (grid0.coords t) = ![t.val, 0, 0] := by decide +kernel
theorem index2 : ∀ t : Fin grid0.N, cc0_transform_2 (grid0.coords t) = ![t.val, 0, 0] := by decide +kernel
theorem points : grid0.N = 4 := by decide +kernel

theorem index0 (t : Fin grid0.N) : cc0_transform_0 inb_S2_S1_0 numel1_S1 (tbl m) (grid0.coords t) = ![t.val, 0, 0] := by
  rw [index, point]

/-- The place of a point in the arrays. -/
def at4 (t : Fin grid0.N) : Fin 4 := t.cast points

theorem emb0 (t : Fin (cfgM m hO).N) (r : Fin 512) (j : Fin 1728) : (((cfgM m hO).win 0).blk t).view.emb (ix3 (0 : Fin 1) r j : S1x512x1728.Idx)
    = (ix3 (at4 t) (⟨r.val, by omega⟩ : Fin 1024) j : S4x1024x1728.Idx) := by
  funext a
  apply Fin.ext
  match a with
  | ⟨0, _⟩ => show cc0_transform_0 inb_S2_S1_0 numel1_S1 (tbl m) (grid0.coords t) 0 * 1 + 1 * 0 = t.val; rw [index0]; simp
  | ⟨1, _⟩ => show cc0_transform_0 inb_S2_S1_0 numel1_S1 (tbl m) (grid0.coords t) 1 * 512 + 1 * r.val = r.val; rw [index0]; simp
  | ⟨2, _⟩ => show cc0_transform_0 inb_S2_S1_0 numel1_S1 (tbl m) (grid0.coords t) 2 * 1728 + 1 * j.val = j.val; rw [index0]; simp

theorem emb1 (t : Fin (cfgM m hO).N) (r : Fin 512) (j : Fin 1728) : (((cfgM m hO).win 1).blk t).view.emb (ix3 (0 : Fin 1) r j : S1x512x1728.Idx)
    = (ix3 (at4 t) r j : S4x512x1728.Idx) := by
  funext a
  apply Fin.ext
  match a with
  | ⟨0, _⟩ => show cc0_transform_1 (grid0.coords t) 0 * 1 + 1 * 0 = t.val; rw [index1]; simp
  | ⟨1, _⟩ => show cc0_transform_1 (grid0.coords t) 1 * 512 + 1 * r.val = r.val; rw [index1]; simp
  | ⟨2, _⟩ => show cc0_transform_1 (grid0.coords t) 2 * 1728 + 1 * j.val = j.val; rw [index1]; simp

theorem emb2 (t : Fin (cfgM m hO).N) (r : Fin 512) (j : Fin 1728) : (((cfgM m hO).win 2).blk t).view.emb (ix3 (0 : Fin 1) r j : S1x512x1728.Idx)
    = (ix3 (at4 t) r j : S4x512x1728.Idx) := by
  funext a
  apply Fin.ext
  match a with
  | ⟨0, _⟩ => show cc0_transform_2 (grid0.coords t) 0 * 1 + 1 * 0 = t.val; rw [index2]; simp
  | ⟨1, _⟩ => show cc0_transform_2 (grid0.coords t) 1 * 512 + 1 * r.val = r.val; rw [index2]; simp
  | ⟨2, _⟩ => show cc0_transform_2 (grid0.coords t) 2 * 1728 + 1 * j.val = j.val; rw [index2]; simp

/-- A point's block of the first array: the upper half of the point's own part. -/
theorem blk0 (t : Fin (cfgM m hO).N) (r : Fin 512) (j : Fin 1728) : (iblk m hO c 0 t : FVec Ideal S1x512x1728 .bf16) (ix3 0 r j)
    = m ((c : Thread nD τ).loc main_arg0) (ix3 (at4 t) ⟨r.val, by omega⟩ j) := by
  show V m c main_v1 ((((cfgM m hO).win 0).blk t).view.emb (ix3 (0 : Fin 1) r j : S1x512x1728.Idx)) = _
  rw [emb0]
  entry_read
  rfl

/-- Its block of the sibling's array. -/
theorem blk1 (t : Fin (cfgM m hO).N) (r : Fin 512) (j : Fin 1728) : (iblk m hO c 1 t : FVec Ideal S1x512x1728 .bf16) (ix3 0 r j)
    = m ((c : Thread nD τ).loc main_arg1) (ix3 (at4 t) r j) := by
  show V m c main_v2 ((((cfgM m hO).win 1).blk t).view.emb (ix3 (0 : Fin 1) r j : S1x512x1728.Idx)) = _
  rw [emb1]
  entry_read
  rfl

theorem pay (x0 : Vec Ideal S4x1024x1728 .f32) (x1 : Vec Ideal S4x512x1728 .f32) (v0 v1 : Vec Ideal S1x512x1728 .bf16) (k : Fin 4)
    (h0 : ∀ (r : Fin 512) (j : Fin 1728), v0 (ix3 0 r j) = x0 (ix3 k ⟨r.val, by omega⟩ j)) (h1 : ∀ r j, v1 (ix3 0 r j) = x1 (ix3 k r j))
    (r : Fin 512) (j : Fin 1728) : k0_pay1 v0 v1 (ix3 0 r j) = val_main_v2 (F := Ideal) x0 x1 (ix3 k r j) := by
  pointwise [k0_pay1, val_main_v2, val_main_v1, val_main_v0, h0, h1]

/-- Every entry of the result is in a point's block. -/
theorem covered (i : S4x512x1728.Idx) : ∃ t : Fin (cfgM m hO).N, ((cfgM m hO).win 2).flush t = true ∧ i ∈ (((cfgM m hO).win 2).blk t).view.set := by
  obtain ⟨k, r, j, rfl⟩ : ∃ (k : Fin 4) (r : Fin 512) (j : Fin 1728), i = ix3 k r j := ⟨i 0, i 1, i 2, by funext a; match a with | ⟨0, _⟩ => rfl | ⟨1, _⟩ => rfl | ⟨2, _⟩ => rfl⟩
  refine ⟨k.cast points.symm, flush0_2 _ _, ?_⟩
  have h := (((cfgM m hO).win 2).blk (k.cast points.symm)).view.emb_mem_set (ix3 (0 : Fin 1) r j : S1x512x1728.Idx)
  rw [emb2] at h
  exact h

theorem out (i : grid0.Coords) (arg3 arg4 arg5 : Memref sig .tc .vmem S1x512x1728 .bf16) (h3 : arg3.IsWhole) (h4 : arg4.IsWhole) (h5 : arg5.IsWhole)
    (x0 x1 : Vec Ideal S1x512x1728 .bf16) (xt : TbBuf0 (F := Ideal) c tbM0_0) : out0_A_2 c i arg3 h3 arg4 h4 arg5 h5 x0 x1 xt = k0_pay1 x0 x1 := by
  frame_out

theorem after (t : Fin (cfgM m hO).N) (y : S1x512x1728.Idx) : (outsAt0 m hO c t) y
    = val_main_v2 (F := Ideal) (m ((c : Thread nD τ).loc main_arg0)) (m ((c : Thread nD τ).loc main_arg1)) ((((cfgM m hO).win 2).blk t).view.emb y) := by
  unfold outsAt0
  refine (congrFun (out c _ _ _ _ _ _ _ (iblk m hO c 0 t) (iblk m hO c 1 t) (tbl m 0)) y).trans ?_
  idx_vars y
  obtain rfl : y0 = 0 := Subsingleton.elim _ _
  have e := pay (m ((c : Thread nD τ).loc main_arg0)) (m ((c : Thread nD τ).loc main_arg1)) (iblk m hO c 0 t) (iblk m hO c 1 t) (at4 t) (blk0 m hO c t) (blk1 m hO c t)
  refine (e _ _).trans ?_
  exact congrArg (val_main_v2 (F := Ideal) _ _) (emb2 m hO t _ _).symm

theorem final2 : (dats m hO 0 c).arrAt 2 (cfgM m hO).N = val_main_v2 (F := Ideal) (m ((c : Thread nD τ).loc main_arg0)) (m ((c : Thread nD τ).loc main_arg1)) := by
  refine (dats m hO 0 c).arrAt_eq_of_emb 2 _ (fun t _ y => ?_) (covered m hO)
  blk_simp
  rw [after0_2]
  exact after m hO c t y

include hO in
/-- The run, with the result named. -/
theorem run (ρ : Dev nD → PrngReg) : θ_run defs (onTc (τ := τ) (main (F := Ideal))) ⟨m, fun _ => 0, ρ⟩ fun r => ∀ c : Dev nD,
      r.2.mem ((c : Thread nD τ).loc main_v3) = val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ hO)

end

section
open Cert.KernelAddHalf Cert.KernelAddHalf.Gen
variable {F : FTy → Type} [FloatOps F] (m : (ℓ : Loc nD τ sig) → Buf (Elt F) ℓ)

/-- The same of the program before it is read over the reals. -/
theorem tableBits (i : S2.Idx) : (tbl m 0 : IVec S2 32) i = 0#32 := by
  unfold tbl
  show (V m (0 : Dev nD) main_v0 : IVec S2 32) i = 0#32
  entry_read
  rfl

theorem indexBits (i : grid0.Coords) : cc0_transform_0 inb_S2_S1_0 numel1_S1 (tbl m) i = ![(i 0).val, 0, 0] := by
  unfold cc0_transform_0
  rw [show (tbl m).at 0 (Rect.unit (s := S2) ![0] S1.size inb_S2_S1_0) numel1_S1 = 0#32 from tableBits m _]
  revert i
  decide +kernel

theorem okBits : Ok m := by
  intro i
  rw [indexBits]
  exact ⟨by revert i; decide +kernel, .inr (Affine.block_words_dvd (of_decide_eq_true rfl) (by decide))⟩

end

end Cert.AddHalf

end
-- ==== Proof.AddHalfClaims.lean ====
/-
  The value claim of the first step of the sum over the devices.
-/
module

public import proofs.«01_k».proof.Defs
public import proofs.«01_k».proof.Proof.Gen.ReferenceAddHalfIdeal.Run
public import proofs.«01_k».proof.Proof.AddHalf

@[expose] public section

set_option maxRecDepth 16384

noncomputable section

open Idealize.ShloMosaic Idealize.ShloMosaic.TcCoe Idealize.SL.Sem
open Cert.Lift

namespace Cert.AddHalf
open Cert.ReferenceAddHalfIdeal.Read

theorem algebraic : Cert.algebraic_KernelAddHalfIdeal_ReferenceAddHalfIdeal := by
  intro m g m' g' _ hagree
  refine ⟨_, run m (ok m) g, ?_⟩
  run_from Cert.ReferenceAddHalfIdeal.Value.run m' g'
  obtain ⟨e0, e1⟩ := hagree c
  refine (val_main_v2_eq _ _).trans ?_
  rw [← e0, ← e1]

end Cert.AddHalf

end
-- ==== Proof.SumChips.lean ====
/-
  The second step of the sum over the devices: a device's own sum and the three other chips', added into its half.
-/
module

public import proofs.«01_k».proof.Proof.Real
public import proofs.«01_k».proof.Proof.Gen.KernelSumChips.Frame
public import proofs.«01_k».proof.Proof.Gen.KernelSumChipsIdeal.Frame
public import proofs.«01_k».proof.Proof.Gen.ReferenceSumChipsIdeal.Read
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Lift

namespace Cert.SumChips

section
open Cert.KernelSumChipsIdeal Cert.KernelSumChipsIdeal.Gen
variable {F : FTy → Type} [FloatOps F] (m : (ℓ : Loc nD τ sig) → Buf (Elt F) ℓ)

/-- The table of the device's place holds zeros. -/
theorem table (i : S2.Idx) : (tbl m 0 : IVec S2 32) i = 0#32 := by
  unfold tbl
  show (V m (0 : Dev nD) main_v0 : IVec S2 32) i = 0#32
  entry_read
  rfl

/-- So the block read of the first array is the first of its parts, and the block written the upper half of the first. -/
theorem index (i : grid0.Coords) : cc0_transform_0 inb_S2_S1_1 numel1_S1 (tbl m) i = ![0, 0, 0] := by
  unfold cc0_transform_0
  rw [show (tbl m).at 0 (Rect.unit (s := S2) ![1] S1.size inb_S2_S1_1) numel1_S1 = 0#32 from table m _]
  revert i
  decide +kernel

theorem indexOut (i : grid0.Coords) : cc0_transform_3 inb_S2_S1_0 numel1_S1 (tbl m) i = ![0, 0, 0] := by
  unfold cc0_transform_3
  rw [show (tbl m).at 0 (Rect.unit (s := S2) ![0] S1.size inb_S2_S1_0) numel1_S1 = 0#32 from table m _]
  revert i
  decide +kernel

theorem ok : Ok m := by
  refine ⟨fun i => ?_, fun i => ?_⟩
  · rw [index]
    exact ⟨by decide +kernel, .inr (Affine.block_words_dvd (of_decide_eq_true rfl) (by decide))⟩
  · rw [indexOut]
    exact ⟨by decide +kernel, .inl rfl⟩

end

section
open Cert.KernelSumChipsIdeal Cert.KernelSumChipsIdeal.Gen
open Cert.ReferenceSumChipsIdeal.Read
variable (m : (ℓ : Loc nD τ sig) → Buf (Elt Ideal) ℓ) (hO : Ok m) (c : Dev nD)

theorem index1 : ∀ t : Fin grid0.N, cc0_transform_1 (grid0.coords t) = ![0, 0, 0] := by decide +kernel

theorem emb0 (t : Fin (cfgM m hO).N) (r : Fin 512) (j : Fin 1728) : (((cfgM m hO).win 0).blk t).view.emb (ix3 (0 : Fin 1) r j : S1x512x1728.Idx)
    = (ix3 (0 : Fin 4) r j : S4x512x1728.Idx) := by
  funext a
  apply Fin.ext
  match a with
  | ⟨0, _⟩ => show cc0_transform_0 inb_S2_S1_1 numel1_S1 (tbl m) (grid0.coords t) 0 * 1 + 1 * 0 = 0; rw [index]; simp
  | ⟨1, _⟩ => show cc0_transform_0 inb_S2_S1_1 numel1_S1 (tbl m) (grid0.coords t) 1 * 512 + 1 * r.val = r.val; rw [index]; simp
  | ⟨2, _⟩ => show cc0_transform_0 inb_S2_S1_1 numel1_S1 (tbl m) (grid0.coords t) 2 * 1728 + 1 * j.val = j.val; rw [index]; simp

theorem emb1 (t : Fin (cfgM m hO).N) (k : Fin 3) (r : Fin 512) (j : Fin 1728) : (((cfgM m hO).win 1).blk t).view.emb (ix3 k r j : S3x512x1728.Idx)
    = (ix3 k r j : S3x512x1728.Idx) := by
  funext a
  apply Fin.ext
  match a with
  | ⟨0, _⟩ => show cc0_transform_1 (grid0.coords t) 0 * 3 + 1 * k.val = k.val; rw [index1]; simp
  | ⟨1, _⟩ => show cc0_transform_1 (grid0.coords t) 1 * 512 + 1 * r.val = r.val; rw [index1]; simp
  | ⟨2, _⟩ => show cc0_transform_1 (grid0.coords t) 2 * 1728 + 1 * j.val = j.val; rw [index1]; simp

theorem emb2 (t : Fin (cfgM m hO).N) (r : Fin 512) (j : Fin 1728) : (((cfgM m hO).win 2).blk t).view.emb (ix3 (0 : Fin 1) r j : S1x512x1728.Idx)
    = (ix3 (0 : Fin 2) (⟨r.val, by omega⟩ : Fin 1024) j : S2x1024x1728.Idx) := by
  funext a
  apply Fin.ext
  match a with
  | ⟨0, _⟩ => show cc0_transform_3 inb_S2_S1_0 numel1_S1 (tbl m) (grid0.coords t) 0 * 1 + 1 * 0 = 0; rw [indexOut]; simp
  | ⟨1, _⟩ => show cc0_transform_3 inb_S2_S1_0 numel1_S1 (tbl m) (grid0.coords t) 1 * 512 + 1 * r.val = r.val; rw [indexOut]; simp
  | ⟨2, _⟩ => show cc0_transform_3 inb_S2_S1_0 numel1_S1 (tbl m) (grid0.coords t) 2 * 1728 + 1 * j.val = j.val; rw [indexOut]; simp

/-- The device's own sum. -/
theorem blk0 (t : Fin (cfgM m hO).N) (r : Fin 512) (j : Fin 1728) : (iblk m hO c 0 t : FVec Ideal S1x512x1728 .bf16) (ix3 0 r j)
    = m ((c : Thread nD τ).loc main_arg0) (ix3 (0 : Fin 4) r j) := by
  show V m c main_v1 ((((cfgM m hO).win 0).blk t).view.emb (ix3 (0 : Fin 1) r j : S1x512x1728.Idx)) = _
  rw [emb0]
  entry_read
  rfl

/-- The three other chips' sums. -/
theorem blk1 (t : Fin (cfgM m hO).N) (k : Fin 3) (r : Fin 512) (j : Fin 1728) : (iblk m hO c 1 t : FVec Ideal S3x512x1728 .bf16) (ix3 k r j)
    = m ((c : Thread nD τ).loc main_arg1) (ix3 k r j) := by
  show V m c main_v2 ((((cfgM m hO).win 1).blk t).view.emb (ix3 k r j : S3x512x1728.Idx)) = _
  rw [emb1]
  entry_read
  rfl

theorem pay (x0 : Vec Ideal S4x512x1728 .f32) (x1 : Vec Ideal S3x512x1728 .f32) (v0 v1 v2 v3 : Vec Ideal S1x512x1728 .bf16)
    (h0 : ∀ (r : Fin 512) (j : Fin 1728), v0 (ix3 0 r j) = x0 (ix3 0 r j)) (h1 : ∀ (r : Fin 512) (j : Fin 1728), v1 (ix3 0 r j) = x1 (ix3 0 r j))
    (h2 : ∀ (r : Fin 512) (j : Fin 1728), v2 (ix3 0 r j) = x1 (ix3 1 r j)) (h3 : ∀ (r : Fin 512) (j : Fin 1728), v3 (ix3 0 r j) = x1 (ix3 2 r j))
    (r : Fin 512) (j : Fin 1728) : k0_pay1 v0 v1 v2 v3 (ix3 0 r j) = x0 (ix3 0 r j) + x1 (ix3 0 r j) + x1 (ix3 1 r j) + x1 (ix3 2 r j) := by
  pointwise [k0_pay1, h0, h1, h2, h3]

theorem out (i : grid0.Coords) (arg3 : Memref sig .tc .vmem S1x512x1728 .bf16) (arg4 : Memref sig .tc .vmem S3x512x1728 .bf16) (arg5 : Memref sig .tc .vmem S1x512x1728 .f32)
    (h3 : arg3.IsWhole) (h4 : arg4.IsWhole) (h5 : arg5.IsWhole) (x0 : Vec Ideal S1x512x1728 .bf16) (x1 : Vec Ideal S3x512x1728 .bf16)
    (xt : TbBuf0 (F := Ideal) c tbM0_0) : out0_A_2 c i arg3 h3 arg4 h4 arg5 h5 x0 x1 xt
      = k0_pay1 x0 (View.ld x1 (Rect.unit ![0, 0, 0] ![1, 512, 1728] inb_S3x512x1728_S1x512x1728_0_0_0)) (View.ld x1 (Rect.unit ![1, 0, 0] ![1, 512, 1728] inb_S3x512x1728_S1x512x1728_1_0_0))
        (View.ld x1 (Rect.unit ![2, 0, 0] ![1, 512, 1728] inb_S3x512x1728_S1x512x1728_2_0_0)) := by
  frame_out

theorem ld0 (x : Vec Ideal S3x512x1728 .bf16) (r : Fin 512) (j : Fin 1728) :
    (View.ld x (Rect.unit ![0, 0, 0] ![1, 512, 1728] inb_S3x512x1728_S1x512x1728_0_0_0) : Vec Ideal S1x512x1728 .bf16) (ix3 0 r j) = x (ix3 0 r j) := by
  refine congrArg x (funext fun a => Fin.ext ?_)
  match a with
  | ⟨0, _⟩ => rfl
  | ⟨1, _⟩ => show 0 + 1 * r.val = r.val; omega
  | ⟨2, _⟩ => show 0 + 1 * j.val = j.val; omega

theorem ld1 (x : Vec Ideal S3x512x1728 .bf16) (r : Fin 512) (j : Fin 1728) :
    (View.ld x (Rect.unit ![1, 0, 0] ![1, 512, 1728] inb_S3x512x1728_S1x512x1728_1_0_0) : Vec Ideal S1x512x1728 .bf16) (ix3 0 r j) = x (ix3 1 r j) := by
  refine congrArg x (funext fun a => Fin.ext ?_)
  match a with
  | ⟨0, _⟩ => rfl
  | ⟨1, _⟩ => show 0 + 1 * r.val = r.val; omega
  | ⟨2, _⟩ => show 0 + 1 * j.val = j.val; omega

theorem ld2 (x : Vec Ideal S3x512x1728 .bf16) (r : Fin 512) (j : Fin 1728) :
    (View.ld x (Rect.unit ![2, 0, 0] ![1, 512, 1728] inb_S3x512x1728_S1x512x1728_2_0_0) : Vec Ideal S1x512x1728 .bf16) (ix3 0 r j) = x (ix3 2 r j) := by
  refine congrArg x (funext fun a => Fin.ext ?_)
  match a with
  | ⟨0, _⟩ => rfl
  | ⟨1, _⟩ => show 0 + 1 * r.val = r.val; omega
  | ⟨2, _⟩ => show 0 + 1 * j.val = j.val; omega

/-- The reference in the half that is added into: the sum of the four. -/
theorem refSum (x0 : Vec Ideal S4x512x1728 .f32) (x1 : Vec Ideal S3x512x1728 .f32) (x2 : Vec Ideal S2x1024x1728 .f32) (r : Fin 512) (j : Fin 1728) :
    val_main_v7 (F := Ideal) x0 x1 x2 (ix3 (0 : Fin 2) (⟨r.val, by omega⟩ : Fin 1024) j) = x0 (ix3 0 r j) + x1 (ix3 0 r j) + x1 (ix3 1 r j) + x1 (ix3 2 r j) := by
  unfold val_main_v7
  refine (concatenate_pair_apply_left (t := Cert.ReferenceSumChipsIdeal.S2x1024x1728) (s₁ := Cert.ReferenceSumChipsIdeal.S1x1024x1728) (s₂ := Cert.ReferenceSumChipsIdeal.S1x1024x1728) 0 _ _ _ _ rfl (ix3 (0 : Fin 1) (⟨r.val, by omega⟩ : Fin 1024) j : Cert.ReferenceSumChipsIdeal.S1x1024x1728.Idx) (fun b => by match b with | ⟨0, _⟩ => rfl | ⟨1, _⟩ => rfl | ⟨2, _⟩ => rfl)).trans ?_
  unfold val_main_v5
  refine (concatenate_pair_apply_left (t := Cert.ReferenceSumChipsIdeal.S1x1024x1728) (s₁ := Cert.ReferenceSumChipsIdeal.S1x512x1728) (s₂ := Cert.ReferenceSumChipsIdeal.S1x512x1728) 1 _ _ _ _ rfl (ix3 (0 : Fin 1) r j : S1x512x1728.Idx) (fun b => by match b with | ⟨0, _⟩ => rfl | ⟨1, _⟩ => rfl | ⟨2, _⟩ => rfl)).trans ?_
  rw [val_main_v3_apply, val_main_v0_apply, val_main_v2_apply, val_main_v1_apply, Fin.sum_univ_three]
  have z : (val_main_cst (F := Ideal)) (Shape.Idx.first Cert.ReferenceSumChipsIdeal.Gen.h_S_) = 0 := by
    rw [val_main_cst_apply]; simp
  rw [z, zero_add]
  refine Eq.trans (congrArg₂ (· + ·) ?_ (congrArg₂ (· + ·) (congrArg₂ (· + ·) ?_ ?_) ?_)) (show x0 (ix3 0 r j) + (x1 (ix3 0 r j) + x1 (ix3 1 r j) + x1 (ix3 2 r j)) = _ from by rw [add_assoc, add_assoc, add_assoc])
  · exact congrArg x0 (funext fun a => by match a with | ⟨0, _⟩ => rfl | ⟨1, _⟩ => rfl | ⟨2, _⟩ => rfl)
  · exact congrArg x1 (funext fun a => by match a with | ⟨0, _⟩ => rfl | ⟨1, _⟩ => rfl | ⟨2, _⟩ => rfl)
  · exact congrArg x1 (funext fun a => by match a with | ⟨0, _⟩ => rfl | ⟨1, _⟩ => rfl | ⟨2, _⟩ => rfl)
  · exact congrArg x1 (funext fun a => by match a with | ⟨0, _⟩ => rfl | ⟨1, _⟩ => rfl | ⟨2, _⟩ => rfl)

/-- The reference in the first part's other half: the array as it was. -/
theorem refLow (x0 : Vec Ideal S4x512x1728 .f32) (x1 : Vec Ideal S3x512x1728 .f32) (x2 : Vec Ideal S2x1024x1728 .f32) (r : Fin 512) (j : Fin 1728) :
    val_main_v7 (F := Ideal) x0 x1 x2 (ix3 (0 : Fin 2) (⟨512 + r.val, by omega⟩ : Fin 1024) j) = x2 (ix3 (0 : Fin 2) (⟨512 + r.val, by omega⟩ : Fin 1024) j) := by
  unfold val_main_v7
  refine (concatenate_pair_apply_left (t := Cert.ReferenceSumChipsIdeal.S2x1024x1728) (s₁ := Cert.ReferenceSumChipsIdeal.S1x1024x1728) (s₂ := Cert.ReferenceSumChipsIdeal.S1x1024x1728) 0 _ _ _ _ rfl (ix3 (0 : Fin 1) (⟨512 + r.val, by omega⟩ : Fin 1024) j : Cert.ReferenceSumChipsIdeal.S1x1024x1728.Idx) (fun b => by match b with | ⟨0, _⟩ => rfl | ⟨1, _⟩ => rfl | ⟨2, _⟩ => rfl)).trans ?_
  unfold val_main_v5
  refine (concatenate_pair_apply_right (t := Cert.ReferenceSumChipsIdeal.S1x1024x1728) (s₁ := Cert.ReferenceSumChipsIdeal.S1x512x1728) (s₂ := Cert.ReferenceSumChipsIdeal.S1x512x1728) 1 _ _ _ (ix3 (0 : Fin 1) (⟨512 + r.val, by omega⟩ : Fin 1024) j : Cert.ReferenceSumChipsIdeal.S1x1024x1728.Idx) rfl rfl (ix3 (0 : Fin 1) r j : S1x512x1728.Idx) (fun b hb => by match b with | ⟨0, _⟩ => rfl | ⟨1, _⟩ => exact absurd rfl hb | ⟨2, _⟩ => rfl) (Nat.add_comm r.val 512)).trans ?_
  rw [val_main_v4_apply]
  exact congrArg x2 (funext fun a => by match a with | ⟨0, _⟩ => rfl | ⟨1, _⟩ => rfl | ⟨2, _⟩ => rfl)

/-- The reference in the second part: the array as it was. -/
theorem refPart (x0 : Vec Ideal S4x512x1728 .f32) (x1 : Vec Ideal S3x512x1728 .f32) (x2 : Vec Ideal S2x1024x1728 .f32) (r : Fin 1024) (j : Fin 1728) :
    val_main_v7 (F := Ideal) x0 x1 x2 (ix3 (1 : Fin 2) r j) = x2 (ix3 (1 : Fin 2) r j) := by
  unfold val_main_v7
  refine (concatenate_pair_apply_right (t := Cert.ReferenceSumChipsIdeal.S2x1024x1728) (s₁ := Cert.ReferenceSumChipsIdeal.S1x1024x1728) (s₂ := Cert.ReferenceSumChipsIdeal.S1x1024x1728) 0 _ _ _ _ rfl rfl (ix3 (0 : Fin 1) r j : Cert.ReferenceSumChipsIdeal.S1x1024x1728.Idx) (fun b hb => by match b with | ⟨0, _⟩ => exact absurd rfl hb | ⟨1, _⟩ => rfl | ⟨2, _⟩ => rfl) rfl).trans ?_
  rw [val_main_v6_apply]
  exact congrArg x2 (funext fun a => by match a with | ⟨0, _⟩ => rfl | ⟨1, _⟩ => rfl | ⟨2, _⟩ => rfl)

theorem after (t : Fin (cfgM m hO).N) (y : S1x512x1728.Idx) : (outsAt0 m hO c t) y
    = val_main_v7 (F := Ideal) (m ((c : Thread nD τ).loc main_arg0)) (m ((c : Thread nD τ).loc main_arg1)) (m ((c : Thread nD τ).loc main_arg2)) ((((cfgM m hO).win 2).blk t).view.emb y) := by
  unfold outsAt0
  refine (congrFun (out c _ _ _ _ _ _ _ (iblk m hO c 0 t) (iblk m hO c 1 t) (tbl m 0)) y).trans ?_
  idx_vars y
  obtain rfl : y0 = 0 := Subsingleton.elim _ _
  have e := pay (m ((c : Thread nD τ).loc main_arg0)) (m ((c : Thread nD τ).loc main_arg1)) (iblk m hO c 0 t) _ _ _ (blk0 m hO c t)
    (fun r j => (ld0 _ r j).trans (blk1 m hO c t 0 r j)) (fun r j => (ld1 _ r j).trans (blk1 m hO c t 1 r j)) (fun r j => (ld2 _ r j).trans (blk1 m hO c t 2 r j))
  refine (e _ _).trans ?_
  refine (refSum _ _ (m ((c : Thread nD τ).loc main_arg2)) _ _).symm.trans ?_
  exact congrArg (val_main_v7 (F := Ideal) _ _ _) (emb2 m hO t _ _).symm

/-- The one point of the grid writes its block. -/
theorem written (t : Fin grid0.N) : ((cfgM m hO).win 2).flush t = true := by
  have ht : t.val + 1 = grid0.N := by
    have h1 : grid0.N = 1 := by decide +kernel
    have := t.isLt
    omega
  show (true && (decide (t.val + 1 = grid0.N) || _)) = true
  rw [decide_eq_true ht]
  rfl

theorem entries (i : S2x1024x1728.Idx) : ∃ (p : Fin 2) (r : Fin 1024) (j : Fin 1728), i = ix3 p r j :=
  ⟨i 0, i 1, i 2, by funext a; match a with | ⟨0, _⟩ => rfl | ⟨1, _⟩ => rfl | ⟨2, _⟩ => rfl⟩

theorem final2 : (dats m hO 0 c).arrAt 2 (cfgM m hO).N = val_main_v7 (F := Ideal) (m ((c : Thread nD τ).loc main_arg0)) (m ((c : Thread nD τ).loc main_arg1)) (m ((c : Thread nD τ).loc main_arg2)) := by
  funext i
  by_cases h : ∃ t : Fin (cfgM m hO).N, ((cfgM m hO).win 2).flush t = true ∧ i ∈ (((cfgM m hO).win 2).blk t).view.set
  · obtain ⟨t, hf, hi⟩ := h
    refine (dats m hO 0 c).arrAt_forall_of_flushed 2 (fun i v => v = val_main_v7 (F := Ideal) (m ((c : Thread nD τ).loc main_arg0)) (m ((c : Thread nD τ).loc main_arg1)) (m ((c : Thread nD τ).loc main_arg2)) i)
      (fun t _ y => ?_) (cfgM m hO).N t i t.isLt hf hi
    show (dats m hO 0 c).after 2 t y = _
    rw [after0_2]
    exact after m hO c t y
  · refine ((dats m hO 0 c).arrAt_apply_of_forall_not_mem 2 (cfgM m hO).N i fun t _ hf hi => h ⟨t, hf, hi⟩).trans ?_
    have k : (dats m hO 0 c).A 2 i = m ((c : Thread nD τ).loc main_arg2) i := by
      show V m c main_v3 i = _
      entry_read
      rfl
    refine k.trans ?_
    obtain ⟨p, r, j, rfl⟩ : ∃ (p : Fin 2) (r : Fin 1024) (j : Fin 1728), i = (ix3 p r j : S2x1024x1728.Idx) := entries i
    match p with
    | 1 => exact (refPart _ _ _ r j).symm
    | 0 =>
      by_cases hr : r.val < 512
      · refine absurd ?_ h
        refine ⟨(⟨0, by decide +kernel⟩ : Fin grid0.N), written m hO _, ?_⟩
        have hm := (((cfgM m hO).win 2).blk (⟨0, by decide +kernel⟩ : Fin grid0.N)).view.emb_mem_set (ix3 (0 : Fin 1) (⟨r.val, hr⟩ : Fin 512) j : S1x512x1728.Idx)
        rw [emb2] at hm
        exact hm
      · obtain ⟨q, hq⟩ : ∃ q : Fin 512, r = ⟨512 + q.val, by omega⟩ := ⟨⟨r.val - 512, by omega⟩, Fin.ext (by show r.val = 512 + (r.val - 512); omega)⟩
        rw [hq]
        exact (refLow _ _ _ q j).symm

include hO in
/-- The run, with the result named. -/
theorem run (ρ : Dev nD → PrngReg) : θ_run defs (onTc (τ := τ) (main (F := Ideal))) ⟨m, fun _ => 0, ρ⟩ fun r => ∀ c : Dev nD,
      r.2.mem ((c : Thread nD τ).loc main_v3) = val_main_v7 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final2 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end

section
open Cert.KernelSumChips Cert.KernelSumChips.Gen
variable {F : FTy → Type} [FloatOps F] (m : (ℓ : Loc nD τ sig) → Buf (Elt F) ℓ)

/-- The same of the program before it is read over the reals. -/
theorem tableBits (i : S2.Idx) : (tbl m 0 : IVec S2 32) i = 0#32 := by
  unfold tbl
  show (V m (0 : Dev nD) main_v0 : IVec S2 32) i = 0#32
  entry_read
  rfl

theorem indexBits (i : grid0.Coords) : cc0_transform_0 inb_S2_S1_1 numel1_S1 (tbl m) i = ![0, 0, 0] := by
  unfold cc0_transform_0
  rw [show (tbl m).at 0 (Rect.unit (s := S2) ![1] S1.size inb_S2_S1_1) numel1_S1 = 0#32 from tableBits m _]
  revert i
  decide +kernel

theorem indexOutBits (i : grid0.Coords) : cc0_transform_3 inb_S2_S1_0 numel1_S1 (tbl m) i = ![0, 0, 0] := by
  unfold cc0_transform_3
  rw [show (tbl m).at 0 (Rect.unit (s := S2) ![0] S1.size inb_S2_S1_0) numel1_S1 = 0#32 from tableBits m _]
  revert i
  decide +kernel

theorem okBits : Ok m := by
  refine ⟨fun i => ?_, fun i => ?_⟩
  · rw [indexBits]
    exact ⟨by decide +kernel, .inr (Affine.block_words_dvd (of_decide_eq_true rfl) (by decide))⟩
  · rw [indexOutBits]
    exact ⟨by decide +kernel, .inl rfl⟩

end

end Cert.SumChips

end
-- ==== Proof.SumChipsClaims.lean ====
/-
  The value claim of the second step of the sum over the devices.
-/
module

public import proofs.«01_k».proof.Defs
public import proofs.«01_k».proof.Proof.Gen.ReferenceSumChipsIdeal.Run
public import proofs.«01_k».proof.Proof.SumChips

@[expose] public section

set_option maxRecDepth 16384

noncomputable section

open Idealize.ShloMosaic Idealize.ShloMosaic.TcCoe Idealize.SL.Sem
open Cert.Lift

namespace Cert.SumChips
open Cert.ReferenceSumChipsIdeal.Read

theorem algebraic : Cert.algebraic_KernelSumChipsIdeal_ReferenceSumChipsIdeal := by
  intro m g m' g' _ hagree
  refine ⟨_, run m (ok m) g, ?_⟩
  run_from Cert.ReferenceSumChipsIdeal.Value.run m' g'
  obtain ⟨e0, e1, e2⟩ := hagree c
  refine (val_main_v7_eq _ _ _).trans ?_
  rw [← e0, ← e1, ← e2]

end Cert.SumChips

end
-- ==== Proof.lean ====
module

public import proofs.«01_k».proof.Defs
public import proofs.«01_k».proof.Proof.Gen.KernelConvLn
public import proofs.«01_k».proof.Proof.Gen.KernelConvLnIdeal
public import proofs.«01_k».proof.Proof.Gen.ReferenceConvLnIdeal
public import proofs.«01_k».proof.Proof.Gen.KernelMemKv
public import proofs.«01_k».proof.Proof.Gen.KernelMemKvIdeal
public import proofs.«01_k».proof.Proof.Gen.ReferenceMemKvIdeal
public import proofs.«01_k».proof.Proof.Gen.KernelLoss
public import proofs.«01_k».proof.Proof.Gen.KernelLossIdeal
public import proofs.«01_k».proof.Proof.Gen.ReferenceLossIdeal
public import proofs.«01_k».proof.Proof.Gen.KernelFfn
public import proofs.«01_k».proof.Proof.Gen.KernelFfnIdeal
public import proofs.«01_k».proof.Proof.Gen.ReferenceFfnIdeal
public import proofs.«01_k».proof.Proof.Gen.KernelFfnIn
public import proofs.«01_k».proof.Proof.Gen.KernelFfnInIdeal
public import proofs.«01_k».proof.Proof.Gen.ReferenceFfnInIdeal
public import proofs.«01_k».proof.Proof.Gen.KernelMixIn
public import proofs.«01_k».proof.Proof.Gen.KernelMixInIdeal
public import proofs.«01_k».proof.Proof.Gen.ReferenceMixInIdeal
public import proofs.«01_k».proof.Proof.Gen.KernelMemAtt
public import proofs.«01_k».proof.Proof.Gen.KernelMemAttIdeal
public import proofs.«01_k».proof.Proof.Gen.ReferenceMemAttIdeal
public import proofs.«01_k».proof.Proof.Gen.KernelMemKvFwd
public import proofs.«01_k».proof.Proof.Gen.KernelMemKvFwdIdeal
public import proofs.«01_k».proof.Proof.Gen.ReferenceMemKvFwdIdeal
public import proofs.«01_k».proof.Proof.Gen.KernelFfnFwd
public import proofs.«01_k».proof.Proof.Gen.KernelFfnFwdIdeal
public import proofs.«01_k».proof.Proof.Gen.ReferenceFfnFwdIdeal
public import proofs.«01_k».proof.Proof.Gen.KernelMemAttFwd
public import proofs.«01_k».proof.Proof.Gen.KernelMemAttFwdIdeal
public import proofs.«01_k».proof.Proof.Gen.ReferenceMemAttFwdIdeal
public import proofs.«01_k».proof.Proof.Gen.KernelMergeFwd
public import proofs.«01_k».proof.Proof.Gen.KernelMergeFwdIdeal
public import proofs.«01_k».proof.Proof.Gen.ReferenceMergeFwdIdeal
public import proofs.«01_k».proof.Proof.Gen.KernelNorm
public import proofs.«01_k».proof.Proof.Gen.KernelNormIdeal
public import proofs.«01_k».proof.Proof.Gen.ReferenceNormIdeal
public import proofs.«01_k».proof.Proof.Gen.KernelConvDw
public import proofs.«01_k».proof.Proof.Gen.KernelConvDwIdeal
public import proofs.«01_k».proof.Proof.Gen.ReferenceConvDwIdeal
public import proofs.«01_k».proof.Proof.Gen.KernelConv
public import proofs.«01_k».proof.Proof.Gen.KernelConvIdeal
public import proofs.«01_k».proof.Proof.Gen.ReferenceConvIdeal
public import proofs.«01_k».proof.Proof.Gen.KernelAttPrep
public import proofs.«01_k».proof.Proof.Gen.KernelAttPrepIdeal
public import proofs.«01_k».proof.Proof.Gen.ReferenceAttPrepIdeal
public import proofs.«01_k».proof.Proof.Gen.KernelAttCombine
public import proofs.«01_k».proof.Proof.Gen.KernelAttCombineIdeal
public import proofs.«01_k».proof.Proof.Gen.ReferenceAttCombineIdeal
public import proofs.«01_k».proof.Proof.Gen.KernelMm
public import proofs.«01_k».proof.Proof.Gen.KernelMmIdeal
public import proofs.«01_k».proof.Proof.Gen.ReferenceMmIdeal
public import proofs.«01_k».proof.Proof.Gen.KernelMmGrad
public import proofs.«01_k».proof.Proof.Gen.KernelMmGradIdeal
public import proofs.«01_k».proof.Proof.Gen.ReferenceMmGradIdeal
public import proofs.«01_k».proof.Proof.Gen.KernelAdamw
public import proofs.«01_k».proof.Proof.Gen.KernelAdamwIdeal
public import proofs.«01_k».proof.Proof.Gen.ReferenceAdamwIdeal
public import proofs.«01_k».proof.Proof.Gen.KernelRelTotal
public import proofs.«01_k».proof.Proof.Gen.KernelRelTotalIdeal
public import proofs.«01_k».proof.Proof.Gen.ReferenceRelTotalIdeal
public import proofs.«01_k».proof.Proof.Gen.KernelAddHalf
public import proofs.«01_k».proof.Proof.Gen.KernelAddHalfIdeal
public import proofs.«01_k».proof.Proof.Gen.ReferenceAddHalfIdeal
public import proofs.«01_k».proof.Proof.Gen.KernelSumChips
public import proofs.«01_k».proof.Proof.Gen.KernelSumChipsIdeal
public import proofs.«01_k».proof.Proof.Gen.ReferenceSumChipsIdeal
public import proofs.«01_k».proof.Proof.Gen.Pre_finite_conv_ln
public import proofs.«01_k».proof.Proof.Gen.Pre_finite_ffn
public import proofs.«01_k».proof.Proof.Gen.Pre_finite_ffn_in
public import proofs.«01_k».proof.Proof.Gen.Pre_finite_mix_in
public import proofs.«01_k».proof.Proof.Gen.Pre_finite_mem_att
public import proofs.«01_k».proof.Proof.Gen.KernelConvLn.Frame
public import proofs.«01_k».proof.Proof.Gen.KernelConvLnIdeal.Frame
public import proofs.«01_k».proof.Proof.Gen.ReferenceConvLnIdeal.Run
public import proofs.«01_k».proof.Proof.Gen.KernelMemKv.Frame
public import proofs.«01_k».proof.Proof.Gen.KernelMemKvIdeal.Frame
public import proofs.«01_k».proof.Proof.Gen.ReferenceMemKvIdeal.Run
public import proofs.«01_k».proof.Proof.Gen.KernelLoss.Frame
public import proofs.«01_k».proof.Proof.Gen.KernelLossIdeal.Frame
public import proofs.«01_k».proof.Proof.Gen.ReferenceLossIdeal.Run
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Gen.KernelFfnIn.Frame
public import proofs.«01_k».proof.Proof.Gen.KernelFfnInIdeal.Frame
public import proofs.«01_k».proof.Proof.Gen.ReferenceFfnInIdeal.Run
public import proofs.«01_k».proof.Proof.Gen.KernelMixIn.Frame
public import proofs.«01_k».proof.Proof.Gen.KernelMixInIdeal.Frame
public import proofs.«01_k».proof.Proof.Gen.ReferenceMixInIdeal.Run
public import proofs.«01_k».proof.Proof.Gen.KernelMemAtt.Frame
public import proofs.«01_k».proof.Proof.Gen.KernelMemAttIdeal.Frame
public import proofs.«01_k».proof.Proof.Gen.ReferenceMemAttIdeal.Run
public import proofs.«01_k».proof.Proof.Gen.KernelMemKvFwd.Frame
public import proofs.«01_k».proof.Proof.Gen.KernelMemKvFwdIdeal.Frame
public import proofs.«01_k».proof.Proof.Gen.ReferenceMemKvFwdIdeal.Run
public import proofs.«01_k».proof.Proof.Gen.KernelFfnFwd.Frame
public import proofs.«01_k».proof.Proof.Gen.KernelFfnFwdIdeal.Frame
public import proofs.«01_k».proof.Proof.Gen.ReferenceFfnFwdIdeal.Run
public import proofs.«01_k».proof.Proof.Gen.KernelMemAttFwd.Frame
public import proofs.«01_k».proof.Proof.Gen.KernelMemAttFwdIdeal.Frame
public import proofs.«01_k».proof.Proof.Gen.ReferenceMemAttFwdIdeal.Run
public import proofs.«01_k».proof.Proof.Gen.KernelMergeFwd.Frame
public import proofs.«01_k».proof.Proof.Gen.KernelMergeFwdIdeal.Frame
public import proofs.«01_k».proof.Proof.Gen.ReferenceMergeFwdIdeal.Run
public import proofs.«01_k».proof.Proof.Gen.KernelNorm.Frame
public import proofs.«01_k».proof.Proof.Gen.KernelNormIdeal.Frame
public import proofs.«01_k».proof.Proof.Gen.ReferenceNormIdeal.Run
public import proofs.«01_k».proof.Proof.Gen.KernelConvDw.Frame
public import proofs.«01_k».proof.Proof.Gen.KernelConvDwIdeal.Frame
public import proofs.«01_k».proof.Proof.Gen.ReferenceConvDwIdeal.Run
public import proofs.«01_k».proof.Proof.Gen.KernelConv.Frame
public import proofs.«01_k».proof.Proof.Gen.KernelConvIdeal.Frame
public import proofs.«01_k».proof.Proof.Gen.ReferenceConvIdeal.Run
public import proofs.«01_k».proof.Proof.Gen.KernelAttPrep.Frame
public import proofs.«01_k».proof.Proof.Gen.KernelAttPrepIdeal.Frame
public import proofs.«01_k».proof.Proof.Gen.ReferenceAttPrepIdeal.Run
public import proofs.«01_k».proof.Proof.Gen.KernelAttCombine.Frame
public import proofs.«01_k».proof.Proof.Gen.KernelAttCombineIdeal.Frame
public import proofs.«01_k».proof.Proof.Gen.ReferenceAttCombineIdeal.Run
public import proofs.«01_k».proof.Proof.Gen.KernelMm.Frame
public import proofs.«01_k».proof.Proof.Gen.KernelMmIdeal.Frame
public import proofs.«01_k».proof.Proof.Gen.ReferenceMmIdeal.Run
public import proofs.«01_k».proof.Proof.Gen.KernelMmGrad.Frame
public import proofs.«01_k».proof.Proof.Gen.KernelMmGradIdeal.Frame
public import proofs.«01_k».proof.Proof.Gen.ReferenceMmGradIdeal.Run
public import proofs.«01_k».proof.Proof.Gen.KernelAdamw.Frame
public import proofs.«01_k».proof.Proof.Gen.KernelAdamwIdeal.Frame
public import proofs.«01_k».proof.Proof.Gen.ReferenceAdamwIdeal.Run
public import proofs.«01_k».proof.Proof.Gen.KernelRelTotal.Frame
public import proofs.«01_k».proof.Proof.Gen.KernelRelTotalIdeal.Frame
public import proofs.«01_k».proof.Proof.Gen.ReferenceRelTotalIdeal.Run
public import proofs.«01_k».proof.Proof.Gen.KernelAddHalf.Frame
public import proofs.«01_k».proof.Proof.Gen.KernelAddHalfIdeal.Frame
public import proofs.«01_k».proof.Proof.Gen.ReferenceAddHalfIdeal.Run
public import proofs.«01_k».proof.Proof.Gen.KernelSumChips.Frame
public import proofs.«01_k».proof.Proof.Gen.KernelSumChipsIdeal.Frame
public import proofs.«01_k».proof.Proof.Gen.ReferenceSumChipsIdeal.Run
public import proofs.«01_k».proof.Proof.ConvLnClaims
public import proofs.«01_k».proof.Proof.MemKvClaims
public import proofs.«01_k».proof.Proof.LossClaims
public import proofs.«01_k».proof.Proof.FfnClaims
public import proofs.«01_k».proof.Proof.FfnInClaims
public import proofs.«01_k».proof.Proof.MixInClaims
public import proofs.«01_k».proof.Proof.MemAttClaims
public import proofs.«01_k».proof.Proof.MemKvFwdClaims
public import proofs.«01_k».proof.Proof.FfnFwdClaims
public import proofs.«01_k».proof.Proof.MemAttFwdClaims
public import proofs.«01_k».proof.Proof.MergeFwdClaims
public import proofs.«01_k».proof.Proof.NormClaims
public import proofs.«01_k».proof.Proof.AttPrepClaims
public import proofs.«01_k».proof.Proof.AttCombineClaims
public import proofs.«01_k».proof.Proof.MmClaims
public import proofs.«01_k».proof.Proof.MmGradClaims
public import proofs.«01_k».proof.Proof.AdamwClaims
public import proofs.«01_k».proof.Proof.RelTotalClaims
public import proofs.«01_k».proof.Proof.AddHalfClaims
public import proofs.«01_k».proof.Proof.SumChipsClaims
public import Idealize.ShloMosaic.Adequacy
public import Idealize.ShloMosaic.Init

@[expose] public section

noncomputable section

namespace Cert.Proof

open Idealize.ShloMosaic Idealize.SL.Sem

/-- The reference of `ConvLn` runs, leaves its arguments unchanged and every semaphore at zero, having none. -/
theorem frameConvLnRef (m : (ℓ : Loc Cert.ReferenceConvLnIdeal.nD Cert.ReferenceConvLnIdeal.τ Cert.ReferenceConvLnIdeal.sig) → Buf (Elt Ideal) ℓ)
    (ρ : Dev Cert.ReferenceConvLnIdeal.nD → PrngReg) :
    θ_run (Cert.ReferenceConvLnIdeal.defs (F := Ideal))
      (onTc (τ := Cert.ReferenceConvLnIdeal.τ) (Cert.ReferenceConvLnIdeal.main (F := Ideal))) ⟨m, fun _ => 0, ρ⟩ (fun r =>
        (∀ c : Dev Cert.ReferenceConvLnIdeal.nD, r.2.mem ((c.tc : Thread Cert.ReferenceConvLnIdeal.nD Cert.ReferenceConvLnIdeal.τ).loc Cert.ReferenceConvLnIdeal.main_arg0)
            = m ((c.tc : Thread Cert.ReferenceConvLnIdeal.nD Cert.ReferenceConvLnIdeal.τ).loc Cert.ReferenceConvLnIdeal.main_arg0)
          ∧ r.2.mem ((c.tc : Thread Cert.ReferenceConvLnIdeal.nD Cert.ReferenceConvLnIdeal.τ).loc Cert.ReferenceConvLnIdeal.main_arg1)
            = m ((c.tc : Thread Cert.ReferenceConvLnIdeal.nD Cert.ReferenceConvLnIdeal.τ).loc Cert.ReferenceConvLnIdeal.main_arg1)
          ∧ r.2.mem ((c.tc : Thread Cert.ReferenceConvLnIdeal.nD Cert.ReferenceConvLnIdeal.τ).loc Cert.ReferenceConvLnIdeal.main_arg2)
            = m ((c.tc : Thread Cert.ReferenceConvLnIdeal.nD Cert.ReferenceConvLnIdeal.τ).loc Cert.ReferenceConvLnIdeal.main_arg2)
          ∧ r.2.mem ((c.tc : Thread Cert.ReferenceConvLnIdeal.nD Cert.ReferenceConvLnIdeal.τ).loc Cert.ReferenceConvLnIdeal.main_arg3)
            = m ((c.tc : Thread Cert.ReferenceConvLnIdeal.nD Cert.ReferenceConvLnIdeal.τ).loc Cert.ReferenceConvLnIdeal.main_arg3)
          ∧ r.2.mem ((c.tc : Thread Cert.ReferenceConvLnIdeal.nD Cert.ReferenceConvLnIdeal.τ).loc Cert.ReferenceConvLnIdeal.main_arg4)
            = m ((c.tc : Thread Cert.ReferenceConvLnIdeal.nD Cert.ReferenceConvLnIdeal.τ).loc Cert.ReferenceConvLnIdeal.main_arg4))
        ∧ r.2.sem = fun _ => 0) :=
  (θ_run Cert.ReferenceConvLnIdeal.defs _ _).mono
    (fun r h => ⟨fun c => (h c).2.2.2.2, Idealize.ShloMosaic.sem_eq_zero_of_no_sems (by decide) r.2⟩)
    (Cert.ReferenceConvLnIdeal.Value.run (F := Ideal) m ρ)

/-- The reference of `MemKv` runs, leaves its arguments unchanged and every semaphore at zero, having none. -/
theorem frameMemKvRef (m : (ℓ : Loc Cert.ReferenceMemKvIdeal.nD Cert.ReferenceMemKvIdeal.τ Cert.ReferenceMemKvIdeal.sig) → Buf (Elt Ideal) ℓ)
    (ρ : Dev Cert.ReferenceMemKvIdeal.nD → PrngReg) :
    θ_run (Cert.ReferenceMemKvIdeal.defs (F := Ideal))
      (onTc (τ := Cert.ReferenceMemKvIdeal.τ) (Cert.ReferenceMemKvIdeal.main (F := Ideal))) ⟨m, fun _ => 0, ρ⟩ (fun r =>
        (∀ c : Dev Cert.ReferenceMemKvIdeal.nD, r.2.mem ((c.tc : Thread Cert.ReferenceMemKvIdeal.nD Cert.ReferenceMemKvIdeal.τ).loc Cert.ReferenceMemKvIdeal.main_arg0)
            = m ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1)
            = m ((c.tc : Thread Cert.ReferenceMemKvIdeal.nD Cert.ReferenceMemKvIdeal.τ).loc Cert.ReferenceMemKvIdeal.main_arg1)
          ∧ r.2.mem ((c.tc : Thread Cert.ReferenceMemKvIdeal.nD Cert.ReferenceMemKvIdeal.τ).loc Cert.ReferenceMemKvIdeal.main_arg2)
            = m ((c.tc : Thread Cert.ReferenceMemKvIdeal.nD Cert.ReferenceMemKvIdeal.τ).loc Cert.ReferenceMemKvIdeal.main_arg2)
          ∧ r.2.mem ((c.tc : Thread Cert.ReferenceMemKvIdeal.nD Cert.ReferenceMemKvIdeal.τ).loc Cert.ReferenceMemKvIdeal.main_arg3)
            = m ((c.tc : Thread Cert.ReferenceMemKvIdeal.nD Cert.ReferenceMemKvIdeal.τ).loc Cert.ReferenceMemKvIdeal.main_arg3))
        ∧ r.2.sem = fun _ => 0) :=
  (θ_run Cert.ReferenceMemKvIdeal.defs _ _).mono
    (fun r h => ⟨fun c => (h c).2.2, Idealize.ShloMosaic.sem_eq_zero_of_no_sems (by decide) r.2⟩)
    (Cert.ReferenceMemKvIdeal.Value.run (F := Ideal) m ρ)

/-- The reference of `Loss` runs, leaves its arguments unchanged and every semaphore at zero, having none. -/
theorem frameLossRef (m : (ℓ : Loc Cert.ReferenceLossIdeal.nD Cert.ReferenceLossIdeal.τ Cert.ReferenceLossIdeal.sig) → Buf (Elt Ideal) ℓ)
    (ρ : Dev Cert.ReferenceLossIdeal.nD → PrngReg) :
    θ_run (Cert.ReferenceLossIdeal.defs (F := Ideal))
      (onTc (τ := Cert.ReferenceLossIdeal.τ) (Cert.ReferenceLossIdeal.main (F := Ideal))) ⟨m, fun _ => 0, ρ⟩ (fun r =>
        (∀ c : Dev Cert.ReferenceLossIdeal.nD, r.2.mem ((c.tc : Thread Cert.ReferenceLossIdeal.nD Cert.ReferenceLossIdeal.τ).loc Cert.ReferenceLossIdeal.main_arg0)
            = m ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1)
            = m ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2)
            = m ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3)
            = m ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4)
            = m ((c.tc : Thread Cert.ReferenceLossIdeal.nD Cert.ReferenceLossIdeal.τ).loc Cert.ReferenceLossIdeal.main_arg4))
        ∧ r.2.sem = fun _ => 0) :=
  (θ_run Cert.ReferenceLossIdeal.defs _ _).mono
    (fun r h => ⟨fun c => (h c).2.2.2, Idealize.ShloMosaic.sem_eq_zero_of_no_sems (by decide) r.2⟩)
    (Cert.ReferenceLossIdeal.Value.run (F := Ideal) m ρ)

/-- The reference of `Ffn` runs, leaves its arguments unchanged and every semaphore at zero, having none. -/
theorem frameFfnRef (m : (ℓ : Loc Cert.ReferenceFfnIdeal.nD Cert.ReferenceFfnIdeal.τ Cert.ReferenceFfnIdeal.sig) → Buf (Elt Ideal) ℓ)
    (ρ : Dev Cert.ReferenceFfnIdeal.nD → PrngReg) :
    θ_run (Cert.ReferenceFfnIdeal.defs (F := Ideal))
      (onTc (τ := Cert.ReferenceFfnIdeal.τ) (Cert.ReferenceFfnIdeal.main (F := Ideal))) ⟨m, fun _ => 0, ρ⟩ (fun r =>
        (∀ c : Dev Cert.ReferenceFfnIdeal.nD, r.2.mem ((c.tc : Thread Cert.ReferenceFfnIdeal.nD Cert.ReferenceFfnIdeal.τ).loc Cert.ReferenceFfnIdeal.main_arg0)
            = m ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1)
            = m ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2)
            = m ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3)
            = m ((c.tc : Thread Cert.ReferenceFfnIdeal.nD Cert.ReferenceFfnIdeal.τ).loc Cert.ReferenceFfnIdeal.main_arg3))
        ∧ r.2.sem = fun _ => 0) :=
  (θ_run Cert.ReferenceFfnIdeal.defs _ _).mono
    (fun r h => ⟨fun c => (h c).2.2.2.2, Idealize.ShloMosaic.sem_eq_zero_of_no_sems (by decide) r.2⟩)
    (Cert.ReferenceFfnIdeal.Value.run (F := Ideal) m ρ)

/-- The reference of `FfnIn` runs, leaves its arguments unchanged and every semaphore at zero, having none. -/
theorem frameFfnInRef (m : (ℓ : Loc Cert.ReferenceFfnInIdeal.nD Cert.ReferenceFfnInIdeal.τ Cert.ReferenceFfnInIdeal.sig) → Buf (Elt Ideal) ℓ)
    (ρ : Dev Cert.ReferenceFfnInIdeal.nD → PrngReg) :
    θ_run (Cert.ReferenceFfnInIdeal.defs (F := Ideal))
      (onTc (τ := Cert.ReferenceFfnInIdeal.τ) (Cert.ReferenceFfnInIdeal.main (F := Ideal))) ⟨m, fun _ => 0, ρ⟩ (fun r =>
        (∀ c : Dev Cert.ReferenceFfnInIdeal.nD, r.2.mem ((c.tc : Thread Cert.ReferenceFfnInIdeal.nD Cert.ReferenceFfnInIdeal.τ).loc Cert.ReferenceFfnInIdeal.main_arg0)
            = m ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1)
            = m ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2)
            = m ((c.tc : Thread Cert.ReferenceFfnInIdeal.nD Cert.ReferenceFfnInIdeal.τ).loc Cert.ReferenceFfnInIdeal.main_arg2)
          ∧ r.2.mem ((c.tc : Thread Cert.ReferenceFfnInIdeal.nD Cert.ReferenceFfnInIdeal.τ).loc Cert.ReferenceFfnInIdeal.main_arg3)
            = m ((c.tc : Thread Cert.ReferenceFfnInIdeal.nD Cert.ReferenceFfnInIdeal.τ).loc Cert.ReferenceFfnInIdeal.main_arg3)
          ∧ r.2.mem ((c.tc : Thread Cert.ReferenceFfnInIdeal.nD Cert.ReferenceFfnInIdeal.τ).loc Cert.ReferenceFfnInIdeal.main_arg4)
            = m ((c.tc : Thread Cert.ReferenceFfnInIdeal.nD Cert.ReferenceFfnInIdeal.τ).loc Cert.ReferenceFfnInIdeal.main_arg4))
        ∧ r.2.sem = fun _ => 0) :=
  (θ_run Cert.ReferenceFfnInIdeal.defs _ _).mono
    (fun r h => ⟨fun c => (h c).2.2, Idealize.ShloMosaic.sem_eq_zero_of_no_sems (by decide) r.2⟩)
    (Cert.ReferenceFfnInIdeal.Value.run (F := Ideal) m ρ)

/-- The reference of `MixIn` runs, leaves its arguments unchanged and every semaphore at zero, having none. -/
theorem frameMixInRef (m : (ℓ : Loc Cert.ReferenceMixInIdeal.nD Cert.ReferenceMixInIdeal.τ Cert.ReferenceMixInIdeal.sig) → Buf (Elt Ideal) ℓ)
    (ρ : Dev Cert.ReferenceMixInIdeal.nD → PrngReg) :
    θ_run (Cert.ReferenceMixInIdeal.defs (F := Ideal))
      (onTc (τ := Cert.ReferenceMixInIdeal.τ) (Cert.ReferenceMixInIdeal.main (F := Ideal))) ⟨m, fun _ => 0, ρ⟩ (fun r =>
        (∀ c : Dev Cert.ReferenceMixInIdeal.nD, r.2.mem ((c.tc : Thread Cert.ReferenceMixInIdeal.nD Cert.ReferenceMixInIdeal.τ).loc Cert.ReferenceMixInIdeal.main_arg0)
            = m ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1)
            = m ((c.tc : Thread Cert.ReferenceMixInIdeal.nD Cert.ReferenceMixInIdeal.τ).loc Cert.ReferenceMixInIdeal.main_arg1)
          ∧ r.2.mem ((c.tc : Thread Cert.ReferenceMixInIdeal.nD Cert.ReferenceMixInIdeal.τ).loc Cert.ReferenceMixInIdeal.main_arg2)
            = m ((c.tc : Thread Cert.ReferenceMixInIdeal.nD Cert.ReferenceMixInIdeal.τ).loc Cert.ReferenceMixInIdeal.main_arg2)
          ∧ r.2.mem ((c.tc : Thread Cert.ReferenceMixInIdeal.nD Cert.ReferenceMixInIdeal.τ).loc Cert.ReferenceMixInIdeal.main_arg3)
            = m ((c.tc : Thread Cert.ReferenceMixInIdeal.nD Cert.ReferenceMixInIdeal.τ).loc Cert.ReferenceMixInIdeal.main_arg3)
          ∧ r.2.mem ((c.tc : Thread Cert.ReferenceMixInIdeal.nD Cert.ReferenceMixInIdeal.τ).loc Cert.ReferenceMixInIdeal.main_arg4)
            = m ((c.tc : Thread Cert.ReferenceMixInIdeal.nD Cert.ReferenceMixInIdeal.τ).loc Cert.ReferenceMixInIdeal.main_arg4))
        ∧ r.2.sem = fun _ => 0) :=
  (θ_run Cert.ReferenceMixInIdeal.defs _ _).mono
    (fun r h => ⟨fun c => (h c).2.2, Idealize.ShloMosaic.sem_eq_zero_of_no_sems (by decide) r.2⟩)
    (Cert.ReferenceMixInIdeal.Value.run (F := Ideal) m ρ)

/-- The reference of `MemAtt` runs, leaves its arguments unchanged and every semaphore at zero, having none. -/
theorem frameMemAttRef (m : (ℓ : Loc Cert.ReferenceMemAttIdeal.nD Cert.ReferenceMemAttIdeal.τ Cert.ReferenceMemAttIdeal.sig) → Buf (Elt Ideal) ℓ)
    (ρ : Dev Cert.ReferenceMemAttIdeal.nD → PrngReg) :
    θ_run (Cert.ReferenceMemAttIdeal.defs (F := Ideal))
      (onTc (τ := Cert.ReferenceMemAttIdeal.τ) (Cert.ReferenceMemAttIdeal.main (F := Ideal))) ⟨m, fun _ => 0, ρ⟩ (fun r =>
        (∀ c : Dev Cert.ReferenceMemAttIdeal.nD, r.2.mem ((c.tc : Thread Cert.ReferenceMemAttIdeal.nD Cert.ReferenceMemAttIdeal.τ).loc Cert.ReferenceMemAttIdeal.main_arg0)
            = m ((c.tc : Thread Cert.ReferenceMemAttIdeal.nD Cert.ReferenceMemAttIdeal.τ).loc Cert.ReferenceMemAttIdeal.main_arg0)
          ∧ r.2.mem ((c.tc : Thread Cert.ReferenceMemAttIdeal.nD Cert.ReferenceMemAttIdeal.τ).loc Cert.ReferenceMemAttIdeal.main_arg1)
            = m ((c.tc : Thread Cert.ReferenceMemAttIdeal.nD Cert.ReferenceMemAttIdeal.τ).loc Cert.ReferenceMemAttIdeal.main_arg1)
          ∧ r.2.mem ((c.tc : Thread Cert.ReferenceMemAttIdeal.nD Cert.ReferenceMemAttIdeal.τ).loc Cert.ReferenceMemAttIdeal.main_arg2)
            = m ((c.tc : Thread Cert.ReferenceMemAttIdeal.nD Cert.ReferenceMemAttIdeal.τ).loc Cert.ReferenceMemAttIdeal.main_arg2)
          ∧ r.2.mem ((c.tc : Thread Cert.ReferenceMemAttIdeal.nD Cert.ReferenceMemAttIdeal.τ).loc Cert.ReferenceMemAttIdeal.main_arg3)
            = m ((c.tc : Thread Cert.ReferenceMemAttIdeal.nD Cert.ReferenceMemAttIdeal.τ).loc Cert.ReferenceMemAttIdeal.main_arg3))
        ∧ r.2.sem = fun _ => 0) :=
  (θ_run Cert.ReferenceMemAttIdeal.defs _ _).mono
    (fun r h => ⟨fun c => (h c).2.2, Idealize.ShloMosaic.sem_eq_zero_of_no_sems (by decide) r.2⟩)
    (Cert.ReferenceMemAttIdeal.Value.run (F := Ideal) m ρ)

/-- The reference of `MemKvFwd` runs, leaves its arguments unchanged and every semaphore at zero, having none. -/
theorem frameMemKvFwdRef (m : (ℓ : Loc Cert.ReferenceMemKvFwdIdeal.nD Cert.ReferenceMemKvFwdIdeal.τ Cert.ReferenceMemKvFwdIdeal.sig) → Buf (Elt Ideal) ℓ)
    (ρ : Dev Cert.ReferenceMemKvFwdIdeal.nD → PrngReg) :
    θ_run (Cert.ReferenceMemKvFwdIdeal.defs (F := Ideal))
      (onTc (τ := Cert.ReferenceMemKvFwdIdeal.τ) (Cert.ReferenceMemKvFwdIdeal.main (F := Ideal))) ⟨m, fun _ => 0, ρ⟩ (fun r =>
        (∀ c : Dev Cert.ReferenceMemKvFwdIdeal.nD, r.2.mem ((c.tc : Thread Cert.ReferenceMemKvFwdIdeal.nD Cert.ReferenceMemKvFwdIdeal.τ).loc Cert.ReferenceMemKvFwdIdeal.main_arg0)
            = m ((c.tc : Thread Cert.ReferenceMemKvFwdIdeal.nD Cert.ReferenceMemKvFwdIdeal.τ).loc Cert.ReferenceMemKvFwdIdeal.main_arg0)
          ∧ r.2.mem ((c.tc : Thread Cert.ReferenceMemKvFwdIdeal.nD Cert.ReferenceMemKvFwdIdeal.τ).loc Cert.ReferenceMemKvFwdIdeal.main_arg1)
            = m ((c.tc : Thread Cert.ReferenceMemKvFwdIdeal.nD Cert.ReferenceMemKvFwdIdeal.τ).loc Cert.ReferenceMemKvFwdIdeal.main_arg1)
          ∧ r.2.mem ((c.tc : Thread Cert.ReferenceMemKvFwdIdeal.nD Cert.ReferenceMemKvFwdIdeal.τ).loc Cert.ReferenceMemKvFwdIdeal.main_arg2)
            = m ((c.tc : Thread Cert.ReferenceMemKvFwdIdeal.nD Cert.ReferenceMemKvFwdIdeal.τ).loc Cert.ReferenceMemKvFwdIdeal.main_arg2))
        ∧ r.2.sem = fun _ => 0) :=
  (θ_run Cert.ReferenceMemKvFwdIdeal.defs _ _).mono
    (fun r h => ⟨fun c => (h c).2.2, Idealize.ShloMosaic.sem_eq_zero_of_no_sems (by decide) r.2⟩)
    (Cert.ReferenceMemKvFwdIdeal.Value.run (F := Ideal) m ρ)

/-- The reference of `FfnFwd` runs, leaves its arguments unchanged and every semaphore at zero, having none. -/
theorem frameFfnFwdRef (m : (ℓ : Loc Cert.ReferenceFfnFwdIdeal.nD Cert.ReferenceFfnFwdIdeal.τ Cert.ReferenceFfnFwdIdeal.sig) → Buf (Elt Ideal) ℓ)
    (ρ : Dev Cert.ReferenceFfnFwdIdeal.nD → PrngReg) :
    θ_run (Cert.ReferenceFfnFwdIdeal.defs (F := Ideal))
      (onTc (τ := Cert.ReferenceFfnFwdIdeal.τ) (Cert.ReferenceFfnFwdIdeal.main (F := Ideal))) ⟨m, fun _ => 0, ρ⟩ (fun r =>
        (∀ c : Dev Cert.ReferenceFfnFwdIdeal.nD, r.2.mem ((c.tc : Thread Cert.ReferenceFfnFwdIdeal.nD Cert.ReferenceFfnFwdIdeal.τ).loc Cert.ReferenceFfnFwdIdeal.main_arg0)
            = m ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1)
            = m ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2)
            = m ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3)
            = m ((c.tc : Thread Cert.ReferenceFfnFwdIdeal.nD Cert.ReferenceFfnFwdIdeal.τ).loc Cert.ReferenceFfnFwdIdeal.main_arg3)
          ∧ r.2.mem ((c.tc : Thread Cert.ReferenceFfnFwdIdeal.nD Cert.ReferenceFfnFwdIdeal.τ).loc Cert.ReferenceFfnFwdIdeal.main_arg4)
            = m ((c.tc : Thread Cert.ReferenceFfnFwdIdeal.nD Cert.ReferenceFfnFwdIdeal.τ).loc Cert.ReferenceFfnFwdIdeal.main_arg4))
        ∧ r.2.sem = fun _ => 0) :=
  (θ_run Cert.ReferenceFfnFwdIdeal.defs _ _).mono
    (fun r h => ⟨fun c => (h c).2.2.2, Idealize.ShloMosaic.sem_eq_zero_of_no_sems (by decide) r.2⟩)
    (Cert.ReferenceFfnFwdIdeal.Value.run (F := Ideal) m ρ)

/-- The reference of `MemAttFwd` runs, leaves its arguments unchanged and every semaphore at zero, having none. -/
theorem frameMemAttFwdRef (m : (ℓ : Loc Cert.ReferenceMemAttFwdIdeal.nD Cert.ReferenceMemAttFwdIdeal.τ Cert.ReferenceMemAttFwdIdeal.sig) → Buf (Elt Ideal) ℓ)
    (ρ : Dev Cert.ReferenceMemAttFwdIdeal.nD → PrngReg) :
    θ_run (Cert.ReferenceMemAttFwdIdeal.defs (F := Ideal))
      (onTc (τ := Cert.ReferenceMemAttFwdIdeal.τ) (Cert.ReferenceMemAttFwdIdeal.main (F := Ideal))) ⟨m, fun _ => 0, ρ⟩ (fun r =>
        (∀ c : Dev Cert.ReferenceMemAttFwdIdeal.nD, r.2.mem ((c.tc : Thread Cert.ReferenceMemAttFwdIdeal.nD Cert.ReferenceMemAttFwdIdeal.τ).loc Cert.ReferenceMemAttFwdIdeal.main_arg0)
            = m ((c.tc : Thread Cert.ReferenceMemAttFwdIdeal.nD Cert.ReferenceMemAttFwdIdeal.τ).loc Cert.ReferenceMemAttFwdIdeal.main_arg0)
          ∧ r.2.mem ((c.tc : Thread Cert.ReferenceMemAttFwdIdeal.nD Cert.ReferenceMemAttFwdIdeal.τ).loc Cert.ReferenceMemAttFwdIdeal.main_arg1)
            = m ((c.tc : Thread Cert.ReferenceMemAttFwdIdeal.nD Cert.ReferenceMemAttFwdIdeal.τ).loc Cert.ReferenceMemAttFwdIdeal.main_arg1))
        ∧ r.2.sem = fun _ => 0) :=
  (θ_run Cert.ReferenceMemAttFwdIdeal.defs _ _).mono
    (fun r h => ⟨fun c => (h c).2, Idealize.ShloMosaic.sem_eq_zero_of_no_sems (by decide) r.2⟩)
    (Cert.ReferenceMemAttFwdIdeal.Value.run (F := Ideal) m ρ)

/-- The reference of `MergeFwd` runs, leaves its arguments unchanged and every semaphore at zero, having none. -/
theorem frameMergeFwdRef (m : (ℓ : Loc Cert.ReferenceMergeFwdIdeal.nD Cert.ReferenceMergeFwdIdeal.τ Cert.ReferenceMergeFwdIdeal.sig) → Buf (Elt Ideal) ℓ)
    (ρ : Dev Cert.ReferenceMergeFwdIdeal.nD → PrngReg) :
    θ_run (Cert.ReferenceMergeFwdIdeal.defs (F := Ideal))
      (onTc (τ := Cert.ReferenceMergeFwdIdeal.τ) (Cert.ReferenceMergeFwdIdeal.main (F := Ideal))) ⟨m, fun _ => 0, ρ⟩ (fun r =>
        (∀ c : Dev Cert.ReferenceMergeFwdIdeal.nD, r.2.mem ((c.tc : Thread Cert.ReferenceMergeFwdIdeal.nD Cert.ReferenceMergeFwdIdeal.τ).loc Cert.ReferenceMergeFwdIdeal.main_arg0)
            = m ((c.tc : Thread Cert.ReferenceMergeFwdIdeal.nD Cert.ReferenceMergeFwdIdeal.τ).loc Cert.ReferenceMergeFwdIdeal.main_arg0)
          ∧ r.2.mem ((c.tc : Thread Cert.ReferenceMergeFwdIdeal.nD Cert.ReferenceMergeFwdIdeal.τ).loc Cert.ReferenceMergeFwdIdeal.main_arg1)
            = m ((c.tc : Thread Cert.ReferenceMergeFwdIdeal.nD Cert.ReferenceMergeFwdIdeal.τ).loc Cert.ReferenceMergeFwdIdeal.main_arg1)
          ∧ r.2.mem ((c.tc : Thread Cert.ReferenceMergeFwdIdeal.nD Cert.ReferenceMergeFwdIdeal.τ).loc Cert.ReferenceMergeFwdIdeal.main_arg2)
            = m ((c.tc : Thread Cert.ReferenceMergeFwdIdeal.nD Cert.ReferenceMergeFwdIdeal.τ).loc Cert.ReferenceMergeFwdIdeal.main_arg2)
          ∧ r.2.mem ((c.tc : Thread Cert.ReferenceMergeFwdIdeal.nD Cert.ReferenceMergeFwdIdeal.τ).loc Cert.ReferenceMergeFwdIdeal.main_arg3)
            = m ((c.tc : Thread Cert.ReferenceMergeFwdIdeal.nD Cert.ReferenceMergeFwdIdeal.τ).loc Cert.ReferenceMergeFwdIdeal.main_arg3)
          ∧ r.2.mem ((c.tc : Thread Cert.ReferenceMergeFwdIdeal.nD Cert.ReferenceMergeFwdIdeal.τ).loc Cert.ReferenceMergeFwdIdeal.main_arg4)
            = m ((c.tc : Thread Cert.ReferenceMergeFwdIdeal.nD Cert.ReferenceMergeFwdIdeal.τ).loc Cert.ReferenceMergeFwdIdeal.main_arg4)
          ∧ r.2.mem ((c.tc : Thread Cert.ReferenceMergeFwdIdeal.nD Cert.ReferenceMergeFwdIdeal.τ).loc Cert.ReferenceMergeFwdIdeal.main_arg5)
            = m ((c.tc : Thread Cert.ReferenceMergeFwdIdeal.nD Cert.ReferenceMergeFwdIdeal.τ).loc Cert.ReferenceMergeFwdIdeal.main_arg5)
          ∧ r.2.mem ((c.tc : Thread Cert.ReferenceMergeFwdIdeal.nD Cert.ReferenceMergeFwdIdeal.τ).loc Cert.ReferenceMergeFwdIdeal.main_arg6)
            = m ((c.tc : Thread Cert.ReferenceMergeFwdIdeal.nD Cert.ReferenceMergeFwdIdeal.τ).loc Cert.ReferenceMergeFwdIdeal.main_arg6)
          ∧ r.2.mem ((c.tc : Thread Cert.ReferenceMergeFwdIdeal.nD Cert.ReferenceMergeFwdIdeal.τ).loc Cert.ReferenceMergeFwdIdeal.main_arg7)
            = m ((c.tc : Thread Cert.ReferenceMergeFwdIdeal.nD Cert.ReferenceMergeFwdIdeal.τ).loc Cert.ReferenceMergeFwdIdeal.main_arg7)
          ∧ r.2.mem ((c.tc : Thread Cert.ReferenceMergeFwdIdeal.nD Cert.ReferenceMergeFwdIdeal.τ).loc Cert.ReferenceMergeFwdIdeal.main_arg8)
            = m ((c.tc : Thread Cert.ReferenceMergeFwdIdeal.nD Cert.ReferenceMergeFwdIdeal.τ).loc Cert.ReferenceMergeFwdIdeal.main_arg8)
          ∧ r.2.mem ((c.tc : Thread Cert.ReferenceMergeFwdIdeal.nD Cert.ReferenceMergeFwdIdeal.τ).loc Cert.ReferenceMergeFwdIdeal.main_arg9)
            = m ((c.tc : Thread Cert.ReferenceMergeFwdIdeal.nD Cert.ReferenceMergeFwdIdeal.τ).loc Cert.ReferenceMergeFwdIdeal.main_arg9)
          ∧ r.2.mem ((c.tc : Thread Cert.ReferenceMergeFwdIdeal.nD Cert.ReferenceMergeFwdIdeal.τ).loc Cert.ReferenceMergeFwdIdeal.main_arg10)
            = m ((c.tc : Thread Cert.ReferenceMergeFwdIdeal.nD Cert.ReferenceMergeFwdIdeal.τ).loc Cert.ReferenceMergeFwdIdeal.main_arg10)
          ∧ r.2.mem ((c.tc : Thread Cert.ReferenceMergeFwdIdeal.nD Cert.ReferenceMergeFwdIdeal.τ).loc Cert.ReferenceMergeFwdIdeal.main_arg11)
            = m ((c.tc : Thread Cert.ReferenceMergeFwdIdeal.nD Cert.ReferenceMergeFwdIdeal.τ).loc Cert.ReferenceMergeFwdIdeal.main_arg11))
        ∧ r.2.sem = fun _ => 0) :=
  (θ_run Cert.ReferenceMergeFwdIdeal.defs _ _).mono
    (fun r h => ⟨fun c => (h c).2.2.2.2, Idealize.ShloMosaic.sem_eq_zero_of_no_sems (by decide) r.2⟩)
    (Cert.ReferenceMergeFwdIdeal.Value.run (F := Ideal) m ρ)

/-- The reference of `Norm` runs, leaves its arguments unchanged and every semaphore at zero, having none. -/
theorem frameNormRef (m : (ℓ : Loc Cert.ReferenceNormIdeal.nD Cert.ReferenceNormIdeal.τ Cert.ReferenceNormIdeal.sig) → Buf (Elt Ideal) ℓ)
    (ρ : Dev Cert.ReferenceNormIdeal.nD → PrngReg) :
    θ_run (Cert.ReferenceNormIdeal.defs (F := Ideal))
      (onTc (τ := Cert.ReferenceNormIdeal.τ) (Cert.ReferenceNormIdeal.main (F := Ideal))) ⟨m, fun _ => 0, ρ⟩ (fun r =>
        (∀ c : Dev Cert.ReferenceNormIdeal.nD, r.2.mem ((c.tc : Thread Cert.ReferenceNormIdeal.nD Cert.ReferenceNormIdeal.τ).loc Cert.ReferenceNormIdeal.main_arg0)
            = m ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1)
            = m ((c.tc : Thread Cert.ReferenceNormIdeal.nD Cert.ReferenceNormIdeal.τ).loc Cert.ReferenceNormIdeal.main_arg1))
        ∧ r.2.sem = fun _ => 0) :=
  (θ_run Cert.ReferenceNormIdeal.defs _ _).mono
    (fun r h => ⟨fun c => (h c).2, Idealize.ShloMosaic.sem_eq_zero_of_no_sems (by decide) r.2⟩)
    (Cert.ReferenceNormIdeal.Value.run (F := Ideal) m ρ)

/-- The reference of `ConvDw` runs, leaves its arguments unchanged and every semaphore at zero, having none. -/
theorem frameConvDwRef (m : (ℓ : Loc Cert.ReferenceConvDwIdeal.nD Cert.ReferenceConvDwIdeal.τ Cert.ReferenceConvDwIdeal.sig) → Buf (Elt Ideal) ℓ)
    (ρ : Dev Cert.ReferenceConvDwIdeal.nD → PrngReg) :
    θ_run (Cert.ReferenceConvDwIdeal.defs (F := Ideal))
      (onTc (τ := Cert.ReferenceConvDwIdeal.τ) (Cert.ReferenceConvDwIdeal.main (F := Ideal))) ⟨m, fun _ => 0, ρ⟩ (fun r =>
        (∀ c : Dev Cert.ReferenceConvDwIdeal.nD, r.2.mem ((c.tc : Thread Cert.ReferenceConvDwIdeal.nD Cert.ReferenceConvDwIdeal.τ).loc Cert.ReferenceConvDwIdeal.main_arg0)
            = m ((c.tc : Thread Cert.ReferenceConvDwIdeal.nD Cert.ReferenceConvDwIdeal.τ).loc Cert.ReferenceConvDwIdeal.main_arg0)
          ∧ r.2.mem ((c.tc : Thread Cert.ReferenceConvDwIdeal.nD Cert.ReferenceConvDwIdeal.τ).loc Cert.ReferenceConvDwIdeal.main_arg1)
            = m ((c.tc : Thread Cert.ReferenceConvDwIdeal.nD Cert.ReferenceConvDwIdeal.τ).loc Cert.ReferenceConvDwIdeal.main_arg1)
          ∧ r.2.mem ((c.tc : Thread Cert.ReferenceConvDwIdeal.nD Cert.ReferenceConvDwIdeal.τ).loc Cert.ReferenceConvDwIdeal.main_arg2)
            = m ((c.tc : Thread Cert.ReferenceConvDwIdeal.nD Cert.ReferenceConvDwIdeal.τ).loc Cert.ReferenceConvDwIdeal.main_arg2)
          ∧ r.2.mem ((c.tc : Thread Cert.ReferenceConvDwIdeal.nD Cert.ReferenceConvDwIdeal.τ).loc Cert.ReferenceConvDwIdeal.main_arg3)
            = m ((c.tc : Thread Cert.ReferenceConvDwIdeal.nD Cert.ReferenceConvDwIdeal.τ).loc Cert.ReferenceConvDwIdeal.main_arg3))
        ∧ r.2.sem = fun _ => 0) :=
  (θ_run Cert.ReferenceConvDwIdeal.defs _ _).mono
    (fun r h => ⟨fun c => (h c).2.2, Idealize.ShloMosaic.sem_eq_zero_of_no_sems (by decide) r.2⟩)
    (Cert.ReferenceConvDwIdeal.Value.run (F := Ideal) m ρ)

/-- The reference of `Conv` runs, leaves its arguments unchanged and every semaphore at zero, having none. -/
theorem frameConvRef (m : (ℓ : Loc Cert.ReferenceConvIdeal.nD Cert.ReferenceConvIdeal.τ Cert.ReferenceConvIdeal.sig) → Buf (Elt Ideal) ℓ)
    (ρ : Dev Cert.ReferenceConvIdeal.nD → PrngReg) :
    θ_run (Cert.ReferenceConvIdeal.defs (F := Ideal))
      (onTc (τ := Cert.ReferenceConvIdeal.τ) (Cert.ReferenceConvIdeal.main (F := Ideal))) ⟨m, fun _ => 0, ρ⟩ (fun r =>
        (∀ c : Dev Cert.ReferenceConvIdeal.nD, r.2.mem ((c.tc : Thread Cert.ReferenceConvIdeal.nD Cert.ReferenceConvIdeal.τ).loc Cert.ReferenceConvIdeal.main_arg0)
            = m ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1)
            = m ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2)
            = m ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3)
            = m ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4)
            = m ((c.tc : Thread Cert.ReferenceConvIdeal.nD Cert.ReferenceConvIdeal.τ).loc Cert.ReferenceConvIdeal.main_arg4))
        ∧ r.2.sem = fun _ => 0) :=
  (θ_run Cert.ReferenceConvIdeal.defs _ _).mono
    (fun r h => ⟨fun c => (h c).2.2, Idealize.ShloMosaic.sem_eq_zero_of_no_sems (by decide) r.2⟩)
    (Cert.ReferenceConvIdeal.Value.run (F := Ideal) m ρ)

/-- The reference of `AttPrep` runs, leaves its arguments unchanged and every semaphore at zero, having none. -/
theorem frameAttPrepRef (m : (ℓ : Loc Cert.ReferenceAttPrepIdeal.nD Cert.ReferenceAttPrepIdeal.τ Cert.ReferenceAttPrepIdeal.sig) → Buf (Elt Ideal) ℓ)
    (ρ : Dev Cert.ReferenceAttPrepIdeal.nD → PrngReg) :
    θ_run (Cert.ReferenceAttPrepIdeal.defs (F := Ideal))
      (onTc (τ := Cert.ReferenceAttPrepIdeal.τ) (Cert.ReferenceAttPrepIdeal.main (F := Ideal))) ⟨m, fun _ => 0, ρ⟩ (fun r =>
        (∀ c : Dev Cert.ReferenceAttPrepIdeal.nD, r.2.mem ((c.tc : Thread Cert.ReferenceAttPrepIdeal.nD Cert.ReferenceAttPrepIdeal.τ).loc Cert.ReferenceAttPrepIdeal.main_arg0)
            = m ((c.tc : Thread Cert.ReferenceAttPrepIdeal.nD Cert.ReferenceAttPrepIdeal.τ).loc Cert.ReferenceAttPrepIdeal.main_arg0)
          ∧ r.2.mem ((c.tc : Thread Cert.ReferenceAttPrepIdeal.nD Cert.ReferenceAttPrepIdeal.τ).loc Cert.ReferenceAttPrepIdeal.main_arg1)
            = m ((c.tc : Thread Cert.ReferenceAttPrepIdeal.nD Cert.ReferenceAttPrepIdeal.τ).loc Cert.ReferenceAttPrepIdeal.main_arg1)
          ∧ r.2.mem ((c.tc : Thread Cert.ReferenceAttPrepIdeal.nD Cert.ReferenceAttPrepIdeal.τ).loc Cert.ReferenceAttPrepIdeal.main_arg2)
            = m ((c.tc : Thread Cert.ReferenceAttPrepIdeal.nD Cert.ReferenceAttPrepIdeal.τ).loc Cert.ReferenceAttPrepIdeal.main_arg2)
          ∧ r.2.mem ((c.tc : Thread Cert.ReferenceAttPrepIdeal.nD Cert.ReferenceAttPrepIdeal.τ).loc Cert.ReferenceAttPrepIdeal.main_arg3)
            = m ((c.tc : Thread Cert.ReferenceAttPrepIdeal.nD Cert.ReferenceAttPrepIdeal.τ).loc Cert.ReferenceAttPrepIdeal.main_arg3)
          ∧ r.2.mem ((c.tc : Thread Cert.ReferenceAttPrepIdeal.nD Cert.ReferenceAttPrepIdeal.τ).loc Cert.ReferenceAttPrepIdeal.main_arg4)
            = m ((c.tc : Thread Cert.ReferenceAttPrepIdeal.nD Cert.ReferenceAttPrepIdeal.τ).loc Cert.ReferenceAttPrepIdeal.main_arg4)
          ∧ r.2.mem ((c.tc : Thread Cert.ReferenceAttPrepIdeal.nD Cert.ReferenceAttPrepIdeal.τ).loc Cert.ReferenceAttPrepIdeal.main_arg5)
            = m ((c.tc : Thread Cert.ReferenceAttPrepIdeal.nD Cert.ReferenceAttPrepIdeal.τ).loc Cert.ReferenceAttPrepIdeal.main_arg5)
          ∧ r.2.mem ((c.tc : Thread Cert.ReferenceAttPrepIdeal.nD Cert.ReferenceAttPrepIdeal.τ).loc Cert.ReferenceAttPrepIdeal.main_arg6)
            = m ((c.tc : Thread Cert.ReferenceAttPrepIdeal.nD Cert.ReferenceAttPrepIdeal.τ).loc Cert.ReferenceAttPrepIdeal.main_arg6))
        ∧ r.2.sem = fun _ => 0) :=
  (θ_run Cert.ReferenceAttPrepIdeal.defs _ _).mono
    (fun r h => ⟨fun c => (h c).2, Idealize.ShloMosaic.sem_eq_zero_of_no_sems (by decide) r.2⟩)
    (Cert.ReferenceAttPrepIdeal.Value.run (F := Ideal) m ρ)

/-- The reference of `AttCombine` runs, leaves its arguments unchanged and every semaphore at zero, having none. -/
theorem frameAttCombineRef (m : (ℓ : Loc Cert.ReferenceAttCombineIdeal.nD Cert.ReferenceAttCombineIdeal.τ Cert.ReferenceAttCombineIdeal.sig) → Buf (Elt Ideal) ℓ)
    (ρ : Dev Cert.ReferenceAttCombineIdeal.nD → PrngReg) :
    θ_run (Cert.ReferenceAttCombineIdeal.defs (F := Ideal))
      (onTc (τ := Cert.ReferenceAttCombineIdeal.τ) (Cert.ReferenceAttCombineIdeal.main (F := Ideal))) ⟨m, fun _ => 0, ρ⟩ (fun r =>
        (∀ c : Dev Cert.ReferenceAttCombineIdeal.nD, r.2.mem ((c.tc : Thread Cert.ReferenceAttCombineIdeal.nD Cert.ReferenceAttCombineIdeal.τ).loc Cert.ReferenceAttCombineIdeal.main_arg0)
            = m ((c.tc : Thread Cert.ReferenceAttCombineIdeal.nD Cert.ReferenceAttCombineIdeal.τ).loc Cert.ReferenceAttCombineIdeal.main_arg0)
          ∧ r.2.mem ((c.tc : Thread Cert.ReferenceAttCombineIdeal.nD Cert.ReferenceAttCombineIdeal.τ).loc Cert.ReferenceAttCombineIdeal.main_arg1)
            = m ((c.tc : Thread Cert.ReferenceAttCombineIdeal.nD Cert.ReferenceAttCombineIdeal.τ).loc Cert.ReferenceAttCombineIdeal.main_arg1)
          ∧ r.2.mem ((c.tc : Thread Cert.ReferenceAttCombineIdeal.nD Cert.ReferenceAttCombineIdeal.τ).loc Cert.ReferenceAttCombineIdeal.main_arg2)
            = m ((c.tc : Thread Cert.ReferenceAttCombineIdeal.nD Cert.ReferenceAttCombineIdeal.τ).loc Cert.ReferenceAttCombineIdeal.main_arg2)
          ∧ r.2.mem ((c.tc : Thread Cert.ReferenceAttCombineIdeal.nD Cert.ReferenceAttCombineIdeal.τ).loc Cert.ReferenceAttCombineIdeal.main_arg3)
            = m ((c.tc : Thread Cert.ReferenceAttCombineIdeal.nD Cert.ReferenceAttCombineIdeal.τ).loc Cert.ReferenceAttCombineIdeal.main_arg3)
          ∧ r.2.mem ((c.tc : Thread Cert.ReferenceAttCombineIdeal.nD Cert.ReferenceAttCombineIdeal.τ).loc Cert.ReferenceAttCombineIdeal.main_arg4)
            = m ((c.tc : Thread Cert.ReferenceAttCombineIdeal.nD Cert.ReferenceAttCombineIdeal.τ).loc Cert.ReferenceAttCombineIdeal.main_arg4)
          ∧ r.2.mem ((c.tc : Thread Cert.ReferenceAttCombineIdeal.nD Cert.ReferenceAttCombineIdeal.τ).loc Cert.ReferenceAttCombineIdeal.main_arg5)
            = m ((c.tc : Thread Cert.ReferenceAttCombineIdeal.nD Cert.ReferenceAttCombineIdeal.τ).loc Cert.ReferenceAttCombineIdeal.main_arg5))
        ∧ r.2.sem = fun _ => 0) :=
  (θ_run Cert.ReferenceAttCombineIdeal.defs _ _).mono
    (fun r h => ⟨fun c => (h c).2.2, Idealize.ShloMosaic.sem_eq_zero_of_no_sems (by decide) r.2⟩)
    (Cert.ReferenceAttCombineIdeal.Value.run (F := Ideal) m ρ)

/-- The reference of `Mm` runs, leaves its arguments unchanged and every semaphore at zero, having none. -/
theorem frameMmRef (m : (ℓ : Loc Cert.ReferenceMmIdeal.nD Cert.ReferenceMmIdeal.τ Cert.ReferenceMmIdeal.sig) → Buf (Elt Ideal) ℓ)
    (ρ : Dev Cert.ReferenceMmIdeal.nD → PrngReg) :
    θ_run (Cert.ReferenceMmIdeal.defs (F := Ideal))
      (onTc (τ := Cert.ReferenceMmIdeal.τ) (Cert.ReferenceMmIdeal.main (F := Ideal))) ⟨m, fun _ => 0, ρ⟩ (fun r =>
        (∀ c : Dev Cert.ReferenceMmIdeal.nD, r.2.mem ((c.tc : Thread Cert.ReferenceMmIdeal.nD Cert.ReferenceMmIdeal.τ).loc Cert.ReferenceMmIdeal.main_arg0)
            = m ((c.tc : Thread Cert.ReferenceMmIdeal.nD Cert.ReferenceMmIdeal.τ).loc Cert.ReferenceMmIdeal.main_arg0)
          ∧ r.2.mem ((c.tc : Thread Cert.ReferenceMmIdeal.nD Cert.ReferenceMmIdeal.τ).loc Cert.ReferenceMmIdeal.main_arg1)
            = m ((c.tc : Thread Cert.ReferenceMmIdeal.nD Cert.ReferenceMmIdeal.τ).loc Cert.ReferenceMmIdeal.main_arg1))
        ∧ r.2.sem = fun _ => 0) :=
  (θ_run Cert.ReferenceMmIdeal.defs _ _).mono
    (fun r h => ⟨fun c => (h c).2, Idealize.ShloMosaic.sem_eq_zero_of_no_sems (by decide) r.2⟩)
    (Cert.ReferenceMmIdeal.Value.run (F := Ideal) m ρ)

/-- The reference of `MmGrad` runs, leaves its arguments unchanged and every semaphore at zero, having none. -/
theorem frameMmGradRef (m : (ℓ : Loc Cert.ReferenceMmGradIdeal.nD Cert.ReferenceMmGradIdeal.τ Cert.ReferenceMmGradIdeal.sig) → Buf (Elt Ideal) ℓ)
    (ρ : Dev Cert.ReferenceMmGradIdeal.nD → PrngReg) :
    θ_run (Cert.ReferenceMmGradIdeal.defs (F := Ideal))
      (onTc (τ := Cert.ReferenceMmGradIdeal.τ) (Cert.ReferenceMmGradIdeal.main (F := Ideal))) ⟨m, fun _ => 0, ρ⟩ (fun r =>
        (∀ c : Dev Cert.ReferenceMmGradIdeal.nD, r.2.mem ((c.tc : Thread Cert.ReferenceMmGradIdeal.nD Cert.ReferenceMmGradIdeal.τ).loc Cert.ReferenceMmGradIdeal.main_arg0)
            = m ((c.tc : Thread Cert.ReferenceMmGradIdeal.nD Cert.ReferenceMmGradIdeal.τ).loc Cert.ReferenceMmGradIdeal.main_arg0)
          ∧ r.2.mem ((c.tc : Thread Cert.ReferenceMmGradIdeal.nD Cert.ReferenceMmGradIdeal.τ).loc Cert.ReferenceMmGradIdeal.main_arg1)
            = m ((c.tc : Thread Cert.ReferenceMmGradIdeal.nD Cert.ReferenceMmGradIdeal.τ).loc Cert.ReferenceMmGradIdeal.main_arg1)
          ∧ r.2.mem ((c.tc : Thread Cert.ReferenceMmGradIdeal.nD Cert.ReferenceMmGradIdeal.τ).loc Cert.ReferenceMmGradIdeal.main_arg2)
            = m ((c.tc : Thread Cert.ReferenceMmGradIdeal.nD Cert.ReferenceMmGradIdeal.τ).loc Cert.ReferenceMmGradIdeal.main_arg2))
        ∧ r.2.sem = fun _ => 0) :=
  (θ_run Cert.ReferenceMmGradIdeal.defs _ _).mono
    (fun r h => ⟨fun c => (h c).2, Idealize.ShloMosaic.sem_eq_zero_of_no_sems (by decide) r.2⟩)
    (Cert.ReferenceMmGradIdeal.Value.run (F := Ideal) m ρ)

/-- The reference of `Adamw` runs, leaves its arguments unchanged and every semaphore at zero, having none. -/
theorem frameAdamwRef (m : (ℓ : Loc Cert.ReferenceAdamwIdeal.nD Cert.ReferenceAdamwIdeal.τ Cert.ReferenceAdamwIdeal.sig) → Buf (Elt Ideal) ℓ)
    (ρ : Dev Cert.ReferenceAdamwIdeal.nD → PrngReg) :
    θ_run (Cert.ReferenceAdamwIdeal.defs (F := Ideal))
      (onTc (τ := Cert.ReferenceAdamwIdeal.τ) (Cert.ReferenceAdamwIdeal.main (F := Ideal))) ⟨m, fun _ => 0, ρ⟩ (fun r =>
        (∀ c : Dev Cert.ReferenceAdamwIdeal.nD, r.2.mem ((c.tc : Thread Cert.ReferenceAdamwIdeal.nD Cert.ReferenceAdamwIdeal.τ).loc Cert.ReferenceAdamwIdeal.main_arg0)
            = m ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1)
            = m ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2)
            = m ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3)
            = m ((c.tc : Thread Cert.ReferenceAdamwIdeal.nD Cert.ReferenceAdamwIdeal.τ).loc Cert.ReferenceAdamwIdeal.main_arg3))
        ∧ r.2.sem = fun _ => 0) :=
  (θ_run Cert.ReferenceAdamwIdeal.defs _ _).mono
    (fun r h => ⟨fun c => (h c).2.2.2, Idealize.ShloMosaic.sem_eq_zero_of_no_sems (by decide) r.2⟩)
    (Cert.ReferenceAdamwIdeal.Value.run (F := Ideal) m ρ)

/-- The reference of `RelTotal` runs, leaves its arguments unchanged and every semaphore at zero, having none. -/
theorem frameRelTotalRef (m : (ℓ : Loc Cert.ReferenceRelTotalIdeal.nD Cert.ReferenceRelTotalIdeal.τ Cert.ReferenceRelTotalIdeal.sig) → Buf (Elt Ideal) ℓ)
    (ρ : Dev Cert.ReferenceRelTotalIdeal.nD → PrngReg) :
    θ_run (Cert.ReferenceRelTotalIdeal.defs (F := Ideal))
      (onTc (τ := Cert.ReferenceRelTotalIdeal.τ) (Cert.ReferenceRelTotalIdeal.main (F := Ideal))) ⟨m, fun _ => 0, ρ⟩ (fun r =>
        (∀ c : Dev Cert.ReferenceRelTotalIdeal.nD, r.2.mem ((c.tc : Thread Cert.ReferenceRelTotalIdeal.nD Cert.ReferenceRelTotalIdeal.τ).loc Cert.ReferenceRelTotalIdeal.main_arg0)
            = m ((c.tc : Thread Cert.ReferenceRelTotalIdeal.nD Cert.ReferenceRelTotalIdeal.τ).loc Cert.ReferenceRelTotalIdeal.main_arg0)
          ∧ r.2.mem ((c.tc : Thread Cert.ReferenceRelTotalIdeal.nD Cert.ReferenceRelTotalIdeal.τ).loc Cert.ReferenceRelTotalIdeal.main_arg1)
            = m ((c.tc : Thread Cert.ReferenceRelTotalIdeal.nD Cert.ReferenceRelTotalIdeal.τ).loc Cert.ReferenceRelTotalIdeal.main_arg1)
          ∧ r.2.mem ((c.tc : Thread Cert.ReferenceRelTotalIdeal.nD Cert.ReferenceRelTotalIdeal.τ).loc Cert.ReferenceRelTotalIdeal.main_arg2)
            = m ((c.tc : Thread Cert.ReferenceRelTotalIdeal.nD Cert.ReferenceRelTotalIdeal.τ).loc Cert.ReferenceRelTotalIdeal.main_arg2)
          ∧ r.2.mem ((c.tc : Thread Cert.ReferenceRelTotalIdeal.nD Cert.ReferenceRelTotalIdeal.τ).loc Cert.ReferenceRelTotalIdeal.main_arg3)
            = m ((c.tc : Thread Cert.ReferenceRelTotalIdeal.nD Cert.ReferenceRelTotalIdeal.τ).loc Cert.ReferenceRelTotalIdeal.main_arg3)
          ∧ r.2.mem ((c.tc : Thread Cert.ReferenceRelTotalIdeal.nD Cert.ReferenceRelTotalIdeal.τ).loc Cert.ReferenceRelTotalIdeal.main_arg4)
            = m ((c.tc : Thread Cert.ReferenceRelTotalIdeal.nD Cert.ReferenceRelTotalIdeal.τ).loc Cert.ReferenceRelTotalIdeal.main_arg4)
          ∧ r.2.mem ((c.tc : Thread Cert.ReferenceRelTotalIdeal.nD Cert.ReferenceRelTotalIdeal.τ).loc Cert.ReferenceRelTotalIdeal.main_arg5)
            = m ((c.tc : Thread Cert.ReferenceRelTotalIdeal.nD Cert.ReferenceRelTotalIdeal.τ).loc Cert.ReferenceRelTotalIdeal.main_arg5))
        ∧ r.2.sem = fun _ => 0) :=
  (θ_run Cert.ReferenceRelTotalIdeal.defs _ _).mono
    (fun r h => ⟨fun c => (h c).2, Idealize.ShloMosaic.sem_eq_zero_of_no_sems (by decide) r.2⟩)
    (Cert.ReferenceRelTotalIdeal.Value.run (F := Ideal) m ρ)

/-- The reference of `AddHalf` runs, leaves its arguments unchanged and every semaphore at zero, having none. -/
theorem frameAddHalfRef (m : (ℓ : Loc Cert.ReferenceAddHalfIdeal.nD Cert.ReferenceAddHalfIdeal.τ Cert.ReferenceAddHalfIdeal.sig) → Buf (Elt Ideal) ℓ)
    (ρ : Dev Cert.ReferenceAddHalfIdeal.nD → PrngReg) :
    θ_run (Cert.ReferenceAddHalfIdeal.defs (F := Ideal))
      (onTc (τ := Cert.ReferenceAddHalfIdeal.τ) (Cert.ReferenceAddHalfIdeal.main (F := Ideal))) ⟨m, fun _ => 0, ρ⟩ (fun r =>
        (∀ c : Dev Cert.ReferenceAddHalfIdeal.nD, r.2.mem ((c.tc : Thread Cert.ReferenceAddHalfIdeal.nD Cert.ReferenceAddHalfIdeal.τ).loc Cert.ReferenceAddHalfIdeal.main_arg0)
            = m ((c.tc : Thread Cert.ReferenceAddHalfIdeal.nD Cert.ReferenceAddHalfIdeal.τ).loc Cert.ReferenceAddHalfIdeal.main_arg0)
          ∧ r.2.mem ((c.tc : Thread Cert.ReferenceAddHalfIdeal.nD Cert.ReferenceAddHalfIdeal.τ).loc Cert.ReferenceAddHalfIdeal.main_arg1)
            = m ((c.tc : Thread Cert.ReferenceAddHalfIdeal.nD Cert.ReferenceAddHalfIdeal.τ).loc Cert.ReferenceAddHalfIdeal.main_arg1))
        ∧ r.2.sem = fun _ => 0) :=
  (θ_run Cert.ReferenceAddHalfIdeal.defs _ _).mono
    (fun r h => ⟨fun c => (h c).2, Idealize.ShloMosaic.sem_eq_zero_of_no_sems (by decide) r.2⟩)
    (Cert.ReferenceAddHalfIdeal.Value.run (F := Ideal) m ρ)

/-- The reference of `SumChips` runs, leaves its arguments unchanged and every semaphore at zero, having none. -/
theorem frameSumChipsRef (m : (ℓ : Loc Cert.ReferenceSumChipsIdeal.nD Cert.ReferenceSumChipsIdeal.τ Cert.ReferenceSumChipsIdeal.sig) → Buf (Elt Ideal) ℓ)
    (ρ : Dev Cert.ReferenceSumChipsIdeal.nD → PrngReg) :
    θ_run (Cert.ReferenceSumChipsIdeal.defs (F := Ideal))
      (onTc (τ := Cert.ReferenceSumChipsIdeal.τ) (Cert.ReferenceSumChipsIdeal.main (F := Ideal))) ⟨m, fun _ => 0, ρ⟩ (fun r =>
        (∀ c : Dev Cert.ReferenceSumChipsIdeal.nD, r.2.mem ((c.tc : Thread Cert.ReferenceSumChipsIdeal.nD Cert.ReferenceSumChipsIdeal.τ).loc Cert.ReferenceSumChipsIdeal.main_arg0)
            = m ((c.tc : Thread Cert.ReferenceSumChipsIdeal.nD Cert.ReferenceSumChipsIdeal.τ).loc Cert.ReferenceSumChipsIdeal.main_arg0)
          ∧ r.2.mem ((c.tc : Thread Cert.ReferenceSumChipsIdeal.nD Cert.ReferenceSumChipsIdeal.τ).loc Cert.ReferenceSumChipsIdeal.main_arg1)
            = m ((c.tc : Thread Cert.ReferenceSumChipsIdeal.nD Cert.ReferenceSumChipsIdeal.τ).loc Cert.ReferenceSumChipsIdeal.main_arg1)
          ∧ r.2.mem ((c.tc : Thread Cert.ReferenceSumChipsIdeal.nD Cert.ReferenceSumChipsIdeal.τ).loc Cert.ReferenceSumChipsIdeal.main_arg2)
            = m ((c.tc : Thread Cert.ReferenceSumChipsIdeal.nD Cert.ReferenceSumChipsIdeal.τ).loc Cert.ReferenceSumChipsIdeal.main_arg2))
        ∧ r.2.sem = fun _ => 0) :=
  (θ_run Cert.ReferenceSumChipsIdeal.defs _ _).mono
    (fun r h => ⟨fun c => (h c).2, Idealize.ShloMosaic.sem_eq_zero_of_no_sems (by decide) r.2⟩)
    (Cert.ReferenceSumChipsIdeal.Value.run (F := Ideal) m ρ)

/-- Every claim of this directory. -/
theorem claim : Cert.Claim :=
  ⟨Cert.KernelConvLn.Gen.facts, Cert.KernelConvLnIdeal.Gen.facts, Cert.ReferenceConvLnIdeal.Gen.facts, Cert.KernelMemKv.Gen.facts, Cert.KernelMemKvIdeal.Gen.facts, Cert.ReferenceMemKvIdeal.Gen.facts, Cert.KernelLoss.Gen.facts, Cert.KernelLossIdeal.Gen.facts, Cert.ReferenceLossIdeal.Gen.facts, Cert.KernelFfn.Gen.facts, Cert.KernelFfnIdeal.Gen.facts, Cert.ReferenceFfnIdeal.Gen.facts, Cert.KernelFfnIn.Gen.facts, Cert.KernelFfnInIdeal.Gen.facts, Cert.ReferenceFfnInIdeal.Gen.facts, Cert.KernelMixIn.Gen.facts, Cert.KernelMixInIdeal.Gen.facts, Cert.ReferenceMixInIdeal.Gen.facts, Cert.KernelMemAtt.Gen.facts, Cert.KernelMemAttIdeal.Gen.facts, Cert.ReferenceMemAttIdeal.Gen.facts, Cert.KernelMemKvFwd.Gen.facts, Cert.KernelMemKvFwdIdeal.Gen.facts, Cert.ReferenceMemKvFwdIdeal.Gen.facts, Cert.KernelFfnFwd.Gen.facts, Cert.KernelFfnFwdIdeal.Gen.facts, Cert.ReferenceFfnFwdIdeal.Gen.facts, Cert.KernelMemAttFwd.Gen.facts, Cert.KernelMemAttFwdIdeal.Gen.facts, Cert.ReferenceMemAttFwdIdeal.Gen.facts, Cert.KernelMergeFwd.Gen.facts, Cert.KernelMergeFwdIdeal.Gen.facts, Cert.ReferenceMergeFwdIdeal.Gen.facts, Cert.KernelNorm.Gen.facts, Cert.KernelNormIdeal.Gen.facts, Cert.ReferenceNormIdeal.Gen.facts, Cert.KernelConvDw.Gen.facts, Cert.KernelConvDwIdeal.Gen.facts, Cert.ReferenceConvDwIdeal.Gen.facts, Cert.KernelConv.Gen.facts, Cert.KernelConvIdeal.Gen.facts, Cert.ReferenceConvIdeal.Gen.facts, Cert.KernelAttPrep.Gen.facts, Cert.KernelAttPrepIdeal.Gen.facts, Cert.ReferenceAttPrepIdeal.Gen.facts, Cert.KernelAttCombine.Gen.facts, Cert.KernelAttCombineIdeal.Gen.facts, Cert.ReferenceAttCombineIdeal.Gen.facts, Cert.KernelMm.Gen.facts, Cert.KernelMmIdeal.Gen.facts, Cert.ReferenceMmIdeal.Gen.facts, Cert.KernelMmGrad.Gen.facts, Cert.KernelMmGradIdeal.Gen.facts, Cert.ReferenceMmGradIdeal.Gen.facts, Cert.KernelAdamw.Gen.facts, Cert.KernelAdamwIdeal.Gen.facts, Cert.ReferenceAdamwIdeal.Gen.facts, Cert.KernelRelTotal.Gen.facts, Cert.KernelRelTotalIdeal.Gen.facts, Cert.ReferenceRelTotalIdeal.Gen.facts, Cert.KernelAddHalf.Gen.facts, Cert.KernelAddHalfIdeal.Gen.facts, Cert.ReferenceAddHalfIdeal.Gen.facts, Cert.KernelSumChips.Gen.facts, Cert.KernelSumChipsIdeal.Gen.facts, Cert.ReferenceSumChipsIdeal.Gen.facts, Cert.Pre_finite_conv_ln.Gen.facts, Cert.Pre_finite_ffn.Gen.facts, Cert.Pre_finite_ffn_in.Gen.facts, Cert.Pre_finite_mix_in.Gen.facts, Cert.Pre_finite_mem_att.Gen.facts,
    fun m ρ _ => Cert.KernelConvLn.Gen.frame m ρ,
    fun m ρ _ => Cert.KernelConvLnIdeal.Gen.frame m ρ,
    fun m ρ _ => Cert.KernelConvLnIdeal.Gen.frame m ρ,
    fun m ρ _ => frameConvLnRef m ρ,
    fun m ρ _ => frameConvLnRef m ρ,
    fun m ρ _ => Cert.KernelMemKv.Gen.frame m ρ,
    fun m ρ _ => Cert.KernelMemKvIdeal.Gen.frame m ρ,
    fun m ρ _ => frameMemKvRef m ρ,
    fun m ρ _ => Cert.KernelLoss.Gen.frame m ρ,
    fun m ρ _ => Cert.KernelLossIdeal.Gen.frame m ρ,
    fun m ρ _ => frameLossRef m ρ,
    fun m ρ _ => Cert.KernelFfn.Gen.frame m ρ,
    fun m ρ _ => Cert.KernelFfnIdeal.Gen.frame m ρ,
    fun m ρ _ => Cert.KernelFfnIdeal.Gen.frame m ρ,
    fun m ρ _ => frameFfnRef m ρ,
    fun m ρ _ => frameFfnRef m ρ,
    fun m ρ _ => Cert.KernelFfnIn.Gen.frame m ρ,
    fun m ρ _ => Cert.KernelFfnInIdeal.Gen.frame m ρ,
    fun m ρ _ => Cert.KernelFfnInIdeal.Gen.frame m ρ,
    fun m ρ _ => frameFfnInRef m ρ,
    fun m ρ _ => frameFfnInRef m ρ,
    fun m ρ _ => Cert.KernelMixIn.Gen.frame m ρ,
    fun m ρ _ => Cert.KernelMixInIdeal.Gen.frame m ρ,
    fun m ρ _ => Cert.KernelMixInIdeal.Gen.frame m ρ,
    fun m ρ _ => frameMixInRef m ρ,
    fun m ρ _ => frameMixInRef m ρ,
    fun m ρ _ => Cert.KernelMemAtt.Gen.frame m ρ,
    fun m ρ _ => Cert.KernelMemAttIdeal.Gen.frame m ρ,
    fun m ρ _ => Cert.KernelMemAttIdeal.Gen.frame m ρ,
    fun m ρ _ => frameMemAttRef m ρ,
    fun m ρ _ => frameMemAttRef m ρ,
    fun m ρ _ => Cert.KernelMemKvFwd.Gen.frame m ρ,
    fun m ρ _ => Cert.KernelMemKvFwdIdeal.Gen.frame m ρ,
    fun m ρ _ => frameMemKvFwdRef m ρ,
    fun m ρ _ => Cert.KernelFfnFwd.Gen.frame m ρ,
    fun m ρ _ => Cert.KernelFfnFwdIdeal.Gen.frame m ρ,
    fun m ρ _ => frameFfnFwdRef m ρ,
    fun m ρ _ => Cert.KernelMemAttFwd.Gen.frame m ρ,
    fun m ρ _ => Cert.KernelMemAttFwdIdeal.Gen.frame m ρ,
    fun m ρ _ => frameMemAttFwdRef m ρ,
    fun m ρ _ => Cert.KernelMergeFwd.Gen.frame m ρ,
    fun m ρ _ => Cert.KernelMergeFwdIdeal.Gen.frame m ρ,
    fun m ρ _ => frameMergeFwdRef m ρ,
    fun m ρ _ => Cert.KernelNorm.Gen.frame m ρ,
    fun m ρ _ => Cert.KernelNormIdeal.Gen.frame m ρ,
    fun m ρ _ => frameNormRef m ρ,
    fun m ρ _ => Cert.KernelConvDw.Gen.frame m ρ,
    fun m ρ _ => Cert.KernelConvDwIdeal.Gen.frame m ρ,
    fun m ρ _ => frameConvDwRef m ρ,
    fun m ρ _ => Cert.KernelConv.Gen.frame m ρ,
    fun m ρ _ => Cert.KernelConvIdeal.Gen.frame m ρ,
    fun m ρ _ => frameConvRef m ρ,
    fun m ρ _ => Cert.KernelAttPrep.Gen.frame m ρ,
    fun m ρ _ => Cert.KernelAttPrepIdeal.Gen.frame m ρ,
    fun m ρ _ => frameAttPrepRef m ρ,
    fun m ρ _ => Cert.KernelAttCombine.Gen.frame m ρ,
    fun m ρ _ => Cert.KernelAttCombineIdeal.Gen.frame m ρ,
    fun m ρ _ => frameAttCombineRef m ρ,
    fun m ρ _ => Cert.KernelMm.Gen.frame m ρ,
    fun m ρ _ => Cert.KernelMmIdeal.Gen.frame m ρ,
    fun m ρ _ => frameMmRef m ρ,
    fun m ρ _ => Cert.KernelMmGrad.Gen.frame m ρ,
    fun m ρ _ => Cert.KernelMmGradIdeal.Gen.frame m ρ,
    fun m ρ _ => frameMmGradRef m ρ,
    fun m ρ _ => Cert.KernelAdamw.Gen.frame m ρ,
    fun m ρ _ => Cert.KernelAdamwIdeal.Gen.frame m ρ,
    fun m ρ _ => frameAdamwRef m ρ,
    fun m ρ _ => Cert.KernelRelTotal.Gen.frame m ρ,
    fun m ρ _ => Cert.KernelRelTotalIdeal.Gen.frame m ρ,
    fun m ρ _ => frameRelTotalRef m ρ,
    fun m ρ _ => Cert.KernelAddHalf.Gen.frame m ρ (Cert.AddHalf.okBits m),
    fun m ρ _ => Cert.KernelAddHalfIdeal.Gen.frame m ρ (Cert.AddHalf.ok m),
    fun m ρ _ => frameAddHalfRef m ρ,
    fun m ρ _ => Cert.KernelSumChips.Gen.frame m ρ (Cert.SumChips.okBits m),
    fun m ρ _ => Cert.KernelSumChipsIdeal.Gen.frame m ρ (Cert.SumChips.ok m),
    fun m ρ _ => frameSumChipsRef m ρ,
    trivial,
    Cert.ConvLn.algebraic,
    trivial,
    Cert.MemKv.algebraic,
    trivial,
    Cert.Loss.algebraic,
    trivial,
    Cert.Ffn.algebraic,
    trivial,
    Cert.FfnIn.algebraic,
    trivial,
    Cert.MixIn.algebraic,
    trivial,
    Cert.MemAtt.algebraic,
    trivial,
    Cert.MemKvFwd.algebraic,
    trivial,
    Cert.FfnFwd.algebraic,
    trivial,
    Cert.MemAttFwd.algebraic,
    trivial,
    Cert.MergeFwd.algebraic,
    trivial,
    Cert.Norm.algebraic,
    trivial,
    trivial,
    trivial,
    Cert.AttPrep.algebraic,
    trivial,
    Cert.AttCombine.algebraic,
    trivial,
    Cert.Mm.algebraic,
    trivial,
    Cert.MmGrad.algebraic,
    trivial,
    Cert.Adamw.algebraic,
    trivial,
    Cert.RelTotal.algebraic,
    trivial,
    Cert.AddHalf.algebraic,
    trivial,
    Cert.SumChips.algebraic⟩

end Cert.Proof

end
